-- ==== Defs.lean ====
def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_finite_sb [hPre_finite_sb : Cert.Pre_finite_sb.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_finite_sb.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1)) (m ((c.tc : Thread Cert.SbBwdIdeal.nD Cert.SbBwdIdeal.τ).loc Cert.SbBwdIdeal.main_arg2)) (m ((c.tc : Thread Cert.SbBwdIdeal.nD Cert.SbBwdIdeal.τ).loc Cert.SbBwdIdeal.main_arg3))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_sf [hPre_finite_sf : Cert.Pre_finite_sf.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_sf.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_sf [hPre_finite_sf : Cert.Pre_finite_sf.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_sf.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1)) (m ((c.tc : Thread Cert.SbFwdRefIdeal.nD Cert.SbFwdRefIdeal.τ).loc Cert.SbFwdRefIdeal.main_arg2))) = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_HeadK (m : (ℓ : Loc Cert.HeadK.nD Cert.HeadK.τ Cert.HeadK.sig) → Buf (Elt Bits) ℓ) : Prop :=
  True

def Pre_HeadKIdeal (m : (ℓ : Loc Cert.HeadKIdeal.nD Cert.HeadKIdeal.τ Cert.HeadKIdeal.sig) → Buf (Elt Ideal) ℓ) : Prop :=
  True

def Pre_HeadKRefIdeal (m : (ℓ : Loc Cert.HeadKRefIdeal.nD Cert.HeadKRefIdeal.τ Cert.HeadKRefIdeal.sig) → Buf (Elt Ideal) ℓ) : Prop :=
  True

def Pre_HeadQ (m : (ℓ : Loc Cert.HeadQ.nD Cert.HeadQ.τ Cert.HeadQ.sig) → Buf (Elt Bits) ℓ) : Prop :=
  True

def Pre_HeadQIdeal (m : (ℓ : Loc Cert.HeadQIdeal.nD Cert.HeadQIdeal.τ Cert.HeadQIdeal.sig) → Buf (Elt Ideal) ℓ) : Prop :=
  True

def Pre_HeadQRefIdeal (m : (ℓ : Loc Cert.HeadQRefIdeal.nD Cert.HeadQRefIdeal.τ Cert.HeadQRefIdeal.sig) → Buf (Elt Ideal) ℓ) : Prop :=
  True

def Pre_GatesBwd (m : (ℓ : Loc Cert.GatesBwd.nD Cert.GatesBwd.τ Cert.GatesBwd.sig) → Buf (Elt Bits) ℓ) : Prop :=
  True

def Pre_GatesBwdIdeal (m : (ℓ : Loc Cert.GatesBwdIdeal.nD Cert.GatesBwdIdeal.τ Cert.GatesBwdIdeal.sig) → Buf (Elt Ideal) ℓ) : Prop :=
  True

def Pre_GatesBwdIdeal_defined_gates [hPre_defined_gates : Cert.Pre_defined_gates.Facts] (m : (ℓ : Loc Cert.GatesBwdIdeal.nD Cert.GatesBwdIdeal.τ Cert.GatesBwdIdeal.sig) → Buf (Elt Ideal) ℓ) : Prop :=
  ∀ c : Dev Cert.GatesBwdIdeal.nD,
    (Cert.Pre_defined_gates.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_defined_gates [hPre_defined_gates : Cert.Pre_defined_gates.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_defined_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_AbDx (m : (ℓ : Loc Cert.AbDx.nD Cert.AbDx.τ Cert.AbDx.sig) → Buf (Elt Bits) ℓ) : Prop :=
  True

def Pre_AbDxIdeal (m : (ℓ : Loc Cert.AbDxIdeal.nD Cert.AbDxIdeal.τ Cert.AbDxIdeal.sig) → Buf (Elt Ideal) ℓ) : Prop :=
  True

def Pre_AbDxRefIdeal (m : (ℓ : Loc Cert.AbDxRefIdeal.nD Cert.AbDxRefIdeal.τ Cert.AbDxRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_HeadKFwd (m : (ℓ : Loc Cert.HeadKFwd.nD Cert.HeadKFwd.τ Cert.HeadKFwd.sig) → Buf (Elt Bits) ℓ) : Prop :=
  True

def Pre_HeadKFwdIdeal (m : (ℓ : Loc Cert.HeadKFwdIdeal.nD Cert.HeadKFwdIdeal.τ Cert.HeadKFwdIdeal.sig) → Buf (Elt Ideal) ℓ) : Prop :=
  True

def Pre_HeadKFwdRefIdeal (m : (ℓ : Loc Cert.HeadKFwdRefIdeal.nD Cert.HeadKFwdRefIdeal.τ Cert.HeadKFwdRefIdeal.sig) → Buf (Elt Ideal) ℓ) : Prop :=
  True

def Pre_HeadQFwd (m : (ℓ : Loc Cert.HeadQFwd.nD Cert.HeadQFwd.τ Cert.HeadQFwd.sig) → Buf (Elt Bits) ℓ) : Prop :=
  True

def Pre_HeadQFwdIdeal (m : (ℓ : Loc Cert.HeadQFwdIdeal.nD Cert.HeadQFwdIdeal.τ Cert.HeadQFwdIdeal.sig) → Buf (Elt Ideal) ℓ) : Prop :=
  True

def Pre_HeadQFwdRefIdeal (m : (ℓ : Loc Cert.HeadQFwdRefIdeal.nD Cert.HeadQFwdRefIdeal.τ Cert.HeadQFwdRefIdeal.sig) → Buf (Elt Ideal) ℓ) : Prop :=
  True

def Pre_GateNormFwd (m : (ℓ : Loc Cert.GateNormFwd.nD Cert.GateNormFwd.τ Cert.GateNormFwd.sig) → Buf (Elt Bits) ℓ) : Prop :=
  True

def Pre_GateNormFwdIdeal (m : (ℓ : Loc Cert.GateNormFwdIdeal.nD Cert.GateNormFwdIdeal.τ Cert.GateNormFwdIdeal.sig) → Buf (Elt Ideal) ℓ) : Prop :=
  True

def Pre_GateNormFwdRefIdeal (m : (ℓ : Loc Cert.GateNormFwdRefIdeal.nD Cert.GateNormFwdRefIdeal.τ Cert.GateNormFwdRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_OutRms (m : (ℓ : Loc Cert.OutRms.nD Cert.OutRms.τ Cert.OutRms.sig) → Buf (Elt Bits) ℓ) : Prop :=
  True

def Pre_OutRmsIdeal (m : (ℓ : Loc Cert.OutRmsIdeal.nD Cert.OutRmsIdeal.τ Cert.OutRmsIdeal.sig) → Buf (Elt Ideal) ℓ) : Prop :=
  True

def Pre_OutRmsRefIdeal (m : (ℓ : Loc Cert.OutRmsRefIdeal.nD Cert.OutRmsRefIdeal.τ Cert.OutRmsRefIdeal.sig) → Buf (Elt Ideal) ℓ) : Prop :=
  True

def Pre_FfnOutRms (m : (ℓ : Loc Cert.FfnOutRms.nD Cert.FfnOutRms.τ Cert.FfnOutRms.sig) → Buf (Elt Bits) ℓ) : Prop :=
  True

def Pre_FfnOutRmsIdeal (m : (ℓ : Loc Cert.FfnOutRmsIdeal.nD Cert.FfnOutRmsIdeal.τ Cert.FfnOutRmsIdeal.sig) → Buf (Elt Ideal) ℓ) : Prop :=
  True

def Pre_FfnOutRmsRefIdeal (m : (ℓ : Loc Cert.FfnOutRmsRefIdeal.nD Cert.FfnOutRmsRefIdeal.τ Cert.FfnOutRmsRefIdeal.sig) → Buf (Elt Ideal) ℓ) : Prop :=
  True

def Pre_PleGateRms (m : (ℓ : Loc Cert.PleGateRms.nD Cert.PleGateRms.τ Cert.PleGateRms.sig) → Buf (Elt Bits) ℓ) : Prop :=
  True

def Pre_PleGateRmsIdeal (m : (ℓ : Loc Cert.PleGateRmsIdeal.nD Cert.PleGateRmsIdeal.τ Cert.PleGateRmsIdeal.sig) → Buf (Elt Ideal) ℓ) : Prop :=
  True

def Pre_PleGateRmsRefIdeal (m : (ℓ : Loc Cert.PleGateRmsRefIdeal.nD Cert.PleGateRmsRefIdeal.τ Cert.PleGateRmsRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_GdnFwd (m : (ℓ : Loc Cert.GdnFwd.nD Cert.GdnFwd.τ Cert.GdnFwd.sig) → Buf (Elt Bits) ℓ) : Prop :=
  True

def Pre_GdnFwdIdeal (m : (ℓ : Loc Cert.GdnFwdIdeal.nD Cert.GdnFwdIdeal.τ Cert.GdnFwdIdeal.sig) → Buf (Elt Ideal) ℓ) : Prop :=
  True

def Pre_MmDw (m : (ℓ : Loc Cert.MmDw.nD Cert.MmDw.τ Cert.MmDw.sig) → Buf (Elt Bits) ℓ) : Prop :=
  True

def Pre_MmDwIdeal (m : (ℓ : Loc Cert.MmDwIdeal.nD Cert.MmDwIdeal.τ Cert.MmDwIdeal.sig) → Buf (Elt Ideal) ℓ) : Prop :=
  True

def Pre_MmDwRefIdeal (m : (ℓ : Loc Cert.MmDwRefIdeal.nD Cert.MmDwRefIdeal.τ Cert.MmDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumDv (m : (ℓ : Loc Cert.SumDv.nD Cert.SumDv.τ Cert.SumDv.sig) → Buf (Elt Bits) ℓ) : Prop :=
  True

def Pre_SumDvIdeal (m : (ℓ : Loc Cert.SumDvIdeal.nD Cert.SumDvIdeal.τ Cert.SumDvIdeal.sig) → Buf (Elt Ideal) ℓ) : Prop :=
  True

def Pre_SumDvRefIdeal (m : (ℓ : Loc Cert.SumDvRefIdeal.nD Cert.SumDvRefIdeal.τ Cert.SumDvRefIdeal.sig) → Buf (Elt Ideal) ℓ) : Prop :=
  True

def Pre_ChipSum [hPre_on_mesh_cs : Cert.Pre_on_mesh_cs.Facts] (m : (ℓ : Loc Cert.ChipSum.nD Cert.ChipSum.τ Cert.ChipSum.sig) → Buf (Elt Bits) ℓ) : Prop :=
  ∀ c : Dev Cert.ChipSum.nD,
    (Cert.Pre_on_mesh_cs.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2)) (m ((c.tc : Thread Cert.ChipSum.nD Cert.ChipSum.τ).loc Cert.ChipSum.main_arg3))) = (fun _ => 1#1)

def Pre_ChipSumIdeal [hPre_on_mesh_cs : Cert.Pre_on_mesh_cs.Facts] (m : (ℓ : Loc Cert.ChipSumIdeal.nD Cert.ChipSumIdeal.τ Cert.ChipSumIdeal.sig) → Buf (Elt Ideal) ℓ) : Prop :=
  ∀ c : Dev Cert.ChipSumIdeal.nD,
    (Cert.Pre_on_mesh_cs.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2)) (m ((c.tc : Thread Cert.ChipSumIdeal.nD Cert.ChipSumIdeal.τ).loc Cert.ChipSumIdeal.main_arg3))) = (fun _ => 1#1)

def Pre_ChipSumRefIdeal [hPre_on_mesh_cs : Cert.Pre_on_mesh_cs.Facts] (m : (ℓ : Loc Cert.ChipSumRefIdeal.nD Cert.ChipSumRefIdeal.τ Cert.ChipSumRefIdeal.sig) → Buf (Elt Ideal) ℓ) : Prop :=
  ∀ c : Dev Cert.ChipSumRefIdeal.nD,
    (Cert.Pre_on_mesh_cs.fn (F := Ideal) (m ((c.tc : Thread Cert.ChipSumRefIdeal.nD Cert.ChipSumRefIdeal.τ).loc Cert.ChipSumRefIdeal.main_arg0)) (m ((c.tc : Thread Cert.ChipSumRefIdeal.nD Cert.ChipSumRefIdeal.τ).loc Cert.ChipSumRefIdeal.main_arg1)) (m ((c.tc : Thread Cert.ChipSumRefIdeal.nD Cert.ChipSumRefIdeal.τ).loc Cert.ChipSumRefIdeal.main_arg2)) (m ((c.tc : Thread Cert.ChipSumRefIdeal.nD Cert.ChipSumRefIdeal.τ).loc Cert.ChipSumRefIdeal.main_arg3))) = (fun _ => 1#1)

def Pre_AddSel [hPre_on_mesh : Cert.Pre_on_mesh.Facts] (m : (ℓ : Loc Cert.AddSel.nD Cert.AddSel.τ Cert.AddSel.sig) → Buf (Elt Bits) ℓ) : Prop :=
  ∀ c : Dev Cert.AddSel.nD,
    (Cert.Pre_on_mesh.fn (F := Bits) (m ((c.tc : Thread Cert.AddSel.nD Cert.AddSel.τ).loc Cert.AddSel.main_arg0)) (m ((c.tc : Thread Cert.AddSel.nD Cert.AddSel.τ).loc Cert.AddSel.main_arg1)) (m ((c.tc : Thread Cert.AddSel.nD Cert.AddSel.τ).loc Cert.AddSel.main_arg2))) = (fun _ => 1#1)

def Pre_AddSelIdeal [hPre_on_mesh : Cert.Pre_on_mesh.Facts] (m : (ℓ : Loc Cert.AddSelIdeal.nD Cert.AddSelIdeal.τ Cert.AddSelIdeal.sig) → Buf (Elt Ideal) ℓ) : Prop :=
  ∀ c : Dev Cert.AddSelIdeal.nD,
    (Cert.Pre_on_mesh.fn (F := Ideal) (m ((c.tc : Thread Cert.AddSelIdeal.nD Cert.AddSelIdeal.τ).loc Cert.AddSelIdeal.main_arg0)) (m ((c.tc : Thread Cert.AddSelIdeal.nD Cert.AddSelIdeal.τ).loc Cert.AddSelIdeal.main_arg1)) (m ((c.tc : Thread Cert.AddSelIdeal.nD Cert.AddSelIdeal.τ).loc Cert.AddSelIdeal.main_arg2))) = (fun _ => 1#1)

def Pre_AddSelRefIdeal [hPre_on_mesh : Cert.Pre_on_mesh.Facts] (m : (ℓ : Loc Cert.AddSelRefIdeal.nD Cert.AddSelRefIdeal.τ Cert.AddSelRefIdeal.sig) → Buf (Elt Ideal) ℓ) : Prop :=
  ∀ c : Dev Cert.AddSelRefIdeal.nD,
    (Cert.Pre_on_mesh.fn (F := Ideal) (m ((c.tc : Thread Cert.AddSelRefIdeal.nD Cert.AddSelRefIdeal.τ).loc Cert.AddSelRefIdeal.main_arg0)) (m ((c.tc : Thread Cert.AddSelRefIdeal.nD Cert.AddSelRefIdeal.τ).loc Cert.AddSelRefIdeal.main_arg1)) (m ((c.tc : Thread Cert.AddSelRefIdeal.nD Cert.AddSelRefIdeal.τ).loc Cert.AddSelRefIdeal.main_arg2))) = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1)
      ∧ r.2.mem ((c.tc : Thread Cert.SbBwd.nD Cert.SbBwd.τ).loc Cert.SbBwd.main_arg2) = m ((c.tc : Thread Cert.SbBwd.nD Cert.SbBwd.τ).loc Cert.SbBwd.main_arg2)
      ∧ r.2.mem ((c.tc : Thread Cert.SbBwd.nD Cert.SbBwd.τ).loc Cert.SbBwd.main_arg3) = m ((c.tc : Thread Cert.SbBwd.nD Cert.SbBwd.τ).loc Cert.SbBwd.main_arg3))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbBwdIdeal_pre_finite_sb [hSbBwdIdeal : Cert.SbBwdIdeal.Facts] [hPre_finite_sb : Cert.Pre_finite_sb.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_finite_sb m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdIdeal_pre_finite_sf [hSbFwdIdeal : Cert.SbFwdIdeal.Facts] [hPre_finite_sf : Cert.Pre_finite_sf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_sf m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_SbFwdRefIdeal_pre_finite_sf [hSbFwdRefIdeal : Cert.SbFwdRefIdeal.Facts] [hPre_finite_sf : Cert.Pre_finite_sf.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_sf m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_HeadK [hHeadK : Cert.HeadK.Facts] : Prop :=
  ∀ (m : (ℓ : Loc Cert.HeadK.nD Cert.HeadK.τ Cert.HeadK.sig) → Buf (Elt Bits) ℓ) (g : Dev Cert.HeadK.nD → PrngReg), Pre_HeadK m →
    θ_run (Cert.HeadK.defs (F := Bits)) (onTc (τ := Cert.HeadK.τ) (Cert.HeadK.main (F := Bits))) ⟨m, fun _ => 0, g⟩ (fun r => (∀ c : Dev Cert.HeadK.nD,
      r.2.mem ((c.tc : Thread Cert.HeadK.nD Cert.HeadK.τ).loc Cert.HeadK.main_arg0) = m ((c.tc : Thread Cert.HeadK.nD Cert.HeadK.τ).loc Cert.HeadK.main_arg0)
      ∧ r.2.mem ((c.tc : Thread Cert.HeadK.nD Cert.HeadK.τ).loc Cert.HeadK.main_arg1) = m ((c.tc : Thread Cert.HeadK.nD Cert.HeadK.τ).loc Cert.HeadK.main_arg1)
      ∧ r.2.mem ((c.tc : Thread Cert.HeadK.nD Cert.HeadK.τ).loc Cert.HeadK.main_arg2) = m ((c.tc : Thread Cert.HeadK.nD Cert.HeadK.τ).loc Cert.HeadK.main_arg2)
      ∧ r.2.mem ((c.tc : Thread Cert.HeadK.nD Cert.HeadK.τ).loc Cert.HeadK.main_arg3) = m ((c.tc : Thread Cert.HeadK.nD Cert.HeadK.τ).loc Cert.HeadK.main_arg3))
      ∧ r.2.sem = fun _ => 0)

def quiescent_HeadKIdeal [hHeadKIdeal : Cert.HeadKIdeal.Facts] : Prop :=
  ∀ (m : (ℓ : Loc Cert.HeadKIdeal.nD Cert.HeadKIdeal.τ Cert.HeadKIdeal.sig) → Buf (Elt Ideal) ℓ) (g : Dev Cert.HeadKIdeal.nD → PrngReg), Pre_HeadKIdeal m →
    θ_run (Cert.HeadKIdeal.defs (F := Ideal)) (onTc (τ := Cert.HeadKIdeal.τ) (Cert.HeadKIdeal.main (F := Ideal))) ⟨m, fun _ => 0, g⟩ (fun r => (∀ c : Dev Cert.HeadKIdeal.nD,
      r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
      ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
      ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
      ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3))
      ∧ r.2.sem = fun _ => 0)

def quiescent_HeadKRefIdeal [hHeadKRefIdeal : Cert.HeadKRefIdeal.Facts] : Prop :=
  ∀ (m : (ℓ : Loc Cert.HeadKRefIdeal.nD Cert.HeadKRefIdeal.τ Cert.HeadKRefIdeal.sig) → Buf (Elt Ideal) ℓ) (g : Dev Cert.HeadKRefIdeal.nD → PrngReg), Pre_HeadKRefIdeal m →
    θ_run (Cert.HeadKRefIdeal.defs (F := Ideal)) (onTc (τ := Cert.HeadKRefIdeal.τ) (Cert.HeadKRefIdeal.main (F := Ideal))) ⟨m, fun _ => 0, g⟩ (fun r => (∀ c : Dev Cert.HeadKRefIdeal.nD,
      r.2.mem ((c.tc : Thread Cert.HeadKRefIdeal.nD Cert.HeadKRefIdeal.τ).loc Cert.HeadKRefIdeal.main_arg0) = m ((c.tc : Thread Cert.HeadKRefIdeal.nD Cert.HeadKRefIdeal.τ).loc Cert.HeadKRefIdeal.main_arg0)
      ∧ r.2.mem ((c.tc : Thread Cert.HeadKRefIdeal.nD Cert.HeadKRefIdeal.τ).loc Cert.HeadKRefIdeal.main_arg1) = m ((c.tc : Thread Cert.HeadKRefIdeal.nD Cert.HeadKRefIdeal.τ).loc Cert.HeadKRefIdeal.main_arg1)
      ∧ r.2.mem ((c.tc : Thread Cert.HeadKRefIdeal.nD Cert.HeadKRefIdeal.τ).loc Cert.HeadKRefIdeal.main_arg2) = m ((c.tc : Thread Cert.HeadKRefIdeal.nD Cert.HeadKRefIdeal.τ).loc Cert.HeadKRefIdeal.main_arg2)
      ∧ r.2.mem ((c.tc : Thread Cert.HeadKRefIdeal.nD Cert.HeadKRefIdeal.τ).loc Cert.HeadKRefIdeal.main_arg3) = m ((c.tc : Thread Cert.HeadKRefIdeal.nD Cert.HeadKRefIdeal.τ).loc Cert.HeadKRefIdeal.main_arg3))
      ∧ r.2.sem = fun _ => 0)

def quiescent_HeadQ [hHeadQ : Cert.HeadQ.Facts] : Prop :=
  ∀ (m : (ℓ : Loc Cert.HeadQ.nD Cert.HeadQ.τ Cert.HeadQ.sig) → Buf (Elt Bits) ℓ) (g : Dev Cert.HeadQ.nD → PrngReg), Pre_HeadQ m →
    θ_run (Cert.HeadQ.defs (F := Bits)) (onTc (τ := Cert.HeadQ.τ) (Cert.HeadQ.main (F := Bits))) ⟨m, fun _ => 0, g⟩ (fun r => (∀ c : Dev Cert.HeadQ.nD,
      r.2.mem ((c.tc : Thread Cert.HeadQ.nD Cert.HeadQ.τ).loc Cert.HeadQ.main_arg0) = m ((c.tc : Thread Cert.HeadQ.nD Cert.HeadQ.τ).loc Cert.HeadQ.main_arg0)
      ∧ r.2.mem ((c.tc : Thread Cert.HeadQ.nD Cert.HeadQ.τ).loc Cert.HeadQ.main_arg1) = m ((c.tc : Thread Cert.HeadQ.nD Cert.HeadQ.τ).loc Cert.HeadQ.main_arg1)
      ∧ r.2.mem ((c.tc : Thread Cert.HeadQ.nD Cert.HeadQ.τ).loc Cert.HeadQ.main_arg2) = m ((c.tc : Thread Cert.HeadQ.nD Cert.HeadQ.τ).loc Cert.HeadQ.main_arg2))
      ∧ r.2.sem = fun _ => 0)

def quiescent_HeadQIdeal [hHeadQIdeal : Cert.HeadQIdeal.Facts] : Prop :=
  ∀ (m : (ℓ : Loc Cert.HeadQIdeal.nD Cert.HeadQIdeal.τ Cert.HeadQIdeal.sig) → Buf (Elt Ideal) ℓ) (g : Dev Cert.HeadQIdeal.nD → PrngReg), Pre_HeadQIdeal m →
    θ_run (Cert.HeadQIdeal.defs (F := Ideal)) (onTc (τ := Cert.HeadQIdeal.τ) (Cert.HeadQIdeal.main (F := Ideal))) ⟨m, fun _ => 0, g⟩ (fun r => (∀ c : Dev Cert.HeadQIdeal.nD,
      r.2.mem ((c.tc : Thread Cert.HeadQIdeal.nD Cert.HeadQIdeal.τ).loc Cert.HeadQIdeal.main_arg0) = m ((c.tc : Thread Cert.HeadQIdeal.nD Cert.HeadQIdeal.τ).loc Cert.HeadQIdeal.main_arg0)
      ∧ r.2.mem ((c.tc : Thread Cert.HeadQIdeal.nD Cert.HeadQIdeal.τ).loc Cert.HeadQIdeal.main_arg1) = m ((c.tc : Thread Cert.HeadQIdeal.nD Cert.HeadQIdeal.τ).loc Cert.HeadQIdeal.main_arg1)
      ∧ r.2.mem ((c.tc : Thread Cert.HeadQIdeal.nD Cert.HeadQIdeal.τ).loc Cert.HeadQIdeal.main_arg2) = m ((c.tc : Thread Cert.HeadQIdeal.nD Cert.HeadQIdeal.τ).loc Cert.HeadQIdeal.main_arg2))
      ∧ r.2.sem = fun _ => 0)

def quiescent_HeadQRefIdeal [hHeadQRefIdeal : Cert.HeadQRefIdeal.Facts] : Prop :=
  ∀ (m : (ℓ : Loc Cert.HeadQRefIdeal.nD Cert.HeadQRefIdeal.τ Cert.HeadQRefIdeal.sig) → Buf (Elt Ideal) ℓ) (g : Dev Cert.HeadQRefIdeal.nD → PrngReg), Pre_HeadQRefIdeal m →
    θ_run (Cert.HeadQRefIdeal.defs (F := Ideal)) (onTc (τ := Cert.HeadQRefIdeal.τ) (Cert.HeadQRefIdeal.main (F := Ideal))) ⟨m, fun _ => 0, g⟩ (fun r => (∀ c : Dev Cert.HeadQRefIdeal.nD,
      r.2.mem ((c.tc : Thread Cert.HeadQRefIdeal.nD Cert.HeadQRefIdeal.τ).loc Cert.HeadQRefIdeal.main_arg0) = m ((c.tc : Thread Cert.HeadQRefIdeal.nD Cert.HeadQRefIdeal.τ).loc Cert.HeadQRefIdeal.main_arg0)
      ∧ r.2.mem ((c.tc : Thread Cert.HeadQRefIdeal.nD Cert.HeadQRefIdeal.τ).loc Cert.HeadQRefIdeal.main_arg1) = m ((c.tc : Thread Cert.HeadQRefIdeal.nD Cert.HeadQRefIdeal.τ).loc Cert.HeadQRefIdeal.main_arg1)
      ∧ r.2.mem ((c.tc : Thread Cert.HeadQRefIdeal.nD Cert.HeadQRefIdeal.τ).loc Cert.HeadQRefIdeal.main_arg2) = m ((c.tc : Thread Cert.HeadQRefIdeal.nD Cert.HeadQRefIdeal.τ).loc Cert.HeadQRefIdeal.main_arg2))
      ∧ r.2.sem = fun _ => 0)

def quiescent_GatesBwd [hGatesBwd : Cert.GatesBwd.Facts] : Prop :=
  ∀ (m : (ℓ : Loc Cert.GatesBwd.nD Cert.GatesBwd.τ Cert.GatesBwd.sig) → Buf (Elt Bits) ℓ) (g : Dev Cert.GatesBwd.nD → PrngReg), Pre_GatesBwd m →
    θ_run (Cert.GatesBwd.defs (F := Bits)) (onTc (τ := Cert.GatesBwd.τ) (Cert.GatesBwd.main (F := Bits))) ⟨m, fun _ => 0, g⟩ (fun r => (∀ c : Dev Cert.GatesBwd.nD,
      r.2.mem ((c.tc : Thread Cert.GatesBwd.nD Cert.GatesBwd.τ).loc Cert.GatesBwd.main_arg0) = m ((c.tc : Thread Cert.GatesBwd.nD Cert.GatesBwd.τ).loc Cert.GatesBwd.main_arg0)
      ∧ r.2.mem ((c.tc : Thread Cert.GatesBwd.nD Cert.GatesBwd.τ).loc Cert.GatesBwd.main_arg1) = m ((c.tc : Thread Cert.GatesBwd.nD Cert.GatesBwd.τ).loc Cert.GatesBwd.main_arg1)
      ∧ r.2.mem ((c.tc : Thread Cert.GatesBwd.nD Cert.GatesBwd.τ).loc Cert.GatesBwd.main_arg2) = m ((c.tc : Thread Cert.GatesBwd.nD Cert.GatesBwd.τ).loc Cert.GatesBwd.main_arg2)
      ∧ r.2.mem ((c.tc : Thread Cert.GatesBwd.nD Cert.GatesBwd.τ).loc Cert.GatesBwd.main_arg3) = m ((c.tc : Thread Cert.GatesBwd.nD Cert.GatesBwd.τ).loc Cert.GatesBwd.main_arg3)
      ∧ r.2.mem ((c.tc : Thread Cert.GatesBwd.nD Cert.GatesBwd.τ).loc Cert.GatesBwd.main_arg4) = m ((c.tc : Thread Cert.GatesBwd.nD Cert.GatesBwd.τ).loc Cert.GatesBwd.main_arg4))
      ∧ r.2.sem = fun _ => 0)

def quiescent_GatesBwdIdeal [hGatesBwdIdeal : Cert.GatesBwdIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4))
      ∧ r.2.sem = fun _ => 0)

def quiescent_GatesBwdIdeal_pre_defined_gates [hGatesBwdIdeal : Cert.GatesBwdIdeal.Facts] [hPre_defined_gates : Cert.Pre_defined_gates.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal_defined_gates m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_GatesRefIdeal_pre_defined_gates [hGatesRefIdeal : Cert.GatesRefIdeal.Facts] [hPre_defined_gates : Cert.Pre_defined_gates.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_defined_gates m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3))
      ∧ r.2.sem = fun _ => 0)

def quiescent_AbDx [hAbDx : Cert.AbDx.Facts] : Prop :=
  ∀ (m : (ℓ : Loc Cert.AbDx.nD Cert.AbDx.τ Cert.AbDx.sig) → Buf (Elt Bits) ℓ) (g : Dev Cert.AbDx.nD → PrngReg), Pre_AbDx m →
    θ_run (Cert.AbDx.defs (F := Bits)) (onTc (τ := Cert.AbDx.τ) (Cert.AbDx.main (F := Bits))) ⟨m, fun _ => 0, g⟩ (fun r => (∀ c : Dev Cert.AbDx.nD,
      r.2.mem ((c.tc : Thread Cert.AbDx.nD Cert.AbDx.τ).loc Cert.AbDx.main_arg0) = m ((c.tc : Thread Cert.AbDx.nD Cert.AbDx.τ).loc Cert.AbDx.main_arg0)
      ∧ r.2.mem ((c.tc : Thread Cert.AbDx.nD Cert.AbDx.τ).loc Cert.AbDx.main_arg1) = m ((c.tc : Thread Cert.AbDx.nD Cert.AbDx.τ).loc Cert.AbDx.main_arg1)
      ∧ r.2.mem ((c.tc : Thread Cert.AbDx.nD Cert.AbDx.τ).loc Cert.AbDx.main_arg2) = m ((c.tc : Thread Cert.AbDx.nD Cert.AbDx.τ).loc Cert.AbDx.main_arg2))
      ∧ r.2.sem = fun _ => 0)

def quiescent_AbDxIdeal [hAbDxIdeal : Cert.AbDxIdeal.Facts] : Prop :=
  ∀ (m : (ℓ : Loc Cert.AbDxIdeal.nD Cert.AbDxIdeal.τ Cert.AbDxIdeal.sig) → Buf (Elt Ideal) ℓ) (g : Dev Cert.AbDxIdeal.nD → PrngReg), Pre_AbDxIdeal m →
    θ_run (Cert.AbDxIdeal.defs (F := Ideal)) (onTc (τ := Cert.AbDxIdeal.τ) (Cert.AbDxIdeal.main (F := Ideal))) ⟨m, fun _ => 0, g⟩ (fun r => (∀ c : Dev Cert.AbDxIdeal.nD,
      r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
      ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1)
      ∧ r.2.mem ((c.tc : Thread Cert.AbDxIdeal.nD Cert.AbDxIdeal.τ).loc Cert.AbDxIdeal.main_arg2) = m ((c.tc : Thread Cert.AbDxIdeal.nD Cert.AbDxIdeal.τ).loc Cert.AbDxIdeal.main_arg2))
      ∧ r.2.sem = fun _ => 0)

def quiescent_AbDxRefIdeal [hAbDxRefIdeal : Cert.AbDxRefIdeal.Facts] : Prop :=
  ∀ (m : (ℓ : Loc Cert.AbDxRefIdeal.nD Cert.AbDxRefIdeal.τ Cert.AbDxRefIdeal.sig) → Buf (Elt Ideal) ℓ) (g : Dev Cert.AbDxRefIdeal.nD → PrngReg), Pre_AbDxRefIdeal m →
    θ_run (Cert.AbDxRefIdeal.defs (F := Ideal)) (onTc (τ := Cert.AbDxRefIdeal.τ) (Cert.AbDxRefIdeal.main (F := Ideal))) ⟨m, fun _ => 0, g⟩ (fun r => (∀ c : Dev Cert.AbDxRefIdeal.nD,
      r.2.mem ((c.tc : Thread Cert.AbDxRefIdeal.nD Cert.AbDxRefIdeal.τ).loc Cert.AbDxRefIdeal.main_arg0) = m ((c.tc : Thread Cert.AbDxRefIdeal.nD Cert.AbDxRefIdeal.τ).loc Cert.AbDxRefIdeal.main_arg0)
      ∧ r.2.mem ((c.tc : Thread Cert.AbDxRefIdeal.nD Cert.AbDxRefIdeal.τ).loc Cert.AbDxRefIdeal.main_arg1) = m ((c.tc : Thread Cert.AbDxRefIdeal.nD Cert.AbDxRefIdeal.τ).loc Cert.AbDxRefIdeal.main_arg1)
      ∧ r.2.mem ((c.tc : Thread Cert.AbDxRefIdeal.nD Cert.AbDxRefIdeal.τ).loc Cert.AbDxRefIdeal.main_arg2) = m ((c.tc : Thread Cert.AbDxRefIdeal.nD Cert.AbDxRefIdeal.τ).loc Cert.AbDxRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_HeadKFwd [hHeadKFwd : Cert.HeadKFwd.Facts] : Prop :=
  ∀ (m : (ℓ : Loc Cert.HeadKFwd.nD Cert.HeadKFwd.τ Cert.HeadKFwd.sig) → Buf (Elt Bits) ℓ) (g : Dev Cert.HeadKFwd.nD → PrngReg), Pre_HeadKFwd m →
    θ_run (Cert.HeadKFwd.defs (F := Bits)) (onTc (τ := Cert.HeadKFwd.τ) (Cert.HeadKFwd.main (F := Bits))) ⟨m, fun _ => 0, g⟩ (fun r => (∀ c : Dev Cert.HeadKFwd.nD,
      r.2.mem ((c.tc : Thread Cert.HeadKFwd.nD Cert.HeadKFwd.τ).loc Cert.HeadKFwd.main_arg0) = m ((c.tc : Thread Cert.HeadKFwd.nD Cert.HeadKFwd.τ).loc Cert.HeadKFwd.main_arg0)
      ∧ r.2.mem ((c.tc : Thread Cert.HeadKFwd.nD Cert.HeadKFwd.τ).loc Cert.HeadKFwd.main_arg1) = m ((c.tc : Thread Cert.HeadKFwd.nD Cert.HeadKFwd.τ).loc Cert.HeadKFwd.main_arg1))
      ∧ r.2.sem = fun _ => 0)

def quiescent_HeadKFwdIdeal [hHeadKFwdIdeal : Cert.HeadKFwdIdeal.Facts] : Prop :=
  ∀ (m : (ℓ : Loc Cert.HeadKFwdIdeal.nD Cert.HeadKFwdIdeal.τ Cert.HeadKFwdIdeal.sig) → Buf (Elt Ideal) ℓ) (g : Dev Cert.HeadKFwdIdeal.nD → PrngReg), Pre_HeadKFwdIdeal m →
    θ_run (Cert.HeadKFwdIdeal.defs (F := Ideal)) (onTc (τ := Cert.HeadKFwdIdeal.τ) (Cert.HeadKFwdIdeal.main (F := Ideal))) ⟨m, fun _ => 0, g⟩ (fun r => (∀ c : Dev Cert.HeadKFwdIdeal.nD,
      r.2.mem ((c.tc : Thread Cert.HeadKFwdIdeal.nD Cert.HeadKFwdIdeal.τ).loc Cert.HeadKFwdIdeal.main_arg0) = m ((c.tc : Thread Cert.HeadKFwdIdeal.nD Cert.HeadKFwdIdeal.τ).loc Cert.HeadKFwdIdeal.main_arg0)
      ∧ r.2.mem ((c.tc : Thread Cert.HeadKFwdIdeal.nD Cert.HeadKFwdIdeal.τ).loc Cert.HeadKFwdIdeal.main_arg1) = m ((c.tc : Thread Cert.HeadKFwdIdeal.nD Cert.HeadKFwdIdeal.τ).loc Cert.HeadKFwdIdeal.main_arg1))
      ∧ r.2.sem = fun _ => 0)

def quiescent_HeadKFwdRefIdeal [hHeadKFwdRefIdeal : Cert.HeadKFwdRefIdeal.Facts] : Prop :=
  ∀ (m : (ℓ : Loc Cert.HeadKFwdRefIdeal.nD Cert.HeadKFwdRefIdeal.τ Cert.HeadKFwdRefIdeal.sig) → Buf (Elt Ideal) ℓ) (g : Dev Cert.HeadKFwdRefIdeal.nD → PrngReg), Pre_HeadKFwdRefIdeal m →
    θ_run (Cert.HeadKFwdRefIdeal.defs (F := Ideal)) (onTc (τ := Cert.HeadKFwdRefIdeal.τ) (Cert.HeadKFwdRefIdeal.main (F := Ideal))) ⟨m, fun _ => 0, g⟩ (fun r => (∀ c : Dev Cert.HeadKFwdRefIdeal.nD,
      r.2.mem ((c.tc : Thread Cert.HeadKFwdRefIdeal.nD Cert.HeadKFwdRefIdeal.τ).loc Cert.HeadKFwdRefIdeal.main_arg0) = m ((c.tc : Thread Cert.HeadKFwdRefIdeal.nD Cert.HeadKFwdRefIdeal.τ).loc Cert.HeadKFwdRefIdeal.main_arg0)
      ∧ r.2.mem ((c.tc : Thread Cert.HeadKFwdRefIdeal.nD Cert.HeadKFwdRefIdeal.τ).loc Cert.HeadKFwdRefIdeal.main_arg1) = m ((c.tc : Thread Cert.HeadKFwdRefIdeal.nD Cert.HeadKFwdRefIdeal.τ).loc Cert.HeadKFwdRefIdeal.main_arg1))
      ∧ r.2.sem = fun _ => 0)

def quiescent_HeadQFwd [hHeadQFwd : Cert.HeadQFwd.Facts] : Prop :=
  ∀ (m : (ℓ : Loc Cert.HeadQFwd.nD Cert.HeadQFwd.τ Cert.HeadQFwd.sig) → Buf (Elt Bits) ℓ) (g : Dev Cert.HeadQFwd.nD → PrngReg), Pre_HeadQFwd m →
    θ_run (Cert.HeadQFwd.defs (F := Bits)) (onTc (τ := Cert.HeadQFwd.τ) (Cert.HeadQFwd.main (F := Bits))) ⟨m, fun _ => 0, g⟩ (fun r => (∀ c : Dev Cert.HeadQFwd.nD,
      r.2.mem ((c.tc : Thread Cert.HeadQFwd.nD Cert.HeadQFwd.τ).loc Cert.HeadQFwd.main_arg0) = m ((c.tc : Thread Cert.HeadQFwd.nD Cert.HeadQFwd.τ).loc Cert.HeadQFwd.main_arg0)
      ∧ r.2.mem ((c.tc : Thread Cert.HeadQFwd.nD Cert.HeadQFwd.τ).loc Cert.HeadQFwd.main_arg1) = m ((c.tc : Thread Cert.HeadQFwd.nD Cert.HeadQFwd.τ).loc Cert.HeadQFwd.main_arg1))
      ∧ r.2.sem = fun _ => 0)

def quiescent_HeadQFwdIdeal [hHeadQFwdIdeal : Cert.HeadQFwdIdeal.Facts] : Prop :=
  ∀ (m : (ℓ : Loc Cert.HeadQFwdIdeal.nD Cert.HeadQFwdIdeal.τ Cert.HeadQFwdIdeal.sig) → Buf (Elt Ideal) ℓ) (g : Dev Cert.HeadQFwdIdeal.nD → PrngReg), Pre_HeadQFwdIdeal m →
    θ_run (Cert.HeadQFwdIdeal.defs (F := Ideal)) (onTc (τ := Cert.HeadQFwdIdeal.τ) (Cert.HeadQFwdIdeal.main (F := Ideal))) ⟨m, fun _ => 0, g⟩ (fun r => (∀ c : Dev Cert.HeadQFwdIdeal.nD,
      r.2.mem ((c.tc : Thread Cert.HeadQFwdIdeal.nD Cert.HeadQFwdIdeal.τ).loc Cert.HeadQFwdIdeal.main_arg0) = m ((c.tc : Thread Cert.HeadQFwdIdeal.nD Cert.HeadQFwdIdeal.τ).loc Cert.HeadQFwdIdeal.main_arg0)
      ∧ r.2.mem ((c.tc : Thread Cert.HeadQFwdIdeal.nD Cert.HeadQFwdIdeal.τ).loc Cert.HeadQFwdIdeal.main_arg1) = m ((c.tc : Thread Cert.HeadQFwdIdeal.nD Cert.HeadQFwdIdeal.τ).loc Cert.HeadQFwdIdeal.main_arg1))
      ∧ r.2.sem = fun _ => 0)

def quiescent_HeadQFwdRefIdeal [hHeadQFwdRefIdeal : Cert.HeadQFwdRefIdeal.Facts] : Prop :=
  ∀ (m : (ℓ : Loc Cert.HeadQFwdRefIdeal.nD Cert.HeadQFwdRefIdeal.τ Cert.HeadQFwdRefIdeal.sig) → Buf (Elt Ideal) ℓ) (g : Dev Cert.HeadQFwdRefIdeal.nD → PrngReg), Pre_HeadQFwdRefIdeal m →
    θ_run (Cert.HeadQFwdRefIdeal.defs (F := Ideal)) (onTc (τ := Cert.HeadQFwdRefIdeal.τ) (Cert.HeadQFwdRefIdeal.main (F := Ideal))) ⟨m, fun _ => 0, g⟩ (fun r => (∀ c : Dev Cert.HeadQFwdRefIdeal.nD,
      r.2.mem ((c.tc : Thread Cert.HeadQFwdRefIdeal.nD Cert.HeadQFwdRefIdeal.τ).loc Cert.HeadQFwdRefIdeal.main_arg0) = m ((c.tc : Thread Cert.HeadQFwdRefIdeal.nD Cert.HeadQFwdRefIdeal.τ).loc Cert.HeadQFwdRefIdeal.main_arg0)
      ∧ r.2.mem ((c.tc : Thread Cert.HeadQFwdRefIdeal.nD Cert.HeadQFwdRefIdeal.τ).loc Cert.HeadQFwdRefIdeal.main_arg1) = m ((c.tc : Thread Cert.HeadQFwdRefIdeal.nD Cert.HeadQFwdRefIdeal.τ).loc Cert.HeadQFwdRefIdeal.main_arg1))
      ∧ r.2.sem = fun _ => 0)

def quiescent_GateNormFwd [hGateNormFwd : Cert.GateNormFwd.Facts] : Prop :=
  ∀ (m : (ℓ : Loc Cert.GateNormFwd.nD Cert.GateNormFwd.τ Cert.GateNormFwd.sig) → Buf (Elt Bits) ℓ) (g : Dev Cert.GateNormFwd.nD → PrngReg), Pre_GateNormFwd m →
    θ_run (Cert.GateNormFwd.defs (F := Bits)) (onTc (τ := Cert.GateNormFwd.τ) (Cert.GateNormFwd.main (F := Bits))) ⟨m, fun _ => 0, g⟩ (fun r => (∀ c : Dev Cert.GateNormFwd.nD,
      r.2.mem ((c.tc : Thread Cert.GateNormFwd.nD Cert.GateNormFwd.τ).loc Cert.GateNormFwd.main_arg0) = m ((c.tc : Thread Cert.GateNormFwd.nD Cert.GateNormFwd.τ).loc Cert.GateNormFwd.main_arg0)
      ∧ r.2.mem ((c.tc : Thread Cert.GateNormFwd.nD Cert.GateNormFwd.τ).loc Cert.GateNormFwd.main_arg1) = m ((c.tc : Thread Cert.GateNormFwd.nD Cert.GateNormFwd.τ).loc Cert.GateNormFwd.main_arg1)
      ∧ r.2.mem ((c.tc : Thread Cert.GateNormFwd.nD Cert.GateNormFwd.τ).loc Cert.GateNormFwd.main_arg2) = m ((c.tc : Thread Cert.GateNormFwd.nD Cert.GateNormFwd.τ).loc Cert.GateNormFwd.main_arg2))
      ∧ r.2.sem = fun _ => 0)

def quiescent_GateNormFwdIdeal [hGateNormFwdIdeal : Cert.GateNormFwdIdeal.Facts] : Prop :=
  ∀ (m : (ℓ : Loc Cert.GateNormFwdIdeal.nD Cert.GateNormFwdIdeal.τ Cert.GateNormFwdIdeal.sig) → Buf (Elt Ideal) ℓ) (g : Dev Cert.GateNormFwdIdeal.nD → PrngReg), Pre_GateNormFwdIdeal m →
    θ_run (Cert.GateNormFwdIdeal.defs (F := Ideal)) (onTc (τ := Cert.GateNormFwdIdeal.τ) (Cert.GateNormFwdIdeal.main (F := Ideal))) ⟨m, fun _ => 0, g⟩ (fun r => (∀ c : Dev Cert.GateNormFwdIdeal.nD,
      r.2.mem ((c.tc : Thread Cert.GateNormFwdIdeal.nD Cert.GateNormFwdIdeal.τ).loc Cert.GateNormFwdIdeal.main_arg0) = m ((c.tc : Thread Cert.GateNormFwdIdeal.nD Cert.GateNormFwdIdeal.τ).loc Cert.GateNormFwdIdeal.main_arg0)
      ∧ r.2.mem ((c.tc : Thread Cert.GateNormFwdIdeal.nD Cert.GateNormFwdIdeal.τ).loc Cert.GateNormFwdIdeal.main_arg1) = m ((c.tc : Thread Cert.GateNormFwdIdeal.nD Cert.GateNormFwdIdeal.τ).loc Cert.GateNormFwdIdeal.main_arg1)
      ∧ r.2.mem ((c.tc : Thread Cert.GateNormFwdIdeal.nD Cert.GateNormFwdIdeal.τ).loc Cert.GateNormFwdIdeal.main_arg2) = m ((c.tc : Thread Cert.GateNormFwdIdeal.nD Cert.GateNormFwdIdeal.τ).loc Cert.GateNormFwdIdeal.main_arg2))
      ∧ r.2.sem = fun _ => 0)

def quiescent_GateNormFwdRefIdeal [hGateNormFwdRefIdeal : Cert.GateNormFwdRefIdeal.Facts] : Prop :=
  ∀ (m : (ℓ : Loc Cert.GateNormFwdRefIdeal.nD Cert.GateNormFwdRefIdeal.τ Cert.GateNormFwdRefIdeal.sig) → Buf (Elt Ideal) ℓ) (g : Dev Cert.GateNormFwdRefIdeal.nD → PrngReg), Pre_GateNormFwdRefIdeal m →
    θ_run (Cert.GateNormFwdRefIdeal.defs (F := Ideal)) (onTc (τ := Cert.GateNormFwdRefIdeal.τ) (Cert.GateNormFwdRefIdeal.main (F := Ideal))) ⟨m, fun _ => 0, g⟩ (fun r => (∀ c : Dev Cert.GateNormFwdRefIdeal.nD,
      r.2.mem ((c.tc : Thread Cert.GateNormFwdRefIdeal.nD Cert.GateNormFwdRefIdeal.τ).loc Cert.GateNormFwdRefIdeal.main_arg0) = m ((c.tc : Thread Cert.GateNormFwdRefIdeal.nD Cert.GateNormFwdRefIdeal.τ).loc Cert.GateNormFwdRefIdeal.main_arg0)
      ∧ r.2.mem ((c.tc : Thread Cert.GateNormFwdRefIdeal.nD Cert.GateNormFwdRefIdeal.τ).loc Cert.GateNormFwdRefIdeal.main_arg1) = m ((c.tc : Thread Cert.GateNormFwdRefIdeal.nD Cert.GateNormFwdRefIdeal.τ).loc Cert.GateNormFwdRefIdeal.main_arg1)
      ∧ r.2.mem ((c.tc : Thread Cert.GateNormFwdRefIdeal.nD Cert.GateNormFwdRefIdeal.τ).loc Cert.GateNormFwdRefIdeal.main_arg2) = m ((c.tc : Thread Cert.GateNormFwdRefIdeal.nD Cert.GateNormFwdRefIdeal.τ).loc Cert.GateNormFwdRefIdeal.main_arg2))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_OutRms [hOutRms : Cert.OutRms.Facts] : Prop :=
  ∀ (m : (ℓ : Loc Cert.OutRms.nD Cert.OutRms.τ Cert.OutRms.sig) → Buf (Elt Bits) ℓ) (g : Dev Cert.OutRms.nD → PrngReg), Pre_OutRms m →
    θ_run (Cert.OutRms.defs (F := Bits)) (onTc (τ := Cert.OutRms.τ) (Cert.OutRms.main (F := Bits))) ⟨m, fun _ => 0, g⟩ (fun r => (∀ c : Dev Cert.OutRms.nD,
      r.2.mem ((c.tc : Thread Cert.OutRms.nD Cert.OutRms.τ).loc Cert.OutRms.main_arg0) = m ((c.tc : Thread Cert.OutRms.nD Cert.OutRms.τ).loc Cert.OutRms.main_arg0)
      ∧ r.2.mem ((c.tc : Thread Cert.OutRms.nD Cert.OutRms.τ).loc Cert.OutRms.main_arg1) = m ((c.tc : Thread Cert.OutRms.nD Cert.OutRms.τ).loc Cert.OutRms.main_arg1)
      ∧ r.2.mem ((c.tc : Thread Cert.OutRms.nD Cert.OutRms.τ).loc Cert.OutRms.main_arg2) = m ((c.tc : Thread Cert.OutRms.nD Cert.OutRms.τ).loc Cert.OutRms.main_arg2)
      ∧ r.2.mem ((c.tc : Thread Cert.OutRms.nD Cert.OutRms.τ).loc Cert.OutRms.main_arg3) = m ((c.tc : Thread Cert.OutRms.nD Cert.OutRms.τ).loc Cert.OutRms.main_arg3))
      ∧ r.2.sem = fun _ => 0)

def quiescent_OutRmsIdeal [hOutRmsIdeal : Cert.OutRmsIdeal.Facts] : Prop :=
  ∀ (m : (ℓ : Loc Cert.OutRmsIdeal.nD Cert.OutRmsIdeal.τ Cert.OutRmsIdeal.sig) → Buf (Elt Ideal) ℓ) (g : Dev Cert.OutRmsIdeal.nD → PrngReg), Pre_OutRmsIdeal m →
    θ_run (Cert.OutRmsIdeal.defs (F := Ideal)) (onTc (τ := Cert.OutRmsIdeal.τ) (Cert.OutRmsIdeal.main (F := Ideal))) ⟨m, fun _ => 0, g⟩ (fun r => (∀ c : Dev Cert.OutRmsIdeal.nD,
      r.2.mem ((c.tc : Thread Cert.OutRmsIdeal.nD Cert.OutRmsIdeal.τ).loc Cert.OutRmsIdeal.main_arg0) = m ((c.tc : Thread Cert.OutRmsIdeal.nD Cert.OutRmsIdeal.τ).loc Cert.OutRmsIdeal.main_arg0)
      ∧ r.2.mem ((c.tc : Thread Cert.OutRmsIdeal.nD Cert.OutRmsIdeal.τ).loc Cert.OutRmsIdeal.main_arg1) = m ((c.tc : Thread Cert.OutRmsIdeal.nD Cert.OutRmsIdeal.τ).loc Cert.OutRmsIdeal.main_arg1)
      ∧ r.2.mem ((c.tc : Thread Cert.OutRmsIdeal.nD Cert.OutRmsIdeal.τ).loc Cert.OutRmsIdeal.main_arg2) = m ((c.tc : Thread Cert.OutRmsIdeal.nD Cert.OutRmsIdeal.τ).loc Cert.OutRmsIdeal.main_arg2)
      ∧ r.2.mem ((c.tc : Thread Cert.OutRmsIdeal.nD Cert.OutRmsIdeal.τ).loc Cert.OutRmsIdeal.main_arg3) = m ((c.tc : Thread Cert.OutRmsIdeal.nD Cert.OutRmsIdeal.τ).loc Cert.OutRmsIdeal.main_arg3))
      ∧ r.2.sem = fun _ => 0)

def quiescent_OutRmsRefIdeal [hOutRmsRefIdeal : Cert.OutRmsRefIdeal.Facts] : Prop :=
  ∀ (m : (ℓ : Loc Cert.OutRmsRefIdeal.nD Cert.OutRmsRefIdeal.τ Cert.OutRmsRefIdeal.sig) → Buf (Elt Ideal) ℓ) (g : Dev Cert.OutRmsRefIdeal.nD → PrngReg), Pre_OutRmsRefIdeal m →
    θ_run (Cert.OutRmsRefIdeal.defs (F := Ideal)) (onTc (τ := Cert.OutRmsRefIdeal.τ) (Cert.OutRmsRefIdeal.main (F := Ideal))) ⟨m, fun _ => 0, g⟩ (fun r => (∀ c : Dev Cert.OutRmsRefIdeal.nD,
      r.2.mem ((c.tc : Thread Cert.OutRmsRefIdeal.nD Cert.OutRmsRefIdeal.τ).loc Cert.OutRmsRefIdeal.main_arg0) = m ((c.tc : Thread Cert.OutRmsRefIdeal.nD Cert.OutRmsRefIdeal.τ).loc Cert.OutRmsRefIdeal.main_arg0)
      ∧ r.2.mem ((c.tc : Thread Cert.OutRmsRefIdeal.nD Cert.OutRmsRefIdeal.τ).loc Cert.OutRmsRefIdeal.main_arg1) = m ((c.tc : Thread Cert.OutRmsRefIdeal.nD Cert.OutRmsRefIdeal.τ).loc Cert.OutRmsRefIdeal.main_arg1)
      ∧ r.2.mem ((c.tc : Thread Cert.OutRmsRefIdeal.nD Cert.OutRmsRefIdeal.τ).loc Cert.OutRmsRefIdeal.main_arg2) = m ((c.tc : Thread Cert.OutRmsRefIdeal.nD Cert.OutRmsRefIdeal.τ).loc Cert.OutRmsRefIdeal.main_arg2)
      ∧ r.2.mem ((c.tc : Thread Cert.OutRmsRefIdeal.nD Cert.OutRmsRefIdeal.τ).loc Cert.OutRmsRefIdeal.main_arg3) = m ((c.tc : Thread Cert.OutRmsRefIdeal.nD Cert.OutRmsRefIdeal.τ).loc Cert.OutRmsRefIdeal.main_arg3))
      ∧ r.2.sem = fun _ => 0)

def quiescent_FfnOutRms [hFfnOutRms : Cert.FfnOutRms.Facts] : Prop :=
  ∀ (m : (ℓ : Loc Cert.FfnOutRms.nD Cert.FfnOutRms.τ Cert.FfnOutRms.sig) → Buf (Elt Bits) ℓ) (g : Dev Cert.FfnOutRms.nD → PrngReg), Pre_FfnOutRms m →
    θ_run (Cert.FfnOutRms.defs (F := Bits)) (onTc (τ := Cert.FfnOutRms.τ) (Cert.FfnOutRms.main (F := Bits))) ⟨m, fun _ => 0, g⟩ (fun r => (∀ c : Dev Cert.FfnOutRms.nD,
      r.2.mem ((c.tc : Thread Cert.FfnOutRms.nD Cert.FfnOutRms.τ).loc Cert.FfnOutRms.main_arg0) = m ((c.tc : Thread Cert.FfnOutRms.nD Cert.FfnOutRms.τ).loc Cert.FfnOutRms.main_arg0)
      ∧ r.2.mem ((c.tc : Thread Cert.FfnOutRms.nD Cert.FfnOutRms.τ).loc Cert.FfnOutRms.main_arg1) = m ((c.tc : Thread Cert.FfnOutRms.nD Cert.FfnOutRms.τ).loc Cert.FfnOutRms.main_arg1)
      ∧ r.2.mem ((c.tc : Thread Cert.FfnOutRms.nD Cert.FfnOutRms.τ).loc Cert.FfnOutRms.main_arg2) = m ((c.tc : Thread Cert.FfnOutRms.nD Cert.FfnOutRms.τ).loc Cert.FfnOutRms.main_arg2)
      ∧ r.2.mem ((c.tc : Thread Cert.FfnOutRms.nD Cert.FfnOutRms.τ).loc Cert.FfnOutRms.main_arg3) = m ((c.tc : Thread Cert.FfnOutRms.nD Cert.FfnOutRms.τ).loc Cert.FfnOutRms.main_arg3))
      ∧ r.2.sem = fun _ => 0)

def quiescent_FfnOutRmsIdeal [hFfnOutRmsIdeal : Cert.FfnOutRmsIdeal.Facts] : Prop :=
  ∀ (m : (ℓ : Loc Cert.FfnOutRmsIdeal.nD Cert.FfnOutRmsIdeal.τ Cert.FfnOutRmsIdeal.sig) → Buf (Elt Ideal) ℓ) (g : Dev Cert.FfnOutRmsIdeal.nD → PrngReg), Pre_FfnOutRmsIdeal m →
    θ_run (Cert.FfnOutRmsIdeal.defs (F := Ideal)) (onTc (τ := Cert.FfnOutRmsIdeal.τ) (Cert.FfnOutRmsIdeal.main (F := Ideal))) ⟨m, fun _ => 0, g⟩ (fun r => (∀ c : Dev Cert.FfnOutRmsIdeal.nD,
      r.2.mem ((c.tc : Thread Cert.FfnOutRmsIdeal.nD Cert.FfnOutRmsIdeal.τ).loc Cert.FfnOutRmsIdeal.main_arg0) = m ((c.tc : Thread Cert.FfnOutRmsIdeal.nD Cert.FfnOutRmsIdeal.τ).loc Cert.FfnOutRmsIdeal.main_arg0)
      ∧ r.2.mem ((c.tc : Thread Cert.FfnOutRmsIdeal.nD Cert.FfnOutRmsIdeal.τ).loc Cert.FfnOutRmsIdeal.main_arg1) = m ((c.tc : Thread Cert.FfnOutRmsIdeal.nD Cert.FfnOutRmsIdeal.τ).loc Cert.FfnOutRmsIdeal.main_arg1)
      ∧ r.2.mem ((c.tc : Thread Cert.FfnOutRmsIdeal.nD Cert.FfnOutRmsIdeal.τ).loc Cert.FfnOutRmsIdeal.main_arg2) = m ((c.tc : Thread Cert.FfnOutRmsIdeal.nD Cert.FfnOutRmsIdeal.τ).loc Cert.FfnOutRmsIdeal.main_arg2)
      ∧ r.2.mem ((c.tc : Thread Cert.FfnOutRmsIdeal.nD Cert.FfnOutRmsIdeal.τ).loc Cert.FfnOutRmsIdeal.main_arg3) = m ((c.tc : Thread Cert.FfnOutRmsIdeal.nD Cert.FfnOutRmsIdeal.τ).loc Cert.FfnOutRmsIdeal.main_arg3))
      ∧ r.2.sem = fun _ => 0)

def quiescent_FfnOutRmsRefIdeal [hFfnOutRmsRefIdeal : Cert.FfnOutRmsRefIdeal.Facts] : Prop :=
  ∀ (m : (ℓ : Loc Cert.FfnOutRmsRefIdeal.nD Cert.FfnOutRmsRefIdeal.τ Cert.FfnOutRmsRefIdeal.sig) → Buf (Elt Ideal) ℓ) (g : Dev Cert.FfnOutRmsRefIdeal.nD → PrngReg), Pre_FfnOutRmsRefIdeal m →
    θ_run (Cert.FfnOutRmsRefIdeal.defs (F := Ideal)) (onTc (τ := Cert.FfnOutRmsRefIdeal.τ) (Cert.FfnOutRmsRefIdeal.main (F := Ideal))) ⟨m, fun _ => 0, g⟩ (fun r => (∀ c : Dev Cert.FfnOutRmsRefIdeal.nD,
      r.2.mem ((c.tc : Thread Cert.FfnOutRmsRefIdeal.nD Cert.FfnOutRmsRefIdeal.τ).loc Cert.FfnOutRmsRefIdeal.main_arg0) = m ((c.tc : Thread Cert.FfnOutRmsRefIdeal.nD Cert.FfnOutRmsRefIdeal.τ).loc Cert.FfnOutRmsRefIdeal.main_arg0)
      ∧ r.2.mem ((c.tc : Thread Cert.FfnOutRmsRefIdeal.nD Cert.FfnOutRmsRefIdeal.τ).loc Cert.FfnOutRmsRefIdeal.main_arg1) = m ((c.tc : Thread Cert.FfnOutRmsRefIdeal.nD Cert.FfnOutRmsRefIdeal.τ).loc Cert.FfnOutRmsRefIdeal.main_arg1)
      ∧ r.2.mem ((c.tc : Thread Cert.FfnOutRmsRefIdeal.nD Cert.FfnOutRmsRefIdeal.τ).loc Cert.FfnOutRmsRefIdeal.main_arg2) = m ((c.tc : Thread Cert.FfnOutRmsRefIdeal.nD Cert.FfnOutRmsRefIdeal.τ).loc Cert.FfnOutRmsRefIdeal.main_arg2)
      ∧ r.2.mem ((c.tc : Thread Cert.FfnOutRmsRefIdeal.nD Cert.FfnOutRmsRefIdeal.τ).loc Cert.FfnOutRmsRefIdeal.main_arg3) = m ((c.tc : Thread Cert.FfnOutRmsRefIdeal.nD Cert.FfnOutRmsRefIdeal.τ).loc Cert.FfnOutRmsRefIdeal.main_arg3))
      ∧ r.2.sem = fun _ => 0)

def quiescent_PleGateRms [hPleGateRms : Cert.PleGateRms.Facts] : Prop :=
  ∀ (m : (ℓ : Loc Cert.PleGateRms.nD Cert.PleGateRms.τ Cert.PleGateRms.sig) → Buf (Elt Bits) ℓ) (g : Dev Cert.PleGateRms.nD → PrngReg), Pre_PleGateRms m →
    θ_run (Cert.PleGateRms.defs (F := Bits)) (onTc (τ := Cert.PleGateRms.τ) (Cert.PleGateRms.main (F := Bits))) ⟨m, fun _ => 0, g⟩ (fun r => (∀ c : Dev Cert.PleGateRms.nD,
      r.2.mem ((c.tc : Thread Cert.PleGateRms.nD Cert.PleGateRms.τ).loc Cert.PleGateRms.main_arg0) = m ((c.tc : Thread Cert.PleGateRms.nD Cert.PleGateRms.τ).loc Cert.PleGateRms.main_arg0)
      ∧ r.2.mem ((c.tc : Thread Cert.PleGateRms.nD Cert.PleGateRms.τ).loc Cert.PleGateRms.main_arg1) = m ((c.tc : Thread Cert.PleGateRms.nD Cert.PleGateRms.τ).loc Cert.PleGateRms.main_arg1)
      ∧ r.2.mem ((c.tc : Thread Cert.PleGateRms.nD Cert.PleGateRms.τ).loc Cert.PleGateRms.main_arg2) = m ((c.tc : Thread Cert.PleGateRms.nD Cert.PleGateRms.τ).loc Cert.PleGateRms.main_arg2)
      ∧ r.2.mem ((c.tc : Thread Cert.PleGateRms.nD Cert.PleGateRms.τ).loc Cert.PleGateRms.main_arg3) = m ((c.tc : Thread Cert.PleGateRms.nD Cert.PleGateRms.τ).loc Cert.PleGateRms.main_arg3)
      ∧ r.2.mem ((c.tc : Thread Cert.PleGateRms.nD Cert.PleGateRms.τ).loc Cert.PleGateRms.main_arg4) = m ((c.tc : Thread Cert.PleGateRms.nD Cert.PleGateRms.τ).loc Cert.PleGateRms.main_arg4))
      ∧ r.2.sem = fun _ => 0)

def quiescent_PleGateRmsIdeal [hPleGateRmsIdeal : Cert.PleGateRmsIdeal.Facts] : Prop :=
  ∀ (m : (ℓ : Loc Cert.PleGateRmsIdeal.nD Cert.PleGateRmsIdeal.τ Cert.PleGateRmsIdeal.sig) → Buf (Elt Ideal) ℓ) (g : Dev Cert.PleGateRmsIdeal.nD → PrngReg), Pre_PleGateRmsIdeal m →
    θ_run (Cert.PleGateRmsIdeal.defs (F := Ideal)) (onTc (τ := Cert.PleGateRmsIdeal.τ) (Cert.PleGateRmsIdeal.main (F := Ideal))) ⟨m, fun _ => 0, g⟩ (fun r => (∀ c : Dev Cert.PleGateRmsIdeal.nD,
      r.2.mem ((c.tc : Thread Cert.PleGateRmsIdeal.nD Cert.PleGateRmsIdeal.τ).loc Cert.PleGateRmsIdeal.main_arg0) = m ((c.tc : Thread Cert.PleGateRmsIdeal.nD Cert.PleGateRmsIdeal.τ).loc Cert.PleGateRmsIdeal.main_arg0)
      ∧ r.2.mem ((c.tc : Thread Cert.PleGateRmsIdeal.nD Cert.PleGateRmsIdeal.τ).loc Cert.PleGateRmsIdeal.main_arg1) = m ((c.tc : Thread Cert.PleGateRmsIdeal.nD Cert.PleGateRmsIdeal.τ).loc Cert.PleGateRmsIdeal.main_arg1)
      ∧ r.2.mem ((c.tc : Thread Cert.PleGateRmsIdeal.nD Cert.PleGateRmsIdeal.τ).loc Cert.PleGateRmsIdeal.main_arg2) = m ((c.tc : Thread Cert.PleGateRmsIdeal.nD Cert.PleGateRmsIdeal.τ).loc Cert.PleGateRmsIdeal.main_arg2)
      ∧ r.2.mem ((c.tc : Thread Cert.PleGateRmsIdeal.nD Cert.PleGateRmsIdeal.τ).loc Cert.PleGateRmsIdeal.main_arg3) = m ((c.tc : Thread Cert.PleGateRmsIdeal.nD Cert.PleGateRmsIdeal.τ).loc Cert.PleGateRmsIdeal.main_arg3)
      ∧ r.2.mem ((c.tc : Thread Cert.PleGateRmsIdeal.nD Cert.PleGateRmsIdeal.τ).loc Cert.PleGateRmsIdeal.main_arg4) = m ((c.tc : Thread Cert.PleGateRmsIdeal.nD Cert.PleGateRmsIdeal.τ).loc Cert.PleGateRmsIdeal.main_arg4))
      ∧ r.2.sem = fun _ => 0)

def quiescent_PleGateRmsRefIdeal [hPleGateRmsRefIdeal : Cert.PleGateRmsRefIdeal.Facts] : Prop :=
  ∀ (m : (ℓ : Loc Cert.PleGateRmsRefIdeal.nD Cert.PleGateRmsRefIdeal.τ Cert.PleGateRmsRefIdeal.sig) → Buf (Elt Ideal) ℓ) (g : Dev Cert.PleGateRmsRefIdeal.nD → PrngReg), Pre_PleGateRmsRefIdeal m →
    θ_run (Cert.PleGateRmsRefIdeal.defs (F := Ideal)) (onTc (τ := Cert.PleGateRmsRefIdeal.τ) (Cert.PleGateRmsRefIdeal.main (F := Ideal))) ⟨m, fun _ => 0, g⟩ (fun r => (∀ c : Dev Cert.PleGateRmsRefIdeal.nD,
      r.2.mem ((c.tc : Thread Cert.PleGateRmsRefIdeal.nD Cert.PleGateRmsRefIdeal.τ).loc Cert.PleGateRmsRefIdeal.main_arg0) = m ((c.tc : Thread Cert.PleGateRmsRefIdeal.nD Cert.PleGateRmsRefIdeal.τ).loc Cert.PleGateRmsRefIdeal.main_arg0)
      ∧ r.2.mem ((c.tc : Thread Cert.PleGateRmsRefIdeal.nD Cert.PleGateRmsRefIdeal.τ).loc Cert.PleGateRmsRefIdeal.main_arg1) = m ((c.tc : Thread Cert.PleGateRmsRefIdeal.nD Cert.PleGateRmsRefIdeal.τ).loc Cert.PleGateRmsRefIdeal.main_arg1)
      ∧ r.2.mem ((c.tc : Thread Cert.PleGateRmsRefIdeal.nD Cert.PleGateRmsRefIdeal.τ).loc Cert.PleGateRmsRefIdeal.main_arg2) = m ((c.tc : Thread Cert.PleGateRmsRefIdeal.nD Cert.PleGateRmsRefIdeal.τ).loc Cert.PleGateRmsRefIdeal.main_arg2)
      ∧ r.2.mem ((c.tc : Thread Cert.PleGateRmsRefIdeal.nD Cert.PleGateRmsRefIdeal.τ).loc Cert.PleGateRmsRefIdeal.main_arg3) = m ((c.tc : Thread Cert.PleGateRmsRefIdeal.nD Cert.PleGateRmsRefIdeal.τ).loc Cert.PleGateRmsRefIdeal.main_arg3)
      ∧ r.2.mem ((c.tc : Thread Cert.PleGateRmsRefIdeal.nD Cert.PleGateRmsRefIdeal.τ).loc Cert.PleGateRmsRefIdeal.main_arg4) = m ((c.tc : Thread Cert.PleGateRmsRefIdeal.nD Cert.PleGateRmsRefIdeal.τ).loc Cert.PleGateRmsRefIdeal.main_arg4))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2)
      ∧ r.2.mem ((c.tc : Thread Cert.PleGateRefIdeal.nD Cert.PleGateRefIdeal.τ).loc Cert.PleGateRefIdeal.main_arg3) = m ((c.tc : Thread Cert.PleGateRefIdeal.nD Cert.PleGateRefIdeal.τ).loc Cert.PleGateRefIdeal.main_arg3))
      ∧ r.2.sem = fun _ => 0)

def quiescent_GdnFwd [hGdnFwd : Cert.GdnFwd.Facts] : Prop :=
  ∀ (m : (ℓ : Loc Cert.GdnFwd.nD Cert.GdnFwd.τ Cert.GdnFwd.sig) → Buf (Elt Bits) ℓ) (g : Dev Cert.GdnFwd.nD → PrngReg), Pre_GdnFwd m →
    θ_run (Cert.GdnFwd.defs (F := Bits)) (onTc (τ := Cert.GdnFwd.τ) (Cert.GdnFwd.main (F := Bits))) ⟨m, fun _ => 0, g⟩ (fun r => (∀ c : Dev Cert.GdnFwd.nD,
      r.2.mem ((c.tc : Thread Cert.GdnFwd.nD Cert.GdnFwd.τ).loc Cert.GdnFwd.main_arg0) = m ((c.tc : Thread Cert.GdnFwd.nD Cert.GdnFwd.τ).loc Cert.GdnFwd.main_arg0)
      ∧ r.2.mem ((c.tc : Thread Cert.GdnFwd.nD Cert.GdnFwd.τ).loc Cert.GdnFwd.main_arg1) = m ((c.tc : Thread Cert.GdnFwd.nD Cert.GdnFwd.τ).loc Cert.GdnFwd.main_arg1)
      ∧ r.2.mem ((c.tc : Thread Cert.GdnFwd.nD Cert.GdnFwd.τ).loc Cert.GdnFwd.main_arg2) = m ((c.tc : Thread Cert.GdnFwd.nD Cert.GdnFwd.τ).loc Cert.GdnFwd.main_arg2))
      ∧ r.2.sem = fun _ => 0)

def quiescent_GdnFwdIdeal [hGdnFwdIdeal : Cert.GdnFwdIdeal.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg), Pre_GdnFwdIdeal m →
    θ_run (Cert.GdnFwdIdeal.defs (F := Ideal)) (onTc (τ := Cert.GdnFwdIdeal.τ) (Cert.GdnFwdIdeal.main (F := Ideal))) ⟨m, fun _ => 0, g⟩ (fun r => (∀ c : Dev Cert.GdnFwdIdeal.nD,
      r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
      ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
      ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2))
      ∧ r.2.sem = fun _ => 0)

def quiescent_MmDw [hMmDw : Cert.MmDw.Facts] : Prop :=
  ∀ (m : (ℓ : Loc Cert.MmDw.nD Cert.MmDw.τ Cert.MmDw.sig) → Buf (Elt Bits) ℓ) (g : Dev Cert.MmDw.nD → PrngReg), Pre_MmDw m →
    θ_run (Cert.MmDw.defs (F := Bits)) (onTc (τ := Cert.MmDw.τ) (Cert.MmDw.main (F := Bits))) ⟨m, fun _ => 0, g⟩ (fun r => (∀ c : Dev Cert.MmDw.nD,
      r.2.mem ((c.tc : Thread Cert.MmDw.nD Cert.MmDw.τ).loc Cert.MmDw.main_arg0) = m ((c.tc : Thread Cert.MmDw.nD Cert.MmDw.τ).loc Cert.MmDw.main_arg0)
      ∧ r.2.mem ((c.tc : Thread Cert.MmDw.nD Cert.MmDw.τ).loc Cert.MmDw.main_arg1) = m ((c.tc : Thread Cert.MmDw.nD Cert.MmDw.τ).loc Cert.MmDw.main_arg1))
      ∧ r.2.sem = fun _ => 0)

def quiescent_MmDwIdeal [hMmDwIdeal : Cert.MmDwIdeal.Facts] : Prop :=
  ∀ (m : (ℓ : Loc Cert.MmDwIdeal.nD Cert.MmDwIdeal.τ Cert.MmDwIdeal.sig) → Buf (Elt Ideal) ℓ) (g : Dev Cert.MmDwIdeal.nD → PrngReg), Pre_MmDwIdeal m →
    θ_run (Cert.MmDwIdeal.defs (F := Ideal)) (onTc (τ := Cert.MmDwIdeal.τ) (Cert.MmDwIdeal.main (F := Ideal))) ⟨m, fun _ => 0, g⟩ (fun r => (∀ c : Dev Cert.MmDwIdeal.nD,
      r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
      ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ r.2.sem = fun _ => 0)

def quiescent_MmDwRefIdeal [hMmDwRefIdeal : Cert.MmDwRefIdeal.Facts] : Prop :=
  ∀ (m : (ℓ : Loc Cert.MmDwRefIdeal.nD Cert.MmDwRefIdeal.τ Cert.MmDwRefIdeal.sig) → Buf (Elt Ideal) ℓ) (g : Dev Cert.MmDwRefIdeal.nD → PrngReg), Pre_MmDwRefIdeal m →
    θ_run (Cert.MmDwRefIdeal.defs (F := Ideal)) (onTc (τ := Cert.MmDwRefIdeal.τ) (Cert.MmDwRefIdeal.main (F := Ideal))) ⟨m, fun _ => 0, g⟩ (fun r => (∀ c : Dev Cert.MmDwRefIdeal.nD,
      r.2.mem ((c.tc : Thread Cert.MmDwRefIdeal.nD Cert.MmDwRefIdeal.τ).loc Cert.MmDwRefIdeal.main_arg0) = m ((c.tc : Thread Cert.MmDwRefIdeal.nD Cert.MmDwRefIdeal.τ).loc Cert.MmDwRefIdeal.main_arg0)
      ∧ r.2.mem ((c.tc : Thread Cert.MmDwRefIdeal.nD Cert.MmDwRefIdeal.τ).loc Cert.MmDwRefIdeal.main_arg1) = m ((c.tc : Thread Cert.MmDwRefIdeal.nD Cert.MmDwRefIdeal.τ).loc Cert.MmDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumDv [hSumDv : Cert.SumDv.Facts] : Prop :=
  ∀ (m : (ℓ : Loc Cert.SumDv.nD Cert.SumDv.τ Cert.SumDv.sig) → Buf (Elt Bits) ℓ) (g : Dev Cert.SumDv.nD → PrngReg), Pre_SumDv m →
    θ_run (Cert.SumDv.defs (F := Bits)) (onTc (τ := Cert.SumDv.τ) (Cert.SumDv.main (F := Bits))) ⟨m, fun _ => 0, g⟩ (fun r => (∀ c : Dev Cert.SumDv.nD,
      r.2.mem ((c.tc : Thread Cert.SumDv.nD Cert.SumDv.τ).loc Cert.SumDv.main_arg0) = m ((c.tc : Thread Cert.SumDv.nD Cert.SumDv.τ).loc Cert.SumDv.main_arg0)
      ∧ r.2.mem ((c.tc : Thread Cert.SumDv.nD Cert.SumDv.τ).loc Cert.SumDv.main_arg1) = m ((c.tc : Thread Cert.SumDv.nD Cert.SumDv.τ).loc Cert.SumDv.main_arg1))
      ∧ r.2.sem = fun _ => 0)

def quiescent_SumDvIdeal [hSumDvIdeal : Cert.SumDvIdeal.Facts] : Prop :=
  ∀ (m : (ℓ : Loc Cert.SumDvIdeal.nD Cert.SumDvIdeal.τ Cert.SumDvIdeal.sig) → Buf (Elt Ideal) ℓ) (g : Dev Cert.SumDvIdeal.nD → PrngReg), Pre_SumDvIdeal m →
    θ_run (Cert.SumDvIdeal.defs (F := Ideal)) (onTc (τ := Cert.SumDvIdeal.τ) (Cert.SumDvIdeal.main (F := Ideal))) ⟨m, fun _ => 0, g⟩ (fun r => (∀ c : Dev Cert.SumDvIdeal.nD,
      r.2.mem ((c.tc : Thread Cert.SumDvIdeal.nD Cert.SumDvIdeal.τ).loc Cert.SumDvIdeal.main_arg0) = m ((c.tc : Thread Cert.SumDvIdeal.nD Cert.SumDvIdeal.τ).loc Cert.SumDvIdeal.main_arg0)
      ∧ r.2.mem ((c.tc : Thread Cert.SumDvIdeal.nD Cert.SumDvIdeal.τ).loc Cert.SumDvIdeal.main_arg1) = m ((c.tc : Thread Cert.SumDvIdeal.nD Cert.SumDvIdeal.τ).loc Cert.SumDvIdeal.main_arg1))
      ∧ r.2.sem = fun _ => 0)

def quiescent_SumDvRefIdeal [hSumDvRefIdeal : Cert.SumDvRefIdeal.Facts] : Prop :=
  ∀ (m : (ℓ : Loc Cert.SumDvRefIdeal.nD Cert.SumDvRefIdeal.τ Cert.SumDvRefIdeal.sig) → Buf (Elt Ideal) ℓ) (g : Dev Cert.SumDvRefIdeal.nD → PrngReg), Pre_SumDvRefIdeal m →
    θ_run (Cert.SumDvRefIdeal.defs (F := Ideal)) (onTc (τ := Cert.SumDvRefIdeal.τ) (Cert.SumDvRefIdeal.main (F := Ideal))) ⟨m, fun _ => 0, g⟩ (fun r => (∀ c : Dev Cert.SumDvRefIdeal.nD,
      r.2.mem ((c.tc : Thread Cert.SumDvRefIdeal.nD Cert.SumDvRefIdeal.τ).loc Cert.SumDvRefIdeal.main_arg0) = m ((c.tc : Thread Cert.SumDvRefIdeal.nD Cert.SumDvRefIdeal.τ).loc Cert.SumDvRefIdeal.main_arg0)
      ∧ r.2.mem ((c.tc : Thread Cert.SumDvRefIdeal.nD Cert.SumDvRefIdeal.τ).loc Cert.SumDvRefIdeal.main_arg1) = m ((c.tc : Thread Cert.SumDvRefIdeal.nD Cert.SumDvRefIdeal.τ).loc Cert.SumDvRefIdeal.main_arg1))
      ∧ r.2.sem = fun _ => 0)

def quiescent_ChipSum [hChipSum : Cert.ChipSum.Facts] [hPre_on_mesh_cs : Cert.Pre_on_mesh_cs.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2)
      ∧ r.2.mem ((c.tc : Thread Cert.ChipSum.nD Cert.ChipSum.τ).loc Cert.ChipSum.main_arg3) = m ((c.tc : Thread Cert.ChipSum.nD Cert.ChipSum.τ).loc Cert.ChipSum.main_arg3))
      ∧ r.2.sem = fun _ => 0)

def quiescent_ChipSumIdeal [hChipSumIdeal : Cert.ChipSumIdeal.Facts] [hPre_on_mesh_cs : Cert.Pre_on_mesh_cs.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
      ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ r.2.sem = fun _ => 0)

def quiescent_ChipSumRefIdeal [hChipSumRefIdeal : Cert.ChipSumRefIdeal.Facts] [hPre_on_mesh_cs : Cert.Pre_on_mesh_cs.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2)
      ∧ r.2.mem ((c.tc : Thread Cert.ChipSumRefIdeal.nD Cert.ChipSumRefIdeal.τ).loc Cert.ChipSumRefIdeal.main_arg3) = m ((c.tc : Thread Cert.ChipSumRefIdeal.nD Cert.ChipSumRefIdeal.τ).loc Cert.ChipSumRefIdeal.main_arg3))
      ∧ r.2.sem = fun _ => 0)

def quiescent_AddSel [hAddSel : Cert.AddSel.Facts] [hPre_on_mesh : Cert.Pre_on_mesh.Facts] : Prop :=
  ∀ (m : (ℓ : Loc Cert.AddSel.nD Cert.AddSel.τ Cert.AddSel.sig) → Buf (Elt Bits) ℓ) (g : Dev Cert.AddSel.nD → PrngReg), Pre_AddSel m →
    θ_run (Cert.AddSel.defs (F := Bits)) (onTc (τ := Cert.AddSel.τ) (Cert.AddSel.main (F := Bits))) ⟨m, fun _ => 0, g⟩ (fun r => (∀ c : Dev Cert.AddSel.nD,
      r.2.mem ((c.tc : Thread Cert.AddSel.nD Cert.AddSel.τ).loc Cert.AddSel.main_arg0) = m ((c.tc : Thread Cert.AddSel.nD Cert.AddSel.τ).loc Cert.AddSel.main_arg0)
      ∧ r.2.mem ((c.tc : Thread Cert.AddSel.nD Cert.AddSel.τ).loc Cert.AddSel.main_arg1) = m ((c.tc : Thread Cert.AddSel.nD Cert.AddSel.τ).loc Cert.AddSel.main_arg1)
      ∧ r.2.mem ((c.tc : Thread Cert.AddSel.nD Cert.AddSel.τ).loc Cert.AddSel.main_arg2) = m ((c.tc : Thread Cert.AddSel.nD Cert.AddSel.τ).loc Cert.AddSel.main_arg2))
      ∧ r.2.sem = fun _ => 0)

def quiescent_AddSelIdeal [hAddSelIdeal : Cert.AddSelIdeal.Facts] [hPre_on_mesh : Cert.Pre_on_mesh.Facts] : Prop :=
  ∀ (m : (ℓ : Loc Cert.AddSelIdeal.nD Cert.AddSelIdeal.τ Cert.AddSelIdeal.sig) → Buf (Elt Ideal) ℓ) (g : Dev Cert.AddSelIdeal.nD → PrngReg), Pre_AddSelIdeal m →
    θ_run (Cert.AddSelIdeal.defs (F := Ideal)) (onTc (τ := Cert.AddSelIdeal.τ) (Cert.AddSelIdeal.main (F := Ideal))) ⟨m, fun _ => 0, g⟩ (fun r => (∀ c : Dev Cert.AddSelIdeal.nD,
      r.2.mem ((c.tc : Thread Cert.AddSelIdeal.nD Cert.AddSelIdeal.τ).loc Cert.AddSelIdeal.main_arg0) = m ((c.tc : Thread Cert.AddSelIdeal.nD Cert.AddSelIdeal.τ).loc Cert.AddSelIdeal.main_arg0)
      ∧ r.2.mem ((c.tc : Thread Cert.AddSelIdeal.nD Cert.AddSelIdeal.τ).loc Cert.AddSelIdeal.main_arg1) = m ((c.tc : Thread Cert.AddSelIdeal.nD Cert.AddSelIdeal.τ).loc Cert.AddSelIdeal.main_arg1)
      ∧ r.2.mem ((c.tc : Thread Cert.AddSelIdeal.nD Cert.AddSelIdeal.τ).loc Cert.AddSelIdeal.main_arg2) = m ((c.tc : Thread Cert.AddSelIdeal.nD Cert.AddSelIdeal.τ).loc Cert.AddSelIdeal.main_arg2))
      ∧ r.2.sem = fun _ => 0)

def quiescent_AddSelRefIdeal [hAddSelRefIdeal : Cert.AddSelRefIdeal.Facts] [hPre_on_mesh : Cert.Pre_on_mesh.Facts] : Prop :=
  ∀ (m : (ℓ : Loc Cert.AddSelRefIdeal.nD Cert.AddSelRefIdeal.τ Cert.AddSelRefIdeal.sig) → Buf (Elt Ideal) ℓ) (g : Dev Cert.AddSelRefIdeal.nD → PrngReg), Pre_AddSelRefIdeal m →
    θ_run (Cert.AddSelRefIdeal.defs (F := Ideal)) (onTc (τ := Cert.AddSelRefIdeal.τ) (Cert.AddSelRefIdeal.main (F := Ideal))) ⟨m, fun _ => 0, g⟩ (fun r => (∀ c : Dev Cert.AddSelRefIdeal.nD,
      r.2.mem ((c.tc : Thread Cert.AddSelRefIdeal.nD Cert.AddSelRefIdeal.τ).loc Cert.AddSelRefIdeal.main_arg0) = m ((c.tc : Thread Cert.AddSelRefIdeal.nD Cert.AddSelRefIdeal.τ).loc Cert.AddSelRefIdeal.main_arg0)
      ∧ r.2.mem ((c.tc : Thread Cert.AddSelRefIdeal.nD Cert.AddSelRefIdeal.τ).loc Cert.AddSelRefIdeal.main_arg1) = m ((c.tc : Thread Cert.AddSelRefIdeal.nD Cert.AddSelRefIdeal.τ).loc Cert.AddSelRefIdeal.main_arg1)
      ∧ r.2.mem ((c.tc : Thread Cert.AddSelRefIdeal.nD Cert.AddSelRefIdeal.τ).loc Cert.AddSelRefIdeal.main_arg2) = m ((c.tc : Thread Cert.AddSelRefIdeal.nD Cert.AddSelRefIdeal.τ).loc Cert.AddSelRefIdeal.main_arg2))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4))
      ∧ r.2.sem = fun _ => 0)

def preserves_PleBwd_PleBwdIdeal : Prop :=
  True

def algebraic_PleBwdIdeal_PleRefIdeal [hPleBwdIdeal : Cert.PleBwdIdeal.Facts] [hPleRefIdeal : Cert.PleRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleBwdIdeal m →
    (∀ c : Dev Cert.PleBwdIdeal.nD,
      m' ((c.tc : Thread Cert.PleRefIdeal.nD Cert.PleRefIdeal.τ).loc Cert.PleRefIdeal.main_arg0) = m ((c.tc : Thread Cert.PleBwdIdeal.nD Cert.PleBwdIdeal.τ).loc Cert.PleBwdIdeal.main_arg0)
      ∧ m' ((c.tc : Thread Cert.PleRefIdeal.nD Cert.PleRefIdeal.τ).loc Cert.PleRefIdeal.main_arg1) = m ((c.tc : Thread Cert.PleBwdIdeal.nD Cert.PleBwdIdeal.τ).loc Cert.PleBwdIdeal.main_arg1)
      ∧ m' ((c.tc : Thread Cert.PleRefIdeal.nD Cert.PleRefIdeal.τ).loc Cert.PleRefIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_SbBwd_SbBwdIdeal : Prop :=
  IdealRules.named_const.Statement Cert.SbBwdIdeal.κ "exit" .f32 0xC2D20000#32 ⊥

def algebraic_SbBwdIdeal_SbRefIdeal_pre_finite_sb [hSbBwdIdeal : Cert.SbBwdIdeal.Facts] [hSbRefIdeal : Cert.SbRefIdeal.Facts] [hPre_finite_sb : Cert.Pre_finite_sb.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbBwdIdeal_finite_sb m →
    (∀ c : Dev Cert.SbBwdIdeal.nD,
      m' ((c.tc : Thread Cert.SbRefIdeal.nD Cert.SbRefIdeal.τ).loc Cert.SbRefIdeal.main_arg0) = m ((c.tc : Thread Cert.SbBwdIdeal.nD Cert.SbBwdIdeal.τ).loc Cert.SbBwdIdeal.main_arg0)
      ∧ m' ((c.tc : Thread Cert.SbRefIdeal.nD Cert.SbRefIdeal.τ).loc Cert.SbRefIdeal.main_arg1) = m ((c.tc : Thread Cert.SbBwdIdeal.nD Cert.SbBwdIdeal.τ).loc Cert.SbBwdIdeal.main_arg1)
      ∧ m' ((c.tc : Thread Cert.SbRefIdeal.nD Cert.SbRefIdeal.τ).loc Cert.SbRefIdeal.main_arg2) = m ((c.tc : Thread Cert.SbBwdIdeal.nD Cert.SbBwdIdeal.τ).loc Cert.SbBwdIdeal.main_arg2)
      ∧ m' ((c.tc : Thread Cert.SbRefIdeal.nD Cert.SbRefIdeal.τ).loc Cert.SbRefIdeal.main_arg3) = m ((c.tc : Thread Cert.SbBwdIdeal.nD Cert.SbBwdIdeal.τ).loc Cert.SbBwdIdeal.main_arg3)) →
    ∃ (v0 : (c : Dev Cert.SbBwdIdeal.nD) → Buf (Elt Ideal) ((c.tc : Thread Cert.SbBwdIdeal.nD Cert.SbBwdIdeal.τ).loc Cert.SbBwdIdeal.main_v0_0)) (v1 : (c : Dev Cert.SbBwdIdeal.nD) → Buf (Elt Ideal) ((c.tc : Thread Cert.SbBwdIdeal.nD Cert.SbBwdIdeal.τ).loc Cert.SbBwdIdeal.main_v0_1)) (v2 : (c : Dev Cert.SbBwdIdeal.nD) → Buf (Elt Ideal) ((c.tc : Thread Cert.SbBwdIdeal.nD Cert.SbBwdIdeal.τ).loc Cert.SbBwdIdeal.main_v0_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v0_0) = v0 c
          ∧ r.2.mem ((c.tc : Thread Cert.SbBwdIdeal.nD Cert.SbBwdIdeal.τ).loc Cert.SbBwdIdeal.main_v0_1) = v1 c
          ∧ r.2.mem ((c.tc : Thread Cert.SbBwdIdeal.nD Cert.SbBwdIdeal.τ).loc Cert.SbBwdIdeal.main_v0_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
          ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
          ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v52) = v0 c
          ∧ r.2.mem ((c.tc : Thread Cert.SbRefIdeal.nD Cert.SbRefIdeal.τ).loc Cert.SbRefIdeal.main_v50) = v1 c
          ∧ r.2.mem ((c.tc : Thread Cert.SbRefIdeal.nD Cert.SbRefIdeal.τ).loc Cert.SbRefIdeal.main_v48) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_SbFwd_SbFwdIdeal : Prop :=
  IdealRules.named_const.Statement Cert.SbFwdIdeal.κ "exit" .f32 0xC2D20000#32 ⊥

def algebraic_SbFwdIdeal_SbFwdRefIdeal_pre_finite_sf [hSbFwdIdeal : Cert.SbFwdIdeal.Facts] [hSbFwdRefIdeal : Cert.SbFwdRefIdeal.Facts] [hPre_finite_sf : Cert.Pre_finite_sf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_sf m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)
      ∧ m' ((c.tc : Thread Cert.SbFwdRefIdeal.nD Cert.SbFwdRefIdeal.τ).loc Cert.SbFwdRefIdeal.main_arg2) = m ((c.tc : Thread Cert.SbFwdIdeal.nD Cert.SbFwdIdeal.τ).loc Cert.SbFwdIdeal.main_arg2)) →
    ∃ (v0 : (c : Dev Cert.SbFwdIdeal.nD) → Buf (Elt Ideal) ((c.tc : Thread Cert.SbFwdIdeal.nD Cert.SbFwdIdeal.τ).loc Cert.SbFwdIdeal.main_v0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v29) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1)
          ∧ r.2.mem ((c.tc : Thread Cert.SbFwdRefIdeal.nD Cert.SbFwdRefIdeal.τ).loc Cert.SbFwdRefIdeal.main_arg2) = m' ((c.tc : Thread Cert.SbFwdRefIdeal.nD Cert.SbFwdRefIdeal.τ).loc Cert.SbFwdRefIdeal.main_arg2))

def preserves_RmsBwd_RmsBwdIdeal : Prop :=
  True

def algebraic_RmsBwdIdeal_RmsRefIdeal [hRmsBwdIdeal : Cert.RmsBwdIdeal.Facts] [hRmsRefIdeal : Cert.RmsRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_HeadK_HeadKIdeal : Prop :=
  True

def algebraic_HeadKIdeal_HeadKRefIdeal [hHeadKIdeal : Cert.HeadKIdeal.Facts] [hHeadKRefIdeal : Cert.HeadKRefIdeal.Facts] : Prop :=
  ∀ (m : (ℓ : Loc Cert.HeadKIdeal.nD Cert.HeadKIdeal.τ Cert.HeadKIdeal.sig) → Buf (Elt Ideal) ℓ) (g : Dev Cert.HeadKIdeal.nD → PrngReg)
    (m' : (ℓ : Loc Cert.HeadKRefIdeal.nD Cert.HeadKRefIdeal.τ Cert.HeadKRefIdeal.sig) → Buf (Elt Ideal) ℓ) (g' : Dev Cert.HeadKRefIdeal.nD → PrngReg), Pre_HeadKIdeal m →
    (∀ c : Dev Cert.HeadKIdeal.nD,
      m' ((c.tc : Thread Cert.HeadKRefIdeal.nD Cert.HeadKRefIdeal.τ).loc Cert.HeadKRefIdeal.main_arg0) = m ((c.tc : Thread Cert.HeadKIdeal.nD Cert.HeadKIdeal.τ).loc Cert.HeadKIdeal.main_arg0)
      ∧ m' ((c.tc : Thread Cert.HeadKRefIdeal.nD Cert.HeadKRefIdeal.τ).loc Cert.HeadKRefIdeal.main_arg1) = m ((c.tc : Thread Cert.HeadKIdeal.nD Cert.HeadKIdeal.τ).loc Cert.HeadKIdeal.main_arg1)
      ∧ m' ((c.tc : Thread Cert.HeadKRefIdeal.nD Cert.HeadKRefIdeal.τ).loc Cert.HeadKRefIdeal.main_arg2) = m ((c.tc : Thread Cert.HeadKIdeal.nD Cert.HeadKIdeal.τ).loc Cert.HeadKIdeal.main_arg2)
      ∧ m' ((c.tc : Thread Cert.HeadKRefIdeal.nD Cert.HeadKRefIdeal.τ).loc Cert.HeadKRefIdeal.main_arg3) = m ((c.tc : Thread Cert.HeadKIdeal.nD Cert.HeadKIdeal.τ).loc Cert.HeadKIdeal.main_arg3)) →
    ∃ (v0 : (c : Dev Cert.HeadKIdeal.nD) → Buf (Elt Ideal) ((c.tc : Thread Cert.HeadKIdeal.nD Cert.HeadKIdeal.τ).loc Cert.HeadKIdeal.main_v1_0)) (v1 : (c : Dev Cert.HeadKIdeal.nD) → Buf (Elt Ideal) ((c.tc : Thread Cert.HeadKIdeal.nD Cert.HeadKIdeal.τ).loc Cert.HeadKIdeal.main_v1_1)),
      θ_run (Cert.HeadKIdeal.defs (F := Ideal)) (onTc (τ := Cert.HeadKIdeal.τ) (Cert.HeadKIdeal.main (F := Ideal))) ⟨m, fun _ => 0, g⟩ (fun r => ∀ c : Dev Cert.HeadKIdeal.nD,
          r.2.mem ((c.tc : Thread Cert.HeadKIdeal.nD Cert.HeadKIdeal.τ).loc Cert.HeadKIdeal.main_v1_0) = v0 c
          ∧ r.2.mem ((c.tc : Thread Cert.HeadKIdeal.nD Cert.HeadKIdeal.τ).loc Cert.HeadKIdeal.main_v1_1) = v1 c
          ∧ r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
          ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
          ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
          ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3))
      ∧ θ_run (Cert.HeadKRefIdeal.defs (F := Ideal)) (onTc (τ := Cert.HeadKRefIdeal.τ) (Cert.HeadKRefIdeal.main (F := Ideal))) ⟨m', fun _ => 0, g'⟩ (fun r => ∀ c : Dev Cert.HeadKRefIdeal.nD,
          r.2.mem ((c.tc : Thread Cert.HeadKRefIdeal.nD Cert.HeadKRefIdeal.τ).loc Cert.HeadKRefIdeal.main_v44) = v0 c
          ∧ r.2.mem ((c.tc : Thread Cert.HeadKRefIdeal.nD Cert.HeadKRefIdeal.τ).loc Cert.HeadKRefIdeal.main_v45) = v1 c
          ∧ r.2.mem ((c.tc : Thread Cert.HeadKRefIdeal.nD Cert.HeadKRefIdeal.τ).loc Cert.HeadKRefIdeal.main_arg0) = m' ((c.tc : Thread Cert.HeadKRefIdeal.nD Cert.HeadKRefIdeal.τ).loc Cert.HeadKRefIdeal.main_arg0)
          ∧ r.2.mem ((c.tc : Thread Cert.HeadKRefIdeal.nD Cert.HeadKRefIdeal.τ).loc Cert.HeadKRefIdeal.main_arg1) = m' ((c.tc : Thread Cert.HeadKRefIdeal.nD Cert.HeadKRefIdeal.τ).loc Cert.HeadKRefIdeal.main_arg1)
          ∧ r.2.mem ((c.tc : Thread Cert.HeadKRefIdeal.nD Cert.HeadKRefIdeal.τ).loc Cert.HeadKRefIdeal.main_arg2) = m' ((c.tc : Thread Cert.HeadKRefIdeal.nD Cert.HeadKRefIdeal.τ).loc Cert.HeadKRefIdeal.main_arg2)
          ∧ r.2.mem ((c.tc : Thread Cert.HeadKRefIdeal.nD Cert.HeadKRefIdeal.τ).loc Cert.HeadKRefIdeal.main_arg3) = m' ((c.tc : Thread Cert.HeadKRefIdeal.nD Cert.HeadKRefIdeal.τ).loc Cert.HeadKRefIdeal.main_arg3))

def preserves_HeadQ_HeadQIdeal : Prop :=
  True

def algebraic_HeadQIdeal_HeadQRefIdeal [hHeadQIdeal : Cert.HeadQIdeal.Facts] [hHeadQRefIdeal : Cert.HeadQRefIdeal.Facts] : Prop :=
  ∀ (m : (ℓ : Loc Cert.HeadQIdeal.nD Cert.HeadQIdeal.τ Cert.HeadQIdeal.sig) → Buf (Elt Ideal) ℓ) (g : Dev Cert.HeadQIdeal.nD → PrngReg)
    (m' : (ℓ : Loc Cert.HeadQRefIdeal.nD Cert.HeadQRefIdeal.τ Cert.HeadQRefIdeal.sig) → Buf (Elt Ideal) ℓ) (g' : Dev Cert.HeadQRefIdeal.nD → PrngReg), Pre_HeadQIdeal m →
    (∀ c : Dev Cert.HeadQIdeal.nD,
      m' ((c.tc : Thread Cert.HeadQRefIdeal.nD Cert.HeadQRefIdeal.τ).loc Cert.HeadQRefIdeal.main_arg0) = m ((c.tc : Thread Cert.HeadQIdeal.nD Cert.HeadQIdeal.τ).loc Cert.HeadQIdeal.main_arg0)
      ∧ m' ((c.tc : Thread Cert.HeadQRefIdeal.nD Cert.HeadQRefIdeal.τ).loc Cert.HeadQRefIdeal.main_arg1) = m ((c.tc : Thread Cert.HeadQIdeal.nD Cert.HeadQIdeal.τ).loc Cert.HeadQIdeal.main_arg1)
      ∧ m' ((c.tc : Thread Cert.HeadQRefIdeal.nD Cert.HeadQRefIdeal.τ).loc Cert.HeadQRefIdeal.main_arg2) = m ((c.tc : Thread Cert.HeadQIdeal.nD Cert.HeadQIdeal.τ).loc Cert.HeadQIdeal.main_arg2)) →
    ∃ (v0 : (c : Dev Cert.HeadQIdeal.nD) → Buf (Elt Ideal) ((c.tc : Thread Cert.HeadQIdeal.nD Cert.HeadQIdeal.τ).loc Cert.HeadQIdeal.main_v1_0)) (v1 : (c : Dev Cert.HeadQIdeal.nD) → Buf (Elt Ideal) ((c.tc : Thread Cert.HeadQIdeal.nD Cert.HeadQIdeal.τ).loc Cert.HeadQIdeal.main_v1_1)),
      θ_run (Cert.HeadQIdeal.defs (F := Ideal)) (onTc (τ := Cert.HeadQIdeal.τ) (Cert.HeadQIdeal.main (F := Ideal))) ⟨m, fun _ => 0, g⟩ (fun r => ∀ c : Dev Cert.HeadQIdeal.nD,
          r.2.mem ((c.tc : Thread Cert.HeadQIdeal.nD Cert.HeadQIdeal.τ).loc Cert.HeadQIdeal.main_v1_0) = v0 c
          ∧ r.2.mem ((c.tc : Thread Cert.HeadQIdeal.nD Cert.HeadQIdeal.τ).loc Cert.HeadQIdeal.main_v1_1) = v1 c
          ∧ r.2.mem ((c.tc : Thread Cert.HeadQIdeal.nD Cert.HeadQIdeal.τ).loc Cert.HeadQIdeal.main_arg0) = m ((c.tc : Thread Cert.HeadQIdeal.nD Cert.HeadQIdeal.τ).loc Cert.HeadQIdeal.main_arg0)
          ∧ r.2.mem ((c.tc : Thread Cert.HeadQIdeal.nD Cert.HeadQIdeal.τ).loc Cert.HeadQIdeal.main_arg1) = m ((c.tc : Thread Cert.HeadQIdeal.nD Cert.HeadQIdeal.τ).loc Cert.HeadQIdeal.main_arg1)
          ∧ r.2.mem ((c.tc : Thread Cert.HeadQIdeal.nD Cert.HeadQIdeal.τ).loc Cert.HeadQIdeal.main_arg2) = m ((c.tc : Thread Cert.HeadQIdeal.nD Cert.HeadQIdeal.τ).loc Cert.HeadQIdeal.main_arg2))
      ∧ θ_run (Cert.HeadQRefIdeal.defs (F := Ideal)) (onTc (τ := Cert.HeadQRefIdeal.τ) (Cert.HeadQRefIdeal.main (F := Ideal))) ⟨m', fun _ => 0, g'⟩ (fun r => ∀ c : Dev Cert.HeadQRefIdeal.nD,
          r.2.mem ((c.tc : Thread Cert.HeadQRefIdeal.nD Cert.HeadQRefIdeal.τ).loc Cert.HeadQRefIdeal.main_v44) = v0 c
          ∧ r.2.mem ((c.tc : Thread Cert.HeadQRefIdeal.nD Cert.HeadQRefIdeal.τ).loc Cert.HeadQRefIdeal.main_v45) = v1 c
          ∧ r.2.mem ((c.tc : Thread Cert.HeadQRefIdeal.nD Cert.HeadQRefIdeal.τ).loc Cert.HeadQRefIdeal.main_arg0) = m' ((c.tc : Thread Cert.HeadQRefIdeal.nD Cert.HeadQRefIdeal.τ).loc Cert.HeadQRefIdeal.main_arg0)
          ∧ r.2.mem ((c.tc : Thread Cert.HeadQRefIdeal.nD Cert.HeadQRefIdeal.τ).loc Cert.HeadQRefIdeal.main_arg1) = m' ((c.tc : Thread Cert.HeadQRefIdeal.nD Cert.HeadQRefIdeal.τ).loc Cert.HeadQRefIdeal.main_arg1)
          ∧ r.2.mem ((c.tc : Thread Cert.HeadQRefIdeal.nD Cert.HeadQRefIdeal.τ).loc Cert.HeadQRefIdeal.main_arg2) = m' ((c.tc : Thread Cert.HeadQRefIdeal.nD Cert.HeadQRefIdeal.τ).loc Cert.HeadQRefIdeal.main_arg2))

def preserves_GatesBwd_GatesBwdIdeal : Prop :=
  True

def algebraic_GatesBwdIdeal_GatesRefIdeal_pre_defined_gates [hGatesBwdIdeal : Cert.GatesBwdIdeal.Facts] [hGatesRefIdeal : Cert.GatesRefIdeal.Facts] [hPre_defined_gates : Cert.Pre_defined_gates.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesBwdIdeal_defined_gates m →
    (∀ c : Dev Cert.GatesBwdIdeal.nD,
      m' ((c.tc : Thread Cert.GatesRefIdeal.nD Cert.GatesRefIdeal.τ).loc Cert.GatesRefIdeal.main_arg0) = m ((c.tc : Thread Cert.GatesBwdIdeal.nD Cert.GatesBwdIdeal.τ).loc Cert.GatesBwdIdeal.main_arg0)
      ∧ m' ((c.tc : Thread Cert.GatesRefIdeal.nD Cert.GatesRefIdeal.τ).loc Cert.GatesRefIdeal.main_arg1) = m ((c.tc : Thread Cert.GatesBwdIdeal.nD Cert.GatesBwdIdeal.τ).loc Cert.GatesBwdIdeal.main_arg1)
      ∧ m' ((c.tc : Thread Cert.GatesRefIdeal.nD Cert.GatesRefIdeal.τ).loc Cert.GatesRefIdeal.main_arg2) = m ((c.tc : Thread Cert.GatesBwdIdeal.nD Cert.GatesBwdIdeal.τ).loc Cert.GatesBwdIdeal.main_arg2)
      ∧ m' ((c.tc : Thread Cert.GatesRefIdeal.nD Cert.GatesRefIdeal.τ).loc Cert.GatesRefIdeal.main_arg3) = m ((c.tc : Thread Cert.GatesBwdIdeal.nD Cert.GatesBwdIdeal.τ).loc Cert.GatesBwdIdeal.main_arg3)
      ∧ m' ((c.tc : Thread Cert.GatesRefIdeal.nD Cert.GatesRefIdeal.τ).loc Cert.GatesRefIdeal.main_arg4) = m ((c.tc : Thread Cert.GatesBwdIdeal.nD Cert.GatesBwdIdeal.τ).loc Cert.GatesBwdIdeal.main_arg4)) →
    ∃ (v0 : (c : Dev Cert.GatesBwdIdeal.nD) → Buf (Elt Ideal) ((c.tc : Thread Cert.GatesBwdIdeal.nD Cert.GatesBwdIdeal.τ).loc Cert.GatesBwdIdeal.main_v2_0)) (v1 : (c : Dev Cert.GatesBwdIdeal.nD) → Buf (Elt Ideal) ((c.tc : Thread Cert.GatesBwdIdeal.nD Cert.GatesBwdIdeal.τ).loc Cert.GatesBwdIdeal.main_v2_1)) (v2 : (c : Dev Cert.GatesBwdIdeal.nD) → Buf (Elt Ideal) ((c.tc : Thread Cert.GatesBwdIdeal.nD Cert.GatesBwdIdeal.τ).loc Cert.GatesBwdIdeal.main_v2_2)),
      θ_run (Cert.GatesBwdIdeal.defs (F := Ideal)) (onTc (τ := Cert.GatesBwdIdeal.τ) (Cert.GatesBwdIdeal.main (F := Ideal))) ⟨m, fun _ => 0, g⟩ (fun r => ∀ c : Dev Cert.GatesBwdIdeal.nD,
          r.2.mem ((c.tc : Thread Cert.GatesBwdIdeal.nD Cert.GatesBwdIdeal.τ).loc Cert.GatesBwdIdeal.main_v2_0) = v0 c
          ∧ r.2.mem ((c.tc : Thread Cert.GatesBwdIdeal.nD Cert.GatesBwdIdeal.τ).loc Cert.GatesBwdIdeal.main_v2_1) = v1 c
          ∧ r.2.mem ((c.tc : Thread Cert.GatesBwdIdeal.nD Cert.GatesBwdIdeal.τ).loc Cert.GatesBwdIdeal.main_v2_2) = v2 c
          ∧ r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
          ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
          ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
          ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
          ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v43) = v0 c
          ∧ r.2.mem ((c.tc : Thread Cert.GatesRefIdeal.nD Cert.GatesRefIdeal.τ).loc Cert.GatesRefIdeal.main_v44) = v1 c
          ∧ r.2.mem ((c.tc : Thread Cert.GatesRefIdeal.nD Cert.GatesRefIdeal.τ).loc Cert.GatesRefIdeal.main_v45) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_ConvBwd_ConvBwdIdeal : Prop :=
  True

def algebraic_ConvBwdIdeal_ConvRefIdeal_pre_finite_conv [hConvBwdIdeal : Cert.ConvBwdIdeal.Facts] [hConvRefIdeal : Cert.ConvRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_finite_conv m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v93) = v0 c
          ∧ r.2.mem ((c.tc : Thread Cert.ConvRefIdeal.nD Cert.ConvRefIdeal.τ).loc Cert.ConvRefIdeal.main_v86) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)) →
    ∃ (v0 : (c : Dev Cert.FfnBwdIdeal.nD) → Buf (Elt Ideal) ((c.tc : Thread Cert.FfnBwdIdeal.nD Cert.FfnBwdIdeal.τ).loc Cert.FfnBwdIdeal.main_v1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v1) = v0 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_LossHead_LossHeadIdeal : Prop :=
  True

def algebraic_LossHeadIdeal_LossRefIdeal [hLossHeadIdeal : Cert.LossHeadIdeal.Facts] [hLossRefIdeal : Cert.LossRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v0_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)
      ∧ m' ((c.tc : Thread Cert.GateNormRefIdeal.nD Cert.GateNormRefIdeal.τ).loc Cert.GateNormRefIdeal.main_arg3) = m ((c.tc : Thread Cert.GateNormIdeal.nD Cert.GateNormIdeal.τ).loc Cert.GateNormIdeal.main_arg3)) →
    ∃ (v0 : (c : Dev Cert.GateNormIdeal.nD) → Buf (Elt Ideal) ((c.tc : Thread Cert.GateNormIdeal.nD Cert.GateNormIdeal.τ).loc Cert.GateNormIdeal.main_v1_0)) (v1 : (c : Dev Cert.GateNormIdeal.nD) → Buf (Elt Ideal) ((c.tc : Thread Cert.GateNormIdeal.nD Cert.GateNormIdeal.τ).loc Cert.GateNormIdeal.main_v2)) (v2 : (c : Dev Cert.GateNormIdeal.nD) → Buf (Elt Ideal) ((c.tc : Thread Cert.GateNormIdeal.nD Cert.GateNormIdeal.τ).loc Cert.GateNormIdeal.main_v1_2)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v1_0) = v0 c
          ∧ r.2.mem ((c.tc : Thread Cert.GateNormIdeal.nD Cert.GateNormIdeal.τ).loc Cert.GateNormIdeal.main_v2) = v1 c
          ∧ r.2.mem ((c.tc : Thread Cert.GateNormIdeal.nD Cert.GateNormIdeal.τ).loc Cert.GateNormIdeal.main_v1_2) = v2 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v47) = v0 c
          ∧ r.2.mem ((c.tc : Thread Cert.GateNormRefIdeal.nD Cert.GateNormRefIdeal.τ).loc Cert.GateNormRefIdeal.main_v49) = v1 c
          ∧ r.2.mem ((c.tc : Thread Cert.GateNormRefIdeal.nD Cert.GateNormRefIdeal.τ).loc Cert.GateNormRefIdeal.main_v50) = v2 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2)
          ∧ r.2.mem ((c.tc : Thread Cert.GateNormRefIdeal.nD Cert.GateNormRefIdeal.τ).loc Cert.GateNormRefIdeal.main_arg3) = m' ((c.tc : Thread Cert.GateNormRefIdeal.nD Cert.GateNormRefIdeal.τ).loc Cert.GateNormRefIdeal.main_arg3))

def preserves_AbDx_AbDxIdeal : Prop :=
  True

def algebraic_AbDxIdeal_AbDxRefIdeal [hAbDxIdeal : Cert.AbDxIdeal.Facts] [hAbDxRefIdeal : Cert.AbDxRefIdeal.Facts] : Prop :=
  ∀ (m : (ℓ : Loc Cert.AbDxIdeal.nD Cert.AbDxIdeal.τ Cert.AbDxIdeal.sig) → Buf (Elt Ideal) ℓ) (g : Dev Cert.AbDxIdeal.nD → PrngReg)
    (m' : (ℓ : Loc Cert.AbDxRefIdeal.nD Cert.AbDxRefIdeal.τ Cert.AbDxRefIdeal.sig) → Buf (Elt Ideal) ℓ) (g' : Dev Cert.AbDxRefIdeal.nD → PrngReg), Pre_AbDxIdeal m →
    (∀ c : Dev Cert.AbDxIdeal.nD,
      m' ((c.tc : Thread Cert.AbDxRefIdeal.nD Cert.AbDxRefIdeal.τ).loc Cert.AbDxRefIdeal.main_arg0) = m ((c.tc : Thread Cert.AbDxIdeal.nD Cert.AbDxIdeal.τ).loc Cert.AbDxIdeal.main_arg0)
      ∧ m' ((c.tc : Thread Cert.AbDxRefIdeal.nD Cert.AbDxRefIdeal.τ).loc Cert.AbDxRefIdeal.main_arg1) = m ((c.tc : Thread Cert.AbDxIdeal.nD Cert.AbDxIdeal.τ).loc Cert.AbDxIdeal.main_arg1)
      ∧ m' ((c.tc : Thread Cert.AbDxRefIdeal.nD Cert.AbDxRefIdeal.τ).loc Cert.AbDxRefIdeal.main_arg2) = m ((c.tc : Thread Cert.AbDxIdeal.nD Cert.AbDxIdeal.τ).loc Cert.AbDxIdeal.main_arg2)) →
    ∃ (v0 : (c : Dev Cert.AbDxIdeal.nD) → Buf (Elt Ideal) ((c.tc : Thread Cert.AbDxIdeal.nD Cert.AbDxIdeal.τ).loc Cert.AbDxIdeal.main_v0)),
      θ_run (Cert.AbDxIdeal.defs (F := Ideal)) (onTc (τ := Cert.AbDxIdeal.τ) (Cert.AbDxIdeal.main (F := Ideal))) ⟨m, fun _ => 0, g⟩ (fun r => ∀ c : Dev Cert.AbDxIdeal.nD,
          r.2.mem ((c.tc : Thread Cert.AbDxIdeal.nD Cert.AbDxIdeal.τ).loc Cert.AbDxIdeal.main_v0) = v0 c
          ∧ r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
          ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1)
          ∧ r.2.mem ((c.tc : Thread Cert.AbDxIdeal.nD Cert.AbDxIdeal.τ).loc Cert.AbDxIdeal.main_arg2) = m ((c.tc : Thread Cert.AbDxIdeal.nD Cert.AbDxIdeal.τ).loc Cert.AbDxIdeal.main_arg2))
      ∧ θ_run (Cert.AbDxRefIdeal.defs (F := Ideal)) (onTc (τ := Cert.AbDxRefIdeal.τ) (Cert.AbDxRefIdeal.main (F := Ideal))) ⟨m', fun _ => 0, g'⟩ (fun r => ∀ c : Dev Cert.AbDxRefIdeal.nD,
          r.2.mem ((c.tc : Thread Cert.AbDxRefIdeal.nD Cert.AbDxRefIdeal.τ).loc Cert.AbDxRefIdeal.main_v7) = v0 c
          ∧ r.2.mem ((c.tc : Thread Cert.AbDxRefIdeal.nD Cert.AbDxRefIdeal.τ).loc Cert.AbDxRefIdeal.main_arg0) = m' ((c.tc : Thread Cert.AbDxRefIdeal.nD Cert.AbDxRefIdeal.τ).loc Cert.AbDxRefIdeal.main_arg0)
          ∧ r.2.mem ((c.tc : Thread Cert.AbDxRefIdeal.nD Cert.AbDxRefIdeal.τ).loc Cert.AbDxRefIdeal.main_arg1) = m' ((c.tc : Thread Cert.AbDxRefIdeal.nD Cert.AbDxRefIdeal.τ).loc Cert.AbDxRefIdeal.main_arg1)
          ∧ r.2.mem ((c.tc : Thread Cert.AbDxRefIdeal.nD Cert.AbDxRefIdeal.τ).loc Cert.AbDxRefIdeal.main_arg2) = m' ((c.tc : Thread Cert.AbDxRefIdeal.nD Cert.AbDxRefIdeal.τ).loc Cert.AbDxRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_HeadKFwd_HeadKFwdIdeal : Prop :=
  True

def algebraic_HeadKFwdIdeal_HeadKFwdRefIdeal [hHeadKFwdIdeal : Cert.HeadKFwdIdeal.Facts] [hHeadKFwdRefIdeal : Cert.HeadKFwdRefIdeal.Facts] : Prop :=
  ∀ (m : (ℓ : Loc Cert.HeadKFwdIdeal.nD Cert.HeadKFwdIdeal.τ Cert.HeadKFwdIdeal.sig) → Buf (Elt Ideal) ℓ) (g : Dev Cert.HeadKFwdIdeal.nD → PrngReg)
    (m' : (ℓ : Loc Cert.HeadKFwdRefIdeal.nD Cert.HeadKFwdRefIdeal.τ Cert.HeadKFwdRefIdeal.sig) → Buf (Elt Ideal) ℓ) (g' : Dev Cert.HeadKFwdRefIdeal.nD → PrngReg), Pre_HeadKFwdIdeal m →
    (∀ c : Dev Cert.HeadKFwdIdeal.nD,
      m' ((c.tc : Thread Cert.HeadKFwdRefIdeal.nD Cert.HeadKFwdRefIdeal.τ).loc Cert.HeadKFwdRefIdeal.main_arg0) = m ((c.tc : Thread Cert.HeadKFwdIdeal.nD Cert.HeadKFwdIdeal.τ).loc Cert.HeadKFwdIdeal.main_arg0)
      ∧ m' ((c.tc : Thread Cert.HeadKFwdRefIdeal.nD Cert.HeadKFwdRefIdeal.τ).loc Cert.HeadKFwdRefIdeal.main_arg1) = m ((c.tc : Thread Cert.HeadKFwdIdeal.nD Cert.HeadKFwdIdeal.τ).loc Cert.HeadKFwdIdeal.main_arg1)) →
    ∃ (v0 : (c : Dev Cert.HeadKFwdIdeal.nD) → Buf (Elt Ideal) ((c.tc : Thread Cert.HeadKFwdIdeal.nD Cert.HeadKFwdIdeal.τ).loc Cert.HeadKFwdIdeal.main_v1)),
      θ_run (Cert.HeadKFwdIdeal.defs (F := Ideal)) (onTc (τ := Cert.HeadKFwdIdeal.τ) (Cert.HeadKFwdIdeal.main (F := Ideal))) ⟨m, fun _ => 0, g⟩ (fun r => ∀ c : Dev Cert.HeadKFwdIdeal.nD,
          r.2.mem ((c.tc : Thread Cert.HeadKFwdIdeal.nD Cert.HeadKFwdIdeal.τ).loc Cert.HeadKFwdIdeal.main_v1) = v0 c
          ∧ r.2.mem ((c.tc : Thread Cert.HeadKFwdIdeal.nD Cert.HeadKFwdIdeal.τ).loc Cert.HeadKFwdIdeal.main_arg0) = m ((c.tc : Thread Cert.HeadKFwdIdeal.nD Cert.HeadKFwdIdeal.τ).loc Cert.HeadKFwdIdeal.main_arg0)
          ∧ r.2.mem ((c.tc : Thread Cert.HeadKFwdIdeal.nD Cert.HeadKFwdIdeal.τ).loc Cert.HeadKFwdIdeal.main_arg1) = m ((c.tc : Thread Cert.HeadKFwdIdeal.nD Cert.HeadKFwdIdeal.τ).loc Cert.HeadKFwdIdeal.main_arg1))
      ∧ θ_run (Cert.HeadKFwdRefIdeal.defs (F := Ideal)) (onTc (τ := Cert.HeadKFwdRefIdeal.τ) (Cert.HeadKFwdRefIdeal.main (F := Ideal))) ⟨m', fun _ => 0, g'⟩ (fun r => ∀ c : Dev Cert.HeadKFwdRefIdeal.nD,
          r.2.mem ((c.tc : Thread Cert.HeadKFwdRefIdeal.nD Cert.HeadKFwdRefIdeal.τ).loc Cert.HeadKFwdRefIdeal.main_v17) = v0 c
          ∧ r.2.mem ((c.tc : Thread Cert.HeadKFwdRefIdeal.nD Cert.HeadKFwdRefIdeal.τ).loc Cert.HeadKFwdRefIdeal.main_arg0) = m' ((c.tc : Thread Cert.HeadKFwdRefIdeal.nD Cert.HeadKFwdRefIdeal.τ).loc Cert.HeadKFwdRefIdeal.main_arg0)
          ∧ r.2.mem ((c.tc : Thread Cert.HeadKFwdRefIdeal.nD Cert.HeadKFwdRefIdeal.τ).loc Cert.HeadKFwdRefIdeal.main_arg1) = m' ((c.tc : Thread Cert.HeadKFwdRefIdeal.nD Cert.HeadKFwdRefIdeal.τ).loc Cert.HeadKFwdRefIdeal.main_arg1))

def preserves_HeadQFwd_HeadQFwdIdeal : Prop :=
  True

def algebraic_HeadQFwdIdeal_HeadQFwdRefIdeal [hHeadQFwdIdeal : Cert.HeadQFwdIdeal.Facts] [hHeadQFwdRefIdeal : Cert.HeadQFwdRefIdeal.Facts] : Prop :=
  ∀ (m : (ℓ : Loc Cert.HeadQFwdIdeal.nD Cert.HeadQFwdIdeal.τ Cert.HeadQFwdIdeal.sig) → Buf (Elt Ideal) ℓ) (g : Dev Cert.HeadQFwdIdeal.nD → PrngReg)
    (m' : (ℓ : Loc Cert.HeadQFwdRefIdeal.nD Cert.HeadQFwdRefIdeal.τ Cert.HeadQFwdRefIdeal.sig) → Buf (Elt Ideal) ℓ) (g' : Dev Cert.HeadQFwdRefIdeal.nD → PrngReg), Pre_HeadQFwdIdeal m →
    (∀ c : Dev Cert.HeadQFwdIdeal.nD,
      m' ((c.tc : Thread Cert.HeadQFwdRefIdeal.nD Cert.HeadQFwdRefIdeal.τ).loc Cert.HeadQFwdRefIdeal.main_arg0) = m ((c.tc : Thread Cert.HeadQFwdIdeal.nD Cert.HeadQFwdIdeal.τ).loc Cert.HeadQFwdIdeal.main_arg0)
      ∧ m' ((c.tc : Thread Cert.HeadQFwdRefIdeal.nD Cert.HeadQFwdRefIdeal.τ).loc Cert.HeadQFwdRefIdeal.main_arg1) = m ((c.tc : Thread Cert.HeadQFwdIdeal.nD Cert.HeadQFwdIdeal.τ).loc Cert.HeadQFwdIdeal.main_arg1)) →
    ∃ (v0 : (c : Dev Cert.HeadQFwdIdeal.nD) → Buf (Elt Ideal) ((c.tc : Thread Cert.HeadQFwdIdeal.nD Cert.HeadQFwdIdeal.τ).loc Cert.HeadQFwdIdeal.main_v1)),
      θ_run (Cert.HeadQFwdIdeal.defs (F := Ideal)) (onTc (τ := Cert.HeadQFwdIdeal.τ) (Cert.HeadQFwdIdeal.main (F := Ideal))) ⟨m, fun _ => 0, g⟩ (fun r => ∀ c : Dev Cert.HeadQFwdIdeal.nD,
          r.2.mem ((c.tc : Thread Cert.HeadQFwdIdeal.nD Cert.HeadQFwdIdeal.τ).loc Cert.HeadQFwdIdeal.main_v1) = v0 c
          ∧ r.2.mem ((c.tc : Thread Cert.HeadQFwdIdeal.nD Cert.HeadQFwdIdeal.τ).loc Cert.HeadQFwdIdeal.main_arg0) = m ((c.tc : Thread Cert.HeadQFwdIdeal.nD Cert.HeadQFwdIdeal.τ).loc Cert.HeadQFwdIdeal.main_arg0)
          ∧ r.2.mem ((c.tc : Thread Cert.HeadQFwdIdeal.nD Cert.HeadQFwdIdeal.τ).loc Cert.HeadQFwdIdeal.main_arg1) = m ((c.tc : Thread Cert.HeadQFwdIdeal.nD Cert.HeadQFwdIdeal.τ).loc Cert.HeadQFwdIdeal.main_arg1))
      ∧ θ_run (Cert.HeadQFwdRefIdeal.defs (F := Ideal)) (onTc (τ := Cert.HeadQFwdRefIdeal.τ) (Cert.HeadQFwdRefIdeal.main (F := Ideal))) ⟨m', fun _ => 0, g'⟩ (fun r => ∀ c : Dev Cert.HeadQFwdRefIdeal.nD,
          r.2.mem ((c.tc : Thread Cert.HeadQFwdRefIdeal.nD Cert.HeadQFwdRefIdeal.τ).loc Cert.HeadQFwdRefIdeal.main_v17) = v0 c
          ∧ r.2.mem ((c.tc : Thread Cert.HeadQFwdRefIdeal.nD Cert.HeadQFwdRefIdeal.τ).loc Cert.HeadQFwdRefIdeal.main_arg0) = m' ((c.tc : Thread Cert.HeadQFwdRefIdeal.nD Cert.HeadQFwdRefIdeal.τ).loc Cert.HeadQFwdRefIdeal.main_arg0)
          ∧ r.2.mem ((c.tc : Thread Cert.HeadQFwdRefIdeal.nD Cert.HeadQFwdRefIdeal.τ).loc Cert.HeadQFwdRefIdeal.main_arg1) = m' ((c.tc : Thread Cert.HeadQFwdRefIdeal.nD Cert.HeadQFwdRefIdeal.τ).loc Cert.HeadQFwdRefIdeal.main_arg1))

def preserves_GateNormFwd_GateNormFwdIdeal : Prop :=
  True

def algebraic_GateNormFwdIdeal_GateNormFwdRefIdeal [hGateNormFwdIdeal : Cert.GateNormFwdIdeal.Facts] [hGateNormFwdRefIdeal : Cert.GateNormFwdRefIdeal.Facts] : Prop :=
  ∀ (m : (ℓ : Loc Cert.GateNormFwdIdeal.nD Cert.GateNormFwdIdeal.τ Cert.GateNormFwdIdeal.sig) → Buf (Elt Ideal) ℓ) (g : Dev Cert.GateNormFwdIdeal.nD → PrngReg)
    (m' : (ℓ : Loc Cert.GateNormFwdRefIdeal.nD Cert.GateNormFwdRefIdeal.τ Cert.GateNormFwdRefIdeal.sig) → Buf (Elt Ideal) ℓ) (g' : Dev Cert.GateNormFwdRefIdeal.nD → PrngReg), Pre_GateNormFwdIdeal m →
    (∀ c : Dev Cert.GateNormFwdIdeal.nD,
      m' ((c.tc : Thread Cert.GateNormFwdRefIdeal.nD Cert.GateNormFwdRefIdeal.τ).loc Cert.GateNormFwdRefIdeal.main_arg0) = m ((c.tc : Thread Cert.GateNormFwdIdeal.nD Cert.GateNormFwdIdeal.τ).loc Cert.GateNormFwdIdeal.main_arg0)
      ∧ m' ((c.tc : Thread Cert.GateNormFwdRefIdeal.nD Cert.GateNormFwdRefIdeal.τ).loc Cert.GateNormFwdRefIdeal.main_arg1) = m ((c.tc : Thread Cert.GateNormFwdIdeal.nD Cert.GateNormFwdIdeal.τ).loc Cert.GateNormFwdIdeal.main_arg1)
      ∧ m' ((c.tc : Thread Cert.GateNormFwdRefIdeal.nD Cert.GateNormFwdRefIdeal.τ).loc Cert.GateNormFwdRefIdeal.main_arg2) = m ((c.tc : Thread Cert.GateNormFwdIdeal.nD Cert.GateNormFwdIdeal.τ).loc Cert.GateNormFwdIdeal.main_arg2)) →
    ∃ (v0 : (c : Dev Cert.GateNormFwdIdeal.nD) → Buf (Elt Ideal) ((c.tc : Thread Cert.GateNormFwdIdeal.nD Cert.GateNormFwdIdeal.τ).loc Cert.GateNormFwdIdeal.main_v1)),
      θ_run (Cert.GateNormFwdIdeal.defs (F := Ideal)) (onTc (τ := Cert.GateNormFwdIdeal.τ) (Cert.GateNormFwdIdeal.main (F := Ideal))) ⟨m, fun _ => 0, g⟩ (fun r => ∀ c : Dev Cert.GateNormFwdIdeal.nD,
          r.2.mem ((c.tc : Thread Cert.GateNormFwdIdeal.nD Cert.GateNormFwdIdeal.τ).loc Cert.GateNormFwdIdeal.main_v1) = v0 c
          ∧ r.2.mem ((c.tc : Thread Cert.GateNormFwdIdeal.nD Cert.GateNormFwdIdeal.τ).loc Cert.GateNormFwdIdeal.main_arg0) = m ((c.tc : Thread Cert.GateNormFwdIdeal.nD Cert.GateNormFwdIdeal.τ).loc Cert.GateNormFwdIdeal.main_arg0)
          ∧ r.2.mem ((c.tc : Thread Cert.GateNormFwdIdeal.nD Cert.GateNormFwdIdeal.τ).loc Cert.GateNormFwdIdeal.main_arg1) = m ((c.tc : Thread Cert.GateNormFwdIdeal.nD Cert.GateNormFwdIdeal.τ).loc Cert.GateNormFwdIdeal.main_arg1)
          ∧ r.2.mem ((c.tc : Thread Cert.GateNormFwdIdeal.nD Cert.GateNormFwdIdeal.τ).loc Cert.GateNormFwdIdeal.main_arg2) = m ((c.tc : Thread Cert.GateNormFwdIdeal.nD Cert.GateNormFwdIdeal.τ).loc Cert.GateNormFwdIdeal.main_arg2))
      ∧ θ_run (Cert.GateNormFwdRefIdeal.defs (F := Ideal)) (onTc (τ := Cert.GateNormFwdRefIdeal.τ) (Cert.GateNormFwdRefIdeal.main (F := Ideal))) ⟨m', fun _ => 0, g'⟩ (fun r => ∀ c : Dev Cert.GateNormFwdRefIdeal.nD,
          r.2.mem ((c.tc : Thread Cert.GateNormFwdRefIdeal.nD Cert.GateNormFwdRefIdeal.τ).loc Cert.GateNormFwdRefIdeal.main_v20) = v0 c
          ∧ r.2.mem ((c.tc : Thread Cert.GateNormFwdRefIdeal.nD Cert.GateNormFwdRefIdeal.τ).loc Cert.GateNormFwdRefIdeal.main_arg0) = m' ((c.tc : Thread Cert.GateNormFwdRefIdeal.nD Cert.GateNormFwdRefIdeal.τ).loc Cert.GateNormFwdRefIdeal.main_arg0)
          ∧ r.2.mem ((c.tc : Thread Cert.GateNormFwdRefIdeal.nD Cert.GateNormFwdRefIdeal.τ).loc Cert.GateNormFwdRefIdeal.main_arg1) = m' ((c.tc : Thread Cert.GateNormFwdRefIdeal.nD Cert.GateNormFwdRefIdeal.τ).loc Cert.GateNormFwdRefIdeal.main_arg1)
          ∧ r.2.mem ((c.tc : Thread Cert.GateNormFwdRefIdeal.nD Cert.GateNormFwdRefIdeal.τ).loc Cert.GateNormFwdRefIdeal.main_arg2) = m' ((c.tc : Thread Cert.GateNormFwdRefIdeal.nD Cert.GateNormFwdRefIdeal.τ).loc Cert.GateNormFwdRefIdeal.main_arg2))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)) →
    ∃ (v0 : (c : Dev Cert.GatesFwdIdeal.nD) → Buf (Elt Ideal) ((c.tc : Thread Cert.GatesFwdIdeal.nD Cert.GatesFwdIdeal.τ).loc Cert.GatesFwdIdeal.main_v2_0)) (v1 : (c : Dev Cert.GatesFwdIdeal.nD) → Buf (Elt Ideal) ((c.tc : Thread Cert.GatesFwdIdeal.nD Cert.GatesFwdIdeal.τ).loc Cert.GatesFwdIdeal.main_v2_1)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v2_0) = v0 c
          ∧ r.2.mem ((c.tc : Thread Cert.GatesFwdIdeal.nD Cert.GatesFwdIdeal.τ).loc Cert.GatesFwdIdeal.main_v2_1) = v1 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v22) = v0 c
          ∧ r.2.mem ((c.tc : Thread Cert.GatesFwdRefIdeal.nD Cert.GatesFwdRefIdeal.τ).loc Cert.GatesFwdRefIdeal.main_v28) = v1 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v38) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v3_0)) (v1 : (c : Dev Cert.FfnFwdIdeal.nD) → Buf (Elt Ideal) ((c.tc : Thread Cert.FfnFwdIdeal.nD Cert.FfnFwdIdeal.τ).loc Cert.FfnFwdIdeal.main_v3_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3_0) = v0 c
          ∧ r.2.mem ((c.tc : Thread Cert.FfnFwdIdeal.nD Cert.FfnFwdIdeal.τ).loc Cert.FfnFwdIdeal.main_v3_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v7) = v0 c
          ∧ r.2.mem ((c.tc : Thread Cert.FfnFwdRefIdeal.nD Cert.FfnFwdRefIdeal.τ).loc Cert.FfnFwdRefIdeal.main_v8) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_OutRms_OutRmsIdeal : Prop :=
  True

def algebraic_OutRmsIdeal_OutRmsRefIdeal [hOutRmsIdeal : Cert.OutRmsIdeal.Facts] [hOutRmsRefIdeal : Cert.OutRmsRefIdeal.Facts] : Prop :=
  ∀ (m : (ℓ : Loc Cert.OutRmsIdeal.nD Cert.OutRmsIdeal.τ Cert.OutRmsIdeal.sig) → Buf (Elt Ideal) ℓ) (g : Dev Cert.OutRmsIdeal.nD → PrngReg)
    (m' : (ℓ : Loc Cert.OutRmsRefIdeal.nD Cert.OutRmsRefIdeal.τ Cert.OutRmsRefIdeal.sig) → Buf (Elt Ideal) ℓ) (g' : Dev Cert.OutRmsRefIdeal.nD → PrngReg), Pre_OutRmsIdeal m →
    (∀ c : Dev Cert.OutRmsIdeal.nD,
      m' ((c.tc : Thread Cert.OutRmsRefIdeal.nD Cert.OutRmsRefIdeal.τ).loc Cert.OutRmsRefIdeal.main_arg0) = m ((c.tc : Thread Cert.OutRmsIdeal.nD Cert.OutRmsIdeal.τ).loc Cert.OutRmsIdeal.main_arg0)
      ∧ m' ((c.tc : Thread Cert.OutRmsRefIdeal.nD Cert.OutRmsRefIdeal.τ).loc Cert.OutRmsRefIdeal.main_arg1) = m ((c.tc : Thread Cert.OutRmsIdeal.nD Cert.OutRmsIdeal.τ).loc Cert.OutRmsIdeal.main_arg1)
      ∧ m' ((c.tc : Thread Cert.OutRmsRefIdeal.nD Cert.OutRmsRefIdeal.τ).loc Cert.OutRmsRefIdeal.main_arg2) = m ((c.tc : Thread Cert.OutRmsIdeal.nD Cert.OutRmsIdeal.τ).loc Cert.OutRmsIdeal.main_arg2)
      ∧ m' ((c.tc : Thread Cert.OutRmsRefIdeal.nD Cert.OutRmsRefIdeal.τ).loc Cert.OutRmsRefIdeal.main_arg3) = m ((c.tc : Thread Cert.OutRmsIdeal.nD Cert.OutRmsIdeal.τ).loc Cert.OutRmsIdeal.main_arg3)) →
    ∃ (v0 : (c : Dev Cert.OutRmsIdeal.nD) → Buf (Elt Ideal) ((c.tc : Thread Cert.OutRmsIdeal.nD Cert.OutRmsIdeal.τ).loc Cert.OutRmsIdeal.main_v1_0)) (v1 : (c : Dev Cert.OutRmsIdeal.nD) → Buf (Elt Ideal) ((c.tc : Thread Cert.OutRmsIdeal.nD Cert.OutRmsIdeal.τ).loc Cert.OutRmsIdeal.main_v1_1)),
      θ_run (Cert.OutRmsIdeal.defs (F := Ideal)) (onTc (τ := Cert.OutRmsIdeal.τ) (Cert.OutRmsIdeal.main (F := Ideal))) ⟨m, fun _ => 0, g⟩ (fun r => ∀ c : Dev Cert.OutRmsIdeal.nD,
          r.2.mem ((c.tc : Thread Cert.OutRmsIdeal.nD Cert.OutRmsIdeal.τ).loc Cert.OutRmsIdeal.main_v1_0) = v0 c
          ∧ r.2.mem ((c.tc : Thread Cert.OutRmsIdeal.nD Cert.OutRmsIdeal.τ).loc Cert.OutRmsIdeal.main_v1_1) = v1 c
          ∧ r.2.mem ((c.tc : Thread Cert.OutRmsIdeal.nD Cert.OutRmsIdeal.τ).loc Cert.OutRmsIdeal.main_arg0) = m ((c.tc : Thread Cert.OutRmsIdeal.nD Cert.OutRmsIdeal.τ).loc Cert.OutRmsIdeal.main_arg0)
          ∧ r.2.mem ((c.tc : Thread Cert.OutRmsIdeal.nD Cert.OutRmsIdeal.τ).loc Cert.OutRmsIdeal.main_arg1) = m ((c.tc : Thread Cert.OutRmsIdeal.nD Cert.OutRmsIdeal.τ).loc Cert.OutRmsIdeal.main_arg1)
          ∧ r.2.mem ((c.tc : Thread Cert.OutRmsIdeal.nD Cert.OutRmsIdeal.τ).loc Cert.OutRmsIdeal.main_arg2) = m ((c.tc : Thread Cert.OutRmsIdeal.nD Cert.OutRmsIdeal.τ).loc Cert.OutRmsIdeal.main_arg2)
          ∧ r.2.mem ((c.tc : Thread Cert.OutRmsIdeal.nD Cert.OutRmsIdeal.τ).loc Cert.OutRmsIdeal.main_arg3) = m ((c.tc : Thread Cert.OutRmsIdeal.nD Cert.OutRmsIdeal.τ).loc Cert.OutRmsIdeal.main_arg3))
      ∧ θ_run (Cert.OutRmsRefIdeal.defs (F := Ideal)) (onTc (τ := Cert.OutRmsRefIdeal.τ) (Cert.OutRmsRefIdeal.main (F := Ideal))) ⟨m', fun _ => 0, g'⟩ (fun r => ∀ c : Dev Cert.OutRmsRefIdeal.nD,
          r.2.mem ((c.tc : Thread Cert.OutRmsRefIdeal.nD Cert.OutRmsRefIdeal.τ).loc Cert.OutRmsRefIdeal.main_v3) = v0 c
          ∧ r.2.mem ((c.tc : Thread Cert.OutRmsRefIdeal.nD Cert.OutRmsRefIdeal.τ).loc Cert.OutRmsRefIdeal.main_v17) = v1 c
          ∧ r.2.mem ((c.tc : Thread Cert.OutRmsRefIdeal.nD Cert.OutRmsRefIdeal.τ).loc Cert.OutRmsRefIdeal.main_arg0) = m' ((c.tc : Thread Cert.OutRmsRefIdeal.nD Cert.OutRmsRefIdeal.τ).loc Cert.OutRmsRefIdeal.main_arg0)
          ∧ r.2.mem ((c.tc : Thread Cert.OutRmsRefIdeal.nD Cert.OutRmsRefIdeal.τ).loc Cert.OutRmsRefIdeal.main_arg1) = m' ((c.tc : Thread Cert.OutRmsRefIdeal.nD Cert.OutRmsRefIdeal.τ).loc Cert.OutRmsRefIdeal.main_arg1)
          ∧ r.2.mem ((c.tc : Thread Cert.OutRmsRefIdeal.nD Cert.OutRmsRefIdeal.τ).loc Cert.OutRmsRefIdeal.main_arg2) = m' ((c.tc : Thread Cert.OutRmsRefIdeal.nD Cert.OutRmsRefIdeal.τ).loc Cert.OutRmsRefIdeal.main_arg2)
          ∧ r.2.mem ((c.tc : Thread Cert.OutRmsRefIdeal.nD Cert.OutRmsRefIdeal.τ).loc Cert.OutRmsRefIdeal.main_arg3) = m' ((c.tc : Thread Cert.OutRmsRefIdeal.nD Cert.OutRmsRefIdeal.τ).loc Cert.OutRmsRefIdeal.main_arg3))

def preserves_FfnOutRms_FfnOutRmsIdeal : Prop :=
  True

def algebraic_FfnOutRmsIdeal_FfnOutRmsRefIdeal [hFfnOutRmsIdeal : Cert.FfnOutRmsIdeal.Facts] [hFfnOutRmsRefIdeal : Cert.FfnOutRmsRefIdeal.Facts] : Prop :=
  ∀ (m : (ℓ : Loc Cert.FfnOutRmsIdeal.nD Cert.FfnOutRmsIdeal.τ Cert.FfnOutRmsIdeal.sig) → Buf (Elt Ideal) ℓ) (g : Dev Cert.FfnOutRmsIdeal.nD → PrngReg)
    (m' : (ℓ : Loc Cert.FfnOutRmsRefIdeal.nD Cert.FfnOutRmsRefIdeal.τ Cert.FfnOutRmsRefIdeal.sig) → Buf (Elt Ideal) ℓ) (g' : Dev Cert.FfnOutRmsRefIdeal.nD → PrngReg), Pre_FfnOutRmsIdeal m →
    (∀ c : Dev Cert.FfnOutRmsIdeal.nD,
      m' ((c.tc : Thread Cert.FfnOutRmsRefIdeal.nD Cert.FfnOutRmsRefIdeal.τ).loc Cert.FfnOutRmsRefIdeal.main_arg0) = m ((c.tc : Thread Cert.FfnOutRmsIdeal.nD Cert.FfnOutRmsIdeal.τ).loc Cert.FfnOutRmsIdeal.main_arg0)
      ∧ m' ((c.tc : Thread Cert.FfnOutRmsRefIdeal.nD Cert.FfnOutRmsRefIdeal.τ).loc Cert.FfnOutRmsRefIdeal.main_arg1) = m ((c.tc : Thread Cert.FfnOutRmsIdeal.nD Cert.FfnOutRmsIdeal.τ).loc Cert.FfnOutRmsIdeal.main_arg1)
      ∧ m' ((c.tc : Thread Cert.FfnOutRmsRefIdeal.nD Cert.FfnOutRmsRefIdeal.τ).loc Cert.FfnOutRmsRefIdeal.main_arg2) = m ((c.tc : Thread Cert.FfnOutRmsIdeal.nD Cert.FfnOutRmsIdeal.τ).loc Cert.FfnOutRmsIdeal.main_arg2)
      ∧ m' ((c.tc : Thread Cert.FfnOutRmsRefIdeal.nD Cert.FfnOutRmsRefIdeal.τ).loc Cert.FfnOutRmsRefIdeal.main_arg3) = m ((c.tc : Thread Cert.FfnOutRmsIdeal.nD Cert.FfnOutRmsIdeal.τ).loc Cert.FfnOutRmsIdeal.main_arg3)) →
    ∃ (v0 : (c : Dev Cert.FfnOutRmsIdeal.nD) → Buf (Elt Ideal) ((c.tc : Thread Cert.FfnOutRmsIdeal.nD Cert.FfnOutRmsIdeal.τ).loc Cert.FfnOutRmsIdeal.main_v1_0)) (v1 : (c : Dev Cert.FfnOutRmsIdeal.nD) → Buf (Elt Ideal) ((c.tc : Thread Cert.FfnOutRmsIdeal.nD Cert.FfnOutRmsIdeal.τ).loc Cert.FfnOutRmsIdeal.main_v1_1)),
      θ_run (Cert.FfnOutRmsIdeal.defs (F := Ideal)) (onTc (τ := Cert.FfnOutRmsIdeal.τ) (Cert.FfnOutRmsIdeal.main (F := Ideal))) ⟨m, fun _ => 0, g⟩ (fun r => ∀ c : Dev Cert.FfnOutRmsIdeal.nD,
          r.2.mem ((c.tc : Thread Cert.FfnOutRmsIdeal.nD Cert.FfnOutRmsIdeal.τ).loc Cert.FfnOutRmsIdeal.main_v1_0) = v0 c
          ∧ r.2.mem ((c.tc : Thread Cert.FfnOutRmsIdeal.nD Cert.FfnOutRmsIdeal.τ).loc Cert.FfnOutRmsIdeal.main_v1_1) = v1 c
          ∧ r.2.mem ((c.tc : Thread Cert.FfnOutRmsIdeal.nD Cert.FfnOutRmsIdeal.τ).loc Cert.FfnOutRmsIdeal.main_arg0) = m ((c.tc : Thread Cert.FfnOutRmsIdeal.nD Cert.FfnOutRmsIdeal.τ).loc Cert.FfnOutRmsIdeal.main_arg0)
          ∧ r.2.mem ((c.tc : Thread Cert.FfnOutRmsIdeal.nD Cert.FfnOutRmsIdeal.τ).loc Cert.FfnOutRmsIdeal.main_arg1) = m ((c.tc : Thread Cert.FfnOutRmsIdeal.nD Cert.FfnOutRmsIdeal.τ).loc Cert.FfnOutRmsIdeal.main_arg1)
          ∧ r.2.mem ((c.tc : Thread Cert.FfnOutRmsIdeal.nD Cert.FfnOutRmsIdeal.τ).loc Cert.FfnOutRmsIdeal.main_arg2) = m ((c.tc : Thread Cert.FfnOutRmsIdeal.nD Cert.FfnOutRmsIdeal.τ).loc Cert.FfnOutRmsIdeal.main_arg2)
          ∧ r.2.mem ((c.tc : Thread Cert.FfnOutRmsIdeal.nD Cert.FfnOutRmsIdeal.τ).loc Cert.FfnOutRmsIdeal.main_arg3) = m ((c.tc : Thread Cert.FfnOutRmsIdeal.nD Cert.FfnOutRmsIdeal.τ).loc Cert.FfnOutRmsIdeal.main_arg3))
      ∧ θ_run (Cert.FfnOutRmsRefIdeal.defs (F := Ideal)) (onTc (τ := Cert.FfnOutRmsRefIdeal.τ) (Cert.FfnOutRmsRefIdeal.main (F := Ideal))) ⟨m', fun _ => 0, g'⟩ (fun r => ∀ c : Dev Cert.FfnOutRmsRefIdeal.nD,
          r.2.mem ((c.tc : Thread Cert.FfnOutRmsRefIdeal.nD Cert.FfnOutRmsRefIdeal.τ).loc Cert.FfnOutRmsRefIdeal.main_v3) = v0 c
          ∧ r.2.mem ((c.tc : Thread Cert.FfnOutRmsRefIdeal.nD Cert.FfnOutRmsRefIdeal.τ).loc Cert.FfnOutRmsRefIdeal.main_v17) = v1 c
          ∧ r.2.mem ((c.tc : Thread Cert.FfnOutRmsRefIdeal.nD Cert.FfnOutRmsRefIdeal.τ).loc Cert.FfnOutRmsRefIdeal.main_arg0) = m' ((c.tc : Thread Cert.FfnOutRmsRefIdeal.nD Cert.FfnOutRmsRefIdeal.τ).loc Cert.FfnOutRmsRefIdeal.main_arg0)
          ∧ r.2.mem ((c.tc : Thread Cert.FfnOutRmsRefIdeal.nD Cert.FfnOutRmsRefIdeal.τ).loc Cert.FfnOutRmsRefIdeal.main_arg1) = m' ((c.tc : Thread Cert.FfnOutRmsRefIdeal.nD Cert.FfnOutRmsRefIdeal.τ).loc Cert.FfnOutRmsRefIdeal.main_arg1)
          ∧ r.2.mem ((c.tc : Thread Cert.FfnOutRmsRefIdeal.nD Cert.FfnOutRmsRefIdeal.τ).loc Cert.FfnOutRmsRefIdeal.main_arg2) = m' ((c.tc : Thread Cert.FfnOutRmsRefIdeal.nD Cert.FfnOutRmsRefIdeal.τ).loc Cert.FfnOutRmsRefIdeal.main_arg2)
          ∧ r.2.mem ((c.tc : Thread Cert.FfnOutRmsRefIdeal.nD Cert.FfnOutRmsRefIdeal.τ).loc Cert.FfnOutRmsRefIdeal.main_arg3) = m' ((c.tc : Thread Cert.FfnOutRmsRefIdeal.nD Cert.FfnOutRmsRefIdeal.τ).loc Cert.FfnOutRmsRefIdeal.main_arg3))

def preserves_PleGateRms_PleGateRmsIdeal : Prop :=
  True

def algebraic_PleGateRmsIdeal_PleGateRmsRefIdeal [hPleGateRmsIdeal : Cert.PleGateRmsIdeal.Facts] [hPleGateRmsRefIdeal : Cert.PleGateRmsRefIdeal.Facts] : Prop :=
  ∀ (m : (ℓ : Loc Cert.PleGateRmsIdeal.nD Cert.PleGateRmsIdeal.τ Cert.PleGateRmsIdeal.sig) → Buf (Elt Ideal) ℓ) (g : Dev Cert.PleGateRmsIdeal.nD → PrngReg)
    (m' : (ℓ : Loc Cert.PleGateRmsRefIdeal.nD Cert.PleGateRmsRefIdeal.τ Cert.PleGateRmsRefIdeal.sig) → Buf (Elt Ideal) ℓ) (g' : Dev Cert.PleGateRmsRefIdeal.nD → PrngReg), Pre_PleGateRmsIdeal m →
    (∀ c : Dev Cert.PleGateRmsIdeal.nD,
      m' ((c.tc : Thread Cert.PleGateRmsRefIdeal.nD Cert.PleGateRmsRefIdeal.τ).loc Cert.PleGateRmsRefIdeal.main_arg0) = m ((c.tc : Thread Cert.PleGateRmsIdeal.nD Cert.PleGateRmsIdeal.τ).loc Cert.PleGateRmsIdeal.main_arg0)
      ∧ m' ((c.tc : Thread Cert.PleGateRmsRefIdeal.nD Cert.PleGateRmsRefIdeal.τ).loc Cert.PleGateRmsRefIdeal.main_arg1) = m ((c.tc : Thread Cert.PleGateRmsIdeal.nD Cert.PleGateRmsIdeal.τ).loc Cert.PleGateRmsIdeal.main_arg1)
      ∧ m' ((c.tc : Thread Cert.PleGateRmsRefIdeal.nD Cert.PleGateRmsRefIdeal.τ).loc Cert.PleGateRmsRefIdeal.main_arg2) = m ((c.tc : Thread Cert.PleGateRmsIdeal.nD Cert.PleGateRmsIdeal.τ).loc Cert.PleGateRmsIdeal.main_arg2)
      ∧ m' ((c.tc : Thread Cert.PleGateRmsRefIdeal.nD Cert.PleGateRmsRefIdeal.τ).loc Cert.PleGateRmsRefIdeal.main_arg3) = m ((c.tc : Thread Cert.PleGateRmsIdeal.nD Cert.PleGateRmsIdeal.τ).loc Cert.PleGateRmsIdeal.main_arg3)
      ∧ m' ((c.tc : Thread Cert.PleGateRmsRefIdeal.nD Cert.PleGateRmsRefIdeal.τ).loc Cert.PleGateRmsRefIdeal.main_arg4) = m ((c.tc : Thread Cert.PleGateRmsIdeal.nD Cert.PleGateRmsIdeal.τ).loc Cert.PleGateRmsIdeal.main_arg4)) →
    ∃ (v0 : (c : Dev Cert.PleGateRmsIdeal.nD) → Buf (Elt Ideal) ((c.tc : Thread Cert.PleGateRmsIdeal.nD Cert.PleGateRmsIdeal.τ).loc Cert.PleGateRmsIdeal.main_v1_0)) (v1 : (c : Dev Cert.PleGateRmsIdeal.nD) → Buf (Elt Ideal) ((c.tc : Thread Cert.PleGateRmsIdeal.nD Cert.PleGateRmsIdeal.τ).loc Cert.PleGateRmsIdeal.main_v1_1)) (v2 : (c : Dev Cert.PleGateRmsIdeal.nD) → Buf (Elt Ideal) ((c.tc : Thread Cert.PleGateRmsIdeal.nD Cert.PleGateRmsIdeal.τ).loc Cert.PleGateRmsIdeal.main_v1_2)),
      θ_run (Cert.PleGateRmsIdeal.defs (F := Ideal)) (onTc (τ := Cert.PleGateRmsIdeal.τ) (Cert.PleGateRmsIdeal.main (F := Ideal))) ⟨m, fun _ => 0, g⟩ (fun r => ∀ c : Dev Cert.PleGateRmsIdeal.nD,
          r.2.mem ((c.tc : Thread Cert.PleGateRmsIdeal.nD Cert.PleGateRmsIdeal.τ).loc Cert.PleGateRmsIdeal.main_v1_0) = v0 c
          ∧ r.2.mem ((c.tc : Thread Cert.PleGateRmsIdeal.nD Cert.PleGateRmsIdeal.τ).loc Cert.PleGateRmsIdeal.main_v1_1) = v1 c
          ∧ r.2.mem ((c.tc : Thread Cert.PleGateRmsIdeal.nD Cert.PleGateRmsIdeal.τ).loc Cert.PleGateRmsIdeal.main_v1_2) = v2 c
          ∧ r.2.mem ((c.tc : Thread Cert.PleGateRmsIdeal.nD Cert.PleGateRmsIdeal.τ).loc Cert.PleGateRmsIdeal.main_arg0) = m ((c.tc : Thread Cert.PleGateRmsIdeal.nD Cert.PleGateRmsIdeal.τ).loc Cert.PleGateRmsIdeal.main_arg0)
          ∧ r.2.mem ((c.tc : Thread Cert.PleGateRmsIdeal.nD Cert.PleGateRmsIdeal.τ).loc Cert.PleGateRmsIdeal.main_arg1) = m ((c.tc : Thread Cert.PleGateRmsIdeal.nD Cert.PleGateRmsIdeal.τ).loc Cert.PleGateRmsIdeal.main_arg1)
          ∧ r.2.mem ((c.tc : Thread Cert.PleGateRmsIdeal.nD Cert.PleGateRmsIdeal.τ).loc Cert.PleGateRmsIdeal.main_arg2) = m ((c.tc : Thread Cert.PleGateRmsIdeal.nD Cert.PleGateRmsIdeal.τ).loc Cert.PleGateRmsIdeal.main_arg2)
          ∧ r.2.mem ((c.tc : Thread Cert.PleGateRmsIdeal.nD Cert.PleGateRmsIdeal.τ).loc Cert.PleGateRmsIdeal.main_arg3) = m ((c.tc : Thread Cert.PleGateRmsIdeal.nD Cert.PleGateRmsIdeal.τ).loc Cert.PleGateRmsIdeal.main_arg3)
          ∧ r.2.mem ((c.tc : Thread Cert.PleGateRmsIdeal.nD Cert.PleGateRmsIdeal.τ).loc Cert.PleGateRmsIdeal.main_arg4) = m ((c.tc : Thread Cert.PleGateRmsIdeal.nD Cert.PleGateRmsIdeal.τ).loc Cert.PleGateRmsIdeal.main_arg4))
      ∧ θ_run (Cert.PleGateRmsRefIdeal.defs (F := Ideal)) (onTc (τ := Cert.PleGateRmsRefIdeal.τ) (Cert.PleGateRmsRefIdeal.main (F := Ideal))) ⟨m', fun _ => 0, g'⟩ (fun r => ∀ c : Dev Cert.PleGateRmsRefIdeal.nD,
          r.2.mem ((c.tc : Thread Cert.PleGateRmsRefIdeal.nD Cert.PleGateRmsRefIdeal.τ).loc Cert.PleGateRmsRefIdeal.main_v2) = v0 c
          ∧ r.2.mem ((c.tc : Thread Cert.PleGateRmsRefIdeal.nD Cert.PleGateRmsRefIdeal.τ).loc Cert.PleGateRmsRefIdeal.main_v10) = v1 c
          ∧ r.2.mem ((c.tc : Thread Cert.PleGateRmsRefIdeal.nD Cert.PleGateRmsRefIdeal.τ).loc Cert.PleGateRmsRefIdeal.main_v24) = v2 c
          ∧ r.2.mem ((c.tc : Thread Cert.PleGateRmsRefIdeal.nD Cert.PleGateRmsRefIdeal.τ).loc Cert.PleGateRmsRefIdeal.main_arg0) = m' ((c.tc : Thread Cert.PleGateRmsRefIdeal.nD Cert.PleGateRmsRefIdeal.τ).loc Cert.PleGateRmsRefIdeal.main_arg0)
          ∧ r.2.mem ((c.tc : Thread Cert.PleGateRmsRefIdeal.nD Cert.PleGateRmsRefIdeal.τ).loc Cert.PleGateRmsRefIdeal.main_arg1) = m' ((c.tc : Thread Cert.PleGateRmsRefIdeal.nD Cert.PleGateRmsRefIdeal.τ).loc Cert.PleGateRmsRefIdeal.main_arg1)
          ∧ r.2.mem ((c.tc : Thread Cert.PleGateRmsRefIdeal.nD Cert.PleGateRmsRefIdeal.τ).loc Cert.PleGateRmsRefIdeal.main_arg2) = m' ((c.tc : Thread Cert.PleGateRmsRefIdeal.nD Cert.PleGateRmsRefIdeal.τ).loc Cert.PleGateRmsRefIdeal.main_arg2)
          ∧ r.2.mem ((c.tc : Thread Cert.PleGateRmsRefIdeal.nD Cert.PleGateRmsRefIdeal.τ).loc Cert.PleGateRmsRefIdeal.main_arg3) = m' ((c.tc : Thread Cert.PleGateRmsRefIdeal.nD Cert.PleGateRmsRefIdeal.τ).loc Cert.PleGateRmsRefIdeal.main_arg3)
          ∧ r.2.mem ((c.tc : Thread Cert.PleGateRmsRefIdeal.nD Cert.PleGateRmsRefIdeal.τ).loc Cert.PleGateRmsRefIdeal.main_arg4) = m' ((c.tc : Thread Cert.PleGateRmsRefIdeal.nD Cert.PleGateRmsRefIdeal.τ).loc Cert.PleGateRmsRefIdeal.main_arg4))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)
      ∧ m' ((c.tc : Thread Cert.PleGateRefIdeal.nD Cert.PleGateRefIdeal.τ).loc Cert.PleGateRefIdeal.main_arg3) = m ((c.tc : Thread Cert.PleGateIdeal.nD Cert.PleGateIdeal.τ).loc Cert.PleGateIdeal.main_arg3)) →
    ∃ (v0 : (c : Dev Cert.PleGateIdeal.nD) → Buf (Elt Ideal) ((c.tc : Thread Cert.PleGateIdeal.nD Cert.PleGateIdeal.τ).loc Cert.PleGateIdeal.main_v0_0)) (v1 : (c : Dev Cert.PleGateIdeal.nD) → Buf (Elt Ideal) ((c.tc : Thread Cert.PleGateIdeal.nD Cert.PleGateIdeal.τ).loc Cert.PleGateIdeal.main_v0_1)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0_0) = v0 c
          ∧ r.2.mem ((c.tc : Thread Cert.PleGateIdeal.nD Cert.PleGateIdeal.τ).loc Cert.PleGateIdeal.main_v0_1) = v1 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v2) = v0 c
          ∧ r.2.mem ((c.tc : Thread Cert.PleGateRefIdeal.nD Cert.PleGateRefIdeal.τ).loc Cert.PleGateRefIdeal.main_v10) = v1 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2)
          ∧ r.2.mem ((c.tc : Thread Cert.PleGateRefIdeal.nD Cert.PleGateRefIdeal.τ).loc Cert.PleGateRefIdeal.main_arg3) = m' ((c.tc : Thread Cert.PleGateRefIdeal.nD Cert.PleGateRefIdeal.τ).loc Cert.PleGateRefIdeal.main_arg3))

def preserves_GdnFwd_GdnFwdIdeal : Prop :=
  True

def preserves_MmDw_MmDwIdeal : Prop :=
  True

def algebraic_MmDwIdeal_MmDwRefIdeal [hMmDwIdeal : Cert.MmDwIdeal.Facts] [hMmDwRefIdeal : Cert.MmDwRefIdeal.Facts] : Prop :=
  ∀ (m : (ℓ : Loc Cert.MmDwIdeal.nD Cert.MmDwIdeal.τ Cert.MmDwIdeal.sig) → Buf (Elt Ideal) ℓ) (g : Dev Cert.MmDwIdeal.nD → PrngReg)
    (m' : (ℓ : Loc Cert.MmDwRefIdeal.nD Cert.MmDwRefIdeal.τ Cert.MmDwRefIdeal.sig) → Buf (Elt Ideal) ℓ) (g' : Dev Cert.MmDwRefIdeal.nD → PrngReg), Pre_MmDwIdeal m →
    (∀ c : Dev Cert.MmDwIdeal.nD,
      m' ((c.tc : Thread Cert.MmDwRefIdeal.nD Cert.MmDwRefIdeal.τ).loc Cert.MmDwRefIdeal.main_arg0) = m ((c.tc : Thread Cert.MmDwIdeal.nD Cert.MmDwIdeal.τ).loc Cert.MmDwIdeal.main_arg0)
      ∧ m' ((c.tc : Thread Cert.MmDwRefIdeal.nD Cert.MmDwRefIdeal.τ).loc Cert.MmDwRefIdeal.main_arg1) = m ((c.tc : Thread Cert.MmDwIdeal.nD Cert.MmDwIdeal.τ).loc Cert.MmDwIdeal.main_arg1)) →
    ∃ (v0 : (c : Dev Cert.MmDwIdeal.nD) → Buf (Elt Ideal) ((c.tc : Thread Cert.MmDwIdeal.nD Cert.MmDwIdeal.τ).loc Cert.MmDwIdeal.main_v0)),
      θ_run (Cert.MmDwIdeal.defs (F := Ideal)) (onTc (τ := Cert.MmDwIdeal.τ) (Cert.MmDwIdeal.main (F := Ideal))) ⟨m, fun _ => 0, g⟩ (fun r => ∀ c : Dev Cert.MmDwIdeal.nD,
          r.2.mem ((c.tc : Thread Cert.MmDwIdeal.nD Cert.MmDwIdeal.τ).loc Cert.MmDwIdeal.main_v0) = v0 c
          ∧ r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
          ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ θ_run (Cert.MmDwRefIdeal.defs (F := Ideal)) (onTc (τ := Cert.MmDwRefIdeal.τ) (Cert.MmDwRefIdeal.main (F := Ideal))) ⟨m', fun _ => 0, g'⟩ (fun r => ∀ c : Dev Cert.MmDwRefIdeal.nD,
          r.2.mem ((c.tc : Thread Cert.MmDwRefIdeal.nD Cert.MmDwRefIdeal.τ).loc Cert.MmDwRefIdeal.main_v5) = v0 c
          ∧ r.2.mem ((c.tc : Thread Cert.MmDwRefIdeal.nD Cert.MmDwRefIdeal.τ).loc Cert.MmDwRefIdeal.main_arg0) = m' ((c.tc : Thread Cert.MmDwRefIdeal.nD Cert.MmDwRefIdeal.τ).loc Cert.MmDwRefIdeal.main_arg0)
          ∧ r.2.mem ((c.tc : Thread Cert.MmDwRefIdeal.nD Cert.MmDwRefIdeal.τ).loc Cert.MmDwRefIdeal.main_arg1) = m' ((c.tc : Thread Cert.MmDwRefIdeal.nD Cert.MmDwRefIdeal.τ).loc Cert.MmDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumDv_SumDvIdeal : Prop :=
  True

def algebraic_SumDvIdeal_SumDvRefIdeal [hSumDvIdeal : Cert.SumDvIdeal.Facts] [hSumDvRefIdeal : Cert.SumDvRefIdeal.Facts] : Prop :=
  ∀ (m : (ℓ : Loc Cert.SumDvIdeal.nD Cert.SumDvIdeal.τ Cert.SumDvIdeal.sig) → Buf (Elt Ideal) ℓ) (g : Dev Cert.SumDvIdeal.nD → PrngReg)
    (m' : (ℓ : Loc Cert.SumDvRefIdeal.nD Cert.SumDvRefIdeal.τ Cert.SumDvRefIdeal.sig) → Buf (Elt Ideal) ℓ) (g' : Dev Cert.SumDvRefIdeal.nD → PrngReg), Pre_SumDvIdeal m →
    (∀ c : Dev Cert.SumDvIdeal.nD,
      m' ((c.tc : Thread Cert.SumDvRefIdeal.nD Cert.SumDvRefIdeal.τ).loc Cert.SumDvRefIdeal.main_arg0) = m ((c.tc : Thread Cert.SumDvIdeal.nD Cert.SumDvIdeal.τ).loc Cert.SumDvIdeal.main_arg0)
      ∧ m' ((c.tc : Thread Cert.SumDvRefIdeal.nD Cert.SumDvRefIdeal.τ).loc Cert.SumDvRefIdeal.main_arg1) = m ((c.tc : Thread Cert.SumDvIdeal.nD Cert.SumDvIdeal.τ).loc Cert.SumDvIdeal.main_arg1)) →
    ∃ (v0 : (c : Dev Cert.SumDvIdeal.nD) → Buf (Elt Ideal) ((c.tc : Thread Cert.SumDvIdeal.nD Cert.SumDvIdeal.τ).loc Cert.SumDvIdeal.main_v0)),
      θ_run (Cert.SumDvIdeal.defs (F := Ideal)) (onTc (τ := Cert.SumDvIdeal.τ) (Cert.SumDvIdeal.main (F := Ideal))) ⟨m, fun _ => 0, g⟩ (fun r => ∀ c : Dev Cert.SumDvIdeal.nD,
          r.2.mem ((c.tc : Thread Cert.SumDvIdeal.nD Cert.SumDvIdeal.τ).loc Cert.SumDvIdeal.main_v0) = v0 c
          ∧ r.2.mem ((c.tc : Thread Cert.SumDvIdeal.nD Cert.SumDvIdeal.τ).loc Cert.SumDvIdeal.main_arg0) = m ((c.tc : Thread Cert.SumDvIdeal.nD Cert.SumDvIdeal.τ).loc Cert.SumDvIdeal.main_arg0)
          ∧ r.2.mem ((c.tc : Thread Cert.SumDvIdeal.nD Cert.SumDvIdeal.τ).loc Cert.SumDvIdeal.main_arg1) = m ((c.tc : Thread Cert.SumDvIdeal.nD Cert.SumDvIdeal.τ).loc Cert.SumDvIdeal.main_arg1))
      ∧ θ_run (Cert.SumDvRefIdeal.defs (F := Ideal)) (onTc (τ := Cert.SumDvRefIdeal.τ) (Cert.SumDvRefIdeal.main (F := Ideal))) ⟨m', fun _ => 0, g'⟩ (fun r => ∀ c : Dev Cert.SumDvRefIdeal.nD,
          r.2.mem ((c.tc : Thread Cert.SumDvRefIdeal.nD Cert.SumDvRefIdeal.τ).loc Cert.SumDvRefIdeal.main_v1) = v0 c
          ∧ r.2.mem ((c.tc : Thread Cert.SumDvRefIdeal.nD Cert.SumDvRefIdeal.τ).loc Cert.SumDvRefIdeal.main_arg0) = m' ((c.tc : Thread Cert.SumDvRefIdeal.nD Cert.SumDvRefIdeal.τ).loc Cert.SumDvRefIdeal.main_arg0)
          ∧ r.2.mem ((c.tc : Thread Cert.SumDvRefIdeal.nD Cert.SumDvRefIdeal.τ).loc Cert.SumDvRefIdeal.main_arg1) = m' ((c.tc : Thread Cert.SumDvRefIdeal.nD Cert.SumDvRefIdeal.τ).loc Cert.SumDvRefIdeal.main_arg1))

def preserves_ChipSum_ChipSumIdeal : Prop :=
  True

def algebraic_ChipSumIdeal_ChipSumRefIdeal [hChipSumIdeal : Cert.ChipSumIdeal.Facts] [hChipSumRefIdeal : Cert.ChipSumRefIdeal.Facts] [hPre_on_mesh_cs : Cert.Pre_on_mesh_cs.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)
      ∧ m' ((c.tc : Thread Cert.ChipSumRefIdeal.nD Cert.ChipSumRefIdeal.τ).loc Cert.ChipSumRefIdeal.main_arg2) = m ((c.tc : Thread Cert.ChipSumIdeal.nD Cert.ChipSumIdeal.τ).loc Cert.ChipSumIdeal.main_arg2)
      ∧ m' ((c.tc : Thread Cert.ChipSumRefIdeal.nD Cert.ChipSumRefIdeal.τ).loc Cert.ChipSumRefIdeal.main_arg3) = m ((c.tc : Thread Cert.ChipSumIdeal.nD Cert.ChipSumIdeal.τ).loc Cert.ChipSumIdeal.main_arg3)) →
    ∃ (v0 : (c : Dev Cert.ChipSumIdeal.nD) → Buf (Elt Ideal) ((c.tc : Thread Cert.ChipSumIdeal.nD Cert.ChipSumIdeal.τ).loc Cert.ChipSumIdeal.main_v9)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v9) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
          ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v2) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1)
          ∧ r.2.mem ((c.tc : Thread Cert.ChipSumRefIdeal.nD Cert.ChipSumRefIdeal.τ).loc Cert.ChipSumRefIdeal.main_arg2) = m' ((c.tc : Thread Cert.ChipSumRefIdeal.nD Cert.ChipSumRefIdeal.τ).loc Cert.ChipSumRefIdeal.main_arg2)
          ∧ r.2.mem ((c.tc : Thread Cert.ChipSumRefIdeal.nD Cert.ChipSumRefIdeal.τ).loc Cert.ChipSumRefIdeal.main_arg3) = m' ((c.tc : Thread Cert.ChipSumRefIdeal.nD Cert.ChipSumRefIdeal.τ).loc Cert.ChipSumRefIdeal.main_arg3))

def preserves_AddSel_AddSelIdeal : Prop :=
  True

def algebraic_AddSelIdeal_AddSelRefIdeal [hAddSelIdeal : Cert.AddSelIdeal.Facts] [hAddSelRefIdeal : Cert.AddSelRefIdeal.Facts] [hPre_on_mesh : Cert.Pre_on_mesh.Facts] : Prop :=
  ∀ (m : (ℓ : Loc Cert.AddSelIdeal.nD Cert.AddSelIdeal.τ Cert.AddSelIdeal.sig) → Buf (Elt Ideal) ℓ) (g : Dev Cert.AddSelIdeal.nD → PrngReg)
    (m' : (ℓ : Loc Cert.AddSelRefIdeal.nD Cert.AddSelRefIdeal.τ Cert.AddSelRefIdeal.sig) → Buf (Elt Ideal) ℓ) (g' : Dev Cert.AddSelRefIdeal.nD → PrngReg), Pre_AddSelIdeal m →
    (∀ c : Dev Cert.AddSelIdeal.nD,
      m' ((c.tc : Thread Cert.AddSelRefIdeal.nD Cert.AddSelRefIdeal.τ).loc Cert.AddSelRefIdeal.main_arg0) = m ((c.tc : Thread Cert.AddSelIdeal.nD Cert.AddSelIdeal.τ).loc Cert.AddSelIdeal.main_arg0)
      ∧ m' ((c.tc : Thread Cert.AddSelRefIdeal.nD Cert.AddSelRefIdeal.τ).loc Cert.AddSelRefIdeal.main_arg1) = m ((c.tc : Thread Cert.AddSelIdeal.nD Cert.AddSelIdeal.τ).loc Cert.AddSelIdeal.main_arg1)
      ∧ m' ((c.tc : Thread Cert.AddSelRefIdeal.nD Cert.AddSelRefIdeal.τ).loc Cert.AddSelRefIdeal.main_arg2) = m ((c.tc : Thread Cert.AddSelIdeal.nD Cert.AddSelIdeal.τ).loc Cert.AddSelIdeal.main_arg2)) →
    ∃ (v0 : (c : Dev Cert.AddSelIdeal.nD) → Buf (Elt Ideal) ((c.tc : Thread Cert.AddSelIdeal.nD Cert.AddSelIdeal.τ).loc Cert.AddSelIdeal.main_v0_0)) (v1 : (c : Dev Cert.AddSelIdeal.nD) → Buf (Elt Ideal) ((c.tc : Thread Cert.AddSelIdeal.nD Cert.AddSelIdeal.τ).loc Cert.AddSelIdeal.main_v0_1)),
      θ_run (Cert.AddSelIdeal.defs (F := Ideal)) (onTc (τ := Cert.AddSelIdeal.τ) (Cert.AddSelIdeal.main (F := Ideal))) ⟨m, fun _ => 0, g⟩ (fun r => ∀ c : Dev Cert.AddSelIdeal.nD,
          r.2.mem ((c.tc : Thread Cert.AddSelIdeal.nD Cert.AddSelIdeal.τ).loc Cert.AddSelIdeal.main_v0_0) = v0 c
          ∧ r.2.mem ((c.tc : Thread Cert.AddSelIdeal.nD Cert.AddSelIdeal.τ).loc Cert.AddSelIdeal.main_v0_1) = v1 c
          ∧ r.2.mem ((c.tc : Thread Cert.AddSelIdeal.nD Cert.AddSelIdeal.τ).loc Cert.AddSelIdeal.main_arg0) = m ((c.tc : Thread Cert.AddSelIdeal.nD Cert.AddSelIdeal.τ).loc Cert.AddSelIdeal.main_arg0)
          ∧ r.2.mem ((c.tc : Thread Cert.AddSelIdeal.nD Cert.AddSelIdeal.τ).loc Cert.AddSelIdeal.main_arg1) = m ((c.tc : Thread Cert.AddSelIdeal.nD Cert.AddSelIdeal.τ).loc Cert.AddSelIdeal.main_arg1)
          ∧ r.2.mem ((c.tc : Thread Cert.AddSelIdeal.nD Cert.AddSelIdeal.τ).loc Cert.AddSelIdeal.main_arg2) = m ((c.tc : Thread Cert.AddSelIdeal.nD Cert.AddSelIdeal.τ).loc Cert.AddSelIdeal.main_arg2))
      ∧ θ_run (Cert.AddSelRefIdeal.defs (F := Ideal)) (onTc (τ := Cert.AddSelRefIdeal.τ) (Cert.AddSelRefIdeal.main (F := Ideal))) ⟨m', fun _ => 0, g'⟩ (fun r => ∀ c : Dev Cert.AddSelRefIdeal.nD,
          r.2.mem ((c.tc : Thread Cert.AddSelRefIdeal.nD Cert.AddSelRefIdeal.τ).loc Cert.AddSelRefIdeal.main_v28) = v0 c
          ∧ r.2.mem ((c.tc : Thread Cert.AddSelRefIdeal.nD Cert.AddSelRefIdeal.τ).loc Cert.AddSelRefIdeal.main_v29) = v1 c
          ∧ r.2.mem ((c.tc : Thread Cert.AddSelRefIdeal.nD Cert.AddSelRefIdeal.τ).loc Cert.AddSelRefIdeal.main_arg0) = m' ((c.tc : Thread Cert.AddSelRefIdeal.nD Cert.AddSelRefIdeal.τ).loc Cert.AddSelRefIdeal.main_arg0)
          ∧ r.2.mem ((c.tc : Thread Cert.AddSelRefIdeal.nD Cert.AddSelRefIdeal.τ).loc Cert.AddSelRefIdeal.main_arg1) = m' ((c.tc : Thread Cert.AddSelRefIdeal.nD Cert.AddSelRefIdeal.τ).loc Cert.AddSelRefIdeal.main_arg1)
          ∧ r.2.mem ((c.tc : Thread Cert.AddSelRefIdeal.nD Cert.AddSelRefIdeal.τ).loc Cert.AddSelRefIdeal.main_arg2) = m' ((c.tc : Thread Cert.AddSelRefIdeal.nD Cert.AddSelRefIdeal.τ).loc Cert.AddSelRefIdeal.main_arg2))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)) →
    ∃ (v0 : (c : Dev Cert.PackIdeal.nD) → Buf (Elt Ideal) ((c.tc : Thread Cert.PackIdeal.nD Cert.PackIdeal.τ).loc Cert.PackIdeal.main_v14)) (v1 : (c : Dev Cert.PackIdeal.nD) → Buf (Elt Ideal) ((c.tc : Thread Cert.PackIdeal.nD Cert.PackIdeal.τ).loc Cert.PackIdeal.main_v17)) (v2 : (c : Dev Cert.PackIdeal.nD) → Buf (Elt Ideal) ((c.tc : Thread Cert.PackIdeal.nD Cert.PackIdeal.τ).loc Cert.PackIdeal.main_v20)) (v3 : (c : Dev Cert.PackIdeal.nD) → Buf (Elt Ideal) ((c.tc : Thread Cert.PackIdeal.nD Cert.PackIdeal.τ).loc Cert.PackIdeal.main_v23)) (v4 : (c : Dev Cert.PackIdeal.nD) → Buf (Elt Ideal) ((c.tc : Thread Cert.PackIdeal.nD Cert.PackIdeal.τ).loc Cert.PackIdeal.main_v26)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v14) = v0 c
          ∧ r.2.mem ((c.tc : Thread Cert.PackIdeal.nD Cert.PackIdeal.τ).loc Cert.PackIdeal.main_v17) = v1 c
          ∧ r.2.mem ((c.tc : Thread Cert.PackIdeal.nD Cert.PackIdeal.τ).loc Cert.PackIdeal.main_v20) = v2 c
          ∧ r.2.mem ((c.tc : Thread Cert.PackIdeal.nD Cert.PackIdeal.τ).loc Cert.PackIdeal.main_v23) = v3 c
          ∧ r.2.mem ((c.tc : Thread Cert.PackIdeal.nD Cert.PackIdeal.τ).loc Cert.PackIdeal.main_v26) = v4 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v8) = v0 c
          ∧ r.2.mem ((c.tc : Thread Cert.PackRefIdeal.nD Cert.PackRefIdeal.τ).loc Cert.PackRefIdeal.main_v17) = v1 c
          ∧ r.2.mem ((c.tc : Thread Cert.PackRefIdeal.nD Cert.PackRefIdeal.τ).loc Cert.PackRefIdeal.main_v26) = v2 c
          ∧ r.2.mem ((c.tc : Thread Cert.PackRefIdeal.nD Cert.PackRefIdeal.τ).loc Cert.PackRefIdeal.main_v35) = v3 c
          ∧ r.2.mem ((c.tc : Thread Cert.PackRefIdeal.nD Cert.PackRefIdeal.τ).loc Cert.PackRefIdeal.main_v44) = v4 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4))

def Claim : Prop :=
  ∃ (hPleBwd : Cert.PleBwd.Facts) (hPleBwdIdeal : Cert.PleBwdIdeal.Facts) (hPleRefIdeal : Cert.PleRefIdeal.Facts) (hSbBwd : Cert.SbBwd.Facts) (hSbBwdIdeal : Cert.SbBwdIdeal.Facts) (hSbRefIdeal : Cert.SbRefIdeal.Facts) (hSbFwd : Cert.SbFwd.Facts) (hSbFwdIdeal : Cert.SbFwdIdeal.Facts) (hSbFwdRefIdeal : Cert.SbFwdRefIdeal.Facts) (hRmsBwd : Cert.RmsBwd.Facts) (hRmsBwdIdeal : Cert.RmsBwdIdeal.Facts) (hRmsRefIdeal : Cert.RmsRefIdeal.Facts) (hHeadK : Cert.HeadK.Facts) (hHeadKIdeal : Cert.HeadKIdeal.Facts) (hHeadKRefIdeal : Cert.HeadKRefIdeal.Facts) (hHeadQ : Cert.HeadQ.Facts) (hHeadQIdeal : Cert.HeadQIdeal.Facts) (hHeadQRefIdeal : Cert.HeadQRefIdeal.Facts) (hGatesBwd : Cert.GatesBwd.Facts) (hGatesBwdIdeal : Cert.GatesBwdIdeal.Facts) (hGatesRefIdeal : Cert.GatesRefIdeal.Facts) (hConvBwd : Cert.ConvBwd.Facts) (hConvBwdIdeal : Cert.ConvBwdIdeal.Facts) (hConvRefIdeal : Cert.ConvRefIdeal.Facts) (hFfnBwd : Cert.FfnBwd.Facts) (hFfnBwdIdeal : Cert.FfnBwdIdeal.Facts) (hFfnRefIdeal : Cert.FfnRefIdeal.Facts) (hLossHead : Cert.LossHead.Facts) (hLossHeadIdeal : Cert.LossHeadIdeal.Facts) (hLossRefIdeal : Cert.LossRefIdeal.Facts) (hGateNorm : Cert.GateNorm.Facts) (hGateNormIdeal : Cert.GateNormIdeal.Facts) (hGateNormRefIdeal : Cert.GateNormRefIdeal.Facts) (hAbDx : Cert.AbDx.Facts) (hAbDxIdeal : Cert.AbDxIdeal.Facts) (hAbDxRefIdeal : Cert.AbDxRefIdeal.Facts) (hRmsFwd : Cert.RmsFwd.Facts) (hRmsFwdIdeal : Cert.RmsFwdIdeal.Facts) (hRmsFwdRefIdeal : Cert.RmsFwdRefIdeal.Facts) (hHeadKFwd : Cert.HeadKFwd.Facts) (hHeadKFwdIdeal : Cert.HeadKFwdIdeal.Facts) (hHeadKFwdRefIdeal : Cert.HeadKFwdRefIdeal.Facts) (hHeadQFwd : Cert.HeadQFwd.Facts) (hHeadQFwdIdeal : Cert.HeadQFwdIdeal.Facts) (hHeadQFwdRefIdeal : Cert.HeadQFwdRefIdeal.Facts) (hGateNormFwd : Cert.GateNormFwd.Facts) (hGateNormFwdIdeal : Cert.GateNormFwdIdeal.Facts) (hGateNormFwdRefIdeal : Cert.GateNormFwdRefIdeal.Facts) (hGatesFwd : Cert.GatesFwd.Facts) (hGatesFwdIdeal : Cert.GatesFwdIdeal.Facts) (hGatesFwdRefIdeal : Cert.GatesFwdRefIdeal.Facts) (hConvFwd : Cert.ConvFwd.Facts) (hConvFwdIdeal : Cert.ConvFwdIdeal.Facts) (hConvFwdRefIdeal : Cert.ConvFwdRefIdeal.Facts) (hFfnFwd : Cert.FfnFwd.Facts) (hFfnFwdIdeal : Cert.FfnFwdIdeal.Facts) (hFfnFwdRefIdeal : Cert.FfnFwdRefIdeal.Facts) (hOutRms : Cert.OutRms.Facts) (hOutRmsIdeal : Cert.OutRmsIdeal.Facts) (hOutRmsRefIdeal : Cert.OutRmsRefIdeal.Facts) (hFfnOutRms : Cert.FfnOutRms.Facts) (hFfnOutRmsIdeal : Cert.FfnOutRmsIdeal.Facts) (hFfnOutRmsRefIdeal : Cert.FfnOutRmsRefIdeal.Facts) (hPleGateRms : Cert.PleGateRms.Facts) (hPleGateRmsIdeal : Cert.PleGateRmsIdeal.Facts) (hPleGateRmsRefIdeal : Cert.PleGateRmsRefIdeal.Facts) (hPleGate : Cert.PleGate.Facts) (hPleGateIdeal : Cert.PleGateIdeal.Facts) (hPleGateRefIdeal : Cert.PleGateRefIdeal.Facts) (hGdnFwd : Cert.GdnFwd.Facts) (hGdnFwdIdeal : Cert.GdnFwdIdeal.Facts) (hMmDw : Cert.MmDw.Facts) (hMmDwIdeal : Cert.MmDwIdeal.Facts) (hMmDwRefIdeal : Cert.MmDwRefIdeal.Facts) (hAdamW : Cert.AdamW.Facts) (hAdamWIdeal : Cert.AdamWIdeal.Facts) (hAdamWRefIdeal : Cert.AdamWRefIdeal.Facts) (hSumDv : Cert.SumDv.Facts) (hSumDvIdeal : Cert.SumDvIdeal.Facts) (hSumDvRefIdeal : Cert.SumDvRefIdeal.Facts) (hChipSum : Cert.ChipSum.Facts) (hChipSumIdeal : Cert.ChipSumIdeal.Facts) (hChipSumRefIdeal : Cert.ChipSumRefIdeal.Facts) (hAddSel : Cert.AddSel.Facts) (hAddSelIdeal : Cert.AddSelIdeal.Facts) (hAddSelRefIdeal : Cert.AddSelRefIdeal.Facts) (hPack : Cert.Pack.Facts) (hPackIdeal : Cert.PackIdeal.Facts) (hPackRefIdeal : Cert.PackRefIdeal.Facts) (hPre_finite_sb : Cert.Pre_finite_sb.Facts) (hPre_finite_sf : Cert.Pre_finite_sf.Facts) (hPre_defined_gates : Cert.Pre_defined_gates.Facts) (hPre_finite_conv : Cert.Pre_finite_conv.Facts) (hPre_finite_ffn : Cert.Pre_finite_ffn.Facts) (hPre_on_mesh_cs : Cert.Pre_on_mesh_cs.Facts) (hPre_on_mesh : Cert.Pre_on_mesh.Facts),
    quiescent_PleBwd (hPleBwd := hPleBwd)
    ∧ quiescent_PleBwdIdeal (hPleBwdIdeal := hPleBwdIdeal)
    ∧ quiescent_PleRefIdeal (hPleRefIdeal := hPleRefIdeal)
    ∧ quiescent_SbBwd (hSbBwd := hSbBwd)
    ∧ quiescent_SbBwdIdeal (hSbBwdIdeal := hSbBwdIdeal)
    ∧ quiescent_SbBwdIdeal_pre_finite_sb (hSbBwdIdeal := hSbBwdIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_SbFwd (hSbFwd := hSbFwd)
    ∧ quiescent_SbFwdIdeal (hSbFwdIdeal := hSbFwdIdeal)
    ∧ quiescent_SbFwdIdeal_pre_finite_sf (hSbFwdIdeal := hSbFwdIdeal) (hPre_finite_sf := hPre_finite_sf)
    ∧ quiescent_SbFwdRefIdeal (hSbFwdRefIdeal := hSbFwdRefIdeal)
    ∧ quiescent_SbFwdRefIdeal_pre_finite_sf (hSbFwdRefIdeal := hSbFwdRefIdeal) (hPre_finite_sf := hPre_finite_sf)
    ∧ quiescent_RmsBwd (hRmsBwd := hRmsBwd)
    ∧ quiescent_RmsBwdIdeal (hRmsBwdIdeal := hRmsBwdIdeal)
    ∧ quiescent_RmsRefIdeal (hRmsRefIdeal := hRmsRefIdeal)
    ∧ quiescent_HeadK (hHeadK := hHeadK)
    ∧ quiescent_HeadKIdeal (hHeadKIdeal := hHeadKIdeal)
    ∧ quiescent_HeadKRefIdeal (hHeadKRefIdeal := hHeadKRefIdeal)
    ∧ quiescent_HeadQ (hHeadQ := hHeadQ)
    ∧ quiescent_HeadQIdeal (hHeadQIdeal := hHeadQIdeal)
    ∧ quiescent_HeadQRefIdeal (hHeadQRefIdeal := hHeadQRefIdeal)
    ∧ quiescent_GatesBwd (hGatesBwd := hGatesBwd)
    ∧ quiescent_GatesBwdIdeal (hGatesBwdIdeal := hGatesBwdIdeal)
    ∧ quiescent_GatesBwdIdeal_pre_defined_gates (hGatesBwdIdeal := hGatesBwdIdeal) (hPre_defined_gates := hPre_defined_gates)
    ∧ quiescent_GatesRefIdeal (hGatesRefIdeal := hGatesRefIdeal)
    ∧ quiescent_GatesRefIdeal_pre_defined_gates (hGatesRefIdeal := hGatesRefIdeal) (hPre_defined_gates := hPre_defined_gates)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_LossHead (hLossHead := hLossHead)
    ∧ quiescent_LossHeadIdeal (hLossHeadIdeal := hLossHeadIdeal)
    ∧ quiescent_LossRefIdeal (hLossRefIdeal := hLossRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_AbDx (hAbDx := hAbDx)
    ∧ quiescent_AbDxIdeal (hAbDxIdeal := hAbDxIdeal)
    ∧ quiescent_AbDxRefIdeal (hAbDxRefIdeal := hAbDxRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_HeadKFwd (hHeadKFwd := hHeadKFwd)
    ∧ quiescent_HeadKFwdIdeal (hHeadKFwdIdeal := hHeadKFwdIdeal)
    ∧ quiescent_HeadKFwdRefIdeal (hHeadKFwdRefIdeal := hHeadKFwdRefIdeal)
    ∧ quiescent_HeadQFwd (hHeadQFwd := hHeadQFwd)
    ∧ quiescent_HeadQFwdIdeal (hHeadQFwdIdeal := hHeadQFwdIdeal)
    ∧ quiescent_HeadQFwdRefIdeal (hHeadQFwdRefIdeal := hHeadQFwdRefIdeal)
    ∧ quiescent_GateNormFwd (hGateNormFwd := hGateNormFwd)
    ∧ quiescent_GateNormFwdIdeal (hGateNormFwdIdeal := hGateNormFwdIdeal)
    ∧ quiescent_GateNormFwdRefIdeal (hGateNormFwdRefIdeal := hGateNormFwdRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_OutRms (hOutRms := hOutRms)
    ∧ quiescent_OutRmsIdeal (hOutRmsIdeal := hOutRmsIdeal)
    ∧ quiescent_OutRmsRefIdeal (hOutRmsRefIdeal := hOutRmsRefIdeal)
    ∧ quiescent_FfnOutRms (hFfnOutRms := hFfnOutRms)
    ∧ quiescent_FfnOutRmsIdeal (hFfnOutRmsIdeal := hFfnOutRmsIdeal)
    ∧ quiescent_FfnOutRmsRefIdeal (hFfnOutRmsRefIdeal := hFfnOutRmsRefIdeal)
    ∧ quiescent_PleGateRms (hPleGateRms := hPleGateRms)
    ∧ quiescent_PleGateRmsIdeal (hPleGateRmsIdeal := hPleGateRmsIdeal)
    ∧ quiescent_PleGateRmsRefIdeal (hPleGateRmsRefIdeal := hPleGateRmsRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_GdnFwd (hGdnFwd := hGdnFwd)
    ∧ quiescent_GdnFwdIdeal (hGdnFwdIdeal := hGdnFwdIdeal)
    ∧ quiescent_MmDw (hMmDw := hMmDw)
    ∧ quiescent_MmDwIdeal (hMmDwIdeal := hMmDwIdeal)
    ∧ quiescent_MmDwRefIdeal (hMmDwRefIdeal := hMmDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumDv (hSumDv := hSumDv)
    ∧ quiescent_SumDvIdeal (hSumDvIdeal := hSumDvIdeal)
    ∧ quiescent_SumDvRefIdeal (hSumDvRefIdeal := hSumDvRefIdeal)
    ∧ quiescent_ChipSum (hChipSum := hChipSum) (hPre_on_mesh_cs := hPre_on_mesh_cs)
    ∧ quiescent_ChipSumIdeal (hChipSumIdeal := hChipSumIdeal) (hPre_on_mesh_cs := hPre_on_mesh_cs)
    ∧ quiescent_ChipSumRefIdeal (hChipSumRefIdeal := hChipSumRefIdeal) (hPre_on_mesh_cs := hPre_on_mesh_cs)
    ∧ quiescent_AddSel (hAddSel := hAddSel) (hPre_on_mesh := hPre_on_mesh)
    ∧ quiescent_AddSelIdeal (hAddSelIdeal := hAddSelIdeal) (hPre_on_mesh := hPre_on_mesh)
    ∧ quiescent_AddSelRefIdeal (hAddSelRefIdeal := hAddSelRefIdeal) (hPre_on_mesh := hPre_on_mesh)
    ∧ quiescent_Pack (hPack := hPack)
    ∧ quiescent_PackIdeal (hPackIdeal := hPackIdeal)
    ∧ quiescent_PackRefIdeal (hPackRefIdeal := hPackRefIdeal)
    ∧ preserves_PleBwd_PleBwdIdeal
    ∧ algebraic_PleBwdIdeal_PleRefIdeal (hPleBwdIdeal := hPleBwdIdeal) (hPleRefIdeal := hPleRefIdeal)
    ∧ preserves_SbBwd_SbBwdIdeal
    ∧ algebraic_SbBwdIdeal_SbRefIdeal_pre_finite_sb (hSbBwdIdeal := hSbBwdIdeal) (hSbRefIdeal := hSbRefIdeal) (hPre_finite_sb := hPre_finite_sb)
    ∧ preserves_SbFwd_SbFwdIdeal
    ∧ algebraic_SbFwdIdeal_SbFwdRefIdeal_pre_finite_sf (hSbFwdIdeal := hSbFwdIdeal) (hSbFwdRefIdeal := hSbFwdRefIdeal) (hPre_finite_sf := hPre_finite_sf)
    ∧ preserves_RmsBwd_RmsBwdIdeal
    ∧ algebraic_RmsBwdIdeal_RmsRefIdeal (hRmsBwdIdeal := hRmsBwdIdeal) (hRmsRefIdeal := hRmsRefIdeal)
    ∧ preserves_HeadK_HeadKIdeal
    ∧ algebraic_HeadKIdeal_HeadKRefIdeal (hHeadKIdeal := hHeadKIdeal) (hHeadKRefIdeal := hHeadKRefIdeal)
    ∧ preserves_HeadQ_HeadQIdeal
    ∧ algebraic_HeadQIdeal_HeadQRefIdeal (hHeadQIdeal := hHeadQIdeal) (hHeadQRefIdeal := hHeadQRefIdeal)
    ∧ preserves_GatesBwd_GatesBwdIdeal
    ∧ algebraic_GatesBwdIdeal_GatesRefIdeal_pre_defined_gates (hGatesBwdIdeal := hGatesBwdIdeal) (hGatesRefIdeal := hGatesRefIdeal) (hPre_defined_gates := hPre_defined_gates)
    ∧ preserves_ConvBwd_ConvBwdIdeal
    ∧ algebraic_ConvBwdIdeal_ConvRefIdeal_pre_finite_conv (hConvBwdIdeal := hConvBwdIdeal) (hConvRefIdeal := hConvRefIdeal) (hPre_finite_conv := hPre_finite_conv)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_LossHead_LossHeadIdeal
    ∧ algebraic_LossHeadIdeal_LossRefIdeal (hLossHeadIdeal := hLossHeadIdeal) (hLossRefIdeal := hLossRefIdeal)
    ∧ preserves_GateNorm_GateNormIdeal
    ∧ algebraic_GateNormIdeal_GateNormRefIdeal (hGateNormIdeal := hGateNormIdeal) (hGateNormRefIdeal := hGateNormRefIdeal)
    ∧ preserves_AbDx_AbDxIdeal
    ∧ algebraic_AbDxIdeal_AbDxRefIdeal (hAbDxIdeal := hAbDxIdeal) (hAbDxRefIdeal := hAbDxRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_HeadKFwd_HeadKFwdIdeal
    ∧ algebraic_HeadKFwdIdeal_HeadKFwdRefIdeal (hHeadKFwdIdeal := hHeadKFwdIdeal) (hHeadKFwdRefIdeal := hHeadKFwdRefIdeal)
    ∧ preserves_HeadQFwd_HeadQFwdIdeal
    ∧ algebraic_HeadQFwdIdeal_HeadQFwdRefIdeal (hHeadQFwdIdeal := hHeadQFwdIdeal) (hHeadQFwdRefIdeal := hHeadQFwdRefIdeal)
    ∧ preserves_GateNormFwd_GateNormFwdIdeal
    ∧ algebraic_GateNormFwdIdeal_GateNormFwdRefIdeal (hGateNormFwdIdeal := hGateNormFwdIdeal) (hGateNormFwdRefIdeal := hGateNormFwdRefIdeal)
    ∧ preserves_GatesFwd_GatesFwdIdeal
    ∧ algebraic_GatesFwdIdeal_GatesFwdRefIdeal (hGatesFwdIdeal := hGatesFwdIdeal) (hGatesFwdRefIdeal := hGatesFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_OutRms_OutRmsIdeal
    ∧ algebraic_OutRmsIdeal_OutRmsRefIdeal (hOutRmsIdeal := hOutRmsIdeal) (hOutRmsRefIdeal := hOutRmsRefIdeal)
    ∧ preserves_FfnOutRms_FfnOutRmsIdeal
    ∧ algebraic_FfnOutRmsIdeal_FfnOutRmsRefIdeal (hFfnOutRmsIdeal := hFfnOutRmsIdeal) (hFfnOutRmsRefIdeal := hFfnOutRmsRefIdeal)
    ∧ preserves_PleGateRms_PleGateRmsIdeal
    ∧ algebraic_PleGateRmsIdeal_PleGateRmsRefIdeal (hPleGateRmsIdeal := hPleGateRmsIdeal) (hPleGateRmsRefIdeal := hPleGateRmsRefIdeal)
    ∧ preserves_PleGate_PleGateIdeal
    ∧ algebraic_PleGateIdeal_PleGateRefIdeal (hPleGateIdeal := hPleGateIdeal) (hPleGateRefIdeal := hPleGateRefIdeal)
    ∧ preserves_GdnFwd_GdnFwdIdeal
    ∧ preserves_MmDw_MmDwIdeal
    ∧ algebraic_MmDwIdeal_MmDwRefIdeal (hMmDwIdeal := hMmDwIdeal) (hMmDwRefIdeal := hMmDwRefIdeal)
    ∧ preserves_AdamW_AdamWIdeal
    ∧ algebraic_AdamWIdeal_AdamWRefIdeal (hAdamWIdeal := hAdamWIdeal) (hAdamWRefIdeal := hAdamWRefIdeal)
    ∧ preserves_SumDv_SumDvIdeal
    ∧ algebraic_SumDvIdeal_SumDvRefIdeal (hSumDvIdeal := hSumDvIdeal) (hSumDvRefIdeal := hSumDvRefIdeal)
    ∧ preserves_ChipSum_ChipSumIdeal
    ∧ algebraic_ChipSumIdeal_ChipSumRefIdeal (hChipSumIdeal := hChipSumIdeal) (hChipSumRefIdeal := hChipSumRefIdeal) (hPre_on_mesh_cs := hPre_on_mesh_cs)
    ∧ preserves_AddSel_AddSelIdeal
    ∧ algebraic_AddSelIdeal_AddSelRefIdeal (hAddSelIdeal := hAddSelIdeal) (hAddSelRefIdeal := hAddSelRefIdeal) (hPre_on_mesh := hPre_on_mesh)
    ∧ preserves_Pack_PackIdeal
    ∧ algebraic_PackIdeal_PackRefIdeal (hPackIdeal := hPackIdeal) (hPackRefIdeal := hPackRefIdeal)
-- ==== Pre_defined_gates.lean ====
abbrev S16x4096 : Shape := ⟨2, ![16, 4096]⟩
abbrev S8 : Shape := ⟨1, ![8]⟩
abbrev S8x4096 : Shape := ⟨2, ![8, 4096]⟩
abbrev S_ : Shape := ⟨0, ![]⟩
abbrev S8x1 : Shape := ⟨2, ![8, 1]⟩

class Facts : Prop where
  bcast_S_S8 : S_.BroadcastsInDim S8 (![] : Fin 0 → Fin S8.rank)
  reducesTo_S8_S_d0 : S8.ReducesTo [0] S_
  h_S_ : 0 < S_.numel
  bcast_S_S8x4096 : S_.BroadcastsInDim S8x4096 (![] : Fin 0 → Fin S8x4096.rank)
  reducesTo_S8x4096_S_d0_1 : S8x4096.ReducesTo [0, 1] S_
  slices_S16x4096_S8x4096_0_0 : S16x4096.Slices ![0, 0] S8x4096
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)

variable [Facts]

def fn {F : FTy → Type} [FloatOps F] (main_arg0 : FVec F S16x4096 .f32) (main_arg1 : FVec F S8 .f32) (main_arg2 : FVec F S8 .f32) (main_arg3 : FVec F S8x4096 .f32) (main_arg4 : FVec F S8x4096 .f32) : IVec S_ 1 :=
  let main_v0 : FVec F S8 .f32 := Host.absf main_arg1
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S8x4096 .f32 := Host.absf main_arg3
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8x4096 .f32 := (extractStridedSlice S8x4096 ![0, 0] · slices_S16x4096_S8x4096_0_0) main_arg0
  let main_v10 : FVec F S8x1 .f32 := broadcastInDim S8x1 ![0] bcast_S8_S8x1_0 main_arg2
  let main_v11 : FVec F S8x4096 .f32 := broadcastInDim S8x4096 ![0, 1] bcast_S8x1_S8x4096_0_1 main_v10
  let main_v12 : FVec F S8x4096 .f32 := addf main_v9 main_v11
  let main_cst_2 : FVec F S_ .f32 := constant S_ .f32 0x00000000#32
  let main_v13 : FVec F S8x4096 .f32 := broadcastInDim S8x4096 ![] bcast_S_S8x4096 main_cst_2
  let main_v14 : IVec S8x4096 1 := cmpf .une main_v12 main_v13
  let main_c_3 : IVec S_ 1 := constantI S_ 1 1#1
  let main_v15 : IVec S_ 1 := (fun x v => Host.reduce IntOp.andi x v reducesTo_S8x4096_S_d0_1 h_S_) main_v14 main_c_3
  let main_v16 : IVec S_ 1 := andi main_v8 main_v15
  main_v16
-- ==== Pre_finite_conv.lean ====
abbrev S4096x4096 : Shape := ⟨2, ![4096, 4096]⟩
abbrev S4x3072 : Shape := ⟨2, ![4, 3072]⟩
abbrev S3x4096x1024 : Shape := ⟨3, ![3, 4096, 1024]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel

variable [Facts]

def fn {F : FTy → Type} [FloatOps F] (main_arg0 : FVec F S4096x4096 .bf16) (main_arg1 : FVec F S4x3072 .f32) (main_arg2 : FVec F S3x4096x1024 .f32) (main_arg3 : FVec F S4096x4096 .bf16) : IVec S_ 1 :=
  let main_v0 : FVec F S3x4096x1024 .f32 := Host.absf main_arg2
  let main_cst : FVec F S_ .f32 := constant S_ .f32 0x7F800000#32
  let main_v1 : FVec F S3x4096x1024 .f32 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  main_v3
-- ==== Pre_finite_ffn.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .bf16) (main_arg2 : FVec F S4096x5632 .bf16) : IVec S_ 1 :=
  let main_v0 : FVec F S4096x2816 .bf16 := (extractStridedSlice S4096x2816 ![0, 2816] · slices_S4096x5632_S4096x2816_0_2816) main_arg2
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_v0
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== Pre_finite_sb.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v3 main_v7
  let main_v9 : FVec F S4096x1024 .f32 := (extf .f32 · bitsLt_bf16_f32) main_arg2
  let main_v10 : FVec F S4096x1024 .f32 := Host.absf main_v9
  let main_cst_1 : FVec F S_ .f32 := constant S_ .f32 0x7F800000#32
  let main_v11 : FVec F S4096x1024 .f32 := broadcastInDim S4096x1024 ![] bcast_S_S4096x1024 main_cst_1
  let main_v12 : IVec S4096x1024 1 := cmpf .olt main_v10 main_v11
  let main_v13 : IVec S4096x1024 1 := andi main_v8 main_v12
  let main_v14 : FVec F S4096x1024 .f32 := (extf .f32 · bitsLt_bf16_f32) main_arg3
  let main_v15 : FVec F S4096x1024 .f32 := Host.absf main_v14
  let main_cst_2 : FVec F S_ .f32 := constant S_ .f32 0x7F800000#32
  let main_v16 : FVec F S4096x1024 .f32 := broadcastInDim S4096x1024 ![] bcast_S_S4096x1024 main_cst_2
  let main_v17 : IVec S4096x1024 1 := cmpf .olt main_v15 main_v16
  let main_v18 : IVec S4096x1024 1 := andi main_v13 main_v17
  main_v18
-- ==== Pre_finite_sf.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v3 main_v7
  let main_v9 : FVec F S4096x1024 .f32 := (extf .f32 · bitsLt_bf16_f32) main_arg2
  let main_v10 : FVec F S4096x1024 .f32 := Host.absf main_v9
  let main_cst_1 : FVec F S_ .f32 := constant S_ .f32 0x7F800000#32
  let main_v11 : FVec F S4096x1024 .f32 := broadcastInDim S4096x1024 ![] bcast_S_S4096x1024 main_cst_1
  let main_v12 : IVec S4096x1024 1 := cmpf .olt main_v10 main_v11
  let main_v13 : IVec S4096x1024 1 := andi main_v8 main_v12
  main_v13
-- ==== Pre_on_mesh.lean ====
abbrev S2 : Shape := ⟨1, ![2]⟩
abbrev S4x2x512x1408 : Shape := ⟨4, ![4, 2, 512, 1408]⟩
abbrev S4x512x1408 : Shape := ⟨3, ![4, 512, 1408]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x2x512x1408 .f32) (main_arg2 : FVec F S4x512x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_on_mesh_cs.lean ====
abbrev S_ : Shape := ⟨0, ![]⟩
abbrev S512x1408 : Shape := ⟨2, ![512, 1408]⟩
abbrev S3x512x1408 : Shape := ⟨3, ![3, 512, 1408]⟩

class Facts : Prop where

variable [Facts]

def fn {F : FTy → Type} [FloatOps F] (main_arg0 : IVec S_ 32) (main_arg1 : IVec S_ 32) (main_arg2 : FVec F S512x1408 .f32) (main_arg3 : FVec F S3x512x1408 .bf16) : IVec S_ 1 :=
  let main_c : IVec S_ 32 := constantI S_ 32 0#32
  let main_v0 : IVec S_ 1 := cmpi .sge main_arg1 main_c
  let main_c_0 : IVec S_ 32 := constantI S_ 32 2#32
  let main_v1 : IVec S_ 1 := cmpi .slt main_arg1 main_c_0
  let main_v2 : IVec S_ 1 := andi main_v0 main_v1
  main_v2
-- ==== PleBwd.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== PleRefIdeal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SbBwd.lean ====
abbrev S4096x1024 : Shape := ⟨2, ![4096, 1024]⟩
abbrev S256x256 : Shape := ⟨2, ![256, 256]⟩
abbrev S4096x256 : Shape := ⟨2, ![4096, 256]⟩
abbrev S2x16x256x256 : Shape := ⟨4, ![2, 16, 256, 256]⟩
abbrev S256x128 : Shape := ⟨2, ![256, 128]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x256x256 : Shape := ⟨4, ![1, 1, 256, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S2x16x256x256, .f32⟩
  | .local _ .vmem, ⟨15, _⟩ => ⟨S2x16x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) (arg11 : BitVec 32) : BitVec 32 :=
  let arg1 : BitVec 32 := BitVec.ofNat 32 (i 1).val
  let v36 : BitVec 32 := Scalar.subi arg1 arg11
  let c256_i32 : BitVec 32 := 256#32
  let v37 : BitVec 32 := Scalar.muli v36 c256_i32
  v37

def k0_off1 (i : grid0.Coords) (arg11 : BitVec 32) : Fin 2 → Nat :=
  let arg1 : BitVec 32 := BitVec.ofNat 32 (i 1).val
  let v36 : BitVec 32 := Scalar.subi arg1 arg11
  let c256_i32 : BitVec 32 := 256#32
  let v37 : BitVec 32 := Scalar.muli v36 c256_i32
  let v38 : BitVec 32 := v37
  let v39 : Index := Scalar.indexCast v38
  let c0_21 : Index := 0#32
  ![v39.toNat, 0]
def k0_off2 (i : grid0.Coords) (arg11 : BitVec 32) : Fin 2 → Nat :=
  let arg1 : BitVec 32 := BitVec.ofNat 32 (i 1).val
  let v36 : BitVec 32 := Scalar.subi arg1 arg11
  let c256_i32 : BitVec 32 := 256#32
  let v37 : BitVec 32 := Scalar.muli v36 c256_i32
  let v38 : BitVec 32 := v37
  let v41 : Index := Scalar.indexCast v38
  let c128_22 : Index := 128#32
  ![v41.toNat, 128]
def k0_off3 (i : grid0.Coords) (arg11 : BitVec 32) : Fin 4 → Nat :=
  let c0_47 : Index := 0#32
  let arg1 : BitVec 32 := BitVec.ofNat 32 (i 1).val
  let v36 : BitVec 32 := Scalar.subi arg1 arg11
  let v118 : Index := Scalar.indexCast v36
  let c0_48 : Index := 0#32
  let c0_49 : Index := 0#32
  ![0, v118.toNat, 0, 0]
def k0_off4 (i : grid0.Coords) (arg11 : BitVec 32) : Fin 4 → Nat :=
  let c1 : Index := 1#32
  let arg1 : BitVec 32 := BitVec.ofNat 32 (i 1).val
  let v36 : BitVec 32 := Scalar.subi arg1 arg11
  let v132 : Index := Scalar.indexCast v36
  let c0_55 : Index := 0#32
  let c0_56 : Index := 0#32
  ![1, v132.toNat, 0, 0]

def k0_chk1 (i : grid0.Coords) (arg11 : BitVec 32) : Prop :=
  (256 ∣ (k0_mult1 i arg11).toNat) ∧
  (∀ a, (k0_off1 i arg11) a + S256x128.size a ≤ S4096x256.size a) ∧
  (∀ a, (k0_off2 i arg11) a + S256x128.size a ≤ S4096x256.size a) ∧
  (∀ a, (k0_off3 i arg11) a + S1x1x256x256.size a ≤ S2x16x256x256.size a) ∧
  (∀ a, (k0_off4 i arg11) a + S1x1x256x256.size a ≤ S2x16x256x256.size a)
theorem k0_mult1_dvd : ∀ (i : grid0.Coords) (arg11 : BitVec 32) (k0_hw1 : k0_chk1 i arg11), 256 ∣ (k0_mult1 i arg11).toNat := fun i arg11 k0_hw1 => k0_hw1.1
theorem k0_off1_inb : ∀ (i : grid0.Coords) (arg11 : BitVec 32) (k0_hw1 : k0_chk1 i arg11), ∀ a, (k0_off1 i arg11) a + S256x128.size a ≤ S4096x256.size a := fun i arg11 k0_hw1 => k0_hw1.2.1
theorem k0_off2_inb : ∀ (i : grid0.Coords) (arg11 : BitVec 32) (k0_hw1 : k0_chk1 i arg11), ∀ a, (k0_off2 i arg11) a + S256x128.size a ≤ S4096x256.size a := fun i arg11 k0_hw1 => k0_hw1.2.2.1
theorem k0_off3_inb : ∀ (i : grid0.Coords) (arg11 : BitVec 32) (k0_hw1 : k0_chk1 i arg11), ∀ a, (k0_off3 i arg11) a + S1x1x256x256.size a ≤ S2x16x256x256.size a := fun i arg11 k0_hw1 => k0_hw1.2.2.2.1
theorem k0_off4_inb : ∀ (i : grid0.Coords) (arg11 : BitVec 32) (k0_hw1 : k0_chk1 i arg11), ∀ a, (k0_off4 i arg11) a + S1x1x256x256.size a ≤ S2x16x256x256.size a := fun i arg11 k0_hw1 => k0_hw1.2.2.2.2

@[reducible] def k0_t1_loop (i : grid0.Coords) (v19_0 : BitVec 32) : Scf.Loop 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_15 : BitVec 32 := 1#32
  ⟨v21, v31, c1_i32_15⟩

def k0_mult2 (i : grid0.Coords) (v19_0 : BitVec 32) (k0_t1 : Fin (k0_t1_loop i v19_0).trips) : BitVec 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  v36
def k0_off5 (i : grid0.Coords) (v19_0 : BitVec 32) (k0_t1 : Fin (k0_t1_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  let v37 : BitVec 32 := v36
  let v47 : Index := Scalar.indexCast v37
  let c0_23 : Index := 0#32
  ![v47.toNat, 0]
def k0_off6 (i : grid0.Coords) (v19_0 : BitVec 32) (k0_t1 : Fin (k0_t1_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  let v37 : BitVec 32 := v36
  let v49 : Index := Scalar.indexCast v37
  let c128_24 : Index := 128#32
  ![v49.toNat, 128]
def k0_off7 (i : grid0.Coords) (v19_0 : BitVec 32) (k0_t1 : Fin (k0_t1_loop i v19_0).trips) : Fin 4 → Nat :=
  let c0_25 : Index := 0#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let v51 : Index := Scalar.indexCast arg11
  let c0_26 : Index := 0#32
  let c0_27 : Index := 0#32
  ![0, v51.toNat, 0, 0]
def k0_off8 (i : grid0.Coords) (v19_0 : BitVec 32) (k0_t1 : Fin (k0_t1_loop i v19_0).trips) : Fin 4 → Nat :=
  let c1 : Index := 1#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let v54 : Index := Scalar.indexCast arg11
  let c0_28 : Index := 0#32
  let c0_29 : Index := 0#32
  ![1, v54.toNat, 0, 0]
@[reducible] def k0_t2_loop (i : grid0.Coords) (v19_0 : BitVec 32) : Scf.Loop 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let v28 : BitVec 32 := Scalar.addi v21 v27
  let c1_i32_16 : BitVec 32 := 1#32
  ⟨v31, v28, c1_i32_16⟩
def k0_mult3 (i : grid0.Coords) (v19_0 : BitVec 32) (k0_t2 : Fin (k0_t2_loop i v19_0).trips) : BitVec 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  v36
def k0_off9 (i : grid0.Coords) (v19_0 : BitVec 32) (k0_t2 : Fin (k0_t2_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  let v37 : BitVec 32 := v36
  let v47 : Index := Scalar.indexCast v37
  let c0_23 : Index := 0#32
  ![v47.toNat, 0]
def k0_off10 (i : grid0.Coords) (v19_0 : BitVec 32) (k0_t2 : Fin (k0_t2_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  let v37 : BitVec 32 := v36
  let v49 : Index := Scalar.indexCast v37
  let c128_24 : Index := 128#32
  ![v49.toNat, 128]
def k0_off11 (i : grid0.Coords) (v19_0 : BitVec 32) (k0_t2 : Fin (k0_t2_loop i v19_0).trips) : Fin 4 → Nat :=
  let c0_25 : Index := 0#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let v51 : Index := Scalar.indexCast arg11
  let c0_26 : Index := 0#32
  let c0_27 : Index := 0#32
  ![0, v51.toNat, 0, 0]
def k0_off12 (i : grid0.Coords) (v19_0 : BitVec 32) (k0_t2 : Fin (k0_t2_loop i v19_0).trips) : Fin 4 → Nat :=
  let c1 : Index := 1#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let v54 : Index := Scalar.indexCast arg11
  let c0_28 : Index := 0#32
  let c0_29 : Index := 0#32
  ![1, v54.toNat, 0, 0]

def k0_chk2 (i : grid0.Coords) (v19_0 : BitVec 32) : Prop :=
  ((k0_t1_loop i v19_0).OK) ∧
  (∀ k0_t1 : Fin (k0_t1_loop i v19_0).trips, 256 ∣ (k0_mult2 i v19_0 k0_t1).toNat) ∧
  (∀ k0_t1 : Fin (k0_t1_loop i v19_0).trips, ∀ a, (k0_off5 i v19_0 k0_t1) a + S256x128.size a ≤ S4096x256.size a) ∧
  (∀ k0_t1 : Fin (k0_t1_loop i v19_0).trips, ∀ a, (k0_off6 i v19_0 k0_t1) a + S256x128.size a ≤ S4096x256.size a) ∧
  (∀ k0_t1 : Fin (k0_t1_loop i v19_0).trips, ∀ a, (k0_off7 i v19_0 k0_t1) a + S1x1x256x256.size a ≤ S2x16x256x256.size a) ∧
  (∀ k0_t1 : Fin (k0_t1_loop i v19_0).trips, ∀ a, (k0_off8 i v19_0 k0_t1) a + S1x1x256x256.size a ≤ S2x16x256x256.size a) ∧
  ((k0_t2_loop i v19_0).OK) ∧
  (∀ k0_t2 : Fin (k0_t2_loop i v19_0).trips, 256 ∣ (k0_mult3 i v19_0 k0_t2).toNat) ∧
  (∀ k0_t2 : Fin (k0_t2_loop i v19_0).trips, ∀ a, (k0_off9 i v19_0 k0_t2) a + S256x128.size a ≤ S4096x256.size a) ∧
  (∀ k0_t2 : Fin (k0_t2_loop i v19_0).trips, ∀ a, (k0_off10 i v19_0 k0_t2) a + S256x128.size a ≤ S4096x256.size a) ∧
  (∀ k0_t2 : Fin (k0_t2_loop i v19_0).trips, ∀ a, (k0_off11 i v19_0 k0_t2) a + S1x1x256x256.size a ≤ S2x16x256x256.size a) ∧
  (∀ k0_t2 : Fin (k0_t2_loop i v19_0).trips, ∀ a, (k0_off12 i v19_0 k0_t2) a + S1x1x256x256.size a ≤ S2x16x256x256.size a)
theorem k0_t1_ok : ∀ (i : grid0.Coords) (v19_0 : BitVec 32) (k0_hw2 : k0_chk2 i v19_0), (k0_t1_loop i v19_0).OK := fun i v19_0 k0_hw2 => k0_hw2.1
theorem k0_mult2_dvd : ∀ (i : grid0.Coords) (v19_0 : BitVec 32) (k0_hw2 : k0_chk2 i v19_0) (k0_t1 : Fin (k0_t1_loop i v19_0).trips), 256 ∣ (k0_mult2 i v19_0 k0_t1).toNat := fun i v19_0 k0_hw2 k0_t1 => k0_hw2.2.1 k0_t1
theorem k0_off5_inb : ∀ (i : grid0.Coords) (v19_0 : BitVec 32) (k0_hw2 : k0_chk2 i v19_0) (k0_t1 : Fin (k0_t1_loop i v19_0).trips), ∀ a, (k0_off5 i v19_0 k0_t1) a + S256x128.size a ≤ S4096x256.size a := fun i v19_0 k0_hw2 k0_t1 => k0_hw2.2.2.1 k0_t1
theorem k0_off6_inb : ∀ (i : grid0.Coords) (v19_0 : BitVec 32) (k0_hw2 : k0_chk2 i v19_0) (k0_t1 : Fin (k0_t1_loop i v19_0).trips), ∀ a, (k0_off6 i v19_0 k0_t1) a + S256x128.size a ≤ S4096x256.size a := fun i v19_0 k0_hw2 k0_t1 => k0_hw2.2.2.2.1 k0_t1
theorem k0_off7_inb : ∀ (i : grid0.Coords) (v19_0 : BitVec 32) (k0_hw2 : k0_chk2 i v19_0) (k0_t1 : Fin (k0_t1_loop i v19_0).trips), ∀ a, (k0_off7 i v19_0 k0_t1) a + S1x1x256x256.size a ≤ S2x16x256x256.size a := fun i v19_0 k0_hw2 k0_t1 => k0_hw2.2.2.2.2.1 k0_t1
theorem k0_off8_inb : ∀ (i : grid0.Coords) (v19_0 : BitVec 32) (k0_hw2 : k0_chk2 i v19_0) (k0_t1 : Fin (k0_t1_loop i v19_0).trips), ∀ a, (k0_off8 i v19_0 k0_t1) a + S1x1x256x256.size a ≤ S2x16x256x256.size a := fun i v19_0 k0_hw2 k0_t1 => k0_hw2.2.2.2.2.2.1 k0_t1
theorem k0_t2_ok : ∀ (i : grid0.Coords) (v19_0 : BitVec 32) (k0_hw2 : k0_chk2 i v19_0), (k0_t2_loop i v19_0).OK := fun i v19_0 k0_hw2 => k0_hw2.2.2.2.2.2.2.1
theorem k0_mult3_dvd : ∀ (i : grid0.Coords) (v19_0 : BitVec 32) (k0_hw2 : k0_chk2 i v19_0) (k0_t2 : Fin (k0_t2_loop i v19_0).trips), 256 ∣ (k0_mult3 i v19_0 k0_t2).toNat := fun i v19_0 k0_hw2 k0_t2 => k0_hw2.2.2.2.2.2.2.2.1 k0_t2
theorem k0_off9_inb : ∀ (i : grid0.Coords) (v19_0 : BitVec 32) (k0_hw2 : k0_chk2 i v19_0) (k0_t2 : Fin (k0_t2_loop i v19_0).trips), ∀ a, (k0_off9 i v19_0 k0_t2) a + S256x128.size a ≤ S4096x256.size a := fun i v19_0 k0_hw2 k0_t2 => k0_hw2.2.2.2.2.2.2.2.2.1 k0_t2
theorem k0_off10_inb : ∀ (i : grid0.Coords) (v19_0 : BitVec 32) (k0_hw2 : k0_chk2 i v19_0) (k0_t2 : Fin (k0_t2_loop i v19_0).trips), ∀ a, (k0_off10 i v19_0 k0_t2) a + S256x128.size a ≤ S4096x256.size a := fun i v19_0 k0_hw2 k0_t2 => k0_hw2.2.2.2.2.2.2.2.2.2.1 k0_t2
theorem k0_off11_inb : ∀ (i : grid0.Coords) (v19_0 : BitVec 32) (k0_hw2 : k0_chk2 i v19_0) (k0_t2 : Fin (k0_t2_loop i v19_0).trips), ∀ a, (k0_off11 i v19_0 k0_t2) a + S1x1x256x256.size a ≤ S2x16x256x256.size a := fun i v19_0 k0_hw2 k0_t2 => k0_hw2.2.2.2.2.2.2.2.2.2.2.1 k0_t2
theorem k0_off12_inb : ∀ (i : grid0.Coords) (v19_0 : BitVec 32) (k0_hw2 : k0_chk2 i v19_0) (k0_t2 : Fin (k0_t2_loop i v19_0).trips), ∀ a, (k0_off12 i v19_0 k0_t2) a + S1x1x256x256.size a ≤ S2x16x256x256.size a := fun i v19_0 k0_hw2 k0_t2 => k0_hw2.2.2.2.2.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SbBwdIdeal.lean ====
variable {F : FTy → Type} [FloatOps F] [Named F]
def κ : String → Option EReal := fun
  | "exit" => some ⊥
  | _ => none
-- ==== SbRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x128x4096 : Shape := ⟨3, ![8, 128, 4096]⟩

abbrev nBuf : Space → Nat
  | .hbm => 175
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x1024, .f32⟩
  | 5 => ⟨S4096x1024, .f32⟩
  | 6 => ⟨S4096x1024, .f32⟩
  | 7 => ⟨S4096x1024, .f32⟩
  | 8 => ⟨S4096x8x128, .f32⟩
  | 9 => ⟨S8x4096x128, .f32⟩
  | 10 => ⟨S4096x8x128, .f32⟩
  | 11 => ⟨S8x4096x128, .f32⟩
  | 12 => ⟨S4096x8x128, .f32⟩
  | 13 => ⟨S8x4096x128, .f32⟩
  | 14 => ⟨S8x4096x4096, .f32⟩
  | 15 => ⟨S4096, .i32⟩
  | 16 => ⟨S4096x1, .i32⟩
  | 17 => ⟨S4096, .i32⟩
  | 18 => ⟨S1x4096, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x1024, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S_, .f32⟩
  | 5 => ⟨S8x4096x4096, .i1⟩
  | 6 => ⟨S8x4096x4096, .f32⟩
  | 7 => ⟨S8x4096x4096, .f32⟩
  | 8 => ⟨S_, .f32⟩
  | 9 => ⟨S8x4096x4096, .f32⟩
  | 10 => ⟨S8x4096x4096, .f32⟩
  | 11 => ⟨S8x4096x128, .f32⟩
  | 12 => ⟨S4096x8x128, .f32⟩
  | 13 => ⟨S4096x1024, .f32⟩
  | 14 => ⟨S4096x8x128, .f32⟩
  | 15 => ⟨S8x4096x128, .f32⟩
  | 16 => ⟨S8x128x4096, .f32⟩
  | 17 => ⟨S8x4096x128, .f32⟩
  | 18 => ⟨S8x4096x4096, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x128, .f32⟩
  | 40 => ⟨S8x4096x128, .f32⟩
  | 41 => ⟨S4096x8x128, .f32⟩
  | 42 => ⟨S4096x1024, .f32⟩
  | 43 => ⟨S4096x8x128, .f32⟩
  | 44 => ⟨S4096x1024, .f32⟩
  | 45 => ⟨S4096x8x128, .f32⟩
  | 46 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_cst : Ref sig .tc := ⟨.hbm, 71, rfl⟩
abbrev main_call1_v0 : Ref sig .tc := ⟨.hbm, 72, rfl⟩
abbrev main_v20_1 : Ref sig .tc := ⟨.hbm, 73, rfl⟩
abbrev main_call1_v2 : Ref sig .tc := ⟨.hbm, 74, rfl⟩
abbrev main_v20_0 : Ref sig .tc := ⟨.hbm, 75, rfl⟩
abbrev main_call1_cst : Ref sig .tc := ⟨.hbm, 76, rfl⟩
abbrev main_v20_2 : Ref sig .tc := ⟨.hbm, 77, rfl⟩
abbrev main_call2_cst : Ref sig .tc := ⟨.hbm, 78, rfl⟩
abbrev main_call2_v0 : Ref sig .tc := ⟨.hbm, 79, rfl⟩
abbrev main_v21 : Ref sig .tc := ⟨.hbm, 80, rfl⟩
abbrev main_v22 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v23_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v23_2 : Ref sig .tc := ⟨.hbm, 128, rfl⟩
abbrev main_v23_0 : Ref sig .tc := ⟨.hbm, 129, rfl⟩
abbrev main_v24 : Ref sig .tc := ⟨.hbm, 130, rfl⟩
abbrev main_cst_0 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_call5_cst : Ref sig .tc := ⟨.hbm, 148, rfl⟩
abbrev main_call5_v0 : Ref sig .tc := ⟨.hbm, 149, rfl⟩
abbrev main_v36 : Ref sig .tc := ⟨.hbm, 150, rfl⟩
abbrev main_call6_v0 : Ref sig .tc := ⟨.hbm, 151, rfl⟩
abbrev main_call6_v1 : Ref sig .tc := ⟨.hbm, 152, rfl⟩
abbrev main_v37 : Ref sig .tc := ⟨.hbm, 153, rfl⟩
abbrev main_v38 : Ref sig .tc := ⟨.hbm, 154, rfl⟩
abbrev main_call7_cst : Ref sig .tc := ⟨.hbm, 155, rfl⟩
abbrev main_call7_v0 : Ref sig .tc := ⟨.hbm, 156, rfl⟩
abbrev main_v39 : Ref sig .tc := ⟨.hbm, 157, rfl⟩
abbrev main_v40 : Ref sig .tc := ⟨.hbm, 158, rfl⟩
abbrev main_call8_cst : Ref sig .tc := ⟨.hbm, 159, rfl⟩
abbrev main_call8_v0 : Ref sig .tc := ⟨.hbm, 160, rfl⟩
abbrev main_v41 : Ref sig .tc := ⟨.hbm, 161, rfl⟩
abbrev main_call9_v0 : Ref sig .tc := ⟨.hbm, 162, rfl⟩
abbrev main_call9_v1 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== SbFwd.lean ====
abbrev S4096x1024 : Shape := ⟨2, ![4096, 1024]⟩
abbrev S256x256 : Shape := ⟨2, ![256, 256]⟩
abbrev S4096x256 : Shape := ⟨2, ![4096, 256]⟩
abbrev S256x128 : Shape := ⟨2, ![256, 128]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) (arg6 : BitVec 32) : BitVec 32 :=
  let arg1 : BitVec 32 := BitVec.ofNat 32 (i 1).val
  let v17 : BitVec 32 := Scalar.subi arg1 arg6
  let c256_i32 : BitVec 32 := 256#32
  let v18 : BitVec 32 := Scalar.muli v17 c256_i32
  v18

def k0_off1 (i : grid0.Coords) (arg6 : BitVec 32) : Fin 2 → Nat :=
  let arg1 : BitVec 32 := BitVec.ofNat 32 (i 1).val
  let v17 : BitVec 32 := Scalar.subi arg1 arg6
  let c256_i32 : BitVec 32 := 256#32
  let v18 : BitVec 32 := Scalar.muli v17 c256_i32
  let v19 : BitVec 32 := v18
  let v20 : Index := Scalar.indexCast v19
  let c0_9 : Index := 0#32
  ![v20.toNat, 0]
def k0_off2 (i : grid0.Coords) (arg6 : BitVec 32) : Fin 2 → Nat :=
  let arg1 : BitVec 32 := BitVec.ofNat 32 (i 1).val
  let v17 : BitVec 32 := Scalar.subi arg1 arg6
  let c256_i32 : BitVec 32 := 256#32
  let v18 : BitVec 32 := Scalar.muli v17 c256_i32
  let v19 : BitVec 32 := v18
  let v22 : Index := Scalar.indexCast v19
  let c128_10 : Index := 128#32
  ![v22.toNat, 128]

def k0_chk1 (i : grid0.Coords) (arg6 : BitVec 32) : Prop :=
  (256 ∣ (k0_mult1 i arg6).toNat) ∧
  (∀ a, (k0_off1 i arg6) a + S256x128.size a ≤ S4096x256.size a) ∧
  (∀ a, (k0_off2 i arg6) a + S256x128.size a ≤ S4096x256.size a)
theorem k0_mult1_dvd : ∀ (i : grid0.Coords) (arg6 : BitVec 32) (k0_hw1 : k0_chk1 i arg6), 256 ∣ (k0_mult1 i arg6).toNat := fun i arg6 k0_hw1 => k0_hw1.1
theorem k0_off1_inb : ∀ (i : grid0.Coords) (arg6 : BitVec 32) (k0_hw1 : k0_chk1 i arg6), ∀ a, (k0_off1 i arg6) a + S256x128.size a ≤ S4096x256.size a := fun i arg6 k0_hw1 => k0_hw1.2.1
theorem k0_off2_inb : ∀ (i : grid0.Coords) (arg6 : BitVec 32) (k0_hw1 : k0_chk1 i arg6), ∀ a, (k0_off2 i arg6) a + S256x128.size a ≤ S4096x256.size a := fun i arg6 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "exit" => some ⊥
  | _ => none
-- ==== SbFwdRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x1024, .f32⟩
  | .hbm, ⟨7, _⟩ => ⟨S4096x8x128, .f32⟩
  | .hbm, ⟨8, _⟩ => ⟨S8x4096x128, .f32⟩
  | .hbm, ⟨9, _⟩ => ⟨S4096x1024, .f32⟩
  | .hbm, ⟨10, _⟩ => ⟨S4096x8x128, .f32⟩
  | .hbm, ⟨11, _⟩ => ⟨S8x4096x128, .f32⟩
  | .hbm, ⟨12, _⟩ => ⟨S8x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S_, .f32⟩
  | .hbm, ⟨65, _⟩ => ⟨S8x4096x4096, .i1⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x128, .f32⟩
  | .hbm, ⟨70, _⟩ => ⟨S4096x8x128, .f32⟩
  | .hbm, ⟨71, _⟩ => ⟨S4096x1024, .f32⟩
  | .hbm, ⟨72, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== RmsBwd.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v43 : BitVec 32 := Scalar.extui v42
  let c0_i32_17 : BitVec 32 := 0#32
  let v44 : BitVec 1 := Scalar.cmpi .ne v43 c0_i32_17
  v44

def k0_cond2 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v_true : BitVec 1 := 1#1
  let v45 : BitVec 1 := Scalar.xori v42 v_true
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RmsRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== HeadK.lean ====
abbrev S4096x2048 : Shape := ⟨2, ![4096, 2048]⟩
abbrev S128 : Shape := ⟨1, ![128]⟩
abbrev S4096x1024 : Shape := ⟨2, ![4096, 1024]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S4096x1024, .bf16⟩
  | .hbm, ⟨6, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v47 : BitVec 1 := Scalar.cmpi .eq arg1 c0_i32
  let arg0 : BitVec 32 := BitVec.ofNat 32 (i 0).val
  let c0_i32_19 : BitVec 32 := 0#32
  let v48 : BitVec 1 := Scalar.cmpi .eq arg0 c0_i32_19
  let v49 : BitVec 1 := Scalar.andi v47 v48
  let v50 : BitVec 32 := Scalar.extui v49
  let c0_i32_20 : BitVec 32 := 0#32
  let v51 : BitVec 1 := Scalar.cmpi .ne v50 c0_i32_20
  v51

def k0_cond2 (i : grid0.Coords) : BitVec 1 :=
  let arg1 : BitVec 32 := BitVec.ofNat 32 (i 1).val
  let c0_i32 : BitVec 32 := 0#32
  let v47 : BitVec 1 := Scalar.cmpi .eq arg1 c0_i32
  let arg0 : BitVec 32 := BitVec.ofNat 32 (i 0).val
  let c0_i32_19 : BitVec 32 := 0#32
  let v48 : BitVec 1 := Scalar.cmpi .eq arg0 c0_i32_19
  let v49 : BitVec 1 := Scalar.andi v47 v48
  let v_true : BitVec 1 := 1#1
  let v52 : BitVec 1 := Scalar.xori v49 v_true
  let v53 : BitVec 32 := Scalar.extui v52
  let c0_i32_21 : BitVec 32 := 0#32
  let v54 : BitVec 1 := Scalar.cmpi .ne v53 c0_i32_21
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== HeadKRefIdeal.lean ====
abbrev S4096x2048 : Shape := ⟨2, ![4096, 2048]⟩
abbrev S128 : Shape := ⟨1, ![128]⟩
abbrev S4096x1024 : Shape := ⟨2, ![4096, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x1024, .f32⟩
  | .hbm, ⟨27, _⟩ => ⟨S4096x1024, .f32⟩
  | .hbm, ⟨28, _⟩ => ⟨S4096x8x128, .f32⟩
  | .hbm, ⟨29, _⟩ => ⟨S4096x8x128, .f32⟩
  | .hbm, ⟨30, _⟩ => ⟨S_, .f32⟩
  | .hbm, ⟨31, _⟩ => ⟨S128, .f32⟩
  | .hbm, ⟨32, _⟩ => ⟨S1x1x128, .f32⟩
  | .hbm, ⟨33, _⟩ => ⟨S4096x8x128, .f32⟩
  | .hbm, ⟨34, _⟩ => ⟨S4096x8x128, .f32⟩
  | .hbm, ⟨35, _⟩ => ⟨S_, .f32⟩
  | .hbm, ⟨36, _⟩ => ⟨S128, .f32⟩
  | .hbm, ⟨37, _⟩ => ⟨S4096x8x128, .f32⟩
  | .hbm, ⟨38, _⟩ => ⟨S_, .f32⟩
  | .hbm, ⟨39, _⟩ => ⟨S4096x8, .f32⟩
  | .hbm, ⟨40, _⟩ => ⟨S4096x8x1, .f32⟩
  | .hbm, ⟨41, _⟩ => ⟨S4096x8x128, .f32⟩
  | .hbm, ⟨42, _⟩ => ⟨S4096x8x128, .f32⟩
  | .hbm, ⟨43, _⟩ => ⟨S4096x8x1, .f32⟩
  | .hbm, ⟨44, _⟩ => ⟨S_, .f32⟩
  | .hbm, ⟨45, _⟩ => ⟨S4096x8x1, .f32⟩
  | .hbm, ⟨46, _⟩ => ⟨S4096x8x1, .f32⟩
  | .hbm, ⟨47, _⟩ => ⟨S_, .f32⟩
  | .hbm, ⟨48, _⟩ => ⟨S4096x8, .f32⟩
  | .hbm, ⟨49, _⟩ => ⟨S4096x8x128, .f32⟩
  | .hbm, ⟨50, _⟩ => ⟨S4096x8x128, .f32⟩
  | .hbm, ⟨51, _⟩ => ⟨S4096x8x128, .f32⟩
  | .hbm, ⟨52, _⟩ => ⟨S4096x8x128, .f32⟩
  | .hbm, ⟨53, _⟩ => ⟨S4096x8x128, .f32⟩
  | .hbm, ⟨54, _⟩ => ⟨S4096x1024, .f32⟩
  | .hbm, ⟨55, _⟩ => ⟨S_, .f32⟩
  | .hbm, ⟨56, _⟩ => ⟨S4096x2048, .f32⟩
  | .hbm, ⟨57, _⟩ => ⟨S4096x1024, .f32⟩
  | .hbm, ⟨58, _⟩ => ⟨S4096x1024, .bf16⟩
  | .hbm, ⟨59, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== HeadQ.lean ====
abbrev S4096x1024 : Shape := ⟨2, ![4096, 1024]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x1024, .f32⟩
  | .hbm, ⟨3, _⟩ => ⟨S1x128, .f32⟩
  | .hbm, ⟨4, _⟩ => ⟨S4096x1024, .bf16⟩
  | .hbm, ⟨5, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | .local _ .vmem, ⟨7, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let arg0 : BitVec 32 := BitVec.ofNat 32 (i 0).val
  let c0_i32_17 : BitVec 32 := 0#32
  let v46 : BitVec 1 := Scalar.cmpi .eq arg0 c0_i32_17
  let v47 : BitVec 1 := Scalar.andi v45 v46
  let v48 : BitVec 32 := Scalar.extui v47
  let c0_i32_18 : BitVec 32 := 0#32
  let v49 : BitVec 1 := Scalar.cmpi .ne v48 c0_i32_18
  v49

def k0_cond2 (i : grid0.Coords) : BitVec 1 :=
  let arg1 : BitVec 32 := BitVec.ofNat 32 (i 1).val
  let c0_i32 : BitVec 32 := 0#32
  let v45 : BitVec 1 := Scalar.cmpi .eq arg1 c0_i32
  let arg0 : BitVec 32 := BitVec.ofNat 32 (i 0).val
  let c0_i32_17 : BitVec 32 := 0#32
  let v46 : BitVec 1 := Scalar.cmpi .eq arg0 c0_i32_17
  let v47 : BitVec 1 := Scalar.andi v45 v46
  let v_true : BitVec 1 := 1#1
  let v50 : BitVec 1 := Scalar.xori v47 v_true
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== HeadQRefIdeal.lean ====
abbrev S4096x1024 : Shape := ⟨2, ![4096, 1024]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x1024, .f32⟩
  | .hbm, ⟨3, _⟩ => ⟨S4096x8x128, .f32⟩
  | .hbm, ⟨4, _⟩ => ⟨S4096x8x128, .f32⟩
  | .hbm, ⟨5, _⟩ => ⟨S_, .f32⟩
  | .hbm, ⟨6, _⟩ => ⟨S4096x8, .f32⟩
  | .hbm, ⟨7, _⟩ => ⟨S4096x8x1, .f32⟩
  | .hbm, ⟨8, _⟩ => ⟨S_, .f32⟩
  | .hbm, ⟨9, _⟩ => ⟨S4096x8x1, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x128, .f32⟩
  | .hbm, ⟨20, _⟩ => ⟨S4096x8x128, .f32⟩
  | .hbm, ⟨21, _⟩ => ⟨S1x1x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S4096x1024, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S128, .f32⟩
  | .hbm, ⟨35, _⟩ => ⟨S1x1x128, .f32⟩
  | .hbm, ⟨36, _⟩ => ⟨S4096x8x128, .f32⟩
  | .hbm, ⟨37, _⟩ => ⟨S4096x8x128, .f32⟩
  | .hbm, ⟨38, _⟩ => ⟨S_, .f32⟩
  | .hbm, ⟨39, _⟩ => ⟨S128, .f32⟩
  | .hbm, ⟨40, _⟩ => ⟨S4096x8x128, .f32⟩
  | .hbm, ⟨41, _⟩ => ⟨S_, .f32⟩
  | .hbm, ⟨42, _⟩ => ⟨S4096x8, .f32⟩
  | .hbm, ⟨43, _⟩ => ⟨S4096x8x1, .f32⟩
  | .hbm, ⟨44, _⟩ => ⟨S4096x8x128, .f32⟩
  | .hbm, ⟨45, _⟩ => ⟨S4096x8x128, .f32⟩
  | .hbm, ⟨46, _⟩ => ⟨S4096x8x1, .f32⟩
  | .hbm, ⟨47, _⟩ => ⟨S_, .f32⟩
  | .hbm, ⟨48, _⟩ => ⟨S4096x8x1, .f32⟩
  | .hbm, ⟨49, _⟩ => ⟨S4096x8x1, .f32⟩
  | .hbm, ⟨50, _⟩ => ⟨S_, .f32⟩
  | .hbm, ⟨51, _⟩ => ⟨S4096x8, .f32⟩
  | .hbm, ⟨52, _⟩ => ⟨S4096x8x128, .f32⟩
  | .hbm, ⟨53, _⟩ => ⟨S4096x8x128, .f32⟩
  | .hbm, ⟨54, _⟩ => ⟨S4096x8x128, .f32⟩
  | .hbm, ⟨55, _⟩ => ⟨S4096x8x128, .f32⟩
  | .hbm, ⟨56, _⟩ => ⟨S4096x8x128, .f32⟩
  | .hbm, ⟨57, _⟩ => ⟨S4096x1024, .f32⟩
  | .hbm, ⟨58, _⟩ => ⟨S4096x1024, .bf16⟩
  | .hbm, ⟨59, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== GatesBwd.lean ====
abbrev S16x4096 : Shape := ⟨2, ![16, 4096]⟩
abbrev S8 : Shape := ⟨1, ![8]⟩
abbrev S8x4096 : Shape := ⟨2, ![8, 4096]⟩
abbrev S8x1 : Shape := ⟨2, ![8, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x4096, .f32⟩
  | .hbm, ⟨1, _⟩ => ⟨S8, .f32⟩
  | .hbm, ⟨2, _⟩ => ⟨S8, .f32⟩
  | .hbm, ⟨3, _⟩ => ⟨S8x4096, .f32⟩
  | .hbm, ⟨4, _⟩ => ⟨S8x4096, .f32⟩
  | .hbm, ⟨5, _⟩ => ⟨S8x1, .f32⟩
  | .hbm, ⟨6, _⟩ => ⟨S8x1, .f32⟩
  | .hbm, ⟨7, _⟩ => ⟨S16x4096, .f32⟩
  | .hbm, ⟨8, _⟩ => ⟨S8x1, .f32⟩
  | .hbm, ⟨9, _⟩ => ⟨S8x1, .f32⟩
  | .local _ .vmem, ⟨0, _⟩ => ⟨S16x4096, .f32⟩
  | .local _ .vmem, ⟨1, _⟩ => ⟨S8x1, .f32⟩
  | .local _ .vmem, ⟨2, _⟩ => ⟨S8x1, .f32⟩
  | .local _ .vmem, ⟨3, _⟩ => ⟨S8x4096, .f32⟩
  | .local _ .vmem, ⟨4, _⟩ => ⟨S8x4096, .f32⟩
  | .local _ .vmem, ⟨5, _⟩ => ⟨S16x4096, .f32⟩
  | .local _ .vmem, ⟨6, _⟩ => ⟨S8x1, .f32⟩
  | .local _ .vmem, ⟨7, _⟩ => ⟨S8x1, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GatesRefIdeal.lean ====
abbrev S16x4096 : Shape := ⟨2, ![16, 4096]⟩
abbrev S8 : Shape := ⟨1, ![8]⟩
abbrev S8x4096 : Shape := ⟨2, ![8, 4096]⟩
abbrev S4096x8 : Shape := ⟨2, ![4096, 8]⟩
abbrev S_ : Shape := ⟨0, ![]⟩
abbrev S1x8 : Shape := ⟨2, ![1, 8]⟩
abbrev S8x1 : Shape := ⟨2, ![8, 1]⟩

abbrev nBuf : Space → Nat
  | .hbm => 105
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S8, .f32⟩
  | .hbm, ⟨2, _⟩ => ⟨S8, .f32⟩
  | .hbm, ⟨3, _⟩ => ⟨S8x4096, .f32⟩
  | .hbm, ⟨4, _⟩ => ⟨S8x4096, .f32⟩
  | .hbm, ⟨5, _⟩ => ⟨S8x4096, .f32⟩
  | .hbm, ⟨6, _⟩ => ⟨S4096x8, .f32⟩
  | .hbm, ⟨7, _⟩ => ⟨S8x4096, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S_, .f32⟩
  | .hbm, ⟨12, _⟩ => ⟨S4096x8, .f32⟩
  | .hbm, ⟨13, _⟩ => ⟨S4096x8, .f32⟩
  | .hbm, ⟨14, _⟩ => ⟨S_, .f32⟩
  | .hbm, ⟨15, _⟩ => ⟨S4096x8, .f32⟩
  | .hbm, ⟨16, _⟩ => ⟨S4096x8, .f32⟩
  | .hbm, ⟨17, _⟩ => ⟨S_, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S8, .f32⟩
  | .hbm, ⟨22, _⟩ => ⟨S8, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .i1⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x8, .f32⟩
  | .hbm, ⟨42, _⟩ => ⟨S4096x8, .i1⟩
  | .hbm, ⟨43, _⟩ => ⟨S_, .f32⟩
  | .hbm, ⟨44, _⟩ => ⟨S4096x8, .f32⟩
  | .hbm, ⟨45, _⟩ => ⟨S4096x8, .f32⟩
  | .hbm, ⟨46, _⟩ => ⟨S_, .f32⟩
  | .hbm, ⟨47, _⟩ => ⟨S4096x8, .f32⟩
  | .hbm, ⟨48, _⟩ => ⟨S4096x8, .i1⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x8, .f32⟩
  | .hbm, ⟨62, _⟩ => ⟨S4096x8, .i1⟩
  | .hbm, ⟨63, _⟩ => ⟨S_, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S_, .f32⟩
  | .hbm, ⟨70, _⟩ => ⟨S4096x8, .f32⟩
  | .hbm, ⟨71, _⟩ => ⟨S4096x8, .f32⟩
  | .hbm, ⟨72, _⟩ => ⟨S1x8, .f32⟩
  | .hbm, ⟨73, _⟩ => ⟨S4096x8, .f32⟩
  | .hbm, ⟨74, _⟩ => ⟨S4096x8, .f32⟩
  | .hbm, ⟨75, _⟩ => ⟨S8x4096, .f32⟩
  | .hbm, ⟨76, _⟩ => ⟨S8x4096, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S4096x8, .f32⟩
  | .hbm, ⟨82, _⟩ => ⟨S_, .f32⟩
  | .hbm, ⟨83, _⟩ => ⟨S8, .f32⟩
  | .hbm, ⟨84, _⟩ => ⟨S1x8, .f32⟩
  | .hbm, ⟨85, _⟩ => ⟨S_, .f32⟩
  | .hbm, ⟨86, _⟩ => ⟨S8, .f32⟩
  | .hbm, ⟨87, _⟩ => ⟨S4096x8, .f32⟩
  | .hbm, ⟨88, _⟩ => ⟨S_, .f32⟩
  | .hbm, ⟨89, _⟩ => ⟨S8, .f32⟩
  | .hbm, ⟨90, _⟩ => ⟨S1x8, .f32⟩
  | .hbm, ⟨91, _⟩ => ⟨S_, .f32⟩
  | .hbm, ⟨92, _⟩ => ⟨S8, .f32⟩
  | .hbm, ⟨93, _⟩ => ⟨S8, .f32⟩
  | .hbm, ⟨94, _⟩ => ⟨S8, .f32⟩
  | .hbm, ⟨95, _⟩ => ⟨S4096x8, .f32⟩
  | .hbm, ⟨96, _⟩ => ⟨S8x4096, .f32⟩
  | .hbm, ⟨97, _⟩ => ⟨S_, .f32⟩
  | .hbm, ⟨98, _⟩ => ⟨S16x4096, .f32⟩
  | .hbm, ⟨99, _⟩ => ⟨S8x4096, .f32⟩
  | .hbm, ⟨100, _⟩ => ⟨S_, .f32⟩
  | .hbm, ⟨101, _⟩ => ⟨S16x4096, .f32⟩
  | .hbm, ⟨102, _⟩ => ⟨S16x4096, .f32⟩
  | .hbm, ⟨103, _⟩ => ⟨S8x1, .f32⟩
  | .hbm, ⟨104, _⟩ => ⟨S8x1, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v18_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v18_2 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst_2 : Ref sig .tc := ⟨.hbm, 82, rfl⟩
abbrev main_v29 : Ref sig .tc := ⟨.hbm, 83, rfl⟩
abbrev main_v30 : Ref sig .tc := ⟨.hbm, 84, rfl⟩
abbrev main_cst_3 : Ref sig .tc := ⟨.hbm, 85, rfl⟩
abbrev main_v31 : Ref sig .tc := ⟨.hbm, 86, rfl⟩
abbrev main_v32 : Ref sig .tc := ⟨.hbm, 87, rfl⟩
abbrev main_cst_4 : Ref sig .tc := ⟨.hbm, 88, rfl⟩
abbrev main_v33 : Ref sig .tc := ⟨.hbm, 89, rfl⟩
abbrev main_v34 : Ref sig .tc := ⟨.hbm, 90, rfl⟩
abbrev main_cst_5 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_6 : Ref sig .tc := ⟨.hbm, 97, rfl⟩
abbrev main_v40 : Ref sig .tc := ⟨.hbm, 98, rfl⟩
abbrev main_v41 : Ref sig .tc := ⟨.hbm, 99, rfl⟩
abbrev main_cst_7 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩

abbrev nD : Nat := 1
abbrev τ : Topo := Topo.v7x

variable {F : FTy → Type} [FloatOps F]
-- ==== ConvBwd.lean ====
abbrev S4096x4096 : Shape := ⟨2, ![4096, 4096]⟩
abbrev S4x3072 : Shape := ⟨2, ![4, 3072]⟩
abbrev S3x4096x1024 : Shape := ⟨3, ![3, 4096, 1024]⟩
abbrev S4096x256 : Shape := ⟨2, ![4096, 256]⟩
abbrev S4x256 : Shape := ⟨2, ![4, 256]⟩
abbrev S1x4096x256 : Shape := ⟨3, ![1, 4096, 256]⟩
abbrev S1x256 : Shape := ⟨2, ![1, 256]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4x3072, .f32⟩
  | .hbm, ⟨2, _⟩ => ⟨S3x4096x1024, .f32⟩
  | .hbm, ⟨3, _⟩ => ⟨S4096x4096, .bf16⟩
  | .hbm, ⟨4, _⟩ => ⟨S4096x4096, .bf16⟩
  | .hbm, ⟨5, _⟩ => ⟨S4x3072, .f32⟩
  | .local _ .vmem, ⟨0, _⟩ => ⟨S4096x256, .bf16⟩
  | .local _ .vmem, ⟨1, _⟩ => ⟨S4096x256, .bf16⟩
  | .local _ .vmem, ⟨2, _⟩ => ⟨S4x256, .f32⟩
  | .local _ .vmem, ⟨3, _⟩ => ⟨S4x256, .f32⟩
  | .local _ .vmem, ⟨4, _⟩ => ⟨S1x4096x256, .f32⟩
  | .local _ .vmem, ⟨5, _⟩ => ⟨S1x4096x256, .f32⟩
  | .local _ .vmem, ⟨6, _⟩ => ⟨S4096x256, .bf16⟩
  | .local _ .vmem, ⟨7, _⟩ => ⟨S4096x256, .bf16⟩
  | .local _ .vmem, ⟨8, _⟩ => ⟨S4x256, .f32⟩
  | .local _ .vmem, ⟨9, _⟩ => ⟨S4x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4096x4096 : Shape := ⟨2, ![4096, 4096]⟩
abbrev S4x3072 : Shape := ⟨2, ![4, 3072]⟩
abbrev S3x4096x1024 : Shape := ⟨3, ![3, 4096, 1024]⟩
abbrev S4096x3072 : Shape := ⟨2, ![4096, 3072]⟩
abbrev S_ : Shape := ⟨0, ![]⟩
abbrev S3x3072 : Shape := ⟨2, ![3, 3072]⟩
abbrev S4093x3072 : Shape := ⟨2, ![4093, 3072]⟩
abbrev S1x3072 : Shape := ⟨2, ![1, 3072]⟩
abbrev S3072 : Shape := ⟨1, ![3072]⟩
abbrev S2x3072 : Shape := ⟨2, ![2, 3072]⟩
abbrev S4094x3072 : Shape := ⟨2, ![4094, 3072]⟩
abbrev S4095x3072 : Shape := ⟨2, ![4095, 3072]⟩
abbrev S4096x3x1024 : Shape := ⟨3, ![4096, 3, 1024]⟩
abbrev S4096x1024 : Shape := ⟨2, ![4096, 1024]⟩

abbrev nBuf : Space → Nat
  | .hbm => 135
  | .vmem => 0
  | .smem => 0
  | _ => 0

abbrev hbmTy0_0 (i : Nat) : BufTy := match i % 128 with
  | 0 => ⟨S4096x4096, .bf16⟩
  | 1 => ⟨S4x3072, .f32⟩
  | 2 => ⟨S3x4096x1024, .f32⟩
  | 3 => ⟨S4096x4096, .bf16⟩
  | 4 => ⟨S4096x3072, .bf16⟩
  | 5 => ⟨S4096x3072, .f32⟩
  | 6 => ⟨S_, .f32⟩
  | 7 => ⟨S3x3072, .f32⟩
  | 8 => ⟨S4093x3072, .f32⟩
  | 9 => ⟨S4096x3072, .f32⟩
  | 10 => ⟨S_, .f32⟩
  | 11 => ⟨S3x3072, .f32⟩
  | 12 => ⟨S1x3072, .f32⟩
  | 13 => ⟨S3072, .f32⟩
  | 14 => ⟨S1x3072, .f32⟩
  | 15 => ⟨S4096x3072, .f32⟩
  | 16 => ⟨S4096x3072, .f32⟩
  | 17 => ⟨S_, .f32⟩
  | 18 => ⟨S4096x3072, .f32⟩
  | 19 => ⟨S4096x3072, .f32⟩
  | 20 => ⟨S_, .f32⟩
  | 21 => ⟨S2x3072, .f32⟩
  | 22 => ⟨S4094x3072, .f32⟩
  | 23 => ⟨S4096x3072, .f32⟩
  | 24 => ⟨S_, .f32⟩
  | 25 => ⟨S2x3072, .f32⟩
  | 26 => ⟨S1x3072, .f32⟩
  | 27 => ⟨S3072, .f32⟩
  | 28 => ⟨S1x3072, .f32⟩
  | 29 => ⟨S4096x3072, .f32⟩
  | 30 => ⟨S4096x3072, .f32⟩
  | 31 => ⟨S4096x3072, .f32⟩
  | 32 => ⟨S_, .f32⟩
  | 33 => ⟨S1x3072, .f32⟩
  | 34 => ⟨S4095x3072, .f32⟩
  | 35 => ⟨S4096x3072, .f32⟩
  | 36 => ⟨S_, .f32⟩
  | 37 => ⟨S1x3072, .f32⟩
  | 38 => ⟨S1x3072, .f32⟩
  | 39 => ⟨S3072, .f32⟩
  | 40 => ⟨S1x3072, .f32⟩
  | 41 => ⟨S4096x3072, .f32⟩
  | 42 => ⟨S4096x3072, .f32⟩
  | 43 => ⟨S4096x3072, .f32⟩
  | 44 => ⟨S1x3072, .f32⟩
  | 45 => ⟨S3072, .f32⟩
  | 46 => ⟨S1x3072, .f32⟩
  | 47 => ⟨S4096x3072, .f32⟩
  | 48 => ⟨S4096x3072, .f32⟩
  | 49 => ⟨S4096x3072, .f32⟩
  | 50 => ⟨S4096x3072, .f32⟩
  | 51 => ⟨S4096x3072, .f32⟩
  | 52 => ⟨S_, .f32⟩
  | 53 => ⟨S4096x3072, .f32⟩
  | 54 => ⟨S4096x3072, .f32⟩
  | 55 => ⟨S_, .f32⟩
  | 56 => ⟨S4096x3072, .f32⟩
  | 57 => ⟨S4096x3072, .f32⟩
  | 58 => ⟨S_, .f32⟩
  | 59 => ⟨S4096x3072, .f32⟩
  | 60 => ⟨S4096x3072, .f32⟩
  | 61 => ⟨S4096x3072, .f32⟩
  | 62 => ⟨S4096x3072, .f32⟩
  | 63 => ⟨S4096x3x1024, .f32⟩
  | 64 => ⟨S4096x3x1024, .f32⟩
  | 65 => ⟨S4096x3072, .f32⟩
  | 66 => ⟨S4096x3072, .f32⟩
  | 67 => ⟨S4096x3072, .f32⟩
  | 68 => ⟨S4096x3072, .f32⟩
  | 69 => ⟨S4096x3072, .f32⟩
  | 70 => ⟨S4096x3072, .f32⟩
  | 71 => ⟨S_, .f32⟩
  | 72 => ⟨S3072, .f32⟩
  | 73 => ⟨S1x3072, .f32⟩
  | 74 => ⟨S4096x3072, .f32⟩
  | 75 => ⟨S4096x3072, .f32⟩
  | 76 => ⟨S_, .f32⟩
  | 77 => ⟨S3072, .f32⟩
  | 78 => ⟨S1x3072, .f32⟩
  | 79 => ⟨S_, .f32⟩
  | 80 => ⟨S4x3072, .f32⟩
  | 81 => ⟨S4096x3072, .f32⟩
  | 82 => ⟨S_, .f32⟩
  | 83 => ⟨S3072, .f32⟩
  | 84 => ⟨S1x3072, .f32⟩
  | 85 => ⟨S4096x3072, .f32⟩
  | 86 => ⟨S4096x3072, .f32⟩
  | 87 => ⟨S_, .f32⟩
  | 88 => ⟨S3072, .f32⟩
  | 89 => ⟨S1x3072, .f32⟩
  | 90 => ⟨S_, .f32⟩
  | 91 => ⟨S4x3072, .f32⟩
  | 92 => ⟨S4x3072, .f32⟩
  | 93 => ⟨S1x3072, .f32⟩
  | 94 => ⟨S4095x3072, .f32⟩
  | 95 => ⟨S_, .f32⟩
  | 96 => ⟨S4096x3072, .f32⟩
  | 97 => ⟨S4096x3072, .f32⟩
  | 98 => ⟨S4096x3072, .f32⟩
  | 99 => ⟨S_, .f32⟩
  | 100 => ⟨S3072, .f32⟩
  | 101 => ⟨S1x3072, .f32⟩
  | 102 => ⟨S4096x3072, .f32⟩
  | 103 => ⟨S4096x3072, .f32⟩
  | 104 => ⟨S_, .f32⟩
  | 105 => ⟨S3072, .f32⟩
  | 106 => ⟨S1x3072, .f32⟩
  | 107 => ⟨S_, .f32⟩
  | 108 => ⟨S4x3072, .f32⟩
  | 109 => ⟨S4x3072, .f32⟩
  | 110 => ⟨S2x3072, .f32⟩
  | 111 => ⟨S4094x3072, .f32⟩
  | 112 => ⟨S_, .f32⟩
  | 113 => ⟨S4096x3072, .f32⟩
  | 114 => ⟨S4096x3072, .f32⟩
  | 115 => ⟨S4096x3072, .f32⟩
  | 116 => ⟨S_, .f32⟩
  | 117 => ⟨S3072, .f32⟩
  | 118 => ⟨S1x3072, .f32⟩
  | 119 => ⟨S4096x3072, .f32⟩
  | 120 => ⟨S4096x3072, .f32⟩
  | 121 => ⟨S_, .f32⟩
  | 122 => ⟨S3072, .f32⟩
  | 123 => ⟨S1x3072, .f32⟩
  | 124 => ⟨S_, .f32⟩
  | 125 => ⟨S4x3072, .f32⟩
  | 126 => ⟨S4x3072, .f32⟩
  | 127 => ⟨S3x3072, .f32⟩
  | _ => ⟨S4096x4096, .bf16⟩

abbrev hbmTy0_1 (i : Nat) : BufTy := match i % 128 with
  | 0 => ⟨S4093x3072, .f32⟩
  | 1 => ⟨S_, .f32⟩
  | 2 => ⟨S4096x3072, .f32⟩
  | 3 => ⟨S4096x3072, .f32⟩
  | 4 => ⟨S4096x3072, .bf16⟩
  | 5 => ⟨S4096x1024, .bf16⟩
  | 6 => ⟨S4096x4096, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v39_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v39_1 : Ref sig .tc := ⟨.hbm, 61, rfl⟩
abbrev main_v39_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== FfnBwd.lean ====
abbrev S4096x1024 : Shape := ⟨2, ![4096, 1024]⟩
abbrev S2816x1024 : Shape := ⟨2, ![2816, 1024]⟩
abbrev S4096x5632 : Shape := ⟨2, ![4096, 5632]⟩
abbrev S1024x2816 : Shape := ⟨2, ![1024, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S1024x2816, .bf16⟩
  | .hbm, ⟨4, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let arg0 : BitVec 32 := BitVec.ofNat 32 (i 0).val
  let c0_i32_6 : BitVec 32 := 0#32
  let v10 : BitVec 1 := Scalar.cmpi .eq arg0 c0_i32_6
  let v11 : BitVec 1 := Scalar.andi v9 v10
  let v12 : BitVec 32 := Scalar.extui v11
  let c0_i32_7 : BitVec 32 := 0#32
  let v13 : BitVec 1 := Scalar.cmpi .ne v12 c0_i32_7
  v13

def k0_cond2 (i : grid0.Coords) : BitVec 1 :=
  let arg1 : BitVec 32 := BitVec.ofNat 32 (i 1).val
  let c0_i32 : BitVec 32 := 0#32
  let v9 : BitVec 1 := Scalar.cmpi .eq arg1 c0_i32
  let arg0 : BitVec 32 := BitVec.ofNat 32 (i 0).val
  let c0_i32_6 : BitVec 32 := 0#32
  let v10 : BitVec 1 := Scalar.cmpi .eq arg0 c0_i32_6
  let v11 : BitVec 1 := Scalar.andi v9 v10
  let v_true : BitVec 1 := 1#1
  let v14 : BitVec 1 := Scalar.xori v11 v_true
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== LossRefIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== GateNorm.lean ====
abbrev S4096x1024 : Shape := ⟨2, ![4096, 1024]⟩
abbrev S4096x4096 : Shape := ⟨2, ![4096, 4096]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S128, .f32⟩
  | .hbm, ⟨3, _⟩ => ⟨S4096x1024, .f32⟩
  | .hbm, ⟨4, _⟩ => ⟨S1x128, .f32⟩
  | .hbm, ⟨5, _⟩ => ⟨S4096x1024, .f32⟩
  | .hbm, ⟨6, _⟩ => ⟨S4096x4096, .bf16⟩
  | .hbm, ⟨7, _⟩ => ⟨S1x128, .f32⟩
  | .hbm, ⟨8, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v72 : BitVec 1 := Scalar.cmpi .eq arg1 c0_i32
  let arg0 : BitVec 32 := BitVec.ofNat 32 (i 0).val
  let c0_i32_27 : BitVec 32 := 0#32
  let v73 : BitVec 1 := Scalar.cmpi .eq arg0 c0_i32_27
  let v74 : BitVec 1 := Scalar.andi v72 v73
  let v75 : BitVec 32 := Scalar.extui v74
  let c0_i32_28 : BitVec 32 := 0#32
  let v76 : BitVec 1 := Scalar.cmpi .ne v75 c0_i32_28
  v76

def k0_cond2 (i : grid0.Coords) : BitVec 1 :=
  let arg1 : BitVec 32 := BitVec.ofNat 32 (i 1).val
  let c0_i32 : BitVec 32 := 0#32
  let v72 : BitVec 1 := Scalar.cmpi .eq arg1 c0_i32
  let arg0 : BitVec 32 := BitVec.ofNat 32 (i 0).val
  let c0_i32_27 : BitVec 32 := 0#32
  let v73 : BitVec 1 := Scalar.cmpi .eq arg0 c0_i32_27
  let v74 : BitVec 1 := Scalar.andi v72 v73
  let v_true : BitVec 1 := 1#1
  let v77 : BitVec 1 := Scalar.xori v74 v_true
  let v78 : BitVec 32 := Scalar.extui v77
  let c0_i32_29 : BitVec 32 := 0#32
  let v79 : BitVec 1 := Scalar.cmpi .ne v78 c0_i32_29
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GateNormRefIdeal.lean ====
abbrev S4096x1024 : Shape := ⟨2, ![4096, 1024]⟩
abbrev S4096x4096 : Shape := ⟨2, ![4096, 4096]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S128, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x8x128, .f32⟩
  | .hbm, ⟨7, _⟩ => ⟨S4096x8x128, .f32⟩
  | .hbm, ⟨8, _⟩ => ⟨S4096x8x128, .f32⟩
  | .hbm, ⟨9, _⟩ => ⟨S_, .f32⟩
  | .hbm, ⟨10, _⟩ => ⟨S4096x8, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S_, .f32⟩
  | .hbm, ⟨16, _⟩ => ⟨S4096x8x1, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S4096x8x128, .f32⟩
  | .hbm, ⟨24, _⟩ => ⟨S4096x8x128, .f32⟩
  | .hbm, ⟨25, _⟩ => ⟨S1x1x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S4096x8x128, .f32⟩
  | .hbm, ⟨30, _⟩ => ⟨S_, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S4096x8x128, .f32⟩
  | .hbm, ⟨35, _⟩ => ⟨S4096x8x128, .f32⟩
  | .hbm, ⟨36, _⟩ => ⟨S_, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x1024, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x8x128, .f32⟩
  | .hbm, ⟨50, _⟩ => ⟨S4096x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x8x128, .f32⟩
  | .hbm, ⟨55, _⟩ => ⟨S4096x8x128, .f32⟩
  | .hbm, ⟨56, _⟩ => ⟨S_, .f32⟩
  | .hbm, ⟨57, _⟩ => ⟨S128, .f32⟩
  | .hbm, ⟨58, _⟩ => ⟨S4096x8x128, .f32⟩
  | .hbm, ⟨59, _⟩ => ⟨S_, .f32⟩
  | .hbm, ⟨60, _⟩ => ⟨S4096x8, .f32⟩
  | .hbm, ⟨61, _⟩ => ⟨S4096x8x1, .f32⟩
  | .hbm, ⟨62, _⟩ => ⟨S4096x8x128, .f32⟩
  | .hbm, ⟨63, _⟩ => ⟨S4096x8x128, .f32⟩
  | .hbm, ⟨64, _⟩ => ⟨S4096x8x1, .f32⟩
  | .hbm, ⟨65, _⟩ => ⟨S_, .f32⟩
  | .hbm, ⟨66, _⟩ => ⟨S4096x8x1, .f32⟩
  | .hbm, ⟨67, _⟩ => ⟨S4096x8x1, .f32⟩
  | .hbm, ⟨68, _⟩ => ⟨S_, .f32⟩
  | .hbm, ⟨69, _⟩ => ⟨S4096x8, .f32⟩
  | .hbm, ⟨70, _⟩ => ⟨S4096x8x128, .f32⟩
  | .hbm, ⟨71, _⟩ => ⟨S4096x8x128, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== AbDx.lean ====
abbrev S16x4096 : Shape := ⟨2, ![16, 4096]⟩
abbrev S16x1024 : Shape := ⟨2, ![16, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S16x1024, .bf16⟩
  | .hbm, ⟨2, _⟩ => ⟨S4096x1024, .f32⟩
  | .hbm, ⟨3, _⟩ => ⟨S4096x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbDxRefIdeal.lean ====
abbrev S16x4096 : Shape := ⟨2, ![16, 4096]⟩
abbrev S16x1024 : Shape := ⟨2, ![16, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S16x1024, .f32⟩
  | .hbm, ⟨6, _⟩ => ⟨S1024x4096, .f32⟩
  | .hbm, ⟨7, _⟩ => ⟨S16x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== HeadKFwd.lean ====
abbrev S4096x2048 : Shape := ⟨2, ![4096, 2048]⟩
abbrev S128 : Shape := ⟨1, ![128]⟩
abbrev S1x128 : Shape := ⟨2, ![1, 128]⟩
abbrev S4096x1024 : Shape := ⟨2, ![4096, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S1x128, .f32⟩
  | .hbm, ⟨3, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .bf16⟩
  | .local _ .vmem, ⟨4, _⟩ => ⟨S1024x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadKFwdRefIdeal.lean ====
abbrev S4096x2048 : Shape := ⟨2, ![4096, 2048]⟩
abbrev S128 : Shape := ⟨1, ![128]⟩
abbrev S4096x2x8x128 : Shape := ⟨4, ![4096, 2, 8, 128]⟩
abbrev S4096x1x8x128 : Shape := ⟨4, ![4096, 1, 8, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S4096x2x8x128, .f32⟩
  | .hbm, ⟨3, _⟩ => ⟨S4096x1x8x128, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x1024, .f32⟩
  | .hbm, ⟨22, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== HeadQFwd.lean ====
abbrev S4096x1024 : Shape := ⟨2, ![4096, 1024]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S1x128, .f32⟩
  | .hbm, ⟨3, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .bf16⟩
  | .local _ .vmem, ⟨4, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadQFwdRefIdeal.lean ====
abbrev S4096x1024 : Shape := ⟨2, ![4096, 1024]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x8x128, .f32⟩
  | .hbm, ⟨3, _⟩ => ⟨S4096x8x128, .f32⟩
  | .hbm, ⟨4, _⟩ => ⟨S_, .f32⟩
  | .hbm, ⟨5, _⟩ => ⟨S4096x8, .f32⟩
  | .hbm, ⟨6, _⟩ => ⟨S4096x8x1, .f32⟩
  | .hbm, ⟨7, _⟩ => ⟨S_, .f32⟩
  | .hbm, ⟨8, _⟩ => ⟨S4096x8x1, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S4096x8x1, .f32⟩
  | .hbm, ⟨14, _⟩ => ⟨S4096x8x128, .f32⟩
  | .hbm, ⟨15, _⟩ => ⟨S4096x8x128, .f32⟩
  | .hbm, ⟨16, _⟩ => ⟨S1x1x128, .f32⟩
  | .hbm, ⟨17, _⟩ => ⟨S4096x8x128, .f32⟩
  | .hbm, ⟨18, _⟩ => ⟨S4096x8x128, .f32⟩
  | .hbm, ⟨19, _⟩ => ⟨S_, .f32⟩
  | .hbm, ⟨20, _⟩ => ⟨S4096x8x128, .f32⟩
  | .hbm, ⟨21, _⟩ => ⟨S4096x8x128, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GateNormFwd.lean ====
abbrev S4096x1024 : Shape := ⟨2, ![4096, 1024]⟩
abbrev S4096x4096 : Shape := ⟨2, ![4096, 4096]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S128, .f32⟩
  | .hbm, ⟨3, _⟩ => ⟨S1x128, .f32⟩
  | .hbm, ⟨4, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateNormFwdRefIdeal.lean ====
abbrev S4096x1024 : Shape := ⟨2, ![4096, 1024]⟩
abbrev S4096x4096 : Shape := ⟨2, ![4096, 4096]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S128, .f32⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S4096x8x128, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x128, .f32⟩
  | .hbm, ⟨19, _⟩ => ⟨S4096x8x128, .f32⟩
  | .hbm, ⟨20, _⟩ => ⟨S1x1x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S4096x8x128, .f32⟩
  | .hbm, ⟨25, _⟩ => ⟨S_, .f32⟩
  | .hbm, ⟨26, _⟩ => ⟨S4096x8x128, .f32⟩
  | .hbm, ⟨27, _⟩ => ⟨S4096x8x128, .f32⟩
  | .hbm, ⟨28, _⟩ => ⟨S_, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== GatesFwd.lean ====
abbrev S16x4096 : Shape := ⟨2, ![16, 4096]⟩
abbrev S8 : Shape := ⟨1, ![8]⟩
abbrev S8x1 : Shape := ⟨2, ![8, 1]⟩
abbrev S8x4096 : Shape := ⟨2, ![8, 4096]⟩

abbrev nBuf : Space → Nat
  | .hbm => 7
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S8, .f32⟩
  | .hbm, ⟨2, _⟩ => ⟨S8, .f32⟩
  | .hbm, ⟨3, _⟩ => ⟨S8x1, .f32⟩
  | .hbm, ⟨4, _⟩ => ⟨S8x1, .f32⟩
  | .hbm, ⟨5, _⟩ => ⟨S8x4096, .f32⟩
  | .hbm, ⟨6, _⟩ => ⟨S8x4096, .f32⟩
  | .local _ .vmem, ⟨0, _⟩ => ⟨S16x4096, .f32⟩
  | .local _ .vmem, ⟨1, _⟩ => ⟨S8x1, .f32⟩
  | .local _ .vmem, ⟨2, _⟩ => ⟨S8x1, .f32⟩
  | .local _ .vmem, ⟨3, _⟩ => ⟨S8x4096, .f32⟩
  | .local _ .vmem, ⟨4, _⟩ => ⟨S8x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GatesFwdRefIdeal.lean ====
abbrev S16x4096 : Shape := ⟨2, ![16, 4096]⟩
abbrev S8 : Shape := ⟨1, ![8]⟩
abbrev S8x4096 : Shape := ⟨2, ![8, 4096]⟩
abbrev S8x1 : Shape := ⟨2, ![8, 1]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S8, .f32⟩
  | .hbm, ⟨2, _⟩ => ⟨S8, .f32⟩
  | .hbm, ⟨3, _⟩ => ⟨S8x4096, .f32⟩
  | .hbm, ⟨4, _⟩ => ⟨S8x4096, .f32⟩
  | .hbm, ⟨5, _⟩ => ⟨S8, .f32⟩
  | .hbm, ⟨6, _⟩ => ⟨S8x1, .f32⟩
  | .hbm, ⟨7, _⟩ => ⟨S8x1, .f32⟩
  | .hbm, ⟨8, _⟩ => ⟨S8x1, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S8x4096, .i1⟩
  | .hbm, ⟨17, _⟩ => ⟨S8x4096, .f32⟩
  | .hbm, ⟨18, _⟩ => ⟨S8x4096, .f32⟩
  | .hbm, ⟨19, _⟩ => ⟨S8x4096, .f32⟩
  | .hbm, ⟨20, _⟩ => ⟨S8x4096, .f32⟩
  | .hbm, ⟨21, _⟩ => ⟨S8x4096, .f32⟩
  | .hbm, ⟨22, _⟩ => ⟨S8x4096, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== ConvFwd.lean ====
abbrev S4096x4096 : Shape := ⟨2, ![4096, 4096]⟩
abbrev S4x3072 : Shape := ⟨2, ![4, 3072]⟩
abbrev S3x4096x1024 : Shape := ⟨3, ![3, 4096, 1024]⟩
abbrev S4096x256 : Shape := ⟨2, ![4096, 256]⟩
abbrev S4x256 : Shape := ⟨2, ![4, 256]⟩
abbrev S1x4096x256 : Shape := ⟨3, ![1, 4096, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x3072, .f32⟩
  | .hbm, ⟨2, _⟩ => ⟨S3x4096x1024, .f32⟩
  | .local _ .vmem, ⟨0, _⟩ => ⟨S4096x256, .bf16⟩
  | .local _ .vmem, ⟨1, _⟩ => ⟨S4096x256, .bf16⟩
  | .local _ .vmem, ⟨2, _⟩ => ⟨S4x256, .f32⟩
  | .local _ .vmem, ⟨3, _⟩ => ⟨S4x256, .f32⟩
  | .local _ .vmem, ⟨4, _⟩ => ⟨S1x4096x256, .f32⟩
  | .local _ .vmem, ⟨5, _⟩ => ⟨S1x4096x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S4096x4096 : Shape := ⟨2, ![4096, 4096]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4093x3072 : Shape := ⟨2, ![4093, 3072]⟩
abbrev S1x3072 : Shape := ⟨2, ![1, 3072]⟩
abbrev S3072 : Shape := ⟨1, ![3072]⟩
abbrev S2x3072 : Shape := ⟨2, ![2, 3072]⟩
abbrev S4094x3072 : Shape := ⟨2, ![4094, 3072]⟩
abbrev S4095x3072 : Shape := ⟨2, ![4095, 3072]⟩
abbrev S4096x3x1024 : Shape := ⟨3, ![4096, 3, 1024]⟩
abbrev S3x4096x1024 : Shape := ⟨3, ![3, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x3072, .f32⟩
  | .hbm, ⟨2, _⟩ => ⟨S4096x3072, .bf16⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4093x3072, .f32⟩
  | .hbm, ⟨7, _⟩ => ⟨S4096x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S2x3072, .f32⟩
  | .hbm, ⟨18, _⟩ => ⟨S4094x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S1x3072, .f32⟩
  | .hbm, ⟨28, _⟩ => ⟨S4095x3072, .f32⟩
  | .hbm, ⟨29, _⟩ => ⟨S4096x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3x1024, .f32⟩
  | .hbm, ⟨52, _⟩ => ⟨S3x4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== FfnFwd.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4x1x1024x1408, .bf16⟩
  | .hbm, ⟨5, _⟩ => ⟨S4096x5632, .bf16⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S4x1x1024x1408, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnFwdRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x5632, .bf16⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== OutRms.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutRmsIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutRmsRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnOutRms.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnOutRmsRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PleGateRms.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PleGateRmsRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== PleGateRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== GdnFwd.lean ====
abbrev S3x4096x1024 : Shape := ⟨3, ![3, 4096, 1024]⟩
abbrev S8x4096 : Shape := ⟨2, ![8, 4096]⟩
abbrev S8x64x1x64 : Shape := ⟨4, ![8, 64, 1, 64]⟩
abbrev S64x8x1x64 : Shape := ⟨4, ![64, 8, 1, 64]⟩
abbrev S4096x1024 : Shape := ⟨2, ![4096, 1024]⟩
abbrev S64x8x128x128 : Shape := ⟨4, ![64, 8, 128, 128]⟩
abbrev S64x8x64x64 : Shape := ⟨4, ![64, 8, 64, 64]⟩
abbrev S3x64x1024 : Shape := ⟨3, ![3, 64, 1024]⟩
abbrev S1x8x1x64 : Shape := ⟨4, ![1, 8, 1, 64]⟩
abbrev S64x1024 : Shape := ⟨2, ![64, 1024]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S1x64x128 : Shape := ⟨3, ![1, 64, 128]⟩
abbrev S64x128 : Shape := ⟨2, ![64, 128]⟩
abbrev S1x1x1x64 : Shape := ⟨4, ![1, 1, 1, 64]⟩
abbrev S1x64 : Shape := ⟨2, ![1, 64]⟩
abbrev S64x64 : Shape := ⟨2, ![64, 64]⟩
abbrev S8x64 : Shape := ⟨2, ![8, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S1x1x128x128 : Shape := ⟨4, ![1, 1, 128, 128]⟩
abbrev S1x1x64x64 : Shape := ⟨4, ![1, 1, 64, 64]⟩

abbrev nBuf : Space → Nat
  | .hbm => 10
  | .vmem => 13
  | .smem => 0
  | _ => 0

abbrev bufTy : (tb : Table) → Fin (tcTables nBuf tb) → BufTy
  | .hbm, ⟨0, _⟩ => ⟨S3x4096x1024, .f32⟩
  | .hbm, ⟨1, _⟩ => ⟨S8x4096, .f32⟩
  | .hbm, ⟨2, _⟩ => ⟨S8x4096, .f32⟩
  | .hbm, ⟨3, _⟩ => ⟨S8x64x1x64, .f32⟩
  | .hbm, ⟨4, _⟩ => ⟨S64x8x1x64, .f32⟩
  | .hbm, ⟨5, _⟩ => ⟨S8x64x1x64, .f32⟩
  | .hbm, ⟨6, _⟩ => ⟨S64x8x1x64, .f32⟩
  | .hbm, ⟨7, _⟩ => ⟨S4096x1024, .f32⟩
  | .hbm, ⟨8, _⟩ => ⟨S64x8x128x128, .f32⟩
  | .hbm, ⟨9, _⟩ => ⟨S64x8x64x64, .f32⟩
  | .local _ .vmem, ⟨0, _⟩ => ⟨S3x64x1024, .f32⟩
  | .local _ .vmem, ⟨1, _⟩ => ⟨S3x64x1024, .f32⟩
  | .local _ .vmem, ⟨2, _⟩ => ⟨S1x8x1x64, .f32⟩
  | .local _ .vmem, ⟨3, _⟩ => ⟨S1x8x1x64, .f32⟩
  | .local _ .vmem, ⟨4, _⟩ => ⟨S1x8x1x64, .f32⟩
  | .local _ .vmem, ⟨5, _⟩ => ⟨S1x8x1x64, .f32⟩
  | .local _ .vmem, ⟨6, _⟩ => ⟨S64x1024, .f32⟩
  | .local _ .vmem, ⟨7, _⟩ => ⟨S64x1024, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x64x64, .f32⟩
  | .local _ .vmem, ⟨11, _⟩ => ⟨S1x8x64x64, .f32⟩
  | .local _ .vmem, ⟨12, _⟩ => ⟨S8x128x128, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S3x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmDw.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AdamW.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== AdamWRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDv.lean ====
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== SumDvRefIdeal.lean ====
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSum.lean ====
abbrev S_ : Shape := ⟨0, ![]⟩
abbrev S512x1408 : Shape := ⟨2, ![512, 1408]⟩
abbrev S3x512x1408 : Shape := ⟨3, ![3, 512, 1408]⟩
abbrev S1 : Shape := ⟨1, ![1]⟩
abbrev S2 : Shape := ⟨1, ![2]⟩
abbrev S2x512x1408 : Shape := ⟨3, ![2, 512, 1408]⟩
abbrev S1x512x1408 : Shape := ⟨3, ![1, 512, 1408]⟩

abbrev nBuf : Space → Nat
  | .hbm => 14
  | .vmem => 3
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S512x1408, .f32⟩
  | .hbm, ⟨3, _⟩ => ⟨S3x512x1408, .bf16⟩
  | .hbm, ⟨4, _⟩ => ⟨S1, .i32⟩
  | .hbm, ⟨5, _⟩ => ⟨S1, .i32⟩
  | .hbm, ⟨6, _⟩ => ⟨S2x512x1408, .f32⟩
  | .hbm, ⟨7, _⟩ => ⟨S_, .i32⟩
  | .hbm, ⟨8, _⟩ => ⟨S_, .i1⟩
  | .hbm, ⟨9, _⟩ => ⟨S1x512x1408, .f32⟩
  | .hbm, ⟨10, _⟩ => ⟨S512x1408, .f32⟩
  | .hbm, ⟨11, _⟩ => ⟨S1x512x1408, .f32⟩
  | .hbm, ⟨12, _⟩ => ⟨S512x1408, .f32⟩
  | .hbm, ⟨13, _⟩ => ⟨S512x1408, .f32⟩
  | .local _ .vmem, ⟨0, _⟩ => ⟨S512x1408, .f32⟩
  | .local _ .vmem, ⟨1, _⟩ => ⟨S3x512x1408, .bf16⟩
  | .local _ .vmem, ⟨2, _⟩ => ⟨S1x512x1408, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipSumRefIdeal.lean ====
abbrev S_ : Shape := ⟨0, ![]⟩
abbrev S512x1408 : Shape := ⟨2, ![512, 1408]⟩
abbrev S3x512x1408 : Shape := ⟨3, ![3, 512, 1408]⟩

abbrev nBuf : Space → Nat
  | .hbm => 8
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S512x1408, .f32⟩
  | .hbm, ⟨3, _⟩ => ⟨S3x512x1408, .bf16⟩
  | .hbm, ⟨4, _⟩ => ⟨S3x512x1408, .f32⟩
  | .hbm, ⟨5, _⟩ => ⟨S_, .f32⟩
  | .hbm, ⟨6, _⟩ => ⟨S512x1408, .f32⟩
  | .hbm, ⟨7, _⟩ => ⟨S512x1408, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== AddSel.lean ====
abbrev S2 : Shape := ⟨1, ![2]⟩
abbrev S4x2x512x1408 : Shape := ⟨4, ![4, 2, 512, 1408]⟩
abbrev S4x512x1408 : Shape := ⟨3, ![4, 512, 1408]⟩
abbrev S512x1408 : Shape := ⟨2, ![512, 1408]⟩
abbrev S1x1x512x1408 : Shape := ⟨4, ![1, 1, 512, 1408]⟩
abbrev S1 : Shape := ⟨1, ![1]⟩
abbrev S1x512x1408 : Shape := ⟨3, ![1, 512, 1408]⟩

abbrev nBuf : Space → Nat
  | .hbm => 4
  | .vmem => 7
  | .smem => 1
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S512x1408, .f32⟩
  | .hbm, ⟨3, _⟩ => ⟨S4x512x1408, .bf16⟩
  | .local _ .vmem, ⟨0, _⟩ => ⟨S1x1x512x1408, .f32⟩
  | .local _ .vmem, ⟨1, _⟩ => ⟨S1x1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S512x1408, .f32⟩
  | .local _ .vmem, ⟨5, _⟩ => ⟨S1x512x1408, .bf16⟩
  | .local _ .vmem, ⟨6, _⟩ => ⟨S1x512x1408, .bf16⟩
  | .local _ .smem, ⟨0, _⟩ => ⟨S2, .i32⟩
  | _, _ => ⟨S4x2x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v9 : BitVec 32) : BitVec 1 :=
  let arg1 : BitVec 32 := BitVec.ofNat 32 (i 1).val
  let v10 : BitVec 1 := Scalar.cmpi .eq arg1 v9
  let v11 : BitVec 32 := Scalar.extui v10
  let c0_i32 : BitVec 32 := 0#32
  let v12 : BitVec 1 := Scalar.cmpi .ne v11 c0_i32
  v12

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![arg1.toNat, v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddSelRefIdeal.lean ====
abbrev S2 : Shape := ⟨1, ![2]⟩
abbrev S4x2x512x1408 : Shape := ⟨4, ![4, 2, 512, 1408]⟩
abbrev S4x512x1408 : Shape := ⟨3, ![4, 512, 1408]⟩
abbrev S1 : Shape := ⟨1, ![1]⟩
abbrev S_ : Shape := ⟨0, ![]⟩
abbrev S4x1x512x1408 : Shape := ⟨4, ![4, 1, 512, 1408]⟩
abbrev S1x512x1408 : Shape := ⟨3, ![1, 512, 1408]⟩
abbrev S512x1408 : Shape := ⟨2, ![512, 1408]⟩

abbrev nBuf : Space → Nat
  | .hbm => 37
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x512x1408, .f32⟩
  | .hbm, ⟨2, _⟩ => ⟨S4x512x1408, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x512x1408, .f32⟩
  | .hbm, ⟨8, _⟩ => ⟨S4x512x1408, .f32⟩
  | .hbm, ⟨9, _⟩ => ⟨S4x1x512x1408, .f32⟩
  | .hbm, ⟨10, _⟩ => ⟨S4x512x1408, .f32⟩
  | .hbm, ⟨11, _⟩ => ⟨S4x512x1408, .f32⟩
  | .hbm, ⟨12, _⟩ => ⟨S4x512x1408, .f32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1x512x1408, .f32⟩
  | .hbm, ⟨18, _⟩ => ⟨S512x1408, .f32⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S1x512x1408, .f32⟩
  | .hbm, ⟨24, _⟩ => ⟨S512x1408, .f32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S1x512x1408, .f32⟩
  | .hbm, ⟨30, _⟩ => ⟨S512x1408, .f32⟩
  | .hbm, ⟨31, _⟩ => ⟨S1x512x1408, .f32⟩
  | .hbm, ⟨32, _⟩ => ⟨S512x1408, .f32⟩
  | .hbm, ⟨33, _⟩ => ⟨S512x1408, .f32⟩
  | .hbm, ⟨34, _⟩ => ⟨S512x1408, .f32⟩
  | .hbm, ⟨35, _⟩ => ⟨S512x1408, .f32⟩
  | .hbm, ⟨36, _⟩ => ⟨S4x512x1408, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Pack.lean ====
abbrev S1024x1024 : Shape := ⟨2, ![1024, 1024]⟩
abbrev S2816x1024 : Shape := ⟨2, ![2816, 1024]⟩
abbrev S256x1024 : Shape := ⟨2, ![256, 1024]⟩
abbrev S1024x2048 : Shape := ⟨2, ![1024, 2048]⟩
abbrev S4x256x1024 : Shape := ⟨3, ![4, 256, 1024]⟩
abbrev S4x704x1024 : Shape := ⟨3, ![4, 704, 1024]⟩
abbrev S256x4x256 : Shape := ⟨3, ![256, 4, 256]⟩
abbrev S4x256x256 : Shape := ⟨3, ![4, 256, 256]⟩
abbrev S1024x4x512 : Shape := ⟨3, ![1024, 4, 512]⟩
abbrev S4x1024x512 : Shape := ⟨3, ![4, 1024, 512]⟩
abbrev S4x65536 : Shape := ⟨2, ![4, 65536]⟩
abbrev S4x64x1024 : Shape := ⟨3, ![4, 64, 1024]⟩
abbrev S4x524288 : Shape := ⟨2, ![4, 524288]⟩
abbrev S4x512x1024 : Shape := ⟨3, ![4, 512, 1024]⟩
abbrev S4x1792x1024 : Shape := ⟨3, ![4, 1792, 1024]⟩
abbrev S4x262144 : Shape := ⟨2, ![4, 262144]⟩
abbrev S4x720896 : Shape := ⟨2, ![4, 720896]⟩

abbrev nBuf : Space → Nat
  | .hbm => 32
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2816x1024, .f32⟩
  | .hbm, ⟨2, _⟩ => ⟨S1024x1024, .f32⟩
  | .hbm, ⟨3, _⟩ => ⟨S256x1024, .f32⟩
  | .hbm, ⟨4, _⟩ => ⟨S1024x2048, .f32⟩
  | .hbm, ⟨5, _⟩ => ⟨S4x256x1024, .f32⟩
  | .hbm, ⟨6, _⟩ => ⟨S4x704x1024, .f32⟩
  | .hbm, ⟨7, _⟩ => ⟨S4x256x1024, .f32⟩
  | .hbm, ⟨8, _⟩ => ⟨S256x4x256, .f32⟩
  | .hbm, ⟨9, _⟩ => ⟨S4x256x256, .f32⟩
  | .hbm, ⟨10, _⟩ => ⟨S1024x4x512, .f32⟩
  | .hbm, ⟨11, _⟩ => ⟨S4x1024x512, .f32⟩
  | .hbm, ⟨12, _⟩ => ⟨S4x65536, .f32⟩
  | .hbm, ⟨13, _⟩ => ⟨S4x64x1024, .f32⟩
  | .hbm, ⟨14, _⟩ => ⟨S4x524288, .f32⟩
  | .hbm, ⟨15, _⟩ => ⟨S4x512x1024, .f32⟩
  | .hbm, ⟨16, _⟩ => ⟨S4x1792x1024, .f32⟩
  | .hbm, ⟨17, _⟩ => ⟨S4x256x1024, .f32⟩
  | .hbm, ⟨18, _⟩ => ⟨S4x262144, .f32⟩
  | .hbm, ⟨19, _⟩ => ⟨S4x256x1024, .f32⟩
  | .hbm, ⟨20, _⟩ => ⟨S4x704x1024, .f32⟩
  | .hbm, ⟨21, _⟩ => ⟨S4x720896, .f32⟩
  | .hbm, ⟨22, _⟩ => ⟨S4x704x1024, .f32⟩
  | .hbm, ⟨23, _⟩ => ⟨S4x256x1024, .f32⟩
  | .hbm, ⟨24, _⟩ => ⟨S4x262144, .f32⟩
  | .hbm, ⟨25, _⟩ => ⟨S4x256x1024, .f32⟩
  | .hbm, ⟨26, _⟩ => ⟨S4x64x1024, .f32⟩
  | .hbm, ⟨27, _⟩ => ⟨S4x65536, .f32⟩
  | .hbm, ⟨28, _⟩ => ⟨S4x256x256, .f32⟩
  | .hbm, ⟨29, _⟩ => ⟨S4x512x1024, .f32⟩
  | .hbm, ⟨30, _⟩ => ⟨S4x524288, .f32⟩
  | .hbm, ⟨31, _⟩ => ⟨S4x1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== PackRefIdeal.lean ====
abbrev S1024x1024 : Shape := ⟨2, ![1024, 1024]⟩
abbrev S2816x1024 : Shape := ⟨2, ![2816, 1024]⟩
abbrev S256x1024 : Shape := ⟨2, ![256, 1024]⟩
abbrev S1024x2048 : Shape := ⟨2, ![1024, 2048]⟩
abbrev S1x256x1024 : Shape := ⟨3, ![1, 256, 1024]⟩
abbrev S4x256x1024 : Shape := ⟨3, ![4, 256, 1024]⟩
abbrev S704x1024 : Shape := ⟨2, ![704, 1024]⟩
abbrev S1x704x1024 : Shape := ⟨3, ![1, 704, 1024]⟩
abbrev S4x704x1024 : Shape := ⟨3, ![4, 704, 1024]⟩
abbrev S256x256 : Shape := ⟨2, ![256, 256]⟩
abbrev S1x256x256 : Shape := ⟨3, ![1, 256, 256]⟩
abbrev S4x256x256 : Shape := ⟨3, ![4, 256, 256]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 50
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2816x1024, .f32⟩
  | .hbm, ⟨2, _⟩ => ⟨S1024x1024, .f32⟩
  | .hbm, ⟨3, _⟩ => ⟨S256x1024, .f32⟩
  | .hbm, ⟨4, _⟩ => ⟨S1024x2048, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S1x256x1024, .f32⟩
  | .hbm, ⟨13, _⟩ => ⟨S4x256x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S1x704x1024, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S4x704x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S4x256x1024, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S1x256x256, .f32⟩
  | .hbm, ⟨37, _⟩ => ⟨S1x256x256, .f32⟩
  | .hbm, ⟨38, _⟩ => ⟨S1x256x256, .f32⟩
  | .hbm, ⟨39, _⟩ => ⟨S1x256x256, .f32⟩
  | .hbm, ⟨40, _⟩ => ⟨S4x256x256, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S1x1024x512, .f32⟩
  | .hbm, ⟨46, _⟩ => ⟨S1x1024x512, .f32⟩
  | .hbm, ⟨47, _⟩ => ⟨S1x1024x512, .f32⟩
  | .hbm, ⟨48, _⟩ => ⟨S1x1024x512, .f32⟩
  | .hbm, ⟨49, _⟩ => ⟨S4x1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Proof.Ple.lean ====
/- The gradient of the gated embedding: the kernel's two results are those of the derivative of `pp * sigmoid(gt)`. -/
module

public import proofs.«01_k».proof.Defs
public import proofs.«01_k».proof.Proof.Gen.PleBwd.Frame
public import proofs.«01_k».proof.Proof.Gen.PleBwdIdeal.Value
public import proofs.«01_k».proof.Proof.Gen.PleRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Ple

/-- A product of four regrouped. -/
theorem gate_swap (x y s t : EReal) : y * x * (s * t) = x * y * s * t := by
  rw [mul_comm y x, mul_assoc (x * y)]

/-- The kernel ends and leaves its arguments as they were. -/
theorem frame_kernel : Cert.quiescent_PleBwd := fun m ρ _ => Cert.PleBwd.Gen.frame m ρ

/-- The kernel over the reals ends and leaves its arguments as they were. -/
theorem frame_ideal : Cert.quiescent_PleBwdIdeal := fun m ρ _ => Cert.PleBwdIdeal.Gen.frame m ρ

/-- The reference ends and leaves its arguments as they were. -/
theorem frame_reference : Cert.quiescent_PleRefIdeal := fun m ρ _ =>
  (θ_run Cert.PleRefIdeal.defs _ _).mono
    (fun r h => ⟨fun c => (h c).2.2, sem_eq_zero_of_no_sems (by decide) r.2⟩)
    (Cert.PleRefIdeal.Value.run (F := Ideal) m ρ)

/-- The kernel and the derivative compute the same two arrays over the reals. -/
theorem algebraic : Cert.algebraic_PleBwdIdeal_PleRefIdeal := by
  pair_intro
  · run_from Cert.PleBwdIdeal.Value.run m g
  · run_from Cert.PleRefIdeal.Value.run m' g'
    · funext i
      pointwise [Cert.PleBwdIdeal.Value.G3]
      rw [zero_sub]
    · funext i
      pointwise [Cert.PleBwdIdeal.Value.G4]
      rw [zero_sub]
      exact gate_swap _ _ _ _

end Cert.Proof.Ple

end
-- ==== Proof.Sb.Words.lean ====
/- The words of the stick-breaking backward kernel in closed form: where its loads and stores lie, how many trips its
   counted loops make, and the side conditions it assumes of the while loop's counter. -/
module

public import proofs.«01_k».proof.Proof.Gen.SbBwdIdeal
public import proofs.«01_k».proof.Proof.Gen.SbBwdIdeal.Skeleton
public import Idealize.ShloMosaic.Lib.LoopRemainder

@[expose] public section

set_option maxRecDepth 16384

namespace Cert.Proof.Sb

open Cert.SbBwdIdeal Cert.SbBwdIdeal.Gen
open Idealize.ShloMosaic

/-! ## The block a trip of the while loop reads -/

/-- The block of trip `s` at query block `a`, as the kernel's word. -/
theorem sub_word : ∀ a s : Fin 16, s ≤ a → (Scalar.subi (BitVec.ofNat 32 a.val) (BitVec.ofNat 32 s.val)) = BitVec.ofNat 32 (a.val - s.val) := by
  decide +kernel

/-- A block number times 256, as the kernel's word. -/
theorem mul_word : ∀ j : Fin 16, (Scalar.muli (BitVec.ofNat 32 j.val) 256#32).toNat = j.val * 256 := by decide +kernel

/-- A block number as the kernel's word. -/
theorem toNat_word : ∀ j : Fin 16, (BitVec.ofNat 32 j.val : BitVec 32).toNat = j.val := by decide +kernel

section While
variable (i : grid0.Coords) (s : ℕ) (hs : s ≤ (i 1).val)
include hs

theorem off1_eq : k0_off1 i (BitVec.ofNat 32 s) = ![((i 1).val - s) * 256, 0] := by
  have h1 := sub_word (i 1) ⟨s, lt_of_le_of_lt hs (i 1).isLt⟩ hs
  have h2 := mul_word ⟨(i 1).val - s, lt_of_le_of_lt (Nat.sub_le _ _) (i 1).isLt⟩
  unfold k0_off1
  simp only at h1 h2 ⊢
  rw [h1, Scalar.indexCast, h2]

theorem off2_eq : k0_off2 i (BitVec.ofNat 32 s) = ![((i 1).val - s) * 256, 128] := by
  have h1 := sub_word (i 1) ⟨s, lt_of_le_of_lt hs (i 1).isLt⟩ hs
  have h2 := mul_word ⟨(i 1).val - s, lt_of_le_of_lt (Nat.sub_le _ _) (i 1).isLt⟩
  unfold k0_off2
  simp only at h1 h2 ⊢
  rw [h1, Scalar.indexCast, h2]

theorem off3_eq : k0_off3 i (BitVec.ofNat 32 s) = ![0, (i 1).val - s, 0, 0] := by
  have h1 := sub_word (i 1) ⟨s, lt_of_le_of_lt hs (i 1).isLt⟩ hs
  have h2 := toNat_word ⟨(i 1).val - s, lt_of_le_of_lt (Nat.sub_le _ _) (i 1).isLt⟩
  unfold k0_off3
  simp only at h1 h2 ⊢
  rw [h1, Scalar.indexCast, h2]

theorem off4_eq : k0_off4 i (BitVec.ofNat 32 s) = ![1, (i 1).val - s, 0, 0] := by
  have h1 := sub_word (i 1) ⟨s, lt_of_le_of_lt hs (i 1).isLt⟩ hs
  have h2 := toNat_word ⟨(i 1).val - s, lt_of_le_of_lt (Nat.sub_le _ _) (i 1).isLt⟩
  unfold k0_off4
  simp only at h1 h2 ⊢
  rw [h1, Scalar.indexCast, h2]

/-- The while loop's trip `s` stays inside the arrays. -/
theorem chk1 : k0_chk1 i (BitVec.ofNat 32 s) := by
  have hj : (i 1).val - s < 16 := lt_of_le_of_lt (Nat.sub_le _ _) (i 1).isLt
  unfold k0_chk1
  refine ⟨?_, ?_, ?_, ?_, ?_⟩
  · have h1 := sub_word (i 1) ⟨s, lt_of_le_of_lt hs (i 1).isLt⟩ hs
    have h2 := mul_word ⟨(i 1).val - s, hj⟩
    unfold k0_mult1
    simp only at h1 h2 ⊢
    rw [h1, h2]
    exact Dvd.intro_left _ rfl
  · rw [off1_eq i s hs]; intro a; fin_cases a <;> simp [S256x128, S4096x256] <;> omega
  · rw [off2_eq i s hs]; intro a; fin_cases a <;> simp [S256x128, S4096x256] <;> omega
  · rw [off3_eq i s hs]; intro a; fin_cases a <;> simp [S1x1x256x256, S2x16x256x256] <;> omega
  · rw [off4_eq i s hs]; intro a; fin_cases a <;> simp [S1x1x256x256, S2x16x256x256] <;> omega

end While

/-- The counter's next value. -/
theorem succ_word (s : ℕ) : Scalar.addi (BitVec.ofNat 32 s) 1#32 = BitVec.ofNat 32 (s + 1) := by
  simp [Scalar.addi, IntOp.addi, BitVec.ofNat_add]

/-- The counter's test. -/
theorem sle_word : ∀ (a : Fin 16) (s : Fin 18), Scalar.cmpi .sle (BitVec.ofNat 32 s.val) (BitVec.ofNat 32 a.val) = if s.val ≤ a.val then 1#1 else 0#1 := by
  decide +kernel

/-! ## The counted loops behind the while loop -/

/-- The first block of the counted loop, as the kernel's word. -/
theorem lb_word : ∀ (a : Fin 16) (n : Fin 17), n.val ≤ a.val + 1 →
    Scalar.subi (Scalar.addi (BitVec.ofNat 32 a.val) 1#32) (BitVec.ofNat 32 n.val) = BitVec.ofNat 32 (a.val + 1 - n.val) := by decide +kernel

/-- Its end. -/
theorem ub_word : ∀ (a : Fin 16) (n : Fin 17), n.val ≤ a.val + 1 →
    Scalar.subi (Scalar.addi (BitVec.ofNat 32 a.val) 1#32) (BitVec.ofNat 32 (a.val + 1 - n.val)) = BitVec.ofNat 32 n.val := by decide +kernel

/-- The words up to 16 add as numbers do. -/
theorem add_word : ∀ (a : Fin 17) (b : Fin 17), Scalar.addi (BitVec.ofNat 32 a.val) (BitVec.ofNat 32 b.val) = BitVec.ofNat 32 (a.val + b.val) := by decide +kernel

/-- The number of trips between two words. -/
theorem trips_word : ∀ (a : Fin 17) (b : Fin 17), Scf.trips (BitVec.ofNat 32 a.val) (BitVec.ofNat 32 (a.val + b.val)) 1#32 = b.val := by decide +kernel

/-- The induction variable as a word. -/
theorem iv_word (a : ℕ) (k : ℕ) : Scf.iv (BitVec.ofNat 32 a) 1#32 k = BitVec.ofNat 32 (a + k) := by
  induction k with
  | zero => rw [Scf.iv_zero, Nat.add_zero]
  | succ k ih => rw [Scf.iv_succ, ih, ← Nat.add_assoc, BitVec.ofNat_add (x := a + k), BitVec.ofNat_add]

section Loop
variable (i : grid0.Coords) (n : ℕ) (hn : n ≤ (i 1).val + 1)
include hn

theorem n_lt : n < 17 := lt_of_le_of_lt hn (Nat.succ_lt_succ (i 1).isLt)

theorem loop_lb : Scalar.subi (Scalar.addi (BitVec.ofNat 32 (i 1).val) 1#32) (BitVec.ofNat 32 n) = BitVec.ofNat 32 ((i 1).val + 1 - n) :=
  lb_word (i 1) ⟨n, n_lt i n hn⟩ hn

theorem loop_ub : Scalar.subi (Scalar.addi (BitVec.ofNat 32 (i 1).val) 1#32) (BitVec.ofNat 32 ((i 1).val + 1 - n)) = BitVec.ofNat 32 n :=
  ub_word (i 1) ⟨n, n_lt i n hn⟩ hn

/-- The counted loop makes as many trips as the while loop did. -/
theorem trips1 : (k0_t1_loop i (BitVec.ofNat 32 n)).trips = n := by
  have h3 := trips_word ⟨(i 1).val + 1 - n, lt_of_le_of_lt (Nat.sub_le _ _) (Nat.succ_lt_succ (i 1).isLt)⟩ ⟨n, n_lt i n hn⟩
  have h4 := add_word ⟨(i 1).val + 1 - n, lt_of_le_of_lt (Nat.sub_le _ _) (Nat.succ_lt_succ (i 1).isLt)⟩ ⟨n, n_lt i n hn⟩
  show Scf.trips _ _ _ = n
  simp only [loop_lb i n hn, loop_ub i n hn, Scalar.muli_divsi_one] at h3 h4 ⊢
  rw [h4, h3]

/-- The remainder loop makes none. -/
theorem trips2 : (k0_t2_loop i (BitVec.ofNat 32 n)).trips = 0 := Scf.rem_trips _ _

variable (k : Fin (k0_t1_loop i (BitVec.ofNat 32 n)).trips)

theorem k_lt : k.val < n := lt_of_lt_of_eq k.isLt (trips1 i n hn)

theorem j_lt : (i 1).val + 1 - n + k.val < 16 := by
  have h1 := k_lt i n hn k
  have h2 : (i 1).val < 16 := (i 1).isLt
  omega

theorem iv1 : Scf.iv (Scalar.subi (Scalar.addi (BitVec.ofNat 32 (i 1).val) 1#32) (BitVec.ofNat 32 n)) 1#32 k = BitVec.ofNat 32 ((i 1).val + 1 - n + k.val) := by
  rw [loop_lb i n hn, iv_word]

theorem off5_eq : k0_off5 i (BitVec.ofNat 32 n) k = ![((i 1).val + 1 - n + k.val) * 256, 0] := by
  have h2 := mul_word ⟨(i 1).val + 1 - n + k.val, j_lt i n hn k⟩
  unfold k0_off5
  simp only [iv1 i n hn k] at h2 ⊢
  rw [Scalar.indexCast, h2]

theorem off6_eq : k0_off6 i (BitVec.ofNat 32 n) k = ![((i 1).val + 1 - n + k.val) * 256, 128] := by
  have h2 := mul_word ⟨(i 1).val + 1 - n + k.val, j_lt i n hn k⟩
  unfold k0_off6
  simp only [iv1 i n hn k] at h2 ⊢
  rw [Scalar.indexCast, h2]

theorem off7_eq : k0_off7 i (BitVec.ofNat 32 n) k = ![0, (i 1).val + 1 - n + k.val, 0, 0] := by
  have h2 := toNat_word ⟨(i 1).val + 1 - n + k.val, j_lt i n hn k⟩
  unfold k0_off7
  simp only [iv1 i n hn k] at h2 ⊢
  rw [Scalar.indexCast, h2]

theorem off8_eq : k0_off8 i (BitVec.ofNat 32 n) k = ![1, (i 1).val + 1 - n + k.val, 0, 0] := by
  have h2 := toNat_word ⟨(i 1).val + 1 - n + k.val, j_lt i n hn k⟩
  unfold k0_off8
  simp only [iv1 i n hn k] at h2 ⊢
  rw [Scalar.indexCast, h2]

omit k in
/-- The counted loops behind a while loop of `n` trips stay inside the arrays. -/
theorem chk2 : k0_chk2 i (BitVec.ofNat 32 n) := by
  unfold k0_chk2
  refine ⟨?_, ?_, ?_, ?_, ?_, ?_, Scf.rem_ok _ _, ?_, ?_, ?_, ?_, ?_⟩
  · have h3 : ∀ (a : Fin 17) (b : Fin 17), Scf.OK (BitVec.ofNat 32 a.val) (BitVec.ofNat 32 (a.val + b.val)) 1#32 := by decide +kernel
    have h3 := h3 ⟨(i 1).val + 1 - n, lt_of_le_of_lt (Nat.sub_le _ _) (Nat.succ_lt_succ (i 1).isLt)⟩ ⟨n, n_lt i n hn⟩
    have h4 := add_word ⟨(i 1).val + 1 - n, lt_of_le_of_lt (Nat.sub_le _ _) (Nat.succ_lt_succ (i 1).isLt)⟩ ⟨n, n_lt i n hn⟩
    show Scf.OK _ _ _
    simp only [loop_lb i n hn, loop_ub i n hn, Scalar.muli_divsi_one] at h3 h4 ⊢
    rw [h4]; exact h3
  · intro k
    have h2 := mul_word ⟨(i 1).val + 1 - n + k.val, j_lt i n hn k⟩
    unfold k0_mult2
    simp only [iv1 i n hn k] at h2 ⊢
    rw [h2]
    exact Dvd.intro_left _ rfl
  · intro k; rw [off5_eq i n hn k]; have := j_lt i n hn k; intro a; fin_cases a <;> simp [S256x128, S4096x256] <;> omega
  · intro k; rw [off6_eq i n hn k]; have := j_lt i n hn k; intro a; fin_cases a <;> simp [S256x128, S4096x256] <;> omega
  · intro k; rw [off7_eq i n hn k]; have := j_lt i n hn k; intro a; fin_cases a <;> simp [S1x1x256x256, S2x16x256x256] <;> omega
  · intro k; rw [off8_eq i n hn k]; have := j_lt i n hn k; intro a; fin_cases a <;> simp [S1x1x256x256, S2x16x256x256] <;> omega
  all_goals exact fun k => (Nat.not_lt_zero _ (lt_of_lt_of_eq k.isLt (trips2 i n hn))).elim

end Loop

end Cert.Proof.Sb
-- ==== Proof.Held.lean ====
/- A memref held at the vector it reads: what a load through a rectangle of it returns and what a store leaves, stated
   over vectors alone. -/
module

public import Idealize.ShloMosaic.Lib.Memref
public import Idealize.ShloMosaic.Lib.Writes
public import Idealize.ShloMosaic.Lib.ValueIdxCore
public import Idealize.ShloMosaic.Lib.Tactic

@[expose] public section

namespace Cert.Proof.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Overwriting a rectangle of a vector -/

section Put
variable {s : Shape} {α : Type}

open Classical in
/-- `x` with the elements of the rectangle `r` replaced by `w`. -/
noncomputable def put (r : Rect s) (w : r.shape.Idx → α) (x : s.Idx → α) : s.Idx → α :=
  fun y => if h : ∃ z, r.emb z = y then w h.choose else x y

/-- Inside the rectangle the new element is read; -/
theorem put_emb (r : Rect s) (w : r.shape.Idx → α) (x : s.Idx → α) (z : r.shape.Idx) : put r w x (r.emb z) = w z := by
  have h : ∃ z', r.emb z' = r.emb z := ⟨z, rfl⟩
  unfold put
  rw [dif_pos h]
  exact congrArg w (r.emb.injective h.choose_spec)

/-- outside it the old one. -/
theorem put_miss (r : Rect s) (w : r.shape.Idx → α) (x : s.Idx → α) (y : s.Idx) (h : y ∉ r.set) : put r w x y = x y := by
  unfold put
  rw [dif_neg]
  rintro ⟨z, rfl⟩
  exact h (by rw [← Rect.map_emb_univ]; exact Finset.mem_map_of_mem _ (Finset.mem_univ z))

end Put

/-! ## Loads and stores -/

section Ops
variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a memref held at `X` returns `X` at the rectangle's places and leaves the memref as it was. -/
theorem wp_ld {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X)
      ⊢ iprop((owns c m q X -∗ wp frame (wpE defs 𝒱 c bd) E (k fun x => X (r.idx x)) Q)
        -∗ wp frame (wpE defs 𝒱 c bd) E (.op (.load m r hl) k) Q) := by
  unfold owns
  iintro ⟨%f, %hf, H⟩ Hk
  subst hf
  iapply (wp_load 𝒱 c bd E (m := m) (r := r) (hl := hl) (k := k) (Q := Q) (q := q) (f := f) (View.setOn_subset_set _ _)) $$ H
  iintro H
  iapply Hk
  iexists f
  isplitr
  · ipureintro; rfl
  iexact H

/-- A store of `w` through the rectangle `r` of a memref held at `X` leaves it at `put r w X`. -/
theorem wp_st {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X)
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (w := w) (hx := hx) (hm := hm) (Mk := Finset.univ) (k := k) (Q := Q) (f := f)
    (m.setOn_access_subset r _)) $$ H
  iintro H
  iapply Hk
  iexists _
  isplitr
  swap
  · iexact H
  ipureintro
  funext y
  by_cases hy : y ∈ r.set
  · rw [← Rect.map_emb_univ] at hy
    obtain ⟨z, -, rfl⟩ := Finset.mem_map.mp hy
    rw [put_emb]
    exact View.read_writes_cons_emb (v := m.view) (f := f) r w [] z
  · rw [put_miss _ _ _ _ hy]
    exact View.read_writes_cons_miss (v := m.view) (f := f) ⟨r, w⟩ [] y hy

end Ops

end Cert.Proof.Held
-- ==== Proof.Sb.Vecs.lean ====
/- Blocks of the stick-breaking backward kernel's arrays: a column half of 256 rows, a plane of the scratch arrays, and
   what loads and stores at the kernel's offsets read and leave in terms of them. -/
module

public import proofs.«01_k».proof.Proof.Sb.Words
public import proofs.«01_k».proof.Proof.Held
public import Idealize.ShloMosaic.Lib.Pointwise.Index

@[expose] public section

set_option maxRecDepth 16384

namespace Cert.Proof.Sb

open Cert.SbBwdIdeal Cert.SbBwdIdeal.Gen
open Idealize.ShloMosaic
open Cert.Proof.Held

variable {α : Type}

/-- Rows `256 j …` and columns `128 h …` of an array of 256 columns. -/
def blk {m : ℕ} [NeZero m] (X : (⟨2, ![m, 256]⟩ : Shape).Idx → α) (j h : ℕ) : S256x128.Idx → α :=
  fun y => X (ix2 (Fin.ofNat m (j * 256 + (y 0).val)) (Fin.ofNat 256 (h * 128 + (y 1).val)))

/-- That block replaced. -/
def setBlk {m : ℕ} (j h : ℕ) (w : S256x128.Idx → α) (X : (⟨2, ![m, 256]⟩ : Shape).Idx → α) : (⟨2, ![m, 256]⟩ : Shape).Idx → α :=
  fun y => if (y 0).val / 256 = j ∧ (y 1).val / 128 = h then
    w (ix2 (⟨(y 0).val % 256, Nat.mod_lt _ (by decide)⟩ : Fin 256) (⟨(y 1).val % 128, Nat.mod_lt _ (by decide)⟩ : Fin 128)) else X y

/-- Plane `h, j` of a scratch array. -/
def slot (X : S2x16x256x256.Idx → α) (h j : ℕ) : S1x1x256x256.Idx → α :=
  fun y => X (ix4 (Fin.ofNat 2 h) (Fin.ofNat 16 j) (y 2) (y 3))

theorem ld_blk {m : ℕ} [NeZero m] (X : (⟨2, ![m, 256]⟩ : Shape).Idx → α) (off : Fin 2 → ℕ) (inb) (j h : ℕ) (ho : off = ![j * 256, h * 128])
    (hj : j * 256 + 256 ≤ m) (hh : h < 2) :
    (fun x => X ((Rect.unit (s := ⟨2, ![m, 256]⟩) off S256x128.size inb).toLoadRect.idx x)) = blk X j h := by
  subst ho
  funext y
  unfold blk
  refine congrArg X ?_
  have h0 : (y 0).val < 256 := (y 0).isLt
  have h1 : (y 1).val < 128 := (y 1).isLt
  funext a
  fin_cases a
  · refine Fin.ext ?_
    show j * 256 + 1 * (y 0).val = (j * 256 + (y 0).val) % m
    rw [Nat.mod_eq_of_lt (by omega), Nat.one_mul]
  · refine Fin.ext ?_
    show h * 128 + 1 * (y 1).val = (h * 128 + (y 1).val) % 256
    rw [Nat.mod_eq_of_lt (by omega), Nat.one_mul]

theorem ld_slot (X : S2x16x256x256.Idx → α) (off : Fin 4 → ℕ) (inb) (h j : ℕ) (ho : off = ![h, j, 0, 0]) (hh : h < 2) (hj : j < 16) :
    (fun x => X ((Rect.unit (s := S2x16x256x256) off S1x1x256x256.size inb).toLoadRect.idx x)) = slot X h j := by
  subst ho
  funext y
  unfold slot
  refine congrArg X ?_
  have h0 : (y 0).val = 0 := Nat.lt_one_iff.mp (y 0).isLt
  have h1 : (y 1).val = 0 := Nat.lt_one_iff.mp (y 1).isLt
  funext a
  fin_cases a
  · refine Fin.ext ?_
    show h + 1 * (y 0).val = h % 2
    rw [Nat.mod_eq_of_lt hh, h0]; rfl
  · refine Fin.ext ?_
    show j + 1 * (y 1).val = j % 16
    rw [Nat.mod_eq_of_lt hj, h1]; rfl
  · refine Fin.ext ?_
    show 0 + 1 * (y 2).val = (y 2).val
    omega
  · refine Fin.ext ?_
    show 0 + 1 * (y 3).val = (y 3).val
    omega

theorem st_blk {m : ℕ} (X : (⟨2, ![m, 256]⟩ : Shape).Idx → α) (off : Fin 2 → ℕ) (inb) (j h : ℕ) (ho : off = ![j * 256, h * 128])
    (w : S256x128.Idx → α) :
    put (Rect.unit (s := ⟨2, ![m, 256]⟩) off S256x128.size inb) w X = setBlk j h w X := by
  subst ho
  funext y
  unfold setBlk
  split
  · rename_i hy
    obtain ⟨h0, h1⟩ := hy
    have e : (Rect.unit (s := ⟨2, ![m, 256]⟩) ![j * 256, h * 128] S256x128.size inb).emb
        (ix2 (⟨(y 0).val % 256, Nat.mod_lt _ (by decide)⟩ : Fin 256) (⟨(y 1).val % 128, Nat.mod_lt _ (by decide)⟩ : Fin 128)) = y := by
      funext a
      fin_cases a
      · refine Fin.ext ?_
        show j * 256 + 1 * ((y 0).val % 256) = (y 0).val
        omega
      · refine Fin.ext ?_
        show h * 128 + 1 * ((y 1).val % 128) = (y 1).val
        omega
    conv_lhs => rw [← e]
    exact put_emb _ _ _ _
  · rename_i hy
    refine put_miss _ _ _ _ fun hm => hy ?_
    rw [← Rect.map_emb_univ] at hm
    obtain ⟨z, -, rfl⟩ := Finset.mem_map.mp hm
    have h0 : (z 0).val < 256 := (z 0).isLt
    have h1 : (z 1).val < 128 := (z 1).isLt
    refine ⟨?_, ?_⟩
    · show (j * 256 + 1 * (z 0).val) / 256 = j
      omega
    · show (h * 128 + 1 * (z 1).val) / 128 = h
      omega

/-- The plane just stored is the one read; -/
theorem slot_put (X : S2x16x256x256.Idx → α) (off : Fin 4 → ℕ) (inb) (h j : ℕ) (ho : off = ![h, j, 0, 0]) (hh : h < 2) (hj : j < 16)
    (w : S1x1x256x256.Idx → α) : slot (put (Rect.unit (s := S2x16x256x256) off S1x1x256x256.size inb) w X) h j = w := by
  rw [← ld_slot _ off inb h j ho hh hj]
  funext y
  exact put_emb _ _ _ _

/-- the others are as they were. -/
theorem slot_put_ne (X : S2x16x256x256.Idx → α) (off : Fin 4 → ℕ) (inb) (h j h' j' : ℕ) (ho : off = ![h, j, 0, 0]) (hh : h' < 2) (hj : j' < 16)
    (w : S1x1x256x256.Idx → α) (hne : ¬(h = h' ∧ j = j')) :
    slot (put (Rect.unit (s := S2x16x256x256) off S1x1x256x256.size inb) w X) h' j' = slot X h' j' := by
  subst ho
  funext y
  unfold slot
  refine put_miss _ _ _ _ fun hm => hne ?_
  rw [← Rect.map_emb_univ] at hm
  obtain ⟨z, -, hz⟩ := Finset.mem_map.mp hm
  have z0 : (z 0).val = 0 := Nat.lt_one_iff.mp (z 0).isLt
  have z1 : (z 1).val = 0 := Nat.lt_one_iff.mp (z 1).isLt
  have e0 : h + 1 * (z 0).val = h' % 2 := congrArg Fin.val (congrFun hz 0)
  have e1 : j + 1 * (z 1).val = j' % 16 := congrArg Fin.val (congrFun hz 1)
  rw [Nat.mod_eq_of_lt hh] at e0
  rw [Nat.mod_eq_of_lt hj] at e1
  omega

/-- A whole array stored is the array afterwards. -/
theorem st_whole (X : S4096x256.Idx → α) (inb) (w : S4096x256.Idx → α) :
    put (Rect.unit (s := S4096x256) ![0, 0] S4096x256.size inb) w X = w := by
  funext y
  have e : (Rect.unit (s := S4096x256) ![0, 0] S4096x256.size inb).emb y = y := by
    funext a
    fin_cases a
    · refine Fin.ext ?_
      show 0 + 1 * (y 0).val = (y 0).val
      omega
    · refine Fin.ext ?_
      show 0 + 1 * (y 1).val = (y 1).val
      omega
  conv_lhs => rw [← e]
  exact put_emb _ _ _ _

end Cert.Proof.Sb
-- ==== Proof.Sb.Spec.lean ====
/- What one grid point of the stick-breaking backward kernel computes, as functions of the arrays it reads: the trips of
   the while loop (the blocks from the diagonal down to the first), then those of the counted loop (the same blocks
   upwards). -/
module

public import proofs.«01_k».proof.Proof.Sb.Vecs

@[expose] public section

set_option maxRecDepth 16384

noncomputable section

namespace Cert.Proof.Sb

open Cert.SbBwdIdeal Cert.SbBwdIdeal.Gen
open Idealize.ShloMosaic
open Cert.Proof.Held

variable {F : FTy → Type} [FloatOps F] [Named F]

/-- What a grid point reads: its blocks of `q` and `do`, and the head pair's `k` and `v`. -/
structure Ins (F : FTy → Type) where
  /-- the query block's number -/
  i : grid0.Coords
  q : Vec F S256x256 .bf16
  k : Vec F S4096x256 .bf16
  v : Vec F S4096x256 .bf16
  o : Vec F S256x256 .bf16

namespace Ins
variable (I : Ins F)

/-- The number of the query block. -/
def a : ℕ := (I.i 1).val
def q0 : Vec F S256x128 .bf16 := blk (m := 256) I.q 0 0
def q1 : Vec F S256x128 .bf16 := blk (m := 256) I.q 0 1
def o0 : Vec F S256x128 .bf16 := blk (m := 256) I.o 0 0
def o1 : Vec F S256x128 .bf16 := blk (m := 256) I.o 0 1
def k0 (j : ℕ) : Vec F S256x128 .bf16 := blk (m := 4096) I.k j 0
def k1 (j : ℕ) : Vec F S256x128 .bf16 := blk (m := 4096) I.k j 1
def v0 (j : ℕ) : Vec F S256x128 .bf16 := blk (m := 4096) I.v j 0
def v1 (j : ℕ) : Vec F S256x128 .bf16 := blk (m := 4096) I.v j 1

/-- The mask of trip `s`. -/
def mask (s : ℕ) : IVec S256x256 1 := k0_pay47 (BitVec.ofNat 32 s) (BitVec.ofNat 32 (I.i 1).val)

/-- Trip `s`'s masked logarithms, first head; -/
def ln0 (s : ℕ) : FVec F S256x256 .f32 := k0_pay53 (I.mask s) (k0_pay52 I.q0 (I.k0 (I.a - s))) (Scalar.ofBits .f32 0x00000000#32)
/-- second head. -/
def ln1 (s : ℕ) : FVec F S256x256 .f32 := k0_pay54 (I.mask s) (k0_pay49 I.q1 (I.k1 (I.a - s))) (k0_pay51 I.q1 (I.k1 (I.a - s)))

/-- The carried row sums before trip `s`. -/
def C : ℕ → FVec F S256x1 .f32 × FVec F S256x1 .f32
  | 0 => (k0_pay31, k0_pay32)
  | s + 1 => (k0_pay7 (C s).1 (I.ln0 s), k0_pay8 (C s).2 (I.ln1 s))

/-- Trip `s` is made if its predecessors were. -/
def live (s : ℕ) : Prop :=
  Scalar.andi (Scalar.cmpi .sle (BitVec.ofNat 32 s) (BitVec.ofNat 32 (I.i 1).val)) (Scalar.cmpf .ogt (k0_pay1 (I.C s).1 (I.C s).2) (Named.named κ "exit" 0xC2D20000#32)) = 1#1

instance (s : ℕ) : Decidable (I.live s) := by unfold live; infer_instance

/-- What trip `s` adds to the first head's `dv` block, -/
def dv0 (s : ℕ) : FVec F S256x128 .f32 :=
  k0_pay58 k0_pay29 I.o0 (I.C s).1 (I.mask s) (k0_pay50 I.q0 (I.k0 (I.a - s))) (k0_pay52 I.q0 (I.k0 (I.a - s))) (Scalar.ofBits .f32 0x00000000#32)
/-- and to the second's. -/
def dv1 (s : ℕ) : FVec F S256x128 .f32 :=
  k0_pay59 k0_pay29 I.o1 (I.C s).2 (I.mask s) (k0_pay49 I.q1 (I.k1 (I.a - s))) (k0_pay51 I.q1 (I.k1 (I.a - s)))

/-- The weights times the weights' cotangents of trip `s` the scratch keeps, first head; -/
def P0 (s : ℕ) : FVec F S1x1x256x256 .f32 :=
  k0_pay60 k0_pay29 I.o0 (I.C s).1 (I.v0 (I.a - s)) (I.mask s) (k0_pay50 I.q0 (I.k0 (I.a - s))) (k0_pay52 I.q0 (I.k0 (I.a - s))) (Scalar.ofBits .f32 0x00000000#32)
/-- second head. -/
def P1 (s : ℕ) : FVec F S1x1x256x256 .f32 :=
  k0_pay4 (k0_pay57 k0_pay29 I.o1 (I.C s).2 (I.v1 (I.a - s)) (I.mask s) (k0_pay49 I.q1 (I.k1 (I.a - s))) (k0_pay51 I.q1 (I.k1 (I.a - s))))
/-- The logits of trip `s` the scratch keeps, first head; -/
def Z0 (s : ℕ) : FVec F S1x1x256x256 .f32 := k0_pay2 (k0_pay48 I.q0 (I.k0 (I.a - s)))
/-- second head. -/
def Z1 (s : ℕ) : FVec F S1x1x256x256 .f32 := k0_pay5 (k0_pay49 I.q1 (I.k1 (I.a - s)))

/-- One trip's change of the `dv` block array. -/
def stepV (s : ℕ) (X : Vec F S4096x256 .f32) : Vec F S4096x256 .f32 :=
  let Y : Vec F S4096x256 .f32 := setBlk (m := 4096) (I.a - s) 0 (k0_pay3 (I.dv0 s) (blk (m := 4096) X (I.a - s) 0)) X
  setBlk (m := 4096) (I.a - s) 1 (k0_pay6 (I.dv1 s) (blk (m := 4096) Y (I.a - s) 1)) Y

/-- `dv` before trip `s`. -/
def Dv (X : Vec F S4096x256 .f32) : ℕ → Vec F S4096x256 .f32
  | 0 => X
  | s + 1 => I.stepV s (Dv X s)

theorem live_le {s : ℕ} (hs : s ≤ I.a + 1) (h : I.live s) : s ≤ I.a := by
  have h16 : I.a < 16 := (I.i 1).isLt
  by_contra hc
  unfold live at h
  rw [show Scalar.cmpi .sle (BitVec.ofNat 32 s) (BitVec.ofNat 32 (I.i 1).val) = 0#1 from by
    have := sle_word (I.i 1) ⟨s, by omega⟩
    rw [this]
    exact if_neg hc] at h
  revert h
  generalize Scalar.cmpf .ogt (k0_pay1 (I.C s).1 (I.C s).2) (Named.named κ "exit" 0xC2D20000#32) = b
  revert b
  decide

theorem exists_dead : ∃ s, ¬I.live s := ⟨I.a + 1, fun h => absurd (I.live_le le_rfl h) (by omega)⟩

/-- How many trips the while loop makes. -/
def n : ℕ := Nat.find I.exists_dead

theorem live_of_lt {s : ℕ} (h : s < I.n) : I.live s := not_not.mp (Nat.find_min I.exists_dead h)
theorem not_live : ¬I.live I.n := Nat.find_spec I.exists_dead
theorem n_le : I.n ≤ I.a + 1 := Nat.find_min' I.exists_dead fun h => absurd (I.live_le le_rfl h) (by omega)

/-! ## The counted loop -/

/-- The trip of the while loop that met the block of trip `t` of the counted loop. -/
def back (t : ℕ) : ℕ := I.n - 1 - t

def p0 (t : ℕ) : FVec F S256x256 .f32 := k0_pay10 (I.P0 (I.back t))
def p1 (t : ℕ) : FVec F S256x256 .f32 := k0_pay11 (I.P1 (I.back t))
def s0 (t : ℕ) : FVec F S256x256 .f32 := k0_pay12 (I.Z0 (I.back t))
def s1 (t : ℕ) : FVec F S256x256 .f32 := k0_pay13 (I.Z1 (I.back t))

/-- The carried prefix sums and `dq` before trip `t`. -/
def L : ℕ → FVec F S256x1 .f32 × FVec F S256x1 .f32 × FVec F S256x128 .f32 × FVec F S256x128 .f32
  | 0 => (k0_pay33, k0_pay34, k0_pay35, k0_pay36)
  | t + 1 => (k0_pay38 (L t).1 (I.p0 t), k0_pay39 (L t).2.1 (I.p1 t),
      k0_pay40 (L t).2.2.1 (I.k0 (I.a + 1 - I.n + t)) (k0_pay14 k0_pay30 (L t).1 (I.mask (I.back t)) (I.p0 t) (I.s0 t)),
      k0_pay41 (L t).2.2.2 (I.k1 (I.a + 1 - I.n + t)) (k0_pay15 k0_pay30 (L t).2.1 (I.mask (I.back t)) (I.p1 t) (I.s1 t) (Scalar.ofBits .f32 0x3F800000#32)))

/-- One trip's change of the `dk` block array. -/
def stepK (t : ℕ) (X : Vec F S4096x256 .f32) : Vec F S4096x256 .f32 :=
  let Y : Vec F S4096x256 .f32 := setBlk (m := 4096) (I.a + 1 - I.n + t) 0
    (k0_pay17 I.q0 k0_pay30 (I.L t).1 (I.mask (I.back t)) (I.p0 t) (I.s0 t) (blk (m := 4096) X (I.a + 1 - I.n + t) 0)) X
  setBlk (m := 4096) (I.a + 1 - I.n + t) 1
    (k0_pay37 (k0_pay16 I.q1 k0_pay30 (I.L t).2.1 (I.mask (I.back t)) (I.p1 t) (I.s1 t) (Scalar.ofBits .f32 0x3F800000#32)) (blk (m := 4096) Y (I.a + 1 - I.n + t) 1)) Y

/-- `dk` before trip `t`. -/
def Dk (X : Vec F S4096x256 .f32) : ℕ → Vec F S4096x256 .f32
  | 0 => X
  | t + 1 => I.stepK t (Dk X t)

/-- The mask of the counted loop's trip is the while loop's at the same block. -/
theorem mask_eq (t : Fin (k0_t1_loop I.i (BitVec.ofNat 32 I.n)).trips) :
    k0_pay9 I.i (BitVec.ofNat 32 (I.i 1).val) (BitVec.ofNat 32 I.n) (Scalar.subi (Scalar.addi (BitVec.ofNat 32 (I.i 1).val) 1#32) (BitVec.ofNat 32 I.n)) 1#32 t
      = I.mask (I.back t) := by
  have hn : I.n ≤ (I.i 1).val + 1 := I.n_le
  have ht := k_lt I.i I.n hn t
  have hb : I.back t ≤ (I.i 1).val := by unfold back; omega
  have e := sub_word (I.i 1) ⟨I.back t, lt_of_le_of_lt hb (I.i 1).isLt⟩ hb
  unfold mask k0_pay9 k0_pay47
  simp only [iv1 I.i I.n hn t] at e ⊢
  rw [e, show (I.i 1).val - I.back t = (I.i 1).val + 1 - I.n + t.val from by unfold back; omega]

/-- `dq` of the point. -/
def dq : Vec F S256x256 .f32 :=
  fun y => setBlk (m := 256) 0 1 (I.L I.n).2.2.2 (setBlk (m := 256) 0 0 (I.L I.n).2.2.1 (fun _ => Scalar.ofBits .f32 0x00000000#32)) y

/-- The accumulators a point begins with: zero at the first query block, the point before it otherwise. -/
def start (Z X : Vec F S4096x256 .f32) : Vec F S4096x256 .f32 := if I.a = 0 then Z else X

/-- `dk` after the point, from what was there before it. -/
def dk (X : Vec F S4096x256 .f32) : Vec F S4096x256 .f32 := I.Dk (I.start k0_pay27 X) I.n
/-- `dv` after the point. -/
def dv (X : Vec F S4096x256 .f32) : Vec F S4096x256 .f32 := I.Dv (I.start k0_pay28 X) I.n

end Ins

end Cert.Proof.Sb
-- ==== Proof.Sb.Real.lean ====
/- Stick-breaking attention over the reals: the weights, their cotangents and the logits' cotangents of one head, at natural
   positions, and how their sums split into blocks of 256. -/
module

public import Mathlib.Analysis.SpecialFunctions.Log.Basic
public import Mathlib.Algebra.BigOperators.Intervals

@[expose] public section

noncomputable section

namespace Cert.Proof.Sb

open Finset

/-- The four arrays, by row and column. -/
structure Data where
  q : ℕ → ℕ → ℝ
  k : ℕ → ℕ → ℝ
  v : ℕ → ℕ → ℝ
  o : ℕ → ℕ → ℝ

/-- The logarithm of the logistic function. -/
def lsig (z : ℝ) : ℝ := min z 0 - Real.log (1 + Real.exp (-|z|))

/-- The logistic function. -/
def sgm (z : ℝ) : ℝ := 1 / (1 + Real.exp (-z))

namespace Data
variable (D : Data) (h : ℕ)

/-- The logit of query `t` and key `s`. -/
def z (t s : ℕ) : ℝ := ∑ d : Fin 128, D.q t (h * 128 + d.val) * D.k s (h * 128 + d.val)
/-- The weight's cotangent. -/
def e (t s : ℕ) : ℝ := ∑ d : Fin 128, D.o t (h * 128 + d.val) * D.v s (h * 128 + d.val)
/-- The logarithm of what a stick leaves, none at a masked key. -/
def L (t s : ℕ) : ℝ := if s < t then lsig (D.z h t s) - D.z h t s else 0
/-- The logarithms of the keys between. -/
def suf (t s : ℕ) : ℝ := ∑ j ∈ Ico (s + 1) 4096, D.L h t j
/-- The weight. -/
def A (t s : ℕ) : ℝ := if s < t then Real.exp (lsig (D.z h t s) + D.suf h t s) else 0
/-- The weight times its cotangent. -/
def P (t s : ℕ) : ℝ := D.A h t s * D.e h t s
/-- Its sum over the keys before. -/
def pre (t s : ℕ) : ℝ := ∑ j ∈ range s, D.P h t j
/-- The logit's cotangent. -/
def dz (t s : ℕ) : ℝ := if s < t then D.P h t s * (1 - sgm (D.z h t s)) - sgm (D.z h t s) * D.pre h t s else 0

/-- The three gradients at a row and a column of all heads'. -/
def dq (t d : ℕ) : ℝ := ∑ s ∈ range 4096, D.dz (d / 128) t s * D.k s d
def dk (s d : ℕ) : ℝ := ∑ t ∈ range 4096, D.dz (d / 128) t s * D.q t d
def dv (s d : ℕ) : ℝ := ∑ t ∈ range 4096, D.A (d / 128) t s * D.o t d

theorem L_of_le {t s : ℕ} (hs : t ≤ s) : D.L h t s = 0 := if_neg (by omega)
theorem A_of_le {t s : ℕ} (hs : t ≤ s) : D.A h t s = 0 := if_neg (by omega)
theorem P_of_le {t s : ℕ} (hs : t ≤ s) : D.P h t s = 0 := by
  unfold P
  rw [D.A_of_le h hs, zero_mul]
theorem dz_of_le {t s : ℕ} (hs : t ≤ s) : D.dz h t s = 0 := if_neg (by omega)

end Data

/-- A block's terms. -/
theorem sum_block (B : ℕ) (f : ℕ → ℝ) (j : ℕ) : ∑ c : Fin B, f (j * B + c.val) = ∑ s ∈ Ico (j * B) ((j + 1) * B), f s := by
  rw [Fin.sum_univ_eq_sum_range (fun c => f (j * B + c)) B, sum_Ico_eq_sum_range, add_mul, one_mul, Nat.add_sub_cancel_left]

/-- A block's terms behind column `c`, and what follows the block. -/
theorem sum_block_after (B : ℕ) (f : ℕ → ℝ) (j c N : ℕ) (hc : c < B) (hN : j * B + B ≤ N) :
    ∑ x : Fin B, f (j * B + x.val) * (if c < x.val then 1 else 0) + ∑ s ∈ Ico (j * B + B) N, f s = ∑ s ∈ Ico (j * B + c + 1) N, f s := by
  rw [← sum_Ico_consecutive f (show j * B + c + 1 ≤ j * B + B by omega) hN]
  congr 1
  rw [Fin.sum_univ_eq_sum_range (fun x => f (j * B + x) * (if c < x then 1 else 0)) B]
  simp only [mul_ite, mul_one, mul_zero]
  rw [← sum_filter, show (range B).filter (fun x => c < x) = Ico (c + 1) B from by ext x; simp; omega]
  rw [sum_Ico_eq_sum_range, sum_Ico_eq_sum_range, show j * B + B - (j * B + c + 1) = B - (c + 1) by omega]
  refine sum_congr rfl fun x _ => ?_
  rw [add_assoc, add_assoc, add_assoc]

/-- A block's terms before column `c`, and what precedes the block. -/
theorem sum_block_before (B : ℕ) (f : ℕ → ℝ) (j c : ℕ) (hc : c < B) :
    ∑ x : Fin B, f (j * B + x.val) * (if x.val < c then 1 else 0) + ∑ s ∈ range (j * B), f s = ∑ s ∈ range (j * B + c), f s := by
  rw [sum_range_add, add_comm]
  congr 1
  rw [Fin.sum_univ_eq_sum_range (fun x => f (j * B + x) * (if x < c then 1 else 0)) B]
  simp only [mul_ite, mul_one, mul_zero]
  rw [← sum_filter, show (range B).filter (fun x => x < c) = range c from by ext x; simp; omega]

end Cert.Proof.Sb
-- ==== Proof.Sb.Pay.lean ====
/- The stick-breaking backward kernel's values over the extended reals, at real operands: each is the real expression. -/
module

public import proofs.«01_k».proof.Proof.Sb.Spec
public import proofs.«01_k».proof.Proof.Sb.Real
public import Idealize.ShloMosaic.Lib.Pointwise
public import Idealize.ShloMosaic.PureOps.Ideal.Laws

@[expose] public section

set_option maxRecDepth 16384

noncomputable section

namespace Cert.Proof.Sb

open Cert.SbBwdIdeal Cert.SbBwdIdeal.Gen
open Idealize.ShloMosaic

/-- A real matrix as an array of extended reals, -/
def up {m n : ℕ} (f : ℕ → ℕ → ℝ) : (⟨2, ![m, n]⟩ : Shape).Idx → EReal := fun y => ((f (y 0).val (y 1).val : ℝ) : EReal)
/-- a real column. -/
def upc {m : ℕ} (f : ℕ → ℝ) : (⟨2, ![m, 1]⟩ : Shape).Idx → EReal := fun y => ((f (y 0).val : ℝ) : EReal)
theorem up_congr {m n : ℕ} {f g : ℕ → ℕ → ℝ} (h : ∀ r < m, ∀ c < n, f r c = g r c) : (up f : (⟨2, ![m, n]⟩ : Shape).Idx → EReal) = up g :=
  funext fun y => congrArg _ (h _ (y 0).isLt _ (y 1).isLt)
theorem upc_congr {m : ℕ} {f g : ℕ → ℝ} (h : ∀ r < m, f r = g r) : (upc f : (⟨2, ![m, 1]⟩ : Shape).Idx → EReal) = upc g :=
  funext fun y => congrArg _ (h _ (y 0).isLt)

/-- A mask. -/
def msk (p : ℕ → ℕ → Prop) [∀ r c, Decidable (p r c)] : IVec S256x256 1 := fun y => if p (y 0).val (y 1).val then 1#1 else 0#1

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Scalars -/

theorem select_ite (p : Prop) [Decidable p] (x y : EReal) : Scalar.select (if p then 1#1 else 0#1) x y = if p then x else y := by
  by_cases h : p
  · rw [if_pos h, if_pos h]; rfl
  · rw [if_neg h, if_neg h]; rfl

theorem exp_zero_sub (z : ℝ) : Ideal.exp (0 - (z : EReal)) = ((Real.exp (-z) : ℝ) : EReal) := by
  rw [zero_sub, ← EReal.coe_neg, Ideal.exp_coe]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem absf_coe (z : ℝ) : (FloatOps.absf (F := Ideal) (φ := .f32) (z : EReal) : EReal) = ((|z| : ℝ) : EReal) := by
  show max (z : EReal) (-(z : EReal)) = _
  rw [← EReal.coe_neg, coe_max]
  rfl

theorem log_one_add (x : ℝ) : Ideal.log (1 + ((Real.exp x : ℝ) : EReal)) = ((Real.log (1 + Real.exp x) : ℝ) : EReal) := by
  rw [← EReal.coe_one, ← EReal.coe_add, Ideal.log_coe, if_neg (not_le.mpr (by positivity))]

theorem e_lsig (z : ℝ) : min (z : EReal) 0 - Ideal.log (1 + Ideal.exp (0 - FloatOps.absf (F := Ideal) (φ := .f32) (z : EReal))) = ((lsig z : ℝ) : EReal) := by
  rw [absf_coe, exp_zero_sub, log_one_add, ← EReal.coe_zero, coe_min, ← EReal.coe_sub]
  rfl

theorem e_sig (z : ℝ) : Ideal.div 1 (1 + ((Real.exp (-z) : ℝ) : EReal)) = ((sgm z : ℝ) : EReal) := by
  have h : (1 : EReal) + ((Real.exp (-z) : ℝ) : EReal) = ((1 + Real.exp (-z) : ℝ) : EReal) := by rw [EReal.coe_add, EReal.coe_one]
  rw [h, Ideal.div_coe (by positivity), one_mul]
  rfl

theorem e_dz (P s L : ℝ) : (P : EReal) * (1 - (s : EReal)) - (s : EReal) * (L : EReal) = ((P * (1 - s) - s * L : ℝ) : EReal) := by
  rw [EReal.coe_sub, EReal.coe_mul, EReal.coe_mul, EReal.coe_sub, EReal.coe_one]

/-- A sum split into a rounded part and the rest: over the reals the rest is zero. -/
theorem split_sum {n : ℕ} (x y : Fin n → ℝ) : ∑ i, (x i : EReal) * (y i : EReal) + ∑ i, ((x i : EReal) - (x i : EReal)) * (y i : EReal) = ((∑ i, x i * y i : ℝ) : EReal) := by
  rw [coe_sum, Finset.sum_eq_zero (s := Finset.univ) (f := fun i => ((x i : EReal) - (x i : EReal)) * (y i : EReal)), add_zero]
  · simp only [EReal.coe_mul]
  · intro i _
    rw [← EReal.coe_sub, sub_self, EReal.coe_zero, zero_mul]

theorem ite_coe (p : Prop) [Decidable p] (x y : ℝ) : ((if p then x else y : ℝ) : EReal) = if p then (x : EReal) else (y : EReal) := by
  split <;> rfl

theorem word_slt (a b : ℕ) (ha : a < 2 ^ 31) (hb : b < 2 ^ 31) : IntOp.cmpi .slt (BitVec.ofNat 32 a) (BitVec.ofNat 32 b) = if a < b then 1#1 else 0#1 := by
  have h1 : (BitVec.ofNat 32 a).toInt = a := by rw [BitVec.toInt_eq_toNat_of_lt] <;> rw [BitVec.toNat_ofNat, Nat.mod_eq_of_lt] <;> omega
  have h2 : (BitVec.ofNat 32 b).toInt = b := by rw [BitVec.toInt_eq_toNat_of_lt] <;> rw [BitVec.toNat_ofNat, Nat.mod_eq_of_lt] <;> omega
  by_cases h : a < b
  · rw [if_pos h]; simp [IntOp.cmpi, BitVec.slt, h1, h2, h]
  · rw [if_neg h]; simp [IntOp.cmpi, BitVec.slt, h1, h2, h]

theorem word_mask (p : Prop) [Decidable p] : FloatOps.sitofp (F := Ideal) .f32 (BitVec.setWidth 32 (if p then 1#1 else 0#1)) = (((if p then 1 else 0 : ℝ)) : EReal) := by
  show (((BitVec.setWidth 32 (if p then 1#1 else 0#1)).toInt : ℝ) : EReal) = _
  by_cases h : p
  · simp only [if_pos h]; norm_num
  · simp only [if_neg h]; norm_num

/-! ## The values -/

section
variable (f g z : ℕ → ℕ → ℝ)

/-- The logits; -/
theorem pay48 : k0_pay48 (F := Ideal) (up f) (up g) = up fun r c => ∑ d : Fin 128, f r d.val * g c d.val := by
  funext y
  idx_vars y
  pointwise [k0_pay48, up]
  simp only [coe_sum, EReal.coe_mul]

variable {q k : Vec Ideal S256x128 .bf16} (hz : k0_pay48 (F := Ideal) q k = up z)
include hz

/-- the logarithm of the sigmoid; -/
theorem pay50 : k0_pay50 (F := Ideal) q k = up fun r c => lsig (z r c) := by
  funext y
  idx_vars y
  unfold k0_pay50
  rw [hz]
  pointwise [up]
  exact e_lsig _

/-- the logarithm of one minus it. -/
theorem pay52 : k0_pay52 (F := Ideal) q k = up fun r c => lsig (z r c) - z r c := by
  unfold k0_pay52
  rw [pay50 z hz, hz]
  funext y
  idx_vars y
  pointwise [up]
  exact (EReal.coe_sub _ _).symm

end

section
variable (p : ℕ → ℕ → Prop) [∀ r c, Decidable (p r c)] (e f g l1 lb U : ℕ → ℕ → ℝ) (C : ℕ → ℝ)

/-- The masked logarithms. -/
theorem pay53 : k0_pay53 (F := Ideal) (msk p) (up e) (Scalar.ofBits .f32 0x00000000#32) = up fun r c => if p r c then e r c else 0 := by
  funext y
  idx_vars y
  pointwise [k0_pay53, up, msk]
  exact (select_ite (p _ _) _ _).trans (ite_coe (p _ _) _ _).symm

/-- The row sums grow by a block's. -/
theorem pay7 : k0_pay7 (F := Ideal) (upc C) (up e) = upc fun r => C r + ∑ c : Fin 256, e r c.val := by
  funext y
  idx_vars y
  pointwise [k0_pay7, up, upc]
  rw [EReal.coe_add, coe_sum]

theorem pay29 : k0_pay29 (F := Ideal) = up fun r c => if c < r then 1 else 0 := by
  funext y
  idx_vars y
  pointwise [k0_pay29, up]
  show FloatOps.sitofp (F := Ideal) .f32 (BitVec.setWidth 32 (IntOp.cmpi .slt (BitVec.ofNat 32 _) (BitVec.ofNat 32 _))) = _
  rw [word_slt _ _ (by omega) (by omega), word_mask]
  rfl

theorem pay30 : k0_pay30 (F := Ideal) = up fun r c => if r < c then 1 else 0 := by
  funext y
  idx_vars y
  pointwise [k0_pay30, up]
  rw [word_slt _ _ (by omega) (by omega), word_mask]
  rfl

/-- The weights. -/
theorem pay55 : k0_pay55 (F := Ideal) (up U) (upc C) (msk p) (up lb) (up e) (Scalar.ofBits .f32 0x00000000#32)
    = up fun r c => if p r c then Real.exp (lb r c + ∑ x : Fin 256, (if p r x.val then e r x.val else 0) * U x.val c + C r) else 0 := by
  unfold k0_pay55
  rw [pay53]
  funext y
  idx_vars y
  pointwise [up, upc, msk]
  refine (select_ite (p _ _) _ _).trans ?_
  rw [split_sum]
  refine Eq.trans ?_ (ite_coe (p _ _) _ _).symm
  rw [← EReal.coe_add, ← EReal.coe_add]
  rfl

/-- The weights times the values' cotangents. -/
theorem pay60 (W : ℕ → ℕ → ℝ) {l2 : FVec Ideal S256x256 .f32} {l3 : FVec Ideal S256x256 .f32} {m : IVec S256x256 1} {C' : FVec Ideal S256x1 .f32} {T : FVec Ideal S256x256 .bf16}
    (hW : k0_pay55 (F := Ideal) T C' m l2 l3 (Scalar.ofBits .f32 0x00000000#32) = up W) :
    k0_pay10 (F := Ideal) (k0_pay60 (F := Ideal) T (up f) C' (up g) m l2 l3 (Scalar.ofBits .f32 0x00000000#32)) = up fun r c => W r c * ∑ d : Fin 128, f r d.val * g c d.val := by
  unfold k0_pay60
  rw [hW]
  funext y
  idx_vars y
  pointwise [k0_pay10, up]
  rw [EReal.coe_mul, coe_sum]
  simp only [EReal.coe_mul]

/-- What a block adds to `dv`. -/
theorem pay58 (W : ℕ → ℕ → ℝ) {l2 : FVec Ideal S256x256 .f32} {l3 : FVec Ideal S256x256 .f32} {m : IVec S256x256 1} {C' : FVec Ideal S256x1 .f32} {T : FVec Ideal S256x256 .bf16}
    (hW : k0_pay55 (F := Ideal) T C' m l2 l3 (Scalar.ofBits .f32 0x00000000#32) = up W) :
    k0_pay58 (F := Ideal) T (up f) C' m l2 l3 (Scalar.ofBits .f32 0x00000000#32) = up fun c d => ∑ r : Fin 256, W r.val c * f r.val d := by
  unfold k0_pay58
  rw [hW]
  funext y
  idx_vars y
  pointwise [up]
  simp only [coe_sum, EReal.coe_mul]

/-- The sigmoid, from the logits kept. -/
theorem pay12 (z : ℕ → ℕ → ℝ) : k0_pay12 (F := Ideal) (k0_pay2 (F := Ideal) (up z)) = up fun r c => sgm (z r c) := by
  funext y
  idx_vars y
  pointwise [k0_pay12, k0_pay2, up]
  rw [exp_zero_sub]
  exact e_sig _

/-- The logits' cotangents. -/
theorem pay14 (P s : ℕ → ℕ → ℝ) : k0_pay14 (F := Ideal) (up U) (upc C) (msk p) (up P) (up s)
    = up fun r c => if p r c then P r c * (1 - s r c) - s r c * (∑ x : Fin 256, P r x.val * U x.val c + C r) else 0 := by
  funext y
  idx_vars y
  pointwise [k0_pay14, up, upc, msk]
  refine (select_ite (p _ _) _ _).trans ?_
  rw [split_sum, ← EReal.coe_add, e_dz]
  exact (ite_coe (p _ _) _ _).symm

/-- What a block adds to `dk`. -/
theorem pay17 (dz : ℕ → ℕ → ℝ) {T : FVec Ideal S256x256 .bf16} {C' : FVec Ideal S256x1 .f32} {m : IVec S256x256 1} {P s : FVec Ideal S256x256 .f32}
    (h : k0_pay14 (F := Ideal) T C' m P s = up dz) :
    k0_pay17 (F := Ideal) (up f) T C' m P s (up g) = up fun c d => g c d + ∑ r : Fin 256, dz r.val c * f r.val d := by
  unfold k0_pay17
  rw [h]
  funext y
  idx_vars y
  pointwise [up]
  simp only [coe_sum, EReal.coe_mul, EReal.coe_add]

/-- What a block adds to `dq`. -/
theorem pay40 : k0_pay40 (F := Ideal) (up f) (up g) (up e) = up fun r d => f r d + ∑ c : Fin 256, e r c.val * g c.val d := by
  funext y
  idx_vars y
  pointwise [k0_pay40, up]
  simp only [coe_sum, EReal.coe_mul, EReal.coe_add]

theorem pay3 : k0_pay3 (F := Ideal) (up f) (up g) = up fun r d => g r d + f r d := by
  funext y
  idx_vars y
  pointwise [k0_pay3, up]
  rw [EReal.coe_add]

theorem pay31 : k0_pay31 (F := Ideal) = upc fun _ => 0 := by
  funext y
  pointwise [k0_pay31, upc]
  rfl

theorem pay35 : k0_pay35 (F := Ideal) = up fun _ _ => 0 := by
  funext y
  pointwise [k0_pay35, up]
  rfl

end

/-! ## The second head's forms are the first's -/

section
variable {F : FTy → Type} [FloatOps F]

theorem pay49_eq (q k : Vec F S256x128 .bf16) : k0_pay49 q k = k0_pay48 q k := rfl
theorem pay51_eq (q k : Vec F S256x128 .bf16) : k0_pay51 q k = k0_pay50 q k := rfl
theorem pay54_eq (m : IVec S256x256 1) (q k : Vec F S256x128 .bf16) : k0_pay54 m (k0_pay49 q k) (k0_pay51 q k) = k0_pay53 m (k0_pay52 q k) (Scalar.ofBits .f32 0x00000000#32) := rfl
theorem pay56_eq (T : FVec F S256x256 .bf16) (C : FVec F S256x1 .f32) (m : IVec S256x256 1) (q k : Vec F S256x128 .bf16) :
    k0_pay56 T C m (k0_pay49 q k) (k0_pay51 q k) = k0_pay55 T C m (k0_pay50 q k) (k0_pay52 q k) (Scalar.ofBits .f32 0x00000000#32) := rfl
theorem pay57_eq (T : FVec F S256x256 .bf16) (o v : Vec F S256x128 .bf16) (C : FVec F S256x1 .f32) (m : IVec S256x256 1) (q k : Vec F S256x128 .bf16) :
    k0_pay4 (k0_pay57 T o C v m (k0_pay49 q k) (k0_pay51 q k)) = k0_pay60 T o C v m (k0_pay50 q k) (k0_pay52 q k) (Scalar.ofBits .f32 0x00000000#32) := rfl
theorem pay59_eq (T : FVec F S256x256 .bf16) (o : Vec F S256x128 .bf16) (C : FVec F S256x1 .f32) (m : IVec S256x256 1) (q k : Vec F S256x128 .bf16) :
    k0_pay59 T o C m (k0_pay49 q k) (k0_pay51 q k) = k0_pay58 T o C m (k0_pay50 q k) (k0_pay52 q k) (Scalar.ofBits .f32 0x00000000#32) := rfl
theorem pay15_eq (T : FVec F S256x256 .bf16) (C : FVec F S256x1 .f32) (m : IVec S256x256 1) (P : FVec F S256x256 .f32) (Z : FVec F S1x1x256x256 .f32) :
    k0_pay15 T C m P (k0_pay13 Z) (Scalar.ofBits .f32 0x3F800000#32) = k0_pay14 T C m P (k0_pay12 Z) := rfl
theorem pay37_eq (q : Vec F S256x128 .bf16) (T : FVec F S256x256 .bf16) (C : FVec F S256x1 .f32) (m : IVec S256x256 1) (P : FVec F S256x256 .f32) (Z : FVec F S1x1x256x256 .f32) (X : Vec F S256x128 .f32) :
    k0_pay37 (k0_pay16 q T C m P (k0_pay13 Z) (Scalar.ofBits .f32 0x3F800000#32)) X = k0_pay17 q T C m P (k0_pay12 Z) X := rfl

end

/-- The mask of a trip. -/
theorem pay47 (a s : Fin 16) (h : s.val ≤ a.val) : k0_pay47 (BitVec.ofNat 32 s.val) (BitVec.ofNat 32 a.val) = msk fun r c => (a.val - s.val) * 256 + c < a.val * 256 + r := by
  funext y
  idx_vars y
  unfold k0_pay47
  rw [sub_word a s h]
  pointwise [msk]
  show IntOp.cmpi .slt (BitVec.ofNat 32 (a.val - s.val) * 256#32 + BitVec.ofNat 32 y1.val) (BitVec.ofNat 32 a.val * 256#32 + BitVec.ofNat 32 y0.val) = _
  rw [show BitVec.ofNat 32 (a.val - s.val) * 256#32 = BitVec.ofNat 32 ((a.val - s.val) * 256) from (BitVec.ofNat_mul ..).symm,
    show BitVec.ofNat 32 a.val * 256#32 = BitVec.ofNat 32 (a.val * 256) from (BitVec.ofNat_mul ..).symm, ← BitVec.ofNat_add, ← BitVec.ofNat_add,
    word_slt _ _ (by have := a.isLt; omega) (by have := a.isLt; omega)]
  rfl

/-- The greatest of real row sums is real: it passes the threshold of the exit, which is minus infinity. -/
theorem pay1 (C D : ℕ → ℝ) : Scalar.cmpf .ogt (k0_pay1 (F := Ideal) (upc C) (upc D)) (Named.named κ "exit" 0xC2D20000#32) = 1#1 := by
  have hk : (Named.named (F := Ideal) (φ := .f32) κ "exit" 0xC2D20000#32) = (⊥ : EReal) := IdealRules.named_const.ideal_named_scalar _ _ _ _ rfl
  pointwise [k0_pay1]
  refine (congrArg BitVec.ofBool (decide_eq_true ?_)).trans rfl
  rw [hk]
  refine lt_max_of_lt_left ?_
  rw [Finset.lt_fold_max]
  exact Or.inr ⟨(0, 0), Finset.mem_univ _, EReal.bot_lt_coe _⟩

end Cert.Proof.Sb
-- ==== Proof.Finite.lean ====
/- Reading a claim's finiteness: what lies under infinity in absolute value is a real number. -/
module

public import proofs.«01_k».proof.Defs
public import proofs.«01_k».proof.Proof.Sb.Pay
public import Idealize.ShloMosaic.Lib.ReduceAll
public import Idealize.ShloMosaic.Lib.Pointwise

@[expose] public section

noncomputable section

open Idealize.ShloMosaic

namespace Cert.Proof

theorem and_one {a b : BitVec 1} (h : a &&& b = 1#1) : a = 1#1 ∧ b = 1#1 := by
  revert a b
  decide

/-- What lies under infinity in absolute value is a real number. -/
theorem finite_of_lt {x : EReal} (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  have h' : max x (-x) < ⊤ := by
    by_contra hn
    exact absurd ((congrArg BitVec.ofBool (decide_eq_false hn)).symm.trans h) (by decide)
  refine ⟨fun e => ?_, fun e => ?_⟩
  · rw [e] at h'
    exact absurd (lt_of_le_of_lt (le_max_left _ _) h') (lt_irrefl _)
  · rw [e, EReal.neg_bot] at h'
    exact absurd (lt_of_le_of_lt (le_max_right _ _) h') (lt_irrefl _)

/-- A real number, from what excludes the two infinities. -/
theorem real_of {x : EReal} (h : x ≠ ⊤ ∧ x ≠ ⊥) : ∃ r : ℝ, x = (r : EReal) := ⟨x.toReal, (EReal.coe_toReal h.1 h.2).symm⟩

/-- A sum of products of reals is a real. -/
theorem real_dot {n : ℕ} {f g : Fin n → EReal} (hf : ∀ k, f k ≠ ⊤ ∧ f k ≠ ⊥) (hg : ∀ k, g k ≠ ⊤ ∧ g k ≠ ⊥) : ∃ r : ℝ, (∑ k, f k * g k) = (r : EReal) := by
  refine ⟨∑ k, (f k).toReal * (g k).toReal, ?_⟩
  rw [Sb.coe_sum]
  refine Finset.sum_congr rfl fun k _ => ?_
  rw [EReal.coe_mul, EReal.coe_toReal (hf k).1 (hf k).2, EReal.coe_toReal (hg k).1 (hg k).2]

/-- The logistic function. -/
def sg (a : EReal) : EReal := Ideal.div 1 (1 + Ideal.exp (-a))

theorem one_add_exp_ne (a : ℝ) : (1 : ℝ) + Real.exp a ≠ 0 := by positivity

/-- The logistic function of a real is a real. -/
theorem sg_coe (a : ℝ) : sg (a : EReal) = ((1 / (1 + Real.exp (-a)) : ℝ) : EReal) := by
  rw [sg, ← EReal.coe_neg, Ideal.exp_coe, ← EReal.coe_one, ← EReal.coe_add, Ideal.div_coe (one_add_exp_ne _)]
  norm_cast
  rw [one_mul]

/-- The logistic function is 0 at −∞. -/
theorem sg_bot : sg ⊥ = 0 := by
  rw [sg, EReal.neg_bot, Ideal.exp_top, EReal.add_top_of_ne_bot (by decide), Ideal.div, if_neg (by decide), EReal.inv_top, mul_zero]

/-- The logistic function is 1 at ∞. -/
theorem sg_top : sg ⊤ = 1 := by
  rw [sg, EReal.neg_top, Ideal.exp_bot, add_zero, ← EReal.coe_one, Ideal.div_coe one_ne_zero, ← EReal.coe_mul]
  norm_num

/-- A logistic gate's gradient, factored and summed, of a finite cotangent. -/
theorem silu_grad (X : ℝ) (a : EReal) : X * (sg a + a * sg a * (1 - sg a)) = X * sg a + a * X * (sg a * (1 - sg a)) := by
  have h1 : (1 : EReal) - 1 = 0 := by rw [← EReal.coe_one, ← EReal.coe_sub, sub_self, EReal.coe_zero]
  induction a with
  | bot => simp [sg_bot]
  | top => simp [sg_top, h1]
  | coe a =>
    rw [sg_coe]
    norm_cast
    ring

end Cert.Proof

end
-- ==== Proof.Sb.Chain.lean ====
/- One block of one head of the stick-breaking backward kernel, over real arrays: each value is the block's part of the
   whole head's, and each carried sum the sum over the keys met. -/
module

public import proofs.«01_k».proof.Proof.Sb.Pay

@[expose] public section

set_option maxRecDepth 16384

noncomputable section

namespace Cert.Proof.Sb

open Cert.SbBwdIdeal Cert.SbBwdIdeal.Gen
open Idealize.ShloMosaic Finset

/-- The mask of query block `a` against key block `j`. -/
abbrev mk (a j : ℕ) : IVec S256x256 1 := msk fun r c => j * 256 + c < a * 256 + r

/-- A block of a function of query and key. -/
abbrev bl (f : ℕ → ℕ → ℝ) (a j : ℕ) : FVec Ideal S256x256 .f32 := up fun r c => f (a * 256 + r) (j * 256 + c)

variable (D : Data) (h a j : ℕ)

/-- Rows of block `a`, the head's columns. -/
abbrev rows (x : ℕ → ℕ → ℝ) : Vec Ideal S256x128 .bf16 := up fun r d => x (a * 256 + r) (h * 128 + d)

theorem z_blk : k0_pay48 (F := Ideal) (rows h a D.q) (rows h j D.k) = bl (D.z h) a j := pay48 _ _

theorem lsig_blk : k0_pay50 (F := Ideal) (rows h a D.q) (rows h j D.k) = bl (fun t s => lsig (D.z h t s)) a j := pay50 _ (z_blk D h a j)

theorem rest_blk : k0_pay52 (F := Ideal) (rows h a D.q) (rows h j D.k) = bl (fun t s => lsig (D.z h t s) - D.z h t s) a j := pay52 _ (z_blk D h a j)

/-- The masked logarithms of a block. -/
theorem ln_blk : k0_pay53 (F := Ideal) (mk a j) (k0_pay52 (rows h a D.q) (rows h j D.k)) (Scalar.ofBits .f32 0x00000000#32) = bl (D.L h) a j := by
  rw [rest_blk, pay53]
  rfl

/-- The sums of the keys behind block `j - 1`. -/
abbrev behind : FVec Ideal S256x1 .f32 := upc fun r => ∑ s ∈ Ico (j * 256) 4096, D.L h (a * 256 + r) s
/-- The sums of the keys before block `j`. -/
abbrev before : FVec Ideal S256x1 .f32 := upc fun r => ∑ s ∈ range (j * 256), D.P h (a * 256 + r) s

theorem behind_step (hj : j < 16) : k0_pay7 (F := Ideal) (behind D h a (j + 1)) (bl (D.L h) a j) = behind D h a j := by
  rw [pay7]
  refine upc_congr fun r _ => ?_
  rw [sum_block 256 (fun s => D.L h (a * 256 + r) s) j, add_comm, sum_Ico_consecutive _ (by omega) (by omega)]

theorem behind_diag : k0_pay31 (F := Ideal) = behind D h a (a + 1) := by
  rw [pay31]
  refine upc_congr fun r hr => (sum_eq_zero fun s hs => D.L_of_le h ?_).symm
  have := (mem_Ico.mp hs).1
  omega

/-- The weights of a block. -/
theorem A_blk (hj : j < 16) :
    k0_pay55 (F := Ideal) k0_pay29 (behind D h a (j + 1)) (mk a j) (k0_pay50 (rows h a D.q) (rows h j D.k)) (k0_pay52 (rows h a D.q) (rows h j D.k)) (Scalar.ofBits .f32 0x00000000#32)
      = bl (D.A h) a j := by
  rw [rest_blk, lsig_blk, pay29, pay55]
  refine up_congr fun r _ c hc => if_congr Iff.rfl (congrArg Real.exp ?_) rfl
  rw [add_assoc]
  refine congrArg _ ?_
  have := sum_block_after 256 (fun s => D.L h (a * 256 + r) s) j c 4096 hc (by omega)
  rw [show j * 256 + 256 = (j + 1) * 256 by omega] at this
  exact this

/-- What a block adds to `dv`. -/
theorem dv_blk (hj : j < 16) :
    k0_pay58 (F := Ideal) k0_pay29 (rows h a D.o) (behind D h a (j + 1)) (mk a j) (k0_pay50 (rows h a D.q) (rows h j D.k)) (k0_pay52 (rows h a D.q) (rows h j D.k)) (Scalar.ofBits .f32 0x00000000#32)
      = up fun c d => ∑ r : Fin 256, D.A h (a * 256 + r.val) (j * 256 + c) * D.o (a * 256 + r.val) (h * 128 + d) :=
  pay58 _ _ (A_blk D h a j hj)

/-- The weights times their cotangents, of a block. -/
theorem P_blk (hj : j < 16) :
    k0_pay10 (F := Ideal) (k0_pay60 (F := Ideal) k0_pay29 (rows h a D.o) (behind D h a (j + 1)) (rows h j D.v) (mk a j) (k0_pay50 (rows h a D.q) (rows h j D.k)) (k0_pay52 (rows h a D.q) (rows h j D.k))
      (Scalar.ofBits .f32 0x00000000#32)) = bl (D.P h) a j :=
  pay60 _ _ _ (A_blk D h a j hj)

/-- The sigmoids of a block. -/
theorem sig_blk : k0_pay12 (F := Ideal) (k0_pay2 (F := Ideal) (k0_pay48 (rows h a D.q) (rows h j D.k))) = bl (fun t s => sgm (D.z h t s)) a j := by
  rw [z_blk]
  exact pay12 _

/-- The logits' cotangents of a block. -/
theorem dz_blk : k0_pay14 (F := Ideal) k0_pay30 (before D h a j) (mk a j) (bl (D.P h) a j) (bl (fun t s => sgm (D.z h t s)) a j) = bl (D.dz h) a j := by
  rw [pay30, pay14]
  refine up_congr fun r _ c hc => if_congr Iff.rfl ?_ rfl
  rw [sum_block_before 256 (fun s => D.P h (a * 256 + r) s) j c hc]
  rfl

theorem before_zero : k0_pay33 (F := Ideal) = before D h a 0 := pay31.trans (upc_congr fun r _ => (sum_range_zero _).symm)

theorem before_step : k0_pay38 (F := Ideal) (before D h a j) (bl (D.P h) a j) = before D h a (j + 1) := by
  refine (pay7 _ _).trans (upc_congr fun r _ => ?_)
  rw [sum_block 256 (fun s => D.P h (a * 256 + r) s) j, range_eq_Ico, range_eq_Ico, sum_Ico_consecutive _ (by omega) (by omega)]

/-- The part of `dq` of the keys before block `j`. -/
abbrev dqPart : FVec Ideal S256x128 .f32 := up fun r d => ∑ s ∈ range (j * 256), D.dz h (a * 256 + r) s * D.k s (h * 128 + d)

theorem dq_zero : k0_pay35 (F := Ideal) = dqPart D h a 0 := pay35.trans (up_congr fun r _ d _ => (sum_range_zero _).symm)

theorem dq_step : k0_pay40 (F := Ideal) (dqPart D h a j) (rows h j D.k) (bl (D.dz h) a j) = dqPart D h a (j + 1) := by
  refine (pay40 _ _ _).trans (up_congr fun r _ d _ => ?_)
  rw [sum_block 256 (fun s => D.dz h (a * 256 + r) s * D.k s (h * 128 + d)) j, range_eq_Ico, range_eq_Ico, sum_Ico_consecutive _ (by omega) (by omega)]

/-- What a block adds to `dk`. -/
theorem dk_blk (g : ℕ → ℕ → ℝ) :
    k0_pay17 (F := Ideal) (rows h a D.q) k0_pay30 (before D h a j) (mk a j) (bl (D.P h) a j) (bl (fun t s => sgm (D.z h t s)) a j) (up g)
      = up fun c d => g c d + ∑ r : Fin 256, D.dz h (a * 256 + r.val) (j * 256 + c) * D.q (a * 256 + r.val) (h * 128 + d) :=
  pay17 _ _ _ (dz_blk D h a j)

end Cert.Proof.Sb
-- ==== Proof.Sb.Point.lean ====
/- One grid point of the stick-breaking backward kernel, over real arrays: the while loop meets every block from the diagonal
   down to the first, its `dq` is the query block's gradient, and its `dk`, `dv` grow by the query block's part. -/
module

public import proofs.«01_k».proof.Proof.Sb.Chain

@[expose] public section

set_option maxRecDepth 16384

noncomputable section

namespace Cert.Proof.Sb

open Cert.SbBwdIdeal Cert.SbBwdIdeal.Gen
open Idealize.ShloMosaic Finset

theorem blk_up {m : ℕ} [NeZero m] (f : ℕ → ℕ → ℝ) (j e : ℕ) (hj : j * 256 + 256 ≤ m) (he : e < 2) :
    blk (m := m) (up f) j e = (up fun r c => f (j * 256 + r) (e * 128 + c) : S256x128.Idx → EReal) := by
  funext y
  have h0 : (y 0).val < 256 := (y 0).isLt
  have h1 : (y 1).val < 128 := (y 1).isLt
  show ((f ((j * 256 + (y 0).val) % m) ((e * 128 + (y 1).val) % 256) : ℝ) : EReal) = _
  rw [Nat.mod_eq_of_lt (by omega), Nat.mod_eq_of_lt (by omega)]
  rfl

theorem setBlk_up {m : ℕ} (f w : ℕ → ℕ → ℝ) (j e : ℕ) :
    setBlk (m := m) j e (up w : S256x128.Idx → EReal) (up f) = up fun r c => if r / 256 = j ∧ c / 128 = e then w (r % 256) (c % 128) else f r c := by
  funext y
  unfold setBlk
  exact (ite_coe _ _ _).symm

theorem pay28 {f : ℕ → ℕ → ℕ → ℝ} : (k0_pay28 (F := Ideal) : S4096x256.Idx → EReal) = up fun r c => ∑ t ∈ range (0 * 256), f r c t := by
  funext y
  exact Ideal.ofBits_zero_f32

/-- A grid point reads query block `a` of head pair `g`. -/
structure Reads (D : Data) (g : ℕ) (I : Ins Ideal) : Prop where
  q : I.q = up fun r c => D.q (I.a * 256 + r) (g * 256 + c)
  k : I.k = up fun r c => D.k r (g * 256 + c)
  v : I.v = up fun r c => D.v r (g * 256 + c)
  o : I.o = up fun r c => D.o (I.a * 256 + r) (g * 256 + c)

namespace Reads
variable {D : Data} {g : ℕ} {I : Ins Ideal} (R : Reads D g I)

theorem a_lt (I : Ins Ideal) : I.a < 16 := (I.i 1).isLt

/-- Both heads' two halves of a block of rows. -/
theorem half {m : ℕ} [NeZero m] (x : ℕ → ℕ → ℝ) (b j e : ℕ) (hj : j * 256 + 256 ≤ m) (he : e < 2) :
    blk (m := m) (up fun r c => x (b * 256 + r) (g * 256 + c)) j e = rows (2 * g + e) (b + j) x := by
  rw [blk_up _ _ _ hj he]
  refine up_congr fun r _ c _ => ?_
  rw [show b * 256 + (j * 256 + r) = (b + j) * 256 + r by omega, show g * 256 + (e * 128 + c) = (2 * g + e) * 128 + c by omega]

theorem half' {m : ℕ} [NeZero m] (x : ℕ → ℕ → ℝ) (j e : ℕ) (hj : j * 256 + 256 ≤ m) (he : e < 2) :
    blk (m := m) (up fun r c => x r (g * 256 + c)) j e = rows (2 * g + e) j x := by
  rw [blk_up _ _ _ hj he]
  refine up_congr fun r _ c _ => ?_
  rw [show g * 256 + (e * 128 + c) = (2 * g + e) * 128 + c by omega]

include R

theorem q0 : I.q0 = rows (2 * g) I.a D.q := by unfold Ins.q0; rw [R.q]; exact half _ _ 0 0 (by omega) (by omega)
theorem q1 : I.q1 = rows (2 * g + 1) I.a D.q := by unfold Ins.q1; rw [R.q]; exact half _ _ 0 1 (by omega) (by omega)
theorem o0 : I.o0 = rows (2 * g) I.a D.o := by unfold Ins.o0; rw [R.o]; exact half _ _ 0 0 (by omega) (by omega)
theorem o1 : I.o1 = rows (2 * g + 1) I.a D.o := by unfold Ins.o1; rw [R.o]; exact half _ _ 0 1 (by omega) (by omega)
theorem k0 {j : ℕ} (hj : j < 16) : I.k0 j = rows (2 * g) j D.k := by unfold Ins.k0; rw [R.k]; exact half' _ j 0 (by omega) (by omega)
theorem k1 {j : ℕ} (hj : j < 16) : I.k1 j = rows (2 * g + 1) j D.k := by unfold Ins.k1; rw [R.k]; exact half' _ j 1 (by omega) (by omega)
theorem v0 {j : ℕ} (hj : j < 16) : I.v0 j = rows (2 * g) j D.v := by unfold Ins.v0; rw [R.v]; exact half' _ j 0 (by omega) (by omega)
theorem v1 {j : ℕ} (hj : j < 16) : I.v1 j = rows (2 * g + 1) j D.v := by unfold Ins.v1; rw [R.v]; exact half' _ j 1 (by omega) (by omega)

omit R in
theorem mask {s : ℕ} (hs : s ≤ I.a) : I.mask s = Cert.Proof.Sb.mk I.a (I.a - s) := pay47 (I.i 1) ⟨s, lt_of_le_of_lt hs (I.i 1).isLt⟩ hs

theorem ln0 {s : ℕ} (hs : s ≤ I.a) : I.ln0 s = bl (D.L (2 * g)) I.a (I.a - s) := by
  have := a_lt I
  unfold Ins.ln0
  rw [mask hs, R.q0, R.k0 (by omega)]
  exact ln_blk _ _ _ _

theorem ln1 {s : ℕ} (hs : s ≤ I.a) : I.ln1 s = bl (D.L (2 * g + 1)) I.a (I.a - s) := by
  have := a_lt I
  unfold Ins.ln1
  rw [pay54_eq, mask hs, R.q1, R.k1 (by omega)]
  exact ln_blk _ _ _ _

/-- The carried sums are those of the keys behind the block to come. -/
theorem C {s : ℕ} (hs : s ≤ I.a + 1) : I.C s = (behind D (2 * g) I.a (I.a + 1 - s), behind D (2 * g + 1) I.a (I.a + 1 - s)) := by
  have := a_lt I
  induction s with
  | zero => exact Prod.ext (behind_diag D _ _) (behind_diag D _ _)
  | succ s ih =>
    have e : I.a + 1 - s = I.a - s + 1 := by omega
    have e' : I.a + 1 - (s + 1) = I.a - s := by omega
    refine Prod.ext ?_ ?_
    · show k0_pay7 (I.C s).1 (I.ln0 s) = _
      rw [ih (by omega), R.ln0 (by omega), e, e']
      exact behind_step D _ _ _ (by omega)
    · show k0_pay7 (I.C s).2 (I.ln1 s) = _
      rw [ih (by omega), R.ln1 (by omega), e, e']
      exact behind_step D _ _ _ (by omega)

/-- The exit, at minus infinity, is never taken before the first block. -/
theorem live {s : ℕ} (hs : s ≤ I.a) : I.live s := by
  unfold Ins.live
  rw [R.C (by omega), pay1, show Scalar.cmpi .sle (BitVec.ofNat 32 s) (BitVec.ofNat 32 (I.i 1).val) = 1#1 from by
    have h := a_lt I
    rw [sle_word (I.i 1) ⟨s, by omega⟩]
    exact if_pos hs]
  rfl

/-- Every block from the diagonal on is met. -/
theorem n : I.n = I.a + 1 := by
  refine le_antisymm I.n_le ?_
  by_contra hc
  exact I.not_live (R.live (by omega))

theorem dv0 {s : ℕ} (hs : s ≤ I.a) : I.dv0 s = up fun c d => ∑ r : Fin 256, D.A (2 * g) (I.a * 256 + r.val) ((I.a - s) * 256 + c) * D.o (I.a * 256 + r.val) (2 * g * 128 + d) := by
  have := a_lt I
  unfold Ins.dv0
  rw [mask hs, R.q0, R.o0, R.k0 (by omega), R.C (by omega), show I.a + 1 - s = I.a - s + 1 by omega]
  exact dv_blk _ _ _ _ (by omega)

theorem dv1 {s : ℕ} (hs : s ≤ I.a) : I.dv1 s = up fun c d => ∑ r : Fin 256, D.A (2 * g + 1) (I.a * 256 + r.val) ((I.a - s) * 256 + c) * D.o (I.a * 256 + r.val) ((2 * g + 1) * 128 + d) := by
  have := a_lt I
  unfold Ins.dv1
  rw [pay59_eq, mask hs, R.q1, R.o1, R.k1 (by omega), R.C (by omega), show I.a + 1 - s = I.a - s + 1 by omega]
  exact dv_blk _ _ _ _ (by omega)

omit R in
theorem back_eq (hn : I.n = I.a + 1) {t : ℕ} (ht : t ≤ I.a) : I.back t ≤ I.a ∧ I.a - I.back t = t := by
  unfold Ins.back
  omega

theorem p0 {t : ℕ} (ht : t ≤ I.a) : I.p0 t = bl (D.P (2 * g)) I.a t := by
  have := a_lt I
  obtain ⟨hb, e⟩ := back_eq R.n ht
  unfold Ins.p0 Ins.P0
  rw [mask hb, R.q0, R.o0, e, R.k0 (by omega), R.v0 (by omega), R.C (by omega), show I.a + 1 - I.back t = t + 1 by omega]
  exact P_blk _ _ _ _ (by omega)

theorem p1 {t : ℕ} (ht : t ≤ I.a) : I.p1 t = bl (D.P (2 * g + 1)) I.a t := by
  have := a_lt I
  obtain ⟨hb, e⟩ := back_eq R.n ht
  unfold Ins.p1 Ins.P1
  rw [pay57_eq, mask hb, R.q1, R.o1, e, R.k1 (by omega), R.v1 (by omega), R.C (by omega), show I.a + 1 - I.back t = t + 1 by omega]
  exact P_blk _ _ _ _ (by omega)

theorem s0 {t : ℕ} (ht : t ≤ I.a) : I.s0 t = bl (fun t s => sgm (D.z (2 * g) t s)) I.a t := by
  have := a_lt I
  obtain ⟨hb, e⟩ := back_eq R.n ht
  unfold Ins.s0 Ins.Z0
  rw [R.q0, e, R.k0 (by omega)]
  exact sig_blk _ _ _ _

theorem s1 {t : ℕ} (ht : t ≤ I.a) : k0_pay12 (I.Z1 (I.back t)) = bl (fun t s => sgm (D.z (2 * g + 1) t s)) I.a t := by
  have := a_lt I
  obtain ⟨hb, e⟩ := back_eq R.n ht
  unfold Ins.Z1
  rw [R.q1, e, R.k1 (by omega)]
  exact sig_blk _ _ _ _

/-- The carries of the counted loop. -/
theorem L {t : ℕ} (ht : t ≤ I.a + 1) :
    I.L t = (before D (2 * g) I.a t, before D (2 * g + 1) I.a t, dqPart D (2 * g) I.a t, dqPart D (2 * g + 1) I.a t) := by
  have := a_lt I
  induction t with
  | zero => exact Prod.ext (before_zero D _ _) (Prod.ext (before_zero D _ _) (Prod.ext (dq_zero D _ _) (dq_zero D _ _)))
  | succ t ih =>
    have ht' : t ≤ I.a := by omega
    obtain ⟨hb, e⟩ := back_eq R.n ht'
    have e' : I.a + 1 - I.n + t = t := by rw [R.n]; omega
    unfold Ins.L
    refine Prod.ext ?_ (Prod.ext ?_ (Prod.ext ?_ ?_))
    · show k0_pay38 (I.L t).1 (I.p0 t) = _
      rw [ih (by omega), R.p0 ht']
      exact before_step _ _ _ _
    · show k0_pay38 (I.L t).2.1 (I.p1 t) = _
      rw [ih (by omega), R.p1 ht']
      exact before_step _ _ _ _
    · show k0_pay40 (I.L t).2.2.1 (I.k0 (I.a + 1 - I.n + t)) (k0_pay14 k0_pay30 (I.L t).1 (I.mask (I.back t)) (I.p0 t) (I.s0 t)) = _
      rw [ih (by omega), R.p0 ht', R.s0 ht', e', R.k0 (by omega), mask hb, e, dz_blk]
      exact dq_step _ _ _ _
    · show k0_pay40 (I.L t).2.2.2 (I.k1 (I.a + 1 - I.n + t)) (k0_pay14 k0_pay30 (I.L t).2.1 (I.mask (I.back t)) (I.p1 t) (k0_pay12 (I.Z1 (I.back t)))) = _
      rw [ih (by omega), R.p1 ht', R.s1 ht', e', R.k1 (by omega), mask hb, e, dz_blk]
      exact dq_step _ _ _ _

/-- The point's `dq`. -/
theorem dq : I.dq = up fun r c => D.dq (I.a * 256 + r) (g * 256 + c) := by
  have := a_lt I
  unfold Ins.dq
  rw [R.n, R.L le_rfl]
  have hz : (fun _ => FloatOps.ofBits (F := Ideal) .f32 0x00000000#32 : S256x256.Idx → EReal) = up fun _ _ => 0 := funext fun y => Ideal.ofBits_zero_f32
  refine (congrArg (fun x => setBlk (m := 256) 0 1 (dqPart D (2 * g + 1) I.a (I.a + 1)) (setBlk (m := 256) 0 0 (dqPart D (2 * g) I.a (I.a + 1)) x)) hz).trans ?_
  rw [setBlk_up, setBlk_up]
  refine up_congr fun r hr c hc => ?_
  have e : ∀ h d, (g * 256 + c) / 128 = h → h * 128 + d = g * 256 + c →
      ∑ s ∈ range ((I.a + 1) * 256), D.dz h (I.a * 256 + r % 256) s * D.k s (h * 128 + d) = D.dq (I.a * 256 + r) (g * 256 + c) := by
    intro h d h1 h2
    unfold Data.dq
    rw [h1, h2, Nat.mod_eq_of_lt hr]
    refine sum_subset (range_subset_range.mpr (by omega)) fun s _ hs => ?_
    rw [D.dz_of_le _ (by have := mem_range.not.mp hs; omega), zero_mul]
  by_cases h1 : c / 128 = 1
  · rw [if_pos ⟨by omega, h1⟩]
    exact e _ _ (by omega) (by omega)
  · rw [if_neg (by omega), if_pos ⟨by omega, by omega⟩]
    exact e _ _ (by omega) (by omega)

end Reads

/-- What query block `a` adds to `dv`, -/
def addV (D : Data) (g a r c : ℕ) : ℝ := ∑ t ∈ Ico (a * 256) ((a + 1) * 256), D.A ((g * 256 + c) / 128) t r * D.o t (g * 256 + c)
/-- and to `dk`. -/
def addK (D : Data) (g a r c : ℕ) : ℝ := ∑ t ∈ Ico (a * 256) ((a + 1) * 256), D.dz ((g * 256 + c) / 128) t r * D.q t (g * 256 + c)

section
variable (D : Data) (g a : ℕ)

theorem addV_far {r : ℕ} (c : ℕ) (h : (a + 1) * 256 ≤ r) : addV D g a r c = 0 :=
  sum_eq_zero fun t ht => by rw [D.A_of_le _ (by have := (mem_Ico.mp ht).2; omega), zero_mul]
theorem addK_far {r : ℕ} (c : ℕ) (h : (a + 1) * 256 ≤ r) : addK D g a r c = 0 :=
  sum_eq_zero fun t ht => by rw [D.dz_of_le _ (by have := (mem_Ico.mp ht).2; omega), zero_mul]

theorem addV_blk {h c d : ℕ} (r : ℕ) (h1 : (g * 256 + c) / 128 = h) (h2 : h * 128 + d = g * 256 + c) :
    ∑ t : Fin 256, D.A h (a * 256 + t.val) r * D.o (a * 256 + t.val) (h * 128 + d) = addV D g a r c := by
  unfold addV
  rw [sum_block 256 (fun t => D.A h t r * D.o t (h * 128 + d)) a, h1, h2]
theorem addK_blk {h c d : ℕ} (r : ℕ) (h1 : (g * 256 + c) / 128 = h) (h2 : h * 128 + d = g * 256 + c) :
    ∑ t : Fin 256, D.dz h (a * 256 + t.val) r * D.q (a * 256 + t.val) (h * 128 + d) = addK D g a r c := by
  unfold addK
  rw [sum_block 256 (fun t => D.dz h t r * D.q t (h * 128 + d)) a, h1, h2]

end

/-- A block of rows grown half by half. -/
theorem halves (f T T0 T1 : ℕ → ℕ → ℝ) (j : ℕ) (h0 : ∀ r d, d < 128 → T0 r d = T (j * 256 + r) d) (h1 : ∀ r d, d < 128 → T1 r d = T (j * 256 + r) (128 + d)) :
    (up (fun r c => if r / 256 = j ∧ c / 128 = 1 then
        (if (j * 256 + r % 256) / 256 = j ∧ (1 * 128 + c % 128) / 128 = 0 then
          f (j * 256 + (j * 256 + r % 256) % 256) (0 * 128 + (1 * 128 + c % 128) % 128) + T0 ((j * 256 + r % 256) % 256) ((1 * 128 + c % 128) % 128)
          else f (j * 256 + r % 256) (1 * 128 + c % 128)) + T1 (r % 256) (c % 128)
      else if r / 256 = j ∧ c / 128 = 0 then f (j * 256 + r % 256) (0 * 128 + c % 128) + T0 (r % 256) (c % 128) else f r c) : S4096x256.Idx → EReal)
      = up fun r c => if r / 256 = j then f r c + T r c else f r c := by
  refine up_congr fun r hr c hc => ?_
  by_cases hj : r / 256 = j
  · rw [if_pos (c := r / 256 = j) hj]
    by_cases hh : c / 128 = 1
    · rw [if_pos ⟨hj, hh⟩, if_neg (by omega), h1 _ _ (by omega), show j * 256 + r % 256 = r by omega, show 1 * 128 + c % 128 = c by omega]
    · rw [if_neg (by omega), if_pos ⟨hj, by omega⟩, h0 _ _ (by omega), show j * 256 + r % 256 = r by omega, show 0 * 128 + c % 128 = c by omega, show c % 128 = c by omega]
  · rw [if_neg (by omega), if_neg (by omega), if_neg hj]

namespace Reads
variable {D : Data} {g : ℕ} {I : Ins Ideal} (R : Reads D g I)
include R

theorem stepV {s : ℕ} (hs : s ≤ I.a) (f : ℕ → ℕ → ℝ) : I.stepV s (up f) = up fun r c => if r / 256 = I.a - s then f r c + addV D g I.a r c else f r c := by
  have := a_lt I
  unfold Ins.stepV
  rw [R.dv0 hs, R.dv1 hs, blk_up _ _ _ (by omega) (by omega), pay3, setBlk_up]
  dsimp only
  rw [blk_up _ _ _ (by omega) (by omega)]
  refine (congrArg (fun x => setBlk (m := 4096) (I.a - s) 1 x _) (pay3 _ _)).trans ?_
  rw [setBlk_up]
  exact halves f (addV D g I.a) (fun c d => ∑ r : Fin 256, D.A (2 * g) (I.a * 256 + r.val) ((I.a - s) * 256 + c) * D.o (I.a * 256 + r.val) (2 * g * 128 + d))
    (fun c d => ∑ r : Fin 256, D.A (2 * g + 1) (I.a * 256 + r.val) ((I.a - s) * 256 + c) * D.o (I.a * 256 + r.val) ((2 * g + 1) * 128 + d)) _
    (fun r d hd => addV_blk _ _ _ _ (by omega) (by omega)) (fun r d hd => addV_blk _ _ _ _ (by omega) (by omega))

theorem Dv (f : ℕ → ℕ → ℝ) {s : ℕ} (hs : s ≤ I.a + 1) :
    I.Dv (up f) s = up fun r c => if (I.a + 1 - s) * 256 ≤ r then f r c + addV D g I.a r c else f r c := by
  induction s with
  | zero =>
    refine up_congr fun r _ c _ => ?_
    split
    · rw [addV_far D g I.a c (by omega), add_zero]
    · rfl
  | succ s ih =>
    refine ((congrArg (I.stepV s) (ih (by omega))).trans (R.stepV (by omega) _)).trans (up_congr fun r _ c _ => ?_)
    by_cases h : r / 256 = I.a - s
    · rw [if_pos h, if_neg (by omega), if_pos (by omega)]
    · rw [if_neg h]
      exact if_congr (by omega) rfl rfl

theorem stepK {t : ℕ} (ht : t ≤ I.a) (f : ℕ → ℕ → ℝ) : I.stepK t (up f) = up fun r c => if r / 256 = t then f r c + addK D g I.a r c else f r c := by
  have := a_lt I
  obtain ⟨hb, e⟩ := back_eq R.n ht
  unfold Ins.stepK
  rw [show I.a + 1 - I.n + t = t by rw [R.n]; omega, blk_up _ _ _ (by omega) (by omega), R.q0, R.q1, mask hb, e, R.L (by omega), R.p0 ht, R.s0 ht, R.p1 ht, dk_blk, setBlk_up]
  dsimp only
  rw [blk_up _ _ _ (by omega) (by omega)]
  refine (congrArg (fun x => setBlk (m := 4096) t 1 x _) ((pay37_eq _ _ _ _ _ _ _).trans ((congrArg (fun x => k0_pay17 _ _ _ _ _ x _) (R.s1 ht)).trans (dk_blk _ _ _ _ _)))).trans ?_
  rw [setBlk_up]
  exact halves f (addK D g I.a) (fun c d => ∑ r : Fin 256, D.dz (2 * g) (I.a * 256 + r.val) (t * 256 + c) * D.q (I.a * 256 + r.val) (2 * g * 128 + d))
    (fun c d => ∑ r : Fin 256, D.dz (2 * g + 1) (I.a * 256 + r.val) (t * 256 + c) * D.q (I.a * 256 + r.val) ((2 * g + 1) * 128 + d)) _
    (fun r d hd => addK_blk _ _ _ _ (by omega) (by omega)) (fun r d hd => addK_blk _ _ _ _ (by omega) (by omega))

theorem Dk (f : ℕ → ℕ → ℝ) {t : ℕ} (ht : t ≤ I.a + 1) :
    I.Dk (up f) t = up fun r c => if r < t * 256 then f r c + addK D g I.a r c else f r c := by
  induction t with
  | zero => exact up_congr fun r _ c _ => (if_neg (by omega)).symm
  | succ t ih =>
    refine ((congrArg (I.stepK t) (ih (by omega))).trans (R.stepK (by omega) _)).trans (up_congr fun r _ c _ => ?_)
    by_cases h : r / 256 = t
    · rw [if_pos h, if_neg (by omega), if_pos (by omega)]
    · rw [if_neg h]
      exact if_congr (by omega) rfl rfl

/-- The accumulator of `dv` after the point, if it held the earlier query blocks' sum. -/
theorem dv (X : Vec Ideal S4096x256 .f32)
    (hX : I.a ≠ 0 → X = up fun r c => ∑ t ∈ range (I.a * 256), D.A ((g * 256 + c) / 128) t r * D.o t (g * 256 + c)) :
    I.dv X = up fun r c => ∑ t ∈ range ((I.a + 1) * 256), D.A ((g * 256 + c) / 128) t r * D.o t (g * 256 + c) := by
  have hs : I.start (k0_pay28 (F := Ideal)) X = up fun r c => ∑ t ∈ range (I.a * 256), D.A ((g * 256 + c) / 128) t r * D.o t (g * 256 + c) := by
    unfold Ins.start
    by_cases h : I.a = 0
    · rw [if_pos h, h]
      exact pay28
    · rw [if_neg h, hX h]
  unfold Ins.dv
  rw [hs, R.n, R.Dv _ le_rfl]
  refine up_congr fun r _ c _ => ?_
  rw [if_pos (by omega)]
  unfold addV
  rw [range_eq_Ico, range_eq_Ico, sum_Ico_consecutive _ (by omega) (by omega)]

/-- The accumulator of `dk` after the point, if it held the earlier query blocks' sum. -/
theorem dk (X : Vec Ideal S4096x256 .f32)
    (hX : I.a ≠ 0 → X = up fun r c => ∑ t ∈ range (I.a * 256), D.dz ((g * 256 + c) / 128) t r * D.q t (g * 256 + c)) :
    I.dk X = up fun r c => ∑ t ∈ range ((I.a + 1) * 256), D.dz ((g * 256 + c) / 128) t r * D.q t (g * 256 + c) := by
  have hs : I.start (k0_pay27 (F := Ideal)) X = up fun r c => ∑ t ∈ range (I.a * 256), D.dz ((g * 256 + c) / 128) t r * D.q t (g * 256 + c) := by
    unfold Ins.start
    by_cases h : I.a = 0
    · rw [if_pos h, h]
      exact pay28
    · rw [if_neg h, hX h]
  unfold Ins.dk
  rw [hs, R.n, R.Dk _ le_rfl]
  refine up_congr fun r _ c _ => ?_
  by_cases h : r < (I.a + 1) * 256
  · rw [if_pos h]
    unfold addK
    rw [range_eq_Ico, range_eq_Ico, sum_Ico_consecutive _ (by omega) (by omega)]
  · rw [if_neg h, range_eq_Ico, range_eq_Ico, ← sum_Ico_consecutive _ (show 0 ≤ I.a * 256 by omega) (show I.a * 256 ≤ (I.a + 1) * 256 by omega)]
    exact (add_zero _).symm.trans (congrArg _ (addK_far D g I.a c (by omega)).symm)

end Reads

end Cert.Proof.Sb
-- ==== Proof.Sb.While.lean ====
/- The while loop of the stick-breaking backward kernel: its label meets a specification that gives the counter, the carried
   sums, the `dv` array and the planes of the scratch arrays after its last trip. -/
module

public import proofs.«01_k».proof.Proof.Sb.Spec
public import proofs.«01_k».proof.Proof.Gen.SbBwdIdeal.Launch
public import Idealize.ShloMosaic.Lib.Pipeline.Sound
public import Idealize.ShloMosaic.Lib.Tactic

@[expose] public section

set_option maxRecDepth 16384

noncomputable section

namespace Cert.Proof.Sb

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Held

variable {F : FTy → Type} [FloatOps F] [Named F]

local notation "𝕄" => MT nD τ sig Unit (Elt F) ℕ (UR sig nD τ) ℕ

/-- The variants of the body's calls: trips to go. -/
abbrev 𝒱₀ : Variants := Variants.nat

namespace Ins
variable (I : Ins F)

/-- The scratch arrays hold the planes of the trips before `s`. -/
def kept (s : ℕ) (A Z : S2x16x256x256.Idx → F .f32) : Prop :=
  ∀ s' < s, slot A 0 (I.a - s') = I.P0 s' ∧ slot A 1 (I.a - s') = I.P1 s' ∧ slot Z 0 (I.a - s') = I.Z0 s' ∧ slot Z 1 (I.a - s') = I.Z1 s'

theorem kept_zero (A Z : S2x16x256x256.Idx → F .f32) : I.kept 0 A Z := fun _ h => absurd h (Nat.not_lt_zero _)

/-- A trip's four stores keep the planes of the trips before it and add its own. -/
theorem kept_succ {s : ℕ} (hs : s ≤ I.a) {A Z : S2x16x256x256.Idx → F .f32} (h : I.kept s A Z) (i3 i4 i3' i4') :
    I.kept (s + 1)
      (put (Rect.unit (s := S2x16x256x256) (k0_off4 I.i (BitVec.ofNat 32 s)) S1x1x256x256.size i4) (I.P1 s)
        (put (Rect.unit (s := S2x16x256x256) (k0_off3 I.i (BitVec.ofNat 32 s)) S1x1x256x256.size i3) (I.P0 s) A))
      (put (Rect.unit (s := S2x16x256x256) (k0_off4 I.i (BitVec.ofNat 32 s)) S1x1x256x256.size i4') (I.Z1 s)
        (put (Rect.unit (s := S2x16x256x256) (k0_off3 I.i (BitVec.ofNat 32 s)) S1x1x256x256.size i3') (I.Z0 s) Z)) := by
  have h16 : I.a < 16 := (I.i 1).isLt
  have e3 := off3_eq I.i s hs
  have e4 := off4_eq I.i s hs
  intro s' hs'
  have hj : I.a - s' < 16 := by omega
  have ha : I.a = (I.i 1).val := rfl
  have hja : (I.i 1).val - s < 16 := by omega
  rcases Nat.lt_succ_iff_lt_or_eq.mp hs' with hlt | rfl
  · have hne : ∀ h h' : ℕ, ¬(h = h' ∧ (I.i 1).val - s = I.a - s') := fun h h' hc => by
      have : I.a = (I.i 1).val := rfl
      omega
    obtain ⟨r1, r2, r3, r4⟩ := h s' hlt
    refine ⟨?_, ?_, ?_, ?_⟩
    · rw [slot_put_ne _ _ _ 1 _ 0 _ e4 (by omega) hj _ (hne _ _), slot_put_ne _ _ _ 0 _ 0 _ e3 (by omega) hj _ (hne _ _), r1]
    · rw [slot_put_ne _ _ _ 1 _ 1 _ e4 (by omega) hj _ (hne _ _), slot_put_ne _ _ _ 0 _ 1 _ e3 (by omega) hj _ (hne _ _), r2]
    · rw [slot_put_ne _ _ _ 1 _ 0 _ e4 (by omega) hj _ (hne _ _), slot_put_ne _ _ _ 0 _ 0 _ e3 (by omega) hj _ (hne _ _), r3]
    · rw [slot_put_ne _ _ _ 1 _ 1 _ e4 (by omega) hj _ (hne _ _), slot_put_ne _ _ _ 0 _ 1 _ e3 (by omega) hj _ (hne _ _), r4]
  · refine ⟨?_, ?_, ?_, ?_⟩
    · rw [slot_put_ne _ _ _ 1 _ 0 _ e4 (by omega) hj _ (by omega)]; exact slot_put _ _ _ 0 _ e3 (by omega) hja _
    · exact slot_put _ _ _ 1 _ e4 (by omega) hja _
    · rw [slot_put_ne _ _ _ 1 _ 0 _ e4 (by omega) hj _ (by omega)]; exact slot_put _ _ _ 0 _ e3 (by omega) hja _
    · exact slot_put _ _ _ 1 _ e4 (by omega) hja _

section Label
variable (c : Dev nD) (X : Vec F S4096x256 .f32)
variable (arg3 : Memref sig .tc .vmem S4096x256 .bf16) (harg3 : arg3.IsWhole) (arg4 : Memref sig .tc .vmem S4096x256 .bf16) (harg4 : arg4.IsWhole)
  (arg9 : Memref sig .tc .vmem S2x16x256x256 .f32) (harg9 : arg9.IsWhole) (arg10 : Memref sig .tc .vmem S2x16x256x256 .f32) (harg10 : arg10.IsWhole)
  (arg8 : Memref sig .tc .vmem S4096x256 .f32) (harg8 : arg8.IsWhole)

/-- What the label's function reads and writes, before trip `s`. -/
def held (s : ℕ) (A Z : S2x16x256x256.Idx → F .f32) : sProp 𝕄 :=
  iprop(owns (c : Thread nD τ) arg3 fullShare I.k ∗ owns (c : Thread nD τ) arg4 fullShare I.v ∗ owns (c : Thread nD τ) arg8 fullShare (I.Dv X s)
    ∗ owns (c : Thread nD τ) arg9 fullShare A ∗ owns (c : Thread nD τ) arg10 fullShare Z)

/-- The label's specification from trip `s` on. -/
def spec (s : ℕ) (A Z : S2x16x256x256.Idx → F .f32) : sWPT 𝕄 (BitVec 32 × FVec F S256x1 .f32 × FVec F S256x1 .f32) := do
  sWPT.consume (I.held c X arg3 arg4 arg9 arg10 arg8 s A Z)
  let B : (S2x16x256x256.Idx → F .f32) × (S2x16x256x256.Idx → F .f32) ← sWPT.arbitrary
  sWPT.assume (I.kept I.n B.1 B.2)
  sWPT.produce (I.held c X arg3 arg4 arg9 arg10 arg8 I.n B.1 B.2)
  pure (BitVec.ofNat 32 I.n, (I.C I.n).1, (I.C I.n).2)

theorem spec_apply (s : ℕ) (A Z : S2x16x256x256.Idx → F .f32) (K : BitVec 32 × FVec F S256x1 .f32 × FVec F S256x1 .f32 → sProp 𝕄) :
    I.spec c X arg3 arg4 arg9 arg10 arg8 s A Z K
      = iprop(I.held c X arg3 arg4 arg9 arg10 arg8 s A Z ∗ ∀ B : (S2x16x256x256.Idx → F .f32) × (S2x16x256x256.Idx → F .f32), ⌜I.kept I.n B.1 B.2⌝ -∗
          (I.held c X arg3 arg4 arg9 arg10 arg8 I.n B.1 B.2 -∗ K (BitVec.ofNat 32 I.n, (I.C I.n).1, (I.C I.n).2))) := rfl

set_option maxHeartbeats 2000000 in
/-- The label's function meets it, by induction on the trips to go. -/
theorem spec_le (E : Set ℕ) :
    ∀ k s, s + k = I.n → ∀ A Z, I.kept s A Z → ∀ K, I.spec c X arg3 arg4 arg9 arg10 arg8 s A Z K
      ⊢ wp frame (wpE (defs₀ (F := F)) 𝒱₀ (c : Thread nD τ) (some k)) E
          (defs₀ (F := F) .tc 1 ⟨I.i, arg3, harg3, arg4, harg4, I.q0, I.q1, k0_pay29, I.o0, I.o1, arg9, harg9, arg10, harg10, arg8, harg8,
            BitVec.ofNat 32 s, (I.C s).1, (I.C s).2⟩) K := by
  intro k
  induction k with
  | zero =>
    intro s hs A Z hk K
    rw [spec_apply]
    show _ ⊢ wp frame (wpE (defs₀ (F := F)) 𝒱₀ (c : Thread nD τ) (some 0)) E
      (cc0_while1 I.i arg3 harg3 arg4 harg4 I.q0 I.q1 k0_pay29 I.o0 I.o1 arg9 harg9 arg10 harg10 arg8 harg8 (BitVec.ofNat 32 s) (I.C s).1 (I.C s).2) K
    simp only [cc0_while1_eq_skeleton]; unfold cc0_while1_skel
    have hsn : s = I.n := by omega
    subst hsn
    have htest := I.not_live
    unfold live at htest
    simp only [htest, ↓reduceIte, Prog.pure_eq_ret]
    iintro ⟨H, Hk⟩
    rw [wp_ret]; imodintro
    iapply Hk $$ %(A, Z)
    · ipureintro; exact hk
    · iexact H
  | succ k ih =>
    intro s hs A Z hk K
    have hlive : I.live s := I.live_of_lt (by omega)
    have hsa : s ≤ I.a := by have := I.n_le; omega
    have hsa' : s ≤ (I.i 1).val := hsa
    have h16 : I.a < 16 := (I.i 1).isLt
    rw [spec_apply]
    show _ ⊢ wp frame (wpE (defs₀ (F := F)) 𝒱₀ (c : Thread nD τ) (some (k + 1))) E
      (cc0_while1 I.i arg3 harg3 arg4 harg4 I.q0 I.q1 k0_pay29 I.o0 I.o1 arg9 harg9 arg10 harg10 arg8 harg8 (BitVec.ofNat 32 s) (I.C s).1 (I.C s).2) K
    simp only [cc0_while1_eq_skeleton]; unfold cc0_while1_skel
    have htest := hlive
    unfold live at htest
    simp only [htest, ↓reduceIte, k0_part6_eq_skeleton, k0_part7_eq_skeleton]
    unfold k0_part6_skel k0_part7_skel
    simp only [Prog.lift, Prog.bind_op, Prog.bind_ret, Prog.pure_eq_ret]
    unfold held
    iintro ⟨⟨H3, H4, H8, H9, H10⟩, Hk⟩
    iapply (wp_assume 𝒱₀ (c : Thread nD τ) (some (k + 1)) E (chk1 I.i s hsa'))
    iapply (wp_ld 𝒱₀ (c : Thread nD τ) (some (k + 1)) E (m := arg3)) $$ H3; iintro H3
    iapply (wp_ld 𝒱₀ (c : Thread nD τ) (some (k + 1)) E (m := arg3)) $$ H3; iintro H3
    iapply (wp_ld 𝒱₀ (c : Thread nD τ) (some (k + 1)) E (m := arg4)) $$ H4; iintro H4
    iapply (wp_ld 𝒱₀ (c : Thread nD τ) (some (k + 1)) E (m := arg4)) $$ H4; iintro H4
    iapply (wp_ld 𝒱₀ (c : Thread nD τ) (some (k + 1)) E (m := arg9)) $$ H9; iintro H9
    iapply (wp_st 𝒱₀ (c : Thread nD τ) (some (k + 1)) E (m := arg9)) $$ H9; iintro H9
    iapply (wp_ld 𝒱₀ (c : Thread nD τ) (some (k + 1)) E (m := arg10)) $$ H10; iintro H10
    iapply (wp_st 𝒱₀ (c : Thread nD τ) (some (k + 1)) E (m := arg10)) $$ H10; iintro H10
    iapply (wp_ld 𝒱₀ (c : Thread nD τ) (some (k + 1)) E (m := arg8)) $$ H8; iintro H8
    iapply (wp_ld 𝒱₀ (c : Thread nD τ) (some (k + 1)) E (m := arg8)) $$ H8; iintro H8
    iapply (wp_st 𝒱₀ (c : Thread nD τ) (some (k + 1)) E (m := arg8)) $$ H8; iintro H8
    iapply (wp_ld 𝒱₀ (c : Thread nD τ) (some (k + 1)) E (m := arg9)) $$ H9; iintro H9
    iapply (wp_st 𝒱₀ (c : Thread nD τ) (some (k + 1)) E (m := arg9)) $$ H9; iintro H9
    iapply (wp_ld 𝒱₀ (c : Thread nD τ) (some (k + 1)) E (m := arg10)) $$ H10; iintro H10
    iapply (wp_st 𝒱₀ (c : Thread nD τ) (some (k + 1)) E (m := arg10)) $$ H10; iintro H10
    iapply (wp_ld 𝒱₀ (c : Thread nD τ) (some (k + 1)) E (m := arg8)) $$ H8; iintro H8
    iapply (wp_ld 𝒱₀ (c : Thread nD τ) (some (k + 1)) E (m := arg8)) $$ H8; iintro H8
    iapply (wp_st 𝒱₀ (c : Thread nD τ) (some (k + 1)) E (m := arg8)) $$ H8; iintro H8
    have eo1 := off1_eq I.i s hsa'
    have eo2 := off2_eq I.i s hsa'
    have b1 : ((I.i 1).val - s) * 256 + 256 ≤ 4096 := by have : I.a = (I.i 1).val := rfl; omega
    rw [ld_blk (m := 4096) I.k _ _ _ 0 eo1 b1 (by decide), ld_blk (m := 4096) I.k _ _ _ 1 eo2 b1 (by decide),
      ld_blk (m := 4096) I.v _ _ _ 0 eo1 b1 (by decide), ld_blk (m := 4096) I.v _ _ _ 1 eo2 b1 (by decide),
      ld_blk (m := 4096) (I.Dv X s) _ _ _ 0 eo1 b1 (by decide), st_blk (m := 4096) _ _ _ _ 0 eo1, ld_blk (m := 4096) _ _ _ _ 1 eo2 b1 (by decide),
      st_blk (m := 4096) _ _ _ _ 1 eo2, succ_word]
    iapply (wp_call_spec 𝒱₀ (c : Thread nD τ) (some (k + 1)) E (I.spec c X arg3 arg4 arg9 arg10 arg8 (s + 1) _ _) k
      (fun u hu => by cases hu; exact Nat.lt_succ_self k)
      (ih (s + 1) (by omega) _ _ (I.kept_succ hsa hk (k0_off3_inb _ _ (chk1 I.i s hsa')) (k0_off4_inb _ _ (chk1 I.i s hsa'))
        (k0_off3_inb _ _ (chk1 I.i s hsa')) (k0_off4_inb _ _ (chk1 I.i s hsa')))))
    rw [spec_apply]
    unfold held
    isplitl [H3 H4 H8 H9 H10]
    · isplitl [H3]; · iexact H3
      isplitl [H4]; · iexact H4
      isplitl [H8]; · iexact H8
      isplitl [H9]; · iexact H9
      iexact H10
    iintro %B %hB ⟨H3, H4, H8, H9, H10⟩
    rw [wp_ret]; imodintro
    iapply Hk $$ %B
    · ipureintro; exact hB
    · isplitl [H3]; · iexact H3
      isplitl [H4]; · iexact H4
      isplitl [H8]; · iexact H8
      isplitl [H9]; · iexact H9
      iexact H10

end Label

end Ins

end Cert.Proof.Sb
-- ==== Proof.Sb.Body.lean ====
/- One grid point of the stick-breaking backward kernel: what its body leaves in the output blocks. -/
module

public import proofs.«01_k».proof.Proof.Sb.While

@[expose] public section

set_option maxRecDepth 16384

noncomputable section

namespace Cert.Proof.Sb

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Held

variable {F : FTy → Type} [FloatOps F] [Named F]

local notation "𝕄" => MT nD τ sig Unit (Elt F) ℕ (UR sig nD τ) ℕ

/-- The first query block is where the accumulators are cleared. -/
theorem first_word : ∀ a : Fin 16, (Scalar.cmpi .ne (Scalar.extui (Scalar.cmpi .eq (BitVec.ofNat 32 a.val) 0#32)) 0#32 = (1#1 : BitVec 1)) ↔ a.val = 0 := by
  decide +kernel

namespace Ins
variable (I : Ins F) (c : Dev nD)
variable (arg2 : Memref sig .tc .vmem S256x256 .bf16) (harg2 : arg2.IsWhole)
  (arg3 : Memref sig .tc .vmem S4096x256 .bf16) (harg3 : arg3.IsWhole) (arg4 : Memref sig .tc .vmem S4096x256 .bf16) (harg4 : arg4.IsWhole)
  (arg5 : Memref sig .tc .vmem S256x256 .bf16) (harg5 : arg5.IsWhole) (arg6 : Memref sig .tc .vmem S256x256 .f32) (harg6 : arg6.IsWhole)
  (arg7 : Memref sig .tc .vmem S4096x256 .f32) (harg7 : arg7.IsWhole) (arg8 : Memref sig .tc .vmem S4096x256 .f32) (harg8 : arg8.IsWhole)
  (arg9 : Memref sig .tc .vmem S2x16x256x256 .f32) (harg9 : arg9.IsWhole) (arg10 : Memref sig .tc .vmem S2x16x256x256 .f32) (harg10 : arg10.IsWhole)

/-! ## The counted loop -/

/-- What the counted loop holds before trip `t`. -/
def inv (X : Vec F S4096x256 .f32) (A Z : S2x16x256x256.Idx → F .f32) (t : ℕ)
    (acc : FVec F S256x1 .f32 × FVec F S256x1 .f32 × FVec F S256x128 .f32 × FVec F S256x128 .f32) : sProp 𝕄 :=
  iprop(⌜acc = I.L t⌝ ∗ owns (c : Thread nD τ) arg3 fullShare I.k ∗ owns (c : Thread nD τ) arg7 fullShare (I.Dk X t)
    ∗ owns (c : Thread nD τ) arg9 fullShare A ∗ owns (c : Thread nD τ) arg10 fullShare Z)

set_option maxHeartbeats 2000000 in
/-- A trip of the counted loop keeps the invariant. -/
theorem step (X : Vec F S4096x256 .f32) (A Z : S2x16x256x256.Idx → F .f32) (hk : I.kept I.n A Z) (hw : k0_chk2 I.i (BitVec.ofNat 32 I.n))
    (t : Fin (k0_t1_loop I.i (BitVec.ofNat 32 I.n)).trips) (acc) :
    I.inv c arg3 arg7 arg9 arg10 X A Z t.val acc ⊢ wp frame (wpE (defs₀ (F := F)) 𝒱₀ (c : Thread nD τ) none) Set.univ
      (k0_t1_body I.i arg2 harg2 arg3 harg3 arg4 harg4 arg5 harg5 arg6 harg6 arg7 harg7 arg8 harg8 arg9 harg9 arg10 harg10
        (BitVec.ofNat 32 (I.i 1).val) I.q0 I.q1 (BitVec.ofNat 32 I.n) hw
        (Scalar.subi (Scalar.addi (BitVec.ofNat 32 (I.i 1).val) 1#32) (BitVec.ofNat 32 I.n)) t acc)
      (I.inv c arg3 arg7 arg9 arg10 X A Z (t.val + 1)) := by
  have hn : I.n ≤ (I.i 1).val + 1 := I.n_le
  have ht := k_lt I.i I.n hn t
  have hj := j_lt I.i I.n hn t
  have eo5 := off5_eq I.i I.n hn t
  have eo6 := off6_eq I.i I.n hn t
  have eo7 := off7_eq I.i I.n hn t
  have eo8 := off8_eq I.i I.n hn t
  have b1 : ((I.i 1).val + 1 - I.n + t.val) * 256 + 256 ≤ 4096 := by omega
  obtain ⟨r1, r2, r3, r4⟩ := hk (I.back t.val) (by unfold back; omega)
  have hb : I.a - I.back t.val = (I.i 1).val + 1 - I.n + t.val := by
    have : I.a = (I.i 1).val := rfl
    unfold back; omega
  rw [hb] at r1 r2 r3 r4
  unfold inv
  iintro ⟨%hacc, H3, H7, H9, H10⟩
  subst hacc
  unfold k0_t1_body
  simp only [k0_part1_eq_skeleton, k0_part2_eq_skeleton]
  unfold k0_part1_skel k0_part2_skel
  simp only [Prog.lift, Prog.bind_op, Prog.bind_ret, Prog.pure_eq_ret]
  iapply (wp_ld 𝒱₀ (c : Thread nD τ) none Set.univ (m := arg3)) $$ H3; iintro H3
  iapply (wp_ld 𝒱₀ (c : Thread nD τ) none Set.univ (m := arg3)) $$ H3; iintro H3
  iapply (wp_ld 𝒱₀ (c : Thread nD τ) none Set.univ (m := arg9)) $$ H9; iintro H9
  iapply (wp_ld 𝒱₀ (c : Thread nD τ) none Set.univ (m := arg9)) $$ H9; iintro H9
  iapply (wp_ld 𝒱₀ (c : Thread nD τ) none Set.univ (m := arg10)) $$ H10; iintro H10
  iapply (wp_ld 𝒱₀ (c : Thread nD τ) none Set.univ (m := arg10)) $$ H10; iintro H10
  iapply (wp_ld 𝒱₀ (c : Thread nD τ) none Set.univ (m := arg7)) $$ H7; iintro H7
  iapply (wp_ld 𝒱₀ (c : Thread nD τ) none Set.univ (m := arg7)) $$ H7; iintro H7
  iapply (wp_st 𝒱₀ (c : Thread nD τ) none Set.univ (m := arg7)) $$ H7; iintro H7
  iapply (wp_ld 𝒱₀ (c : Thread nD τ) none Set.univ (m := arg7)) $$ H7; iintro H7
  iapply (wp_ld 𝒱₀ (c : Thread nD τ) none Set.univ (m := arg7)) $$ H7; iintro H7
  iapply (wp_st 𝒱₀ (c : Thread nD τ) none Set.univ (m := arg7)) $$ H7; iintro H7
  rw [I.mask_eq t, ld_blk (m := 4096) I.k _ _ _ 0 eo5 b1 (by decide), ld_blk (m := 4096) I.k _ _ _ 1 eo6 b1 (by decide),
    ld_slot A _ _ 0 _ eo7 (by decide) hj, ld_slot A _ _ 1 _ eo8 (by decide) hj, ld_slot Z _ _ 0 _ eo7 (by decide) hj, ld_slot Z _ _ 1 _ eo8 (by decide) hj,
    r1, r2, r3, r4, ld_blk (m := 4096) (I.Dk X t.val) _ _ _ 0 eo5 b1 (by decide), st_blk (m := 4096) _ _ _ _ 0 eo5,
    ld_blk (m := 4096) _ _ _ _ 1 eo6 b1 (by decide), st_blk (m := 4096) _ _ _ _ 1 eo6]
  rw [wp_ret]; imodintro
  isplitr
  · ipureintro; rfl
  isplitl [H3]; · iexact H3
  isplitl [H7]; · iexact H7
  isplitl [H9]; · iexact H9
  iexact H10

/-! ## The whole body -/

/-- What the body holds: the input blocks, the output blocks at given contents and the scratch arrays at some. -/
def point (D : Vec F S256x256 .f32) (X Y : Vec F S4096x256 .f32) : sProp 𝕄 :=
  iprop(owns (c : Thread nD τ) arg2 fullShare I.q ∗ owns (c : Thread nD τ) arg3 fullShare I.k ∗ owns (c : Thread nD τ) arg4 fullShare I.v
    ∗ owns (c : Thread nD τ) arg5 fullShare I.o ∗ owns (c : Thread nD τ) arg6 fullShare D ∗ owns (c : Thread nD τ) arg7 fullShare X
    ∗ owns (c : Thread nD τ) arg8 fullShare Y ∗ (∃ A, owns (c : Thread nD τ) arg9 fullShare A) ∗ ∃ Z, owns (c : Thread nD τ) arg10 fullShare Z)

/-- The two stores of `dq` cover its block. -/
theorem dq_of (D : Vec F S256x256 .f32) :
    setBlk (m := 256) 0 1 (I.L I.n).2.2.2 (setBlk (m := 256) 0 0 (I.L I.n).2.2.1 D) = I.dq := by
  funext y
  have h0 : (y 0).val < 256 := (y 0).isLt
  have h1 : (y 1).val < 256 := (y 1).isLt
  unfold dq setBlk
  split
  · rfl
  · split
    · rfl
    · omega

set_option maxHeartbeats 2000000 in
/-- The body leaves `dq`, `dk` and `dv` of the point in the output blocks. -/
theorem sound (D : Vec F S256x256 .f32) (X Y : Vec F S4096x256 .f32) (K : PUnit → sProp 𝕄) :
    iprop(I.point c arg2 arg3 arg4 arg5 arg6 arg7 arg8 arg9 arg10 D X Y
        ∗ (I.point c arg2 arg3 arg4 arg5 arg6 arg7 arg8 arg9 arg10 I.dq (I.dk X) (I.dv Y) -∗ K ⟨⟩))
      ⊢ wp frame (wpE (defs₀ (F := F)) 𝒱₀ (c : Thread nD τ) none) Set.univ
        (cc0_sb_bwd I.i arg2 harg2 arg3 harg3 arg4 harg4 arg5 harg5 arg6 harg6 arg7 harg7 arg8 harg8 arg9 harg9 arg10 harg10) K := by
  have hn : I.n ≤ (I.i 1).val + 1 := I.n_le
  obtain ⟨X', hX'⟩ : ∃ X', X' = I.start k0_pay27 X := ⟨_, rfl⟩
  obtain ⟨Y', hY'⟩ : ∃ Y', Y' = I.start k0_pay28 Y := ⟨_, rfl⟩
  rw [show I.dk X = I.Dk X' I.n from by rw [hX']; rfl, show I.dv Y = I.Dv Y' I.n from by rw [hY']; rfl]
  simp only [cc0_sb_bwd_eq_skeleton]
  unfold cc0_sb_bwd_skel
  simp only [k0_part5_eq_skeleton]
  unfold k0_part5_skel
  by_cases h0 : I.a = 0
  on_goal 1 =>
    have hc := (first_word (I.i 1)).mpr h0
    have eX : X' = k0_pay27 := hX'.trans (if_pos h0)
    have eY : Y' = k0_pay28 := hY'.trans (if_pos h0)
    simp only [hc, ↓reduceDIte, Prog.lift, Prog.bind_op, Prog.bind_ret, Prog.pure_eq_ret]
    unfold point
    iintro ⟨⟨H2, H3, H4, H5, H6, H7, H8, ⟨%A, H9⟩, %Z, H10⟩, Hk⟩
    iapply (wp_ld 𝒱₀ (c : Thread nD τ) none Set.univ (m := arg7)) $$ H7; iintro H7
    iapply (wp_st 𝒱₀ (c : Thread nD τ) none Set.univ (m := arg7)) $$ H7; iintro H7
    iapply (wp_ld 𝒱₀ (c : Thread nD τ) none Set.univ (m := arg8)) $$ H8; iintro H8
    iapply (wp_st 𝒱₀ (c : Thread nD τ) none Set.univ (m := arg8)) $$ H8; iintro H8
    rw [st_whole, st_whole, ← eX, ← eY]
  on_goal 2 =>
    have hc := (first_word (I.i 1)).not.mpr h0
    have eX : X = X' := (hX'.trans (if_neg h0)).symm
    have eY : Y = Y' := (hY'.trans (if_neg h0)).symm
    simp only [hc, ↓reduceDIte, Prog.lift, Prog.bind_op, Prog.bind_ret, Prog.pure_eq_ret]
    unfold point
    iintro ⟨⟨H2, H3, H4, H5, H6, H7, H8, ⟨%A, H9⟩, %Z, H10⟩, Hk⟩
    rw [eX, eY]
  all_goals
    iapply (wp_ld 𝒱₀ (c : Thread nD τ) none Set.univ (m := arg2)) $$ H2; iintro H2
    iapply (wp_ld 𝒱₀ (c : Thread nD τ) none Set.univ (m := arg2)) $$ H2; iintro H2
    iapply (wp_ld 𝒱₀ (c : Thread nD τ) none Set.univ (m := arg5)) $$ H5; iintro H5
    iapply (wp_ld 𝒱₀ (c : Thread nD τ) none Set.univ (m := arg5)) $$ H5; iintro H5
    rw [ld_blk (m := 256) I.q _ _ 0 0 rfl (by decide) (by decide), ld_blk (m := 256) I.q _ _ 0 1 rfl (by decide) (by decide),
      ld_blk (m := 256) I.o _ _ 0 0 rfl (by decide) (by decide), ld_blk (m := 256) I.o _ _ 0 1 rfl (by decide) (by decide)]
    iapply (wp_call_spec 𝒱₀ (c : Thread nD τ) none Set.univ (I.spec c Y' arg3 arg4 arg9 arg10 arg8 0 A Z) I.n
      (fun u hu => nomatch hu) (I.spec_le c Y' arg3 harg3 arg4 harg4 arg9 harg9 arg10 harg10 arg8 harg8 Set.univ I.n 0 (Nat.zero_add _) A Z (I.kept_zero A Z)))
    rw [spec_apply]
    unfold held
    isplitl [H3 H4 H8 H9 H10]
    · isplitl [H3]; · iexact H3
      isplitl [H4]; · iexact H4
      isplitl [H8]; · iexact H8
      isplitl [H9]; · iexact H9
      iexact H10
    iintro %B %hB ⟨H3, H4, H8, H9, H10⟩
    iapply (wp_assume 𝒱₀ (c : Thread nD τ) none Set.univ (chk2 I.i I.n hn))
    have e2 : ∀ (ok) (init : FVec F S256x1 .f32 × FVec F S256x1 .f32 × FVec F S256x128 .f32 × FVec F S256x128 .f32)
        (body : _ → _ → Prog (TpuEff nD τ sig (Elt F) (Λ₀ F) .tc) _), Scf.Loop.for (k0_t2_loop I.i (BitVec.ofNat 32 I.n)) ok init body = .ret init :=
      fun ok init body => Scf.for_eq_ret _ _ _ ok init body (trips2 I.i I.n hn)
    simp only [e2, Prog.bind_ret]
    rw [wp_bind]
    iapply (Scf.wp_for_bind frame (wpE (defs₀ (F := F)) 𝒱₀ (c : Thread nD τ) none) Set.univ
      (k0_t1_loop I.i (BitVec.ofNat 32 I.n)).lb (k0_t1_loop I.i (BitVec.ofNat 32 I.n)).ub (k0_t1_loop I.i (BitVec.ofNat 32 I.n)).st _ _ _
      (I.inv c arg3 arg7 arg9 arg10 X' B.1 B.2)
      (fun t acc => I.step c arg2 harg2 arg3 harg3 arg4 harg4 arg5 harg5 arg6 harg6 arg7 harg7 arg8 harg8 arg9 harg9 arg10 harg10 X' B.1 B.2 hB
        (chk2 I.i I.n hn) t acc)) $$ [H3 H7 H9 H10]
    · unfold inv
      isplitr
      · ipureintro; rfl
      isplitl [H3]; · iexact H3
      isplitl [H7]; · iexact H7
      isplitl [H9]; · iexact H9
      iexact H10
    unfold inv
    iintro %acc ⟨%hacc, H3, H7, H9, H10⟩
    subst hacc
    rw [show Scf.trips (k0_t1_loop I.i (BitVec.ofNat 32 I.n)).lb (k0_t1_loop I.i (BitVec.ofNat 32 I.n)).ub (k0_t1_loop I.i (BitVec.ofNat 32 I.n)).st = I.n from
      trips1 I.i I.n hn, wp_ret]
    imodintro
    iapply (wp_ld 𝒱₀ (c : Thread nD τ) none Set.univ (m := arg6)) $$ H6; iintro H6
    iapply (wp_st 𝒱₀ (c : Thread nD τ) none Set.univ (m := arg6)) $$ H6; iintro H6
    iapply (wp_ld 𝒱₀ (c : Thread nD τ) none Set.univ (m := arg6)) $$ H6; iintro H6
    iapply (wp_st 𝒱₀ (c : Thread nD τ) none Set.univ (m := arg6)) $$ H6; iintro H6
    rw [st_blk (m := 256) _ _ _ 0 0 rfl, st_blk (m := 256) _ _ _ 0 1 rfl, I.dq_of D, wp_ret]
    imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists B.1; iexact H9
    · iexists B.2; iexact H10

end Ins

end Cert.Proof.Sb
-- ==== Proof.Sb.Run.lean ====
/- The run of the stick-breaking backward kernel: the pipeline's data, the body obligation at every grid point, the launch,
   and what its argument arrays end at. -/
module

public import proofs.«01_k».proof.Proof.Sb.Body
public import proofs.«01_k».proof.Proof.Gen.SbBwdIdeal.Points
public import Idealize.ShloMosaic.Lib.Pipeline.FrameBody
public import Idealize.ShloMosaic.Lib.Pipeline.TableIdle
public import Idealize.ShloMosaic.Lib.Claim

@[expose] public section

set_option maxRecDepth 16384

noncomputable section

namespace Cert.Proof.Sb

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Held

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays when the kernel begins: as launched. -/
abbrev V (c : Dev nD) (b : Ref sig .tc) : Buf (Elt F) ((c : Thread nD τ).loc b) := m ((c : Thread nD τ).loc b)

/-- The program is the kernel's call alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array at a point. -/
def inp (c : Dev nD) (w : Fin (cfg0 (F := F)).W) (t : Fin (cfg0 (F := F)).N) :
    ((cfg0.win w).xblock (cfg0.grid.coords t)).Idx → Elt F ((cfg0 (F := F)).win w).elt :=
  ((cfg0.win w).blk t).view.read (Elt F) (V m c (Pipeline.arrRef spec0 w))

/-- What the body reads at a point. -/
def ins (c : Dev nD) (t : Fin (cfg0 (F := F)).N) : Ins F := ⟨grid0.coords t, inp m c 0 t, inp m c 1 t, inp m c 2 t, inp m c 3 t⟩

/-- `dk`'s block after point `n`; -/
def accK (c : Dev nD) : (n : ℕ) → n < (cfg0 (F := F)).N → Vec F S4096x256 .f32
  | 0, h => (ins m c ⟨0, h⟩).dk k0_pay27
  | n + 1, h => (ins m c ⟨n + 1, h⟩).dk (accK c n (Nat.lt_of_succ_lt h))
/-- `dv`'s. -/
def accV (c : Dev nD) : (n : ℕ) → n < (cfg0 (F := F)).N → Vec F S4096x256 .f32
  | 0, h => (ins m c ⟨0, h⟩).dv k0_pay28
  | n + 1, h => (ins m c ⟨n + 1, h⟩).dv (accV c n (Nat.lt_of_succ_lt h))

/-- The pipeline's data: after each point the input blocks as they were, the outputs at the point's values. -/
def dats (_ : Fin 1) (c : Dev nD) : Dat τ (Elt F) Unit ℕ (UR sig nD τ) ℕ (cfg0 (F := F)) c where
  A w := V m c (Pipeline.arrRef spec0 w)
  after w t := match w with
    | ⟨0, _⟩ => inp m c 0 t
    | ⟨1, _⟩ => inp m c 1 t
    | ⟨2, _⟩ => inp m c 2 t
    | ⟨3, _⟩ => inp m c 3 t
    | ⟨4, _⟩ => (ins m c t).dq
    | ⟨5, _⟩ => accK m c t.val t.isLt
    | ⟨6, _⟩ => accV m c t.val t.isLt
  Φ _ := Pipeline.ΦA spec0 c
  q _ := fullShare
  owed _ := 0

theorem A_eq (c : Dev nD) (w : Fin (cfg0 (F := F)).W) : (dats m 0 c).A w = V m c (Pipeline.arrRef spec0 w) := by dsimp only [dats]

section After
variable (c : Dev nD) (t : Fin (cfg0 (F := F)).N)
theorem after_0 : (dats m 0 c).after 0 t = inp m c 0 t := rfl
theorem after_1 : (dats m 0 c).after 1 t = inp m c 1 t := rfl
theorem after_2 : (dats m 0 c).after 2 t = inp m c 2 t := rfl
theorem after_3 : (dats m 0 c).after 3 t = inp m c 3 t := rfl
theorem after_4 : (dats m 0 c).after 4 t = (ins m c t).dq := rfl
theorem after_5 : (dats m 0 c).after 5 t = accK m c t.val t.isLt := rfl
theorem after_6 : (dats m 0 c).after 6 t = accV m c t.val t.isLt := rfl
end After

theorem before_0 (c : Dev nD) (t : Fin (cfg0 (F := F)).N) (d) : (dats m 0 c).before 0 t d = inp m c 0 t :=
  ((dats m 0 c).before_in_eq_fetched 0 rfl (fun _ => rfl) (fun _ _ _ => rfl) (fun t => by rw [after_0]; unfold Dat.blockOf inp; rw [A_eq]; try rfl) t d).trans
    (by unfold Dat.fetched Dat.blockOf inp; rw [A_eq]; try rfl)
theorem before_1 (c : Dev nD) (t : Fin (cfg0 (F := F)).N) (d) : (dats m 0 c).before 1 t d = inp m c 1 t :=
  ((dats m 0 c).before_in_eq_fetched 1 rfl (fun _ => rfl) (fun _ _ _ => rfl) (fun t => by rw [after_1]; unfold Dat.blockOf inp; rw [A_eq]; try rfl) t d).trans
    (by unfold Dat.fetched Dat.blockOf inp; rw [A_eq]; try rfl)
theorem before_2 (c : Dev nD) (t : Fin (cfg0 (F := F)).N) (d) : (dats m 0 c).before 2 t d = inp m c 2 t :=
  ((dats m 0 c).before_in_eq_fetched 2 rfl (fun _ => rfl) (fun _ _ _ => rfl) (fun t => by rw [after_2]; unfold Dat.blockOf inp; rw [A_eq]; try rfl) t d).trans
    (by unfold Dat.fetched Dat.blockOf inp; rw [A_eq]; try rfl)
theorem before_3 (c : Dev nD) (t : Fin (cfg0 (F := F)).N) (d) : (dats m 0 c).before 3 t d = inp m c 3 t :=
  ((dats m 0 c).before_in_eq_fetched 3 rfl (fun _ => rfl) (fun _ _ _ => rfl) (fun t => by rw [after_3]; unfold Dat.blockOf inp; rw [A_eq]; try rfl) t d).trans
    (by unfold Dat.fetched Dat.blockOf inp; rw [A_eq]; try rfl)

/-! ## The accumulating outputs -/

/-- A grid point's query block. -/
theorem coords_one : ∀ t : Fin grid0.N, (grid0.coords t 1).val = t.val % 16 := by decide +kernel
theorem coords_zero : ∀ t : Fin grid0.N, (grid0.coords t 0).val = t.val / 16 := by decide +kernel

/-- Between a head pair's points the accumulators' buffers are not written back. -/
theorem fresh_5 (t : Fin (cfg0 (F := F)).N) : (cfg0 (F := F)).fresh 5 t.val = decide (t.val % 16 = 0) := by
  refine Pipeline.Cfg.fresh_tab cfg0 5 (fun n => decide (n % 16 = 0)) rfl (fun t => ?_) t.val (Nat.le_of_lt t.isLt)
  have h := flush0_5 t
  rw [Bool.eq_iff_iff]
  simp only [decide_eq_true_eq, Bool.or_eq_true, h]
  constructor
  · intro h'; exact Or.inl (by omega)
  · rintro (h' | h')
    · omega
    · simp at h'
theorem fresh_6 (t : Fin (cfg0 (F := F)).N) : (cfg0 (F := F)).fresh 6 t.val = decide (t.val % 16 = 0) := by
  refine Pipeline.Cfg.fresh_tab cfg0 6 (fun n => decide (n % 16 = 0)) rfl (fun t => ?_) t.val (Nat.le_of_lt t.isLt)
  have h := flush0_6 t
  rw [Bool.eq_iff_iff]
  simp only [decide_eq_true_eq, Bool.or_eq_true, h]
  constructor
  · intro h'; exact Or.inl (by omega)
  · rintro (h' | h')
    · omega
    · simp at h'

/-- The body's step on what the buffer holds gives the next accumulated block. -/
theorem step_5 (c : Dev nD) (t : Fin (cfg0 (F := F)).N) (d) : (ins m c t).dk ((dats m 0 c).before 5 t d) = accK m c t.val t.isLt := by
  have hb := (dats m 0 c).before_out_traj 5 rfl (fun _ _ => rfl) (fun t _ h _ => absurd h (by rw [show (cfg0 (F := F)).idle 5 (cfg0.grid.coords t) = false from rfl]; simp)) t.val t rfl d
  rw [fresh_5] at hb
  have ha : (ins m c t).a = t.val % 16 := coords_one t
  by_cases h0 : t.val % 16 = 0
  · have hs : ∀ X, (ins m c t).start k0_pay27 X = k0_pay27 := fun X => if_pos (ha.trans h0)
    have hd : ∀ X, (ins m c t).dk X = (ins m c t).dk k0_pay27 := fun X => by unfold Ins.dk; rw [hs, hs]
    refine (hd _).trans ?_
    obtain ⟨n, hn⟩ := t
    cases n with
    | zero => rfl
    | succ n => exact (hd _).symm
  · rw [hb, if_neg (by simpa using h0), after_5]
    obtain ⟨n, hn⟩ := t
    cases n with
    | zero => exact absurd rfl h0
    | succ n => rfl
theorem step_6 (c : Dev nD) (t : Fin (cfg0 (F := F)).N) (d) : (ins m c t).dv ((dats m 0 c).before 6 t d) = accV m c t.val t.isLt := by
  have hb := (dats m 0 c).before_out_traj 6 rfl (fun _ _ => rfl) (fun t _ h _ => absurd h (by rw [show (cfg0 (F := F)).idle 6 (cfg0.grid.coords t) = false from rfl]; simp)) t.val t rfl d
  rw [fresh_6] at hb
  have ha : (ins m c t).a = t.val % 16 := coords_one t
  by_cases h0 : t.val % 16 = 0
  · have hs : ∀ X, (ins m c t).start k0_pay28 X = k0_pay28 := fun X => if_pos (ha.trans h0)
    have hd : ∀ X, (ins m c t).dv X = (ins m c t).dv k0_pay28 := fun X => by unfold Ins.dv; rw [hs, hs]
    refine (hd _).trans ?_
    obtain ⟨n, hn⟩ := t
    cases n with
    | zero => rfl
    | succ n => exact (hd _).symm
  · rw [hb, if_neg (by simpa using h0), after_6]
    obtain ⟨n, hn⟩ := t
    cases n with
    | zero => exact absurd rfl h0
    | succ n => rfl

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- An output or input of this kernel is never idle: what the body leaves of it is `after`. -/
theorem leaves (c : Dev nD) (w : Fin (cfg0 (F := F)).W) (t : Fin (cfg0 (F := F)).N) (h : (cfg0 (F := F)).idle w (cfg0.grid.coords t) = false) :
    (dats m 0 c).leavesExact w t = owns (c : Thread nD τ) (((cfg0 (F := F)).win w).stage ((cfg0 (F := F)).slots t w)) fullShare ((dats m 0 c).after w t) := by
  unfold Dat.leavesExact; rw [h]

set_option maxHeartbeats 800000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  rw [leaves m c 0 t rfl, leaves m c 1 t rfl, leaves m c 2 t rfl, leaves m c 3 t rfl, leaves m c 4 t rfl, leaves m c 5 t rfl, leaves m c 6 t rfl,
    after_0, after_1, after_2, after_3, after_4, after_5, after_6]
  unfold Pipeline.ΦA
  rw [scopedRest0_eq]
  iintro ⟨⟨⟨⟨%f9, H9⟩, %f10, H10⟩, Hp⟩, Ho, ⟨%d0, H0⟩, ⟨%d1, H1⟩, ⟨%d2, H2⟩, ⟨%d3, H3⟩, ⟨%d4, H4⟩, ⟨%d5, H5⟩, %d6, H6⟩
  iapply ((ins m c t).sound c _ _ _ _ _ _ _ _ _ _ _ _ _ _ _ _ _ _ ((dats m 0 c).before 4 t d4) ((dats m 0 c).before 5 t d5) ((dats m 0 c).before 6 t d6))
  rw [step_5, step_6]
  unfold Ins.point
  isplitl [H0 H1 H2 H3 H4 H5 H6 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]
    · iexists f9; rw [owns_whole]; iexact H9
    · iexists f10; rw [owns_whole]; iexact H10
  iintro ⟨H0, H1, H2, H3, H4, H5, H6, ⟨%g9, H9⟩, %g10, H10⟩
  isplitl [H9 H10 Hp]
  · isplitl [H9 H10]
    · isplitl [H9]
      · iexists g9; rw [← owns_whole]; iexact H9
      · iexists g10; rw [← owns_whole]; iexact H10
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

/-- The launch. -/
abbrev start₀ : MemSt nD τ sig (Elt F) := ⟨m, fun _ => 0, ρ⟩

set_option backward.isDefEq.respectTransparency.types false in
/-- The kernel runs, from any memory: every array of the pipeline ends at what its data say, every semaphore at zero. -/
theorem run_main : θ_run defs (onTc (τ := τ) (main (F := F))) (start₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The argument arrays end as launched, and every semaphore at zero. -/
theorem run_args : θ_run defs (onTc (τ := τ) (main (F := F))) (start₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.Proof.Sb
-- ==== Proof.Sb.Final.lean ====
/- The arrays the stick-breaking backward kernel leaves, over real arguments: the three gradients. -/
module

public import proofs.«01_k».proof.Proof.Sb.Point
public import proofs.«01_k».proof.Proof.Sb.Run
public import Idealize.ShloMosaic.Lib.Pipeline.ValueKit

@[expose] public section

set_option maxRecDepth 16384

noncomputable section

namespace Cert.Proof.Sb

open Cert.SbBwdIdeal Cert.SbBwdIdeal.Gen
open Idealize.ShloMosaic Idealize.ShloMosaic.TcCoe Finset

variable (m : (ℓ : Loc nD τ sig) → Buf (Elt Ideal) ℓ) (c : Dev nD)

/-- The arguments are the real arrays of `D`. -/
structure Args (D : Data) : Prop where
  q : m ((c : Thread nD τ).loc main_arg0) = up D.q
  k : m ((c : Thread nD τ).loc main_arg1) = up D.k
  v : m ((c : Thread nD τ).loc main_arg2) = up D.v
  o : m ((c : Thread nD τ).loc main_arg3) = up D.o

/-- Where each window's block lies. -/
theorem idx : ∀ t : Fin (cfg0 (F := Ideal)).N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ win0_5.index t = ![0, t.val / 16] ∧ win0_6.index t = ![0, t.val / 16] :=
  (by decide +kernel : ∀ t : Fin grid0.N, _)

variable {m c} {D : Data} (H : Args m c D)
include H

theorem reads (t : Fin (cfg0 (F := Ideal)).N) : Reads D (t.val / 16) (ins m c t) := by
  have ha : (ins m c t).a = t.val % 16 := coords_one t
  refine ⟨?_, ?_, ?_, ?_⟩
  · funext y
    show inp m c 0 t y = _
    blk_simp [inp, V]
    rw [H.q, ha]
    unfold up
    blk_simp [idx t]
  · funext y
    show inp m c 1 t y = _
    blk_simp [inp, V]
    rw [H.k]
    unfold up
    blk_simp [idx t]
  · funext y
    show inp m c 2 t y = _
    blk_simp [inp, V]
    rw [H.v]
    unfold up
    blk_simp [idx t]
  · funext y
    show inp m c 3 t y = _
    blk_simp [inp, V]
    rw [H.o, ha]
    unfold up
    blk_simp [idx t]

theorem accV_eq : ∀ (n : ℕ) (h : n < (cfg0 (F := Ideal)).N),
    accV m c n h = up fun r d => ∑ t ∈ range ((n % 16 + 1) * 256), D.A ((n / 16 * 256 + d) / 128) t r * D.o t (n / 16 * 256 + d)
  | 0, h => by
    have ha : (ins m c ⟨0, h⟩).a = 0 := coords_one ⟨0, h⟩
    have := (reads H ⟨0, h⟩).dv (k0_pay28 (F := Ideal)) fun hn => absurd ha hn
    rw [ha] at this
    exact this
  | n + 1, h => by
    have ha : (ins m c ⟨n + 1, h⟩).a = (n + 1) % 16 := coords_one ⟨n + 1, h⟩
    have := (reads H ⟨n + 1, h⟩).dv (accV m c n (Nat.lt_of_succ_lt h)) fun hn => by
      rw [accV_eq n, ha, show (n + 1) % 16 = n % 16 + 1 by omega, show (⟨n + 1, h⟩ : Fin (cfg0 (F := Ideal)).N).val / 16 = n / 16 from by show (n + 1) / 16 = _; omega]
    rw [ha] at this
    exact this

theorem accK_eq : ∀ (n : ℕ) (h : n < (cfg0 (F := Ideal)).N),
    accK m c n h = up fun r d => ∑ t ∈ range ((n % 16 + 1) * 256), D.dz ((n / 16 * 256 + d) / 128) t r * D.q t (n / 16 * 256 + d)
  | 0, h => by
    have ha : (ins m c ⟨0, h⟩).a = 0 := coords_one ⟨0, h⟩
    have := (reads H ⟨0, h⟩).dk (k0_pay27 (F := Ideal)) fun hn => absurd ha hn
    rw [ha] at this
    exact this
  | n + 1, h => by
    have ha : (ins m c ⟨n + 1, h⟩).a = (n + 1) % 16 := coords_one ⟨n + 1, h⟩
    have := (reads H ⟨n + 1, h⟩).dk (accK m c n (Nat.lt_of_succ_lt h)) fun hn => by
      rw [accK_eq n, ha, show (n + 1) % 16 = n % 16 + 1 by omega, show (⟨n + 1, h⟩ : Fin (cfg0 (F := Ideal)).N).val / 16 = n / 16 from by show (n + 1) / 16 = _; omega]
    rw [ha] at this
    exact this

/-- `dq`; -/
theorem final_dq : (dats m 0 c).arrAt 4 (cfg0 (F := Ideal)).N = (up D.dq : S4096x1024.Idx → EReal) := by
  refine (dats m 0 c).arrAt_eq_of_covers 4 _ (by decide +kernel) fun t hf y => ?_
  blk_simp
  rw [after_4, (reads H t).dq, show (ins m c t).a = t.val % 16 from coords_one t]
  unfold up
  blk_simp [idx t]

/-- `dk`; -/
theorem final_dk : (dats m 0 c).arrAt 5 (cfg0 (F := Ideal)).N = (up D.dk : S4096x1024.Idx → EReal) := by
  refine (dats m 0 c).arrAt_eq_of_covers 5 _ (by decide +kernel) fun t hf y => ?_
  have h15 : t.val % 16 = 15 := (flush0_5 t).mp hf
  blk_simp
  rw [after_5, accK_eq H, h15]
  unfold up Data.dk
  blk_simp [idx t]

/-- `dv`. -/
theorem final_dv : (dats m 0 c).arrAt 6 (cfg0 (F := Ideal)).N = (up D.dv : S4096x1024.Idx → EReal) := by
  refine (dats m 0 c).arrAt_eq_of_covers 6 _ (by decide +kernel) fun t hf y => ?_
  have h15 : t.val % 16 = 15 := (flush0_6 t).mp hf
  blk_simp
  rw [after_6, accV_eq H, h15]
  unfold up Data.dv
  blk_simp [idx t]

end Cert.Proof.Sb
-- ==== Proof.Sb.Ref.lean ====
/- The stick-breaking reference over real arguments: its gradients are the real ones. -/
module

public import proofs.«01_k».proof.Proof.Sb.Pay
public import proofs.«01_k».proof.Proof.Gen.SbRefIdeal.Run
public import proofs.«01_k».proof.Proof.Gen.SbRefIdeal.Read

@[expose] public section

set_option maxRecDepth 16384

noncomputable section

namespace Cert.Proof.Sb.Ref

open Cert.SbRefIdeal Cert.SbRefIdeal.Value Cert.SbRefIdeal.Read
open Idealize.ShloMosaic Finset

/-- A real array of three axes. -/
def up3 {a b c : ℕ} (f : ℕ → ℕ → ℕ → ℝ) : (⟨3, ![a, b, c]⟩ : Shape).Idx → EReal := fun y => ((f (y 0).val (y 1).val (y 2).val : ℝ) : EReal)

theorem up3_congr {a b c : ℕ} {f g : ℕ → ℕ → ℕ → ℝ} (h : ∀ i < a, ∀ j < b, ∀ k < c, f i j k = g i j k) :
    (up3 f : (⟨3, ![a, b, c]⟩ : Shape).Idx → EReal) = up3 g :=
  funext fun y => congrArg _ (h _ (y 0).isLt _ (y 1).isLt _ (y 2).isLt)

theorem up3_ix {a b c : ℕ} (f : ℕ → ℕ → ℕ → ℝ) (i : Fin a) (j : Fin b) (k : Fin c) : (up3 f : (⟨3, ![a, b, c]⟩ : Shape).Idx → EReal) (ix3 i j k) = ((f i.val j.val k.val : ℝ) : EReal) := rfl

variable (D : Data)

/-! ## Sums over a window of the last axis -/

theorem foldl_add_eq {ι : Type*} (g : ι → EReal) (l : List ι) (v : EReal) : l.foldl (fun r n => r + g n) v = v + (l.map g).sum := by
  induction l generalizing v with
  | nil => simp
  | cons x l ih => rw [List.foldl_cons, ih, List.map_cons, List.sum_cons, add_assoc]

/-- The host's sum over a window of the last axis, of a real array. -/
theorem window {a b n w lo hi : ℕ} (f : ℕ → ℕ → ℕ → ℝ)
    (hw : (⟨3, ![a, b, n]⟩ : Shape).ReduceWindows (![1, 1, w] : Fin 3 → ℕ) ![1, 1, 1] ![0, 0, lo] ![0, 0, hi] ⟨3, ![a, b, n]⟩) (v : EReal) (hv : v = 0) (i : Fin a) (j : Fin b) (k : Fin n) :
    Ideal.hostReduceWindowAdd (s := ⟨3, ![a, b, n]⟩) (t := ⟨3, ![a, b, n]⟩) (![1, 1, w] : Fin 3 → ℕ) ![1, 1, 1] ![0, 0, lo] ![0, 0, hi] hw (up3 f) v (ix3 i j k)
      = ((∑ x : Fin w, (if lo ≤ k.val + x.val ∧ k.val + x.val - lo < n then f i.val j.val (k.val + x.val - lo) else 0) : ℝ) : EReal) := by
  let F : (⟨3, ![1, 1, w]⟩ : Shape).Idx → EReal := fun x => if lo ≤ k.val + (x 2).val ∧ k.val + (x 2).val - lo < n then ((f i.val j.val (k.val + (x 2).val - lo) : ℝ) : EReal) else 0
  unfold Ideal.hostReduceWindowAdd Host.reduceWindow
  dsimp only
  refine (foldl_add_eq _ _ _).trans ?_
  rw [hv, zero_add]
  refine (Fin.sum_univ_def _).symm.trans ((sum_congr rfl fun p _ => (?_ : _ = F ((⟨3, ![1, 1, w]⟩ : Shape).rowMajor.symm p))).trans ((Equiv.sum_comp _ F).trans ?_))
  · have h0 : ((⟨3, ![1, 1, w]⟩ : Shape).rowMajor.symm p 0).val = 0 := Nat.lt_one_iff.mp ((⟨3, ![1, 1, w]⟩ : Shape).rowMajor.symm p 0).isLt
    have h1 : ((⟨3, ![1, 1, w]⟩ : Shape).rowMajor.symm p 1).val = 0 := Nat.lt_one_iff.mp ((⟨3, ![1, 1, w]⟩ : Shape).rowMajor.symm p 1).isLt
    have hi' := i.isLt
    have hj := j.isLt
    have hF : F ((⟨3, ![1, 1, w]⟩ : Shape).rowMajor.symm p) = if lo ≤ k.val + ((⟨3, ![1, 1, w]⟩ : Shape).rowMajor.symm p 2).val ∧ k.val + ((⟨3, ![1, 1, w]⟩ : Shape).rowMajor.symm p 2).val - lo < n then ((f i.val j.val (k.val + ((⟨3, ![1, 1, w]⟩ : Shape).rowMajor.symm p 2).val - lo) : ℝ) : EReal) else 0 := rfl
    rw [hF]
    split
    · next hin =>
      have h2 := hin 2
      change lo ≤ k.val * 1 + ((⟨3, ![1, 1, w]⟩ : Shape).rowMajor.symm p 2).val ∧ k.val * 1 + ((⟨3, ![1, 1, w]⟩ : Shape).rowMajor.symm p 2).val - lo < n at h2
      rw [if_pos ⟨by omega, by omega⟩]
      show ((f (i.val * 1 + ((⟨3, ![1, 1, w]⟩ : Shape).rowMajor.symm p 0).val - 0) (j.val * 1 + ((⟨3, ![1, 1, w]⟩ : Shape).rowMajor.symm p 1).val - 0) (k.val * 1 + ((⟨3, ![1, 1, w]⟩ : Shape).rowMajor.symm p 2).val - lo) : ℝ) : EReal) = _
      rw [h0, h1, Nat.mul_one, Nat.mul_one, Nat.mul_one, Nat.sub_zero, Nat.sub_zero, Nat.add_zero, Nat.add_zero]
    · next hin =>
      rw [if_neg fun hle => hin fun ax => by
        match ax with
        | ⟨0, _⟩ =>
          show 0 ≤ i.val * 1 + ((⟨3, ![1, 1, w]⟩ : Shape).rowMajor.symm p 0).val ∧ i.val * 1 + ((⟨3, ![1, 1, w]⟩ : Shape).rowMajor.symm p 0).val - 0 < a
          omega
        | ⟨1, _⟩ =>
          show 0 ≤ j.val * 1 + ((⟨3, ![1, 1, w]⟩ : Shape).rowMajor.symm p 1).val ∧ j.val * 1 + ((⟨3, ![1, 1, w]⟩ : Shape).rowMajor.symm p 1).val - 0 < b
          omega
        | ⟨2, _⟩ =>
          show lo ≤ k.val * 1 + ((⟨3, ![1, 1, w]⟩ : Shape).rowMajor.symm p 2).val ∧ k.val * 1 + ((⟨3, ![1, 1, w]⟩ : Shape).rowMajor.symm p 2).val - lo < n
          omega]
  · rw [sum_idx3, Fin.sum_univ_one, Fin.sum_univ_one, coe_sum]
    exact sum_congr rfl fun x _ => (ite_coe _ _ _).symm

/-- Over the window that begins at the position: the sum from there on. -/
theorem window_from {n : ℕ} (f : ℕ → ℕ → ℕ → ℝ) (k : Fin n) (i j : ℕ) :
    ∑ x : Fin n, (if 0 ≤ k.val + x.val ∧ k.val + x.val - 0 < n then f i j (k.val + x.val - 0) else 0) = ∑ s ∈ Ico k.val n, f i j s := by
  rw [Fin.sum_univ_eq_sum_range (fun x => if 0 ≤ k.val + x ∧ k.val + x - 0 < n then f i j (k.val + x - 0) else 0) n, sum_Ico_eq_sum_range, ← sum_filter]
  refine sum_congr (Finset.ext fun x => ?_) fun x _ => rfl
  rw [mem_filter, mem_range, mem_range]
  omega

/-- Over the window that ends at the position: the sum up to it. -/
theorem window_to {n m : ℕ} (hm : m + 1 = n) (f : ℕ → ℕ → ℕ → ℝ) (k : Fin n) (i j : ℕ) :
    ∑ x : Fin n, (if m ≤ k.val + x.val ∧ k.val + x.val - m < n then f i j (k.val + x.val - m) else 0) = ∑ s ∈ range (k.val + 1), f i j s := by
  have hk := k.isLt
  rw [Fin.sum_univ_eq_sum_range (fun x => if m ≤ k.val + x ∧ k.val + x - m < n then f i j (k.val + x - m) else 0) n, ← sum_filter]
  refine sum_bij (fun x _ => k.val + x - m) (fun x hx => ?_) (fun x hx y hy e => ?_) (fun y hy => ⟨y + m - k.val, ?_, ?_⟩) fun x _ => rfl
  · have := mem_filter.mp hx
    have := mem_range.mp this.1
    exact mem_range.mpr (by omega)
  · have := mem_filter.mp hx
    have := mem_filter.mp hy
    have e' : k.val + x - m = k.val + y - m := e
    omega
  · have := mem_range.mp hy
    exact mem_filter.mpr ⟨mem_range.mpr (by omega), by omega⟩
  · have := mem_range.mp hy
    show k.val + (y + m - k.val) - m = y
    omega

/-- The host's sum from a position to the end of its row, -/
theorem window_first {a b n hi : ℕ} (f : ℕ → ℕ → ℕ → ℝ)
    (hw : (⟨3, ![a, b, n]⟩ : Shape).ReduceWindows (![1, 1, n] : Fin 3 → ℕ) ![1, 1, 1] ![0, 0, 0] ![0, 0, hi] ⟨3, ![a, b, n]⟩) (v : EReal) (hv : v = 0) (i : Fin a) (j : Fin b) (k : Fin n) :
    Ideal.hostReduceWindowAdd (s := ⟨3, ![a, b, n]⟩) (t := ⟨3, ![a, b, n]⟩) (![1, 1, n] : Fin 3 → ℕ) ![1, 1, 1] ![0, 0, 0] ![0, 0, hi] hw (up3 f) v (ix3 i j k) = ((∑ s ∈ Ico k.val n, f i j s : ℝ) : EReal) :=
  (window f hw v hv i j k).trans (congrArg _ (window_from f k i j))

/-- and from the beginning of its row to a position. -/
theorem window_last {a b n lo : ℕ} (hn : lo + 1 = n) (f : ℕ → ℕ → ℕ → ℝ)
    (hw : (⟨3, ![a, b, n]⟩ : Shape).ReduceWindows (![1, 1, n] : Fin 3 → ℕ) ![1, 1, 1] ![0, 0, lo] ![0, 0, 0] ⟨3, ![a, b, n]⟩) (v : EReal) (hv : v = 0) (i : Fin a) (j : Fin b) (k : Fin n) :
    Ideal.hostReduceWindowAdd (s := ⟨3, ![a, b, n]⟩) (t := ⟨3, ![a, b, n]⟩) (![1, 1, n] : Fin 3 → ℕ) ![1, 1, 1] ![0, 0, lo] ![0, 0, 0] hw (up3 f) v (ix3 i j k) = ((∑ s ∈ range (k.val + 1), f i j s : ℝ) : EReal) :=
  (window f hw v hv i j k).trans (congrArg _ (window_to hn f k i j))

/-! ## Scalars -/

theorem sp (x : ℝ) : max (x : EReal) 0 + Ideal.log1p (Ideal.exp (-FloatOps.absf (F := Ideal) (φ := .f32) (x : EReal))) = ((max x 0 + Real.log (1 + Real.exp (-|x|)) : ℝ) : EReal) := by
  rw [absf_coe, ← EReal.coe_neg, Ideal.exp_coe, Ideal.log1p, log_one_add, ← EReal.coe_zero, coe_max, EReal.coe_add]

/-- The reference's softplus, less its guard for what is no number. -/
theorem guard (x : ℝ) : (if (x : EReal) ≠ (x : EReal) then (x : EReal) else max (x : EReal) 0 + Ideal.log1p (Ideal.exp (-FloatOps.absf (F := Ideal) (φ := .f32) (x : EReal))))
    = ((max x 0 + Real.log (1 + Real.exp (-|x|)) : ℝ) : EReal) := by
  rw [if_neg (fun h => h rfl), sp]

theorem lsig_neg (z : ℝ) : -(max (-z) 0 + Real.log (1 + Real.exp (-|(-z)|))) = lsig z := by
  unfold lsig
  rw [abs_neg, neg_add, ← sub_eq_add_neg, ← min_neg_neg, neg_neg, neg_zero]

theorem lsig_sub (z : ℝ) : -(max z 0 + Real.log (1 + Real.exp (-|z|))) = lsig z - z := by
  unfold lsig
  rcases le_total z 0 with h | h
  · rw [max_eq_right h, min_eq_left h]; ring
  · rw [max_eq_left h, min_eq_right h]; ring

theorem exp_sp (z : ℝ) : Real.exp (z - (max z 0 + Real.log (1 + Real.exp (-|z|)))) = sgm z := by
  unfold sgm
  have hp : 0 < 1 + Real.exp (-|z|) := by positivity
  rw [← sub_sub, Real.exp_sub, Real.exp_log hp]
  rcases le_total z 0 with h | h
  · rw [max_eq_right h, abs_of_nonpos h, neg_neg, sub_zero, Real.exp_neg]
    have := Real.exp_pos z
    field_simp
    ring
  · rw [max_eq_left h, abs_of_nonneg h, sub_self, Real.exp_zero]

theorem sgm_neg (z : ℝ) : sgm (-z) = 1 - sgm z := by
  unfold sgm
  rw [neg_neg, Real.exp_neg]
  have := Real.exp_pos z
  field_simp
  ring

/-! ## The values -/

theorem v5 (x : ℕ → ℕ → ℝ) : val_main_v5 (F := Ideal) (up x) = up3 fun h t d => x t (h * 128 + d) := by
  funext y
  idx_vars y
  pointwise [val_main_v5, val_main_v4, val_main_v0, up, up3]

theorem v10 : val_main_v10 (F := Ideal) (up D.q) (up D.k) = up3 fun h t s => D.z h t s := by
  unfold val_main_v10
  rw [v5, show val_main_v7 (F := Ideal) (up D.k) = _ from v5 D.k]
  funext y
  idx_vars y
  pointwise [up3]
  unfold Data.z
  simp only [coe_sum, EReal.coe_mul]

theorem v17 (t s : Fin 4096) : val_main_v17 (F := Ideal) (ix2 t s) = if s.val < t.val then 1#1 else 0#1 := by
  pointwise [val_main_v17, val_main_v15, val_main_v16, val_main_v14, val_main_v12, val_main_v11, val_main_v13]
  exact word_slt _ _ (by omega) (by omega)

/-- The softplus of the logit, -/
theorem sp0 : val_main_call0_v1_0 (F := Ideal) (up D.q) (up D.k) = up3 fun h t s => max (D.z h t s) 0 + Real.log (1 + Real.exp (-|D.z h t s|)) := by
  funext y
  idx_vars y
  pointwise [val_main_call0_v1_0, val_main_call0_call0_v11, val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_v0, val_main_v18, val_main_call0_call0_cst]
  rw [v10]
  unfold up3
  rw [← EReal.coe_neg, ← EReal.coe_neg, neg_neg]
  exact guard _
/-- and of its opposite. -/
theorem sp3 : val_main_call3_v1_0 (F := Ideal) (up D.q) (up D.k) = up3 fun h t s => max (-D.z h t s) 0 + Real.log (1 + Real.exp (-|(-D.z h t s)|)) := by
  funext y
  idx_vars y
  pointwise [val_main_call3_v1_0, val_main_call3_call0_v11, val_main_call3_call0_v10, val_main_call3_call0_v9, val_main_call3_call0_v8, val_main_call3_call0_v7, val_main_call3_call0_v6, val_main_call3_call0_v5,
    val_main_call3_call0_v4, val_main_call3_call0_v3, val_main_call3_call0_v2, val_main_call3_call0_v1, val_main_call3_call0_v0, val_main_call3_v0, val_main_call3_call0_cst]
  rw [v10]
  unfold up3
  rw [← EReal.coe_neg]
  exact guard _

theorem v20 : val_main_v20_0 (F := Ideal) (up D.q) (up D.k) = up3 fun h t s => D.L h t s := by
  funext y
  idx_vars y
  pointwise [val_main_v20_0, val_main_v20_1, val_main_v19_0, val_main_call1_v2, val_main_call1_v0, val_main_cst]
  rw [v17, sp0]
  refine (select_ite (y2.val < y1.val) _ _).trans (Eq.trans ?_ (ite_coe _ _ _).symm)
  refine if_congr Iff.rfl ?_ Ideal.ofBits_zero_f32
  unfold up3
  rw [← EReal.coe_neg]
  exact congrArg _ (lsig_sub _)

theorem v21 : val_main_v21 (F := Ideal) (up D.q) (up D.k) = up3 fun h t s => ∑ j ∈ Ico s 4096, D.L h t j := by
  funext y
  idx_vars y
  unfold val_main_v21 Host.reduceWindowAdd
  rw [v20, Ideal.hostReduceWindowAdd_def]
  have e (i : S_.Idx) : val_main_call2_v0 (F := Ideal) i = 0 := Ideal.ofBits_zero_f32
  rw [e]
  exact (window_first (fun h t s => D.L h t s) _ _ rfl y0 y1 y2)

theorem coe_ne_inf (x : ℝ) : ¬((x : EReal) = Ideal.ofBits .f32 0x7F800000#32) := by
  have h : Ideal.ofBits .f32 0x7F800000#32 = ⊤ := by simp [Ideal.ofBits, Ideal.ieee]
  rw [h]
  exact EReal.coe_ne_top x

/-- The sigmoid of the logit; -/
theorem sig19 : val_main_v19_1 (F := Ideal) (up D.q) (up D.k) = up3 fun h t s => sgm (D.z h t s) := by
  funext y
  idx_vars y
  pointwise [val_main_v19_1, val_main_call0_call0_v21, val_main_call0_call0_v20, val_main_call0_call0_v19, val_main_call0_call0_v18, val_main_call0_call0_v17, val_main_call0_call0_v16, val_main_call0_call0_v15,
    val_main_call0_call0_v14, val_main_call0_call0_v13, val_main_call0_v0, val_main_v18, val_main_call0_call0_cst_0, val_main_call0_call0_cst_1, val_main_call0_call0_cst_2, val_main_call0_call0_cst_3]
  rw [v10, sp0]
  unfold up3
  rw [← EReal.coe_neg, ← EReal.coe_neg, neg_neg, if_neg (coe_ne_inf _), if_neg (coe_ne_inf _), ← EReal.coe_sub, Ideal.exp_coe]
  exact congrArg _ (exp_sp _)

/-- one minus it. -/
theorem sig23 : val_main_v23_1 (F := Ideal) (up D.q) (up D.k) = up3 fun h t s => 1 - sgm (D.z h t s) := by
  funext y
  idx_vars y
  pointwise [val_main_v23_1, val_main_call3_call0_v21, val_main_call3_call0_v20, val_main_call3_call0_v19, val_main_call3_call0_v18, val_main_call3_call0_v17, val_main_call3_call0_v16, val_main_call3_call0_v15,
    val_main_call3_call0_v14, val_main_call3_call0_v13, val_main_call3_v0, val_main_call3_call0_cst_0, val_main_call3_call0_cst_1, val_main_call3_call0_cst_2, val_main_call3_call0_cst_3]
  rw [v10, sp3]
  unfold up3
  rw [← EReal.coe_neg, if_neg (coe_ne_inf _), if_neg (coe_ne_inf _), ← EReal.coe_sub, Ideal.exp_coe]
  exact congrArg _ ((exp_sp _).trans (sgm_neg _))

theorem suf_sum {n : ℕ} (f : ℕ → ℝ) (a : ℝ) (k : Fin n) (b : ℝ) (h : a = b) : a + (∑ s ∈ Ico k.val n, f s - f k.val) = b + ∑ s ∈ Ico (k.val + 1) n, f s := by
  rw [Finset.sum_eq_sum_Ico_succ_bot k.isLt, h]
  ring

/-- The weights. -/
theorem v26 : val_main_v26 (F := Ideal) (up D.q) (up D.k) = up3 fun h t s => D.A h t s := by
  funext y
  idx_vars y
  pointwise [val_main_v26, val_main_v25_0, val_main_v25_1, val_main_v24, val_main_v23_0, val_main_v22, val_main_call4_v2, val_main_call4_v0, val_main_cst_0]
  rw [v17, v20, v21, sp3]
  unfold up3
  rw [← EReal.coe_neg, ← EReal.coe_sub, ← EReal.coe_add]
  refine (congrArg Ideal.exp (select_ite (y2.val < y1.val) _ _)).trans ?_
  unfold Data.A
  refine Eq.trans ?_ (ite_coe (y2.val < y1.val) _ _).symm
  by_cases h : y2.val < y1.val
  · refine (congrArg Ideal.exp (if_pos h)).trans (Eq.trans ?_ (if_pos h).symm)
    refine (Ideal.exp_coe _).trans (congrArg _ (congrArg Real.exp ?_))
    exact suf_sum _ _ y2 _ (lsig_neg _)
  · refine (congrArg Ideal.exp (if_neg h)).trans (Eq.trans ?_ (if_neg h).symm)
    exact (congrArg Ideal.exp (by simp [Ideal.ofBits, Ideal.ieee] : Ideal.ofBits .f32 0xFF800000#32 = ⊥)).trans rfl

/-- The output's cotangent by heads. -/
theorem v31 : val_main_v31 (F := Ideal) (up D.o) = up3 fun h t d => D.o t (h * 128 + d) := v5 D.o

theorem e_weight (f g : Fin 128 → ℝ) (a : ℝ) : (∑ x, (f x : EReal) * (g x : EReal)) * (a : EReal) = ((a * ∑ x, f x * g x : ℝ) : EReal) := by
  simp only [EReal.coe_mul, coe_sum]
  rw [mul_comm]
theorem e_before (f : ℕ → ℝ) (n : ℕ) : -(f n : EReal) + ((∑ s ∈ range (n + 1), f s : ℝ) : EReal) = ((∑ s ∈ range n, f s : ℝ) : EReal) := by
  rw [sum_range_succ, ← EReal.coe_neg, ← EReal.coe_add]
  congr 1
  ring
theorem e_logit (p a b r : ℝ) : -(-(p : EReal) * (b : EReal)) + - -(-(r : EReal) * (a : EReal)) = ((p * b - a * r : ℝ) : EReal) := by
  simp only [← EReal.coe_neg, ← EReal.coe_mul, ← EReal.coe_add]
  congr 1
  ring

theorem e_col {n : ℕ} (f : ℕ → ℝ) (g : ℕ → ℕ → ℝ) (d : ℕ) : ∑ x : Fin n, (f x : EReal) * (g x (d / 128 * 128 + d % 128) : EReal) = ((∑ s ∈ range n, f s * g s d : ℝ) : EReal) := by
  rw [Nat.div_add_mod', ← Fin.sum_univ_eq_sum_range (fun s => f s * g s d) n, coe_sum]
  exact sum_congr rfl fun x _ => (EReal.coe_mul _ _).symm

/-- The weights times their cotangents. -/
theorem v36 : val_main_v36 (F := Ideal) (up D.q) (up D.k) (up D.v) (up D.o) = up3 fun h t s => D.P h t s := by
  funext y
  idx_vars y
  pointwise [val_main_v36, val_main_v35, val_main_v34, val_main_v25_1, val_main_call5_v0, val_main_call5_cst]
  rw [v17, v26, v31, show val_main_v9 (F := Ideal) (up D.v) = _ from v5 D.v]
  unfold up3
  refine (select_ite (y2.val < y1.val) _ _).trans (Eq.trans (if_congr Iff.rfl ?_ rfl) ((ite_coe (y2.val < y1.val) (D.P y0 y1 y2) 0).symm.trans (congrArg _ ?_)))
  · exact e_weight _ _ _
  · by_cases h : y2.val < y1.val
    · exact if_pos h
    · exact (if_neg h).trans (D.P_of_le _ (Nat.le_of_not_lt h)).symm

/-- Their sums over the keys before. -/
theorem v41 : val_main_v41 (F := Ideal) (up D.q) (up D.k) (up D.v) (up D.o) = up3 fun h t s => if s < t then D.pre h t s else 0 := by
  funext y
  idx_vars y
  have e (i : S_.Idx) : val_main_call7_v0 (F := Ideal) i = 0 := Ideal.ofBits_zero_f32
  have h39 : val_main_v39 (F := Ideal) (up D.q) (up D.k) (up D.v) (up D.o) (ix3 y0 y1 y2) = ((∑ s ∈ range (y2.val + 1), D.P y0 y1 s : ℝ) : EReal) := by
    unfold val_main_v39 Host.reduceWindowAdd
    rw [v36, Ideal.hostReduceWindowAdd_def, e]
    exact window_last rfl (fun h t s => D.P h t s) _ _ rfl y0 y1 y2
  pointwise [val_main_v41, val_main_v40, val_main_v38, val_main_v20_1, val_main_call8_v0, val_main_call8_cst]
  rw [h39, v17, v36]
  refine (select_ite (y2.val < y1.val) _ _).trans (Eq.trans ?_ (ite_coe (y2.val < y1.val) (D.pre y0 y1 y2) 0).symm)
  refine if_congr Iff.rfl ?_ rfl
  exact e_before _ _

/-- The logits' cotangent. -/
theorem v44 : val_main_v44 (F := Ideal) (up D.q) (up D.k) (up D.v) (up D.o) = up3 fun h t s => D.dz h t s := by
  funext y
  idx_vars y
  pointwise [val_main_v44, val_main_v43, val_main_v42, val_main_call9_v1, val_main_call9_v0, val_main_v37, val_main_call6_v1, val_main_call6_v0]
  rw [v41, v36, sig19, sig23]
  refine (e_logit _ _ _ _).trans (congrArg _ ?_)
  by_cases h : y2.val < y1.val
  · refine Eq.trans ?_ (if_pos h).symm
    exact congrArg (fun a => D.P y0 y1 y2 * (1 - sgm (D.z y0 y1 y2)) - sgm (D.z y0 y1 y2) * a) (if_pos h)
  · refine Eq.trans ?_ (if_neg h).symm
    refine (congrArg₂ (fun p a => p * (1 - sgm (D.z y0 y1 y2)) - sgm (D.z y0 y1 y2) * a) (D.P_of_le y0 (Nat.le_of_not_lt h)) (if_neg h)).trans ?_
    simp

/-- The three gradients. -/
theorem v52 : val_main_v52 (F := Ideal) (up D.q) (up D.k) (up D.v) (up D.o) = up D.dq := by
  funext y
  idx_vars y
  pointwise [val_main_v52, val_main_v51, val_main_v46]
  rw [v44, show val_main_v7 (F := Ideal) (up D.k) = _ from v5 D.k]
  exact e_col (fun s => D.dz (y1.val / 128) y0 s) D.k _

theorem v50 : val_main_v50 (F := Ideal) (up D.q) (up D.k) (up D.v) (up D.o) = up D.dk := by
  funext y
  idx_vars y
  pointwise [val_main_v50, val_main_v49, val_main_v45]
  rw [v44, show val_main_v5 (F := Ideal) (up D.q) = _ from v5 D.q]
  exact e_col (fun s => D.dz (y1.val / 128) s y0) D.q _

theorem v48 : val_main_v48 (F := Ideal) (up D.q) (up D.k) (up D.o) = up D.dv := by
  funext y
  idx_vars y
  pointwise [val_main_v48, val_main_v47, val_main_v33, val_main_v32]
  rw [v26, v31]
  exact (sum_congr rfl fun x _ => mul_comm _ _).trans (e_col (fun s => D.A (y1.val / 128) s y0) D.o _)

end Cert.Proof.Sb.Ref
-- ==== Proof.Sb.Frames.lean ====
/- The frames of the stick-breaking backward kernel, as launched and idealized. The loop's label carries a record each program
   declares for itself, so that the two programs are not one: each has its run. -/
module

public import proofs.«01_k».proof.Defs
public import proofs.«01_k».proof.Proof.Sb.Run
public import proofs.«01_k».proof.Proof.SbB.Run
public import proofs.«01_k».proof.Proof.Gen.SbBwd
public import proofs.«01_k».proof.Proof.Gen.SbBwdIdeal

@[expose] public section

set_option maxRecDepth 16384

noncomputable section

namespace Cert.Proof.Sb

open Idealize.ShloMosaic Idealize.ShloMosaic.TcCoe Idealize.SL.Sem

theorem frame_ideal : Cert.quiescent_SbBwdIdeal := fun m ρ _ => run_args (F := Ideal) m ρ

theorem frame_kernel : Cert.quiescent_SbBwd := fun m ρ _ => SbB.run_args (F := Bits) m ρ

end Cert.Proof.Sb
-- ==== Proof.Sb.Claim.lean ====
/- The gradients of the stick-breaking attention: of finite arguments the kernel's three results are those of the derivative of the attention's own lines. -/
module

public import proofs.«01_k».proof.Defs
public import proofs.«01_k».proof.Proof.Finite
public import proofs.«01_k».proof.Proof.Sb.Final
public import proofs.«01_k».proof.Proof.Sb.Ref
public import proofs.«01_k».proof.Proof.Sb.Frames
public import proofs.«01_k».proof.Proof.Gen.SbRefIdeal.Run
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof.Sb

/-- The side conditions of the finiteness the claim asks of its arguments. -/
theorem pre_facts : Cert.Pre_finite_sb.Facts where
  bitsLt_bf16_f32 := by decide
  bcast_S_S4096x1024 := ⟨fun i => i.elim0, fun i => i.elim0⟩

attribute [local instance] pre_facts

/-- The reference ends and leaves its arguments as they were. -/
theorem frame_reference : Cert.quiescent_SbRefIdeal := fun m ρ _ =>
  (θ_run Cert.SbRefIdeal.defs _ _).mono
    (fun r h => ⟨fun c => (h c).2.2.2, sem_eq_zero_of_no_sems (by decide) r.2⟩)
    (Cert.SbRefIdeal.Value.run (F := Ideal) m ρ)

/-- The kernel's idealization names the threshold of its early exit. -/
theorem preserves : Cert.preserves_SbBwd_SbBwdIdeal := IdealRules.named_const.statement _ _ _ _ _ rfl

/-- An array of reals, as a function of its two positions. -/
def reals {m n : ℕ} [NeZero m] [NeZero n] (x : (⟨2, ![m, n]⟩ : Shape).Idx → EReal) (r c : ℕ) : ℝ := (x (ix2 (Fin.ofNat m r) (Fin.ofNat n c))).toReal

theorem up_reals {m n : ℕ} [NeZero m] [NeZero n] (x : (⟨2, ![m, n]⟩ : Shape).Idx → EReal) (h : ∀ y, x y ≠ ⊤ ∧ x y ≠ ⊥) : x = up (reals x) := by
  funext y
  show _ = (((x (ix2 (Fin.ofNat m (y 0).val) (Fin.ofNat n (y 1).val))).toReal : ℝ) : EReal)
  rw [EReal.coe_toReal (h _).1 (h _).2, show Fin.ofNat m (y 0).val = y 0 from Fin.ext (Nat.mod_eq_of_lt (y 0).isLt), show Fin.ofNat n (y 1).val = y 1 from Fin.ext (Nat.mod_eq_of_lt (y 1).isLt)]
  exact congrArg x (eq_ix2 y)

/-- The finiteness asked of the arguments makes each of their elements a real number. -/
theorem finite (x0 x1 x2 x3 : FVec Ideal Cert.Pre_finite_sb.S4096x1024 .bf16) (h : Cert.Pre_finite_sb.fn (F := Ideal) x0 x1 x2 x3 = fun _ => 1#1) (y : Cert.Pre_finite_sb.S4096x1024.Idx) :
    (x0 y ≠ ⊤ ∧ x0 y ≠ ⊥) ∧ (x1 y ≠ ⊤ ∧ x1 y ≠ ⊥) ∧ (x2 y ≠ ⊤ ∧ x2 y ≠ ⊥) ∧ (x3 y ≠ ⊤ ∧ x3 y ≠ ⊥) := by
  have h3 := and_one (congrFun h y)
  have h2 := and_one h3.1
  have h1 := and_one h2.1
  exact ⟨finite_of_lt h1.1, finite_of_lt h1.2, finite_of_lt h2.2, finite_of_lt h3.2⟩

open Cert.SbBwdIdeal in
/-- The arguments as reals. -/
def data (m : (ℓ : Loc nD τ sig) → Buf (Elt Ideal) ℓ) (c : Dev nD) : Data where
  q := reals (m := 4096) (n := 1024) (m ((c.tc : Thread nD τ).loc main_arg0))
  k := reals (m := 4096) (n := 1024) (m ((c.tc : Thread nD τ).loc main_arg1))
  v := reals (m := 4096) (n := 1024) (m ((c.tc : Thread nD τ).loc main_arg2))
  o := reals (m := 4096) (n := 1024) (m ((c.tc : Thread nD τ).loc main_arg3))

open Cert.SbBwdIdeal in
theorem args_of_pre (m : (ℓ : Loc nD τ sig) → Buf (Elt Ideal) ℓ) (hpre : Cert.Pre_SbBwdIdeal_finite_sb m) (c : Dev nD) : Args m c (data m c) :=
  have h := finite _ _ _ _ (hpre c)
  ⟨up_reals _ fun y => (h y).1, up_reals _ fun y => (h y).2.1, up_reals _ fun y => (h y).2.2.1, up_reals _ fun y => (h y).2.2.2⟩

open Cert.SbBwdIdeal in
/-- The kernel's run of finite arguments. -/
theorem run_value (m : (ℓ : Loc nD τ sig) → Buf (Elt Ideal) ℓ) (ρ : Dev nD → PrngReg) (hpre : Cert.Pre_SbBwdIdeal_finite_sb m) :
    θ_run (defs (F := Ideal)) (onTc (main (F := Ideal))) ⟨m, fun _ => 0, ρ⟩ (fun r => ∀ c : Dev nD,
      r.2.mem ((c.tc : Thread nD τ).loc main_v0_0) = (up (data m c).dq : S4096x1024.Idx → EReal)
      ∧ r.2.mem ((c.tc : Thread nD τ).loc main_v0_1) = (up (data m c).dk : S4096x1024.Idx → EReal)
      ∧ r.2.mem ((c.tc : Thread nD τ).loc main_v0_2) = (up (data m c).dv : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have H := args_of_pre m hpre c
    ⟨((h.1 c).1 4).trans (final_dq H), ((h.1 c).1 5).trans (final_dk H), ((h.1 c).1 6).trans (final_dv H),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩)
    (run_main (F := Ideal) m ρ)

/-- Of finite arguments the kernel and the derivative compute the same three arrays over the reals. -/
theorem algebraic : Cert.algebraic_SbBwdIdeal_SbRefIdeal_pre_finite_sb := by
  intro m g m' g' hpre hagree
  refine ⟨fun c => (up (data m c).dq : Cert.SbBwdIdeal.S4096x1024.Idx → EReal), fun c => (up (data m c).dk : Cert.SbBwdIdeal.S4096x1024.Idx → EReal), fun c => (up (data m c).dv : Cert.SbBwdIdeal.S4096x1024.Idx → EReal),
    run_value m g hpre, ?_⟩
  refine (θ_run Cert.SbRefIdeal.defs _ _).mono (fun r h c => ?_) (Cert.SbRefIdeal.Value.run (F := Ideal) m' g')
  obtain ⟨h0, h1, h2, hr⟩ := h c
  obtain ⟨e0, e1, e2, e3⟩ := hagree c
  have H := args_of_pre m hpre c
  rw [H.q] at e0
  rw [H.k] at e1
  rw [H.v] at e2
  rw [H.o] at e3
  refine ⟨h0.trans ?_, h1.trans ?_, h2.trans ?_, hr⟩
  · refine (Cert.SbRefIdeal.Read.val_main_v52_eq m' c).trans ?_
    rw [e0, e1, e2, e3]
    exact Ref.v52 _
  · refine (Cert.SbRefIdeal.Read.val_main_v50_eq m' c).trans ?_
    rw [e0, e1, e2, e3]
    exact Ref.v50 _
  · refine (Cert.SbRefIdeal.Read.val_main_v48_eq m' c).trans ?_
    rw [e0, e1, e3]
    exact Ref.v48 _

end Cert.Proof.Sb

end
-- ==== Proof.SbF.Run.lean ====
/- The run of the stick-breaking forward kernel: its while loop over the blocks from the diagonal down to the first, one grid
   point, the pipeline's data and the launch. The loop carries what the backward kernel's first loop carries, and the sums
   of weighted values besides. -/
module

public import proofs.«01_k».proof.Proof.Sb.Spec
public import proofs.«01_k».proof.Proof.Gen.SbFwdIdeal
public import proofs.«01_k».proof.Proof.Gen.SbFwdIdeal.Skeleton
public import proofs.«01_k».proof.Proof.Gen.SbFwdIdeal.Launch
public import proofs.«01_k».proof.Proof.Gen.SbFwdIdeal.Points
public import Idealize.ShloMosaic.Lib.Pipeline.Sound
public import Idealize.ShloMosaic.Lib.Pipeline.FrameBody
public import Idealize.ShloMosaic.Lib.Tactic
public import Idealize.ShloMosaic.Lib.Claim

@[expose] public section

set_option maxRecDepth 16384

noncomputable section

namespace Cert.Proof.SbF

open Cert.SbFwdIdeal Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Held
open Cert.Proof.Sb (Ins blk setBlk ld_blk st_blk succ_word)

variable {F : FTy → Type} [FloatOps F] [Named F]

local notation "𝕄" => MT nD τ sig Unit (Elt F) ℕ (UR sig nD τ) ℕ

/-- The variants of the body's calls: trips to go. -/
abbrev 𝒱₀ : Variants := Variants.nat

/-! ## The while loop -/

section Words
variable (i : grid0.Coords) (s : ℕ) (hs : s ≤ (i 1).val)
include hs

theorem off1_eq : k0_off1 i (BitVec.ofNat 32 s) = ![((i 1).val - s) * 256, 0] := Sb.off1_eq i s hs
theorem off2_eq : k0_off2 i (BitVec.ofNat 32 s) = ![((i 1).val - s) * 256, 128] := Sb.off2_eq i s hs

/-- The while loop's trip `s` stays inside the arrays. -/
theorem chk1 : k0_chk1 i (BitVec.ofNat 32 s) :=
  have h := Sb.chk1 i s hs
  ⟨h.1, h.2.1, h.2.2.1⟩

end Words

variable (I : Ins F)

/-- The sums of weighted values before trip `s`. -/
def acc : ℕ → FVec F S256x128 .f32 × FVec F S256x128 .f32
  | 0 => (k0_pay4, k0_pay5)
  | s + 1 =>
    (k0_pay13 k0_pay1 (I.C s).1 (acc s).1 (I.v0 (I.a - s)) (I.mask s) (k0_pay18 I.q0 (I.k0 (I.a - s))) (k0_pay20 I.q0 (I.k0 (I.a - s))) (Scalar.ofBits .f32 0x00000000#32),
      k0_pay14 k0_pay1 (I.C s).2 (acc s).2 (I.v1 (I.a - s)) (I.mask s) (k0_pay17 I.q1 (I.k1 (I.a - s))) (k0_pay19 I.q1 (I.k1 (I.a - s))))

/-- The output block of a grid point. -/
def out : Vec F S256x256 .bf16 :=
  fun y => setBlk (m := 256) 0 1 (k0_pay7 (acc I I.n).2) (setBlk (m := 256) 0 0 (k0_pay6 (acc I I.n).1) (fun _ => Scalar.ofBits .bf16 0x0000#16)) y

section Label
variable (c : Dev nD)
variable (arg3 : Memref sig .tc .vmem S4096x256 .bf16) (harg3 : arg3.IsWhole) (arg4 : Memref sig .tc .vmem S4096x256 .bf16) (harg4 : arg4.IsWhole)

/-- What the label's function reads. -/
def held : sProp 𝕄 := iprop(owns (c : Thread nD τ) arg3 fullShare I.k ∗ owns (c : Thread nD τ) arg4 fullShare I.v)

/-- The label's specification: it reads, and returns the carried values after the last trip. -/
def spec : sWPT 𝕄 (BitVec 32 × FVec F S256x1 .f32 × FVec F S256x1 .f32 × FVec F S256x128 .f32 × FVec F S256x128 .f32) := do
  sWPT.consume (held I c arg3 arg4)
  sWPT.produce (held I c arg3 arg4)
  pure (BitVec.ofNat 32 I.n, (I.C I.n).1, (I.C I.n).2, (acc I I.n).1, (acc I I.n).2)

theorem spec_apply (K : BitVec 32 × FVec F S256x1 .f32 × FVec F S256x1 .f32 × FVec F S256x128 .f32 × FVec F S256x128 .f32 → sProp 𝕄) :
    spec I c arg3 arg4 K
      = iprop(held I c arg3 arg4 ∗ (held I c arg3 arg4 -∗ K (BitVec.ofNat 32 I.n, (I.C I.n).1, (I.C I.n).2, (acc I I.n).1, (acc I I.n).2))) := rfl

theorem live_iff (s : ℕ) : I.live s ↔
    Scalar.andi (Scalar.cmpi .sle (BitVec.ofNat 32 s) (BitVec.ofNat 32 (I.i 1).val)) (Scalar.cmpf .ogt (k0_pay8 (I.C s).1 (I.C s).2) (Named.named κ "exit" 0xC2D20000#32)) = 1#1 := Iff.rfl

set_option maxHeartbeats 2000000 in
/-- The label's function meets it, by induction on the trips to go. -/
theorem spec_le (E : Set ℕ) :
    ∀ k s, s + k = I.n → ∀ K, spec I c arg3 arg4 K
      ⊢ wp frame (wpE (defs₀ (F := F)) 𝒱₀ (c : Thread nD τ) (some k)) E
          (defs₀ (F := F) .tc 1 ⟨I.i, arg3, harg3, arg4, harg4, I.q0, I.q1, k0_pay1, BitVec.ofNat 32 s, (I.C s).1, (I.C s).2, (acc I s).1, (acc I s).2⟩) K := by
  intro k
  induction k with
  | zero =>
    intro s hs K
    rw [spec_apply]
    show _ ⊢ wp frame (wpE (defs₀ (F := F)) 𝒱₀ (c : Thread nD τ) (some 0)) E
      (cc0_while1 I.i arg3 harg3 arg4 harg4 I.q0 I.q1 k0_pay1 (BitVec.ofNat 32 s) (I.C s).1 (I.C s).2 (acc I s).1 (acc I s).2) K
    simp only [cc0_while1_eq_skeleton]; unfold cc0_while1_skel
    have hsn : s = I.n := by omega
    subst hsn
    have htest := (live_iff I I.n).not.mp I.not_live
    simp only [htest, ↓reduceIte, Prog.pure_eq_ret]
    iintro ⟨H, Hk⟩
    rw [wp_ret]; imodintro
    iapply Hk $$ H
  | succ k ih =>
    intro s hs K
    have hlive : I.live s := I.live_of_lt (by omega)
    have hsa : s ≤ I.a := by have := I.n_le; omega
    have hsa' : s ≤ (I.i 1).val := hsa
    have h16 : I.a < 16 := (I.i 1).isLt
    rw [spec_apply]
    show _ ⊢ wp frame (wpE (defs₀ (F := F)) 𝒱₀ (c : Thread nD τ) (some (k + 1))) E
      (cc0_while1 I.i arg3 harg3 arg4 harg4 I.q0 I.q1 k0_pay1 (BitVec.ofNat 32 s) (I.C s).1 (I.C s).2 (acc I s).1 (acc I s).2) K
    simp only [cc0_while1_eq_skeleton]; unfold cc0_while1_skel
    have htest := (live_iff I s).mp hlive
    simp only [htest, ↓reduceIte, k0_part1_eq_skeleton]
    unfold k0_part1_skel
    simp only [Prog.lift, Prog.bind_op, Prog.bind_ret, Prog.pure_eq_ret]
    unfold held
    iintro ⟨⟨H3, H4⟩, Hk⟩
    iapply (wp_assume 𝒱₀ (c : Thread nD τ) (some (k + 1)) E (chk1 I.i s hsa'))
    iapply (wp_ld 𝒱₀ (c : Thread nD τ) (some (k + 1)) E (m := arg3)) $$ H3; iintro H3
    iapply (wp_ld 𝒱₀ (c : Thread nD τ) (some (k + 1)) E (m := arg3)) $$ H3; iintro H3
    iapply (wp_ld 𝒱₀ (c : Thread nD τ) (some (k + 1)) E (m := arg4)) $$ H4; iintro H4
    iapply (wp_ld 𝒱₀ (c : Thread nD τ) (some (k + 1)) E (m := arg4)) $$ H4; iintro H4
    have eo1 := off1_eq I.i s hsa'
    have eo2 := off2_eq I.i s hsa'
    have b1 : ((I.i 1).val - s) * 256 + 256 ≤ 4096 := by have : I.a = (I.i 1).val := rfl; omega
    rw [ld_blk (m := 4096) I.k _ _ _ 0 eo1 b1 (by decide), ld_blk (m := 4096) I.k _ _ _ 1 eo2 b1 (by decide),
      ld_blk (m := 4096) I.v _ _ _ 0 eo1 b1 (by decide), ld_blk (m := 4096) I.v _ _ _ 1 eo2 b1 (by decide), succ_word]
    iapply (wp_call_spec 𝒱₀ (c : Thread nD τ) (some (k + 1)) E (spec I c arg3 arg4) k
      (fun u hu => by cases hu; exact Nat.lt_succ_self k) (ih (s + 1) (by omega)))
    rw [spec_apply]
    unfold held
    isplitl [H3 H4]
    · isplitl [H3]; · iexact H3
      iexact H4
    iintro ⟨H3, H4⟩
    rw [wp_ret]; imodintro
    iapply Hk
    isplitl [H3]; · iexact H3
    iexact H4

/-! ## The whole body -/

variable (arg2 : Memref sig .tc .vmem S256x256 .bf16) (harg2 : arg2.IsWhole) (arg5 : Memref sig .tc .vmem S256x256 .bf16) (harg5 : arg5.IsWhole)

/-- What the body holds: the input blocks and the output block at given contents. -/
def point (D : Vec F S256x256 .bf16) : sProp 𝕄 :=
  iprop(owns (c : Thread nD τ) arg2 fullShare I.q ∗ owns (c : Thread nD τ) arg3 fullShare I.k ∗ owns (c : Thread nD τ) arg4 fullShare I.v
    ∗ owns (c : Thread nD τ) arg5 fullShare D)

/-- The two stores cover the output's block. -/
theorem out_of (D : Vec F S256x256 .bf16) :
    setBlk (m := 256) 0 1 (k0_pay7 (acc I I.n).2) (setBlk (m := 256) 0 0 (k0_pay6 (acc I I.n).1) D) = out I := by
  funext y
  have h0 : (y 0).val < 256 := (y 0).isLt
  have h1 : (y 1).val < 256 := (y 1).isLt
  unfold out setBlk
  split
  · rfl
  · split
    · rfl
    · omega

set_option maxHeartbeats 2000000 in
/-- The body leaves the point's block of the output. -/
theorem sound (D : Vec F S256x256 .bf16) (K : PUnit → sProp 𝕄) :
    iprop(point I c arg3 arg4 arg2 arg5 D ∗ (point I c arg3 arg4 arg2 arg5 (out I) -∗ K ⟨⟩))
      ⊢ wp frame (wpE (defs₀ (F := F)) 𝒱₀ (c : Thread nD τ) none) Set.univ (cc0_sb_fwd I.i arg2 harg2 arg3 harg3 arg4 harg4 arg5 harg5) K := by
  simp only [cc0_sb_fwd_eq_skeleton]
  unfold cc0_sb_fwd_skel
  simp only [Prog.lift, Prog.bind_op, Prog.bind_ret, Prog.pure_eq_ret]
  unfold point
  iintro ⟨⟨H2, H3, H4, H5⟩, Hk⟩
  iapply (wp_ld 𝒱₀ (c : Thread nD τ) none Set.univ (m := arg2)) $$ H2; iintro H2
  iapply (wp_ld 𝒱₀ (c : Thread nD τ) none Set.univ (m := arg2)) $$ H2; iintro H2
  rw [ld_blk (m := 256) I.q _ _ 0 0 rfl (by decide) (by decide), ld_blk (m := 256) I.q _ _ 0 1 rfl (by decide) (by decide)]
  iapply (wp_call_spec 𝒱₀ (c : Thread nD τ) none Set.univ (spec I c arg3 arg4) I.n
    (fun u hu => nomatch hu) (spec_le I c arg3 harg3 arg4 harg4 Set.univ I.n 0 (Nat.zero_add _)))
  rw [spec_apply]
  unfold held
  isplitl [H3 H4]
  · isplitl [H3]; · iexact H3
    iexact H4
  iintro ⟨H3, H4⟩
  iapply (wp_ld 𝒱₀ (c : Thread nD τ) none Set.univ (m := arg5)) $$ H5; iintro H5
  iapply (wp_st 𝒱₀ (c : Thread nD τ) none Set.univ (m := arg5)) $$ H5; iintro H5
  iapply (wp_ld 𝒱₀ (c : Thread nD τ) none Set.univ (m := arg5)) $$ H5; iintro H5
  iapply (wp_st 𝒱₀ (c : Thread nD τ) none Set.univ (m := arg5)) $$ H5; iintro H5
  rw [st_blk (m := 256) _ _ _ 0 0 rfl, st_blk (m := 256) _ _ _ 0 1 rfl, out_of I D, wp_ret]
  imodintro
  iapply Hk
  isplitl [H2]; · iexact H2
  isplitl [H3]; · iexact H3
  isplitl [H4]; · iexact H4
  iexact H5

end Label

/-! ## The pipeline -/

variable (m : (ℓ : Loc nD τ sig) → Buf (Elt F) ℓ) (ρ : Dev nD → PrngReg)

/-- The arrays when the kernel begins: as launched. -/
abbrev V (c : Dev nD) (b : Ref sig .tc) : Buf (Elt F) ((c : Thread nD τ).loc b) := m ((c : Thread nD τ).loc b)

/-- The program is the kernel's call alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array at a point. -/
def inp (c : Dev nD) (w : Fin (cfg0 (F := F)).W) (t : Fin (cfg0 (F := F)).N) :
    ((cfg0.win w).xblock (cfg0.grid.coords t)).Idx → Elt F ((cfg0 (F := F)).win w).elt :=
  ((cfg0.win w).blk t).view.read (Elt F) (V m c (Pipeline.arrRef spec0 w))

/-- What the body reads at a point. -/
def ins (c : Dev nD) (t : Fin (cfg0 (F := F)).N) : Ins F := ⟨grid0.coords t, inp m c 0 t, inp m c 1 t, inp m c 2 t, inp m c 0 t⟩

/-- The pipeline's data: after each point the input blocks as they were, the output at the point's. -/
def dats (_ : Fin 1) (c : Dev nD) : Dat τ (Elt F) Unit ℕ (UR sig nD τ) ℕ (cfg0 (F := F)) c where
  A w := V m c (Pipeline.arrRef spec0 w)
  after w t := match w with
    | ⟨0, _⟩ => inp m c 0 t
    | ⟨1, _⟩ => inp m c 1 t
    | ⟨2, _⟩ => inp m c 2 t
    | ⟨3, _⟩ => out (ins m c t)
  Φ _ := Pipeline.ΦA spec0 c
  q _ := fullShare
  owed _ := 0

theorem A_eq (c : Dev nD) (w : Fin (cfg0 (F := F)).W) : (dats m 0 c).A w = V m c (Pipeline.arrRef spec0 w) := by dsimp only [dats]

section After
variable (c : Dev nD) (t : Fin (cfg0 (F := F)).N)
theorem after_0 : (dats m 0 c).after 0 t = inp m c 0 t := rfl
theorem after_1 : (dats m 0 c).after 1 t = inp m c 1 t := rfl
theorem after_2 : (dats m 0 c).after 2 t = inp m c 2 t := rfl
theorem after_3 : (dats m 0 c).after 3 t = out (ins m c t) := rfl
end After

theorem before_0 (c : Dev nD) (t : Fin (cfg0 (F := F)).N) (d) : (dats m 0 c).before 0 t d = inp m c 0 t :=
  ((dats m 0 c).before_in_eq_fetched 0 rfl (fun _ => rfl) (fun _ _ _ => rfl) (fun t => by rw [after_0]; unfold Dat.blockOf inp; rw [A_eq]; try rfl) t d).trans
    (by unfold Dat.fetched Dat.blockOf inp; rw [A_eq]; try rfl)
theorem before_1 (c : Dev nD) (t : Fin (cfg0 (F := F)).N) (d) : (dats m 0 c).before 1 t d = inp m c 1 t :=
  ((dats m 0 c).before_in_eq_fetched 1 rfl (fun _ => rfl) (fun _ _ _ => rfl) (fun t => by rw [after_1]; unfold Dat.blockOf inp; rw [A_eq]; try rfl) t d).trans
    (by unfold Dat.fetched Dat.blockOf inp; rw [A_eq]; try rfl)
theorem before_2 (c : Dev nD) (t : Fin (cfg0 (F := F)).N) (d) : (dats m 0 c).before 2 t d = inp m c 2 t :=
  ((dats m 0 c).before_in_eq_fetched 2 rfl (fun _ => rfl) (fun _ _ _ => rfl) (fun t => by rw [after_2]; unfold Dat.blockOf inp; rw [A_eq]; try rfl) t d).trans
    (by unfold Dat.fetched Dat.blockOf inp; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- An output or input of this kernel is never idle: what the body leaves of it is `after`. -/
theorem leaves (c : Dev nD) (w : Fin (cfg0 (F := F)).W) (t : Fin (cfg0 (F := F)).N) (h : (cfg0 (F := F)).idle w (cfg0.grid.coords t) = false) :
    (dats m 0 c).leavesExact w t = owns (c : Thread nD τ) (((cfg0 (F := F)).win w).stage ((cfg0 (F := F)).slots t w)) fullShare ((dats m 0 c).after w t) := by
  unfold Dat.leavesExact; rw [h]

set_option maxHeartbeats 800000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  rw [leaves m c 0 t rfl, leaves m c 1 t rfl, leaves m c 2 t rfl, leaves m c 3 t rfl, after_0, after_1, after_2, after_3]
  iintro ⟨Hp, Ho, ⟨%d0, H0⟩, ⟨%d1, H1⟩, ⟨%d2, H2⟩, %d3, H3⟩
  iapply (sound (ins m c t) c _ _ _ _ _ _ _ _ ((dats m 0 c).before 3 t d3))
  unfold point
  isplitl [H0 H1 H2 H3]
  · isplitl [H0]; · iexact H0
    isplitl [H1]; · iexact H1
    isplitl [H2]; · iexact H2
    iexact H3
  iintro ⟨H0, H1, H2, H3⟩
  isplitl [Hp]; · iexact Hp
  isplitl [Ho]; · iexact Ho
  isplitl [H0]; · iexact H0
  isplitl [H1]; · iexact H1
  isplitl [H2]; · iexact H2
  iexact H3

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- The kernel runs, from any memory: every array of the pipeline ends at what its data say, every semaphore at zero. -/
theorem run_main : θ_run defs (onTc (τ := τ) (main (F := F))) (⟨m, fun _ => 0, ρ⟩ : MemSt nD τ sig (Elt F))
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The argument arrays end as launched, and every semaphore at zero. -/
theorem run_args : θ_run defs (onTc (τ := τ) (main (F := F))) (⟨m, fun _ => 0, ρ⟩ : MemSt nD τ sig (Elt F)) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c =>
    ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.Proof.SbF
-- ==== Proof.SbF.Value.lean ====
/- The stick-breaking forward kernel and its reference over real arguments: both leave the weighted sums of values. -/
module

public import proofs.«01_k».proof.Proof.Sb.Point
public import proofs.«01_k».proof.Proof.Sb.Ref
public import proofs.«01_k».proof.Proof.Sb.Run
public import proofs.«01_k».proof.Proof.SbF.Run
public import proofs.«01_k».proof.Proof.Gen.SbFwdRefIdeal.Read
public import Idealize.ShloMosaic.Lib.Pipeline.ValueKit

@[expose] public section

set_option maxRecDepth 16384

noncomputable section

namespace Cert.Proof.SbF

open Idealize.ShloMosaic Idealize.ShloMosaic.TcCoe Finset
open Cert.Proof.Sb

/-- The output at a row and a column of all heads'. -/
def res (D : Data) (t d : ℕ) : ℝ := ∑ s ∈ range 4096, D.A (d / 128) t s * D.v s d

section Block
open Cert.SbFwdIdeal.Gen
variable (D : Data) (h a j : ℕ)

/-- The weighted sums of the values behind block `j - 1`. -/
abbrev part : FVec Ideal Cert.SbFwdIdeal.S256x128 .f32 := up fun r d => ∑ s ∈ Ico (j * 256) 4096, D.A h (a * 256 + r) s * D.v s (h * 128 + d)

theorem part_diag : k0_pay4 (F := Ideal) = part D h a (a + 1) := by
  refine (show k0_pay4 (F := Ideal) = Cert.SbBwdIdeal.Gen.k0_pay35 from rfl).trans (pay35.trans (up_congr fun r hr d _ => (sum_eq_zero fun s hs => ?_).symm))
  have := (mem_Ico.mp hs).1
  rw [D.A_of_le _ (by omega), zero_mul]

theorem part_step (hj : j < 16) :
    k0_pay13 (F := Ideal) k0_pay1 (behind D h a (j + 1)) (part D h a (j + 1)) (rows h j D.v) (mk a j) (k0_pay18 (rows h a D.q) (rows h j D.k)) (k0_pay20 (rows h a D.q) (rows h j D.k))
      (Scalar.ofBits .f32 0x00000000#32) = part D h a j := by
  show Cert.SbBwdIdeal.Gen.k0_pay40 (F := Ideal) (part D h a (j + 1)) (rows h j D.v) (Cert.SbBwdIdeal.Gen.k0_pay55 (F := Ideal) Cert.SbBwdIdeal.Gen.k0_pay29 (behind D h a (j + 1)) (mk a j)
    (Cert.SbBwdIdeal.Gen.k0_pay50 (rows h a D.q) (rows h j D.k)) (Cert.SbBwdIdeal.Gen.k0_pay52 (rows h a D.q) (rows h j D.k)) (Scalar.ofBits .f32 0x00000000#32)) = _
  rw [A_blk D h a j hj]
  refine (pay40 _ _ _).trans (up_congr fun r _ d _ => ?_)
  rw [sum_block 256 (fun s => D.A h (a * 256 + r) s * D.v s (h * 128 + d)) j, add_comm, sum_Ico_consecutive _ (by omega) (by omega)]

end Block

section Point
variable {D : Data} {g : ℕ} {I : Ins Ideal} (R : Reads D g I)
include R

/-- The carried sums are those of the keys behind the block to come. -/
theorem acc_eq {s : ℕ} (hs : s ≤ I.a + 1) : acc I s = (part D (2 * g) I.a (I.a + 1 - s), part D (2 * g + 1) I.a (I.a + 1 - s)) := by
  have := Reads.a_lt I
  induction s with
  | zero => exact Prod.ext (part_diag D _ _) (part_diag D _ _)
  | succ s ih =>
    have e : I.a + 1 - s = I.a - s + 1 := by omega
    have e' : I.a + 1 - (s + 1) = I.a - s := by omega
    unfold acc
    rw [ih (by omega), R.C (by omega), Reads.mask (by omega), R.q0, R.q1, R.k0 (by omega), R.k1 (by omega), R.v0 (by omega), R.v1 (by omega), e, e']
    exact Prod.ext (part_step D _ _ _ (by omega)) (part_step D _ _ _ (by omega))

/-- The point's block of the output. -/
theorem out_eq : out I = up fun r c => res D (I.a * 256 + r) (g * 256 + c) := by
  have := Reads.a_lt I
  unfold out
  rw [R.n, acc_eq R le_rfl]
  have hz : (fun _ => FloatOps.ofBits (F := Ideal) .bf16 0x0000#16 : Cert.SbFwdIdeal.S256x256.Idx → EReal) = up fun _ _ => 0 :=
    funext fun y => by simp [Ideal.ofBits, Ideal.ieee, up]
  refine (congrArg (fun x => setBlk (m := 256) 0 1 (part D (2 * g + 1) I.a (I.a + 1 - (I.a + 1))) (setBlk (m := 256) 0 0 (part D (2 * g) I.a (I.a + 1 - (I.a + 1))) x)) hz).trans ?_
  rw [setBlk_up, setBlk_up]
  refine up_congr fun r hr c hc => ?_
  have e : ∀ h d, (g * 256 + c) / 128 = h → h * 128 + d = g * 256 + c →
      ∑ s ∈ Ico ((I.a + 1 - (I.a + 1)) * 256) 4096, D.A h (I.a * 256 + r % 256) s * D.v s (h * 128 + d) = res D (I.a * 256 + r) (g * 256 + c) := by
    intro h d h1 h2
    unfold res
    rw [h1, h2, Nat.mod_eq_of_lt hr, Nat.sub_self, Nat.zero_mul, range_eq_Ico]
  by_cases h1 : c / 128 = 1
  · rw [if_pos ⟨by omega, h1⟩]
    exact e _ _ (by omega) (by omega)
  · rw [if_neg (by omega), if_pos ⟨by omega, by omega⟩]
    exact e _ _ (by omega) (by omega)

end Point

section Final
open Cert.SbFwdIdeal Cert.SbFwdIdeal.Gen
variable (m : (ℓ : Loc nD τ sig) → Buf (Elt Ideal) ℓ) (c : Dev nD)

/-- The arguments are the real arrays of `D`. -/
structure Args (D : Data) : Prop where
  q : m ((c : Thread nD τ).loc main_arg0) = up D.q
  k : m ((c : Thread nD τ).loc main_arg1) = up D.k
  v : m ((c : Thread nD τ).loc main_arg2) = up D.v
  o : D.o = D.q

/-- Where each window's block lies. -/
theorem idx : ∀ t : Fin (cfg0 (F := Ideal)).N, win0_0.index t = ![t.val % 16, t.val / 16] ∧ win0_1.index t = ![0, t.val / 16] ∧ win0_2.index t = ![0, t.val / 16]
    ∧ win0_3.index t = ![t.val % 16, t.val / 16] :=
  (by decide +kernel : ∀ t : Fin grid0.N, _)

variable {m c} {D : Data} (H : Args m c D)
include H

theorem reads (t : Fin (cfg0 (F := Ideal)).N) : Reads D (t.val / 16) (ins m c t) := by
  have ha : (ins m c t).a = t.val % 16 := coords_one t
  have hq : inp m c 0 t = (up fun r d => D.q ((ins m c t).a * 256 + r) (t.val / 16 * 256 + d) : S256x256.Idx → EReal) := by
    funext y
    blk_simp [inp, V]
    rw [H.q, ha]
    unfold up
    blk_simp [idx t]
  refine ⟨hq, ?_, ?_, ?_⟩
  · funext y
    show inp m c 1 t y = _
    blk_simp [inp, V]
    rw [H.k]
    unfold up
    blk_simp [idx t]
  · funext y
    show inp m c 2 t y = _
    blk_simp [inp, V]
    rw [H.v]
    unfold up
    blk_simp [idx t]
  · rw [H.o]
    exact hq

/-- The kernel's output. -/
theorem final : (dats m 0 c).arrAt 3 (cfg0 (F := Ideal)).N = (up (res D) : S4096x1024.Idx → EReal) := by
  refine (dats m 0 c).arrAt_eq_of_covers 3 _ (by decide +kernel) fun t hf y => ?_
  blk_simp
  rw [after_3, out_eq (reads H t), show (ins m c t).a = t.val % 16 from coords_one t]
  unfold up
  blk_simp [idx t]

end Final

section Reference
open Cert.SbFwdRefIdeal Cert.SbFwdRefIdeal.Read
variable (D : Data)

theorem weights : val_main_v25 (F := Ideal) (up D.q) (up D.k) = Ref.up3 fun h t s => D.A h t s := Ref.v26 D

/-- The reference's output. -/
theorem ref : val_main_v29 (F := Ideal) (up D.q) (up D.k) (up D.v) = up (res D) := by
  funext y
  idx_vars y
  pointwise [val_main_v29, val_main_v28, val_main_v27, val_main_v26]
  rw [weights, show val_main_v8 (F := Ideal) (up D.v) = _ from Ref.v5 D.v]
  exact Ref.e_col (fun s => D.A (y1.val / 128) y0 s) D.v _

end Reference

end Cert.Proof.SbF
-- ==== Proof.SbF.Frames.lean ====
/- The frames of the stick-breaking forward kernel, as launched and idealized. -/
module

public import proofs.«01_k».proof.Defs
public import proofs.«01_k».proof.Proof.SbF.Run
public import proofs.«01_k».proof.Proof.SbFB.Run
public import proofs.«01_k».proof.Proof.Gen.SbFwd
public import proofs.«01_k».proof.Proof.Gen.SbFwdIdeal

@[expose] public section

set_option maxRecDepth 16384

noncomputable section

namespace Cert.Proof.SbF

open Idealize.ShloMosaic Idealize.ShloMosaic.TcCoe Idealize.SL.Sem

theorem frame_ideal : Cert.quiescent_SbFwdIdeal := fun m ρ _ => run_args (F := Ideal) m ρ

theorem frame_kernel : Cert.quiescent_SbFwd := fun m ρ _ => SbFB.run_args (F := Bits) m ρ

end Cert.Proof.SbF
-- ==== Proof.SbF.Claim.lean ====
/- The stick-breaking attention forward: of finite arguments the kernel's result is that of the attention's own lines. -/
module

public import proofs.«01_k».proof.Defs
public import proofs.«01_k».proof.Proof.Sb.Claim
public import proofs.«01_k».proof.Proof.SbF.Value
public import proofs.«01_k».proof.Proof.SbF.Frames
public import proofs.«01_k».proof.Proof.Gen.SbFwdRefIdeal.Run
public import proofs.«01_k».proof.Proof.Gen.Pre_finite_sf

@[expose] public section

set_option maxRecDepth 16384

noncomputable section

open Idealize.ShloMosaic Idealize.ShloMosaic.TcCoe Idealize.SL.Sem

namespace Cert.Proof.SbF

open Cert.Proof.Sb (Data up reals up_reals)

attribute [local instance] Cert.Pre_finite_sf.Gen.facts

/-- The reference ends and leaves its arguments as they were. -/
theorem frame_reference : Cert.quiescent_SbFwdRefIdeal := fun m ρ _ =>
  (θ_run Cert.SbFwdRefIdeal.defs _ _).mono
    (fun r h => ⟨fun c => (h c).2, sem_eq_zero_of_no_sems (by decide) r.2⟩)
    (Cert.SbFwdRefIdeal.Value.run (F := Ideal) m ρ)

/-- The kernel's idealization names the threshold of its early exit. -/
theorem preserves : Cert.preserves_SbFwd_SbFwdIdeal := IdealRules.named_const.statement _ _ _ _ _ rfl

/-- The finiteness asked of the arguments makes each of their elements a real number. -/
theorem finite (x0 x1 x2 : FVec Ideal Cert.Pre_finite_sf.S4096x1024 .bf16) (h : Cert.Pre_finite_sf.fn (F := Ideal) x0 x1 x2 = fun _ => 1#1) (y : Cert.Pre_finite_sf.S4096x1024.Idx) :
    (x0 y ≠ ⊤ ∧ x0 y ≠ ⊥) ∧ (x1 y ≠ ⊤ ∧ x1 y ≠ ⊥) ∧ (x2 y ≠ ⊤ ∧ x2 y ≠ ⊥) := by
  have h2 := and_one (congrFun h y)
  have h1 := and_one h2.1
  exact ⟨finite_of_lt h1.1, finite_of_lt h1.2, finite_of_lt h2.2⟩

open Cert.SbFwdIdeal in
/-- The arguments as reals. -/
def data (m : (ℓ : Loc nD τ sig) → Buf (Elt Ideal) ℓ) (c : Dev nD) : Data where
  q := reals (m := 4096) (n := 1024) (m ((c.tc : Thread nD τ).loc main_arg0))
  k := reals (m := 4096) (n := 1024) (m ((c.tc : Thread nD τ).loc main_arg1))
  v := reals (m := 4096) (n := 1024) (m ((c.tc : Thread nD τ).loc main_arg2))
  o := reals (m := 4096) (n := 1024) (m ((c.tc : Thread nD τ).loc main_arg0))

open Cert.SbFwdIdeal in
theorem args_of_pre (m : (ℓ : Loc nD τ sig) → Buf (Elt Ideal) ℓ) (hpre : Cert.Pre_SbFwdIdeal_finite_sf m) (c : Dev nD) : Args m c (data m c) :=
  have h := finite _ _ _ (hpre c)
  ⟨up_reals _ fun y => (h y).1, up_reals _ fun y => (h y).2.1, up_reals _ fun y => (h y).2.2, rfl⟩

open Cert.SbFwdIdeal in
/-- The kernel's run of finite arguments. -/
theorem run_value (m : (ℓ : Loc nD τ sig) → Buf (Elt Ideal) ℓ) (ρ : Dev nD → PrngReg) (hpre : Cert.Pre_SbFwdIdeal_finite_sf m) :
    θ_run (defs (F := Ideal)) (onTc (main (F := Ideal))) ⟨m, fun _ => 0, ρ⟩ (fun r => ∀ c : Dev nD,
      r.2.mem ((c.tc : Thread nD τ).loc main_v0) = (up (res (data m c)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 3).trans (final (args_of_pre m hpre c)),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩)
    (run_main (F := Ideal) m ρ)

/-- Of finite arguments the kernel and the attention's lines compute the same array over the reals. -/
theorem algebraic : Cert.algebraic_SbFwdIdeal_SbFwdRefIdeal_pre_finite_sf := by
  intro m g m' g' hpre hagree
  refine ⟨fun c => (up (res (data m c)) : Cert.SbFwdIdeal.S4096x1024.Idx → EReal), run_value m g hpre, ?_⟩
  refine (θ_run Cert.SbFwdRefIdeal.defs _ _).mono (fun r h c => ?_) (Cert.SbFwdRefIdeal.Value.run (F := Ideal) m' g')
  obtain ⟨h0, hr⟩ := h c
  obtain ⟨e0, e1, e2⟩ := hagree c
  have H := args_of_pre m hpre c
  rw [H.q] at e0
  rw [H.k] at e1
  rw [H.v] at e2
  refine ⟨h0.trans ?_, hr⟩
  refine (Cert.SbFwdRefIdeal.Read.val_main_v29_eq m' c).trans ?_
  rw [e0, e1, e2]
  exact ref _

end Cert.Proof.SbF

end
-- ==== Proof.Rms.lean ====
/- The gradient of the norm of the residual stream: the kernel's two results are those of the derivative of the norm. -/
module

public import proofs.«01_k».proof.Defs
public import proofs.«01_k».proof.Proof.Gen.RmsBwd.Frame
public import proofs.«01_k».proof.Proof.Gen.RmsBwdIdeal.Value
public import proofs.«01_k».proof.Proof.Gen.RmsRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Rms

/-- The kernel ends and leaves its arguments as they were. -/
theorem frame_kernel : Cert.quiescent_RmsBwd := fun m ρ _ => Cert.RmsBwd.Gen.frame m ρ

/-- The kernel over the reals ends and leaves its arguments as they were. -/
theorem frame_ideal : Cert.quiescent_RmsBwdIdeal := fun m ρ _ => Cert.RmsBwdIdeal.Gen.frame m ρ

/-- The reference ends and leaves its arguments as they were. -/
theorem frame_reference : Cert.quiescent_RmsRefIdeal := fun m ρ _ =>
  (θ_run Cert.RmsRefIdeal.defs _ _).mono
    (fun r h => ⟨fun c => (h c).2.2, sem_eq_zero_of_no_sems (by decide) r.2⟩)
    (Cert.RmsRefIdeal.Value.run (F := Ideal) m ρ)

section
open Cert.RmsBwdIdeal Cert.RmsBwdIdeal.Gen

/-- A row's mean square and the norm's small constant. -/
def ms (x : S4096x1024.Idx → EReal) (r : Fin 4096) : EReal := Ideal.div (∑ k : Fin 1024, x (ix2 r k) * x (ix2 r k)) (Ideal.ofBits .f32 0x44800000#32) + Ideal.ofBits .f32 0x358637BD#32

/-- What a row's mean square passes back to each of its squares. -/
def back (x : S4096x1024.Idx → EReal) (g : S1024.Idx → EReal) (ct : S4096x1024.Idx → EReal) (r : Fin 4096) : EReal :=
  Ideal.div ((∑ k : Fin 1024, x (ix2 r k) * (ct (ix2 r k) * g (ix1 k))) * (Ideal.ofBits .f32 0xBF000000#32 * Ideal.div (Ideal.rsqrt (ms x r)) (ms x r))) (Ideal.ofBits .f32 0x44800000#32)

/-- The gradient of the input, onto what comes from beside the norm. -/
def DX (x : S4096x1024.Idx → EReal) (g : S1024.Idx → EReal) (ct res : S4096x1024.Idx → EReal) : S4096x1024.Idx → EReal := fun y =>
  res y + ct y * g (ix1 (y 1)) * Ideal.rsqrt (ms x (y 0)) + x y * back x g ct (y 0) + back x g ct (y 0) * x y

/-- The gradient of the gain. -/
def DG (x ct : S4096x1024.Idx → EReal) : S1x1024.Idx → EReal := fun y => ∑ r : Fin 4096, x (ix2 r (y 1)) * Ideal.rsqrt (ms x r) * ct (ix2 r (y 1))

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- One element of a block of the input's gradient. -/
theorem point (t : Fin cfg0.N) (y : S256x1024.Idx) (j : S4096x1024.Idx) (h0 : (j 0 : ℕ) = t.val * 256 + y 0) (h1 : (j 1 : ℕ) = y 1) :
    k0_pay5 (F := Ideal) (iblk m c 0 t) (iblk m c 1 t) (iblk m c 2 t) (iblk m c 3 t) y
      = DX (m ((c : Thread nD τ).loc main_arg0)) (m ((c : Thread nD τ).loc main_arg1)) (m ((c : Thread nD τ).loc main_arg2)) (m ((c : Thread nD τ).loc main_arg3)) j := by
  pointwise [k0_pay5, k0_pay2, k0_pay3, DX, ms, back]
  simp only [Finset.univ_unique, Finset.sum_singleton, ← add_assoc]
  blk_point [iblk, V, idx t]

theorem final_dx : (dats m 0 c).arrAt 4 cfg0.N = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 16 := t.isLt
  rw [after0_4]
  by_cases h : t.val % 16 = 0
  · rw [outsAt0_A m c t h (by omega)]
    frame_out
    exact point m c t y _ (by blk_simp [idx t]) (by blk_simp [idx t])
  · rw [outsAt0_B m c t h (by omega)]
    frame_out
    exact point m c t y _ (by blk_simp [idx t]) (by blk_simp [idx t])

/-- One block's part of the gain's gradient. -/
theorem part (x ct : FVec Ideal S256x1024 .f32) (j : S1x1024.Idx) : k0_pay4 x ct j = ∑ k : Fin 256, x (ix2 k (j 1)) * Ideal.rsqrt (Ideal.div (∑ l : Fin 1024, x (ix2 k l) * x (ix2 k l)) (Ideal.ofBits .f32 0x44800000#32) + Ideal.ofBits .f32 0x358637BD#32) * ct (ix2 k (j 1)) := by
  pointwise [k0_pay4, k0_pay2, k0_pay3]

/-- The parts are added up. -/
theorem step (x acc : FVec Ideal S1x1024 .f32) (j : S1x1024.Idx) : k0_pay1 x acc j = acc j + x j := by
  pointwise [k0_pay1]

theorem final_dg : (dats m 0 c).arrAt 5 cfg0.N = DG (m ((c : Thread nD τ).loc main_arg0)) (m ((c : Thread nD τ).loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0) _
    (fun t h j => by have := lt_of_lt_of_eq t.isLt N_0; rw [outsAt0_A m c t h (by omega)]; frame_out; rw [part]; exact (zero_add _).symm)
    (fun t h j => by rw [outsAt0_B m c t h (by omega)]; frame_out; rw [step, part])
    (le_of_eq N_0) t0_15 rfl j, zero_add]
  pointwise [DG, ms]
  refine Fin.sum_mul_add_congr fun t k hl => ?_
  blk_point [iblk, V, idx t]

end

/-- The kernel and the derivative compute the same two arrays over the reals. -/
theorem algebraic : Cert.algebraic_RmsBwdIdeal_RmsRefIdeal := by
  pair_intro
  · run_from Cert.RmsBwdIdeal.Value.run_blocks m g
  · run_from Cert.RmsRefIdeal.Value.run m' g'
    · refine Eq.trans ?_ (final_dx m c).symm
      funext i
      idx_vars i
      pointwise [DX, ms, back]
      simp only [Finset.univ_unique, Finset.sum_singleton]
    · refine Eq.trans ?_ (final_dg m c).symm
      funext i
      idx_vars i
      pointwise [DG, ms]
      simp only [Finset.univ_unique, Finset.sum_singleton]

end Cert.Proof.Rms

end
-- ==== Proof.Sums.lean ====
/- Sums over the leading axes of an array, and a factor taken out of a sum. -/
module

public import Idealize.ShloMosaic.Lib.Claim
public import Idealize.ShloMosaic.Lib.Pointwise

@[expose] public section

noncomputable section

open Idealize.ShloMosaic

namespace Cert.Proof.Sums

section
variable {n0 n1 n2 : ℕ} {t : Shape}

theorem rank (h : (⟨3, ![n0, n1, n2]⟩ : Shape).ReducesTo [0, 1] t) : t.rank = 1 := h.1
theorem pos (h : (⟨3, ![n0, n1, n2]⟩ : Shape).ReducesTo [0, 1] t) : 0 < t.rank := rank h ▸ (by decide)
theorem size (h : (⟨3, ![n0, n1, n2]⟩ : Shape).ReducesTo [0, 1] t) : t.size ⟨0, pos h⟩ = n2 := h.2 ⟨0, pos h⟩

/-- The elements that a sum over the two leading axes of three adds up. -/
theorem fiber (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, pos h⟩).val, Shape.coordLt (j ⟨0, pos h⟩) (size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, pos h⟩)).symm
  · rintro ⟨k, rfl⟩
    funext b
    apply Fin.ext
    match b with
    | ⟨0, _⟩ => rfl
    | ⟨_ + 1, hb⟩ => exact absurd hb (by have := rank h; omega)

/-- A sum over the elements that share their last coordinate. -/
theorem fibers (h : (⟨3, ![n0, n1, n2]⟩ : Shape).ReducesTo [0, 1] t) (j : t.Idx) (v : (⟨3, ![n0, n1, n2]⟩ : Shape).Idx → EReal) :
    ∑ i ∈ Finset.univ.filter (fun i => h.drop i = j), v i = ∑ k0 : Fin n0, ∑ k1 : Fin n1, v (ix3 k0 k1 ⟨(j ⟨0, pos h⟩).val, Shape.coordLt (j ⟨0, pos h⟩) (size h)⟩) := by
  refine (Finset.sum_filter_eq_sum_of_fiber _ (fun k : Fin n0 × Fin n1 => ix3 k.1 k.2 ⟨(j ⟨0, pos h⟩).val, Shape.coordLt (j ⟨0, pos h⟩) (size h)⟩) (fun _ _ e => Prod.ext (congrFun e 0) (congrFun e 1)) (fiber h j) v).trans ?_
  simp only [Fintype.sum_prod_type]

/-- A sum over the two leading axes of three, as a double sum. -/
theorem leading (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, pos h⟩).val, Shape.coordLt (j ⟨0, pos h⟩) (size h)⟩) :=
  congrArg (init + ·) (fibers h j v)

end

/-- A nonnegative real factor of a sum is a factor of its terms. -/
theorem factor {ι : Type*} (s : Finset ι) (f : ι → EReal) {a : EReal} (h0 : 0 ≤ a) (h1 : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 h1, ih]

end Cert.Proof.Sums

end
-- ==== Proof.HeadK.lean ====
/- The gradient of the keys' norm of the attention layers, head by head: the kernel's two results are those of the derivative of the scaled norm. -/
module

public import proofs.«01_k».proof.Defs
public import proofs.«01_k».proof.Proof.Gen.HeadK.Frame
public import proofs.«01_k».proof.Proof.Gen.HeadKIdeal.Value
public import proofs.«01_k».proof.Proof.Gen.HeadKRefIdeal.Read
public import proofs.«01_k».proof.Proof.Sums
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.HeadK

/-- The kernel ends and leaves its arguments as they were. -/
theorem frame_kernel : Cert.quiescent_HeadK := fun m ρ _ => Cert.HeadK.Gen.frame m ρ

/-- The kernel over the reals ends and leaves its arguments as they were. -/
theorem frame_ideal : Cert.quiescent_HeadKIdeal := fun m ρ _ => Cert.HeadKIdeal.Gen.frame m ρ

/-- The reference ends and leaves its arguments as they were. -/
theorem frame_reference : Cert.quiescent_HeadKRefIdeal := fun m ρ _ =>
  (θ_run Cert.HeadKRefIdeal.defs _ _).mono
    (fun r h => ⟨fun c => (h c).2.2, sem_eq_zero_of_no_sems (by decide) r.2⟩)
    (Cert.HeadKRefIdeal.Value.run (F := Ideal) m ρ)

section
open Cert.HeadKIdeal Cert.HeadKIdeal.Gen

/-- Lane `k` of the head that column `j` belongs to. -/
def lane (j : Fin 1024) (k : Fin 128) : Fin 2048 := ⟨(j : ℕ) / 128 * 128 + (k : ℕ), by omega⟩

/-- A head's mean square in a row and the norm's small constant. -/
def ms (x : S4096x2048.Idx → EReal) (r : Fin 4096) (j : Fin 1024) : EReal := Ideal.div (∑ k : Fin 128, x (ix2 r (lane j k)) * x (ix2 r (lane j k))) (Ideal.ofBits .f32 0x43000000#32) + Ideal.ofBits .f32 0x358637BD#32

/-- Column `k` of `j`'s head among the columns of the keys alone. -/
def own (j : Fin 1024) (k : Fin 128) : Fin 1024 := ⟨(j : ℕ) / 128 * 128 + (k : ℕ), by omega⟩

/-- What a head's mean square passes back to each of its squares. -/
def back (x : S4096x2048.Idx → EReal) (g : S128.Idx → EReal) (a b : S4096x1024.Idx → EReal) (r : Fin 4096) (j : Fin 1024) : EReal :=
  Ideal.div ((∑ k : Fin 128, x (ix2 r (lane j k)) * ((a (ix2 r (own j k)) + b (ix2 r (own j k))) * g (ix1 k))) * (Ideal.ofBits .f32 0xBF000000#32 * Ideal.div (Ideal.rsqrt (ms x r j)) (ms x r j))) (Ideal.ofBits .f32 0x43000000#32)

/-- The gradient of the keys. -/
def DX (x : S4096x2048.Idx → EReal) (g : S128.Idx → EReal) (a b : S4096x1024.Idx → EReal) : S4096x1024.Idx → EReal := fun y =>
  (a y + b y) * g (ix1 ⟨(y 1 : ℕ) % 128, Nat.mod_lt _ (by decide)⟩) * Ideal.rsqrt (ms x (y 0) (y 1)) + x (ix2 (y 0) ⟨(y 1 : ℕ), lt_trans (y 1).isLt (by decide)⟩) * back x g a b (y 0) (y 1) + back x g a b (y 0) (y 1) * x (ix2 (y 0) ⟨(y 1 : ℕ), lt_trans (y 1).isLt (by decide)⟩)

/-- Column of lane `k` of head `h`. -/
def col (h : Fin 8) (k : Fin 128) : Fin 1024 := ⟨(h : ℕ) * 128 + (k : ℕ), by omega⟩

/-- The gradient of the gain. -/
def DG (x : S4096x2048.Idx → EReal) (a b : S4096x1024.Idx → EReal) : S1x128.Idx → EReal := fun y => ∑ h : Fin 8, ∑ r : Fin 4096,
  x (ix2 r ⟨(col h (y 1) : ℕ), lt_trans (col h (y 1)).isLt (by decide)⟩) * Ideal.rsqrt (ms x r (col h (y 1))) * (a (ix2 r (col h (y 1))) + b (ix2 r (col h (y 1))))

variable (m : (ℓ : Loc nD τ sig) → Buf (Elt Ideal) ℓ) (c : Dev nD)

theorem idx : ∀ t : Fin cfg0.N, win0_0.index t = ![t.val % 4, t.val / 4] ∧ win0_1.index t = ![t.val % 4, t.val / 4] ∧ win0_2.index t = ![t.val % 4, t.val / 4] ∧ win0_3.index t = ![0, 0] ∧ win0_4.index t = ![t.val % 4, t.val / 4] ∧ win0_5.index t = ![0, 0] :=
  (by decide +kernel : ∀ t : Fin grid0.N, _)

/-- One element of a block of the keys' gradient. -/
theorem point (t : Fin cfg0.N) (y : S1024x128.Idx) (j : S4096x1024.Idx) (h0 : (j 0 : ℕ) = t.val % 4 * 1024 + y 0) (h1 : (j 1 : ℕ) = t.val / 4 * 128 + y 1) :
    k0_pay1 (F := Ideal) (iblk m c 0 t) (k0_pay8 (F := Ideal) (iblk m c 0 t) (iblk m c 1 t) (iblk m c 2 t) (iblk m c 3 t)) (k0_pay9 (F := Ideal) (iblk m c 0 t) (iblk m c 1 t) (iblk m c 2 t) (iblk m c 3 t)) y
      = DX (m ((c : Thread nD τ).loc main_arg0)) (m ((c : Thread nD τ).loc main_arg1)) (m ((c : Thread nD τ).loc main_arg2)) (m ((c : Thread nD τ).loc main_arg3)) j := by
  pointwise [k0_pay1, k0_pay3, k0_pay4, k0_pay5, k0_pay6, k0_pay8, k0_pay9, DX, ms, back, lane, own]
  simp only [Finset.univ_unique, Finset.sum_singleton]
  blk_point [iblk, V, idx t]

theorem final_dx : (dats m 0 c).arrAt 4 cfg0.N = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 32 := t.isLt
  rw [after0_4]
  by_cases h : t.val % 32 = 0
  · rw [outsAt0_A m c t h (by omega)]
    frame_out
    exact point m c t y _ (by blk_simp [idx t]) (by blk_simp [idx t])
  · rw [outsAt0_B m c t h (by omega)]
    frame_out
    exact point m c t y _ (by blk_simp [idx t]) (by blk_simp [idx t])

/-- One block's part of the gain's gradient. -/
theorem part (x a b : FVec Ideal S1024x128 .f32) (j : S1x128.Idx) : k0_pay7 x a b j = ∑ k : Fin 1024, x (ix2 k (j 1)) * Ideal.rsqrt (Ideal.div (∑ l : Fin 128, x (ix2 k l) * x (ix2 k l)) (Ideal.ofBits .f32 0x43000000#32) + Ideal.ofBits .f32 0x358637BD#32) * (a (ix2 k (j 1)) + b (ix2 k (j 1))) := by
  pointwise [k0_pay7, k0_pay3, k0_pay4, k0_pay5]

/-- The parts are added up. -/
theorem step (x acc : FVec Ideal S1x128 .f32) (j : S1x128.Idx) : k0_pay2 x acc j = acc j + x j := by
  pointwise [k0_pay2]

theorem final_dg : (dats m 0 c).arrAt 5 cfg0.N = DG (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  have hN : t.val < 32 := t.isLt
  rw [after0_5, Pipeline.eq_sum_fin_of_reset_step_apply_of_flush (fun n h => (outsAt0 m c n h).2) 32 (fun _ => 0) _
    (fun t h j => by have := lt_of_lt_of_eq t.isLt N_0; rw [outsAt0_A m c t h (by omega)]; frame_out; rw [part]; exact (zero_add _).symm)
    (fun t h j => by rw [outsAt0_B m c t h (by omega)]; frame_out; rw [step, part])
    t ((flush0_5 t).mp hf) _, zero_add]
  pointwise [DG, ms, col, lane]
  refine Fin.sum_points_lanes_congr 4 fun s k ha hl => ?_
  blk_point [iblk, V, idx t, idx ⟨_, Pipeline.run_point_lt_of_flush t ((flush0_5 t).mp hf) s⟩]

end

section
open Cert.HeadKRefIdeal Cert.HeadKRefIdeal.Gen Cert.HeadKRefIdeal.Read

theorem ref_dx (x : S4096x2048.Idx → EReal) (g : S128.Idx → EReal) (a b : S4096x1024.Idx → EReal) : val_main_v44 (F := Ideal) x g a b = DX x g a b := by
  funext i
  idx_vars i
  have e : val_main_v44 (F := Ideal) x g a b (ix2 i0 i1) = val_main_v41 (F := Ideal) x g a b (ix2 i0 i1) := by
    pointwise [val_main_v44, val_main_v43, val_main_v42]
  rw [e]
  pointwise [val_main_v41, val_main_v40, val_main_v39, val_main_v38, val_main_v37, val_main_v36, val_main_v35, val_main_cst_7, val_main_v34, val_main_v33, val_main_cst_6, val_main_v32, val_main_v31, val_main_v30, val_main_v29, val_main_v28, val_main_cst_5, val_main_v27, val_main_v26, val_main_cst_4, val_main_v25, val_main_v24, val_main_v23, val_main_v22, val_main_cst_3, val_main_v21, val_main_v20, val_main_v19, val_main_v18, val_main_v17, val_main_v16, val_main_v15, val_main_v14, val_main_v13, val_main_v12, val_main_v11, val_main_cst_2, val_main_v10, val_main_v9, val_main_v8, val_main_v7, val_main_cst_1, val_main_v6, val_main_v5, val_main_cst_0, val_main_v4, val_main_v3, val_main_cst, val_main_v2, val_main_v1, val_main_v0, DX, ms, back, lane, own]
  simp only [Finset.univ_unique, Finset.sum_singleton]

theorem ref_dg (x : S4096x2048.Idx → EReal) (a b : S4096x1024.Idx → EReal) : val_main_v45 (F := Ideal) x a b = DG x a b := by
  funext i
  idx_vars i
  have e (j : S128.Idx) : val_main_v22 (F := Ideal) x a b j = ∑ r : Fin 4096, ∑ h : Fin 8, val_main_v21 (F := Ideal) x a b (ix3 r h (j 0)) := by
    refine (Sums.leading reducesTo_S4096x8x128_S128_d0_1 _ _ j).trans ?_
    pointwise [val_main_cst_3]
  have e' (j : S128.Idx) : val_main_v26 (F := Ideal) x a b j = val_main_v22 (F := Ideal) x a b j := by
    refine (Sums.leading reducesTo_S1x1x128_S128_d0_1 _ _ j).trans ?_
    pointwise [val_main_cst_4, val_main_v23]
    simp only [Finset.univ_unique, Finset.sum_singleton]
  pointwise [val_main_v45]
  rw [e', e, Finset.sum_comm]
  pointwise [val_main_v21, val_main_v20, val_main_v19, val_main_v18, val_main_v17, val_main_v16, val_main_v15, val_main_v14, val_main_v13, val_main_v12, val_main_v11, val_main_cst_2, val_main_v10, val_main_v9, val_main_v8, val_main_v7, val_main_cst_1, val_main_v6, val_main_v5, val_main_cst_0, val_main_v4, val_main_v3, val_main_cst, val_main_v2, val_main_v1, val_main_v0, DG, ms, col, lane]
  have l (h : Fin 8) (k : Fin 128) : ((h : ℕ) * 128 + (i1 : ℕ)) / 128 * 128 + (k : ℕ) = (h : ℕ) * 128 + (k : ℕ) := by omega
  simp only [l]

end

/-- The kernel and the derivative compute the same two arrays over the reals. -/
theorem algebraic : Cert.algebraic_HeadKIdeal_HeadKRefIdeal := by
  pair_intro
  · run_from Cert.HeadKIdeal.Value.run_blocks m g
  · run_from Cert.HeadKRefIdeal.Value.run m' g'
    · refine (Cert.HeadKRefIdeal.Read.val_main_v44_eq m' c).trans ?_
      rw [(hagree c).1, (hagree c).2.1, (hagree c).2.2.1, (hagree c).2.2.2]
      exact (ref_dx _ _ _ _).trans (final_dx m c).symm
    · exact (ref_dg _ _ _).trans (final_dg m c).symm

end Cert.Proof.HeadK

end
-- ==== Proof.HeadQ.lean ====
/- The gradient of the queries' norm, head by head: the kernel's two results are those of the derivative of the scaled norm. -/
module

public import proofs.«01_k».proof.Defs
public import proofs.«01_k».proof.Proof.Gen.HeadQ.Frame
public import proofs.«01_k».proof.Proof.Gen.HeadQIdeal.Value
public import proofs.«01_k».proof.Proof.Gen.HeadQRefIdeal.Read
public import proofs.«01_k».proof.Proof.Sums
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.HeadQ

/-- The kernel ends and leaves its arguments as they were. -/
theorem frame_kernel : Cert.quiescent_HeadQ := fun m ρ _ => Cert.HeadQ.Gen.frame m ρ

/-- The kernel over the reals ends and leaves its arguments as they were. -/
theorem frame_ideal : Cert.quiescent_HeadQIdeal := fun m ρ _ => Cert.HeadQIdeal.Gen.frame m ρ

/-- The reference ends and leaves its arguments as they were. -/
theorem frame_reference : Cert.quiescent_HeadQRefIdeal := fun m ρ _ =>
  (θ_run Cert.HeadQRefIdeal.defs _ _).mono
    (fun r h => ⟨fun c => (h c).2.2, sem_eq_zero_of_no_sems (by decide) r.2⟩)
    (Cert.HeadQRefIdeal.Value.run (F := Ideal) m ρ)

section
open Cert.HeadQIdeal Cert.HeadQIdeal.Gen

/-- Lane `k` of the head that column `j` belongs to. -/
def lane (j : Fin 1024) (k : Fin 128) : Fin 1024 := ⟨(j : ℕ) / 128 * 128 + (k : ℕ), by omega⟩

/-- A head's mean square in a row and the norm's small constant. -/
def ms (x : S4096x1024.Idx → EReal) (r : Fin 4096) (j : Fin 1024) : EReal := Ideal.div (∑ k : Fin 128, x (ix2 r (lane j k)) * x (ix2 r (lane j k))) (Ideal.ofBits .f32 0x43000000#32) + Ideal.ofBits .f32 0x358637BD#32

/-- What a head's mean square passes back to each of its squares. -/
def back (x : S4096x1024.Idx → EReal) (g : S128.Idx → EReal) (ct : S4096x1024.Idx → EReal) (r : Fin 4096) (j : Fin 1024) : EReal :=
  Ideal.div ((∑ k : Fin 128, x (ix2 r (lane j k)) * (ct (ix2 r (lane j k)) * (g (ix1 k) * Ideal.ofBits .f32 0x3DB504F3#32))) * (Ideal.ofBits .f32 0xBF000000#32 * Ideal.div (Ideal.rsqrt (ms x r j)) (ms x r j))) (Ideal.ofBits .f32 0x43000000#32)

/-- The gradient of the queries. -/
def DX (x : S4096x1024.Idx → EReal) (g : S128.Idx → EReal) (ct : S4096x1024.Idx → EReal) : S4096x1024.Idx → EReal := fun y =>
  ct y * (g (ix1 ⟨(y 1 : ℕ) % 128, Nat.mod_lt _ (by decide)⟩) * Ideal.ofBits .f32 0x3DB504F3#32) * Ideal.rsqrt (ms x (y 0) (y 1)) + x y * back x g ct (y 0) (y 1) + back x g ct (y 0) (y 1) * x y

/-- Column of lane `k` of head `h`. -/
def col (h : Fin 8) (k : Fin 128) : Fin 1024 := ⟨(h : ℕ) * 128 + (k : ℕ), by omega⟩

/-- The gradient of the gain. -/
def DG (x ct : S4096x1024.Idx → EReal) : S1x128.Idx → EReal := fun y => ∑ h : Fin 8, ∑ r : Fin 4096,
  x (ix2 r (col h (y 1))) * Ideal.rsqrt (ms x r (col h (y 1))) * ct (ix2 r (col h (y 1))) * Ideal.ofBits .f32 0x3DB504F3#32

/-- The scale is a nonnegative real. -/
theorem scale : ∃ r : ℝ, 0 ≤ r ∧ Ideal.ofBits .f32 0x3DB504F3#32 = ((r : ℝ) : EReal) := by
  refine ⟨(11863283 : ℝ) * 2 ^ (-27 : ℤ), by positivity, ?_⟩
  simp [Ideal.ofBits, Ideal.ieee, -EReal.coe_mul]

variable (m : (ℓ : Loc nD τ sig) → Buf (Elt Ideal) ℓ) (c : Dev nD)

theorem idx : ∀ t : Fin cfg0.N, win0_0.index t = ![t.val % 4, t.val / 4] ∧ win0_1.index t = ![t.val % 4, t.val / 4] ∧ win0_2.index t = ![0, 0] ∧ win0_3.index t = ![t.val % 4, t.val / 4] ∧ win0_4.index t = ![0, 0] :=
  (by decide +kernel : ∀ t : Fin grid0.N, _)

/-- One element of a block of the queries' gradient. -/
theorem point (t : Fin cfg0.N) (y : S1024x128.Idx) (j : S4096x1024.Idx) (h0 : (j 0 : ℕ) = t.val % 4 * 1024 + y 0) (h1 : (j 1 : ℕ) = t.val / 4 * 128 + y 1) :
    k0_pay1 (F := Ideal) (iblk m c 0 t) (k0_pay8 (F := Ideal) (iblk m c 0 t) (iblk m c 1 t) (iblk m c 2 t)) (k0_pay9 (F := Ideal) (iblk m c 0 t) (iblk m c 1 t) (iblk m c 2 t)) y
      = DX (m ((c : Thread nD τ).loc main_arg0)) (m ((c : Thread nD τ).loc main_arg1)) (m ((c : Thread nD τ).loc main_arg2)) j := by
  pointwise [k0_pay1, k0_pay3, k0_pay4, k0_pay5, k0_pay6, k0_pay8, k0_pay9, DX, ms, back, lane]
  simp only [Finset.univ_unique, Finset.sum_singleton]
  blk_point [iblk, V, idx t]

theorem final_dx : (dats m 0 c).arrAt 3 cfg0.N = DX (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : t.val < 32 := t.isLt
  rw [after0_3]
  by_cases h : t.val % 32 = 0
  · rw [outsAt0_A m c t h (by omega)]
    frame_out
    exact point m c t y _ (by blk_simp [idx t]) (by blk_simp [idx t])
  · rw [outsAt0_B m c t h (by omega)]
    frame_out
    exact point m c t y _ (by blk_simp [idx t]) (by blk_simp [idx t])

/-- One block's part of the gain's gradient. -/
theorem part (x ct : FVec Ideal S1024x128 .f32) (j : S1x128.Idx) : k0_pay7 x ct j = ∑ k : Fin 1024, x (ix2 k (j 1)) * Ideal.rsqrt (Ideal.div (∑ l : Fin 128, x (ix2 k l) * x (ix2 k l)) (Ideal.ofBits .f32 0x43000000#32) + Ideal.ofBits .f32 0x358637BD#32) * ct (ix2 k (j 1)) * Ideal.ofBits .f32 0x3DB504F3#32 := by
  obtain ⟨r, h0, e⟩ := scale
  pointwise [k0_pay7, k0_pay3, k0_pay4, k0_pay5]
  rw [e]
  exact Sums.factor _ _ (EReal.coe_nonneg.mpr h0) (EReal.coe_ne_top r)

/-- The parts are added up. -/
theorem step (x acc : FVec Ideal S1x128 .f32) (j : S1x128.Idx) : k0_pay2 x acc j = acc j + x j := by
  pointwise [k0_pay2]

theorem final_dg : (dats m 0 c).arrAt 4 cfg0.N = DG (m ((c : Thread nD τ).loc main_arg0)) (m ((c : Thread nD τ).loc main_arg2)) := by
  refine (dats m 0 c).arrAt_eq_of_covers 4 _ (by decide +kernel) fun t hf y => ?_
  blk_simp
  have hN : t.val < 32 := t.isLt
  rw [after0_4, Pipeline.eq_sum_fin_of_reset_step_apply_of_flush (fun n h => (outsAt0 m c n h).2) 32 (fun _ => 0) _
    (fun t h j => by have := lt_of_lt_of_eq t.isLt N_0; rw [outsAt0_A m c t h (by omega)]; frame_out; rw [part]; exact (zero_add _).symm)
    (fun t h j => by rw [outsAt0_B m c t h (by omega)]; frame_out; rw [step, part])
    t ((flush0_4 t).mp hf) _, zero_add]
  pointwise [DG, ms, col, lane]
  refine Fin.sum_points_lanes_congr 4 fun s k ha hl => ?_
  blk_point [iblk, V, idx t, idx ⟨_, Pipeline.run_point_lt_of_flush t ((flush0_4 t).mp hf) s⟩]

end

section
open Cert.HeadQRefIdeal Cert.HeadQRefIdeal.Gen Cert.HeadQRefIdeal.Read

theorem ref_dx (x : S4096x1024.Idx → EReal) (g : S128.Idx → EReal) (ct : S4096x1024.Idx → EReal) : val_main_v44 (F := Ideal) x g ct = DX x g ct := by
  funext i
  idx_vars i
  pointwise [val_main_v44, val_main_v43, val_main_v42, val_main_v41, val_main_v40, val_main_v39, val_main_v38, val_main_v37, val_main_cst_9, val_main_v36, val_main_v35, val_main_cst_8, val_main_v34, val_main_v33, val_main_v32, val_main_v31, val_main_v30, val_main_cst_7, val_main_v29, val_main_v27, val_main_v26, val_main_v22, val_main_v21, val_main_cst_4, val_main_v20, val_main_v14, val_main_v11, val_main_v10, val_main_cst_2, val_main_v9, val_main_v8, val_main_v7, val_main_v6, val_main_cst_1, val_main_v5, val_main_v4, val_main_cst_0, val_main_v3, val_main_v2, val_main_cst, val_main_v1, val_main_v0, DX, ms, back, lane]
  simp only [Finset.univ_unique, Finset.sum_singleton]
  have e (a b : EReal) : a * Ideal.ofBits .f32 0x3DB504F3#32 * b = a * (b * Ideal.ofBits .f32 0x3DB504F3#32) := by rw [mul_assoc, mul_comm (Ideal.ofBits .f32 0x3DB504F3#32)]
  simp only [e]

theorem ref_dg (x ct : S4096x1024.Idx → EReal) : val_main_v45 (F := Ideal) x ct = DG x ct := by
  funext i
  idx_vars i
  have e (j : S128.Idx) : val_main_v24 (F := Ideal) x ct j = ∑ r : Fin 4096, ∑ h : Fin 8, val_main_v23 (F := Ideal) x ct (ix3 r h (j 0)) := by
    refine (Sums.leading reducesTo_S4096x8x128_S128_d0_1 _ _ j).trans ?_
    pointwise [val_main_cst_5]
  have e' (j : S128.Idx) : val_main_v28 (F := Ideal) x ct j = val_main_v24 (F := Ideal) x ct j := by
    refine (Sums.leading reducesTo_S1x1x128_S128_d0_1 _ _ j).trans ?_
    pointwise [val_main_cst_6, val_main_v25]
    simp only [Finset.univ_unique, Finset.sum_singleton]
  pointwise [val_main_v45]
  rw [e', e, Finset.sum_comm]
  pointwise [val_main_v23, val_main_v22, val_main_v21, val_main_cst_4, val_main_v20, val_main_v13, val_main_v12, val_main_v8, val_main_v7, val_main_v6, val_main_cst_1, val_main_v5, val_main_v4, val_main_cst_0, val_main_v3, val_main_v2, val_main_cst, val_main_v1, val_main_v0, DG, ms, col, lane]
  have l (h : Fin 8) (k : Fin 128) : ((h : ℕ) * 128 + (i1 : ℕ)) / 128 * 128 + (k : ℕ) = (h : ℕ) * 128 + (k : ℕ) := by omega
  simp only [← mul_assoc, l]

end

/-- The kernel and the derivative compute the same two arrays over the reals. -/
theorem algebraic : Cert.algebraic_HeadQIdeal_HeadQRefIdeal := by
  pair_intro
  · run_from Cert.HeadQIdeal.Value.run_blocks m g
  · run_from Cert.HeadQRefIdeal.Value.run m' g'
    · refine (Cert.HeadQRefIdeal.Read.val_main_v44_eq m' c).trans ?_
      rw [(hagree c).1, (hagree c).2.1, (hagree c).2.2]
      exact (ref_dx _ _ _).trans (final_dx m c).symm
    · exact (ref_dg _ _).trans (final_dg m c).symm

end Cert.Proof.HeadQ

end
-- ==== Proof.Gates.lean ====
/- The gradient of the recurrence's decay and write strength: the kernel's three results are those of the derivative, where the decay's argument is not zero. -/
module

public import proofs.«01_k».proof.Defs
public import proofs.«01_k».proof.Proof.Gen.GatesBwd.Frame
public import proofs.«01_k».proof.Proof.Gen.GatesBwdIdeal.Value
public import proofs.«01_k».proof.Proof.Gen.GatesRefIdeal.Read
public import proofs.«01_k».proof.Proof.Gen.Pre_defined_gates
public import proofs.«01_k».proof.Proof.Finite
public import proofs.«01_k».proof.Proof.Sums
public import Idealize.ShloMosaic.Lib.KernelVsHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Gates

/-- The kernel ends and leaves its arguments as they were. -/
theorem frame_kernel : Cert.quiescent_GatesBwd := fun m ρ _ => Cert.GatesBwd.Gen.frame m ρ

/-- The kernel over the reals ends and leaves its arguments as they were. -/
theorem frame_ideal : Cert.quiescent_GatesBwdIdeal := fun m ρ _ => Cert.GatesBwdIdeal.Gen.frame m ρ

/-- The reference ends and leaves its arguments as they were. -/
theorem frame_reference : Cert.quiescent_GatesRefIdeal := fun m ρ _ =>
  (θ_run Cert.GatesRefIdeal.defs _ _).mono
    (fun r h => ⟨fun c => (h c).2.2.2, sem_eq_zero_of_no_sems (by decide) r.2⟩)
    (Cert.GatesRefIdeal.Value.run (F := Ideal) m ρ)

/-- The exponential of the negated absolute value. -/
def ex (x : EReal) : EReal := Ideal.exp (-(max x (-x)))

/-- The softplus function. -/
def sp (x : EReal) : EReal := max x 0 + Ideal.log (1 + ex x)

/-- The softplus function's gradient as the kernel computes it: the part of the logarithm, and of the maximum. -/
def kd (G x : EReal) : EReal :=
  ((if 0 ≤ x then -(Ideal.div G (1 + ex x) * ex x) else 0) + -(if 0 ≤ x then 0 else -(Ideal.div G (1 + ex x) * ex x)))
    + G * (if 0 < x then 1 else if x = 0 then Ideal.ofBits .f32 1056964608#32 else 0)

/-- The softplus function's gradient as the derivative gives it. -/
def rd (G x : EReal) : EReal := G * Ideal.exp ((if x = ⊤ then 0 else x) - (if sp x = ⊤ then 0 else sp x))

theorem ex_coe (a : ℝ) : ex (a : EReal) = ((Real.exp (-|a|) : ℝ) : EReal) := by
  rw [ex, ← EReal.coe_neg, show max (a : EReal) ((-a : ℝ) : EReal) = ((|a| : ℝ) : EReal) by rw [abs_eq_max_neg]; exact (EReal.coe_strictMono.monotone.map_max).symm, ← EReal.coe_neg, Ideal.exp_coe]

theorem sp_coe (a : ℝ) : sp (a : EReal) = ((max a 0 + Real.log (1 + Real.exp (-|a|)) : ℝ) : EReal) := by
  rw [sp, ex_coe, ← EReal.coe_one, ← EReal.coe_add, Ideal.log_coe, if_neg (not_le.mpr (by positivity)), ← EReal.coe_zero, EReal.coe_add]
  exact congrArg (· + _) (EReal.coe_strictMono.monotone.map_max).symm

theorem sp_top : sp ⊤ = ⊤ := by
  rw [sp, ex, EReal.neg_top, max_eq_left bot_le, EReal.neg_top, Ideal.exp_bot, add_zero, max_eq_left le_top, ← EReal.coe_one, Ideal.log_coe, if_neg (not_le.mpr one_pos)]
  exact EReal.top_add_coe _

theorem sp_bot : sp ⊥ = 0 := by
  rw [sp, max_eq_right bot_le, ex, EReal.neg_bot, max_eq_right bot_le, EReal.neg_top, Ideal.exp_bot, add_zero, ← EReal.coe_one, Ideal.log_coe, if_neg (not_le.mpr one_pos), Real.log_one,
    EReal.coe_zero, add_zero]

/-- Away from zero the two gradients agree. -/
theorem kd_eq (g : ℝ) {x : EReal} (hx : x ≠ 0) : kd g x = rd g x := by
  induction x with
  | bot =>
    have e : ex ⊥ = 0 := by rw [ex, EReal.neg_bot, max_eq_right bot_le, EReal.neg_top, Ideal.exp_bot]
    simp [kd, rd, sp_bot, e]
  | top =>
    have e : ex ⊤ = 0 := by rw [ex, EReal.neg_top, max_eq_left bot_le, EReal.neg_top, Ideal.exp_bot]
    simp [kd, rd, sp_top, e, show Ideal.exp 0 = 1 by rw [← EReal.coe_zero, Ideal.exp_coe, Real.exp_zero, EReal.coe_one]]
  | coe a =>
    have ha : a ≠ 0 := fun h => hx (by rw [h, EReal.coe_zero])
    have hp : (1 : ℝ) + Real.exp (-|a|) ≠ 0 := by positivity
    rw [kd, rd, if_neg (EReal.coe_ne_top _), sp_coe, if_neg (EReal.coe_ne_top _), ex_coe, ← EReal.coe_one, ← EReal.coe_add, Ideal.div_coe hp, ← EReal.coe_sub, Ideal.exp_coe]
    rcases lt_or_gt_of_ne ha with h | h
    · rw [if_neg (by norm_cast; linarith), if_neg (by norm_cast; linarith), if_neg (by norm_cast; linarith), if_neg (by norm_cast)]
      have hp' : (0 : ℝ) < 1 + Real.exp a := by positivity
      rw [abs_of_neg h, max_eq_right h.le, neg_neg, neg_neg, zero_add, zero_add, Real.exp_sub, Real.exp_log hp', mul_zero, add_zero]
      norm_cast
      ring
    · rw [if_pos (by norm_cast; linarith), if_pos (by norm_cast; linarith), if_pos (by norm_cast)]
      have h1 : Real.exp (a - (a + Real.log (1 + Real.exp (-a)))) = 1 / (1 + Real.exp (-a)) := by
        rw [show a - (a + Real.log (1 + Real.exp (-a))) = -Real.log (1 + Real.exp (-a)) by ring, Real.exp_neg, Real.exp_log (by positivity), one_div]
      have hp' : (1 : ℝ) + Real.exp (-a) ≠ 0 := by positivity
      rw [abs_of_pos h, max_eq_left h.le, h1, neg_zero, add_zero]
      norm_cast
      field_simp
      ring

/-- The logistic function's gradient as the kernel computes it. -/
theorem db_eq (d b : EReal) : -(-(d * Ideal.div 1 ((1 + Ideal.exp (-b)) * (1 + Ideal.exp (-b)))) * Ideal.exp (-b)) = d * (sg b * (1 - sg b)) := by
  rw [EReal.neg_mul, neg_neg, mul_assoc]
  congr 1
  have h1 : (1 : EReal) - 1 = 0 := by rw [← EReal.coe_one, ← EReal.coe_sub, sub_self, EReal.coe_zero]
  induction b with
  | bot =>
    rw [sg_bot, EReal.neg_bot, Ideal.exp_top, EReal.add_top_of_ne_bot (by decide), EReal.top_mul_top, Ideal.div, if_neg (by decide), EReal.inv_top, mul_zero, zero_mul, zero_mul]
  | top => rw [sg_top, EReal.neg_top, Ideal.exp_bot, mul_zero, h1, mul_zero]
  | coe b =>
    have hp : (1 : ℝ) + Real.exp (-b) ≠ 0 := by positivity
    rw [sg_coe, ← EReal.coe_neg, Ideal.exp_coe, ← EReal.coe_one, ← EReal.coe_add, ← EReal.coe_mul, Ideal.div_coe (mul_ne_zero hp hp)]
    norm_cast
    field_simp
    ring

abbrev Ab := FVec Ideal Cert.GatesRefIdeal.S16x4096 .f32
abbrev Hd := FVec Ideal Cert.GatesRefIdeal.S8 .f32
abbrev Ct := FVec Ideal Cert.GatesRefIdeal.S8x4096 .f32

/-- The decay's argument. -/
def X (ab : Ab) (dt : Hd) (h : Fin 8) (r : Fin 4096) : EReal := ab (ix2 ⟨h.val, by omega⟩ r) + dt (ix1 h)

/-- The cotangent of the softplus. -/
def G (al : Hd) (dg : Ct) (h : Fin 8) (r : Fin 4096) : EReal := -Ideal.exp (al (ix1 h)) * dg (ix2 h r)

/-- The gradient of the two gates' arguments, by the softplus function's gradient. -/
def AB (f : EReal → EReal → EReal) (ab : Ab) (al dt : Hd) (dg db : Ct) (h : Fin 16) (r : Fin 4096) : EReal :=
  if hh : h.val < 8 then f (G al dg ⟨h, hh⟩ r) (X ab dt ⟨h, hh⟩ r)
  else db (ix2 ⟨h.val - 8, by omega⟩ r) * (sg (ab (ix2 h r)) * (1 - sg (ab (ix2 h r))))

/-- The gradient of the decay's scale. -/
def AL (ab : Ab) (al dt : Hd) (dg : Ct) (h : Fin 8) : EReal := -(∑ r : Fin 4096, dg (ix2 h r) * sp (X ab dt h r)) * Ideal.exp (al (ix1 h))

/-- The gradient of the decay's offset, by the softplus function's gradient. -/
def DT (f : EReal → EReal → EReal) (ab : Ab) (al dt : Hd) (dg : Ct) (h : Fin 8) : EReal := ∑ r : Fin 4096, f (G al dg h r) (X ab dt h r)

section
open Cert.GatesBwdIdeal Cert.GatesBwdIdeal.Gen

theorem pay3_at (v0 : Vec Ideal S16x4096 .f32) (v3 : Vec Ideal S8x1 .f32) (h : Fin 8) (r : Fin 4096) :
    k0_pay3 (F := Ideal) v0 v3 (ix2 h r) = v0 (ix2 ⟨h.val, by omega⟩ r) + v3 (ix2 h 0) := by
  pointwise [k0_pay3]

theorem pay11_at (v0 : Vec Ideal S16x4096 .f32) (v1 v3 : Vec Ideal S8x1 .f32) (d : Vec Ideal S8x4096 .f32) (h : Fin 8) (r : Fin 4096) :
    k0_pay11 (F := Ideal) (k0_pay2 v1) (k0_pay4 v0 v3) (k0_pay5 v0 v3) (k0_pay6 v0 v3) (k0_pay7 v0 v3) d (ix2 h r)
      = kd (-Ideal.exp (v1 (ix2 h 0)) * d (ix2 h r)) (v0 (ix2 ⟨h.val, by omega⟩ r) + v3 (ix2 h 0)) := by
  rw [← pay3_at, kd]
  pointwise [k0_pay11, k0_pay2, k0_pay4, k0_pay5, k0_pay6, k0_pay7, k0_pay1, ex, zero_sub]
  rfl

theorem pay14_at (v0 : Vec Ideal S16x4096 .f32) (v1 v3 : Vec Ideal S8x1 .f32) (d db : Vec Ideal S8x4096 .f32) (h : Fin 16) (r : Fin 4096) :
    k0_pay14 (F := Ideal) (k0_pay2 v1) (k0_pay4 v0 v3) (k0_pay5 v0 v3) (k0_pay6 v0 v3) (k0_pay7 v0 v3) (k0_pay9 v0) (k0_pay10 v0) d db (ix2 h r)
      = if hh : h.val < 8 then kd (-Ideal.exp (v1 (ix2 ⟨h, hh⟩ 0)) * d (ix2 ⟨h, hh⟩ r)) (v0 (ix2 h r) + v3 (ix2 ⟨h, hh⟩ 0))
        else db (ix2 ⟨h.val - 8, by omega⟩ r) * (sg (v0 (ix2 h r)) * (1 - sg (v0 (ix2 h r)))) := by
  pointwise [k0_pay14, k0_pay9, k0_pay10]
  by_cases hh : h.val < 8
  · simp only [dif_pos hh]
    rw [zero_add]
    exact pay11_at v0 v1 v3 d ⟨h, hh⟩ r
  · have e : (⟨8 + (h.val - 8), by omega⟩ : Fin 16) = h := Fin.ext (by show 8 + (h.val - 8) = h.val; omega)
    simp only [dif_neg hh]
    rw [add_zero, ← db_eq]
    simp only [zero_sub, e]

theorem pay13_at (v0 : Vec Ideal S16x4096 .f32) (v1 v3 : Vec Ideal S8x1 .f32) (d : Vec Ideal S8x4096 .f32) (h : Fin 8) :
    k0_pay13 (F := Ideal) (k0_pay1 v1) (k0_pay8 v0 v3) d (ix2 h 0)
      = -(∑ r : Fin 4096, d (ix2 h r) * sp (v0 (ix2 ⟨h.val, by omega⟩ r) + v3 (ix2 h 0))) * Ideal.exp (v1 (ix2 h 0)) := by
  pointwise [k0_pay13, k0_pay1, k0_pay8, k0_pay7, k0_pay6, zero_sub]
  simp only [pay3_at]
  rfl

theorem pay12_at (v0 : Vec Ideal S16x4096 .f32) (v1 v3 : Vec Ideal S8x1 .f32) (d : Vec Ideal S8x4096 .f32) (h : Fin 8) :
    k0_pay12 (F := Ideal) (k0_pay2 v1) (k0_pay4 v0 v3) (k0_pay5 v0 v3) (k0_pay6 v0 v3) (k0_pay7 v0 v3) d (ix2 h 0)
      = ∑ r : Fin 4096, kd (-Ideal.exp (v1 (ix2 h 0)) * d (ix2 h r)) (v0 (ix2 ⟨h.val, by omega⟩ r) + v3 (ix2 h 0)) := by
  refine Eq.trans ?_ (Finset.sum_congr rfl fun r _ => pay11_at v0 v1 v3 d h r)
  pointwise [k0_pay12]

variable (m : (ℓ : Loc nD τ sig) → Buf (Elt Ideal) ℓ) (c : Dev nD)

/-- The arguments. -/
abbrev ab : Ab := m ((c.tc : Thread nD τ).loc main_arg0)
abbrev al : Hd := m ((c.tc : Thread nD τ).loc main_arg1)
abbrev dt : Hd := m ((c.tc : Thread nD τ).loc main_arg2)
abbrev dg : Ct := m ((c.tc : Thread nD τ).loc main_arg3)
abbrev db : Ct := m ((c.tc : Thread nD τ).loc main_arg4)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

theorem read_ab (t : Fin cfg0.N) (h : Fin 16) (r : Fin 4096) : View.ld (iblk m c 0 t) r0_0 (ix2 h r) = ab m c (ix2 h r) := by
  blk_point [iblk, V, idx t]

theorem read_al (t : Fin cfg0.N) (h : Fin 8) : View.ld (iblk m c 1 t) r0_1 (ix2 h 0) = al m c (ix1 h) := by
  have e : (win0_1.blk t).view.emb (ix2 h 0) = ix2 h 0 := by
    funext a
    fin_cases a <;> exact Fin.ext (by blk_simp [idx t])
  blk_simp [iblk, V]
  entry_read
  pointwise
  show broadcastInDim S8x1 ![0] bcast_S8_S8x1_0 (al m c) ((win0_1.blk t).view.emb (ix2 h 0)) = _
  rw [e]
  pointwise

theorem read_dt (t : Fin cfg0.N) (h : Fin 8) : View.ld (iblk m c 2 t) r0_1 (ix2 h 0) = dt m c (ix1 h) := by
  have e : (win0_2.blk t).view.emb (ix2 h 0) = ix2 h 0 := by
    funext a
    fin_cases a <;> exact Fin.ext (by blk_simp [idx t])
  blk_simp [iblk, V]
  entry_read
  pointwise
  show broadcastInDim S8x1 ![0] bcast_S8_S8x1_0 (dt m c) ((win0_2.blk t).view.emb (ix2 h 0)) = _
  rw [e]
  pointwise

theorem read_dg (t : Fin cfg0.N) (h : Fin 8) (r : Fin 4096) : View.ld (iblk m c 3 t) r0_2 (ix2 h r) = dg m c (ix2 h r) := by
  blk_point [iblk, V, idx t]

theorem read_db (t : Fin cfg0.N) (h : Fin 8) (r : Fin 4096) : View.ld (iblk m c 4 t) r0_2 (ix2 h r) = db m c (ix2 h r) := by
  blk_point [iblk, V, idx t]

theorem point_ab (t : Fin cfg0.N) (h : Fin 16) (r : Fin 4096) :
    k0_pay14 (F := Ideal) (k0_pay2 (View.ld (iblk m c 1 t) r0_1)) (k0_pay4 (View.ld (iblk m c 0 t) r0_0) (View.ld (iblk m c 2 t) r0_1)) (k0_pay5 (View.ld (iblk m c 0 t) r0_0) (View.ld (iblk m c 2 t) r0_1)) (k0_pay6 (View.ld (iblk m c 0 t) r0_0) (View.ld (iblk m c 2 t) r0_1))
        (k0_pay7 (View.ld (iblk m c 0 t) r0_0) (View.ld (iblk m c 2 t) r0_1))
        (k0_pay9 (View.ld (iblk m c 0 t) r0_0)) (k0_pay10 (View.ld (iblk m c 0 t) r0_0)) (View.ld (iblk m c 3 t) r0_2) (View.ld (iblk m c 4 t) r0_2) (ix2 h r)
      = AB kd (ab m c) (al m c) (dt m c) (dg m c) (db m c) h r := by
  refine (pay14_at _ _ _ _ _ _ _).trans ?_
  unfold AB
  split_ifs with hh
  · simp only [read_al, read_dg, read_dt, read_ab]
    rfl
  · simp only [read_ab, read_db]

theorem point_al (t : Fin cfg0.N) (h : Fin 8) :
    k0_pay13 (F := Ideal) (k0_pay1 (View.ld (iblk m c 1 t) r0_1)) (k0_pay8 (View.ld (iblk m c 0 t) r0_0) (View.ld (iblk m c 2 t) r0_1)) (View.ld (iblk m c 3 t) r0_2) (ix2 h 0)
      = AL (ab m c) (al m c) (dt m c) (dg m c) h := by
  refine (pay13_at _ _ _ _ _).trans ?_
  simp only [read_ab, read_dt, read_al, read_dg]
  rfl

theorem point_dt (t : Fin cfg0.N) (h : Fin 8) :
    k0_pay12 (F := Ideal) (k0_pay2 (View.ld (iblk m c 1 t) r0_1)) (k0_pay4 (View.ld (iblk m c 0 t) r0_0) (View.ld (iblk m c 2 t) r0_1)) (k0_pay5 (View.ld (iblk m c 0 t) r0_0) (View.ld (iblk m c 2 t) r0_1)) (k0_pay6 (View.ld (iblk m c 0 t) r0_0) (View.ld (iblk m c 2 t) r0_1))
        (k0_pay7 (View.ld (iblk m c 0 t) r0_0) (View.ld (iblk m c 2 t) r0_1)) (View.ld (iblk m c 3 t) r0_2) (ix2 h 0)
      = DT kd (ab m c) (al m c) (dt m c) (dg m c) h := by
  refine (pay12_at _ _ _ _ _).trans ?_
  simp only [read_ab, read_dt, read_al, read_dg]
  rfl

theorem final_ab : (dats m 0 c).arrAt 5 cfg0.N = fun y => AB kd (ab m c) (al m c) (dt m c) (dg m c) (db m c) (y 0) (y 1) := by
  refine (dats m 0 c).arrAt_eq_of_covers 5 _ (by decide +kernel) fun t hf y => ?_
  blk_simp
  rw [after0_5]
  unfold_out out0_5
  canon_tiles x h
  rw [eq_ix2 x]
  refine (point_ab m c t _ _).trans ?_
  exact congrArg₂ (AB kd (ab m c) (al m c) (dt m c) (dg m c) (db m c)) (Fin.ext (by blk_simp [idx t]; omega)) (Fin.ext (by blk_simp [idx t]; omega))

theorem final_al : (dats m 0 c).arrAt 6 cfg0.N = fun y => AL (ab m c) (al m c) (dt m c) (dg m c) (y 0) := by
  refine (dats m 0 c).arrAt_eq_of_covers 6 _ (by decide +kernel) fun t hf y => ?_
  blk_simp
  rw [after0_6]
  unfold_out out0_6
  canon_tiles x h
  rw [eq_ix2 x]
  have h1 : x 1 = (0 : Fin 1) := Subsingleton.elim (α := Fin 1) _ _
  rw [h1]
  refine (point_al m c t _).trans ?_
  exact congrArg (AL (ab m c) (al m c) (dt m c) (dg m c)) (Fin.ext (by blk_simp [idx t]; omega))

theorem final_dt : (dats m 0 c).arrAt 7 cfg0.N = fun y => DT kd (ab m c) (al m c) (dt m c) (dg m c) (y 0) := by
  refine (dats m 0 c).arrAt_eq_of_covers 7 _ (by decide +kernel) fun t hf y => ?_
  blk_simp
  rw [after0_7]
  unfold_out out0_7
  canon_tiles x h
  rw [eq_ix2 x]
  have h1 : x 1 = (0 : Fin 1) := Subsingleton.elim (α := Fin 1) _ _
  rw [h1]
  refine (point_dt m c t _).trans ?_
  exact congrArg (DT kd (ab m c) (al m c) (dt m c) (dg m c)) (Fin.ext (by blk_simp [idx t]; omega))

end

section
open Cert.GatesRefIdeal Cert.GatesRefIdeal.Gen Cert.GatesRefIdeal.Read
variable (x0 : Ab) (x1 x2 : Hd) (x3 x4 : Ct)

theorem v17_at (h : Fin 8) (r : Fin 4096) : val_main_v17 (F := Ideal) x0 x2 (ix2 r h) = X x0 x2 h r := by
  unfold X
  pointwise [val_main_v17, val_main_v1, val_main_v0, val_main_v16, val_main_v15]

theorem v18_at (h : Fin 8) (r : Fin 4096) : val_main_v18_0 (F := Ideal) x0 x2 (ix2 r h) = sp (X x0 x2 h r) := by
  rw [← v17_at, sp, ex]
  pointwise [val_main_v18_0, val_main_call0_v4, val_main_call0_v6, val_main_call0_v11, val_main_call0_v1, val_main_call0_v10, val_main_call0_v9, val_main_call0_v8, val_main_call0_v7, val_main_call0_v3, val_main_call0_v2, val_main_call0_v5, val_main_call0_v0, val_main_call0_cst]
  exact if_neg (fun h => h rfl)

theorem v32_at (h : Fin 8) (r : Fin 4096) : val_main_v32 (F := Ideal) x0 x1 x2 x3 (ix2 r h) = rd (G x1 x3 h r) (X x0 x2 h r) := by
  have ht : Ideal.ofBits .f32 2139095040#32 = ⊤ := by simp [Ideal.ofBits, Ideal.ieee]
  pointwise [val_main_v32, val_main_v27, val_main_v26, val_main_v19, val_main_v14, val_main_v13, val_main_v25, val_main_v18_1, val_main_call0_v21, val_main_call0_v16, val_main_call0_v20, val_main_call0_v18, val_main_call0_v14, val_main_call0_v13, val_main_call0_v15, val_main_call0_v17, val_main_call0_v19, val_main_call0_cst_0, val_main_call0_cst_1, val_main_call0_cst_2, val_main_call0_cst_3]
  rw [v17_at, v18_at, ht]
  rfl

theorem v38_at (h : Fin 8) (r : Fin 4096) : val_main_v38 (F := Ideal) x0 x4 (ix2 r h) = x4 (ix2 h r) * (sg (x0 (ix2 ⟨8 + h.val, by omega⟩ r)) * (1 - sg (x0 (ix2 ⟨8 + h.val, by omega⟩ r)))) := by
  pointwise [val_main_v38, val_main_v24, val_main_v12, val_main_v11, val_main_v10, val_main_v9, val_main_v8, val_main_v7, val_main_v6, val_main_v5, val_main_v4, val_main_v3, val_main_v2, val_main_cst, val_main_cst_0, val_main_cst_1, sg]

theorem ref_ab : val_main_v43 (F := Ideal) x0 x1 x2 x3 x4 = fun y => AB rd x0 x1 x2 x3 x4 (y 0) (y 1) := by
  funext y
  idx_vars y
  show _ = AB rd x0 x1 x2 x3 x4 y0 y1
  unfold AB
  pointwise [val_main_v43, val_main_v40, val_main_v42, val_main_v41, val_main_v39, val_main_cst_6, val_main_cst_7]
  simp only [v38_at, v32_at]
  split_ifs with h h' h'
  · omega
  · have e : (⟨8 + (y0.val - 8), by omega⟩ : Fin 16) = y0 := Fin.ext (by show 8 + (y0.val - 8) = y0.val; omega)
    rw [add_zero, e]
  · rw [zero_add]
  · omega

theorem ref_al : val_main_v44 (F := Ideal) x0 x1 x2 x3 = fun y => AL x0 x1 x2 x3 (y 0) := by
  funext y
  idx_vars y
  show _ = AL x0 x1 x2 x3 y0
  unfold AL
  pointwise [val_main_v44, val_main_v37, val_main_v36, val_main_v13, val_main_v31, val_main_cst_3, val_main_v30, val_main_v29, val_main_cst_2, val_main_v28, val_main_v25]
  simp only [Finset.univ_unique, Finset.sum_singleton, v18_at]

theorem ref_dt : val_main_v45 (F := Ideal) x0 x1 x2 x3 = fun y => DT rd x0 x1 x2 x3 (y 0) := by
  funext y
  idx_vars y
  show _ = DT rd x0 x1 x2 x3 y0
  unfold DT
  pointwise [val_main_v45, val_main_v35, val_main_cst_5, val_main_v34, val_main_v33, val_main_cst_4]
  simp only [Finset.univ_unique, Finset.sum_singleton, v32_at]
end

instance : Subsingleton Cert.Pre_defined_gates.S_.Idx := ⟨fun _ _ => funext fun a => a.elim0⟩

attribute [local instance] Cert.Pre_defined_gates.Gen.facts

/-- What the claim asks for: a real scale, a real cotangent of the decay, and a decay's argument that is not zero. -/
theorem defined (x0 : Ab) (x1 x2 : Hd) (x3 x4 : Ct) (h : Cert.Pre_defined_gates.fn (F := Ideal) x0 x1 x2 x3 x4 = fun _ => 1#1) :
    (∀ y, x1 y ≠ ⊤ ∧ x1 y ≠ ⊥) ∧ (∀ y, x3 y ≠ ⊤ ∧ x3 y ≠ ⊥) ∧ ∀ h r, X x0 x2 h r ≠ 0 := by
  have h2 := and_one (congrFun h (fun a => a.elim0))
  have h1 := and_one h2.1
  refine ⟨fun y => finite_of_lt (Host.reduce_andi_all _ _ _ _ _ h1.1 y), fun y => finite_of_lt (Host.reduce_andi_all _ _ _ _ _ h1.2 y), fun h r => ?_⟩
  have h3 := Host.reduce_andi_all _ _ _ _ _ h2.2 (ix2 h r)
  have e : extractStridedSlice Cert.Pre_defined_gates.S8x4096 ![0, 0] x0 Cert.Pre_defined_gates.Gen.slices_S16x4096_S8x4096_0_0 (ix2 h r)
      + broadcastInDim Cert.Pre_defined_gates.S8x4096 ![0, 1] Cert.Pre_defined_gates.Gen.bcast_S8x1_S8x4096_0_1
        (broadcastInDim Cert.Pre_defined_gates.S8x1 ![0] Cert.Pre_defined_gates.Gen.bcast_S8_S8x1_0 x2) (ix2 h r) = X x0 x2 h r := by
    unfold X
    pointwise
  intro hx
  have h4 : Ideal.cmp .une (X x0 x2 h r) (Ideal.ofBits .f32 0x00000000#32) = 1#1 := by
    rw [← e]
    exact h3
  rw [hx, Ideal.ofBits_zero_f32] at h4
  exact absurd h4 (by simp [Ideal.cmp])

/-- The two gradients of the softplus agree under what the claim asks for. -/
theorem step {x0 : Ab} {x1 x2 : Hd} {x3 x4 : Ct} (h : Cert.Pre_defined_gates.fn (F := Ideal) x0 x1 x2 x3 x4 = fun _ => 1#1) (j : Fin 8) (r : Fin 4096) :
    kd (G x1 x3 j r) (X x0 x2 j r) = rd (G x1 x3 j r) (X x0 x2 j r) := by
  have h := defined _ _ _ _ _ h
  obtain ⟨a, ha⟩ := real_of (h.1 (ix1 j))
  obtain ⟨d, hd⟩ := real_of (h.2.1 (ix2 j r))
  have hg : G x1 x3 j r = ((-Real.exp a * d : ℝ) : EReal) := by rw [G, ha, hd, Ideal.exp_coe, EReal.coe_mul, EReal.coe_neg]
  rw [hg]
  exact kd_eq _ (h.2.2 j r)

/-- The kernel and the derivative compute the same three arrays over the reals. -/
theorem algebraic : Cert.algebraic_GatesBwdIdeal_GatesRefIdeal_pre_defined_gates := by
  pair_intro
  · run_from Cert.GatesBwdIdeal.Value.run_blocks m g
  · run_from Cert.GatesRefIdeal.Value.run m' g'
    · refine (Cert.GatesRefIdeal.Read.val_main_v43_eq m' c).trans ?_
      rw [(hagree c).1, (hagree c).2.1, (hagree c).2.2.1, (hagree c).2.2.2.1, (hagree c).2.2.2.2]
      refine (ref_ab _ _ _ _ _).trans (Eq.trans (funext fun y => ?_) (final_ab m c).symm)
      unfold AB
      split_ifs with hh
      · exact (step (hpre c) _ _).symm
      · rfl
    · exact (ref_al _ _ _ _).trans (final_al m c).symm
    · refine (ref_dt _ _ _ _).trans (Eq.trans (funext fun y => ?_) (final_dt m c).symm)
      rw [(hagree c).1, (hagree c).2.1, (hagree c).2.2.1, (hagree c).2.2.2.1]
      exact Finset.sum_congr rfl fun r _ => (step (hpre c) _ _).symm

end Cert.Proof.Gates

end
-- ==== Proof.Shift.lean ====
/- A column moved down by some rows, and the kernel's rotation with its first rows cleared. -/
module

public import Idealize.ShloMosaic.Lib.KernelVsHost
public import Idealize.ShloMosaic.Lib.Claim
public import Idealize.ShloMosaic.Lib.Affine
public import Idealize.ShloMosaic.Lib.Pointwise

@[expose] public section

set_option maxRecDepth 16384

noncomputable section

open Idealize.ShloMosaic Idealize.ShloMosaic.TcCoe Idealize.SL.Sem

namespace Cert.Proof.Conv

/-- A column's value `d` rows earlier, nothing before the first row. -/
def pv (f : Fin 4096 → EReal) (d : ℕ) (r : Fin 4096) : EReal := if h : d ≤ r.val then f ⟨r.val - d, by omega⟩ else 0

/-- A small row number as a signed word. -/
theorem toInt_row {n : ℕ} (h : n ≤ 4096) : (BitVec.ofNat 32 n).toInt = (n : ℤ) := by
  rw [BitVec.toInt_eq_toNat_of_lt (by rw [BitVec.toNat_ofNat]; omega), BitVec.toNat_ofNat, Nat.mod_eq_of_lt (by omega)]

/-- A rotation down with its first rows cleared. -/
theorem rot_dn (f : Fin 4096 → EReal) (r : Fin 4096) (d : ℕ) (hd : d < 4096) (h : (r.val + 4096 - d) % 4096 < 4096) :
    Scalar.select (IntOp.cmpi .sge (BitVec.ofNat 32 r.val) (BitVec.ofNat 32 d)) (f ⟨(r.val + 4096 - d) % 4096, h⟩) 0 = pv f d r := by
  have hr := r.isLt
  unfold Scalar.select pv
  have e : (IntOp.cmpi .sge (BitVec.ofNat 32 r.val) (BitVec.ofNat 32 d) = 1#1) ↔ d ≤ r.val := by
    rw [IntOp.cmpi_sge, toInt_row (by omega), toInt_row (by omega)]
    omega
  by_cases hc : d ≤ r.val
  · rw [dif_pos hc]
    refine (if_pos (e.mpr hc)).trans ?_
    exact congrArg f (Fin.ext (by show (r.val + 4096 - d) % 4096 = r.val - d; omega))
  · rw [dif_neg hc]
    exact if_neg (fun h => hc (e.mp h))

/-- A column moved by no row. -/
theorem pv_zero (f : Fin 4096 → EReal) (r : Fin 4096) : pv f 0 r = f r := dif_pos (Nat.zero_le _)

/-- A factor may be multiplied before the move. -/
theorem pv_mul (f : Fin 4096 → EReal) (d : ℕ) (r : Fin 4096) (a : EReal) : pv f d r * a = pv (fun k => f k * a) d r := by
  unfold pv
  split_ifs
  · rfl
  · exact zero_mul a

/-- The reference's shifted column: zeros, then the column. -/
theorem pv_of (f : Fin 4096 → EReal) (d : ℕ) (r : Fin 4096) (h : ¬r.val < d → r.val - d < 4096) :
    (if hr : r.val < d then 0 else f ⟨r.val - d, h hr⟩) = pv f d r := by
  unfold pv
  by_cases hd : d ≤ r.val
  · rw [dif_pos hd, dif_neg (by omega)]
  · rw [dif_neg hd, dif_pos (by omega)]

end Cert.Proof.Conv

end
-- ==== Proof.Conv.lean ====
/- The gradient of the short causal convolution and of its gate: the kernel's two results are those of the derivative, of a finite cotangent. -/
module

public import proofs.«01_k».proof.Defs
public import proofs.«01_k».proof.Proof.Gen.ConvBwd.Frame
public import proofs.«01_k».proof.Proof.Gen.ConvBwdIdeal.Value
public import proofs.«01_k».proof.Proof.Gen.ConvRefIdeal.Read
public import proofs.«01_k».proof.Proof.Finite
public import proofs.«01_k».proof.Proof.Shift
public import proofs.«01_k».proof.Proof.Gen.Pre_finite_conv
public import Idealize.ShloMosaic.Lib.KernelVsHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Conv

/-- The kernel ends and leaves its arguments as they were. -/
theorem frame_kernel : Cert.quiescent_ConvBwd := fun m ρ _ => Cert.ConvBwd.Gen.frame m ρ

/-- The kernel over the reals ends and leaves its arguments as they were. -/
theorem frame_ideal : Cert.quiescent_ConvBwdIdeal := fun m ρ _ => Cert.ConvBwdIdeal.Gen.frame m ρ

/-- The reference ends and leaves its arguments as they were. -/
theorem frame_reference : Cert.quiescent_ConvRefIdeal := fun m ρ _ =>
  (θ_run Cert.ConvRefIdeal.defs _ _).mono
    (fun r h => ⟨fun c => (h c).2.2, sem_eq_zero_of_no_sems (by decide) r.2⟩)
    (Cert.ConvRefIdeal.Value.run (F := Ideal) m ρ)

/-- A column's value `d` rows later, nothing after the last row. -/
def nx (f : Fin 4096 → EReal) (d : ℕ) (r : Fin 4096) : EReal := if h : r.val < 4096 - d then f ⟨r.val + d, by omega⟩ else 0

/-- A rotation up with its last rows cleared. -/
theorem rot_up (f : Fin 4096 → EReal) (r : Fin 4096) (d e : ℕ) (hd : e + d = 4096) (h : (r.val + 4096 - e) % 4096 < 4096) :
    Scalar.select (IntOp.cmpi .slt (BitVec.ofNat 32 r.val) (BitVec.ofNat 32 e)) (f ⟨(r.val + 4096 - e) % 4096, h⟩) 0 = nx f d r := by
  have hr := r.isLt
  unfold Scalar.select nx
  have e' : (IntOp.cmpi .slt (BitVec.ofNat 32 r.val) (BitVec.ofNat 32 e) = 1#1) ↔ r.val < 4096 - d := by
    rw [IntOp.cmpi_slt, toInt_row (by omega), toInt_row (by omega)]
    omega
  by_cases hc : r.val < 4096 - d
  · rw [dif_pos hc]
    refine (if_pos (e'.mpr hc)).trans ?_
    exact congrArg f (Fin.ext (by show (r.val + 4096 - e) % 4096 = r.val + d; omega))
  · rw [dif_neg hc]
    exact if_neg (fun h => hc (e'.mp h))

theorem mul_pv (f : Fin 4096 → EReal) (d : ℕ) (r : Fin 4096) (a : EReal) : a * pv f d r = pv (fun k => a * f k) d r := by
  unfold pv
  split_ifs
  · rfl
  · exact mul_zero a

abbrev Proj := FVec Ideal Cert.ConvRefIdeal.S4096x4096 .bf16
abbrev Taps := FVec Ideal Cert.ConvRefIdeal.S4x3072 .f32
abbrev Cot := FVec Ideal Cert.ConvRefIdeal.S3x4096x1024 .f32

/-- A column of the layer's projection. -/
def X (p : Proj) (j : Fin 3072) (r : Fin 4096) : EReal := p (ix2 r ⟨j.val, by omega⟩)

/-- The convolution. -/
def C (p : Proj) (w : Taps) (j : Fin 3072) (r : Fin 4096) : EReal :=
  pv (X p j) 3 r * w (ix2 0 j) + pv (X p j) 2 r * w (ix2 1 j) + pv (X p j) 1 r * w (ix2 2 j) + X p j r * w (ix2 3 j)

/-- The cotangent, at the convolution's own columns. -/
def D (d : Cot) (j : Fin 3072) (r : Fin 4096) : EReal := d (ix3 ⟨j.val / 1024, by omega⟩ r ⟨j.val % 1024, by omega⟩)

/-- The cotangent of the convolution, through its gate. -/
def DC (p : Proj) (w : Taps) (d : Cot) (j : Fin 3072) (r : Fin 4096) : EReal :=
  D d j r * sg (C p w j r) + C p w j r * D d j r * (sg (C p w j r) * (1 - sg (C p w j r)))

/-- The cotangent of the projection. -/
def DX (g : Fin 3072 → Fin 4096 → EReal) (w : Taps) (q : Proj) (y : Cert.ConvRefIdeal.S4096x4096.Idx) : EReal :=
  if h : (y 1).val < 3072 then
    nx (fun k => g ⟨(y 1).val, h⟩ k * w (ix2 0 ⟨(y 1).val, h⟩)) 3 (y 0) + nx (fun k => g ⟨(y 1).val, h⟩ k * w (ix2 1 ⟨(y 1).val, h⟩)) 2 (y 0)
      + nx (fun k => g ⟨(y 1).val, h⟩ k * w (ix2 2 ⟨(y 1).val, h⟩)) 1 (y 0) + g ⟨(y 1).val, h⟩ (y 0) * w (ix2 3 ⟨(y 1).val, h⟩)
  else q y

/-- The cotangent of the taps. -/
def DW (g : Fin 3072 → Fin 4096 → EReal) (p : Proj) (i : Fin 4) (j : Fin 3072) : EReal :=
  ∑ r : Fin 4096, g j r * pv (X p j) (3 - i.val) r

section
open Cert.ConvBwdIdeal Cert.ConvBwdIdeal.Gen

theorem rotate_at (x : FVec Ideal S4096x256 .f32) (e : ℕ) (h : S4096x256.Rotates 0 none) (he : e < 4096) (r : Fin 4096) (j : Fin 256) :
    dynamicRotate 0 (BitVec.ofNat 32 e) none x h (ix2 r j) = x (ix2 ⟨(r.val + 4096 - e) % 4096, Nat.mod_lt _ (by omega)⟩ j) := by
  refine dynamicRotate_apply _ _ _ _ _ _ fun b => ?_
  have hb : (BitVec.ofNat 32 e).toNat = e := by rw [BitVec.toNat_ofNat]; omega
  rw [hb]
  fin_cases b
  · show (r.val + 4096 - e) % 4096 = (r.val + 4096 - e % 4096) % 4096
    rw [Nat.mod_eq_of_lt he]
  · rfl

theorem pay12_at (w : Vec Ideal S4x256 .f32) (a b : FVec Ideal S4096x256 .f32) (d : Vec Ideal S1x4096x256 .f32) (r : Fin 4096) (j : Fin 256) :
    k0_pay12 (F := Ideal) w (k0_pay4 a b d) (k0_pay6 w a b d) (ix2 r j)
      = nx (fun k => k0_pay4 (F := Ideal) a b d (ix2 k j) * w (ix2 0 j)) 3 r + nx (fun k => k0_pay4 (F := Ideal) a b d (ix2 k j) * w (ix2 1 j)) 2 r
        + nx (fun k => k0_pay4 (F := Ideal) a b d (ix2 k j) * w (ix2 2 j)) 1 r + k0_pay4 (F := Ideal) a b d (ix2 r j) * w (ix2 3 j) := by
  have h3 := rotate_at (k0_pay4 a b d) 4093 rotates_S4096x256_d0 (by omega) r j
  have h2 := rotate_at (k0_pay4 a b d) 4094 rotates_S4096x256_d0 (by omega) r j
  have h1 := rotate_at (k0_pay4 a b d) 4095 rotates_S4096x256_d0 (by omega) r j
  unfold k0_pay12 k0_pay6
  generalize dynamicRotate 0 4093#32 none (k0_pay4 a b d) rotates_S4096x256_d0 = R3 at h3 ⊢
  generalize dynamicRotate 0 4094#32 none (k0_pay4 a b d) rotates_S4096x256_d0 = R2 at h2 ⊢
  generalize dynamicRotate 0 4095#32 none (k0_pay4 a b d) rotates_S4096x256_d0 = R1 at h1 ⊢
  pointwise
  rw [h3, h2, h1]
  exact congrArg₂ (· + ·) (congrArg₂ (· + ·) (congrArg₂ (· + ·)
    (rot_up (fun k => k0_pay4 (F := Ideal) a b d (ix2 k j) * w (ix2 0 j)) r 3 4093 rfl _) (rot_up (fun k => k0_pay4 (F := Ideal) a b d (ix2 k j) * w (ix2 1 j)) r 2 4094 rfl _))
    (rot_up (fun k => k0_pay4 (F := Ideal) a b d (ix2 k j) * w (ix2 2 j)) r 1 4095 rfl _)) rfl

theorem pay5_at (x : FVec Ideal S4096x256 .f32) (a b : FVec Ideal S4096x256 .f32) (d : Vec Ideal S1x4096x256 .f32) (i : Fin 1) (j : Fin 256) :
    k0_pay5 (F := Ideal) x a b d (ix2 i j) = ∑ r, k0_pay4 (F := Ideal) a b d (ix2 r j) * pv (fun k => x (ix2 k j)) 3 r := by
  pointwise [k0_pay5]
  exact Finset.sum_congr rfl fun r _ => (rot_dn (fun k => k0_pay4 (F := Ideal) a b d (ix2 r j) * x (ix2 k j)) r 3 (by omega) _).trans (mul_pv _ _ _ _).symm

theorem pay9_at (x : FVec Ideal S4096x256 .f32) (g : FVec Ideal S4096x256 .f32) (i : Fin 1) (j : Fin 256) :
    k0_pay9 (F := Ideal) g k0_pay7 (k0_pay8 x) (ix2 i j) = ∑ r, g (ix2 r j) * pv (fun k => x (ix2 k j)) 2 r := by
  pointwise [k0_pay9, k0_pay7, k0_pay8]
  exact Finset.sum_congr rfl fun r _ => (rot_dn (fun k => g (ix2 r j) * x (ix2 k j)) r 2 (by omega) _).trans (mul_pv _ _ _ _).symm

theorem pay10_at (x : FVec Ideal S4096x256 .f32) (g : FVec Ideal S4096x256 .f32) (i : Fin 1) (j : Fin 256) :
    k0_pay10 (F := Ideal) x g (ix2 i j) = ∑ r, g (ix2 r j) * pv (fun k => x (ix2 k j)) 1 r := by
  pointwise [k0_pay10]
  exact Finset.sum_congr rfl fun r _ => (rot_dn (fun k => g (ix2 r j) * x (ix2 k j)) r 1 (by omega) _).trans (mul_pv _ _ _ _).symm

theorem pay11_at (x : FVec Ideal S4096x256 .f32) (g : FVec Ideal S4096x256 .f32) (i : Fin 1) (j : Fin 256) :
    k0_pay11 (F := Ideal) x g (ix2 i j) = ∑ r, g (ix2 r j) * x (ix2 r j) := by
  pointwise [k0_pay11]

theorem pay2_at (x : Vec Ideal S4096x256 .bf16) (w : Vec Ideal S4x256 .f32) (r : Fin 4096) (j : Fin 256) :
    k0_pay2 (F := Ideal) x w (ix2 r j) = pv (fun k => x (ix2 k j) * w (ix2 0 j)) 3 r + pv (fun k => x (ix2 k j) * w (ix2 1 j)) 2 r
        + pv (fun k => x (ix2 k j) * w (ix2 2 j)) 1 r + x (ix2 r j) * w (ix2 3 j) := by
  pointwise [k0_pay2, k0_pay1]
  exact congrArg₂ (· + ·) (congrArg₂ (· + ·) (congrArg₂ (· + ·)
    (rot_dn (fun k => x (ix2 k j) * w (ix2 0 j)) r 3 (by omega) _) (rot_dn (fun k => x (ix2 k j) * w (ix2 1 j)) r 2 (by omega) _))
    (rot_dn (fun k => x (ix2 k j) * w (ix2 2 j)) r 1 (by omega) _)) rfl

theorem pay3_at (x : Vec Ideal S4096x256 .bf16) (w : Vec Ideal S4x256 .f32) (r : Fin 4096) (j : Fin 256) :
    k0_pay3 (F := Ideal) x w (ix2 r j) = sg (k0_pay2 (F := Ideal) x w (ix2 r j)) := by
  pointwise [k0_pay3, sg, zero_sub]

variable (m : (ℓ : Loc nD τ sig) → Buf (Elt Ideal) ℓ) (c : Dev nD)

abbrev proj : Proj := m ((c.tc : Thread nD τ).loc main_arg0)
abbrev taps : Taps := m ((c.tc : Thread nD τ).loc main_arg1)
abbrev cot : Cot := m ((c.tc : Thread nD τ).loc main_arg2)
abbrev rest : Proj := m ((c.tc : Thread nD τ).loc main_arg3)

theorem idx : ∀ t : Fin cfg0.N, win0_0.index t = ![0, t.val] ∧ win0_1.index t = ![0, t.val] ∧ win0_2.index t = ![t.val / 4, 0, t.val % 4] ∧ win0_3.index t = ![0, t.val] ∧ win0_4.index t = ![0, t.val] :=
  (by decide +kernel : ∀ t : Fin grid0.N, _)

/-- The same as `DC`, the gate's derivative taken out as one factor. -/
def DK (p : Proj) (w : Taps) (d : Cot) (j : Fin 3072) (r : Fin 4096) : EReal :=
  D d j r * (sg (C p w j r) + C p w j r * sg (C p w j r) * (1 - sg (C p w j r)))

/-- The convolution's cotangent in a grid point's columns. -/
abbrev dk (t : Fin cfg0.N) : FVec Ideal S4096x256 .f32 :=
  k0_pay4 (F := Ideal) (k0_pay2 (iblk m c 0 t) (iblk m c 1 t)) (k0_pay3 (iblk m c 0 t) (iblk m c 1 t)) (iblk m c 2 t)

theorem read_x (t : Fin cfg0.N) (r : Fin 4096) (x : Fin 256) (j : Fin 3072) (hj : j.val = 256 * t.val + x.val) : iblk m c 0 t (ix2 r x) = X (proj m c) j r := by
  pointwise [X]
  blk_point [iblk, V, idx t]

theorem read_w (t : Fin cfg0.N) (i : Fin 4) (x : Fin 256) (j : Fin 3072) (hj : j.val = 256 * t.val + x.val) : iblk m c 1 t (ix2 i x) = taps m c (ix2 i j) := by
  pointwise
  blk_point [iblk, V, idx t]

theorem read_d (t : Fin cfg0.N) (r : Fin 4096) (x : Fin 256) (j : Fin 3072) (hj : j.val = 256 * t.val + x.val) : iblk m c 2 t (ix3 0 r x) = D (cot m c) j r := by
  have hN : t.val < 12 := t.isLt
  pointwise [D]
  blk_point [iblk, V, idx t]

theorem dk_at (t : Fin cfg0.N) (r : Fin 4096) (x : Fin 256) (j : Fin 3072) (hj : j.val = 256 * t.val + x.val) :
    dk m c t (ix2 r x) = DK (proj m c) (taps m c) (cot m c) j r := by
  have hC : k0_pay2 (F := Ideal) (iblk m c 0 t) (iblk m c 1 t) (ix2 r x) = C (proj m c) (taps m c) j r := by
    rw [pay2_at, C, pv_mul, pv_mul, pv_mul]
    simp only [read_x m c t _ x j hj, read_w m c t _ x j hj]
  have h3 := pay3_at (iblk m c 0 t) (iblk m c 1 t) r x
  unfold dk DK
  rw [← hC, ← h3, ← read_d m c t r x j hj]
  pointwise [k0_pay4]

theorem point_dx (t : Fin cfg0.N) (r : Fin 4096) (x : Fin 256) (y : Cert.ConvRefIdeal.S4096x4096.Idx) (hr : y 0 = r) (hl : (y 1).val = 256 * t.val + x.val) :
    k0_pay12 (F := Ideal) (iblk m c 1 t) (dk m c t) (k0_pay6 (iblk m c 1 t) (k0_pay2 (iblk m c 0 t) (iblk m c 1 t)) (k0_pay3 (iblk m c 0 t) (iblk m c 1 t)) (iblk m c 2 t)) (ix2 r x)
      = DX (DK (proj m c) (taps m c) (cot m c)) (taps m c) (rest m c) y := by
  have hN : t.val < 12 := t.isLt
  have hy : (y 1).val < 3072 := by omega
  rw [DX, dif_pos hy, hr, pay12_at]
  simp only [dk_at m c t _ x ⟨(y 1).val, hy⟩ hl, read_w m c t _ x ⟨(y 1).val, hy⟩ hl]

theorem final_dx : (dats m 0 c).arrAt 3 cfg0.N = DX (DK (proj m c) (taps m c) (cot m c)) (taps m c) (rest m c) := by
  refine (dats m 0 c).arrAt_eq_of_coversWhere_of_agree 3 _ (fun β => β 1 < 12) (by decide +kernel) (fun t hf y => ?_) (fun j hj => ?_)
  · blk_simp
    rw [after0_3, outsAt0]
    dsimp only
    frame_out
    rw [eq_ix2 y]
    exact point_dx m c t _ _ _ (Fin.ext (by blk_simp [idx t])) (by blk_simp [idx t]; omega)
  · have h : ¬(j 1).val < 3072 := by
      blk_simp [Pipeline.Window.cell_apply] at hj
      omega
    rw [A_eq]
    show _ = DX _ _ _ j
    rw [DX, dif_neg h]
    rfl

theorem point_dw3 (t : Fin cfg0.N) (o : Fin 1) (x : Fin 256) (i : Fin 4) (j : Fin 3072) (hi : i.val = 3) (hj : j.val = 256 * t.val + x.val) :
    k0_pay11 (F := Ideal) (k0_pay1 (iblk m c 0 t)) (dk m c t) (ix2 o x) = DW (DK (proj m c) (taps m c) (cot m c)) (proj m c) i j := by
  obtain rfl : i = 3 := Fin.ext hi
  rw [DW, pay11_at]
  refine Finset.sum_congr rfl fun r _ => congrArg₂ (· * ·) (dk_at m c t r x j hj) ?_
  refine Eq.trans ?_ (pv_zero _ r).symm
  rw [← read_x m c t r x j hj]
  pointwise [k0_pay1]

theorem point_dw2 (t : Fin cfg0.N) (o : Fin 1) (x : Fin 256) (i : Fin 4) (j : Fin 3072) (hi : i.val = 2) (hj : j.val = 256 * t.val + x.val) :
    k0_pay10 (F := Ideal) (k0_pay1 (iblk m c 0 t)) (dk m c t) (ix2 o x) = DW (DK (proj m c) (taps m c) (cot m c)) (proj m c) i j := by
  obtain rfl : i = 2 := Fin.ext hi
  rw [DW, pay10_at]
  refine Finset.sum_congr rfl fun r _ => congrArg₂ (· * ·) (dk_at m c t r x j hj) ?_
  refine congrArg (fun f => pv f _ r) (funext fun k => ?_)
  rw [← read_x m c t k x j hj]
  pointwise [k0_pay1]

theorem point_dw1 (t : Fin cfg0.N) (o : Fin 1) (x : Fin 256) (i : Fin 4) (j : Fin 3072) (hi : i.val = 1) (hj : j.val = 256 * t.val + x.val) :
    k0_pay9 (F := Ideal) (dk m c t) k0_pay7 (k0_pay8 (k0_pay1 (iblk m c 0 t))) (ix2 o x) = DW (DK (proj m c) (taps m c) (cot m c)) (proj m c) i j := by
  obtain rfl : i = 1 := Fin.ext hi
  rw [DW, pay9_at]
  refine Finset.sum_congr rfl fun r _ => congrArg₂ (· * ·) (dk_at m c t r x j hj) ?_
  refine congrArg (fun f => pv f _ r) (funext fun k => ?_)
  rw [← read_x m c t k x j hj]
  pointwise [k0_pay1]

theorem point_dw0 (t : Fin cfg0.N) (o : Fin 1) (x : Fin 256) (i : Fin 4) (j : Fin 3072) (hi : i.val = 0) (hj : j.val = 256 * t.val + x.val) :
    k0_pay5 (F := Ideal) (k0_pay1 (iblk m c 0 t)) (k0_pay2 (iblk m c 0 t) (iblk m c 1 t)) (k0_pay3 (iblk m c 0 t) (iblk m c 1 t)) (iblk m c 2 t) (ix2 o x) = DW (DK (proj m c) (taps m c) (cot m c)) (proj m c) i j := by
  obtain rfl : i = 0 := Fin.ext hi
  rw [DW, pay5_at]
  refine Finset.sum_congr rfl fun r _ => congrArg₂ (· * ·) (dk_at m c t r x j hj) ?_
  refine congrArg (fun f => pv f _ r) (funext fun k => ?_)
  rw [← read_x m c t k x j hj]
  pointwise [k0_pay1]

theorem final_dw : (dats m 0 c).arrAt 4 cfg0.N = fun y => DW (DK (proj m c) (taps m c) (cot m c)) (proj m c) (y 0) (y 1) := by
  refine (dats m 0 c).arrAt_eq_of_covers 4 _ (by decide +kernel) fun t hf y => ?_
  blk_simp
  rw [after0_4, outsAt0]
  dsimp only
  frame_out
  canon_tiles x h
  all_goals rw [eq_ix2 x]
  · exact point_dw3 m c t _ _ _ _ (by blk_simp [idx t]; omega) (by blk_simp [idx t]; omega)
  · exact point_dw2 m c t _ _ _ _ (by blk_simp [idx t]; omega) (by blk_simp [idx t]; omega)
  · exact point_dw1 m c t _ _ _ _ (by blk_simp [idx t]; omega) (by blk_simp [idx t]; omega)
  · exact point_dw0 m c t _ _ _ _ (by blk_simp [idx t]; omega) (by blk_simp [idx t]; omega)

end

section
open Cert.ConvRefIdeal Cert.ConvRefIdeal.Gen Cert.ConvRefIdeal.Read

theorem nx_of (f : Fin 4096 → EReal) (d e : ℕ) (r : Fin 4096) (hd : e = 4096 - d) (h : r.val < e → d + r.val < 4096) :
    (if hr : r.val < e then f ⟨d + r.val, h hr⟩ else 0) = nx f d r := by
  unfold nx
  subst hd
  by_cases hc : r.val < 4096 - d
  · rw [dif_pos hc, dif_pos hc]
    exact congrArg f (Fin.ext (Nat.add_comm _ _))
  · rw [dif_neg hc, dif_neg hc]

theorem v38_at (x0 : Proj) (x1 : Taps) (r : Fin 4096) (j : Fin 3072) : val_main_v38 (F := Ideal) x0 x1 (ix2 r j) = C x0 x1 j r := by
  pointwise [val_main_v38, val_main_v32, val_main_v22, val_main_v12, val_main_v11, val_main_cst_1, val_main_v10, val_main_v4, val_main_v2, val_main_cst, val_main_v3, val_main_v1, val_main_v0, val_main_v9, val_main_v8, val_main_v7, val_main_v6, val_main_v21, val_main_v15, val_main_v13, val_main_cst_2, val_main_v14, val_main_v20, val_main_v19, val_main_v18, val_main_v17, val_main_v31, val_main_v25, val_main_v23, val_main_cst_4, val_main_v24, val_main_v30, val_main_v29, val_main_v28, val_main_v27, val_main_v37, val_main_v36, val_main_v35, val_main_v34, val_main_v33]
  exact congrArg₂ (· + ·) (congrArg₂ (· + ·) (congrArg₂ (· + ·)
    (congrArg (· * _) (pv_of (X x0 j) 3 r _)) (congrArg (· * _) (pv_of (X x0 j) 2 r _))) (congrArg (· * _) (pv_of (X x0 j) 1 r _))) rfl

theorem v43_at (x0 : Proj) (x1 : Taps) (x2 : Cot) (r : Fin 4096) (j : Fin 3072) : val_main_v43 (F := Ideal) x0 x1 x2 (ix2 r j) = DC x0 x1 x2 j r := by
  rw [DC, ← v38_at]
  pointwise [val_main_v43, val_main_call1_v1, val_main_v42, val_main_v41, val_main_v39_2, val_main_call0_v4, val_main_call0_cst_0, val_main_call0_v3, val_main_call0_v2, val_main_call0_cst, val_main_call0_v1, val_main_call0_v0, val_main_call1_v2, val_main_call1_v0, val_main_v39_1, val_main_call0_v7, val_main_call0_v6, val_main_call0_cst_1, D, sg]

theorem v4_at (x0 : Proj) (r : Fin 4096) (j : Fin 3072) : val_main_v4 (F := Ideal) x0 (ix2 r j) = pv (X x0 j) 3 r := by
  pointwise [val_main_v4, val_main_v2, val_main_cst, val_main_v3, val_main_v1, val_main_v0]
  exact pv_of (X x0 j) 3 r _

theorem v15_at (x0 : Proj) (r : Fin 4096) (j : Fin 3072) : val_main_v15 (F := Ideal) x0 (ix2 r j) = pv (X x0 j) 2 r := by
  pointwise [val_main_v15, val_main_v13, val_main_cst_2, val_main_v14, val_main_v1, val_main_v0]
  exact pv_of (X x0 j) 2 r _

theorem v25_at (x0 : Proj) (r : Fin 4096) (j : Fin 3072) : val_main_v25 (F := Ideal) x0 (ix2 r j) = pv (X x0 j) 1 r := by
  pointwise [val_main_v25, val_main_v23, val_main_cst_4, val_main_v24, val_main_v1, val_main_v0]
  exact pv_of (X x0 j) 1 r _

theorem v1_at (x0 : Proj) (r : Fin 4096) (j : Fin 3072) : val_main_v1 (F := Ideal) x0 (ix2 r j) = pv (X x0 j) 0 r := by
  rw [pv_zero]
  pointwise [val_main_v1, val_main_v0, X]

theorem v90_at (x0 : Proj) (x1 : Taps) (x2 : Cot) (r : Fin 4096) (j : Fin 3072) :
    val_main_v90 (F := Ideal) x0 x1 x2 (ix2 r j) = nx (fun k => DC x0 x1 x2 j k * x1 (ix2 0 j)) 3 r + nx (fun k => DC x0 x1 x2 j k * x1 (ix2 1 j)) 2 r
      + nx (fun k => DC x0 x1 x2 j k * x1 (ix2 2 j)) 1 r + DC x0 x1 x2 j r * x1 (ix2 3 j) := by
  simp only [← v43_at]
  pointwise [val_main_v90, val_main_v77, val_main_v64, val_main_v48, val_main_v47, val_main_v35, val_main_v34, val_main_v33, val_main_v63, val_main_v62, val_main_v56, val_main_v55, val_main_v29, val_main_v28, val_main_v27, val_main_cst_12, val_main_v76, val_main_v75, val_main_v69, val_main_v68, val_main_v19, val_main_v18, val_main_v17, val_main_cst_16, val_main_v89, val_main_v88, val_main_v82, val_main_v81, val_main_v8, val_main_v7, val_main_v6, val_main_cst_20]
  refine Eq.trans (b := val_main_v43 (F := Ideal) x0 x1 x2 (ix2 r j) * x1 (ix2 3 j) + nx (fun k => val_main_v43 (F := Ideal) x0 x1 x2 (ix2 k j) * x1 (ix2 2 j)) 1 r
    + nx (fun k => val_main_v43 (F := Ideal) x0 x1 x2 (ix2 k j) * x1 (ix2 1 j)) 2 r + nx (fun k => val_main_v43 (F := Ideal) x0 x1 x2 (ix2 k j) * x1 (ix2 0 j)) 3 r) ?_ (by abel)
  exact congrArg₂ (· + ·) (congrArg₂ (· + ·) (congrArg (_ + ·)
    (nx_of (fun k => val_main_v43 (F := Ideal) x0 x1 x2 (ix2 k j) * x1 (ix2 2 j)) 1 4095 r rfl _)) (nx_of (fun k => val_main_v43 (F := Ideal) x0 x1 x2 (ix2 k j) * x1 (ix2 1 j)) 2 4094 r rfl _))
    (nx_of (fun k => val_main_v43 (F := Ideal) x0 x1 x2 (ix2 k j) * x1 (ix2 0 j)) 3 4093 r rfl _)

theorem ref_dx (x0 : Proj) (x1 : Taps) (x2 : Cot) (x3 : Proj) : val_main_v93 (F := Ideal) x0 x1 x2 x3 = DX (DC x0 x1 x2) x1 x3 := by
  funext i
  rw [DX]
  idx_vars i
  simp only [← v90_at]
  pointwise [val_main_v93, val_main_v92, val_main_v91]
  by_cases h : i1.val < 3072
  · rw [dif_pos h, dif_pos h]
  · rw [dif_neg h, dif_neg h]
    blk_ext

theorem ref_dw (x0 : Proj) (x1 : Taps) (x2 : Cot) : val_main_v86 (F := Ideal) x0 x1 x2 = fun y => DW (DC x0 x1 x2) x0 (y 0) (y 1) := by
  funext i
  idx_vars i
  show _ = DW _ _ i0 i1
  pointwise [val_main_v86, val_main_v73, val_main_v60, val_main_v51, val_main_v50, val_main_v49, val_main_v46, val_main_v45, val_main_v44, val_main_cst_6, val_main_cst_7, val_main_cst_8, val_main_v59, val_main_v58, val_main_v57, val_main_v54, val_main_v53, val_main_v52, val_main_cst_9, val_main_cst_10, val_main_cst_11, val_main_v72, val_main_v71, val_main_v70, val_main_v67, val_main_v66, val_main_v65, val_main_cst_13, val_main_cst_14, val_main_cst_15, val_main_v85, val_main_v84, val_main_v83, val_main_v80, val_main_v79, val_main_v78, val_main_cst_17, val_main_cst_18, val_main_cst_19, DW]
  simp only [v4_at, v15_at, v25_at, v1_at, v43_at, Finset.univ_unique, Finset.sum_singleton]
  have e (n : ℕ) : (∑ r, pv (X x0 i1) n r * DC x0 x1 x2 i1 r) = ∑ r, DC x0 x1 x2 i1 r * pv (X x0 i1) n r := Finset.sum_congr rfl fun r _ => mul_comm _ _
  have hi := i0.isLt
  obtain h | h | h | h : i0.val = 0 ∨ i0.val = 1 ∨ i0.val = 2 ∨ i0.val = 3 := by omega
  · rw [dif_neg (by omega), dif_neg (by omega), dif_neg (by omega), dif_pos (by omega), h, e]
    simp only [zero_add, Nat.sub_zero]
  · rw [dif_neg (by omega), dif_neg (by omega), dif_pos (by omega), dif_neg (by omega), h, e]
    simp only [zero_add, add_zero]
  · rw [dif_neg (by omega), dif_pos (by omega), dif_neg (by omega), dif_neg (by omega), h, e]
    simp only [zero_add, add_zero]
  · rw [dif_pos (by omega), dif_neg (by omega), dif_neg (by omega), dif_neg (by omega), h, e]
    simp only [add_zero, Nat.sub_self]
end

/-- Of a finite cotangent the factored form is the derivative's. -/
theorem DK_eq (p : Proj) (w : Taps) (d : Cot) (hd : ∀ y, d y ≠ ⊤ ∧ d y ≠ ⊥) : DK p w d = DC p w d := by
  funext j r
  unfold DK DC D
  obtain ⟨u, hu⟩ := real_of (hd (ix3 ⟨j.val / 1024, by omega⟩ r ⟨j.val % 1024, by omega⟩))
  rw [hu]
  exact silu_grad u _

instance : Subsingleton Cert.Pre_finite_conv.S_.Idx := ⟨fun _ _ => funext fun a => a.elim0⟩

attribute [local instance] Cert.Pre_finite_conv.Gen.facts

/-- The finiteness asked makes each element of the cotangent a real number. -/
theorem finite (x0 : FVec Ideal Cert.Pre_finite_conv.S4096x4096 .bf16) (x1 : FVec Ideal Cert.Pre_finite_conv.S4x3072 .f32)
    (x2 : FVec Ideal Cert.Pre_finite_conv.S3x4096x1024 .f32) (x3 : FVec Ideal Cert.Pre_finite_conv.S4096x4096 .bf16)
    (h : Cert.Pre_finite_conv.fn (F := Ideal) x0 x1 x2 x3 = fun _ => 1#1) (y) : x2 y ≠ ⊤ ∧ x2 y ≠ ⊥ :=
  finite_of_lt (Host.reduce_andi_all _ _ _ _ _ (congrFun h (fun a => a.elim0)) y)

/-- The kernel and the derivative compute the same two arrays over the reals, of a finite cotangent. -/
theorem algebraic : Cert.algebraic_ConvBwdIdeal_ConvRefIdeal_pre_finite_conv := by
  pair_intro
  · run_from Cert.ConvBwdIdeal.Value.run_blocks m g
  · run_from Cert.ConvRefIdeal.Value.run m' g'
    · rw [final_dx m c, DK_eq _ _ _ (finite _ _ _ _ (hpre c))]
      refine (Cert.ConvRefIdeal.Read.val_main_v93_eq m' c).trans ?_
      rw [(hagree c).1, (hagree c).2.1, (hagree c).2.2.1, (hagree c).2.2.2]
      exact ref_dx _ _ _ _
    · rw [final_dw m c, DK_eq _ _ _ (finite _ _ _ _ (hpre c))]
      refine (Cert.ConvRefIdeal.Read.val_main_v86_eq m' c).trans ?_
      rw [(hagree c).1, (hagree c).2.1, (hagree c).2.2.1]
      exact ref_dw _ _ _

end Cert.Proof.Conv

end
-- ==== Proof.Ffn.lean ====
/- The gradient of the feed-forward layer's gated unit: the kernel's result is that of the derivative, of finite arguments. -/
module

public import proofs.«01_k».proof.Defs
public import proofs.«01_k».proof.Proof.Gen.FfnBwd.Frame
public import proofs.«01_k».proof.Proof.Gen.FfnBwdIdeal.Value
public import proofs.«01_k».proof.Proof.Gen.FfnRefIdeal.Read
public import proofs.«01_k».proof.Proof.Finite
public import proofs.«01_k».proof.Proof.Gen.Pre_finite_ffn
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Ffn

/-- The kernel ends and leaves its arguments as they were. -/
theorem frame_kernel : Cert.quiescent_FfnBwd := fun m ρ _ => Cert.FfnBwd.Gen.frame m ρ

/-- The kernel over the reals ends and leaves its arguments as they were. -/
theorem frame_ideal : Cert.quiescent_FfnBwdIdeal := fun m ρ _ => Cert.FfnBwdIdeal.Gen.frame m ρ

/-- The reference ends and leaves its arguments as they were. -/
theorem frame_reference : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

attribute [local instance] Cert.Pre_finite_ffn.Gen.facts

instance : Subsingleton Cert.Pre_finite_ffn.S_.Idx := ⟨fun _ _ => funext fun a => a.elim0⟩

/-- The finiteness asked of the arguments makes each of their elements a real number. -/
theorem finite (x0 : FVec Ideal Cert.Pre_finite_ffn.S4096x1024 .f32) (x1 : FVec Ideal Cert.Pre_finite_ffn.S2816x1024 .bf16)
    (x2 : FVec Ideal Cert.Pre_finite_ffn.S4096x5632 .bf16) (h : Cert.Pre_finite_ffn.fn (F := Ideal) x0 x1 x2 = fun _ => 1#1) :
    (∀ y, x0 y ≠ ⊤ ∧ x0 y ≠ ⊥) ∧ (∀ y, x1 y ≠ ⊤ ∧ x1 y ≠ ⊥) ∧ (∀ y, 2816 ≤ (y 1).val → x2 y ≠ ⊤ ∧ x2 y ≠ ⊥) := by
  have h2 := and_one (congrFun h (fun a => a.elim0))
  have h1 := and_one h2.1
  refine ⟨fun y => finite_of_lt (Host.reduce_andi_all _ _ _ _ _ h1.1 y), fun y => finite_of_lt (Host.reduce_andi_all _ _ _ _ _ h1.2 y),
    fun y hy => ?_⟩
  have hl : (y 1).val < 5632 := (y 1).isLt
  have h3 := finite_of_lt (Host.reduce_andi_all _ _ _ _ _ h2.2 (ix2 (y 0) ⟨(y 1).val - 2816, by omega⟩))
  have e : extractStridedSlice Cert.Pre_finite_ffn.S4096x2816 ![0, 2816] x2 Cert.Pre_finite_ffn.Gen.slices_S4096x5632_S4096x2816_0_2816 (ix2 (y 0) ⟨(y 1).val - 2816, by omega⟩) = x2 y :=
    extractStridedSlice_apply _ _ _ _ _ (Fin.forall_fin_two.mpr ⟨(Nat.zero_add _).symm, (show (y 1).val = 2816 + ((y 1).val - 2816) by omega)⟩)
  rw [← e]
  exact h3

/-- The cotangent of the unit's value: a row of the layer's cotangent against a row of the weights. -/
def back (dh : FVec Ideal Cert.FfnRefIdeal.S4096x1024 .f32) (w : FVec Ideal Cert.FfnRefIdeal.S2816x1024 .bf16) (r : Fin 4096) (j : Fin 2816) : EReal :=
  ∑ k : Fin 1024, dh (ix2 r k) * w (ix2 j k)

/-- The gated half's cotangent. -/
def half (X a : EReal) : EReal := X * sg a + (a * X) * (sg a * (1 - sg a))

/-- The cotangent of the two halves of the unit's argument. -/
def DG (dh : FVec Ideal Cert.FfnRefIdeal.S4096x1024 .f32) (w : FVec Ideal Cert.FfnRefIdeal.S2816x1024 .bf16) (gu : FVec Ideal Cert.FfnRefIdeal.S4096x5632 .bf16) (r : Fin 4096) (l : Fin 5632) : EReal :=
  if h : l.val < 2816 then half (back dh w r ⟨l, h⟩ * gu (ix2 r ⟨2816 + l.val, by omega⟩)) (gu (ix2 r l))
  else (gu (ix2 r ⟨l.val - 2816, by omega⟩) * sg (gu (ix2 r ⟨l.val - 2816, by omega⟩))) * back dh w r ⟨l.val - 2816, by omega⟩

section
open Cert.FfnBwdIdeal Cert.FfnBwdIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The arguments. -/
abbrev dh : FVec Ideal Cert.FfnRefIdeal.S4096x1024 .f32 := m ((c.tc : Thread nD τ).loc main_arg0)
abbrev w : FVec Ideal Cert.FfnRefIdeal.S2816x1024 .bf16 := m ((c.tc : Thread nD τ).loc main_arg1)
abbrev gu : FVec Ideal Cert.FfnRefIdeal.S4096x5632 .bf16 := m ((c.tc : Thread nD τ).loc main_arg2)

/-- What the kernel computes of the same: the gate's derivative is taken out as one factor. -/
def KG (dh : FVec Ideal Cert.FfnRefIdeal.S4096x1024 .f32) (w : FVec Ideal Cert.FfnRefIdeal.S2816x1024 .bf16) (gu : FVec Ideal Cert.FfnRefIdeal.S4096x5632 .bf16) (r : Fin 4096) (l : Fin 5632) : EReal :=
  if h : l.val < 2816 then back dh w r ⟨l, h⟩ * gu (ix2 r ⟨2816 + l.val, by omega⟩) * (sg (gu (ix2 r l)) + gu (ix2 r l) * sg (gu (ix2 r l)) * (1 - sg (gu (ix2 r l))))
  else back dh w r ⟨l.val - 2816, by omega⟩ * (gu (ix2 r ⟨l.val - 2816, by omega⟩) * sg (gu (ix2 r ⟨l.val - 2816, by omega⟩)))

theorem left (t : Fin cfg0.N) (x : S256x2816.Idx) (r : Fin 4096) (l : Fin 5632) (hr : r.val = 256 * t.val + (x 0).val) (hl : l.val = (x 1).val) :
    k0_pay5 (F := Ideal) (View.ld (iblk m c 0 t) r0_0) (View.ld (iblk m c 1 t) r0_1) (View.ld (iblk m c 2 t) r0_2) (View.ld (iblk m c 2 t) r0_3) x = KG (dh m c) (w m c) (gu m c) r l := by
  have hx : (x 1).val < 2816 := (x 1).isLt
  rw [KG, dif_pos (by omega)]
  pointwise [k0_pay5, k0_pay1, k0_pay2, k0_pay3, k0_pay4, back, sg, zero_sub]
  blk_point [iblk, V, idx t]

theorem right (t : Fin cfg0.N) (x : S256x2816.Idx) (r : Fin 4096) (l : Fin 5632) (hr : r.val = 256 * t.val + (x 0).val) (hl : l.val = 2816 + (x 1).val) :
    k0_pay6 (F := Ideal) (View.ld (iblk m c 0 t) r0_0) (View.ld (iblk m c 1 t) r0_1) (View.ld (iblk m c 2 t) r0_2) x = KG (dh m c) (w m c) (gu m c) r l := by
  rw [KG, dif_neg (by omega)]
  pointwise [k0_pay6, k0_pay1, k0_pay2, k0_pay3, k0_pay4, back, sg, zero_sub]
  blk_point [iblk, V, idx t]

theorem final : (dats m 0 c).arrAt 3 cfg0.N = fun y => KG (dh m c) (w m c) (gu m c) (y 0) (y 1) := by
  refine (dats m 0 c).arrAt_eq_of_covers 3 _ (by decide +kernel) fun t hf y => ?_
  blk_simp
  have hN : t.val < 16 := t.isLt
  rw [after0_3]
  canon_tiles x h
  · exact right m c t x _ _ (by blk_simp [idx t]; omega) (by blk_simp [idx t]; omega)
  · exact left m c t x _ _ (by blk_simp [idx t]; omega) (by blk_simp [idx t]; omega)
end

theorem one_add_pos (a : ℝ) : (1 : ℝ) + Real.exp (-a) ≠ 0 := by positivity

/-- Of finite arguments the factored form is the derivative's. -/
theorem KG_eq {dh : FVec Ideal Cert.FfnRefIdeal.S4096x1024 .f32} {w : FVec Ideal Cert.FfnRefIdeal.S2816x1024 .bf16} {gu : FVec Ideal Cert.FfnRefIdeal.S4096x5632 .bf16}
    (h0 : ∀ y, dh y ≠ ⊤ ∧ dh y ≠ ⊥) (h1 : ∀ y, w y ≠ ⊤ ∧ w y ≠ ⊥) (h2 : ∀ y, 2816 ≤ (y 1).val → gu y ≠ ⊤ ∧ gu y ≠ ⊥) (r : Fin 4096) (l : Fin 5632) :
    KG dh w gu r l = DG dh w gu r l := by
  unfold KG DG
  split_ifs with h
  · obtain ⟨X, hX⟩ := real_dot (f := fun k => dh (ix2 r k)) (g := fun k => w (ix2 ⟨l, h⟩ k)) (fun k => h0 _) (fun k => h1 _)
    obtain ⟨u, hu⟩ := real_of (h2 (ix2 r ⟨2816 + l.val, by omega⟩) (by simp))
    rw [back, hX, hu, half, ← EReal.coe_mul]
    exact silu_grad _ _
  · exact mul_comm _ _

section
open Cert.FfnRefIdeal Cert.FfnRefIdeal.Gen Cert.FfnRefIdeal.Read

theorem ref (x0 : FVec Ideal S4096x1024 .f32) (x1 : FVec Ideal S2816x1024 .bf16) (x2 : FVec Ideal S4096x5632 .bf16) :
    val_main_v14 (F := Ideal) x0 x1 x2 = fun y => DG x0 x1 x2 (y 0) (y 1) := by
  funext i
  idx_vars i
  show _ = DG x0 x1 x2 i0 i1
  unfold DG
  pointwise [val_main_v14, val_main_v13, val_main_v12, val_main_cst_0, val_main_v11, val_main_call1_v2, val_main_call1_v1, val_main_call1_v0, val_main_v10, val_main_cst, val_main_v9, val_main_v8, val_main_v7, val_main_v5, val_main_v4, val_main_v3, val_main_v2_0, val_main_v2_1, val_main_call0_v7, val_main_call0_v6, val_main_call0_cst_1, val_main_v2_2, val_main_call0_v4, val_main_call0_cst_0, val_main_call0_v3, val_main_call0_v2, val_main_call0_cst, val_main_call0_v1, val_main_call0_v0, val_main_v1, val_main_v0]
  split_ifs with h h' h'
  · omega
  · rw [add_zero]
    rfl
  · rw [zero_add]
    rfl
  · omega
end

/-- The kernel and the derivative compute the same array over the reals, of finite arguments. -/
theorem algebraic : Cert.algebraic_FfnBwdIdeal_FfnRefIdeal_pre_finite_ffn := by
  pair_intro
  · run_from Cert.FfnBwdIdeal.Value.run_blocks m g
  · run_from Cert.FfnRefIdeal.Value.run m' g'
    have h := finite _ _ _ (hpre c)
    refine (ref _ _ _).trans (Eq.trans (funext fun y => ?_) (final m c).symm)
    exact (KG_eq h.1 h.2.1 h.2.2 (y 0) (y 1)).symm

end Cert.Proof.Ffn

end
-- ==== Proof.Loss.lean ====
/- The loss and its gradient: the kernel's two results are those of the derivative of the loss. -/
module

public import proofs.«01_k».proof.Defs
public import proofs.«01_k».proof.Proof.Sums
public import proofs.«01_k».proof.Proof.Gen.LossHead.Frame
public import proofs.«01_k».proof.Proof.Gen.LossHeadIdeal.Frame
public import proofs.«01_k».proof.Proof.Gen.LossRefIdeal.Run
public import Idealize.ShloMosaic.Lib.Claim
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.Proof.Loss

/-- The kernel ends and leaves its arguments as they were. -/
theorem frame_kernel : Cert.quiescent_LossHead := fun m ρ _ => Cert.LossHead.Gen.frame m ρ

/-- The kernel over the reals ends and leaves its arguments as they were. -/
theorem frame_ideal : Cert.quiescent_LossHeadIdeal := fun m ρ _ => Cert.LossHeadIdeal.Gen.frame m ρ

/-- The reference ends and leaves its arguments as they were. -/
theorem frame_reference : Cert.quiescent_LossRefIdeal := fun m ρ _ =>
  (θ_run Cert.LossRefIdeal.defs _ _).mono
    (fun r h => ⟨fun c => (h c).2.2, sem_eq_zero_of_no_sems (by decide) r.2⟩)
    (Cert.LossRefIdeal.Value.run (F := Ideal) m ρ)

/-- The bits of 1/1024. -/
theorem small : Ideal.ofBits .f32 0x3A800000#32 = (((1 / 1024 : ℝ) : ℝ) : EReal) := by
  simp [Ideal.ofBits, Ideal.ieee]; rw [← EReal.coe_mul]; norm_num
/-- The bits of 1024. -/
theorem large : Ideal.ofBits .f32 0x44800000#32 = ((1024 : ℝ) : EReal) := by
  simp [Ideal.ofBits, Ideal.ieee]; rw [← EReal.coe_mul]; norm_num
/-- The bits of a half. -/
theorem half : Ideal.ofBits .f32 0x3F000000#32 = (((1 / 2 : ℝ) : ℝ) : EReal) := by
  simp [Ideal.ofBits, Ideal.ieee]; rw [← EReal.coe_mul]; norm_num
/-- The bits of 2. -/
theorem two : Ideal.ofBits .f32 0x40000000#32 = ((2 : ℝ) : EReal) := by
  simp [Ideal.ofBits, Ideal.ieee]; rw [← EReal.coe_mul]; norm_num

section
open Cert.LossHeadIdeal Cert.LossHeadIdeal.Gen

/-- The gradient of the loss. -/
def DH (h tgt : S4096x1024.Idx → EReal) : S4096x1024.Idx → EReal := fun y => (h y - tgt y) * Ideal.ofBits .f32 0x3A800000#32

/-- The squares of each column added up. -/
def SQ (h tgt : S4096x1024.Idx → EReal) : S1x1024.Idx → EReal := fun y => ∑ r : Fin 4096, (h (ix2 r (y 1)) - tgt (ix2 r (y 1))) * (h (ix2 r (y 1)) - tgt (ix2 r (y 1)))

/-- The loss. -/
def LS (h tgt : S4096x1024.Idx → EReal) : S_.Idx → EReal := fun _ => Ideal.div (Ideal.ofBits .f32 0x3F000000#32 * ∑ l : Fin 1024, SQ h tgt (ix2 0 l)) (Ideal.ofBits .f32 0x44800000#32)

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

variable (m : (ℓ : Loc nD τ sig) → Buf (Elt Ideal) ℓ) (c : Dev nD)

/-- One element of a block of the gradient. -/
theorem point (t : Fin cfg0.N) (y : S512x1024.Idx) (j : S4096x1024.Idx) (h0 : (j 0 : ℕ) = t.val * 512 + y 0) (h1 : (j 1 : ℕ) = y 1) :
    k0_pay2 (F := Ideal) (iblk m c 0 t) (iblk m c 1 t) y = DH (m ((c : Thread nD τ).loc main_arg0)) (m ((c : Thread nD τ).loc main_arg1)) j := by
  pointwise [k0_pay2, k0_pay1, DH]
  blk_point [iblk, V, idx t]

theorem final_dh : (dats m 0 c).arrAt 2 cfg0.N = DH (m ((c : Thread nD τ).loc main_arg0)) (m ((c : Thread nD τ).loc main_arg1)) := by
  refine (dats m 0 c).arrAt_eq_of_covers 2 _ (by decide +kernel) fun t hf y => ?_
  blk_simp
  have hN : t.val < 8 := t.isLt
  rw [after0_2]
  by_cases h : t.val % 8 = 0
  · rw [outsAt0_A m c t h (by omega)]
    frame_out
    exact point m c t y _ (by blk_simp [idx t]) (by blk_simp [idx t])
  · rw [outsAt0_B m c t h (by omega)]
    frame_out
    exact point m c t y _ (by blk_simp [idx t]) (by blk_simp [idx t])

/-- One block's part of the squares. -/
theorem part (x y : FVec Ideal S512x1024 .f32) (j : S1x1024.Idx) : k0_pay3 x y j = ∑ k : Fin 512, (x (ix2 k (j 1)) - y (ix2 k (j 1))) * (x (ix2 k (j 1)) - y (ix2 k (j 1))) := by
  pointwise [k0_pay3, k0_pay1]

/-- The parts are added up. -/
theorem step (x y : FVec Ideal S512x1024 .f32) (acc : FVec Ideal S1x1024 .f32) (j : S1x1024.Idx) : k0_pay4 x y acc j = acc j + k0_pay3 x y j := by
  pointwise [k0_pay4]

theorem final_sq : (dats m 0 c).arrAt 3 cfg0.N = SQ (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by have := lt_of_lt_of_eq t.isLt N_0; rw [outsAt0_A m c t h (by omega)]; frame_out; rw [part]; exact (zero_add _).symm)
    (fun t h j => by rw [outsAt0_B m c t h (by omega)]; frame_out; rw [step, part])
    (le_of_eq N_0) t0_7 rfl j, zero_add]
  pointwise [SQ]
  refine Fin.sum_mul_add_congr fun t k hl => ?_
  blk_point [iblk, V, idx t]

/-- What the lines after the kernel make of its sums. -/
theorem tail : Pipeline.afterTail₀ cfgs (dats m) 0 (V0 m) [hostOps1] c main_v3 = LS (m ((c : Thread nD τ).loc main_arg0)) (m ((c : Thread nD τ).loc main_arg1)) := by
  unfold Pipeline.afterTail₀
  dsimp only [List.flatten, hostOps1, List.append]
  after_region_results
  erw [Pipeline.withArrays_arr spec0 launch0.win.arr_inj c _ _ 3]
  rw [final_sq]
  funext i
  pointwise [LS]
  simp only [Finset.univ_unique, Finset.sum_singleton]
  rfl

/-- The kernel's results. -/
theorem run_value (g : Dev nD → PrngReg) : θ_run (defs (F := Ideal)) (onTc (τ := τ) (main (F := Ideal))) ⟨m, fun _ => 0, g⟩ (fun r => ∀ c : Dev nD,
      r.2.mem ((c.tc : Thread nD τ).loc main_v3) = LS (m ((c : Thread nD τ).loc main_arg0)) (m ((c : Thread nD τ).loc main_arg1))
      ∧ r.2.mem ((c.tc : Thread nD τ).loc main_v0_0) = DH (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m g) (unchanged m g))
  exact ⟨((h.1 c).2 main_v3 (Pipeline.mem_restRefs_of main_v3 (by decide) (by decide))).trans (tail m c), ((h.1 c).1 2).trans (final_dh m c), h.2 c⟩

end

/-- The kernel and the derivative compute the same two arrays over the reals. -/
theorem algebraic : Cert.algebraic_LossHeadIdeal_LossRefIdeal := by
  intro m g m' g' hpre hagree
  refine ⟨_, _, run_value m g, ?_⟩
  refine (θ_run Cert.LossRefIdeal.defs _ _).mono (fun r h c => ?_) (Cert.LossRefIdeal.Value.run m' g')
  refine ⟨(h c).1.trans ?_, (h c).2.1.trans ?_, (h c).2.2⟩
  · rw [(hagree c).1, (hagree c).2]
    funext i
    pointwise [LS, SQ]
    rw [large, half]
    simp only [Ideal.div_coe (by norm_num : (1024 : ℝ) ≠ 0)]
    rw [← Sums.factor _ _ (EReal.coe_nonneg.2 (by norm_num)) (EReal.coe_ne_top _), Finset.sum_comm, mul_assoc]
  · rw [(hagree c).1, (hagree c).2]
    funext i
    idx_vars i
    pointwise [DH]
    rw [large, half, two, small, Ideal.div_coe (by norm_num : (1024 : ℝ) ≠ 0), ← EReal.coe_mul, ← mul_assoc, ← EReal.coe_mul, mul_comm]
    norm_num

end Cert.Proof.Loss

end
-- ==== Proof.GateNorm.lean ====
/- The gradient of the gated norm: the kernel's three results are those of the derivative of the gated norm. -/
module

public import proofs.«01_k».proof.Defs
public import proofs.«01_k».proof.Proof.Sums
public import proofs.«01_k».proof.Proof.Finite
public import proofs.«01_k».proof.Proof.Gen.GateNorm.Frame
public import proofs.«01_k».proof.Proof.Gen.GateNormIdeal.Frame
public import proofs.«01_k».proof.Proof.Gen.GateNormRefIdeal.Run
public import proofs.«01_k».proof.Proof.Gen.GateNormRefIdeal.Read
public import Idealize.ShloMosaic.Lib.Claim
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.Proof.GateNorm

/-- The kernel ends and leaves its arguments as they were. -/
theorem frame_kernel : Cert.quiescent_GateNorm := fun m ρ _ => Cert.GateNorm.Gen.frame m ρ

/-- The kernel over the reals ends and leaves its arguments as they were. -/
theorem frame_ideal : Cert.quiescent_GateNormIdeal := fun m ρ _ => Cert.GateNormIdeal.Gen.frame m ρ

/-- The reference ends and leaves its arguments as they were. -/
theorem frame_reference : Cert.quiescent_GateNormRefIdeal := fun m ρ _ =>
  (θ_run Cert.GateNormRefIdeal.defs _ _).mono
    (fun r h => ⟨fun c => (h c).2.2.2, sem_eq_zero_of_no_sems (by decide) r.2⟩)
    (Cert.GateNormRefIdeal.Value.run (F := Ideal) m ρ)

/-- The slope of the logistic function, from its exponential. -/
theorem slope (a : EReal) : Ideal.div 1 ((1 + Ideal.exp (-a)) * (1 + Ideal.exp (-a))) * Ideal.exp (-a) = sg a * (1 - sg a) := by
  have h1 : (1 : EReal) - 1 = 0 := by rw [← EReal.coe_one, ← EReal.coe_sub, sub_self, EReal.coe_zero]
  induction a with
  | bot => rw [sg_bot, EReal.neg_bot, Ideal.exp_top, EReal.add_top_of_ne_bot (by decide), EReal.top_mul_top, Ideal.div, if_neg (by decide), EReal.inv_top, mul_zero, zero_mul, zero_mul]
  | top => rw [sg_top, EReal.neg_top, Ideal.exp_bot, mul_zero, h1, mul_zero]
  | coe a =>
    have h := one_add_exp_ne (-a)
    rw [sg_coe, ← EReal.coe_neg, Ideal.exp_coe, ← EReal.coe_one, ← EReal.coe_add, ← EReal.coe_mul, Ideal.div_coe (mul_ne_zero h h)]
    norm_cast
    field_simp
    ring

section
open Cert.GateNormIdeal Cert.GateNormIdeal.Gen

/-- Column `k` of the head that column `j` belongs to. -/
def own (j : Fin 1024) (k : Fin 128) : Fin 1024 := ⟨(j : ℕ) / 128 * 128 + (k : ℕ), by omega⟩

/-- The gate's column of column `j`, behind the other projections. -/
def beyond (j : Fin 1024) : Fin 4096 := ⟨3072 + (j : ℕ), by omega⟩

/-- A head's mean square in a row and the norm's small constant. -/
def ms (x : S4096x1024.Idx → EReal) (r : Fin 4096) (j : Fin 1024) : EReal := Ideal.div (∑ k : Fin 128, x (ix2 r (own j k)) * x (ix2 r (own j k))) (Ideal.ofBits .f32 0x43000000#32) + Ideal.ofBits .f32 0x358637BD#32

/-- The cotangent of the normed output: through the gate. -/
def ct (p : S4096x4096.Idx → EReal) (dy : S4096x1024.Idx → EReal) (r : Fin 4096) (j : Fin 1024) : EReal :=
  dy (ix2 r j) * (p (ix2 r (beyond j)) * Ideal.div (Ideal.ofBits .f32 0x3F800000#32) (Ideal.ofBits .f32 0x3F800000#32 + Ideal.exp (-p (ix2 r (beyond j)))))

/-- What a head's mean square passes back to each of its squares. -/
def back (x : S4096x1024.Idx → EReal) (p : S4096x4096.Idx → EReal) (g : S128.Idx → EReal) (dy : S4096x1024.Idx → EReal) (r : Fin 4096) (j : Fin 1024) : EReal :=
  Ideal.div ((∑ k : Fin 128, x (ix2 r (own j k)) * (ct p dy r (own j k) * g (ix1 k))) * (Ideal.ofBits .f32 0xBF000000#32 * Ideal.div (Ideal.rsqrt (ms x r j)) (ms x r j))) (Ideal.ofBits .f32 0x43000000#32)

/-- The gradient of the output before the norm. -/
def DX (x : S4096x1024.Idx → EReal) (p : S4096x4096.Idx → EReal) (g : S128.Idx → EReal) (dy : S4096x1024.Idx → EReal) : S4096x1024.Idx → EReal := fun y =>
  ct p dy (y 0) (y 1) * g (ix1 ⟨(y 1 : ℕ) % 128, Nat.mod_lt _ (by decide)⟩) * Ideal.rsqrt (ms x (y 0) (y 1)) + x y * back x p g dy (y 0) (y 1) + back x p g dy (y 0) (y 1) * x y

/-- A logistic gate's gradient: of the cotangent `w` at `q`. -/
def gated (w q : EReal) : EReal := w * sg q + q * w * (sg q * (1 - sg q))

/-- The gradient of the gate's projection. -/
def DP (x : S4096x1024.Idx → EReal) (p : S4096x4096.Idx → EReal) (g : S128.Idx → EReal) (dy : S4096x1024.Idx → EReal) (r : Fin 4096) (j : Fin 1024) : EReal :=
  gated (x (ix2 r j) * Ideal.rsqrt (ms x r j) * g (ix1 ⟨(j : ℕ) % 128, Nat.mod_lt _ (by decide)⟩) * dy (ix2 r j)) (p (ix2 r (beyond j)))

/-- Column of lane `k` of head `h`. -/
def col (h : Fin 8) (k : Fin 128) : Fin 1024 := ⟨(h : ℕ) * 128 + (k : ℕ), by omega⟩

/-- The gradient of the gain. -/
def DG (x : S4096x1024.Idx → EReal) (p : S4096x4096.Idx → EReal) (dy : S4096x1024.Idx → EReal) : S1x128.Idx → EReal := fun y => ∑ h : Fin 8, ∑ r : Fin 4096,
  x (ix2 r (col h (y 1))) * Ideal.rsqrt (ms x r (col h (y 1))) * ct p dy r (col h (y 1))

variable (m : (ℓ : Loc nD τ sig) → Buf (Elt Ideal) ℓ) (c : Dev nD)

theorem idx : ∀ t : Fin cfg0.N, win0_0.index t = ![t.val % 4, t.val / 4] ∧ win0_1.index t = ![t.val % 4, t.val / 4 + 24] ∧ win0_2.index t = ![t.val % 4, t.val / 4] ∧ win0_3.index t = ![0, 0] ∧ win0_4.index t = ![t.val % 4, t.val / 4] ∧ win0_5.index t = ![t.val % 4, t.val / 4 + 24] ∧ win0_6.index t = ![0, 0] :=
  (by decide +kernel : ∀ t : Fin grid0.N, _)

/-- The gain as the kernel reads it. -/
theorem gain (y : S1x128.Idx) : V m c main_v0 y = m ((c : Thread nD τ).loc main_arg2) (ix1 (y 1)) := by
  show StableHlo.after hostOps0 (fun b => m (c, b)) (Proc.devRef .tc main_v0) y = _
  entry_read
  pointwise

/-- One element of a block of the output's gradient. -/
theorem point (t : Fin cfg0.N) (y : S1024x128.Idx) (j : S4096x1024.Idx) (h0 : (j 0 : ℕ) = t.val % 4 * 1024 + y 0) (h1 : (j 1 : ℕ) = t.val / 4 * 128 + y 1) :
    k0_pay16 (F := Ideal) (iblk m c 0 t) (k0_pay3 (iblk m c 0 t)) (k0_pay4 (iblk m c 0 t)) (k0_pay6 (iblk m c 3 t)) (k0_pay11 (iblk m c 1 t) (iblk m c 2 t)) y
      = DX (m ((c : Thread nD τ).loc main_arg0)) (m ((c : Thread nD τ).loc main_arg1)) (m ((c : Thread nD τ).loc main_arg2)) (m ((c : Thread nD τ).loc main_arg3)) j := by
  pointwise [k0_pay16, k0_pay1, k0_pay2, k0_pay3, k0_pay4, k0_pay6, k0_pay7, k0_pay8, k0_pay9, k0_pay11, DX, ms, ct, back, own, beyond]
  simp only [Finset.univ_unique, Finset.sum_singleton, zero_sub]
  blk_point [iblk, V, idx t]
  all_goals rw [gain]
  all_goals blk_point [idx t]

theorem final_dx : (dats m 0 c).arrAt 4 cfg0.N = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 32 := t.isLt
  rw [after0_4]
  by_cases h : t.val % 32 = 0
  · rw [outsAt0_A m c t h (by omega)]
    frame_out
    exact point m c t y _ (by blk_simp [idx t]) (by blk_simp [idx t])
  · rw [outsAt0_B m c t h (by omega)]
    frame_out
    exact point m c t y _ (by blk_simp [idx t]) (by blk_simp [idx t])

/-- One element of a block of the gate's gradient. -/
theorem gate (x : FVec Ideal S1024x128 .f32) (q : FVec Ideal S1024x128 .bf16) (z : FVec Ideal S1024x128 .f32) (g : FVec Ideal S1x128 .f32) (y : S1024x128.Idx) :
    k0_pay17 (F := Ideal) (k0_pay7 q) (k0_pay12 x q z g) (k0_pay13 x q z g) k0_pay14 y
      = gated (k0_pay10 (F := Ideal) x z g y) (q y) := by
  rw [gated, ← slope, ← mul_assoc]
  pointwise [k0_pay17, k0_pay1, k0_pay7, k0_pay8, k0_pay9, k0_pay12, k0_pay13, k0_pay14, sg]
  simp only [zero_sub, neg_mul, neg_neg]

/-- The gate's gradient in a block, in terms of the arrays. -/
theorem point_gate (t : Fin cfg0.N) (y : S1024x128.Idx) (r : Fin 4096) (j : Fin 1024) (h0 : (r : ℕ) = t.val % 4 * 1024 + y 0) (h1 : (j : ℕ) = t.val / 4 * 128 + y 1) :
    gated (k0_pay10 (F := Ideal) (iblk m c 0 t) (iblk m c 2 t) (iblk m c 3 t) y) (iblk m c 1 t y)
      = DP (m ((c : Thread nD τ).loc main_arg0)) (m ((c : Thread nD τ).loc main_arg1)) (m ((c : Thread nD τ).loc main_arg2)) (m ((c : Thread nD τ).loc main_arg3)) r j := by
  pointwise [k0_pay10, k0_pay2, k0_pay3, k0_pay5, k0_pay6, DP, gated, ms, own, beyond]
  blk_point [iblk, V, idx t]
  all_goals rw [gain]
  all_goals blk_point [idx t]

/-- The gate's gradient within all projections, the others as they were. -/
theorem final_dp (r : Fin 4096) (j : Fin 1024) : (dats m 0 c).arrAt 5 cfg0.N (ix2 r (beyond j)) = DP (m ((c : Thread nD τ).loc main_arg0)) (m ((c : Thread nD τ).loc main_arg1)) (m ((c : Thread nD τ).loc main_arg2)) (m ((c : Thread nD τ).loc main_arg3)) r j := by
  rw [(dats m 0 c).arrAt_eq_of_coversWhere 5 (P := fun i => 3072 ≤ (i 1 : ℕ)) (fun i => DP (m ((c : Thread nD τ).loc main_arg0)) (m ((c : Thread nD τ).loc main_arg1)) (m ((c : Thread nD τ).loc main_arg2)) (m ((c : Thread nD τ).loc main_arg3)) (i 0) ⟨(i 1 : ℕ) - 3072, by have : (i 1 : ℕ) < 4096 := (i 1).isLt; omega⟩) (fun β => 24 ≤ β 1) (by decide +kernel) (fun t hf y => ?_) (fun i => ?_)]
  · dsimp only
    rw [if_pos (by simp [beyond])]
    exact congrArg (DP _ _ _ _ r) (Fin.ext (by simp [beyond]))
  · blk_simp
    have hN : t.val < 32 := t.isLt
    rw [after0_5]
    by_cases h : t.val % 32 = 0
    · rw [outsAt0_A m c t h (by omega)]
      frame_out
      rw [gate]
      exact point_gate m c t y _ _ (by blk_simp [idx t]) (by blk_simp [idx t]; dsimp only; omega)
    · rw [outsAt0_B m c t h (by omega)]
      frame_out
      rw [gate]
      exact point_gate m c t y _ _ (by blk_simp [idx t]) (by blk_simp [idx t]; dsimp only; omega)
  · blk_simp [Pipeline.Window.cell_apply]
    omega

/-- One block's part of the gain's gradient. -/
theorem part (x v : FVec Ideal S1024x128 .f32) (j : S1x128.Idx) : k0_pay15 (k0_pay5 x) v j = ∑ k : Fin 1024, x (ix2 k (j 1)) * Ideal.rsqrt (Ideal.div (∑ l : Fin 128, x (ix2 k l) * x (ix2 k l)) (Ideal.ofBits .f32 0x43000000#32) + Ideal.ofBits .f32 0x358637BD#32) * v (ix2 k (j 1)) := by
  pointwise [k0_pay15, k0_pay5, k0_pay3, k0_pay2]

/-- The parts are added up. -/
theorem step (x v : FVec Ideal S1024x128 .f32) (acc : FVec Ideal S1x128 .f32) (j : S1x128.Idx) : k0_pay18 x v acc j = acc j + k0_pay15 x v j := by
  pointwise [k0_pay18]

theorem final_dg : (dats m 0 c).arrAt 6 cfg0.N = DG (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have hN : t.val < 32 := t.isLt
  rw [after0_6, Pipeline.eq_sum_fin_of_reset_step_apply_of_flush (fun n h => (outsAt0 m c n h).2.2) 32 (fun _ => 0) _
    (fun t h j => by have := lt_of_lt_of_eq t.isLt N_0; rw [outsAt0_A m c t h (by omega)]; frame_out; rw [part]; exact (zero_add _).symm)
    (fun t h j => by rw [outsAt0_B m c t h (by omega)]; frame_out; rw [step, part])
    t ((flush0_6 t).mp hf) _, zero_add]
  pointwise [DG, ms, ct, col, own, beyond, k0_pay11, k0_pay1, k0_pay7, k0_pay8, k0_pay9]
  simp only [zero_sub]
  refine Fin.sum_points_lanes_congr 4 fun s k ha hl => ?_
  blk_point [iblk, V, idx t, idx ⟨_, Pipeline.run_point_lt_of_flush t ((flush0_6 t).mp hf) s⟩]

/-- What the line after the kernel takes of the projections. -/
theorem tail : Pipeline.afterTail₀ cfgs (dats m) 0 (V0 m) [hostOps1] c main_v2 = fun i : S4096x1024.Idx => DP (m ((c : Thread nD τ).loc main_arg0)) (m ((c : Thread nD τ).loc main_arg1)) (m ((c : Thread nD τ).loc main_arg2)) (m ((c : Thread nD τ).loc main_arg3)) (i 0) (i 1) := by
  unfold Pipeline.afterTail₀
  dsimp only [List.flatten, hostOps1, List.append]
  after_region_results
  erw [Pipeline.withArrays_arr spec0 launch0.win.arr_inj c _ _ 5]
  funext i
  idx_vars i
  refine Eq.trans ?_ (final_dp m c i0 i1)
  pointwise [beyond]

/-- The kernel's results. -/
theorem run_value (g : Dev nD → PrngReg) : θ_run (defs (F := Ideal)) (onTc (τ := τ) (main (F := Ideal))) ⟨m, fun _ => 0, g⟩ (fun r => ∀ c : Dev nD,
      r.2.mem ((c.tc : Thread nD τ).loc main_v1_0) = DX (m ((c : Thread nD τ).loc main_arg0)) (m ((c : Thread nD τ).loc main_arg1)) (m ((c : Thread nD τ).loc main_arg2)) (m ((c : Thread nD τ).loc main_arg3))
      ∧ r.2.mem ((c.tc : Thread nD τ).loc main_v2) = (fun i : S4096x1024.Idx => DP (m ((c : Thread nD τ).loc main_arg0)) (m ((c : Thread nD τ).loc main_arg1)) (m ((c : Thread nD τ).loc main_arg2)) (m ((c : Thread nD τ).loc main_arg3)) (i 0) (i 1))
      ∧ r.2.mem ((c.tc : Thread nD τ).loc main_v1_2) = DG (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m g) (unchanged m g))
  exact ⟨((h.1 c).1 4).trans (final_dx m c), ((h.1 c).2 main_v2 (Pipeline.mem_restRefs_of main_v2 (by decide) (by decide))).trans (tail m c), ((h.1 c).1 6).trans (final_dg m c), h.2 c⟩

end

section
open Cert.GateNormRefIdeal Cert.GateNormRefIdeal.Gen Cert.GateNormRefIdeal.Read

theorem ref_dx (x : S4096x1024.Idx → EReal) (p : S4096x4096.Idx → EReal) (g : S128.Idx → EReal) (dy : S4096x1024.Idx → EReal) : val_main_v47 (F := Ideal) x p g dy = DX x p g dy := by
  funext i
  idx_vars i
  pointwise [val_main_v47, val_main_v46, val_main_v45, val_main_v44, val_main_v43, val_main_v42, val_main_v41, val_main_v40, val_main_v39, val_main_v38, val_main_v37, val_main_v36, val_main_v35, val_main_v34, val_main_v33, val_main_v31, val_main_v30, val_main_cst_5, val_main_cst_6, val_main_cst_7, val_main_v25, val_main_v24, val_main_v23, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_v20_0, val_main_v20_1, val_main_v20_2, val_main_cst, val_main_cst_0, val_main_cst_1, val_main_cst_2, val_main_call0_v0, val_main_call0_v1, val_main_call0_v2, val_main_call0_v3, val_main_call0_v4, val_main_call0_v6, val_main_call0_v7, val_main_call0_cst, val_main_call0_cst_0, val_main_call0_cst_1, DX, ms, ct, back, own, beyond]
  simp only [Finset.univ_unique, Finset.sum_singleton]

theorem ref_dp (x : S4096x1024.Idx → EReal) (p : S4096x4096.Idx → EReal) (g : S128.Idx → EReal) (dy : S4096x1024.Idx → EReal) : val_main_v49 (F := Ideal) x p g dy = fun i : S4096x1024.Idx => DP x p g dy (i 0) (i 1) := by
  funext i
  idx_vars i
  pointwise [val_main_v49, val_main_v48, val_main_v26, val_main_call1_v0, val_main_call1_v1, val_main_call1_v2, val_main_v25, val_main_v24, val_main_v23, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_v20_0, val_main_v20_1, val_main_v20_2, val_main_cst, val_main_cst_0, val_main_cst_1, val_main_cst_2, val_main_call0_v0, val_main_call0_v1, val_main_call0_v2, val_main_call0_v3, val_main_call0_v4, val_main_call0_v6, val_main_call0_v7, val_main_call0_cst, val_main_call0_cst_0, val_main_call0_cst_1, DP, gated, ms, own, beyond, sg]

theorem ref_dg (x : S4096x1024.Idx → EReal) (p : S4096x4096.Idx → EReal) (dy : S4096x1024.Idx → EReal) : val_main_v50 (F := Ideal) x p dy = DG x p dy := by
  funext i
  idx_vars i
  have e (j : S128.Idx) : val_main_v28 (F := Ideal) x p dy j = ∑ r : Fin 4096, ∑ h : Fin 8, val_main_v27 (F := Ideal) x p dy (ix3 r h (j 0)) := by
    refine (Sums.leading reducesTo_S4096x8x128_S128_d0_1 _ _ j).trans ?_
    pointwise [val_main_cst_3]
  have e' (j : S128.Idx) : val_main_v32 (F := Ideal) x p dy j = val_main_v28 (F := Ideal) x p dy j := by
    refine (Sums.leading reducesTo_S1x1x128_S128_d0_1 _ _ j).trans ?_
    pointwise [val_main_cst_4, val_main_v29]
    simp only [Finset.univ_unique, Finset.sum_singleton]
  pointwise [val_main_v50]
  rw [e', e, Finset.sum_comm]
  pointwise [val_main_v27, val_main_v25, val_main_v24, val_main_v23, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_v20_0, val_main_v20_1, val_main_v20_2, val_main_cst, val_main_cst_0, val_main_cst_1, val_main_cst_2, val_main_call0_v0, val_main_call0_v1, val_main_call0_v2, val_main_call0_v3, val_main_call0_v4, val_main_call0_v6, val_main_call0_v7, val_main_call0_cst, val_main_call0_cst_0, val_main_call0_cst_1, DG, ms, ct, col, own, beyond]
  have l (h : Fin 8) (k : Fin 128) : ((h : ℕ) * 128 + (i1 : ℕ)) / 128 * 128 + (k : ℕ) = (h : ℕ) * 128 + (k : ℕ) := by omega
  simp only [l]

end

/-- The kernel and the derivative compute the same three arrays over the reals. -/
theorem algebraic : Cert.algebraic_GateNormIdeal_GateNormRefIdeal := by
  intro m g m' g' hpre hagree
  refine ⟨_, _, _, run_value m g, ?_⟩
  refine (θ_run Cert.GateNormRefIdeal.defs _ _).mono (fun r h c => ?_) (Cert.GateNormRefIdeal.Value.run m' g')
  refine ⟨(h c).1.trans ?_, (h c).2.1.trans ?_, (h c).2.2.1.trans ?_, (h c).2.2.2⟩
  · refine (Cert.GateNormRefIdeal.Read.val_main_v47_eq m' c).trans ?_
    rw [(hagree c).1, (hagree c).2.1, (hagree c).2.2.1, (hagree c).2.2.2]
    exact ref_dx _ _ _ _
  · rw [(hagree c).1, (hagree c).2.1, (hagree c).2.2.1, (hagree c).2.2.2]
    exact ref_dp _ _ _ _
  · rw [(hagree c).1, (hagree c).2.1, (hagree c).2.2.2]
    exact ref_dg _ _ _

end Cert.Proof.GateNorm

end
-- ==== Proof.AbDx.lean ====
/- The gradient of the mixer's input through decay and write strength, added to the gradient through the other projections: the kernel computes the reference's array. -/
module

public import proofs.«01_k».proof.Defs
public import proofs.«01_k».proof.Proof.Gen.AbDx.Frame
public import proofs.«01_k».proof.Proof.Gen.AbDxIdeal.Value
public import proofs.«01_k».proof.Proof.Gen.AbDxRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.AbDx

/-- The kernel ends and leaves its arguments as they were. -/
theorem frame_kernel : Cert.quiescent_AbDx := fun m ρ _ => Cert.AbDx.Gen.frame m ρ

/-- The kernel over the reals ends and leaves its arguments as they were. -/
theorem frame_ideal : Cert.quiescent_AbDxIdeal := fun m ρ _ => Cert.AbDxIdeal.Gen.frame m ρ

/-- The reference ends and leaves its arguments as they were. -/
theorem frame_reference : Cert.quiescent_AbDxRefIdeal := fun m ρ _ =>
  (θ_run Cert.AbDxRefIdeal.defs _ _).mono
    (fun r h => ⟨fun c => (h c).2, sem_eq_zero_of_no_sems (by decide) r.2⟩)
    (Cert.AbDxRefIdeal.Value.run m ρ)

/-- The gradient that comes in and the product of the two gates' gradients with their weights. -/
def Y (d : Cert.AbDxRefIdeal.S16x4096.Idx → EReal) (w : Cert.AbDxRefIdeal.S16x1024.Idx → EReal) (x : Cert.AbDxRefIdeal.S4096x1024.Idx → EReal) : Cert.AbDxRefIdeal.S4096x1024.Idx → EReal := fun y => x y + ∑ k : Fin 16, d (ix2 k (y 0)) * w (ix2 k (y 1))

section
open Cert.AbDxIdeal Cert.AbDxIdeal.Gen

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

/-- One element of a block of the result. -/
theorem point (t : Fin cfg0.N) (y : S1024x1024.Idx) (j : S4096x1024.Idx) (h0 : (j 0 : ℕ) = t.val * 1024 + y 0) (h1 : (j 1 : ℕ) = y 1) :
    k0_pay1 (F := Ideal) (iblk m c 0 t) (iblk m c 1 t) (iblk m c 2 t) y = Y (m ((c : Thread nD τ).loc main_arg0)) (m ((c : Thread nD τ).loc main_arg1)) (m ((c : Thread nD τ).loc main_arg2)) j := by
  pointwise [k0_pay1, Y]
  refine (add_comm _ _).trans ?_
  blk_point [iblk, V, idx t]

theorem final : (dats m 0 c).arrAt 3 cfg0.N = Y (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : t.val < 4 := t.isLt
  rw [after0_3]
  frame_out
  exact point m c t y _ (by blk_simp [idx t]) (by blk_simp [idx t])

end

section
open Cert.AbDxRefIdeal Cert.AbDxRefIdeal.Gen Cert.AbDxRefIdeal.Read

theorem ref (d : S16x4096.Idx → EReal) (w : S16x1024.Idx → EReal) (x : S4096x1024.Idx → EReal) : val_main_v7 (F := Ideal) d w x = Y d w x := by
  funext i
  idx_vars i
  pointwise [val_main_v1, val_main_v4, val_main_v5, val_main_v6, val_main_v7, Y]

end

/-- The kernel and the derivative compute the same array over the reals. -/
theorem algebraic : Cert.algebraic_AbDxIdeal_AbDxRefIdeal := by
  pair_intro
  · run_from Cert.AbDxIdeal.Value.run_blocks m g
  · run_from Cert.AbDxRefIdeal.Value.run m' g'
    refine (Cert.AbDxRefIdeal.Read.val_main_v7_eq (F := Ideal) _ _ _).trans ?_
    exact (ref _ _ _).trans (final m c).symm

end Cert.Proof.AbDx

end
-- ==== Proof.RmsFwd.lean ====
/- The norm of the residual stream: the kernel computes the reference's array. -/
module

public import proofs.«01_k».proof.Defs
public import proofs.«01_k».proof.Proof.Gen.RmsFwd.Frame
public import proofs.«01_k».proof.Proof.Gen.RmsFwdIdeal.Value
public import proofs.«01_k».proof.Proof.Gen.RmsFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.RmsFwd

/-- The kernel ends and leaves its arguments as they were. -/
theorem frame_kernel : Cert.quiescent_RmsFwd := fun m ρ _ => Cert.RmsFwd.Gen.frame m ρ

/-- The kernel over the reals ends and leaves its arguments as they were. -/
theorem frame_ideal : Cert.quiescent_RmsFwdIdeal := fun m ρ _ => Cert.RmsFwdIdeal.Gen.frame m ρ

/-- The reference ends and leaves its arguments as they were. -/
theorem frame_reference : Cert.quiescent_RmsFwdRefIdeal := fun m ρ _ =>
  (θ_run Cert.RmsFwdRefIdeal.defs _ _).mono
    (fun r h => ⟨fun c => (h c).2, sem_eq_zero_of_no_sems (by decide) r.2⟩)
    (Cert.RmsFwdRefIdeal.Value.run (F := Ideal) m ρ)

section
open Cert.RmsFwdIdeal Cert.RmsFwdIdeal.Gen

/-- A row's mean square and the norm's small constant. -/
def ms (x : S4096x1024.Idx → EReal) (r : Fin 4096) : EReal := Ideal.div (∑ k : Fin 1024, x (ix2 r k) * x (ix2 r k)) (Ideal.ofBits .f32 0x44800000#32) + Ideal.ofBits .f32 0x358637BD#32

/-- The norm of a row. -/
def Y (x : S4096x1024.Idx → EReal) (g : S1024.Idx → EReal) : S4096x1024.Idx → EReal := fun y => x y * Ideal.rsqrt (ms x (y 0)) * g (ix1 (y 1))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- One element of a block of the result. -/
theorem point (t : Fin cfg0.N) (y : S512x1024.Idx) (j : S4096x1024.Idx) (h0 : (j 0 : ℕ) = t.val * 512 + y 0) (h1 : (j 1 : ℕ) = y 1) :
    k0_pay1 (F := Ideal) (iblk m c 0 t) (iblk m c 1 t) y = Y (m ((c : Thread nD τ).loc main_arg0)) (m ((c : Thread nD τ).loc main_arg1)) j := by
  pointwise [k0_pay1, Y, ms]
  blk_point [iblk, V, idx t]

theorem final : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  blk_simp
  have hN : t.val < 8 := t.isLt
  rw [after0_2]
  frame_out
  exact point m c t y _ (by blk_simp [idx t]) (by blk_simp [idx t])

end

section
open Cert.RmsFwdRefIdeal Cert.RmsFwdRefIdeal.Gen Cert.RmsFwdRefIdeal.Read

theorem ref (x : S4096x1024.Idx → EReal) (g : S1024.Idx → EReal) : val_main_v13 (F := Ideal) x g = Y x g := by
  funext i
  idx_vars i
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, Y, ms]

end

/-- The kernel and the reference compute the same array over the reals. -/
theorem algebraic : Cert.algebraic_RmsFwdIdeal_RmsFwdRefIdeal := by
  pair_intro
  · run_from Cert.RmsFwdIdeal.Value.run_blocks m g
  · run_from Cert.RmsFwdRefIdeal.Value.run m' g'
    · refine (Cert.RmsFwdRefIdeal.Read.val_main_v13_eq _ _ ).trans ?_
      exact (ref _ _ ).trans (final m c).symm

end Cert.Proof.RmsFwd

end
-- ==== Proof.HeadKFwd.lean ====
/- The norm of the shared keys, head by head: the kernel computes the reference's array. -/
module

public import proofs.«01_k».proof.Defs
public import proofs.«01_k».proof.Proof.Gen.HeadKFwd.Frame
public import proofs.«01_k».proof.Proof.Gen.HeadKFwdIdeal.Value
public import proofs.«01_k».proof.Proof.Gen.HeadKFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.HeadKFwd

/-- The kernel ends and leaves its arguments as they were. -/
theorem frame_kernel : Cert.quiescent_HeadKFwd := fun m ρ _ => Cert.HeadKFwd.Gen.frame m ρ

/-- The kernel over the reals ends and leaves its arguments as they were. -/
theorem frame_ideal : Cert.quiescent_HeadKFwdIdeal := fun m ρ _ => Cert.HeadKFwdIdeal.Gen.frame m ρ

/-- The reference ends and leaves its arguments as they were. -/
theorem frame_reference : Cert.quiescent_HeadKFwdRefIdeal := fun m ρ _ =>
  (θ_run Cert.HeadKFwdRefIdeal.defs _ _).mono
    (fun r h => ⟨fun c => (h c).2, sem_eq_zero_of_no_sems (by decide) r.2⟩)
    (Cert.HeadKFwdRefIdeal.Value.run (F := Ideal) m ρ)

section
open Cert.HeadKFwdIdeal Cert.HeadKFwdIdeal.Gen

/-- Lane `k` of the head that column `j` belongs to. -/
def lane (j : Fin 1024) (k : Fin 128) : Fin 2048 := ⟨(j : ℕ) / 128 * 128 + (k : ℕ), by omega⟩

/-- A head's mean square in a row and the norm's small constant. -/
def ms (x : S4096x2048.Idx → EReal) (r : Fin 4096) (j : Fin 1024) : EReal := Ideal.div (∑ k : Fin 128, x (ix2 r (lane j k)) * x (ix2 r (lane j k))) (Ideal.ofBits .f32 0x43000000#32) + Ideal.ofBits .f32 0x358637BD#32

/-- A column among the keys and values. -/
def up (j : Fin 1024) : Fin 2048 := ⟨(j : ℕ), by omega⟩

/-- The norm of a key. -/
def Y (x : S4096x2048.Idx → EReal) (g : S128.Idx → EReal) : S4096x1024.Idx → EReal := fun y => x (ix2 (y 0) (up (y 1))) * Ideal.rsqrt (ms x (y 0) (y 1)) * g (ix1 ⟨(y 1 : ℕ) % 128, Nat.mod_lt _ (by decide)⟩)

variable (m : (ℓ : Loc nD τ sig) → Buf (Elt Ideal) ℓ) (c : Dev nD)

theorem idx : ∀ t : Fin cfg0.N, win0_0.index t = ![t.val % 4, t.val / 4] ∧ win0_1.index t = ![0, 0] ∧ win0_2.index t = ![t.val % 4, t.val / 4] :=
  (by decide +kernel : ∀ t : Fin grid0.N, _)

/-- One element of a block of the result. -/
theorem point (t : Fin cfg0.N) (y : S1024x128.Idx) (j : S4096x1024.Idx) (h0 : (j 0 : ℕ) = t.val % 4 * 1024 + y 0) (h1 : (j 1 : ℕ) = t.val / 4 * 128 + y 1) :
    k0_pay1 (F := Ideal) (iblk m c 0 t) (iblk m c 1 t) y = Y (m ((c : Thread nD τ).loc main_arg0)) (m ((c : Thread nD τ).loc main_arg1)) j := by
  pointwise [k0_pay1, Y, ms, lane, up]
  blk_point [iblk, V, idx t]

theorem final : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  blk_simp
  have hN : t.val < 32 := t.isLt
  rw [after0_2]
  frame_out
  exact point m c t y _ (by blk_simp [idx t]) (by blk_simp [idx t])

end

section
open Cert.HeadKFwdRefIdeal Cert.HeadKFwdRefIdeal.Gen Cert.HeadKFwdRefIdeal.Read

theorem ref (x : S4096x2048.Idx → EReal) (g : S128.Idx → EReal) : val_main_v17 (F := Ideal) x g = Y x g := by
  funext i
  idx_vars i
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, Y, ms, lane, up]
  simp only [Nat.div_add_mod']

end

/-- The kernel and the reference compute the same array over the reals. -/
theorem algebraic : Cert.algebraic_HeadKFwdIdeal_HeadKFwdRefIdeal := by
  pair_intro
  · run_from Cert.HeadKFwdIdeal.Value.run_blocks m g
  · run_from Cert.HeadKFwdRefIdeal.Value.run m' g'
    · refine (Cert.HeadKFwdRefIdeal.Read.val_main_v17_eq _ _ ).trans ?_
      exact (ref _ _ ).trans (final m c).symm

end Cert.Proof.HeadKFwd

end
-- ==== Proof.HeadQFwd.lean ====
/- The norm of the queries with the scale of the attention, head by head: the kernel computes the reference's array. -/
module

public import proofs.«01_k».proof.Defs
public import proofs.«01_k».proof.Proof.Gen.HeadQFwd.Frame
public import proofs.«01_k».proof.Proof.Gen.HeadQFwdIdeal.Value
public import proofs.«01_k».proof.Proof.Gen.HeadQFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.HeadQFwd

/-- The kernel ends and leaves its arguments as they were. -/
theorem frame_kernel : Cert.quiescent_HeadQFwd := fun m ρ _ => Cert.HeadQFwd.Gen.frame m ρ

/-- The kernel over the reals ends and leaves its arguments as they were. -/
theorem frame_ideal : Cert.quiescent_HeadQFwdIdeal := fun m ρ _ => Cert.HeadQFwdIdeal.Gen.frame m ρ

/-- The reference ends and leaves its arguments as they were. -/
theorem frame_reference : Cert.quiescent_HeadQFwdRefIdeal := fun m ρ _ =>
  (θ_run Cert.HeadQFwdRefIdeal.defs _ _).mono
    (fun r h => ⟨fun c => (h c).2, sem_eq_zero_of_no_sems (by decide) r.2⟩)
    (Cert.HeadQFwdRefIdeal.Value.run (F := Ideal) m ρ)

section
open Cert.HeadQFwdIdeal Cert.HeadQFwdIdeal.Gen

/-- Lane `k` of the head that column `j` belongs to. -/
def lane (j : Fin 1024) (k : Fin 128) : Fin 1024 := ⟨(j : ℕ) / 128 * 128 + (k : ℕ), by omega⟩

/-- A head's mean square in a row and the norm's small constant. -/
def ms (x : S4096x1024.Idx → EReal) (r : Fin 4096) (j : Fin 1024) : EReal := Ideal.div (∑ k : Fin 128, x (ix2 r (lane j k)) * x (ix2 r (lane j k))) (Ideal.ofBits .f32 0x43000000#32) + Ideal.ofBits .f32 0x358637BD#32

/-- The scaled norm of a query. -/
def Y (x : S4096x1024.Idx → EReal) (g : S128.Idx → EReal) : S4096x1024.Idx → EReal := fun y => x y * Ideal.rsqrt (ms x (y 0) (y 1)) * (g (ix1 ⟨(y 1 : ℕ) % 128, Nat.mod_lt _ (by decide)⟩) * Ideal.ofBits .f32 0x3DB504F3#32)

variable (m : (ℓ : Loc nD τ sig) → Buf (Elt Ideal) ℓ) (c : Dev nD)

theorem idx : ∀ t : Fin cfg0.N, win0_0.index t = ![t.val % 4, t.val / 4] ∧ win0_1.index t = ![0, 0] ∧ win0_2.index t = ![t.val % 4, t.val / 4] :=
  (by decide +kernel : ∀ t : Fin grid0.N, _)

/-- One element of a block of the result. -/
theorem point (t : Fin cfg0.N) (y : S1024x128.Idx) (j : S4096x1024.Idx) (h0 : (j 0 : ℕ) = t.val % 4 * 1024 + y 0) (h1 : (j 1 : ℕ) = t.val / 4 * 128 + y 1) :
    k0_pay1 (F := Ideal) (iblk m c 0 t) (iblk m c 1 t) y = Y (m ((c : Thread nD τ).loc main_arg0)) (m ((c : Thread nD τ).loc main_arg1)) j := by
  pointwise [k0_pay1, Y, ms, lane]
  blk_point [iblk, V, idx t]

theorem final : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  blk_simp
  have hN : t.val < 32 := t.isLt
  rw [after0_2]
  frame_out
  exact point m c t y _ (by blk_simp [idx t]) (by blk_simp [idx t])

end

section
open Cert.HeadQFwdRefIdeal Cert.HeadQFwdRefIdeal.Gen Cert.HeadQFwdRefIdeal.Read

theorem ref (x : S4096x1024.Idx → EReal) (g : S128.Idx → EReal) : val_main_v17 (F := Ideal) x g = Y x g := by
  funext i
  idx_vars i
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16, val_main_v17, Y, ms, lane]
  exact mul_assoc _ _ _

end

/-- The kernel and the reference compute the same array over the reals. -/
theorem algebraic : Cert.algebraic_HeadQFwdIdeal_HeadQFwdRefIdeal := by
  pair_intro
  · run_from Cert.HeadQFwdIdeal.Value.run_blocks m g
  · run_from Cert.HeadQFwdRefIdeal.Value.run m' g'
    · refine (Cert.HeadQFwdRefIdeal.Read.val_main_v17_eq _ _ ).trans ?_
      exact (ref _ _ ).trans (final m c).symm

end Cert.Proof.HeadQFwd

end
-- ==== Proof.GateNormFwd.lean ====
/- The gated norm behind the recurrence, head by head: the kernel computes the reference's array. -/
module

public import proofs.«01_k».proof.Defs
public import proofs.«01_k».proof.Proof.Gen.GateNormFwd.Frame
public import proofs.«01_k».proof.Proof.Gen.GateNormFwdIdeal.Value
public import proofs.«01_k».proof.Proof.Gen.GateNormFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.GateNormFwd

/-- The kernel ends and leaves its arguments as they were. -/
theorem frame_kernel : Cert.quiescent_GateNormFwd := fun m ρ _ => Cert.GateNormFwd.Gen.frame m ρ

/-- The kernel over the reals ends and leaves its arguments as they were. -/
theorem frame_ideal : Cert.quiescent_GateNormFwdIdeal := fun m ρ _ => Cert.GateNormFwdIdeal.Gen.frame m ρ

/-- The reference ends and leaves its arguments as they were. -/
theorem frame_reference : Cert.quiescent_GateNormFwdRefIdeal := fun m ρ _ =>
  (θ_run Cert.GateNormFwdRefIdeal.defs _ _).mono
    (fun r h => ⟨fun c => (h c).2, sem_eq_zero_of_no_sems (by decide) r.2⟩)
    (Cert.GateNormFwdRefIdeal.Value.run (F := Ideal) m ρ)

section
open Cert.GateNormFwdIdeal Cert.GateNormFwdIdeal.Gen

/-- Lane `k` of the head that column `j` belongs to. -/
def lane (j : Fin 1024) (k : Fin 128) : Fin 1024 := ⟨(j : ℕ) / 128 * 128 + (k : ℕ), by omega⟩

/-- A head's mean square in a row and the norm's small constant. -/
def ms (x : S4096x1024.Idx → EReal) (r : Fin 4096) (j : Fin 1024) : EReal := Ideal.div (∑ k : Fin 128, x (ix2 r (lane j k)) * x (ix2 r (lane j k))) (Ideal.ofBits .f32 0x43000000#32) + Ideal.ofBits .f32 0x358637BD#32

/-- A column of the gates among the projections. -/
def beyond (j : Fin 1024) : Fin 4096 := ⟨3072 + (j : ℕ), by omega⟩

/-- The norm of a head's output times the silu of its gate. -/
def Y (x : S4096x1024.Idx → EReal) (p : S4096x4096.Idx → EReal) (g : S128.Idx → EReal) : S4096x1024.Idx → EReal := fun y =>
  x y * Ideal.rsqrt (ms x (y 0) (y 1)) * g (ix1 ⟨(y 1 : ℕ) % 128, Nat.mod_lt _ (by decide)⟩) * (p (ix2 (y 0) (beyond (y 1))) * Ideal.div 1 (1 + Ideal.exp (-p (ix2 (y 0) (beyond (y 1))))))

variable (m : (ℓ : Loc nD τ sig) → Buf (Elt Ideal) ℓ) (c : Dev nD)

theorem idx : ∀ t : Fin cfg0.N, win0_0.index t = ![t.val % 4, t.val / 4] ∧ win0_1.index t = ![t.val % 4, 24 + t.val / 4] ∧ win0_2.index t = ![0, 0] ∧ win0_3.index t = ![t.val % 4, t.val / 4] :=
  (by decide +kernel : ∀ t : Fin grid0.N, _)

/-- One element of a block of the result. -/
theorem point (t : Fin cfg0.N) (y : S1024x128.Idx) (j : S4096x1024.Idx) (h0 : (j 0 : ℕ) = t.val % 4 * 1024 + y 0) (h1 : (j 1 : ℕ) = t.val / 4 * 128 + y 1) :
    k0_pay1 (F := Ideal) (iblk m c 0 t) (iblk m c 1 t) (iblk m c 2 t) y = Y (m ((c : Thread nD τ).loc main_arg0)) (m ((c : Thread nD τ).loc main_arg1)) (m ((c : Thread nD τ).loc main_arg2)) j := by
  pointwise [k0_pay1, Y, ms, lane, beyond]
  simp only [zero_sub]
  blk_point [iblk, V, idx t]

theorem final : (dats m 0 c).arrAt 3 cfg0.N = Y (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : t.val < 32 := t.isLt
  rw [after0_3]
  frame_out
  exact point m c t y _ (by blk_simp [idx t]) (by blk_simp [idx t])

end

section
open Cert.GateNormFwdRefIdeal Cert.GateNormFwdRefIdeal.Gen Cert.GateNormFwdRefIdeal.Read

theorem ref (x : S4096x1024.Idx → EReal) (p : S4096x4096.Idx → EReal) (g : S128.Idx → EReal) : val_main_v20 (F := Ideal) x p g = Y x p g := by
  funext i
  idx_vars i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18, val_main_v19, val_main_v20, Y, ms, lane, beyond]

end

/-- The kernel and the reference compute the same array over the reals. -/
theorem algebraic : Cert.algebraic_GateNormFwdIdeal_GateNormFwdRefIdeal := by
  pair_intro
  · run_from Cert.GateNormFwdIdeal.Value.run_blocks m g
  · run_from Cert.GateNormFwdRefIdeal.Value.run m' g'
    · refine (Cert.GateNormFwdRefIdeal.Read.val_main_v20_eq _ _ _ ).trans ?_
      exact (ref _ _ _ ).trans (final m c).symm

end Cert.Proof.GateNormFwd

end
-- ==== Proof.GatesFwd.lean ====
/- The recurrence's decay and write strength: the kernel computes the reference's two arrays. -/
module

public import proofs.«01_k».proof.Defs
public import proofs.«01_k».proof.Proof.Gen.GatesFwd.Frame
public import proofs.«01_k».proof.Proof.Gen.GatesFwdIdeal.Value
public import proofs.«01_k».proof.Proof.Gen.GatesFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.GatesFwd

/-- The kernel ends and leaves its arguments as they were. -/
theorem frame_kernel : Cert.quiescent_GatesFwd := fun m ρ _ => Cert.GatesFwd.Gen.frame m ρ

/-- The kernel over the reals ends and leaves its arguments as they were. -/
theorem frame_ideal : Cert.quiescent_GatesFwdIdeal := fun m ρ _ => Cert.GatesFwdIdeal.Gen.frame m ρ

/-- The reference ends and leaves its arguments as they were. -/
theorem frame_reference : Cert.quiescent_GatesFwdRefIdeal := fun m ρ _ =>
  (θ_run Cert.GatesFwdRefIdeal.defs _ _).mono
    (fun r h => ⟨fun c => (h c).2.2, sem_eq_zero_of_no_sems (by decide) r.2⟩)
    (Cert.GatesFwdRefIdeal.Value.run (F := Ideal) m ρ)

/-- The absolute value. -/
theorem absf_eq (x : EReal) : FloatOps.absf (F := Ideal) (φ := .f32) x = max x (-x) := rfl

/-- The rows of the decay among the gates' rows. -/
def lo (h : Fin 8) : Fin 16 := ⟨(h : ℕ), by omega⟩

/-- The rows of the write strength. -/
def hi (h : Fin 8) : Fin 16 := ⟨8 + (h : ℕ), by omega⟩

/-- The softplus function. -/
def sp (x : EReal) : EReal := max x 0 + Ideal.log (1 + Ideal.exp (-(max x (-x))))

/-- The logarithm of the decay. -/
def G (ab : Cert.GatesFwdRefIdeal.S16x4096.Idx → EReal) (al dt : Cert.GatesFwdRefIdeal.S8.Idx → EReal) : Cert.GatesFwdRefIdeal.S8x4096.Idx → EReal := fun y =>
  -Ideal.exp (al (ix1 (y 0))) * sp (ab (ix2 (lo (y 0)) (y 1)) + dt (ix1 (y 0)))

/-- The write strength. -/
def B (ab : Cert.GatesFwdRefIdeal.S16x4096.Idx → EReal) : Cert.GatesFwdRefIdeal.S8x4096.Idx → EReal := fun y => Ideal.div 1 (1 + Ideal.exp (-ab (ix2 (hi (y 0)) (y 1))))

section
open Cert.GatesFwdIdeal Cert.GatesFwdIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The kernel reads this head's scale. -/
theorem read_al (t : Fin cfg0.N) (h : Fin 8) (k : Fin 1) : iblk m c 1 t (ix2 h k) = (m ((c : Thread nD τ).loc main_arg1)) (ix1 h) := by
  have e : (win0_1.blk t).view.emb (ix2 h k) = ix2 h k := by
    funext a
    fin_cases a <;> exact Fin.ext (by blk_simp [idx t])
  blk_simp [iblk, V]
  entry_read
  pointwise
  rw [e]
  pointwise

/-- The kernel reads this head's offset. -/
theorem read_dt (t : Fin cfg0.N) (h : Fin 8) (k : Fin 1) : iblk m c 2 t (ix2 h k) = (m ((c : Thread nD τ).loc main_arg2)) (ix1 h) := by
  have e : (win0_2.blk t).view.emb (ix2 h k) = ix2 h k := by
    funext a
    fin_cases a <;> exact Fin.ext (by blk_simp [idx t])
  blk_simp [iblk, V]
  entry_read
  pointwise
  rw [e]
  pointwise

/-- One element of a block of the result. -/
theorem point_3 (t : Fin cfg0.N) (y : S8x4096.Idx) (j : S8x4096.Idx) (h0 : (j 0 : ℕ) = y 0) (h1 : (j 1 : ℕ) = y 1) :
    k0_pay1 (F := Ideal) (iblk m c 0 t) (iblk m c 1 t) (iblk m c 2 t) y = G (m ((c : Thread nD τ).loc main_arg0)) (m ((c : Thread nD τ).loc main_arg1)) (m ((c : Thread nD τ).loc main_arg2)) j := by
  obtain rfl : y = j := funext fun a => by fin_cases a <;> [exact Fin.ext h0.symm; exact Fin.ext h1.symm]
  pointwise [k0_pay1, G, sp, lo, absf_eq]
  simp only [zero_sub, read_al m c, read_dt m c]
  blk_point [iblk, V, idx t]

theorem final_3 : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : t.val < 1 := t.isLt
  rw [after0_3]
  frame_out
  exact point_3 m c t y _ (by blk_simp [idx t]) (by blk_simp [idx t])

/-- One element of a block of the result. -/
theorem point_4 (t : Fin cfg0.N) (y : S8x4096.Idx) (j : S8x4096.Idx) (h0 : (j 0 : ℕ) = y 0) (h1 : (j 1 : ℕ) = y 1) :
    k0_pay2 (F := Ideal) (iblk m c 0 t) y = B (m ((c : Thread nD τ).loc main_arg0)) j := by
  pointwise [k0_pay2, B, hi]
  simp only [zero_sub]
  blk_point [iblk, V, idx t]

theorem final_4 : (dats m 0 c).arrAt 4 cfg0.N = B (m ((c : Thread nD τ).loc main_arg0)) := by
  refine (dats m 0 c).arrAt_eq_of_covers 4 _ (by decide +kernel) fun t hf y => ?_
  blk_simp
  have hN : t.val < 1 := t.isLt
  rw [after0_4]
  frame_out
  exact point_4 m c t y _ (by blk_simp [idx t]) (by blk_simp [idx t])

end

section
open Cert.GatesFwdRefIdeal Cert.GatesFwdRefIdeal.Gen Cert.GatesFwdRefIdeal.Read

theorem ref_3 (ab : S16x4096.Idx → EReal) (al : S8.Idx → EReal) (dt : S8.Idx → EReal) : val_main_v22 (F := Ideal) ab al dt = G ab al dt := by
  funext i
  idx_vars i
  pointwise [val_main_v0, val_main_v1, val_main_v2, val_main_v3, val_main_v4, val_main_v5, val_main_v6, val_main_v7, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst_0, val_main_v25, val_main_v26, val_main_cst_1, val_main_v27, val_main_v28, G, sp, lo]
  exact congrArg (_ * ·) (if_neg (fun h => h rfl))

theorem ref_4 (ab : S16x4096.Idx → EReal) : val_main_v28 (F := Ideal) ab = B ab := by
  funext i
  idx_vars i
  pointwise [val_main_v0, val_main_v1, val_main_v2, val_main_v3, val_main_v4, val_main_v5, val_main_v6, val_main_v7, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst_0, val_main_v25, val_main_v26, val_main_cst_1, val_main_v27, val_main_v28, B, hi]

end

/-- The kernel and the reference compute the same arrays over the reals. -/
theorem algebraic : Cert.algebraic_GatesFwdIdeal_GatesFwdRefIdeal := by
  pair_intro
  · run_from Cert.GatesFwdIdeal.Value.run_blocks m g
  · run_from Cert.GatesFwdRefIdeal.Value.run m' g'
    · refine (Cert.GatesFwdRefIdeal.Read.val_main_v22_eq (F := Ideal) _ _ _ ).trans ?_
      exact (ref_3 _ _ _ ).trans (final_3 m c).symm
    · refine (Cert.GatesFwdRefIdeal.Read.val_main_v28_eq (F := Ideal) _ ).trans ?_
      exact (ref_4 _ ).trans (final_4 m c).symm

end Cert.Proof.GatesFwd

end
-- ==== Proof.ConvFwd.lean ====
/- The short causal convolution with its silu: the kernel computes the reference's array. -/
module

public import proofs.«01_k».proof.Defs
public import proofs.«01_k».proof.Proof.Gen.ConvFwd.Frame
public import proofs.«01_k».proof.Proof.Gen.ConvFwdIdeal.Value
public import proofs.«01_k».proof.Proof.Gen.ConvFwdRefIdeal.Read
public import proofs.«01_k».proof.Proof.Shift
public import Idealize.ShloMosaic.Lib.KernelVsHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.ConvFwd

/-- The kernel ends and leaves its arguments as they were. -/
theorem frame_kernel : Cert.quiescent_ConvFwd := fun m ρ _ => Cert.ConvFwd.Gen.frame m ρ

/-- The kernel over the reals ends and leaves its arguments as they were. -/
theorem frame_ideal : Cert.quiescent_ConvFwdIdeal := fun m ρ _ => Cert.ConvFwdIdeal.Gen.frame m ρ

/-- The reference ends and leaves its arguments as they were. -/
theorem frame_reference : Cert.quiescent_ConvFwdRefIdeal := fun m ρ _ =>
  (θ_run Cert.ConvFwdRefIdeal.defs _ _).mono
    (fun r h => ⟨fun c => (h c).2, sem_eq_zero_of_no_sems (by decide) r.2⟩)
    (Cert.ConvFwdRefIdeal.Value.run (F := Ideal) m ρ)

open Cert.Proof.Conv

abbrev Proj := FVec Ideal Cert.ConvFwdRefIdeal.S4096x4096 .bf16
abbrev Taps := FVec Ideal Cert.ConvFwdRefIdeal.S4x3072 .f32

/-- A column of the layer's projection. -/
def X (p : Proj) (j : Fin 3072) (r : Fin 4096) : EReal := p (ix2 r ⟨j.val, by omega⟩)

/-- The convolution. -/
def C (p : Proj) (w : Taps) (j : Fin 3072) (r : Fin 4096) : EReal :=
  pv (X p j) 3 r * w (ix2 0 j) + pv (X p j) 2 r * w (ix2 1 j) + pv (X p j) 1 r * w (ix2 2 j) + X p j r * w (ix2 3 j)

/-- The silu of the convolution's own column. -/
def U (p : Proj) (w : Taps) (j : Fin 3072) (r : Fin 4096) : EReal := C p w j r * Ideal.div 1 (1 + Ideal.exp (-C p w j r))

/-- A column of the result's three arrays. -/
def col (a : Fin 3) (b : Fin 1024) : Fin 3072 := ⟨1024 * a.val + b.val, by omega⟩

/-- The result: three arrays of 1024 columns. -/
def Y (p : Proj) (w : Taps) : Cert.ConvFwdRefIdeal.S3x4096x1024.Idx → EReal := fun y => U p w (col (y 0) (y 2)) (y 1)

section
open Cert.ConvFwdIdeal Cert.ConvFwdIdeal.Gen

/-- One element of the convolution as the kernel takes it. -/
theorem pay2_at (x : Vec Ideal S4096x256 .bf16) (w : Vec Ideal S4x256 .f32) (r : Fin 4096) (j : Fin 256) :
    k0_pay2 (F := Ideal) x w (ix2 r j) = pv (fun k => x (ix2 k j)) 3 r * w (ix2 0 j) + pv (fun k => x (ix2 k j)) 2 r * w (ix2 1 j)
        + pv (fun k => x (ix2 k j)) 1 r * w (ix2 2 j) + x (ix2 r j) * w (ix2 3 j) := by
  rw [pv_mul, pv_mul, pv_mul]
  pointwise [k0_pay2]
  exact congrArg₂ (· + ·) (congrArg₂ (· + ·) (congrArg₂ (· + ·)
    (rot_dn (fun k => x (ix2 k j) * w (ix2 0 j)) r 3 (by omega) _) (rot_dn (fun k => x (ix2 k j) * w (ix2 1 j)) r 2 (by omega) _))
    (rot_dn (fun k => x (ix2 k j) * w (ix2 2 j)) r 1 (by omega) _)) rfl

/-- One element of the block that a grid point writes. -/
theorem pay1_at (x : Vec Ideal S4096x256 .bf16) (w : Vec Ideal S4x256 .f32) (o : Fin 1) (r : Fin 4096) (j : Fin 256) :
    k0_pay1 (F := Ideal) (k0_pay2 x w) (k0_pay3 x w) (ix3 o r j)
      = k0_pay2 (F := Ideal) x w (ix2 r j) * Ideal.div 1 (1 + Ideal.exp (-k0_pay2 (F := Ideal) x w (ix2 r j))) := by
  pointwise [k0_pay1, k0_pay3, zero_sub]

variable (m : (ℓ : Loc nD τ sig) → Buf (Elt Ideal) ℓ) (c : Dev nD)

theorem idx : ∀ t : Fin cfg0.N, win0_0.index t = ![0, t.val] ∧ win0_1.index t = ![0, t.val] ∧ win0_2.index t = ![t.val / 4, 0, t.val % 4] :=
  (by decide +kernel : ∀ t : Fin grid0.N, _)

theorem read_x (t : Fin cfg0.N) (r : Fin 4096) (x : Fin 256) (j : Fin 3072) (hj : j.val = 256 * t.val + x.val) : iblk m c 0 t (ix2 r x) = X (m ((c : Thread nD τ).loc main_arg0)) j r := by
  pointwise [X]
  blk_point [iblk, V, idx t]

theorem read_w (t : Fin cfg0.N) (i : Fin 4) (x : Fin 256) (j : Fin 3072) (hj : j.val = 256 * t.val + x.val) : iblk m c 1 t (ix2 i x) = (m ((c : Thread nD τ).loc main_arg1)) (ix2 i j) := by
  pointwise
  blk_point [iblk, V, idx t]

theorem point (t : Fin cfg0.N) (o : Fin 1) (r : Fin 4096) (x : Fin 256) (j : Fin 3072) (hj : j.val = 256 * t.val + x.val) :
    k0_pay1 (F := Ideal) (k0_pay2 (iblk m c 0 t) (iblk m c 1 t)) (k0_pay3 (iblk m c 0 t) (iblk m c 1 t)) (ix3 o r x) = U (m ((c : Thread nD τ).loc main_arg0)) (m ((c : Thread nD τ).loc main_arg1)) j r := by
  rw [pay1_at, pay2_at]
  simp only [read_x m c t _ x j hj, read_w m c t _ x j hj]
  rfl

theorem final : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  blk_simp
  have hN : t.val < 12 := t.isLt
  rw [after0_2]
  frame_out
  rw [eq_ix3 y]
  have hy : (y 2).val < 256 := (y 2).isLt
  refine (point m c t (y 0) (y 1) (y 2) ⟨256 * t.val + (y 2).val, by omega⟩ rfl).trans ?_
  refine congrArg₂ (U (m ((c : Thread nD τ).loc main_arg0)) (m ((c : Thread nD τ).loc main_arg1))) (Fin.ext ?_) (Fin.ext ?_)
  · dsimp only [col]
    blk_simp [idx t]
    omega
  · blk_simp [idx t]
end

section
open Cert.ConvFwdRefIdeal Cert.ConvFwdRefIdeal.Gen Cert.ConvFwdRefIdeal.Read

theorem conv_at (p : Proj) (w : Taps) (r : Fin 4096) (j : Fin 3072) : val_main_v35 (F := Ideal) p w (ix2 r j) = C p w j r := by
  pointwise [val_main_v0, val_main_v1, val_main_cst, val_main_v2, val_main_v3, val_main_v4, val_main_v5, val_main_v6, val_main_v7, val_main_v8, val_main_v9, val_main_cst_0, val_main_v10, val_main_v11, val_main_cst_1, val_main_v12, val_main_v13, val_main_v14, val_main_v15, val_main_v16, val_main_v17, val_main_v18, val_main_v19, val_main_v20, val_main_cst_2, val_main_v21, val_main_v22, val_main_v23, val_main_v24, val_main_v25, val_main_v26, val_main_v27, val_main_v28, val_main_v29, val_main_v30, val_main_v31, val_main_v32, val_main_v33, val_main_v34, val_main_v35, C]
  exact congrArg₂ (· + ·) (congrArg₂ (· + ·) (congrArg₂ (· + ·)
    (congrArg (· * _) (pv_of (X p j) 3 r _)) (congrArg (· * _) (pv_of (X p j) 2 r _))) (congrArg (· * _) (pv_of (X p j) 1 r _))) rfl

theorem ref (p : Proj) (w : Taps) : val_main_v38 (F := Ideal) p w = Y p w := by
  funext i
  idx_vars i
  show _ = U p w _ i1
  rw [U, ← conv_at]
  pointwise [val_main_call0_v0, val_main_call0_v1, val_main_call0_cst, val_main_call0_v2, val_main_call0_v3, val_main_call0_cst_0, val_main_call0_v4, val_main_call0_v5, val_main_v36, val_main_v37, val_main_v38, col]
  have e : i0.val * 1024 + i2.val = 1024 * i0.val + i2.val := by omega
  simp only [e]
end

/-- The kernel and the reference compute the same array over the reals. -/
theorem algebraic : Cert.algebraic_ConvFwdIdeal_ConvFwdRefIdeal := by
  pair_intro
  · run_from Cert.ConvFwdIdeal.Value.run_blocks m g
  · run_from Cert.ConvFwdRefIdeal.Value.run m' g'
    refine (Cert.ConvFwdRefIdeal.Read.val_main_v38_eq m' c).trans ?_
    rw [(hagree c).1, (hagree c).2]
    exact (ref _ _).trans (final m c).symm

end Cert.Proof.ConvFwd

end
-- ==== Proof.FfnFwd.lean ====
/- The feed-forward layer's input projection and its gated unit: the kernel computes the reference's two arrays. -/
module

public import proofs.«01_k».proof.Defs
public import proofs.«01_k».proof.Proof.Gen.FfnFwd.Frame
public import proofs.«01_k».proof.Proof.Gen.FfnFwdIdeal.Value
public import proofs.«01_k».proof.Proof.Gen.FfnFwdRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.FfnFwd

/-- The kernel ends and leaves its arguments as they were. -/
theorem frame_kernel : Cert.quiescent_FfnFwd := fun m ρ _ => Cert.FfnFwd.Gen.frame m ρ

/-- The kernel over the reals ends and leaves its arguments as they were. -/
theorem frame_ideal : Cert.quiescent_FfnFwdIdeal := fun m ρ _ => Cert.FfnFwdIdeal.Gen.frame m ρ

/-- The reference ends and leaves its arguments as they were. -/
theorem frame_reference : Cert.quiescent_FfnFwdRefIdeal := fun m ρ _ =>
  (θ_run Cert.FfnFwdRefIdeal.defs _ _).mono
    (fun r h => ⟨fun c => (h c).2.2, sem_eq_zero_of_no_sems (by decide) r.2⟩)
    (Cert.FfnFwdRefIdeal.Value.run (F := Ideal) m ρ)

/-- The two halves of the unit's argument. -/
def GU (x : Cert.FfnFwdRefIdeal.S4096x1024.Idx → EReal) (w : Cert.FfnFwdRefIdeal.S1024x5632.Idx → EReal) : Cert.FfnFwdRefIdeal.S4096x5632.Idx → EReal := fun y => ∑ k : Fin 1024, x (ix2 (y 0) k) * w (ix2 k (y 1))

/-- A column of the first half, and of the second. -/
def lo (l : Fin 2816) : Fin 5632 := ⟨l.val, by omega⟩
def hi (l : Fin 2816) : Fin 5632 := ⟨2816 + l.val, by omega⟩

/-- The unit's value: the silu of the first half times the second. -/
def ACT (x : Cert.FfnFwdRefIdeal.S4096x1024.Idx → EReal) (w : Cert.FfnFwdRefIdeal.S1024x5632.Idx → EReal) : Cert.FfnFwdRefIdeal.S4096x2816.Idx → EReal := fun y =>
  GU x w (ix2 (y 0) (lo (y 1))) * Ideal.div 1 (1 + Ideal.exp (-GU x w (ix2 (y 0) (lo (y 1))))) * GU x w (ix2 (y 0) (hi (y 1)))

section
open Cert.FfnFwdIdeal Cert.FfnFwdIdeal.Gen

variable (m : (ℓ : Loc nD τ sig) → Buf (Elt Ideal) ℓ) (c : Dev nD)

theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, _)

/-- The kernel reads the weights chip by chip. -/
theorem read_w (t : Fin cfg0.N) (n : Fin 4) (k : Fin 1024) (l : Fin 1408) : iblk m c 1 t (ix4 n 0 k l) = (m ((c : Thread nD τ).loc main_arg1)) (ix2 k ⟨1408 * (n : ℕ) + (l : ℕ), by omega⟩) := by
  blk_point [iblk, idx t]

/-- The blocks of the two factors. -/
abbrev bx (t : Fin cfg0.N) : FVec Ideal Cert.FfnFwdIdeal.S512x1024 .bf16 := iblk m c 0 t
abbrev bw (t : Fin cfg0.N) : FVec Ideal Cert.FfnFwdIdeal.S4x1x1024x1408 .bf16 := iblk m c 1 t

/-- A row against a chip's column of the weights. -/
theorem dot_at (t : Fin cfg0.N) (x : Cert.FfnFwdIdeal.S512x1408.Idx) (n : Fin 4) (r : Fin 4096) (l : Fin 5632) (h0 : (r : ℕ) = t.val * 512 + x 0) (h1 : (l : ℕ) = 1408 * n + x 1) :
    ∑ k : Fin 1024, bx m c t (ix2 (x 0) k) * bw m c t (ix4 n 0 k (x 1)) = GU (m ((c : Thread nD τ).loc main_arg0)) (m ((c : Thread nD τ).loc main_arg1)) (ix2 r l) := by
  refine Finset.sum_congr rfl fun k _ => congrArg₂ (· * ·) ?_ ?_
  · pointwise
    blk_point [iblk, V, idx t]
  · refine (read_w m c t n k (x 1)).trans (congrArg _ ?_)
    exact congrArg (ix2 k) (Fin.ext h1.symm)

theorem point_g0 (t : Fin cfg0.N) (x : Cert.FfnFwdIdeal.S512x1408.Idx) (j : Cert.FfnFwdRefIdeal.S4096x5632.Idx) (h0 : (j 0 : ℕ) = t.val * 512 + x 0) (h1 : (j 1 : ℕ) = 0 + x 1) :
    k0_pay7 (F := Ideal) (View.ld (iblk m c 0 t) r0_0) (View.ld (iblk m c 1 t) r0_1) x = GU (m ((c : Thread nD τ).loc main_arg0)) (m ((c : Thread nD τ).loc main_arg1)) j := by
  refine Eq.trans ?_ (dot_at m c t x 0 (j 0) (j 1) h0 (by omega))
  pointwise [k0_pay7, k0_pay5]

theorem point_g1 (t : Fin cfg0.N) (x : Cert.FfnFwdIdeal.S512x1408.Idx) (j : Cert.FfnFwdRefIdeal.S4096x5632.Idx) (h0 : (j 0 : ℕ) = t.val * 512 + x 0) (h1 : (j 1 : ℕ) = 1408 + x 1) :
    k0_pay2 (F := Ideal) (k0_pay11 (iblk m c 0 t) (iblk m c 1 t)) x = GU (m ((c : Thread nD τ).loc main_arg0)) (m ((c : Thread nD τ).loc main_arg1)) j := by
  refine Eq.trans ?_ (dot_at m c t x 1 (j 0) (j 1) h0 (by omega))
  pointwise [k0_pay2, k0_pay11, k0_pay10]

theorem point_g2 (t : Fin cfg0.N) (x : Cert.FfnFwdIdeal.S512x1408.Idx) (j : Cert.FfnFwdRefIdeal.S4096x5632.Idx) (h0 : (j 0 : ℕ) = t.val * 512 + x 0) (h1 : (j 1 : ℕ) = 2816 + x 1) :
    k0_pay8 (F := Ideal) (View.ld (iblk m c 0 t) r0_0) (View.ld (iblk m c 1 t) r0_2) x = GU (m ((c : Thread nD τ).loc main_arg0)) (m ((c : Thread nD τ).loc main_arg1)) j := by
  refine Eq.trans ?_ (dot_at m c t x 2 (j 0) (j 1) h0 (by omega))
  pointwise [k0_pay8, k0_pay6]

theorem point_g3 (t : Fin cfg0.N) (x : Cert.FfnFwdIdeal.S512x1408.Idx) (j : Cert.FfnFwdRefIdeal.S4096x5632.Idx) (h0 : (j 0 : ℕ) = t.val * 512 + x 0) (h1 : (j 1 : ℕ) = 4224 + x 1) :
    k0_pay3 (F := Ideal) (View.ld (iblk m c 0 t) r0_0) (View.ld (iblk m c 1 t) r0_7) x = GU (m ((c : Thread nD τ).loc main_arg0)) (m ((c : Thread nD τ).loc main_arg1)) j := by
  refine Eq.trans ?_ (dot_at m c t x 3 (j 0) (j 1) h0 (by omega))
  pointwise [k0_pay3, k0_pay1]

theorem point_a0 (t : Fin cfg0.N) (x : Cert.FfnFwdIdeal.S512x1408.Idx) (j : Cert.FfnFwdRefIdeal.S4096x2816.Idx) (h0 : (j 0 : ℕ) = t.val * 512 + x 0) (h1 : (j 1 : ℕ) = x 1) :
    k0_pay9 (F := Ideal) (View.ld (iblk m c 0 t) r0_0) (View.ld (iblk m c 1 t) r0_1) (View.ld (iblk m c 1 t) r0_2) x = ACT (m ((c : Thread nD τ).loc main_arg0)) (m ((c : Thread nD τ).loc main_arg1)) j := by
  rw [ACT, ← dot_at m c t x 0 (j 0) (lo (j 1)) h0 (by dsimp only [lo]; omega), ← dot_at m c t x 2 (j 0) (hi (j 1)) h0 (by dsimp only [hi]; omega)]
  pointwise [k0_pay9, k0_pay5, k0_pay6, zero_sub]

theorem point_a1 (t : Fin cfg0.N) (x : Cert.FfnFwdIdeal.S512x1408.Idx) (j : Cert.FfnFwdRefIdeal.S4096x2816.Idx) (h0 : (j 0 : ℕ) = t.val * 512 + x 0) (h1 : (j 1 : ℕ) = 1408 + x 1) :
    k0_pay4 (F := Ideal) (View.ld (iblk m c 0 t) r0_0) (k0_pay11 (iblk m c 0 t) (iblk m c 1 t)) (View.ld (iblk m c 1 t) r0_7) x = ACT (m ((c : Thread nD τ).loc main_arg0)) (m ((c : Thread nD τ).loc main_arg1)) j := by
  rw [ACT, ← dot_at m c t x 1 (j 0) (lo (j 1)) h0 (by dsimp only [lo]; omega), ← dot_at m c t x 3 (j 0) (hi (j 1)) h0 (by dsimp only [hi]; omega)]
  pointwise [k0_pay4, k0_pay11, k0_pay10, k0_pay1, zero_sub]

theorem final_gu : (dats m 0 c).arrAt 2 cfg0.N = GU (m ((c : Thread nD τ).loc main_arg0)) (m ((c : Thread nD τ).loc main_arg1)) := by
  refine (dats m 0 c).arrAt_eq_of_covers 2 _ (by decide +kernel) fun t hf y => ?_
  blk_simp
  have hN : t.val < 8 := t.isLt
  rw [after0_2]
  unfold out0_2
  canon_tiles x h
  · exact point_g3 m c t x _ (by blk_simp [idx t]; omega) (by blk_simp [idx t]; omega)
  · exact point_g1 m c t x _ (by blk_simp [idx t]; omega) (by blk_simp [idx t]; omega)
  · exact point_g2 m c t x _ (by blk_simp [idx t]; omega) (by blk_simp [idx t]; omega)
  · exact point_g0 m c t x _ (by blk_simp [idx t]; omega) (by blk_simp [idx t]; omega)

theorem final_act : (dats m 0 c).arrAt 3 cfg0.N = ACT (m ((c : Thread nD τ).loc main_arg0)) (m ((c : Thread nD τ).loc main_arg1)) := by
  refine (dats m 0 c).arrAt_eq_of_covers 3 _ (by decide +kernel) fun t hf y => ?_
  blk_simp
  have hN : t.val < 8 := t.isLt
  rw [after0_3]
  unfold out0_3
  canon_tiles x h
  · exact point_a1 m c t x _ (by blk_simp [idx t]; omega) (by blk_simp [idx t]; omega)
  · exact point_a0 m c t x _ (by blk_simp [idx t]; omega) (by blk_simp [idx t]; omega)
end

section
open Cert.FfnFwdRefIdeal Cert.FfnFwdRefIdeal.Gen Cert.FfnFwdRefIdeal.Read

theorem ref_gu (x : Cert.FfnFwdRefIdeal.S4096x1024.Idx → EReal) (w : Cert.FfnFwdRefIdeal.S1024x5632.Idx → EReal) : val_main_v7 (F := Ideal) x w = GU x w := by
  funext i
  idx_vars i
  pointwise [val_main_v0, val_main_v1, val_main_v2, val_main_v3, val_main_call0_v0, val_main_call0_v1, val_main_call0_cst, val_main_call0_v2, val_main_call0_v3, val_main_call0_cst_0, val_main_call0_v4, val_main_call0_v5, val_main_v4, val_main_v5, val_main_v6, val_main_v7, val_main_v8, GU]

theorem ref_act (x : Cert.FfnFwdRefIdeal.S4096x1024.Idx → EReal) (w : Cert.FfnFwdRefIdeal.S1024x5632.Idx → EReal) : val_main_v8 (F := Ideal) x w = ACT x w := by
  funext i
  idx_vars i
  pointwise [val_main_v0, val_main_v1, val_main_v2, val_main_v3, val_main_call0_v0, val_main_call0_v1, val_main_call0_cst, val_main_call0_v2, val_main_call0_v3, val_main_call0_cst_0, val_main_call0_v4, val_main_call0_v5, val_main_v4, val_main_v5, val_main_v6, val_main_v7, val_main_v8, ACT, GU, lo, hi]

end

/-- The kernel and the reference compute the same two arrays over the reals. -/
theorem algebraic : Cert.algebraic_FfnFwdIdeal_FfnFwdRefIdeal := by
  pair_intro
  · run_from Cert.FfnFwdIdeal.Value.run_blocks m g
  · run_from Cert.FfnFwdRefIdeal.Value.run m' g'
    · refine (Cert.FfnFwdRefIdeal.Read.val_main_v7_eq (F := Ideal) _ _).trans ?_
      exact (ref_gu _ _).trans (final_gu m c).symm
    · refine (Cert.FfnFwdRefIdeal.Read.val_main_v8_eq (F := Ideal) _ _).trans ?_
      exact (ref_act _ _).trans (final_act m c).symm

end Cert.Proof.FfnFwd

end
-- ==== Proof.OutRms.lean ====
/- The output projection with the residual sum and the norm behind it: the kernel computes the reference's two arrays. -/
module

public import proofs.«01_k».proof.Defs
public import proofs.«01_k».proof.Proof.Gen.OutRms.Frame
public import proofs.«01_k».proof.Proof.Gen.OutRmsIdeal.Value
public import proofs.«01_k».proof.Proof.Gen.OutRmsRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.OutRms

/-- The kernel ends and leaves its arguments as they were. -/
theorem frame_kernel : Cert.quiescent_OutRms := fun m ρ _ => Cert.OutRms.Gen.frame m ρ

/-- The kernel over the reals ends and leaves its arguments as they were. -/
theorem frame_ideal : Cert.quiescent_OutRmsIdeal := fun m ρ _ => Cert.OutRmsIdeal.Gen.frame m ρ

/-- The reference ends and leaves its arguments as they were. -/
theorem frame_reference : Cert.quiescent_OutRmsRefIdeal := fun m ρ _ =>
  (θ_run Cert.OutRmsRefIdeal.defs _ _).mono
    (fun r h => ⟨fun c => (h c).2.2, sem_eq_zero_of_no_sems (by decide) r.2⟩)
    (Cert.OutRmsRefIdeal.Value.run (F := Ideal) m ρ)

/-- The residual stream behind the output projection. -/
def H (x : Cert.OutRmsRefIdeal.S4096x1024.Idx → EReal) (w : Cert.OutRmsRefIdeal.S1024x1024.Idx → EReal) (res : Cert.OutRmsRefIdeal.S4096x1024.Idx → EReal) : Cert.OutRmsRefIdeal.S4096x1024.Idx → EReal := fun y => res y + (∑ k : Fin 1024, x (ix2 (y 0) k) * w (ix2 k (y 1)))

/-- A row's mean square and the norm's small constant. -/
def ms (h : Cert.OutRmsRefIdeal.S4096x1024.Idx → EReal) (r : Fin 4096) : EReal := Ideal.div (∑ k : Fin 1024, h (ix2 r k) * h (ix2 r k)) (Ideal.ofBits .f32 0x44800000#32) + Ideal.ofBits .f32 0x358637BD#32

/-- Its norm. -/
def Y (x : Cert.OutRmsRefIdeal.S4096x1024.Idx → EReal) (w : Cert.OutRmsRefIdeal.S1024x1024.Idx → EReal) (res : Cert.OutRmsRefIdeal.S4096x1024.Idx → EReal) (g : Cert.OutRmsRefIdeal.S1024.Idx → EReal) : Cert.OutRmsRefIdeal.S4096x1024.Idx → EReal := fun y => H x w res y * Ideal.rsqrt (ms (H x w res) (y 0)) * g (ix1 (y 1))

section
open Cert.OutRmsIdeal Cert.OutRmsIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- One element of a block of the result. -/
theorem point_4 (t : Fin cfg0.N) (y : S1024x1024.Idx) (j : S4096x1024.Idx) (h0 : (j 0 : ℕ) = t.val * 1024 + y 0) (h1 : (j 1 : ℕ) = y 1) :
    k0_pay1 (F := Ideal) (iblk m c 0 t) (iblk m c 1 t) (iblk m c 2 t) y = H (m ((c : Thread nD τ).loc main_arg0)) (m ((c : Thread nD τ).loc main_arg1)) (m ((c : Thread nD τ).loc main_arg2)) j := by
  pointwise [k0_pay1, H]
  refine (add_comm _ _).trans ?_
  blk_point [iblk, V, idx t]

theorem final_4 : (dats m 0 c).arrAt 4 cfg0.N = H (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have hN : t.val < 4 := t.isLt
  rw [after0_4]
  frame_out
  exact point_4 m c t y _ (by blk_simp [idx t]) (by blk_simp [idx t])

/-- One element of a block of the result. -/
theorem point_5 (t : Fin cfg0.N) (y : S1024x1024.Idx) (j : S4096x1024.Idx) (h0 : (j 0 : ℕ) = t.val * 1024 + y 0) (h1 : (j 1 : ℕ) = y 1) :
    k0_pay2 (F := Ideal) (iblk m c 0 t) (iblk m c 1 t) (iblk m c 2 t) (iblk m c 3 t) y = Y (m ((c : Thread nD τ).loc main_arg0)) (m ((c : Thread nD τ).loc main_arg1)) (m ((c : Thread nD τ).loc main_arg2)) (m ((c : Thread nD τ).loc main_arg3)) j := by
  pointwise [k0_pay2, k0_pay1, Y, H, ms]
  simp only [add_comm (Finset.sum _ _)]
  blk_point [iblk, V, idx t]

theorem final_5 : (dats m 0 c).arrAt 5 cfg0.N = Y (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have hN : t.val < 4 := t.isLt
  rw [after0_5]
  frame_out
  exact point_5 m c t y _ (by blk_simp [idx t]) (by blk_simp [idx t])

end

section
open Cert.OutRmsRefIdeal Cert.OutRmsRefIdeal.Gen Cert.OutRmsRefIdeal.Read

theorem ref_4 (x : S4096x1024.Idx → EReal) (w : S1024x1024.Idx → EReal) (res : S4096x1024.Idx → EReal) : val_main_v3 (F := Ideal) x w res = H x w res := by
  funext i
  idx_vars i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, H]

theorem ref_5 (x : S4096x1024.Idx → EReal) (w : S1024x1024.Idx → EReal) (res : S4096x1024.Idx → EReal) (g : S1024.Idx → EReal) : val_main_v17 (F := Ideal) x w res g = Y x w res g := by
  funext i
  idx_vars i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, Y, H, ms]

end

/-- The kernel and the reference compute the same arrays over the reals. -/
theorem algebraic : Cert.algebraic_OutRmsIdeal_OutRmsRefIdeal := by
  pair_intro
  · run_from Cert.OutRmsIdeal.Value.run_blocks m g
  · run_from Cert.OutRmsRefIdeal.Value.run m' g'
    · refine (Cert.OutRmsRefIdeal.Read.val_main_v3_eq (F := Ideal) _ _ _ ).trans ?_
      exact (ref_4 _ _ _ ).trans (final_4 m c).symm
    · refine (Cert.OutRmsRefIdeal.Read.val_main_v17_eq (F := Ideal) _ _ _ _ ).trans ?_
      exact (ref_5 _ _ _ _ ).trans (final_5 m c).symm

end Cert.Proof.OutRms

end
-- ==== Proof.FfnOutRms.lean ====
/- The feed-forward layer's output projection with the residual sum and the norm behind it: the kernel computes the reference's two arrays. -/
module

public import proofs.«01_k».proof.Defs
public import proofs.«01_k».proof.Proof.Gen.FfnOutRms.Frame
public import proofs.«01_k».proof.Proof.Gen.FfnOutRmsIdeal.Value
public import proofs.«01_k».proof.Proof.Gen.FfnOutRmsRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.FfnOutRms

/-- The kernel ends and leaves its arguments as they were. -/
theorem frame_kernel : Cert.quiescent_FfnOutRms := fun m ρ _ => Cert.FfnOutRms.Gen.frame m ρ

/-- The kernel over the reals ends and leaves its arguments as they were. -/
theorem frame_ideal : Cert.quiescent_FfnOutRmsIdeal := fun m ρ _ => Cert.FfnOutRmsIdeal.Gen.frame m ρ

/-- The reference ends and leaves its arguments as they were. -/
theorem frame_reference : Cert.quiescent_FfnOutRmsRefIdeal := fun m ρ _ =>
  (θ_run Cert.FfnOutRmsRefIdeal.defs _ _).mono
    (fun r h => ⟨fun c => (h c).2.2, sem_eq_zero_of_no_sems (by decide) r.2⟩)
    (Cert.FfnOutRmsRefIdeal.Value.run (F := Ideal) m ρ)

/-- The residual stream behind the feed-forward layer's output projection. -/
def H (x : Cert.FfnOutRmsRefIdeal.S4096x2816.Idx → EReal) (w : Cert.FfnOutRmsRefIdeal.S2816x1024.Idx → EReal) (res : Cert.FfnOutRmsRefIdeal.S4096x1024.Idx → EReal) : Cert.FfnOutRmsRefIdeal.S4096x1024.Idx → EReal := fun y => res y + ∑ k : Fin 2816, x (ix2 (y 0) k) * w (ix2 k (y 1))

/-- A row's mean square and the norm's small constant. -/
def ms (h : Cert.FfnOutRmsRefIdeal.S4096x1024.Idx → EReal) (r : Fin 4096) : EReal := Ideal.div (∑ k : Fin 1024, h (ix2 r k) * h (ix2 r k)) (Ideal.ofBits .f32 0x44800000#32) + Ideal.ofBits .f32 0x358637BD#32

/-- Its norm. -/
def Y (x : Cert.FfnOutRmsRefIdeal.S4096x2816.Idx → EReal) (w : Cert.FfnOutRmsRefIdeal.S2816x1024.Idx → EReal) (res : Cert.FfnOutRmsRefIdeal.S4096x1024.Idx → EReal) (g : Cert.FfnOutRmsRefIdeal.S1024.Idx → EReal) : Cert.FfnOutRmsRefIdeal.S4096x1024.Idx → EReal := fun y => H x w res y * Ideal.rsqrt (ms (H x w res) (y 0)) * g (ix1 (y 1))

/-- A sum in two halves. -/
theorem halves (f : Fin 2816 → EReal) : ∑ k, f k = (∑ k : Fin 1408, f ⟨(k : ℕ), by omega⟩) + ∑ k : Fin 1408, f ⟨1408 + (k : ℕ), by omega⟩ :=
  Fin.sum_univ_add (a := 1408) (b := 1408) f

section
open Cert.FfnOutRmsIdeal Cert.FfnOutRmsIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] ∧ win0_3.index t = ![0, 0] ∧ win0_4.index t = ![t.val / 2, 0] ∧ win0_5.index t = ![t.val / 2, 0] :=
  (by decide +kernel : ∀ t : Fin grid0.N, _)

/-- The blocks of the two factors. -/
abbrev bx (t : Fin cfg0.N) : FVec Ideal Cert.FfnOutRmsIdeal.S1024x1408 .bf16 := iblk m c 0 t
abbrev bw (t : Fin cfg0.N) : FVec Ideal Cert.FfnOutRmsIdeal.S1408x1024 .bf16 := iblk m c 1 t

/-- What the first half's point leaves in the accumulator. -/
theorem acc (t : Fin cfg0.N) (h : t.val % 2 = 0) (y : Cert.FfnOutRmsIdeal.S1024x1024.Idx) :
    (outsAt0 m c t.val t.isLt).2.2 y = ∑ k : Fin 1408, bx m c t (ix2 (y 0) k) * bw m c t (ix2 k (y 1)) := by
  rw [outsAt0_A m c t h (by omega) (by omega)]
  frame_out
  pointwise [k0_pay2, k0_pay1]

/-- What the accumulator holds when a row block's second point reads it. -/
abbrev old (t : Fin cfg0.N) : FVec Ideal Cert.FfnOutRmsIdeal.S1024x1024 .f32 :=
  View.read (Elt Ideal) (View.whole cc0_scratch0) ((Memref.isWhole_whole cc0_scratch0).unread (outsAt0 m c (t.val - 1) (Nat.lt_of_le_of_lt (Nat.sub_le _ _) t.isLt)).2.2)

theorem old_at (t : Fin cfg0.N) (h : t.val % 2 = 1) (y : Cert.FfnOutRmsIdeal.S1024x1024.Idx) :
    old m c t y = ∑ k : Fin 1408, bx m c ⟨t.val - 1, Nat.lt_of_le_of_lt (Nat.sub_le _ _) t.isLt⟩ (ix2 (y 0) k) * bw m c ⟨t.val - 1, Nat.lt_of_le_of_lt (Nat.sub_le _ _) t.isLt⟩ (ix2 k (y 1)) :=
  (congrFun (Memref.IsWhole.read_unread (Memref.isWhole_whole cc0_scratch0) _) y).trans
    (acc m c ⟨t.val - 1, Nat.lt_of_le_of_lt (Nat.sub_le _ _) t.isLt⟩ (by dsimp only; omega) y)

/-- The block of the sum that a row block's second point writes. -/
theorem sum_at (t : Fin cfg0.N) (h : t.val % 2 = 1) (y : Cert.FfnOutRmsIdeal.S1024x1024.Idx) (j : Cert.FfnOutRmsRefIdeal.S4096x1024.Idx) (h0 : (j 0 : ℕ) = t.val / 2 * 1024 + y 0) (h1 : (j 1 : ℕ) = y 1) :
    k0_pay4 (F := Ideal) (k0_pay3 (iblk m c 0 t) (iblk m c 1 t) (old m c t)) (iblk m c 2 t) y = H (m ((c : Thread nD τ).loc main_arg0)) (m ((c : Thread nD τ).loc main_arg1)) (m ((c : Thread nD τ).loc main_arg2)) j := by
  have hN : t.val < 8 := t.isLt
  have e : k0_pay4 (F := Ideal) (k0_pay3 (iblk m c 0 t) (iblk m c 1 t) (old m c t)) (iblk m c 2 t) y
      = old m c t y + (∑ k : Fin 1408, bx m c t (ix2 (y 0) k) * bw m c t (ix2 k (y 1))) + iblk m c 2 t y := by
    pointwise [k0_pay4, k0_pay3, k0_pay1]
  rw [e, old_at m c t h, H, halves]
  refine (add_comm _ _).trans ?_
  blk_point [iblk, V, idx t, idx ⟨t.val - 1, Nat.lt_of_le_of_lt (Nat.sub_le _ _) t.isLt⟩]

/-- The norm of a row. -/
theorem pay5_at (a b : Vec Ideal Cert.FfnOutRmsIdeal.S1024x1024 .f32) (g : Vec Ideal Cert.FfnOutRmsIdeal.S1x1024 .f32) (y : Cert.FfnOutRmsIdeal.S1024x1024.Idx) :
    k0_pay5 (F := Ideal) a b g y = k0_pay4 (F := Ideal) a b y * Ideal.rsqrt (Ideal.div (∑ i : Fin 1024, k0_pay4 (F := Ideal) a b (ix2 (y 0) i) * k0_pay4 (F := Ideal) a b (ix2 (y 0) i)) (Ideal.ofBits .f32 0x44800000#32) + Ideal.ofBits .f32 0x358637BD#32) * g (ix2 0 (y 1)) := by
  pointwise [k0_pay5]

/-- The block of the norm. -/
theorem norm_at (t : Fin cfg0.N) (h : t.val % 2 = 1) (y : Cert.FfnOutRmsIdeal.S1024x1024.Idx) (j : Cert.FfnOutRmsRefIdeal.S4096x1024.Idx) (h0 : (j 0 : ℕ) = t.val / 2 * 1024 + y 0) (h1 : (j 1 : ℕ) = y 1) :
    k0_pay5 (F := Ideal) (k0_pay3 (iblk m c 0 t) (iblk m c 1 t) (old m c t)) (iblk m c 2 t) (iblk m c 3 t) y = Y (m ((c : Thread nD τ).loc main_arg0)) (m ((c : Thread nD τ).loc main_arg1)) (m ((c : Thread nD τ).loc main_arg2)) (m ((c : Thread nD τ).loc main_arg3)) j := by
  have s (i : Fin 1024) := sum_at m c t h (ix2 (y 0) i) (ix2 (j 0) i) h0 rfl
  have e := sum_at m c t h y j h0 h1
  rw [pay5_at, e]
  simp only [s]
  pointwise [Y, ms]
  blk_point [iblk, V, idx t]

theorem final_h : (dats m 0 c).arrAt 4 cfg0.N = H (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (flush0_4 t).mp hf
  blk_simp
  have hN : t.val < 8 := t.isLt
  rw [after0_4, outsAt0_B m c t (by omega) ht ht]
  frame_out
  exact sum_at m c t ht y _ (by blk_simp [idx t]) (by blk_simp [idx t])

theorem final_y : (dats m 0 c).arrAt 5 cfg0.N = Y (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := (flush0_5 t).mp hf
  blk_simp
  have hN : t.val < 8 := t.isLt
  rw [after0_5, outsAt0_B m c t (by omega) ht ht]
  frame_out
  exact norm_at m c t ht y _ (by blk_simp [idx t]) (by blk_simp [idx t])

end

section
open Cert.FfnOutRmsRefIdeal Cert.FfnOutRmsRefIdeal.Gen Cert.FfnOutRmsRefIdeal.Read

theorem ref_h (x : Cert.FfnOutRmsRefIdeal.S4096x2816.Idx → EReal) (w : Cert.FfnOutRmsRefIdeal.S2816x1024.Idx → EReal) (res : Cert.FfnOutRmsRefIdeal.S4096x1024.Idx → EReal) : val_main_v3 (F := Ideal) x w res = H x w res := by
  funext i
  idx_vars i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, H]

theorem ref_y (x : Cert.FfnOutRmsRefIdeal.S4096x2816.Idx → EReal) (w : Cert.FfnOutRmsRefIdeal.S2816x1024.Idx → EReal) (res : Cert.FfnOutRmsRefIdeal.S4096x1024.Idx → EReal) (g : Cert.FfnOutRmsRefIdeal.S1024.Idx → EReal) : val_main_v17 (F := Ideal) x w res g = Y x w res g := by
  funext i
  idx_vars i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, Y, H, ms]

end

/-- The kernel and the reference compute the same two arrays over the reals. -/
theorem algebraic : Cert.algebraic_FfnOutRmsIdeal_FfnOutRmsRefIdeal := by
  pair_intro
  · run_from Cert.FfnOutRmsIdeal.Value.run_blocks m g
  · run_from Cert.FfnOutRmsRefIdeal.Value.run m' g'
    · refine (Cert.FfnOutRmsRefIdeal.Read.val_main_v3_eq (F := Ideal) _ _ _).trans ?_
      exact (ref_h _ _ _).trans (final_h m c).symm
    · refine (Cert.FfnOutRmsRefIdeal.Read.val_main_v17_eq (F := Ideal) _ _ _ _).trans ?_
      exact (ref_y _ _ _ _).trans (final_y m c).symm

end Cert.Proof.FfnOutRms

end
-- ==== Proof.PleGateRms.lean ====
/- The embedding gate with the residual sum and the norm behind it: the kernel computes the reference's arrays. -/
module

public import proofs.«01_k».proof.Defs
public import proofs.«01_k».proof.Proof.Gen.PleGateRms.Frame
public import proofs.«01_k».proof.Proof.Gen.PleGateRmsIdeal.Value
public import proofs.«01_k».proof.Proof.Gen.PleGateRmsRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.PleGateRms

/-- The kernel ends and leaves its arguments as they were. -/
theorem frame_kernel : Cert.quiescent_PleGateRms := fun m ρ _ => Cert.PleGateRms.Gen.frame m ρ

/-- The kernel over the reals ends and leaves its arguments as they were. -/
theorem frame_ideal : Cert.quiescent_PleGateRmsIdeal := fun m ρ _ => Cert.PleGateRmsIdeal.Gen.frame m ρ

/-- The reference ends and leaves its arguments as they were. -/
theorem frame_reference : Cert.quiescent_PleGateRmsRefIdeal := fun m ρ _ =>
  (θ_run Cert.PleGateRmsRefIdeal.defs _ _).mono
    (fun r h => ⟨fun c => (h c).2.2.2, sem_eq_zero_of_no_sems (by decide) r.2⟩)
    (Cert.PleGateRmsRefIdeal.Value.run (F := Ideal) m ρ)

/-- The embedding gate's argument. -/
def T (x : Cert.PleGateRmsRefIdeal.S4096x1024.Idx → EReal) (w : Cert.PleGateRmsRefIdeal.S1024x1024.Idx → EReal) : Cert.PleGateRmsRefIdeal.S4096x1024.Idx → EReal := fun y => (∑ k : Fin 1024, x (ix2 (y 0) k) * w (ix2 k (y 1)))

/-- The residual stream with the gated embedding. -/
def H (x : Cert.PleGateRmsRefIdeal.S4096x1024.Idx → EReal) (w : Cert.PleGateRmsRefIdeal.S1024x1024.Idx → EReal) (h p : Cert.PleGateRmsRefIdeal.S4096x1024.Idx → EReal) : Cert.PleGateRmsRefIdeal.S4096x1024.Idx → EReal := fun y => h y + p y * Ideal.div 1 (1 + Ideal.exp (-T x w y))

/-- A row's mean square and the norm's small constant. -/
def ms (h : Cert.PleGateRmsRefIdeal.S4096x1024.Idx → EReal) (r : Fin 4096) : EReal := Ideal.div (∑ k : Fin 1024, h (ix2 r k) * h (ix2 r k)) (Ideal.ofBits .f32 0x44800000#32) + Ideal.ofBits .f32 0x358637BD#32

/-- Its norm. -/
def Y (x : Cert.PleGateRmsRefIdeal.S4096x1024.Idx → EReal) (w : Cert.PleGateRmsRefIdeal.S1024x1024.Idx → EReal) (h p : Cert.PleGateRmsRefIdeal.S4096x1024.Idx → EReal) (g : Cert.PleGateRmsRefIdeal.S1024.Idx → EReal) : Cert.PleGateRmsRefIdeal.S4096x1024.Idx → EReal := fun y => H x w h p y * Ideal.rsqrt (ms (H x w h p) (y 0)) * g (ix1 (y 1))

section
open Cert.PleGateRmsIdeal Cert.PleGateRmsIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] :=
  (by decide +kernel : ∀ t : Fin grid0.N, _)

/-- One element of a block of the result. -/
theorem point_5 (t : Fin cfg0.N) (y : S1024x1024.Idx) (j : S4096x1024.Idx) (h0 : (j 0 : ℕ) = t.val * 1024 + y 0) (h1 : (j 1 : ℕ) = y 1) :
    k0_pay1 (F := Ideal) (iblk m c 0 t) (iblk m c 1 t) y = T (m ((c : Thread nD τ).loc main_arg0)) (m ((c : Thread nD τ).loc main_arg1)) j := by
  pointwise [k0_pay1, T]
  blk_point [iblk, V, idx t]

theorem final_5 : (dats m 0 c).arrAt 5 cfg0.N = T (m ((c : Thread nD τ).loc main_arg0)) (m ((c : Thread nD τ).loc main_arg1)) := by
  refine (dats m 0 c).arrAt_eq_of_covers 5 _ (by decide +kernel) fun t hf y => ?_
  blk_simp
  have hN : t.val < 4 := t.isLt
  rw [after0_5]
  frame_out
  exact point_5 m c t y _ (by blk_simp [idx t]) (by blk_simp [idx t])

/-- One element of a block of the result. -/
theorem point_6 (t : Fin cfg0.N) (y : S1024x1024.Idx) (j : S4096x1024.Idx) (h0 : (j 0 : ℕ) = t.val * 1024 + y 0) (h1 : (j 1 : ℕ) = y 1) :
    k0_pay2 (F := Ideal) (iblk m c 0 t) (iblk m c 1 t) (iblk m c 2 t) (iblk m c 3 t) y = H (m ((c : Thread nD τ).loc main_arg0)) (m ((c : Thread nD τ).loc main_arg1)) (m ((c : Thread nD τ).loc main_arg2)) (m ((c : Thread nD τ).loc main_arg3)) j := by
  pointwise [k0_pay2, k0_pay1, H, T, zero_sub]
  blk_point [iblk, V, idx t]

theorem final_6 : (dats m 0 c).arrAt 6 cfg0.N = H (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have hN : t.val < 4 := t.isLt
  rw [after0_6]
  frame_out
  exact point_6 m c t y _ (by blk_simp [idx t]) (by blk_simp [idx t])

/-- One element of a block of the result. -/
theorem point_7 (t : Fin cfg0.N) (y : S1024x1024.Idx) (j : S4096x1024.Idx) (h0 : (j 0 : ℕ) = t.val * 1024 + y 0) (h1 : (j 1 : ℕ) = y 1) :
    k0_pay3 (F := Ideal) (iblk m c 0 t) (iblk m c 1 t) (iblk m c 2 t) (iblk m c 3 t) (iblk m c 4 t) y = Y (m ((c : Thread nD τ).loc main_arg0)) (m ((c : Thread nD τ).loc main_arg1)) (m ((c : Thread nD τ).loc main_arg2)) (m ((c : Thread nD τ).loc main_arg3)) (m ((c : Thread nD τ).loc main_arg4)) j := by
  pointwise [k0_pay3, k0_pay2, k0_pay1, Y, H, T, ms, zero_sub]
  blk_point [iblk, V, idx t]

theorem final_7 : (dats m 0 c).arrAt 7 cfg0.N = Y (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  have hN : t.val < 4 := t.isLt
  rw [after0_7]
  frame_out
  exact point_7 m c t y _ (by blk_simp [idx t]) (by blk_simp [idx t])

end

section
open Cert.PleGateRmsRefIdeal Cert.PleGateRmsRefIdeal.Gen Cert.PleGateRmsRefIdeal.Read

theorem ref_5 (x : S4096x1024.Idx → EReal) (w : S1024x1024.Idx → EReal) : val_main_v2 (F := Ideal) x w = T x w := by
  funext i
  idx_vars i
  pointwise [val_main_v0, val_main_v1, val_main_v2, val_main_v3, val_main_v4, val_main_cst, val_main_v5, val_main_v6, val_main_cst_0, val_main_v7, val_main_v8, val_main_v9, val_main_v10, val_main_v11, val_main_cst_1, val_main_v12, val_main_v13, val_main_cst_2, val_main_v14, val_main_v15, val_main_cst_3, val_main_v16, val_main_v17, val_main_v18, val_main_v19, val_main_v20, val_main_v21, val_main_v22, val_main_v23, val_main_v24, T]

theorem ref_6 (x : S4096x1024.Idx → EReal) (w : S1024x1024.Idx → EReal) (h : S4096x1024.Idx → EReal) (p : S4096x1024.Idx → EReal) : val_main_v10 (F := Ideal) x w h p = H x w h p := by
  funext i
  idx_vars i
  pointwise [val_main_v0, val_main_v1, val_main_v2, val_main_v3, val_main_v4, val_main_cst, val_main_v5, val_main_v6, val_main_cst_0, val_main_v7, val_main_v8, val_main_v9, val_main_v10, val_main_v11, val_main_cst_1, val_main_v12, val_main_v13, val_main_cst_2, val_main_v14, val_main_v15, val_main_cst_3, val_main_v16, val_main_v17, val_main_v18, val_main_v19, val_main_v20, val_main_v21, val_main_v22, val_main_v23, val_main_v24, H, T]

theorem ref_7 (x : S4096x1024.Idx → EReal) (w : S1024x1024.Idx → EReal) (h : S4096x1024.Idx → EReal) (p : S4096x1024.Idx → EReal) (g : S1024.Idx → EReal) : val_main_v24 (F := Ideal) x w h p g = Y x w h p g := by
  funext i
  idx_vars i
  pointwise [val_main_v0, val_main_v1, val_main_v2, val_main_v3, val_main_v4, val_main_cst, val_main_v5, val_main_v6, val_main_cst_0, val_main_v7, val_main_v8, val_main_v9, val_main_v10, val_main_v11, val_main_cst_1, val_main_v12, val_main_v13, val_main_cst_2, val_main_v14, val_main_v15, val_main_cst_3, val_main_v16, val_main_v17, val_main_v18, val_main_v19, val_main_v20, val_main_v21, val_main_v22, val_main_v23, val_main_v24, Y, H, T, ms]

end

/-- The kernel and the reference compute the same arrays over the reals. -/
theorem algebraic : Cert.algebraic_PleGateRmsIdeal_PleGateRmsRefIdeal := by
  pair_intro
  · run_from Cert.PleGateRmsIdeal.Value.run_blocks m g
  · run_from Cert.PleGateRmsRefIdeal.Value.run m' g'
    · refine (Cert.PleGateRmsRefIdeal.Read.val_main_v2_eq (F := Ideal) _ _ ).trans ?_
      exact (ref_5 _ _ ).trans (final_5 m c).symm
    · refine (Cert.PleGateRmsRefIdeal.Read.val_main_v10_eq (F := Ideal) _ _ _ _ ).trans ?_
      exact (ref_6 _ _ _ _ ).trans (final_6 m c).symm
    · refine (Cert.PleGateRmsRefIdeal.Read.val_main_v24_eq (F := Ideal) _ _ _ _ _ ).trans ?_
      exact (ref_7 _ _ _ _ _ ).trans (final_7 m c).symm

end Cert.Proof.PleGateRms

end
-- ==== Proof.PleGate.lean ====
/- The embedding gate with the residual sum behind it: the kernel computes the reference's arrays. -/
module

public import proofs.«01_k».proof.Defs
public import proofs.«01_k».proof.Proof.Gen.PleGate.Frame
public import proofs.«01_k».proof.Proof.Gen.PleGateIdeal.Value
public import proofs.«01_k».proof.Proof.Gen.PleGateRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.PleGate

/-- The kernel ends and leaves its arguments as they were. -/
theorem frame_kernel : Cert.quiescent_PleGate := fun m ρ _ => Cert.PleGate.Gen.frame m ρ

/-- The kernel over the reals ends and leaves its arguments as they were. -/
theorem frame_ideal : Cert.quiescent_PleGateIdeal := fun m ρ _ => Cert.PleGateIdeal.Gen.frame m ρ

/-- The reference ends and leaves its arguments as they were. -/
theorem frame_reference : Cert.quiescent_PleGateRefIdeal := fun m ρ _ =>
  (θ_run Cert.PleGateRefIdeal.defs _ _).mono
    (fun r h => ⟨fun c => (h c).2.2, sem_eq_zero_of_no_sems (by decide) r.2⟩)
    (Cert.PleGateRefIdeal.Value.run (F := Ideal) m ρ)

/-- The embedding gate's argument. -/
def T (x : Cert.PleGateRefIdeal.S4096x1024.Idx → EReal) (w : Cert.PleGateRefIdeal.S1024x1024.Idx → EReal) : Cert.PleGateRefIdeal.S4096x1024.Idx → EReal := fun y => (∑ k : Fin 1024, x (ix2 (y 0) k) * w (ix2 k (y 1)))

/-- The residual stream with the gated embedding. -/
def H (x : Cert.PleGateRefIdeal.S4096x1024.Idx → EReal) (w : Cert.PleGateRefIdeal.S1024x1024.Idx → EReal) (h p : Cert.PleGateRefIdeal.S4096x1024.Idx → EReal) : Cert.PleGateRefIdeal.S4096x1024.Idx → EReal := fun y => h y + p y * Ideal.div 1 (1 + Ideal.exp (-T x w y))

section
open Cert.PleGateIdeal Cert.PleGateIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, _)

/-- One element of a block of the result. -/
theorem point_4 (t : Fin cfg0.N) (y : S1024x1024.Idx) (j : S4096x1024.Idx) (h0 : (j 0 : ℕ) = t.val * 1024 + y 0) (h1 : (j 1 : ℕ) = y 1) :
    k0_pay1 (F := Ideal) (iblk m c 0 t) (iblk m c 1 t) y = T (m ((c : Thread nD τ).loc main_arg0)) (m ((c : Thread nD τ).loc main_arg1)) j := by
  pointwise [k0_pay1, T]
  blk_point [iblk, V, idx t]

theorem final_4 : (dats m 0 c).arrAt 4 cfg0.N = T (m ((c : Thread nD τ).loc main_arg0)) (m ((c : Thread nD τ).loc main_arg1)) := by
  refine (dats m 0 c).arrAt_eq_of_covers 4 _ (by decide +kernel) fun t hf y => ?_
  blk_simp
  have hN : t.val < 4 := t.isLt
  rw [after0_4]
  frame_out
  exact point_4 m c t y _ (by blk_simp [idx t]) (by blk_simp [idx t])

/-- One element of a block of the result. -/
theorem point_5 (t : Fin cfg0.N) (y : S1024x1024.Idx) (j : S4096x1024.Idx) (h0 : (j 0 : ℕ) = t.val * 1024 + y 0) (h1 : (j 1 : ℕ) = y 1) :
    k0_pay2 (F := Ideal) (iblk m c 0 t) (iblk m c 1 t) (iblk m c 2 t) (iblk m c 3 t) y = H (m ((c : Thread nD τ).loc main_arg0)) (m ((c : Thread nD τ).loc main_arg1)) (m ((c : Thread nD τ).loc main_arg2)) (m ((c : Thread nD τ).loc main_arg3)) j := by
  pointwise [k0_pay2, k0_pay1, H, T, zero_sub]
  blk_point [iblk, V, idx t]

theorem final_5 : (dats m 0 c).arrAt 5 cfg0.N = H (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have hN : t.val < 4 := t.isLt
  rw [after0_5]
  frame_out
  exact point_5 m c t y _ (by blk_simp [idx t]) (by blk_simp [idx t])

end

section
open Cert.PleGateRefIdeal Cert.PleGateRefIdeal.Gen Cert.PleGateRefIdeal.Read

theorem ref_4 (x : S4096x1024.Idx → EReal) (w : S1024x1024.Idx → EReal) : val_main_v2 (F := Ideal) x w = T x w := by
  funext i
  idx_vars i
  pointwise [val_main_v0, val_main_v1, val_main_v2, val_main_v3, val_main_v4, val_main_cst, val_main_v5, val_main_v6, val_main_cst_0, val_main_v7, val_main_v8, val_main_v9, val_main_v10, T]

theorem ref_5 (x : S4096x1024.Idx → EReal) (w : S1024x1024.Idx → EReal) (h : S4096x1024.Idx → EReal) (p : S4096x1024.Idx → EReal) : val_main_v10 (F := Ideal) x w h p = H x w h p := by
  funext i
  idx_vars i
  pointwise [val_main_v0, val_main_v1, val_main_v2, val_main_v3, val_main_v4, val_main_cst, val_main_v5, val_main_v6, val_main_cst_0, val_main_v7, val_main_v8, val_main_v9, val_main_v10, H, T]

end

/-- The kernel and the reference compute the same arrays over the reals. -/
theorem algebraic : Cert.algebraic_PleGateIdeal_PleGateRefIdeal := by
  pair_intro
  · run_from Cert.PleGateIdeal.Value.run_blocks m g
  · run_from Cert.PleGateRefIdeal.Value.run m' g'
    · refine (Cert.PleGateRefIdeal.Read.val_main_v2_eq (F := Ideal) _ _ ).trans ?_
      exact (ref_4 _ _ ).trans (final_4 m c).symm
    · refine (Cert.PleGateRefIdeal.Read.val_main_v10_eq (F := Ideal) _ _ _ _ ).trans ?_
      exact (ref_5 _ _ _ _ ).trans (final_5 m c).symm

end Cert.Proof.PleGate

end
-- ==== Proof.GdnFwd.lean ====
/- The gated delta rule, forward: the kernel ends and leaves its arguments as they were. -/
module

public import proofs.«01_k».proof.Defs
public import proofs.«01_k».proof.Proof.Gen.GdnFwd.Frame
public import proofs.«01_k».proof.Proof.Gen.GdnFwdIdeal.Frame

@[expose] public section

noncomputable section

open Idealize.ShloMosaic Idealize.SL.Sem

namespace Cert.Proof.GdnFwd

/-- The kernel ends and leaves its arguments as they were. -/
theorem frame_kernel : Cert.quiescent_GdnFwd := fun m ρ _ => Cert.GdnFwd.Gen.frame m ρ

/-- The kernel over the reals ends and leaves its arguments as they were. -/
theorem frame_ideal : Cert.quiescent_GdnFwdIdeal := fun m ρ _ => Cert.GdnFwdIdeal.Gen.frame m ρ

end Cert.Proof.GdnFwd

end
-- ==== Proof.MmDw.lean ====
/- The gradient of the feed-forward layer's input weights, a plain product split over the chips: the kernel computes the reference's array. -/
module

public import proofs.«01_k».proof.Defs
public import proofs.«01_k».proof.Proof.Gen.MmDw.Frame
public import proofs.«01_k».proof.Proof.Gen.MmDwIdeal.Value
public import proofs.«01_k».proof.Proof.Gen.MmDwRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.MmDw

/-- The kernel ends and leaves its arguments as they were. -/
theorem frame_kernel : Cert.quiescent_MmDw := fun m ρ _ => Cert.MmDw.Gen.frame m ρ

/-- The kernel over the reals ends and leaves its arguments as they were. -/
theorem frame_ideal : Cert.quiescent_MmDwIdeal := fun m ρ _ => Cert.MmDwIdeal.Gen.frame m ρ

/-- The reference ends and leaves its arguments as they were. -/
theorem frame_reference : Cert.quiescent_MmDwRefIdeal := fun m ρ _ =>
  (θ_run Cert.MmDwRefIdeal.defs _ _).mono
    (fun r h => ⟨fun c => (h c).2, sem_eq_zero_of_no_sems (by decide) r.2⟩)
    (Cert.MmDwRefIdeal.Value.run (F := Ideal) m ρ)

/-- A column of the product's chip. -/
def col (n : Fin 4) (l : Fin 1408) : Fin 5632 := ⟨n.val * 1408 + l.val, by omega⟩

/-- The product, split over the chips. -/
def Y (x : Cert.MmDwRefIdeal.S4096x1024.Idx → EReal) (d : Cert.MmDwRefIdeal.S4096x5632.Idx → EReal) : Cert.MmDwRefIdeal.S4x1024x1408.Idx → EReal := fun y => ∑ k : Fin 4096, x (ix2 k (y 1)) * d (ix2 k (col (y 0) (y 2)))

/-- A sum in two halves. -/
theorem halves (f : Fin 4096 → EReal) : ∑ k, f k = (∑ k : Fin 2048, f ⟨(k : ℕ), by omega⟩) + ∑ k : Fin 2048, f ⟨2048 + (k : ℕ), by omega⟩ :=
  Fin.sum_univ_add (a := 2048) (b := 2048) f

section
open Cert.MmDwIdeal Cert.MmDwIdeal.Gen

variable (m : (ℓ : Loc nD τ sig) → Buf (Elt Ideal) ℓ) (c : Dev nD)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The blocks of the two factors. -/
abbrev bx (t : Fin cfg0.N) : FVec Ideal Cert.MmDwIdeal.S2048x1024 .bf16 := iblk m c 0 t
abbrev bd (t : Fin cfg0.N) : FVec Ideal Cert.MmDwIdeal.S2048x1408 .bf16 := iblk m c 1 t

/-- What the first half's point leaves in the accumulator. -/
theorem acc (t : Fin cfg0.N) (h : t.val % 2 = 0) (y : Cert.MmDwIdeal.S1024x1408.Idx) :
    (outsAt0 m c t.val t.isLt).2 y = ∑ k : Fin 2048, bx m c t (ix2 k (y 0)) * bd m c t (ix2 k (y 1)) := by
  rw [outsAt0_A m c t h (by omega) (by omega)]
  frame_out
  pointwise [k0_pay2, k0_pay1]

/-- What the accumulator holds when a chip's second point reads it. -/
abbrev old (t : Fin cfg0.N) : FVec Ideal Cert.MmDwIdeal.S1024x1408 .f32 :=
  View.read (Elt Ideal) (View.whole cc0_scratch0) ((Memref.isWhole_whole cc0_scratch0).unread (outsAt0 m c (t.val - 1) (Nat.lt_of_le_of_lt (Nat.sub_le _ _) t.isLt)).2)

theorem old_at (t : Fin cfg0.N) (h : t.val % 2 = 1) (y : Cert.MmDwIdeal.S1024x1408.Idx) :
    old m c t y = ∑ k : Fin 2048, bx m c ⟨t.val - 1, Nat.lt_of_le_of_lt (Nat.sub_le _ _) t.isLt⟩ (ix2 k (y 0)) * bd m c ⟨t.val - 1, Nat.lt_of_le_of_lt (Nat.sub_le _ _) t.isLt⟩ (ix2 k (y 1)) :=
  (congrFun (Memref.IsWhole.read_unread (Memref.isWhole_whole cc0_scratch0) _) y).trans
    (acc m c ⟨t.val - 1, Nat.lt_of_le_of_lt (Nat.sub_le _ _) t.isLt⟩ (by dsimp only; omega) y)

/-- The block that a chip's second point writes. -/
theorem point (t : Fin cfg0.N) (h : t.val % 2 = 1) (y : Cert.MmDwIdeal.S1x1024x1408.Idx) (j : Cert.MmDwRefIdeal.S4x1024x1408.Idx) (h0 : (j 0 : ℕ) = t.val / 2) (h1 : (j 1 : ℕ) = y 1) (h2 : (j 2 : ℕ) = y 2) :
    k0_pay4 (F := Ideal) (k0_pay3 (iblk m c 0 t) (iblk m c 1 t) (old m c t)) y = Y (m ((c : Thread nD τ).loc main_arg0)) (m ((c : Thread nD τ).loc main_arg1)) j := by
  have hN : t.val < 8 := t.isLt
  have e : k0_pay4 (F := Ideal) (k0_pay3 (iblk m c 0 t) (iblk m c 1 t) (old m c t)) y
      = old m c t (ix2 (y 1) (y 2)) + ∑ k : Fin 2048, bx m c t (ix2 k (y 1)) * bd m c t (ix2 k (y 2)) := by
    pointwise [k0_pay4, k0_pay3, k0_pay1]
  rw [e, old_at m c t h, Y, halves]
  unfold col
  blk_point [iblk, V, idx t, idx ⟨t.val - 1, Nat.lt_of_le_of_lt (Nat.sub_le _ _) t.isLt⟩]

theorem final : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have hN : t.val < 8 := t.isLt
  rw [after0_2, outsAt0_B m c t (by omega) ht ht]
  frame_out
  exact point m c t ht y _ (by blk_simp [idx t]) (by blk_simp [idx t]) (by blk_simp [idx t])
end

section
open Cert.MmDwRefIdeal Cert.MmDwRefIdeal.Gen Cert.MmDwRefIdeal.Read

theorem ref (x : Cert.MmDwRefIdeal.S4096x1024.Idx → EReal) (d : Cert.MmDwRefIdeal.S4096x5632.Idx → EReal) : val_main_v5 (F := Ideal) x d = Y x d := by
  funext i
  idx_vars i
  pointwise [val_main_v0, val_main_v1, val_main_v2, val_main_v3, val_main_v4, val_main_v5, Y, col]

end

/-- The kernel and the reference compute the same array over the reals. -/
theorem algebraic : Cert.algebraic_MmDwIdeal_MmDwRefIdeal := by
  pair_intro
  · run_from Cert.MmDwIdeal.Value.run_blocks m g
  · run_from Cert.MmDwRefIdeal.Value.run m' g'
    refine (Cert.MmDwRefIdeal.Read.val_main_v5_eq (F := Ideal) _ _).trans ?_
    exact (ref _ _).trans (final m c).symm

end Cert.Proof.MmDw

end
-- ==== Proof.AdamW.lean ====
/- The optimiser's step: the kernel computes the reference's three arrays. -/
module

public import proofs.«01_k».proof.Defs
public import proofs.«01_k».proof.Proof.Gen.AdamW.Frame
public import proofs.«01_k».proof.Proof.Gen.AdamWIdeal.Value
public import proofs.«01_k».proof.Proof.Gen.AdamWRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.AdamW

/-- The kernel ends and leaves its arguments as they were. -/
theorem frame_kernel : Cert.quiescent_AdamW := fun m ρ _ => Cert.AdamW.Gen.frame m ρ

/-- The kernel over the reals ends and leaves its arguments as they were. -/
theorem frame_ideal : Cert.quiescent_AdamWIdeal := fun m ρ _ => Cert.AdamWIdeal.Gen.frame m ρ

/-- The reference ends and leaves its arguments as they were. -/
theorem frame_reference : Cert.quiescent_AdamWRefIdeal := fun m ρ _ =>
  (θ_run Cert.AdamWRefIdeal.defs _ _).mono
    (fun r h => ⟨fun c => (h c).2.2.2, sem_eq_zero_of_no_sems (by decide) r.2⟩)
    (Cert.AdamWRefIdeal.Value.run (F := Ideal) m ρ)

/-- The first moment. -/
def M (g v : Cert.AdamWRefIdeal.S4096x1408.Idx → EReal) : Cert.AdamWRefIdeal.S4096x1408.Idx → EReal := fun y => Ideal.ofBits .f32 0x3F666666#32 * v y + Ideal.ofBits .f32 0x3DCCCCCD#32 * g y

/-- The second moment. -/
def N (g v : Cert.AdamWRefIdeal.S4096x1408.Idx → EReal) : Cert.AdamWRefIdeal.S4096x1408.Idx → EReal := fun y => Ideal.ofBits .f32 0x3F7FBE77#32 * v y + Ideal.ofBits .f32 0x3A83126F#32 * (g y * g y)

/-- The step. -/
def D (w g p q : Cert.AdamWRefIdeal.S4096x1408.Idx → EReal) : Cert.AdamWRefIdeal.S4096x1408.Idx → EReal := fun y => Ideal.ofBits .f32 0xBA83126F#32 * (Ideal.div (Ideal.div (M g p y) (Ideal.ofBits .f32 0x3F26BD02#32)) (Ideal.sqrt (Ideal.div (N g q y) (Ideal.ofBits .f32 0x3C231ACC#32)) + Ideal.ofBits .f32 0x322BCC77#32) + Ideal.ofBits .f32 0x3C23D70A#32 * w y)

section
open Cert.AdamWIdeal Cert.AdamWIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- One element of a block of the result. -/
theorem point_4 (t : Fin cfg0.N) (y : S256x1408.Idx) (j : S4096x1408.Idx) (h0 : (j 0 : ℕ) = t.val * 256 + y 0) (h1 : (j 1 : ℕ) = y 1) :
    k0_pay3 (F := Ideal) (iblk m c 0 t) (iblk m c 1 t) (iblk m c 2 t) (iblk m c 3 t) y = D (m ((c : Thread nD τ).loc main_arg0)) (m ((c : Thread nD τ).loc main_arg1)) (m ((c : Thread nD τ).loc main_arg2)) (m ((c : Thread nD τ).loc main_arg3)) j := by
  pointwise [k0_pay3, k0_pay2, k0_pay1, D, M, N]
  blk_point [iblk, V, idx t]

theorem final_4 : (dats m 0 c).arrAt 4 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 16 := t.isLt
  rw [after0_4]
  frame_out
  exact point_4 m c t y _ (by blk_simp [idx t]) (by blk_simp [idx t])

/-- One element of a block of the result. -/
theorem point_5 (t : Fin cfg0.N) (y : S256x1408.Idx) (j : S4096x1408.Idx) (h0 : (j 0 : ℕ) = t.val * 256 + y 0) (h1 : (j 1 : ℕ) = y 1) :
    k0_pay1 (F := Ideal) (iblk m c 1 t) (iblk m c 2 t) y = M (m ((c : Thread nD τ).loc main_arg1)) (m ((c : Thread nD τ).loc main_arg2)) j := by
  pointwise [k0_pay1, M]
  blk_point [iblk, V, idx t]

theorem final_5 : (dats m 0 c).arrAt 5 cfg0.N = M (m ((c : Thread nD τ).loc main_arg1)) (m ((c : Thread nD τ).loc main_arg2)) := by
  refine (dats m 0 c).arrAt_eq_of_covers 5 _ (by decide +kernel) fun t hf y => ?_
  blk_simp
  have hN : t.val < 16 := t.isLt
  rw [after0_5]
  frame_out
  exact point_5 m c t y _ (by blk_simp [idx t]) (by blk_simp [idx t])

/-- One element of a block of the result. -/
theorem point_6 (t : Fin cfg0.N) (y : S256x1408.Idx) (j : S4096x1408.Idx) (h0 : (j 0 : ℕ) = t.val * 256 + y 0) (h1 : (j 1 : ℕ) = y 1) :
    k0_pay2 (F := Ideal) (iblk m c 1 t) (iblk m c 3 t) y = N (m ((c : Thread nD τ).loc main_arg1)) (m ((c : Thread nD τ).loc main_arg3)) j := by
  pointwise [k0_pay2, N]
  blk_point [iblk, V, idx t]

theorem final_6 : (dats m 0 c).arrAt 6 cfg0.N = N (m ((c : Thread nD τ).loc main_arg1)) (m ((c : Thread nD τ).loc main_arg3)) := by
  refine (dats m 0 c).arrAt_eq_of_covers 6 _ (by decide +kernel) fun t hf y => ?_
  blk_simp
  have hN : t.val < 16 := t.isLt
  rw [after0_6]
  frame_out
  exact point_6 m c t y _ (by blk_simp [idx t]) (by blk_simp [idx t])

end

section
open Cert.AdamWRefIdeal Cert.AdamWRefIdeal.Gen Cert.AdamWRefIdeal.Read

theorem ref_4 (w : Cert.AdamWRefIdeal.S4096x1408.Idx → EReal) (g : Cert.AdamWRefIdeal.S4096x1408.Idx → EReal) (p : Cert.AdamWRefIdeal.S4096x1408.Idx → EReal) (q : Cert.AdamWRefIdeal.S4096x1408.Idx → EReal) : val_main_v23 (F := Ideal) w g p q = D w g p q := by
  funext i
  idx_vars i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, D, M, N]

theorem ref_5 (g : Cert.AdamWRefIdeal.S4096x1408.Idx → EReal) (p : Cert.AdamWRefIdeal.S4096x1408.Idx → EReal) : val_main_v4 (F := Ideal) g p = M g p := by
  funext i
  idx_vars i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, M]

theorem ref_6 (g : Cert.AdamWRefIdeal.S4096x1408.Idx → EReal) (q : Cert.AdamWRefIdeal.S4096x1408.Idx → EReal) : val_main_v10 (F := Ideal) g q = N g q := by
  funext i
  idx_vars i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, N]

end

/-- The kernel and the reference compute the same arrays over the reals. -/
theorem algebraic : Cert.algebraic_AdamWIdeal_AdamWRefIdeal := by
  pair_intro
  · run_from Cert.AdamWIdeal.Value.run_blocks m g
  · run_from Cert.AdamWRefIdeal.Value.run m' g'
    · refine (Cert.AdamWRefIdeal.Read.val_main_v23_eq (F := Ideal) _ _ _ _ ).trans ?_
      exact (ref_4 _ _ _ _ ).trans (final_4 m c).symm
    · refine (Cert.AdamWRefIdeal.Read.val_main_v4_eq (F := Ideal) _ _ ).trans ?_
      exact (ref_5 _ _ ).trans (final_5 m c).symm
    · refine (Cert.AdamWRefIdeal.Read.val_main_v10_eq (F := Ideal) _ _ ).trans ?_
      exact (ref_6 _ _ ).trans (final_6 m c).symm

end Cert.Proof.AdamW

end
-- ==== Proof.SumDv.lean ====
/- The sum of two layers' gradients of the shared values: the kernel computes the reference's array. -/
module

public import proofs.«01_k».proof.Defs
public import proofs.«01_k».proof.Proof.Gen.SumDv.Frame
public import proofs.«01_k».proof.Proof.Gen.SumDvIdeal.Value
public import proofs.«01_k».proof.Proof.Gen.SumDvRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.SumDv

/-- The kernel ends and leaves its arguments as they were. -/
theorem frame_kernel : Cert.quiescent_SumDv := fun m ρ _ => Cert.SumDv.Gen.frame m ρ

/-- The kernel over the reals ends and leaves its arguments as they were. -/
theorem frame_ideal : Cert.quiescent_SumDvIdeal := fun m ρ _ => Cert.SumDvIdeal.Gen.frame m ρ

/-- The reference ends and leaves its arguments as they were. -/
theorem frame_reference : Cert.quiescent_SumDvRefIdeal := fun m ρ _ =>
  (θ_run Cert.SumDvRefIdeal.defs _ _).mono
    (fun r h => ⟨fun c => (h c).2, sem_eq_zero_of_no_sems (by decide) r.2⟩)
    (Cert.SumDvRefIdeal.Value.run (F := Ideal) m ρ)

/-- The sum. -/
def Y (a b : Cert.SumDvRefIdeal.S4096x1024.Idx → EReal) : Cert.SumDvRefIdeal.S4096x1024.Idx → EReal := fun y => a y + b y

section
open Cert.SumDvIdeal Cert.SumDvIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] :=
  (by decide +kernel : ∀ t : Fin grid0.N, _)

/-- One element of a block of the result. -/
theorem point_2 (t : Fin cfg0.N) (y : S512x1024.Idx) (j : S4096x1024.Idx) (h0 : (j 0 : ℕ) = t.val * 512 + y 0) (h1 : (j 1 : ℕ) = y 1) :
    k0_pay1 (F := Ideal) (iblk m c 0 t) (iblk m c 1 t) y = Y (m ((c : Thread nD τ).loc main_arg0)) (m ((c : Thread nD τ).loc main_arg1)) j := by
  pointwise [k0_pay1, Y]
  blk_point [iblk, V, idx t]

theorem final_2 : (dats m 0 c).arrAt 2 cfg0.N = Y (m ((c : Thread nD τ).loc main_arg0)) (m ((c : Thread nD τ).loc main_arg1)) := by
  refine (dats m 0 c).arrAt_eq_of_covers 2 _ (by decide +kernel) fun t hf y => ?_
  blk_simp
  have hN : t.val < 8 := t.isLt
  rw [after0_2]
  frame_out
  exact point_2 m c t y _ (by blk_simp [idx t]) (by blk_simp [idx t])

end

section
open Cert.SumDvRefIdeal Cert.SumDvRefIdeal.Gen Cert.SumDvRefIdeal.Read

theorem ref_2 (a : Cert.SumDvRefIdeal.S4096x1024.Idx → EReal) (b : Cert.SumDvRefIdeal.S4096x1024.Idx → EReal) : val_main_v1 (F := Ideal) a b = Y a b := by
  funext i
  idx_vars i
  pointwise [val_main_v0, val_main_v1, Y]

end

/-- The kernel and the reference compute the same arrays over the reals. -/
theorem algebraic : Cert.algebraic_SumDvIdeal_SumDvRefIdeal := by
  pair_intro
  · run_from Cert.SumDvIdeal.Value.run_blocks m g
  · run_from Cert.SumDvRefIdeal.Value.run m' g'
    · refine (Cert.SumDvRefIdeal.Read.val_main_v1_eq (F := Ideal) _ _ ).trans ?_
      exact (ref_2 _ _ ).trans (final_2 m c).symm

end Cert.Proof.SumDv

end
-- ==== Proof.ChipSum.lean ====
/- The sum of a chip's own and its peers' squares: the slot of the result that the kernel writes is the reference's array. -/
module

public import proofs.«01_k».proof.Defs
public import proofs.«01_k».proof.Proof.Gen.ChipSum.Frame
public import proofs.«01_k».proof.Proof.Gen.ChipSumIdeal.Frame
public import proofs.«01_k».proof.Proof.Gen.ChipSumRefIdeal.Read
public import proofs.«01_k».proof.Proof.Gen.Pre_on_mesh_cs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.ChipSum

/-- A word that is not negative and below 2 is 0 or 1. -/
theorem word_of_bounds (v : BitVec 32) (e : IntOp.andi (IntOp.cmpi .sge v 0#32) (IntOp.cmpi .slt v 2#32) = 1#1) : v = 0#32 ∨ v = 1#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have h : v.toNat = 0 ∨ v.toNat = 1 := by omega
  rcases h with h | h
  · exact .inl (BitVec.eq_of_toNat_eq h)
  · exact .inr (BitVec.eq_of_toNat_eq h)

section
open Cert.ChipSum Cert.ChipSum.Gen

variable {F : FTy → Type} [FloatOps F] (m : (ℓ : Loc nD τ sig) → Buf (Elt F) ℓ)

/-- Of two words put in one list, the second. -/
theorem second_kernel (a b : S_.Idx → BitVec 32) (i : S2.Idx) (hi : (i 0).val = 1) :
    concatenate S2 0 [⟨S1, broadcastInDim S1 ![] bcast_S_S1 a⟩, ⟨S1, broadcastInDim S1 ![] bcast_S_S1 b⟩] concatenates_S1_S1_S2_d0 i = b ix0 := by
  pointwise
  exact dif_neg (by omega)

/-- The second word of the table is the core's index. -/
theorem word_kernel : (tbl m).at 0 (Rect.unit (s := S2) ![1] S1.size inb_S2_S1_1) numel1_S1 = m (((0 : Dev nD) : Thread nD τ).loc main_arg1) ix0 := by
  have e : tbl m 0 = concatenate S2 0 [⟨S1, broadcastInDim S1 ![] bcast_S_S1 (m (((0 : Dev nD) : Thread nD τ).loc main_arg0))⟩,
      ⟨S1, broadcastInDim S1 ![] bcast_S_S1 (m (((0 : Dev nD) : Thread nD τ).loc main_arg1))⟩] concatenates_S1_S1_S2_d0 := by
    unfold tbl
    show StableHlo.after hostOps0 (fun b => m ((0 : Dev nD), b)) (Proc.devRef .tc main_v2) = _
    after_results
  show tbl m 0 _ = _
  rw [e]
  exact second_kernel _ _ _ rfl

/-- A core's index of 0 or 1 names a slot of the result. -/
theorem ok_kernel (h : m (((0 : Dev nD) : Thread nD τ).loc main_arg1) ix0 = 0#32 ∨ m (((0 : Dev nD) : Thread nD τ).loc main_arg1) ix0 = 1#32) : Ok m := by
  unfold Ok ok0
  intro i
  refine ⟨?_, .inl rfl⟩
  unfold cc0_transform_2
  rw [word_kernel]
  have hi : (i 0).val = 0 := by have := (i 0).isLt; change (i 0).val < 1 at this; omega
  intro a
  rw [hi]
  rcases h with h | h <;> rw [h] <;> fin_cases a <;> decide

end

/-- The precondition gives the core's index. -/
theorem word_of_pre_kernel (m) (h : Cert.Pre_ChipSum m) : m (((0 : Dev Cert.ChipSum.nD) : Thread Cert.ChipSum.nD Cert.ChipSum.τ).loc Cert.ChipSum.main_arg1) ix0 = 0#32 ∨ m (((0 : Dev Cert.ChipSum.nD) : Thread Cert.ChipSum.nD Cert.ChipSum.τ).loc Cert.ChipSum.main_arg1) ix0 = 1#32 := by
  have e := congrFun (h 0) ix0
  simp only [Cert.Pre_on_mesh_cs.fn, andi, cmpi, constantI] at e
  exact word_of_bounds _ e

/-- The kernel ends and leaves its arguments as they were. -/
theorem frame_kernel : Cert.quiescent_ChipSum := fun m ρ h => Cert.ChipSum.Gen.frame m ρ (ok_kernel m (word_of_pre_kernel m h))

section
open Cert.ChipSumIdeal Cert.ChipSumIdeal.Gen

variable {F : FTy → Type} [FloatOps F] (m : (ℓ : Loc nD τ sig) → Buf (Elt F) ℓ)

/-- Of two words put in one list, the second. -/
theorem second_ideal (a b : S_.Idx → BitVec 32) (i : S2.Idx) (hi : (i 0).val = 1) :
    concatenate S2 0 [⟨S1, broadcastInDim S1 ![] bcast_S_S1 a⟩, ⟨S1, broadcastInDim S1 ![] bcast_S_S1 b⟩] concatenates_S1_S1_S2_d0 i = b ix0 := by
  pointwise
  exact dif_neg (by omega)

/-- The second word of the table is the core's index. -/
theorem word_ideal : (tbl m).at 0 (Rect.unit (s := S2) ![1] S1.size inb_S2_S1_1) numel1_S1 = m (((0 : Dev nD) : Thread nD τ).loc main_arg1) ix0 := by
  have e : tbl m 0 = concatenate S2 0 [⟨S1, broadcastInDim S1 ![] bcast_S_S1 (m (((0 : Dev nD) : Thread nD τ).loc main_arg0))⟩,
      ⟨S1, broadcastInDim S1 ![] bcast_S_S1 (m (((0 : Dev nD) : Thread nD τ).loc main_arg1))⟩] concatenates_S1_S1_S2_d0 := by
    unfold tbl
    show StableHlo.after hostOps0 (fun b => m ((0 : Dev nD), b)) (Proc.devRef .tc main_v2) = _
    after_results
  show tbl m 0 _ = _
  rw [e]
  exact second_ideal _ _ _ rfl

/-- A core's index of 0 or 1 names a slot of the result. -/
theorem ok_ideal (h : m (((0 : Dev nD) : Thread nD τ).loc main_arg1) ix0 = 0#32 ∨ m (((0 : Dev nD) : Thread nD τ).loc main_arg1) ix0 = 1#32) : Ok m := by
  unfold Ok ok0
  intro i
  refine ⟨?_, .inl rfl⟩
  unfold cc0_transform_2
  rw [word_ideal]
  have hi : (i 0).val = 0 := by have := (i 0).isLt; change (i 0).val < 1 at this; omega
  intro a
  rw [hi]
  rcases h with h | h <;> rw [h] <;> fin_cases a <;> decide

end

/-- The precondition gives the core's index. -/
theorem word_of_pre_ideal (m) (h : Cert.Pre_ChipSumIdeal m) : m (((0 : Dev Cert.ChipSumIdeal.nD) : Thread Cert.ChipSumIdeal.nD Cert.ChipSumIdeal.τ).loc Cert.ChipSumIdeal.main_arg1) ix0 = 0#32 ∨ m (((0 : Dev Cert.ChipSumIdeal.nD) : Thread Cert.ChipSumIdeal.nD Cert.ChipSumIdeal.τ).loc Cert.ChipSumIdeal.main_arg1) ix0 = 1#32 := by
  have e := congrFun (h 0) ix0
  simp only [Cert.Pre_on_mesh_cs.fn, andi, cmpi, constantI] at e
  exact word_of_bounds _ e

/-- The kernel over the reals ends and leaves its arguments as they were. -/
theorem frame_ideal : Cert.quiescent_ChipSumIdeal := fun m ρ h => Cert.ChipSumIdeal.Gen.frame m ρ (ok_ideal m (word_of_pre_ideal m h))

/-- The reference ends and leaves its arguments as they were. -/
theorem frame_reference : Cert.quiescent_ChipSumRefIdeal := fun m ρ _ =>
  (θ_run Cert.ChipSumRefIdeal.defs _ _).mono
    (fun r h => ⟨fun c => (h c).2, sem_eq_zero_of_no_sems (by decide) r.2⟩)
    (Cert.ChipSumRefIdeal.Value.run (F := Ideal) m ρ)

/-- A square and the three that came in. -/
def Y (s : Cert.ChipSumRefIdeal.S512x1408.Idx → EReal) (b : Cert.ChipSumRefIdeal.S3x512x1408.Idx → EReal) : Cert.ChipSumRefIdeal.S512x1408.Idx → EReal :=
  fun y => s y + b (ix3 (n0 := 3) (n1 := 512) (n2 := 1408) 0 (y 0) (y 1)) + b (ix3 (n0 := 3) (n1 := 512) (n2 := 1408) 1 (y 0) (y 1)) + b (ix3 (n0 := 3) (n1 := 512) (n2 := 1408) 2 (y 0) (y 1))

section
open Cert.ChipSumIdeal Cert.ChipSumIdeal.Gen

variable (m : (ℓ : Loc nD τ sig) → Buf (Elt Ideal) ℓ) (hO : Ok m) (c : Dev nD)

theorem one (t : Fin (cfgM m hO).N) : t.val = 0 := by
  have h : t.val < 1 := t.isLt
  omega

theorem maps : ∀ t : Fin grid0.N, cc0_transform_0 (grid0.coords t) = ![0, 0] ∧ cc0_transform_1 (grid0.coords t) = ![0, 0, 0] := by
  decide +kernel

theorem idx (t : Fin (cfgM m hO).N) : ((cfgM m hO).win 0).index t = ![0, 0] ∧ ((cfgM m hO).win 1).index t = ![0, 0, 0] := maps t

/-- The block that the one grid point writes is the one that the core's index names. -/
theorem idx_2 (t : Fin (cfgM m hO).N) (b : Fin 2) (hb : (m (((0 : Dev nD) : Thread nD τ).loc main_arg1) ix0).toNat = b.val) : ((cfgM m hO).win 2).index t = ![b.val, 0, 0] := by
  show cc0_transform_2 inb_S2_S1_1 numel1_S1 (tbl m) (grid0.coords t) = _
  have hi : (grid0.coords t 0).val = 0 := by have := (grid0.coords t 0).isLt; change (grid0.coords t 0).val < 1 at this; omega
  unfold cc0_transform_2
  rw [word_ideal, hi]
  show ![(m (((0 : Dev nD) : Thread nD τ).loc main_arg1) ix0).toNat, 0, 0] = _
  rw [hb]

/-- What the body leaves in its block, of what its inputs hold. -/
theorem body (i : grid0.Coords) (arg2 : Memref sig .tc .vmem S512x1408 .f32) (harg2 : arg2.IsWhole) (arg3 : Memref sig .tc .vmem S3x512x1408 .bf16) (harg3 : arg3.IsWhole) (arg4 : Memref sig .tc .vmem S1x512x1408 .f32) (harg4 : arg4.IsWhole)
    (x0 : Vec Ideal S512x1408 .f32) (x1 : Vec Ideal S3x512x1408 .bf16) (xt0 : TbBuf0 (F := Ideal) c tbM0_0) (y : S1x512x1408.Idx) :
    out0_A_2 c i arg2 harg2 arg3 harg3 arg4 harg4 x0 x1 xt0 y = Y x0 x1 (ix2 (n0 := 512) (n1 := 1408) (y 1) (y 2)) := by
  frame_out
  pointwise [k0_pay1, Y]

/-- The block that the one grid point writes. -/
theorem block (t : Fin (cfgM m hO).N) (y : S1x512x1408.Idx) : (dats m hO 0 c).after 2 t y
    = Y (m ((c : Thread nD τ).loc main_arg2)) (m ((c : Thread nD τ).loc main_arg3)) (ix2 (n0 := 512) (n1 := 1408) (y 1) (y 2)) := by
  rw [after0_2]
  unfold outsAt0
  refine (body c _ _ _ _ _ _ _ _ _ _ y).trans ?_
  have e0 : ∀ z : S512x1408.Idx, iblk m hO c 0 t z = m ((c : Thread nD τ).loc main_arg2) z := fun z => by
    show V m c main_arg2 ((((cfgM m hO).win 0).blk t).view.emb z) = _
    rw [V_main_arg2]
    refine congrArg _ ?_
    blk_ext [idx m hO t]
  have e1 : ∀ z : S3x512x1408.Idx, iblk m hO c 1 t z = m ((c : Thread nD τ).loc main_arg3) z := fun z => by
    show V m c main_arg3 ((((cfgM m hO).win 1).blk t).view.emb z) = _
    rw [V_main_arg3]
    refine congrArg _ ?_
    blk_ext [idx m hO t]
  exact congrArg₂ (fun x0 x1 => Y x0 x1 (ix2 (n0 := 512) (n1 := 1408) (y 1) (y 2))) (funext e0) (funext e1)

/-- The region's result after the run. -/
def out : S2x512x1408.Idx → EReal := (dats m hO 0 c).arrAt 2 (cfgM m hO).N

theorem flush (t : Fin (cfgM m hO).N) : ((cfgM m hO).win 2).flush t = true := by
  show (true && (decide (t.val + 1 = 1) || _)) = true
  rw [one m hO t]
  rfl

/-- The slot of the result that the core's index names, after the run. -/
theorem final (b : Fin 2) (hb : (m (((0 : Dev nD) : Thread nD τ).loc main_arg1) ix0).toNat = b.val) (y : S512x1408.Idx) :
    out m hO c (ix3 (n0 := 2) (n1 := 512) (n2 := 1408) b (y 0) (y 1)) = Y (m ((c : Thread nD τ).loc main_arg2)) (m ((c : Thread nD τ).loc main_arg3)) y := by
  obtain ⟨t, ht⟩ : ∃ t : Fin (cfgM m hO).N, t.val = 0 := ⟨⟨0, Nat.one_pos⟩, rfl⟩
  have e : (((cfgM m hO).win 2).blk t).view.emb (ix3 (n0 := 1) (n1 := 512) (n2 := 1408) 0 (y 0) (y 1)) = ix3 (n0 := 2) (n1 := 512) (n2 := 1408) b (y 0) (y 1) := by
    blk_ext [idx_2 m hO t b hb]
  have h := (dats m hO 0 c).arrAt_emb_eq_flushed 2 (fun t t' _ _ hne => absurd (Fin.ext ((one m hO t).trans (one m hO t').symm)) hne)
    t (flush m hO t) (ix3 (n0 := 1) (n1 := 512) (n2 := 1408) 0 (y 0) (y 1))
  have h2 : out m hO c ((((cfgM m hO).win 2).blk t).view.emb (ix3 (n0 := 1) (n1 := 512) (n2 := 1408) 0 (y 0) (y 1))) = (dats m hO 0 c).after 2 t (ix3 (n0 := 1) (n1 := 512) (n2 := 1408) 0 (y 0) (y 1)) := by
    unfold out
    blk_simp at h
    refine h.trans ?_
    unfold Pipeline.Dat.flushed Pipeline.Window.cut
    refine congrArg ((dats m hO 0 c).after 2 t) ?_
    funext a
    apply Fin.ext
    fin_cases a <;> rfl
  rw [e] at h2
  refine h2.trans ((block m hO c t _).trans ?_)
  pointwise [Y]

end

section
open Cert.ChipSumIdeal Cert.ChipSumIdeal.Gen

variable (m : (ℓ : Loc nD τ sig) → Buf (Elt Ideal) ℓ) (ρ : Dev nD → PrngReg)

/-- Of a result with two slots, the slot that a word names. -/
def pick (w : S_.Idx → BitVec 32) (o : S2x512x1408.Idx → EReal) : S512x1408.Idx → EReal :=
  select (broadcastInDim S512x1408 ![] bcast_S_S512x1408 (cmpi .eq w (constantI S_ 32 0#32)))
    (shapeCast S512x1408 (extractStridedSlice S1x512x1408 ![0, 0, 0] o slices_S2x512x1408_S1x512x1408_0_0_0) shapeCasts_S1x512x1408_S512x1408)
    (shapeCast S512x1408 (extractStridedSlice S1x512x1408 ![1, 0, 0] o slices_S2x512x1408_S1x512x1408_1_0_0) shapeCasts_S1x512x1408_S512x1408)

/-- What the host's lines after the region compute. -/
theorem lines (W : Valuation τ sig (Elt Ideal)) :
    StableHlo.after (List.flatten [hostOps1, hostOps1_1]) W (Proc.devRef .tc main_v9) = pick (W (Proc.devRef .tc main_arg1)) (W (Proc.devRef .tc main_v3)) := by
  unfold hostOps1 hostOps1_1
  simp only [List.flatten_cons, List.flatten_nil, List.append_nil, List.cons_append, List.nil_append]
  after_results
  simp only [StableHlo.TRef.toBuf, StableHlo.TRef.ofBuf, cast_eq]
  rfl

/-- What the host takes of the region's result. -/
theorem tail (hO : Ok m) (c : Dev nD) : Pipeline.afterTail pcfgs (fun _ => adm m hO) (dats m hO) 0 (V0 m) [hostOps1, hostOps1_1] c main_v9
    = pick (m ((c : Thread nD τ).loc main_arg1)) (out m hO c) := by
  unfold Pipeline.afterTail
  refine (lines _).trans ?_
  exact congrArg₂ pick ((Pipeline.withArrays_of_ne _ c (V0 m c) _ main_arg1 (by exact (by decide : ∀ w, Pipeline.arrRef spec0 w ≠ main_arg1))).trans (V_main_arg1 m c))
    (Pipeline.withArrays_arr spec0 winFacts0.arr_inj c (V0 m c) (fun w => (dats m hO 0 c).arrAt w (cfgM m hO).N) 2)

theorem pick_0 (w : S_.Idx → BitVec 32) (h : w ix0 = 0#32) (o : S2x512x1408.Idx → EReal) (y : S512x1408.Idx) : pick w o y = o (ix3 (n0 := 2) (n1 := 512) (n2 := 1408) 0 (y 0) (y 1)) := by
  pointwise [pick, h]

theorem pick_1 (w : S_.Idx → BitVec 32) (h : w ix0 = 1#32) (o : S2x512x1408.Idx → EReal) (y : S512x1408.Idx) : pick w o y = o (ix3 (n0 := 2) (n1 := 512) (n2 := 1408) 1 (y 0) (y 1)) := by
  pointwise [pick, h]
  rfl

/-- The kernel's result is the slot it wrote. -/
theorem value (h : Cert.Pre_ChipSumIdeal m) (hO : Ok m) (c : Dev nD) : pick (m ((c : Thread nD τ).loc main_arg1)) (out m hO c) = Y (m ((c : Thread nD τ).loc main_arg2)) (m ((c : Thread nD τ).loc main_arg3)) := by
  obtain rfl : c = 0 := Subsingleton.elim _ _
  funext y
  rcases word_of_pre_ideal m h with e | e
  · exact (pick_0 _ e _ y).trans (final m hO 0 0 (by rw [e]; rfl) y)
  · exact (pick_1 _ e _ y).trans (final m hO 0 1 (by rw [e]; rfl) y)

/-- The kernel ends with its result at that array and its arguments as they were. -/
theorem run (h : Cert.Pre_ChipSumIdeal m) : θ_run (defs (F := Ideal)) (onTc (τ := τ) (main (F := Ideal))) ⟨m, fun _ => 0, ρ⟩ (fun r => ∀ c : Dev nD,
    r.2.mem ((c.tc : Thread nD τ).loc main_v9) = Y (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  have hO := ok_ideal m (word_of_pre_ideal m h)
  refine (θ_run _ _ _).mono (fun r hr c => ⟨?_, hr.1 c⟩) (θ_run_and (unchanged m ρ hO) (run_main m ρ hO))
  exact ((hr.2 c).2 main_v9 (show main_v9 ∈ Pipeline.restRefs sig spec0 by decide)).trans ((tail m hO c).trans (value m h hO c))

end

section
open Cert.ChipSumRefIdeal Cert.ChipSumRefIdeal.Gen Cert.ChipSumRefIdeal.Read

/-- The reference's array: the sum of three in the same order. -/
theorem ref (s : Cert.ChipSumRefIdeal.S512x1408.Idx → EReal) (b : Cert.ChipSumRefIdeal.S3x512x1408.Idx → EReal) : val_main_v2 (F := Ideal) s b = Y s b := by
  funext i
  idx_vars i
  rw [val_main_v2_apply, val_main_v1_apply]
  pointwise [val_main_v0, Y]
  rw [Fin.sum_univ_three, show val_main_cst (F := Ideal) (Shape.Idx.first h_S_) = 0 from Ideal.ofBits_zero_f32, zero_add]
  have e : ∀ k : Fin 3, idx_main_v1 (ix2 i0 i1) k = ix3 (n0 := 3) (n1 := 512) (n2 := 1408) k i0 i1 := fun k => by
    funext a
    fin_cases a <;> rfl
  simp only [e, ← add_assoc]

end

/-- The kernel and the reference compute the same arrays over the reals. -/
theorem algebraic : Cert.algebraic_ChipSumIdeal_ChipSumRefIdeal := by
  pair_intro
  · run_from run m g hpre
  · run_from Cert.ChipSumRefIdeal.Value.run m' g'
    · exact (Cert.ChipSumRefIdeal.Read.val_main_v2_eq (F := Ideal) _ _).trans (ref _ _)

end Cert.Proof.ChipSum

end
-- ==== Proof.AddSel.lean ====
/- The sum of a gradient's halves of two sibling cores: one chip's sum in full, and the four sums rounded. -/
module

public import proofs.«01_k».proof.Defs
public import proofs.«01_k».proof.Proof.Gen.AddSel
public import proofs.«01_k».proof.Proof.Gen.AddSelIdeal
public import proofs.«01_k».proof.Proof.Gen.AddSelRefIdeal.Read
public import proofs.«01_k».proof.Proof.Gen.AddSelRefIdeal.Run
public import proofs.«01_k».proof.Proof.Gen.Pre_on_mesh
public import proofs.«01_k».proof.Proof.Gen.AddSel.Skeleton
public import proofs.«01_k».proof.Proof.Gen.AddSel.Launch
public import Idealize.ShloMosaic.Lib.Claim
public import Idealize.ShloMosaic.Lib.Pointwise
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Proof.AddSel

open Cert.AddSel Cert.AddSel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table that the kernel is handed. -/
abbrev tab : Memref sig .tc .smem S2 .i32 := Memref.whole main_arg0

/-- The word of the table that the kernel reads. -/
abbrev chip (T : S2.Idx → Elt F .i32) : BitVec 32 :=
  View.readAt (Elt F) tab.view (Rect.unit (s := S2) ![0] S1.size inb_S2_S1_0).toLoadRect T (Shape.Idx.first (numel1_S1.symm ▸ Nat.one_pos))

set_option maxHeartbeats 4000000 in
/-- Where the point is the chip's own, the body leaves the sum in one block and the rounded sum in the other. -/
theorem body_own (c : Dev nD) (i : grid0.Coords) (arg3 : Memref sig .tc .vmem S1x1x512x1408 .f32) (harg3 : arg3.IsWhole) (arg4 : Memref sig .tc .vmem S1x512x1408 .f32) (harg4 : arg4.IsWhole)
    (arg5 : Memref sig .tc .vmem S512x1408 .f32) (harg5 : arg5.IsWhole) (arg6 : Memref sig .tc .vmem S1x512x1408 .bf16) (harg6 : arg6.IsWhole)
    (T : S2.Idx → Elt F .i32) (x0 : Vec F S1x1x512x1408 .f32) (x1 : Vec F S1x512x1408 .f32) (h : k0_cond1 i (chip T) = 1#1) (K : PUnit → sProp 𝕄) :
    iprop(owns (c : Thread nD τ) arg3 fullShare x0 ∗ owns (c : Thread nD τ) arg4 fullShare x1 ∗ (tab.view.loc (c : Thread nD τ) ↦{fullShare.right} T)
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ (tab.view.loc (c : Thread nD τ) ↦{fullShare.right} T)
          ∗ owns (c : Thread nD τ) arg5 fullShare (k0_pay1 x0 x1) ∗ owns (c : Thread nD τ) arg6 fullShare (k0_pay2 x0 x1)) -∗ K ⟨⟩))
      ⊢ wp frame (wpE (defs₀ (F := F)) Variants.none c none) Set.univ (cc0_add_selected i tab (Memref.isWhole_whole _) arg3 harg3 arg4 harg4 arg5 harg5 arg6 harg6) K := by
  unfold owns
  rw [cc0_add_selected_eq_skeleton]; unfold cc0_add_selected_skel
  iintro ⟨⟨%f0, %hf0, H0⟩, ⟨%f1, %hf1, H1⟩, HT, ⟨%d2, %f2, -, HO2⟩, ⟨%d3, %f3, -, HO3⟩, Hk⟩
  obtain rfl := harg3.eq_unread hf0
  obtain rfl := harg4.eq_unread hf1
  have hT : tab.IsWhole := Memref.isWhole_whole _
  sl_exec! (disch := first | (guard_target = k0_cond1 _ _ = _; exact h))
  sl_step
  iapply Hk
  isplitl [H0]
  · iexists _; isplitr; · ipureintro; exact harg3.read_unread _
    iexact H0
  isplitl [H1]
  · iexists _; isplitr; · ipureintro; exact harg4.read_unread _
    iexact H1
  isplitl [HT]; · iexact HT
  isplitl [HO2]
  · iexists _; isplitr; swap
    · iexact HO2
    ipureintro
    rw [View.read_writes_of_cover _ _ arg5.view arg5.view.junk _ (View.cover_of_tiledL _ S512x1408.size (by sl_kernel_rfl))]
    frame_out
  iexists _; isplitr; swap
  · iexact HO3
  ipureintro
  rw [View.read_writes_of_cover _ _ arg6.view arg6.view.junk _ (View.cover_of_tiledL _ S1x512x1408.size (by sl_kernel_rfl))]
  frame_out

set_option maxHeartbeats 4000000 in
/-- At every other point, the body leaves the rounded sum in its block and does not touch the other block. -/
theorem body_other (c : Dev nD) (i : grid0.Coords) (arg3 : Memref sig .tc .vmem S1x1x512x1408 .f32) (harg3 : arg3.IsWhole) (arg4 : Memref sig .tc .vmem S1x512x1408 .f32) (harg4 : arg4.IsWhole)
    (arg5 : Memref sig .tc .vmem S512x1408 .f32) (harg5 : arg5.IsWhole) (arg6 : Memref sig .tc .vmem S1x512x1408 .bf16) (harg6 : arg6.IsWhole)
    (T : S2.Idx → Elt F .i32) (x0 : Vec F S1x1x512x1408 .f32) (x1 : Vec F S1x512x1408 .f32) (x2 : Vec F S512x1408 .f32) (h : ¬ k0_cond1 i (chip T) = 1#1) (K : PUnit → sProp 𝕄) :
    iprop(owns (c : Thread nD τ) arg3 fullShare x0 ∗ owns (c : Thread nD τ) arg4 fullShare x1 ∗ (tab.view.loc (c : Thread nD τ) ↦{fullShare.right} T)
        ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ (tab.view.loc (c : Thread nD τ) ↦{fullShare.right} T)
          ∗ owns (c : Thread nD τ) arg5 fullShare x2 ∗ owns (c : Thread nD τ) arg6 fullShare (k0_pay2 x0 x1)) -∗ K ⟨⟩))
      ⊢ wp frame (wpE (defs₀ (F := F)) Variants.none c none) Set.univ (cc0_add_selected i tab (Memref.isWhole_whole _) arg3 harg3 arg4 harg4 arg5 harg5 arg6 harg6) K := by
  unfold owns
  rw [cc0_add_selected_eq_skeleton]; unfold cc0_add_selected_skel
  iintro ⟨⟨%f0, %hf0, H0⟩, ⟨%f1, %hf1, H1⟩, HT, ⟨%f2, %hf2, HO2⟩, ⟨%d3, %f3, -, HO3⟩, Hk⟩
  obtain rfl := harg3.eq_unread hf0
  obtain rfl := harg4.eq_unread hf1
  have hT : tab.IsWhole := Memref.isWhole_whole _
  sl_exec! (disch := first | (guard_target = ¬(k0_cond1 _ _ = _); exact h))
  sl_step
  iapply Hk
  isplitl [H0]
  · iexists _; isplitr; · ipureintro; exact harg3.read_unread _
    iexact H0
  isplitl [H1]
  · iexists _; isplitr; · ipureintro; exact harg4.read_unread _
    iexact H1
  isplitl [HT]; · iexact HT
  isplitl [HO2]
  · iexists _; isplitr; · ipureintro; exact hf2
    iexact HO2
  iexists _; isplitr; swap
  · iexact HO3
  ipureintro
  rw [View.read_writes_of_cover _ _ arg6.view arg6.view.junk _ (View.cover_of_tiledL _ S1x512x1408.size (by sl_kernel_rfl))]
  frame_out

/-- The table of chip `k` and core `l`. -/
def words (k : Fin 4) (l : Fin 2) : S2.Idx → BitVec 32 := fun x => ![BitVec.ofNat 32 k.val, BitVec.ofNat 32 l.val] (x 0)

/-- The same, as what the kernel is handed. -/
def held (k : Fin 4) (l : Fin 2) : pre0.Contents (Elt F) := fun | ⟨0, _⟩ => words k l | ⟨_ + 1, h⟩ => absurd h (by simp)

/-- Such a table places every block inside its array. -/
theorem ok_held : ∀ (k : Fin 4) (l : Fin 2), ok0 (F := F) (held k l) := by
  intro k l i
  refine ⟨?_, .inl rfl⟩
  revert k l i
  exact of_decide_eq_true (by sl_kernel_rfl)

/-- The pipeline's tables. -/
def adm (k : Fin 4) (l : Fin 2) : (pcfg0 (F := F)).Adm := ⟨held k l, ok_held k l⟩

/-- The pipeline at them. -/
abbrev cfgA (k : Fin 4) (l : Fin 2) : Pipeline.Cfg sig Λ₀ := cfg0 (F := F) (adm k l)

/-- The points at which the first block is not written. -/
theorem idle_first : ∀ (k : Fin 4) (l : Fin 2) (t : Fin (cfgA (F := F) k l).N), (cfgA (F := F) k l).idle (2 : Fin 4) ((cfgA (F := F) k l).grid.coords t) = !decide (t.val = k.val) := by
  exact of_decide_eq_true (by sl_kernel_rfl)

/-- The first block goes back at the last point. -/
theorem flush_first : ∀ (k : Fin 4) (l : Fin 2) (t : Fin (cfgA (F := F) k l).N), ((cfgA (F := F) k l).win (2 : Fin 4)).flush t = decide (t.val = 3) := by
  exact of_decide_eq_true (by sl_kernel_rfl)

/-- The second block goes back at every point. -/
theorem flush_second : ∀ (k : Fin 4) (l : Fin 2) (t : Fin (cfgA (F := F) k l).N), ((cfgA (F := F) k l).win (3 : Fin 4)).flush t = true := by
  exact of_decide_eq_true (by sl_kernel_rfl)

/-- The chip's own point is the one that the table names. -/
theorem cond : ∀ (k : Fin 4) (l : Fin 2) (t : Fin (cfgA (F := F) k l).N), k0_cond1 ((cfgA (F := F) k l).grid.coords t) (chip (F := F) (words k l)) = if t.val = k.val then 1#1 else 0#1 := by
  exact of_decide_eq_true (by sl_kernel_rfl)

section
variable (k : Fin 4) (l : Fin 2)

/-- Before the chip's own point nothing has been stored in the first block. -/
theorem fresh_first (t : Fin (cfgA (F := F) k l).N) : (cfgA (F := F) k l).fresh (2 : Fin 4) t.val = decide (t.val ≤ k.val) := by
  refine (Pipeline.Cfg.fresh_tab (cfgA k l) (2 : Fin 4) (fun n => decide (n ≤ k.val ∨ n = 4)) (by simp) (fun t => ?_) t.val (Nat.le_of_lt t.isLt)).trans ?_
  · rw [flush_first, idle_first]
    have := k.isLt
    have ht : t.val < 4 := t.isLt
    rw [Bool.eq_iff_iff]
    simp only [Bool.or_eq_true, Bool.and_eq_true, Bool.not_eq_true', decide_eq_true_eq, decide_eq_false_iff_not]
    omega
  · have ht : t.val < 4 := t.isLt
    exact decide_eq_decide.2 ⟨fun h => by omega, fun h => .inl h⟩

/-- At every point nothing has been stored in the second block. -/
theorem fresh_second (t : Fin (cfgA (F := F) k l).N) : (cfgA (F := F) k l).fresh (3 : Fin 4) t.val = true :=
  Pipeline.Cfg.fresh_tab (cfgA k l) (3 : Fin 4) (fun _ => true) rfl (fun t => by rw [flush_second]; rfl) t.val (Nat.le_of_lt t.isLt)

variable (m : (ℓ : Loc nD τ sig) → Buf (Elt F) ℓ) (ρ : Dev nD → PrngReg) (c : Dev nD)

/-- A window's block of its array at the start. -/
def blkAt (w : Fin (cfgA (F := F) k l).W) (t : Fin (cfgA (F := F) k l).N) : (((cfgA (F := F) k l).win w).xblock ((cfgA (F := F) k l).grid.coords t)).Idx → Elt F ((cfgA (F := F) k l).win w).elt :=
  (((cfgA (F := F) k l).win w).blk t).view.read (Elt F) ((s₀ m ρ).mem (((cfgA (F := F) k l).win w).arr.view.loc (c : Thread nD τ)))

/-- The chip's own point. -/
def ownPt : Fin (cfgA (F := F) k l).N := ⟨k.val, k.isLt⟩

/-- What the windows hold after each point. -/
def dats (_ : Fin 1) (c : Dev nD) : Dat τ (Elt F) Unit ℕ (UR sig nD τ) ℕ (cfgA (F := F) k l) c where
  A w := (s₀ m ρ).mem (((cfgA (F := F) k l).win w).arr.view.loc (c : Thread nD τ))
  after w t := match w with
    | ⟨0, _⟩ => blkAt k l m ρ c (0 : Fin 4) t
    | ⟨1, _⟩ => blkAt k l m ρ c (1 : Fin 4) t
    | ⟨2, _⟩ => k0_pay1 (blkAt k l m ρ c (0 : Fin 4) (ownPt k l)) (blkAt k l m ρ c (1 : Fin 4) (ownPt k l))
    | ⟨3, _⟩ => k0_pay2 (blkAt k l m ρ c (0 : Fin 4) t) (blkAt k l m ρ c (1 : Fin 4) t)
  Φ t := iprop(tab.view.loc (c : Thread nD τ) ↦{fullShare.right} (words k l : S2.Idx → Elt F .i32))
  q _ := fullShare
  owed _ := 0

theorem after_0 (t : Fin (cfgA (F := F) k l).N) : (dats k l m ρ 0 c).after (0 : Fin 4) t = blkAt k l m ρ c (0 : Fin 4) t := rfl
theorem after_1 (t : Fin (cfgA (F := F) k l).N) : (dats k l m ρ 0 c).after (1 : Fin 4) t = blkAt k l m ρ c (1 : Fin 4) t := rfl
theorem after_2 (t : Fin (cfgA (F := F) k l).N) : (dats k l m ρ 0 c).after (2 : Fin 4) t = k0_pay1 (blkAt k l m ρ c (0 : Fin 4) (ownPt k l)) (blkAt k l m ρ c (1 : Fin 4) (ownPt k l)) := rfl
theorem after_3 (t : Fin (cfgA (F := F) k l).N) : (dats k l m ρ 0 c).after (3 : Fin 4) t = k0_pay2 (blkAt k l m ρ c (0 : Fin 4) t) (blkAt k l m ρ c (1 : Fin 4) t) := rfl

theorem phi (t : Fin ((cfgA (F := F) k l).N + 1)) : (dats k l m ρ 0 c).Φ t = iprop(tab.view.loc (c : Thread nD τ) ↦{fullShare.right} (words k l : S2.Idx → Elt F .i32)) := rfl

theorem before_0 (t : Fin (cfgA (F := F) k l).N) (d) : (dats k l m ρ 0 c).before (0 : Fin 4) t d = blkAt k l m ρ c (0 : Fin 4) t :=
  ((dats k l m ρ 0 c).before_in_eq_fetched (0 : Fin 4) rfl (fun _ => rfl) (fun _ _ _ => rfl) (fun t => by rw [after_0]; unfold Dat.blockOf blkAt; rfl) t d).trans
    (by unfold Dat.fetched Dat.blockOf blkAt; rfl)

theorem before_1 (t : Fin (cfgA (F := F) k l).N) (d) : (dats k l m ρ 0 c).before (1 : Fin 4) t d = blkAt k l m ρ c (1 : Fin 4) t :=
  ((dats k l m ρ 0 c).before_in_eq_fetched (1 : Fin 4) rfl (fun _ => rfl) (fun _ _ _ => rfl) (fun t => by rw [after_1]; unfold Dat.blockOf blkAt; rfl) t d).trans
    (by unfold Dat.fetched Dat.blockOf blkAt; rfl)

/-- The first block holds nothing of use up to the chip's own point, and the chip's sum after it. -/
theorem before_2 (t : Fin (cfgA (F := F) k l).N) (d) : (dats k l m ρ 0 c).before (2 : Fin 4) t d
    = if t.val ≤ k.val then d else k0_pay1 (blkAt k l m ρ c (0 : Fin 4) (ownPt k l)) (blkAt k l m ρ c (1 : Fin 4) (ownPt k l)) := by
  rw [(dats k l m ρ 0 c).before_out_traj (2 : Fin 4) rfl (fun _ _ => rfl) (fun _ _ _ _ => rfl) t.val t rfl d, fresh_first, after_2]
  simp only [decide_eq_true_eq]

/-- The body at a point. -/
abbrev bodyAt (t : Fin (cfgA (F := F) k l).N) : Prog (TpuEff nD τ sig (Elt F) Λ₀ .tc) PUnit :=
  cc0_add_selected ((cfgA (F := F) k l).grid.coords t) tab (Memref.isWhole_whole _)
    (spec0_0.stage ((cfgA (F := F) k l).slots t (0 : Fin 4))) (hstage0_0 (((cfgA (F := F) k l).slots t (0 : Fin 4)).cast nbuf0_0))
    (spec0_1.stage ((cfgA (F := F) k l).slots t (1 : Fin 4))) (hstage0_1 (((cfgA (F := F) k l).slots t (1 : Fin 4)).cast nbuf0_1))
    (spec0_2.stage ((cfgA (F := F) k l).slots t (2 : Fin 4))) (hstage0_2 (((cfgA (F := F) k l).slots t (2 : Fin 4)).cast nbuf0_2))
    (spec0_3.stage ((cfgA (F := F) k l).slots t (3 : Fin 4))) (hstage0_3 (((cfgA (F := F) k l).slots t (3 : Fin 4)).cast nbuf0_3))

set_option maxHeartbeats 4000000 in
/-- The body takes each point's windows to what they hold after it. -/
theorem body (t : Fin (cfgA (F := F) k l).N) :
    iprop((dats k l m ρ 0 c).Φ t.castSucc ∗ (dats k l m ρ 0 c).owesAt () t.castSucc
        ∗ (∃ d, owns (c : Thread nD τ) (spec0_0.stage ((cfgA (F := F) k l).slots t (0 : Fin 4))) fullShare ((dats k l m ρ 0 c).before (0 : Fin 4) t d))
        ∗ (∃ d, owns (c : Thread nD τ) (spec0_1.stage ((cfgA (F := F) k l).slots t (1 : Fin 4))) fullShare ((dats k l m ρ 0 c).before (1 : Fin 4) t d))
        ∗ (∃ d, owns (c : Thread nD τ) (spec0_2.stage ((cfgA (F := F) k l).slots t (2 : Fin 4))) fullShare ((dats k l m ρ 0 c).before (2 : Fin 4) t d))
        ∗ (∃ d, owns (c : Thread nD τ) (spec0_3.stage ((cfgA (F := F) k l).slots t (3 : Fin 4))) fullShare ((dats k l m ρ 0 c).before (3 : Fin 4) t d)))
      ⊢ wp frame (wpE (defs₀ (F := F)) Variants.none c none) Set.univ (bodyAt k l t) fun _ =>
          iprop((dats k l m ρ 0 c).Φ t.succ ∗ (dats k l m ρ 0 c).owesAt () t.succ
            ∗ bigSep Finset.univ fun w : Fin (cfgA (F := F) k l).W =>
                match (cfgA (F := F) k l).idle w ((cfgA (F := F) k l).grid.coords t) with
                | true =>
                  match ((cfgA (F := F) k l).win w).flush t with
                  | false => iprop(∃ d, owns (c : Thread nD τ) (((cfgA (F := F) k l).win w).stage ((cfgA (F := F) k l).slots t w)) fullShare ((dats k l m ρ 0 c).before w t d))
                  | true => owns (c : Thread nD τ) (((cfgA (F := F) k l).win w).stage ((cfgA (F := F) k l).slots t w)) fullShare ((dats k l m ρ 0 c).after w t)
                | false => owns (c : Thread nD τ) (((cfgA (F := F) k l).win w).stage ((cfgA (F := F) k l).slots t w)) fullShare ((dats k l m ρ 0 c).after w t)) := by
  rw [bigSep_W0]
  have hc := cond (F := F) k l t
  have i2 := idle_first (F := F) k l t
  have f2 := flush_first (F := F) k l t
  have i3 : (cfgA (F := F) k l).idle (3 : Fin 4) ((cfgA (F := F) k l).grid.coords t) = false := rfl
  have hN : t.val < 4 := t.isLt
  rewrite [show (dats k l m ρ 0 c).Φ t.succ = (dats k l m ρ 0 c).Φ t.castSucc from rfl, show (dats k l m ρ 0 c).owesAt () t.succ = (dats k l m ρ 0 c).owesAt () t.castSucc from rfl]
  by_cases q : t.val = k.val
  · obtain rfl : t = ownPt k l := Fin.ext q
    rw [if_pos q] at hc
    rw [decide_eq_true q, Bool.not_true] at i2
    rewrite [i2, i3]
    rewrite [phi]
    simp only [before_0, before_1, after_0, after_1, after_2, after_3]
    iintro ⟨HT, Ho, ⟨%d0, H0⟩, ⟨%d1, H1⟩, ⟨%d2, H2⟩, ⟨%d3, H3⟩⟩
    iapply (body_own c _ _ _ _ _ _ _ _ _ (words k l) (blkAt k l m ρ c (0 : Fin 4) (ownPt k l)) (blkAt k l m ρ c (1 : Fin 4) (ownPt k l)) hc _)
    isplitl [H0]; · iexact H0
    isplitl [H1]; · iexact H1
    isplitl [HT]; · iexact HT
    isplitl [H2]; · iexists _; iexact H2
    isplitl [H3]; · iexists _; iexact H3
    iintro ⟨H0, H1, HT, H2, H3⟩
    isplitl [HT]; · iexact HT
    isplitl [Ho]; · iexact Ho
    isplitl [H0]; · iexact H0
    isplitl [H1]; · iexact H1
    isplitl [H2]; · iexact H2
    iexact H3
  · rw [if_neg q] at hc
    have hc' : ¬ k0_cond1 ((cfgA (F := F) k l).grid.coords t) (chip (F := F) (words k l)) = 1#1 := by rw [hc]; decide
    rw [decide_eq_false q, Bool.not_false] at i2
    rewrite [i2, i3]
    have key : iprop((dats k l m ρ 0 c).Φ t.castSucc ∗ (dats k l m ρ 0 c).owesAt () t.castSucc
        ∗ (∃ d, owns (c : Thread nD τ) (spec0_0.stage ((cfgA (F := F) k l).slots t (0 : Fin 4))) fullShare ((dats k l m ρ 0 c).before (0 : Fin 4) t d))
        ∗ (∃ d, owns (c : Thread nD τ) (spec0_1.stage ((cfgA (F := F) k l).slots t (1 : Fin 4))) fullShare ((dats k l m ρ 0 c).before (1 : Fin 4) t d))
        ∗ (∃ d, owns (c : Thread nD τ) (spec0_2.stage ((cfgA (F := F) k l).slots t (2 : Fin 4))) fullShare ((dats k l m ρ 0 c).before (2 : Fin 4) t d))
        ∗ (∃ d, owns (c : Thread nD τ) (spec0_3.stage ((cfgA (F := F) k l).slots t (3 : Fin 4))) fullShare ((dats k l m ρ 0 c).before (3 : Fin 4) t d)))
      ⊢ wp frame (wpE (defs₀ (F := F)) Variants.none c none) Set.univ (bodyAt k l t) fun _ =>
          iprop((dats k l m ρ 0 c).Φ t.castSucc ∗ (dats k l m ρ 0 c).owesAt () t.castSucc
            ∗ owns (c : Thread nD τ) (spec0_0.stage ((cfgA (F := F) k l).slots t (0 : Fin 4))) fullShare (blkAt k l m ρ c (0 : Fin 4) t)
            ∗ owns (c : Thread nD τ) (spec0_1.stage ((cfgA (F := F) k l).slots t (1 : Fin 4))) fullShare (blkAt k l m ρ c (1 : Fin 4) t)
            ∗ (∃ d, owns (c : Thread nD τ) (spec0_2.stage ((cfgA (F := F) k l).slots t (2 : Fin 4))) fullShare ((dats k l m ρ 0 c).before (2 : Fin 4) t d))
            ∗ owns (c : Thread nD τ) (spec0_3.stage ((cfgA (F := F) k l).slots t (3 : Fin 4))) fullShare (k0_pay2 (blkAt k l m ρ c (0 : Fin 4) t) (blkAt k l m ρ c (1 : Fin 4) t))) := by
      rewrite [phi]
      simp only [before_0, before_1]
      iintro ⟨HT, Ho, ⟨%d0, H0⟩, ⟨%d1, H1⟩, ⟨%d2, H2⟩, ⟨%d3, H3⟩⟩
      iapply (body_other c _ _ _ _ _ _ _ _ _ (words k l) (blkAt k l m ρ c (0 : Fin 4) t) (blkAt k l m ρ c (1 : Fin 4) t) ((dats k l m ρ 0 c).before (2 : Fin 4) t d2) hc' _)
      isplitl [H0]; · iexact H0
      isplitl [H1]; · iexact H1
      isplitl [HT]; · iexact HT
      isplitl [H2]; · iexact H2
      isplitl [H3]; · iexists _; iexact H3
      iintro ⟨H0, H1, HT, H2, H3⟩
      isplitl [HT]; · iexact HT
      isplitl [Ho]; · iexact Ho
      isplitl [H0]; · iexact H0
      isplitl [H1]; · iexact H1
      isplitl [H2]; · iexists d2; iexact H2
      iexact H3
    by_cases q3 : t.val = 3
    · rw [decide_eq_true q3] at f2
      rewrite [f2]
      have hk : ¬ t.val ≤ k.val := by have := k.isLt; omega
      refine key.trans (wp_mono _ _ _ fun _ => ?_)
      simp only [before_2, if_neg hk, after_0, after_1, after_2, after_3]
      iintro ⟨HT, Ho, H0, H1, ⟨%d, H2⟩, H3⟩
      isplitl [HT]; · iexact HT
      isplitl [Ho]; · iexact Ho
      isplitl [H0]; · iexact H0
      isplitl [H1]; · iexact H1
      isplitl [H2]; · iexact H2
      iexact H3
    · rw [decide_eq_false q3] at f2
      rewrite [f2]
      exact key

/-- The library's obligation of the body. -/
theorem obligation : BodyObligation (dats k l m ρ 0 c) (defs₀ (F := F)) Variants.none () Set.univ := fun t => by
  rw [bigSep_W0]
  exact body k l m ρ c t

/-- The rounds library's embedding and launch element. -/
abbrev emb : Emb (UR sig nD τ) 𝕄 := emb₁

def u₀ : UR sig nD τ :=
  initOf (Pipeline.cells (Pipeline.pin (pcfgs (F := F)) fun _ => adm k l) ((launch0 (F := F)).cellOf_inj fun _ => adm k l))
    (Pipeline.launchToks (Pipeline.pin (pcfgs (F := F)) fun _ => adm k l) ((launch0 (F := F)).cellOf_inj fun _ => adm k l))

theorem share_full (w : Fin (cfgA (F := F) k l).W) : (dats k l m ρ 0 c).share w = fullShare := by unfold Dat.share; split <;> rfl

theorem table_held (q : Fin 1 → PosShare TreeShare) (v : pre0.Contents (Elt F)) :
    (Pipeline.prefHeld (Ix := Unit) (Name := ℕ) (U := UR sig nD τ) (Lvl := ℕ) pre0 c q v : sProp 𝕄) = iprop((((c : Thread nD τ).loc main_arg0) ↦{q 0} v 0)) := by
  unfold Pipeline.prefHeld
  rw [show (Finset.univ : Finset (Fin 1)) = {(0 : Fin 1)} from by decide, bigSep_singleton]
  rfl

theorem phi_first : iprop(BI.emp ∗ Pipeline.prefHeld pre0 c (fun _ => fullShare.right) (adm (F := F) k l).1 ∗ Pipeline.scopedRest spec0 c) ⊢ (dats k l m ρ 0 c).Φ 0 := by
  rw [table_held, scopedRest0_eq, phi]
  iintro ⟨-, HT, -⟩
  iexact HT

theorem phi_last : (dats k l m ρ 0 c).Φ (Fin.last (cfgA (F := F) k l).N) ⊢ iprop(BI.emp ∗ Pipeline.scopedRest spec0 c) := by
  rw [scopedRest0_eq, phi]
  iintro -
  isplitr <;> iempintro

theorem table_eq (hp : ∀ c : Dev nD, m ((c : Thread nD τ).loc main_arg0) = (words k l : S2.Idx → Elt F .i32)) (j : Fin 1) : m ((c : Thread nD τ).loc (pre0.ref j)) = (adm (F := F) k l).1 j := by
  fin_cases j
  exact hp c

set_option backward.isDefEq.respectTransparency.types false in
set_option maxHeartbeats 4000000 in
/-- With the table of a chip and a core, the kernel ends with every array at what the points left in it, and no counter up. -/
theorem run_main (hp : ∀ c : Dev nD, m ((c : Thread nD τ).loc main_arg0) = (words k l : S2.Idx → Elt F .i32)) :
    θ_run (defs (F := F)) (onTc (τ := τ) (main (F := F))) (s₀ m ρ) (fun r => (∀ c : Dev nD,
      (∀ w : Fin (cfgA (F := F) k l).W, r.2.mem (((cfgA (F := F) k l).win w).arr.view.loc (c : Thread nD τ)) = (dats k l m ρ 0 c).arrAt w (cfgA (F := F) k l).N)
      ∧ ∀ j, r.2.mem ((c : Thread nD τ).loc (pre0.ref j)) = (adm (F := F) k l).1 j) ∧ r.2.sem = fun _ => 0) :=
  Pipeline.θ_run_region_noSem_pf_quiescent pcfgs (fun _ => adm k l) (dats k l m ρ) () ((launch0 (F := F)).cellOf_inj fun _ => adm k l) (0 : Fin 1)
    (launch0 (F := F)).win.to₀ (launch0 (F := F)).pre emb defs₀ Variants.none m ρ main
    (hbody := fun c => (obligation k l m ρ c).loose) (hne := (launch0 (F := F)).block_pos)
    (harr := (launch0 (F := F)).arr_whole) (hstage := (launch0 (F := F)).stage_whole) (howed := fun _ _ => rfl)
    (u₀ := u₀ (F := F) k l) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (Pipeline.pin (pcfgs (F := F)) fun _ => adm k l) (dats k l m ρ) 0 (launch0 (F := F)).win.arr_inj c (launch0 (F := F)).arr_whole
      (share_full k l m ρ c) _ _ fun _ => rfl)
    (hpf := fun c => table_eq k l m c hp)
    (X := fun _ => iprop(emp)) (Y := fun _ => iprop(emp)) (Z := fun _ => iprop(emp))
    (hX := fun c => by rw [unscopedRestP0_eq]; iintro -; isplitr <;> iempintro)
    (hin := phi_first k l m ρ)
    (hout := phi_last k l m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, and the arguments as they were. -/
theorem frame_main (hp : ∀ c : Dev nD, m ((c : Thread nD τ).loc main_arg0) = (words k l : S2.Idx → Elt F .i32)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 0).trans (hp c).symm, ((h.1 c).1 (0 : Fin 4)).trans ((dats k l m ρ 0 c).arrAt_in (0 : Fin 4) rfl _),
    ((h.1 c).1 (1 : Fin 4)).trans ((dats k l m ρ 0 c).arrAt_in (1 : Fin 4) rfl _)⟩, h.2⟩) (run_main k l m ρ hp)

end

/-- The four bounds say which chip and which core. -/
theorem words_of_bounds (T : S2.Idx → BitVec 32)
    (e : IntOp.andi (IntOp.andi (IntOp.andi (IntOp.cmpi .sge (T (ix1 0)) 0#32) (IntOp.cmpi .slt (T (ix1 0)) 4#32)) (IntOp.cmpi .sge (T (ix1 1)) 0#32)) (IntOp.cmpi .slt (T (ix1 1)) 2#32) = 1#1) :
    ∃ (k : Fin 4) (l : Fin 2), T = words k l := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have h0 : (T (ix1 0)).toNat < 4 := by omega
  have h1 : (T (ix1 1)).toNat < 2 := by omega
  refine ⟨⟨_, h0⟩, ⟨_, h1⟩, funext fun x => ?_⟩
  obtain ⟨a, rfl⟩ : ∃ a : Fin 2, x = ix1 a := ⟨x 0, funext fun b => by fin_cases b; rfl⟩
  fin_cases a
  · exact BitVec.eq_of_toNat_eq (Nat.mod_eq_of_lt (T (ix1 0)).isLt).symm
  · exact BitVec.eq_of_toNat_eq (Nat.mod_eq_of_lt (T (ix1 1)).isLt).symm

/-- The precondition says which chip and which core. -/
theorem words_of_pre (T : S2.Idx → BitVec 32) (A : FVec F S4x2x512x1408 .f32) (B : FVec F S4x512x1408 .f32)
    (e : Cert.Pre_on_mesh.fn (F := F) T A B ix0 = 1#1) : ∃ (k : Fin 4) (l : Fin 2), T = words k l := by
  have e0 (h h') : shapeCast Cert.Pre_on_mesh.S_ (extractStridedSlice Cert.Pre_on_mesh.S1 ![0] T h) h' ix0 = T (ix1 0) := by
    pointwise
  have e1 (h h') : shapeCast Cert.Pre_on_mesh.S_ (extractStridedSlice Cert.Pre_on_mesh.S1 ![1] T h) h' ix0 = T (ix1 1) := by
    pointwise
  simp only [Cert.Pre_on_mesh.fn, andi, cmpi, constantI, e0, e1] at e
  exact words_of_bounds T e

/-- The kernel ends and leaves its arguments as they were. -/
theorem frame_kernel : Cert.quiescent_AddSel := fun m ρ h => by
  obtain ⟨k, l, e⟩ := words_of_pre (F := Bits) _ _ _ (congrFun (h 0) ix0)
  exact frame_main k l m ρ fun c => by obtain rfl : c = 0 := Subsingleton.elim _ _; exact e

/-- One chip's sum of the two halves. -/
def YO (k : Fin 4) (l : Fin 2) (a : S4x2x512x1408.Idx → EReal) (b : S4x512x1408.Idx → EReal) : S512x1408.Idx → EReal :=
  fun y => a (ix4 (n0 := 4) (n1 := 2) (n2 := 512) (n3 := 1408) k l (y 0) (y 1)) + b (ix3 (n0 := 4) (n1 := 512) (n2 := 1408) k (y 0) (y 1))

/-- Every chip's sum of the two halves. -/
def YA (l : Fin 2) (a : S4x2x512x1408.Idx → EReal) (b : S4x512x1408.Idx → EReal) : S4x512x1408.Idx → EReal :=
  fun y => a (ix4 (n0 := 4) (n1 := 2) (n2 := 512) (n3 := 1408) (y 0) l (y 1) (y 2)) + b y

section
variable (k : Fin 4) (l : Fin 2) (m : (ℓ : Loc nD τ sig) → Buf (Elt Ideal) ℓ) (ρ : Dev nD → PrngReg) (c : Dev nD)

/-- The blocks of a point. -/
theorem idx : ∀ (k : Fin 4) (l : Fin 2) (t : Fin (cfgA (F := Ideal) k l).N), ((cfgA (F := Ideal) k l).win (0 : Fin 4)).index t = ![t.val, l.val, 0, 0] ∧ ((cfgA (F := Ideal) k l).win (1 : Fin 4)).index t = ![t.val, 0, 0]
    ∧ ((cfgA (F := Ideal) k l).win (2 : Fin 4)).index t = ![0, 0] ∧ ((cfgA (F := Ideal) k l).win (3 : Fin 4)).index t = ![t.val, 0, 0] := by
  exact of_decide_eq_true (by sl_kernel_rfl)

/-- The blocks that go back cover their arrays. -/
theorem covers : ∀ (k : Fin 4) (l : Fin 2), ((cfgA (F := Ideal) k l).win (2 : Fin 4)).Covers ∧ ((cfgA (F := Ideal) k l).win (3 : Fin 4)).Covers := by
  exact of_decide_eq_true (by sl_kernel_rfl)

theorem blk_0 (t : Fin (cfgA (F := Ideal) k l).N) (z : S1x1x512x1408.Idx) :
    blkAt k l m ρ c (0 : Fin 4) t z = m ((c : Thread nD τ).loc main_arg1) (ix4 (n0 := 4) (n1 := 2) (n2 := 512) (n3 := 1408) ⟨t.val, t.isLt⟩ l (z 2) (z 3)) := by
  show m ((c : Thread nD τ).loc main_arg1) ((((cfgA k l).win (0 : Fin 4)).blk t).view.emb z) = _
  refine congrArg _ ?_
  blk_ext [idx k l t]

theorem blk_1 (t : Fin (cfgA (F := Ideal) k l).N) (z : S1x512x1408.Idx) :
    blkAt k l m ρ c (1 : Fin 4) t z = m ((c : Thread nD τ).loc main_arg2) (ix3 (n0 := 4) (n1 := 512) (n2 := 1408) ⟨t.val, t.isLt⟩ (z 1) (z 2)) := by
  show m ((c : Thread nD τ).loc main_arg2) ((((cfgA k l).win (1 : Fin 4)).blk t).view.emb z) = _
  refine congrArg _ ?_
  blk_ext [idx k l t]

theorem pay_1 (x0 : Vec Ideal S1x1x512x1408 .f32) (x1 : Vec Ideal S1x512x1408 .f32) (y : S512x1408.Idx) :
    k0_pay1 x0 x1 y = x0 (ix4 (n0 := 1) (n1 := 1) (n2 := 512) (n3 := 1408) 0 0 (y 0) (y 1)) + x1 (ix3 (n0 := 1) (n1 := 512) (n2 := 1408) 0 (y 0) (y 1)) := by
  pointwise [k0_pay1]

theorem pay_2 (x0 : Vec Ideal S1x1x512x1408 .f32) (x1 : Vec Ideal S1x512x1408 .f32) (y : S1x512x1408.Idx) :
    k0_pay2 x0 x1 y = x0 (ix4 (n0 := 1) (n1 := 1) (n2 := 512) (n3 := 1408) 0 0 (y 1) (y 2)) + x1 y := by
  pointwise [k0_pay2, k0_pay1]

theorem final_2 : (dats k l m ρ 0 c).arrAt (2 : Fin 4) (cfgA (F := Ideal) k l).N = YO k l (m ((c : Thread nD τ).loc main_arg1)) (m ((c : Thread nD τ).loc main_arg2)) := by
  refine (dats k l m ρ 0 c).arrAt_eq_of_covers (2 : Fin 4) _ (covers k l).1 fun t hf y => ?_
  blk_simp
  rw [after_2]
  refine (pay_1 _ _ _).trans ?_
  rw [blk_0, blk_1]
  unfold YO
  have e : (((cfgA (F := Ideal) k l).win (2 : Fin 4)).blk t).view.emb y = y := by
    blk_ext [idx k l t]
  rw [e]
  rfl

theorem final_3 : (dats k l m ρ 0 c).arrAt (3 : Fin 4) (cfgA (F := Ideal) k l).N = YA l (m ((c : Thread nD τ).loc main_arg1)) (m ((c : Thread nD τ).loc main_arg2)) := by
  refine (dats k l m ρ 0 c).arrAt_eq_of_covers (3 : Fin 4) _ (covers k l).2 fun t hf y => ?_
  blk_simp
  rw [after_3]
  refine (pay_2 _ _ _).trans ?_
  rw [blk_0, blk_1]
  unfold YA
  have e : (((cfgA (F := Ideal) k l).win (3 : Fin 4)).blk t).view.emb y = ix3 (n0 := 4) (n1 := 512) (n2 := 1408) ⟨t.val, t.isLt⟩ (y 1) (y 2) := by
    blk_ext [idx k l t]
  rw [e]
  rfl

end

/-- Over the reals the kernel ends with its results at those sums, its arguments as they were, and no counter up. -/
theorem run_kernel : ∀ (k : Fin 4) (l : Fin 2) (m : (ℓ : Loc nD τ sig) → Buf (Elt Ideal) ℓ) (ρ : Dev nD → PrngReg)
    (_ : ∀ c : Dev nD, m ((c : Thread nD τ).loc main_arg0) = (words k l : S2.Idx → BitVec 32)),
    θ_run (defs (F := Ideal)) (onTc (τ := τ) (main (F := Ideal))) ⟨m, fun _ => 0, ρ⟩ (fun r => (∀ c : Dev nD,
      r.2.mem ((c.tc : Thread nD τ).loc main_v0_0) = YO k l (m ((c.tc : Thread nD τ).loc main_arg1)) (m ((c.tc : Thread nD τ).loc main_arg2))
      ∧ r.2.mem ((c.tc : Thread nD τ).loc main_v0_1) = YA l (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := fun k l m ρ hp =>
  (θ_run defs _ _).mono (fun _ h => ⟨fun c => ⟨((h.1 c).1 (2 : Fin 4)).trans (final_2 k l m ρ c), ((h.1 c).1 (3 : Fin 4)).trans (final_3 k l m ρ c),
    ((h.1 c).2 0).trans (hp c).symm, ((h.1 c).1 (0 : Fin 4)).trans ((dats k l m ρ 0 c).arrAt_in (0 : Fin 4) rfl _),
    ((h.1 c).1 (1 : Fin 4)).trans ((dats k l m ρ 0 c).arrAt_in (1 : Fin 4) rfl _)⟩, h.2⟩) (run_main k l m ρ hp)

/-- The program read over the reals is the same program, so the same holds of it. -/
theorem same : (∀ (k : Fin 4) (l : Fin 2) (m : (ℓ : Loc nD τ sig) → Buf (Elt Ideal) ℓ) (ρ : Dev nD → PrngReg)
    (_ : ∀ c : Dev nD, m ((c : Thread nD τ).loc main_arg0) = (words k l : S2.Idx → BitVec 32)),
    θ_run (defs (F := Ideal)) (onTc (τ := τ) (main (F := Ideal))) ⟨m, fun _ => 0, ρ⟩ (fun r => (∀ c : Dev nD,
      r.2.mem ((c.tc : Thread nD τ).loc main_v0_0) = YO k l (m ((c.tc : Thread nD τ).loc main_arg1)) (m ((c.tc : Thread nD τ).loc main_arg2))
      ∧ r.2.mem ((c.tc : Thread nD τ).loc main_v0_1) = YA l (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0))
    = (∀ (k : Fin 4) (l : Fin 2) (m : (ℓ : Loc Cert.AddSelIdeal.nD Cert.AddSelIdeal.τ Cert.AddSelIdeal.sig) → Buf (Elt Ideal) ℓ) (ρ : Dev Cert.AddSelIdeal.nD → PrngReg)
    (_ : ∀ c : Dev Cert.AddSelIdeal.nD, m ((c : Thread Cert.AddSelIdeal.nD Cert.AddSelIdeal.τ).loc Cert.AddSelIdeal.main_arg0) = (words k l : S2.Idx → BitVec 32)),
    θ_run (Cert.AddSelIdeal.defs (F := Ideal)) (onTc (τ := Cert.AddSelIdeal.τ) (Cert.AddSelIdeal.main (F := Ideal))) ⟨m, fun _ => 0, ρ⟩ (fun r => (∀ c : Dev Cert.AddSelIdeal.nD,
      r.2.mem ((c.tc : Thread Cert.AddSelIdeal.nD Cert.AddSelIdeal.τ).loc Cert.AddSelIdeal.main_v0_0) = YO k l (m ((c.tc : Thread Cert.AddSelIdeal.nD Cert.AddSelIdeal.τ).loc Cert.AddSelIdeal.main_arg1)) (m ((c.tc : Thread Cert.AddSelIdeal.nD Cert.AddSelIdeal.τ).loc Cert.AddSelIdeal.main_arg2))
      ∧ r.2.mem ((c.tc : Thread Cert.AddSelIdeal.nD Cert.AddSelIdeal.τ).loc Cert.AddSelIdeal.main_v0_1) = YA l (m ((c.tc : Thread Cert.AddSelIdeal.nD Cert.AddSelIdeal.τ).loc Cert.AddSelIdeal.main_arg1)) (m ((c.tc : Thread Cert.AddSelIdeal.nD Cert.AddSelIdeal.τ).loc Cert.AddSelIdeal.main_arg2))
      ∧ r.2.mem ((c.tc : Thread Cert.AddSelIdeal.nD Cert.AddSelIdeal.τ).loc Cert.AddSelIdeal.main_arg0) = m ((c.tc : Thread Cert.AddSelIdeal.nD Cert.AddSelIdeal.τ).loc Cert.AddSelIdeal.main_arg0)
      ∧ r.2.mem ((c.tc : Thread Cert.AddSelIdeal.nD Cert.AddSelIdeal.τ).loc Cert.AddSelIdeal.main_arg1) = m ((c.tc : Thread Cert.AddSelIdeal.nD Cert.AddSelIdeal.τ).loc Cert.AddSelIdeal.main_arg1)
      ∧ r.2.mem ((c.tc : Thread Cert.AddSelIdeal.nD Cert.AddSelIdeal.τ).loc Cert.AddSelIdeal.main_arg2) = m ((c.tc : Thread Cert.AddSelIdeal.nD Cert.AddSelIdeal.τ).loc Cert.AddSelIdeal.main_arg2)) ∧ r.2.sem = fun _ => 0)) := by
  sl_kernel_rfl

/-- The kernel over the reals ends and leaves its arguments as they were. -/
theorem frame_ideal : Cert.quiescent_AddSelIdeal := fun m ρ h => by
  obtain ⟨k, l, e⟩ := words_of_pre (F := Ideal) _ _ _ (congrFun (h 0) ix0)
  refine (θ_run _ _ _).mono (fun r hr => ⟨fun c => (hr.1 c).2.2, hr.2⟩) (same.mp run_kernel k l m ρ fun c => ?_)
  obtain rfl : c = 0 := Subsingleton.elim _ _
  exact e

/-- The reference ends and leaves its arguments as they were. -/
theorem frame_reference : Cert.quiescent_AddSelRefIdeal := fun m ρ _ =>
  (θ_run Cert.AddSelRefIdeal.defs _ _).mono
    (fun r h => ⟨fun c => (h c).2.2, sem_eq_zero_of_no_sems (by decide) r.2⟩)
    (Cert.AddSelRefIdeal.Value.run (F := Ideal) m ρ)

section
open Cert.AddSelRefIdeal.Read

/-- The reference's four sums. -/
theorem ref_sum (k : Fin 4) (l : Fin 2) (a : S4x2x512x1408.Idx → EReal) (b : S4x512x1408.Idx → EReal) : val_main_v8 (F := Ideal) (words k l) a b = YA l a b := by
  funext i
  fin_cases l <;> pointwise [val_main_v8, val_main_v7, val_main_v6, val_main_v5, val_main_v4, val_main_v3, val_main_v2, val_main_v1, val_main_v0, val_main_c, words, YA] <;> rfl

theorem ref_all (k : Fin 4) (l : Fin 2) (a : S4x2x512x1408.Idx → EReal) (b : S4x512x1408.Idx → EReal) : val_main_v29 (F := Ideal) (words k l) a b = YA l a b :=
  ref_sum k l a b

theorem ref_own (k : Fin 4) (l : Fin 2) (a : S4x2x512x1408.Idx → EReal) (b : S4x512x1408.Idx → EReal) : val_main_v28 (F := Ideal) (words k l) a b = YO k l a b := by
  funext i
  unfold val_main_v28 val_main_v27 val_main_v26 val_main_v25 val_main_v24 val_main_v23 val_main_v22 val_main_v18 val_main_v17 val_main_v13 val_main_v12
  rw [ref_sum]
  fin_cases k <;> pointwise [val_main_v21, val_main_v20, val_main_v19, val_main_v16, val_main_v15, val_main_v14, val_main_v11, val_main_v10, val_main_v9, val_main_c_0, val_main_c_1, val_main_c_2, words, YA, YO] <;> rfl

end

section
variable (m : (ℓ : Loc Cert.AddSelIdeal.nD Cert.AddSelIdeal.τ Cert.AddSelIdeal.sig) → Buf (Elt Ideal) ℓ) (ρ : Dev Cert.AddSelIdeal.nD → PrngReg)

/-- The kernel ends with its results at the reference's arrays of its arguments. -/
theorem run (h : Cert.Pre_AddSelIdeal m) : θ_run (Cert.AddSelIdeal.defs (F := Ideal)) (onTc (τ := Cert.AddSelIdeal.τ) (Cert.AddSelIdeal.main (F := Ideal))) ⟨m, fun _ => 0, ρ⟩ (fun r => ∀ c : Dev Cert.AddSelIdeal.nD,
      r.2.mem ((c.tc : Thread Cert.AddSelIdeal.nD Cert.AddSelIdeal.τ).loc Cert.AddSelIdeal.main_v0_0) = Cert.AddSelRefIdeal.Read.val_main_v28 (F := Ideal) (m ((c.tc : Thread Cert.AddSelIdeal.nD Cert.AddSelIdeal.τ).loc Cert.AddSelIdeal.main_arg0)) (m ((c.tc : Thread Cert.AddSelIdeal.nD Cert.AddSelIdeal.τ).loc Cert.AddSelIdeal.main_arg1)) (m ((c.tc : Thread Cert.AddSelIdeal.nD Cert.AddSelIdeal.τ).loc Cert.AddSelIdeal.main_arg2))
      ∧ r.2.mem ((c.tc : Thread Cert.AddSelIdeal.nD Cert.AddSelIdeal.τ).loc Cert.AddSelIdeal.main_v0_1) = Cert.AddSelRefIdeal.Read.val_main_v29 (F := Ideal) (m ((c.tc : Thread Cert.AddSelIdeal.nD Cert.AddSelIdeal.τ).loc Cert.AddSelIdeal.main_arg0)) (m ((c.tc : Thread Cert.AddSelIdeal.nD Cert.AddSelIdeal.τ).loc Cert.AddSelIdeal.main_arg1)) (m ((c.tc : Thread Cert.AddSelIdeal.nD Cert.AddSelIdeal.τ).loc Cert.AddSelIdeal.main_arg2))
      ∧ r.2.mem ((c.tc : Thread Cert.AddSelIdeal.nD Cert.AddSelIdeal.τ).loc Cert.AddSelIdeal.main_arg0) = m ((c.tc : Thread Cert.AddSelIdeal.nD Cert.AddSelIdeal.τ).loc Cert.AddSelIdeal.main_arg0)
      ∧ r.2.mem ((c.tc : Thread Cert.AddSelIdeal.nD Cert.AddSelIdeal.τ).loc Cert.AddSelIdeal.main_arg1) = m ((c.tc : Thread Cert.AddSelIdeal.nD Cert.AddSelIdeal.τ).loc Cert.AddSelIdeal.main_arg1)
      ∧ r.2.mem ((c.tc : Thread Cert.AddSelIdeal.nD Cert.AddSelIdeal.τ).loc Cert.AddSelIdeal.main_arg2) = m ((c.tc : Thread Cert.AddSelIdeal.nD Cert.AddSelIdeal.τ).loc Cert.AddSelIdeal.main_arg2)) := by
  obtain ⟨k, l, e⟩ := words_of_pre (F := Ideal) _ _ _ (congrFun (h 0) ix0)
  have e' : ∀ c : Dev Cert.AddSelIdeal.nD, m ((c.tc : Thread Cert.AddSelIdeal.nD Cert.AddSelIdeal.τ).loc Cert.AddSelIdeal.main_arg0) = (words k l : S2.Idx → BitVec 32) := fun c => by
    obtain rfl : c = 0 := Subsingleton.elim _ _
    exact e
  refine (θ_run _ _ _).mono (fun r hr c => ⟨(hr.1 c).1.trans ?_, (hr.1 c).2.1.trans ?_, (hr.1 c).2.2⟩) (same.mp run_kernel k l m ρ e')
  · rw [e' c]
    exact (ref_own k l _ _).symm
  · rw [e' c]
    exact (ref_all k l _ _).symm

end

/-- The kernel and the reference compute the same arrays over the reals. -/
theorem algebraic : Cert.algebraic_AddSelIdeal_AddSelRefIdeal := by
  pair_intro
  · run_from run m g hpre
  · run_from Cert.AddSelRefIdeal.Value.run m' g'
    · exact Cert.AddSelRefIdeal.Read.val_main_v28_eq (F := Ideal) _ _ _
    · exact Cert.AddSelRefIdeal.Read.val_main_v29_eq (F := Ideal) _ _ _

end Cert.Proof.AddSel

end
-- ==== Proof.Pack.lean ====
/- The gradients of a layer's weights, packed into rows for each chip and unpacked again: each array comes out cut over the chips as the reference cuts it. -/
module

public import proofs.«01_k».proof.Defs
public import proofs.«01_k».proof.Proof.Gen.Pack.Run
public import proofs.«01_k».proof.Proof.Gen.PackIdeal.Read
public import proofs.«01_k».proof.Proof.Gen.PackRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Pack

/-- The packing ends and leaves its arguments as they were. -/
theorem frame_kernel : Cert.quiescent_Pack := fun m ρ _ =>
  (θ_run Cert.Pack.defs _ _).mono
    (fun r h => ⟨fun c => (h c).2.2.2.2.2, sem_eq_zero_of_no_sems (by decide) r.2⟩)
    (Cert.Pack.Value.run m ρ)

/-- The packing over the reals ends and leaves its arguments as they were. -/
theorem frame_ideal : Cert.quiescent_PackIdeal := fun m ρ _ =>
  (θ_run Cert.PackIdeal.defs _ _).mono
    (fun r h => ⟨fun c => (h c).2.2.2.2.2, sem_eq_zero_of_no_sems (by decide) r.2⟩)
    (Cert.PackIdeal.Value.run m ρ)

/-- The reference ends and leaves its arguments as they were. -/
theorem frame_reference : Cert.quiescent_PackRefIdeal := fun m ρ _ =>
  (θ_run Cert.PackRefIdeal.defs _ _).mono
    (fun r h => ⟨fun c => (h c).2.2.2.2.2, sem_eq_zero_of_no_sems (by decide) r.2⟩)
    (Cert.PackRefIdeal.Value.run m ρ)

/-- The chips' parts of argument 0. -/
def Y0 (x : Cert.PackRefIdeal.S1024x1024.Idx → EReal) : Cert.PackRefIdeal.S4x256x1024.Idx → EReal := fun y => x (ix2 ⟨(y 0 : ℕ) * 256 + y 1, by have h0 : (y 0).val < 4 := (y 0).isLt; have h1 : (y 1).val < 256 := (y 1).isLt; show _ < 1024; omega⟩ (y 2))

/-- The chips' parts of argument 1. -/
def Y1 (x : Cert.PackRefIdeal.S2816x1024.Idx → EReal) : Cert.PackRefIdeal.S4x704x1024.Idx → EReal := fun y => x (ix2 ⟨(y 0 : ℕ) * 704 + y 1, by have h0 : (y 0).val < 4 := (y 0).isLt; have h1 : (y 1).val < 704 := (y 1).isLt; show _ < 2816; omega⟩ (y 2))

/-- The chips' parts of argument 2. -/
def Y2 (x : Cert.PackRefIdeal.S1024x1024.Idx → EReal) : Cert.PackRefIdeal.S4x256x1024.Idx → EReal := fun y => x (ix2 ⟨(y 0 : ℕ) * 256 + y 1, by have h0 : (y 0).val < 4 := (y 0).isLt; have h1 : (y 1).val < 256 := (y 1).isLt; show _ < 1024; omega⟩ (y 2))

/-- The chips' parts of argument 3. -/
def Y3 (x : Cert.PackRefIdeal.S256x1024.Idx → EReal) : Cert.PackRefIdeal.S4x256x256.Idx → EReal := fun y => x (ix2 (y 1) ⟨(y 0 : ℕ) * 256 + y 2, by have h0 : (y 0).val < 4 := (y 0).isLt; have h1 : (y 2).val < 256 := (y 2).isLt; show _ < 1024; omega⟩)

/-- The chips' parts of argument 4. -/
def Y4 (x : Cert.PackRefIdeal.S1024x2048.Idx → EReal) : Cert.PackRefIdeal.S4x1024x512.Idx → EReal := fun y => x (ix2 (y 1) ⟨(y 0 : ℕ) * 512 + y 2, by have h0 : (y 0).val < 4 := (y 0).isLt; have h1 : (y 2).val < 512 := (y 2).isLt; show _ < 2048; omega⟩)

section
open Cert.PackIdeal Cert.PackIdeal.Gen Cert.PackIdeal.Read

theorem packed0 (x0 : S1024x1024.Idx → EReal) (x1 : S2816x1024.Idx → EReal) (x2 : S1024x1024.Idx → EReal) (x3 : S256x1024.Idx → EReal) (x4 : S1024x2048.Idx → EReal) : val_main_v14 (F := Ideal) x0 x1 x2 x3 x4 = Y0 x0 := by
  funext i
  idx_vars i
  pointwise [val_main_v12, val_main_v13, val_main_v14, val_main_v0, val_main_v11, Y0]

theorem packed1 (x0 : S1024x1024.Idx → EReal) (x1 : S2816x1024.Idx → EReal) (x2 : S1024x1024.Idx → EReal) (x3 : S256x1024.Idx → EReal) (x4 : S1024x2048.Idx → EReal) : val_main_v17 (F := Ideal) x0 x1 x2 x3 x4 = Y1 x1 := by
  funext i
  idx_vars i
  pointwise [val_main_v15, val_main_v16, val_main_v17, val_main_v1, val_main_v11, Y1]

theorem packed2 (x0 : S1024x1024.Idx → EReal) (x1 : S2816x1024.Idx → EReal) (x2 : S1024x1024.Idx → EReal) (x3 : S256x1024.Idx → EReal) (x4 : S1024x2048.Idx → EReal) : val_main_v20 (F := Ideal) x0 x1 x2 x3 x4 = Y2 x2 := by
  funext i
  idx_vars i
  pointwise [val_main_v18, val_main_v19, val_main_v20, val_main_v2, val_main_v11, Y2]
  have h1 := i1.isLt
  rw [dif_neg (by omega), dif_neg (by omega), dif_pos (by omega)]
  exact congrArg (fun r => x2 (ix2 r i2)) (Fin.ext (by dsimp only; omega))

theorem packed3 (x0 : S1024x1024.Idx → EReal) (x1 : S2816x1024.Idx → EReal) (x2 : S1024x1024.Idx → EReal) (x3 : S256x1024.Idx → EReal) (x4 : S1024x2048.Idx → EReal) : val_main_v23 (F := Ideal) x0 x1 x2 x3 x4 = Y3 x3 := by
  funext i
  idx_vars i
  pointwise [val_main_v21, val_main_v22, val_main_v23, val_main_v3, val_main_v4, val_main_v7, val_main_v8, val_main_v11, Y3]
  have h1 := i1.isLt
  have h2 := i2.isLt
  rw [dif_neg (by omega), dif_neg (by omega), dif_neg (by omega), dif_pos (by omega)]

theorem packed4 (x0 : S1024x1024.Idx → EReal) (x1 : S2816x1024.Idx → EReal) (x2 : S1024x1024.Idx → EReal) (x3 : S256x1024.Idx → EReal) (x4 : S1024x2048.Idx → EReal) : val_main_v26 (F := Ideal) x0 x1 x2 x3 x4 = Y4 x4 := by
  funext i
  idx_vars i
  pointwise [val_main_v24, val_main_v25, val_main_v26, val_main_v5, val_main_v6, val_main_v9, val_main_v10, val_main_v11, Y4]
  have h1 := i1.isLt
  have h2 := i2.isLt
  rw [dif_neg (by omega), dif_neg (by omega), dif_neg (by omega), dif_neg (by omega)]

end

section
open Cert.PackRefIdeal Cert.PackRefIdeal.Gen Cert.PackRefIdeal.Read

theorem ref0 (x : S1024x1024.Idx → EReal) : val_main_v8 (F := Ideal) x = Y0 x := by
  funext i
  idx_vars i
  pointwise [val_main_v0, val_main_v1, val_main_v2, val_main_v3, val_main_v4, val_main_v5, val_main_v6, val_main_v7, val_main_v8, Y0]
  have h0 := i0.isLt
  split_ifs
  all_goals exact congrArg (fun r => x (ix2 r i2)) (Fin.ext (by dsimp only; omega))

theorem ref1 (x : S2816x1024.Idx → EReal) : val_main_v17 (F := Ideal) x = Y1 x := by
  funext i
  idx_vars i
  pointwise [val_main_v9, val_main_v10, val_main_v11, val_main_v12, val_main_v13, val_main_v14, val_main_v15, val_main_v16, val_main_v17, Y1]
  have h0 := i0.isLt
  split_ifs
  all_goals exact congrArg (fun r => x (ix2 r i2)) (Fin.ext (by dsimp only; omega))

theorem ref2 (x : S1024x1024.Idx → EReal) : val_main_v26 (F := Ideal) x = Y2 x := by
  funext i
  idx_vars i
  pointwise [val_main_v18, val_main_v19, val_main_v20, val_main_v21, val_main_v22, val_main_v23, val_main_v24, val_main_v25, val_main_v26, Y2]
  have h0 := i0.isLt
  split_ifs
  all_goals exact congrArg (fun r => x (ix2 r i2)) (Fin.ext (by dsimp only; omega))

theorem ref3 (x : S256x1024.Idx → EReal) : val_main_v35 (F := Ideal) x = Y3 x := by
  funext i
  idx_vars i
  pointwise [val_main_v27, val_main_v28, val_main_v29, val_main_v30, val_main_v31, val_main_v32, val_main_v33, val_main_v34, val_main_v35, Y3]
  have h0 := i0.isLt
  split_ifs
  all_goals exact congrArg (fun r => x (ix2 i1 r)) (Fin.ext (by dsimp only; omega))

theorem ref4 (x : S1024x2048.Idx → EReal) : val_main_v44 (F := Ideal) x = Y4 x := by
  funext i
  idx_vars i
  pointwise [val_main_v36, val_main_v37, val_main_v38, val_main_v39, val_main_v40, val_main_v41, val_main_v42, val_main_v43, val_main_v44, Y4]
  have h0 := i0.isLt
  split_ifs
  all_goals exact congrArg (fun r => x (ix2 i1 r)) (Fin.ext (by dsimp only; omega))

end

/-- What is packed and unpacked is what the reference cuts out. -/
theorem algebraic : Cert.algebraic_PackIdeal_PackRefIdeal := by
  pair_intro
  · run_from Cert.PackIdeal.Value.run m g
  · run_from Cert.PackRefIdeal.Value.run m' g'
    · refine (Cert.PackRefIdeal.Read.val_main_v8_eq (F := Ideal) _).trans ((ref0 _).trans ?_)
      refine Eq.trans ?_ (Cert.PackIdeal.Read.val_main_v14_eq (F := Ideal) (m (c.tc.loc Cert.PackIdeal.main_arg0)) (m (c.tc.loc Cert.PackIdeal.main_arg1)) (m (c.tc.loc Cert.PackIdeal.main_arg2)) (m (c.tc.loc Cert.PackIdeal.main_arg3)) (m (c.tc.loc Cert.PackIdeal.main_arg4))).symm
      rw [packed0]
    · refine (Cert.PackRefIdeal.Read.val_main_v17_eq (F := Ideal) _).trans ((ref1 _).trans ?_)
      refine Eq.trans ?_ (Cert.PackIdeal.Read.val_main_v17_eq (F := Ideal) (m (c.tc.loc Cert.PackIdeal.main_arg0)) (m (c.tc.loc Cert.PackIdeal.main_arg1)) (m (c.tc.loc Cert.PackIdeal.main_arg2)) (m (c.tc.loc Cert.PackIdeal.main_arg3)) (m (c.tc.loc Cert.PackIdeal.main_arg4))).symm
      rw [packed1, (hagree c).2.1]
    · refine (Cert.PackRefIdeal.Read.val_main_v26_eq (F := Ideal) _).trans ((ref2 _).trans ?_)
      refine Eq.trans ?_ (Cert.PackIdeal.Read.val_main_v20_eq (F := Ideal) (m (c.tc.loc Cert.PackIdeal.main_arg0)) (m (c.tc.loc Cert.PackIdeal.main_arg1)) (m (c.tc.loc Cert.PackIdeal.main_arg2)) (m (c.tc.loc Cert.PackIdeal.main_arg3)) (m (c.tc.loc Cert.PackIdeal.main_arg4))).symm
      rw [packed2, (hagree c).2.2.1]
    · refine (Cert.PackRefIdeal.Read.val_main_v35_eq (F := Ideal) _).trans ((ref3 _).trans ?_)
      refine Eq.trans ?_ (Cert.PackIdeal.Read.val_main_v23_eq (F := Ideal) (m (c.tc.loc Cert.PackIdeal.main_arg0)) (m (c.tc.loc Cert.PackIdeal.main_arg1)) (m (c.tc.loc Cert.PackIdeal.main_arg2)) (m (c.tc.loc Cert.PackIdeal.main_arg3)) (m (c.tc.loc Cert.PackIdeal.main_arg4))).symm
      rw [packed3, (hagree c).2.2.2.1]
    · refine (Cert.PackRefIdeal.Read.val_main_v44_eq (F := Ideal) _).trans ((ref4 _).trans ?_)
      refine Eq.trans ?_ (Cert.PackIdeal.Read.val_main_v26_eq (F := Ideal) (m (c.tc.loc Cert.PackIdeal.main_arg0)) (m (c.tc.loc Cert.PackIdeal.main_arg1)) (m (c.tc.loc Cert.PackIdeal.main_arg2)) (m (c.tc.loc Cert.PackIdeal.main_arg3)) (m (c.tc.loc Cert.PackIdeal.main_arg4))).symm
      rw [packed4, (hagree c).2.2.2.2]

end Cert.Proof.Pack

end
-- ==== Proof.lean ====
/- The certificate: every claim of the statement, from the module that proves it. -/
module

public import proofs.«01_k».proof.Defs
public import proofs.«01_k».proof.Proof.Ple
public import proofs.«01_k».proof.Proof.Sb.Claim
public import proofs.«01_k».proof.Proof.SbF.Claim
public import proofs.«01_k».proof.Proof.Rms
public import proofs.«01_k».proof.Proof.HeadK
public import proofs.«01_k».proof.Proof.HeadQ
public import proofs.«01_k».proof.Proof.Gates
public import proofs.«01_k».proof.Proof.Conv
public import proofs.«01_k».proof.Proof.Ffn
public import proofs.«01_k».proof.Proof.Loss
public import proofs.«01_k».proof.Proof.GateNorm
public import proofs.«01_k».proof.Proof.AbDx
public import proofs.«01_k».proof.Proof.RmsFwd
public import proofs.«01_k».proof.Proof.HeadKFwd
public import proofs.«01_k».proof.Proof.HeadQFwd
public import proofs.«01_k».proof.Proof.GateNormFwd
public import proofs.«01_k».proof.Proof.GatesFwd
public import proofs.«01_k».proof.Proof.ConvFwd
public import proofs.«01_k».proof.Proof.FfnFwd
public import proofs.«01_k».proof.Proof.OutRms
public import proofs.«01_k».proof.Proof.FfnOutRms
public import proofs.«01_k».proof.Proof.PleGateRms
public import proofs.«01_k».proof.Proof.PleGate
public import proofs.«01_k».proof.Proof.GdnFwd
public import proofs.«01_k».proof.Proof.MmDw
public import proofs.«01_k».proof.Proof.AdamW
public import proofs.«01_k».proof.Proof.SumDv
public import proofs.«01_k».proof.Proof.ChipSum
public import proofs.«01_k».proof.Proof.AddSel
public import proofs.«01_k».proof.Proof.Pack
public import proofs.«01_k».proof.Proof.Gen.PleBwd
public import proofs.«01_k».proof.Proof.Gen.PleBwdIdeal
public import proofs.«01_k».proof.Proof.Gen.PleRefIdeal
public import proofs.«01_k».proof.Proof.Gen.SbBwd
public import proofs.«01_k».proof.Proof.Gen.SbBwdIdeal
public import proofs.«01_k».proof.Proof.Gen.SbRefIdeal
public import proofs.«01_k».proof.Proof.Gen.SbFwd
public import proofs.«01_k».proof.Proof.Gen.SbFwdIdeal
public import proofs.«01_k».proof.Proof.Gen.SbFwdRefIdeal
public import proofs.«01_k».proof.Proof.Gen.RmsBwd
public import proofs.«01_k».proof.Proof.Gen.RmsBwdIdeal
public import proofs.«01_k».proof.Proof.Gen.RmsRefIdeal
public import proofs.«01_k».proof.Proof.Gen.HeadK
public import proofs.«01_k».proof.Proof.Gen.HeadKIdeal
public import proofs.«01_k».proof.Proof.Gen.HeadKRefIdeal
public import proofs.«01_k».proof.Proof.Gen.HeadQ
public import proofs.«01_k».proof.Proof.Gen.HeadQIdeal
public import proofs.«01_k».proof.Proof.Gen.HeadQRefIdeal
public import proofs.«01_k».proof.Proof.Gen.GatesBwd
public import proofs.«01_k».proof.Proof.Gen.GatesBwdIdeal
public import proofs.«01_k».proof.Proof.Gen.GatesRefIdeal
public import proofs.«01_k».proof.Proof.Gen.ConvBwd
public import proofs.«01_k».proof.Proof.Gen.ConvBwdIdeal
public import proofs.«01_k».proof.Proof.Gen.ConvRefIdeal
public import proofs.«01_k».proof.Proof.Gen.FfnBwd
public import proofs.«01_k».proof.Proof.Gen.FfnBwdIdeal
public import proofs.«01_k».proof.Proof.Gen.FfnRefIdeal
public import proofs.«01_k».proof.Proof.Gen.LossHead
public import proofs.«01_k».proof.Proof.Gen.LossHeadIdeal
public import proofs.«01_k».proof.Proof.Gen.LossRefIdeal
public import proofs.«01_k».proof.Proof.Gen.GateNorm
public import proofs.«01_k».proof.Proof.Gen.GateNormIdeal
public import proofs.«01_k».proof.Proof.Gen.GateNormRefIdeal
public import proofs.«01_k».proof.Proof.Gen.AbDx
public import proofs.«01_k».proof.Proof.Gen.AbDxIdeal
public import proofs.«01_k».proof.Proof.Gen.AbDxRefIdeal
public import proofs.«01_k».proof.Proof.Gen.RmsFwd
public import proofs.«01_k».proof.Proof.Gen.RmsFwdIdeal
public import proofs.«01_k».proof.Proof.Gen.RmsFwdRefIdeal
public import proofs.«01_k».proof.Proof.Gen.HeadKFwd
public import proofs.«01_k».proof.Proof.Gen.HeadKFwdIdeal
public import proofs.«01_k».proof.Proof.Gen.HeadKFwdRefIdeal
public import proofs.«01_k».proof.Proof.Gen.HeadQFwd
public import proofs.«01_k».proof.Proof.Gen.HeadQFwdIdeal
public import proofs.«01_k».proof.Proof.Gen.HeadQFwdRefIdeal
public import proofs.«01_k».proof.Proof.Gen.GateNormFwd
public import proofs.«01_k».proof.Proof.Gen.GateNormFwdIdeal
public import proofs.«01_k».proof.Proof.Gen.GateNormFwdRefIdeal
public import proofs.«01_k».proof.Proof.Gen.GatesFwd
public import proofs.«01_k».proof.Proof.Gen.GatesFwdIdeal
public import proofs.«01_k».proof.Proof.Gen.GatesFwdRefIdeal
public import proofs.«01_k».proof.Proof.Gen.ConvFwd
public import proofs.«01_k».proof.Proof.Gen.ConvFwdIdeal
public import proofs.«01_k».proof.Proof.Gen.ConvFwdRefIdeal
public import proofs.«01_k».proof.Proof.Gen.FfnFwd
public import proofs.«01_k».proof.Proof.Gen.FfnFwdIdeal
public import proofs.«01_k».proof.Proof.Gen.FfnFwdRefIdeal
public import proofs.«01_k».proof.Proof.Gen.OutRms
public import proofs.«01_k».proof.Proof.Gen.OutRmsIdeal
public import proofs.«01_k».proof.Proof.Gen.OutRmsRefIdeal
public import proofs.«01_k».proof.Proof.Gen.FfnOutRms
public import proofs.«01_k».proof.Proof.Gen.FfnOutRmsIdeal
public import proofs.«01_k».proof.Proof.Gen.FfnOutRmsRefIdeal
public import proofs.«01_k».proof.Proof.Gen.PleGateRms
public import proofs.«01_k».proof.Proof.Gen.PleGateRmsIdeal
public import proofs.«01_k».proof.Proof.Gen.PleGateRmsRefIdeal
public import proofs.«01_k».proof.Proof.Gen.PleGate
public import proofs.«01_k».proof.Proof.Gen.PleGateIdeal
public import proofs.«01_k».proof.Proof.Gen.PleGateRefIdeal
public import proofs.«01_k».proof.Proof.Gen.GdnFwd
public import proofs.«01_k».proof.Proof.Gen.GdnFwdIdeal
public import proofs.«01_k».proof.Proof.Gen.MmDw
public import proofs.«01_k».proof.Proof.Gen.MmDwIdeal
public import proofs.«01_k».proof.Proof.Gen.MmDwRefIdeal
public import proofs.«01_k».proof.Proof.Gen.AdamW
public import proofs.«01_k».proof.Proof.Gen.AdamWIdeal
public import proofs.«01_k».proof.Proof.Gen.AdamWRefIdeal
public import proofs.«01_k».proof.Proof.Gen.SumDv
public import proofs.«01_k».proof.Proof.Gen.SumDvIdeal
public import proofs.«01_k».proof.Proof.Gen.SumDvRefIdeal
public import proofs.«01_k».proof.Proof.Gen.ChipSum
public import proofs.«01_k».proof.Proof.Gen.ChipSumIdeal
public import proofs.«01_k».proof.Proof.Gen.ChipSumRefIdeal
public import proofs.«01_k».proof.Proof.Gen.AddSel
public import proofs.«01_k».proof.Proof.Gen.AddSelIdeal
public import proofs.«01_k».proof.Proof.Gen.AddSelRefIdeal
public import proofs.«01_k».proof.Proof.Gen.Pack
public import proofs.«01_k».proof.Proof.Gen.PackIdeal
public import proofs.«01_k».proof.Proof.Gen.PackRefIdeal
public import proofs.«01_k».proof.Proof.Gen.Pre_finite_sb
public import proofs.«01_k».proof.Proof.Gen.Pre_finite_sf
public import proofs.«01_k».proof.Proof.Gen.Pre_defined_gates
public import proofs.«01_k».proof.Proof.Gen.Pre_finite_conv
public import proofs.«01_k».proof.Proof.Gen.Pre_finite_ffn
public import proofs.«01_k».proof.Proof.Gen.Pre_on_mesh_cs
public import proofs.«01_k».proof.Proof.Gen.Pre_on_mesh
public import Idealize.ShloMosaic.Adequacy
public import Idealize.ShloMosaic.Init

@[expose] public section

noncomputable section

namespace Cert.Proof

open Idealize.ShloMosaic Idealize.SL.Sem Cert.PleBwd

theorem claim : Cert.Claim := ⟨
  Cert.PleBwd.Gen.facts, Cert.PleBwdIdeal.Gen.facts, Cert.PleRefIdeal.Gen.facts, Cert.SbBwd.Gen.facts, Cert.SbBwdIdeal.Gen.facts,
  Cert.SbRefIdeal.Gen.facts, Cert.SbFwd.Gen.facts, Cert.SbFwdIdeal.Gen.facts, Cert.SbFwdRefIdeal.Gen.facts, Cert.RmsBwd.Gen.facts,
  Cert.RmsBwdIdeal.Gen.facts, Cert.RmsRefIdeal.Gen.facts, Cert.HeadK.Gen.facts, Cert.HeadKIdeal.Gen.facts, Cert.HeadKRefIdeal.Gen.facts,
  Cert.HeadQ.Gen.facts, Cert.HeadQIdeal.Gen.facts, Cert.HeadQRefIdeal.Gen.facts, Cert.GatesBwd.Gen.facts, Cert.GatesBwdIdeal.Gen.facts,
  Cert.GatesRefIdeal.Gen.facts, Cert.ConvBwd.Gen.facts, Cert.ConvBwdIdeal.Gen.facts, Cert.ConvRefIdeal.Gen.facts, Cert.FfnBwd.Gen.facts,
  Cert.FfnBwdIdeal.Gen.facts, Cert.FfnRefIdeal.Gen.facts, Cert.LossHead.Gen.facts, Cert.LossHeadIdeal.Gen.facts, Cert.LossRefIdeal.Gen.facts,
  Cert.GateNorm.Gen.facts, Cert.GateNormIdeal.Gen.facts, Cert.GateNormRefIdeal.Gen.facts, Cert.AbDx.Gen.facts, Cert.AbDxIdeal.Gen.facts,
  Cert.AbDxRefIdeal.Gen.facts, Cert.RmsFwd.Gen.facts, Cert.RmsFwdIdeal.Gen.facts, Cert.RmsFwdRefIdeal.Gen.facts, Cert.HeadKFwd.Gen.facts,
  Cert.HeadKFwdIdeal.Gen.facts, Cert.HeadKFwdRefIdeal.Gen.facts, Cert.HeadQFwd.Gen.facts, Cert.HeadQFwdIdeal.Gen.facts,
  Cert.HeadQFwdRefIdeal.Gen.facts, Cert.GateNormFwd.Gen.facts, Cert.GateNormFwdIdeal.Gen.facts, Cert.GateNormFwdRefIdeal.Gen.facts,
  Cert.GatesFwd.Gen.facts, Cert.GatesFwdIdeal.Gen.facts, Cert.GatesFwdRefIdeal.Gen.facts, Cert.ConvFwd.Gen.facts, Cert.ConvFwdIdeal.Gen.facts,
  Cert.ConvFwdRefIdeal.Gen.facts, Cert.FfnFwd.Gen.facts, Cert.FfnFwdIdeal.Gen.facts, Cert.FfnFwdRefIdeal.Gen.facts, Cert.OutRms.Gen.facts,
  Cert.OutRmsIdeal.Gen.facts, Cert.OutRmsRefIdeal.Gen.facts, Cert.FfnOutRms.Gen.facts, Cert.FfnOutRmsIdeal.Gen.facts, Cert.FfnOutRmsRefIdeal.Gen.facts,
  Cert.PleGateRms.Gen.facts, Cert.PleGateRmsIdeal.Gen.facts, Cert.PleGateRmsRefIdeal.Gen.facts, Cert.PleGate.Gen.facts, Cert.PleGateIdeal.Gen.facts,
  Cert.PleGateRefIdeal.Gen.facts, Cert.GdnFwd.Gen.facts, Cert.GdnFwdIdeal.Gen.facts, Cert.MmDw.Gen.facts, Cert.MmDwIdeal.Gen.facts,
  Cert.MmDwRefIdeal.Gen.facts, Cert.AdamW.Gen.facts, Cert.AdamWIdeal.Gen.facts, Cert.AdamWRefIdeal.Gen.facts, Cert.SumDv.Gen.facts,
  Cert.SumDvIdeal.Gen.facts, Cert.SumDvRefIdeal.Gen.facts, Cert.ChipSum.Gen.facts, Cert.ChipSumIdeal.Gen.facts, Cert.ChipSumRefIdeal.Gen.facts,
  Cert.AddSel.Gen.facts, Cert.AddSelIdeal.Gen.facts, Cert.AddSelRefIdeal.Gen.facts, Cert.Pack.Gen.facts, Cert.PackIdeal.Gen.facts,
  Cert.PackRefIdeal.Gen.facts, Cert.Pre_finite_sb.Gen.facts, Cert.Pre_finite_sf.Gen.facts, Cert.Pre_defined_gates.Gen.facts,
  Cert.Pre_finite_conv.Gen.facts, Cert.Pre_finite_ffn.Gen.facts, Cert.Pre_on_mesh_cs.Gen.facts, Cert.Pre_on_mesh.Gen.facts, Ple.frame_kernel,
  Ple.frame_ideal, Ple.frame_reference, Sb.frame_kernel, Sb.frame_ideal, fun m ρ _ => Sb.frame_ideal m ρ trivial, Sb.frame_reference,
  fun m ρ _ => Sb.frame_reference m ρ trivial, SbF.frame_kernel, SbF.frame_ideal, fun m ρ _ => SbF.frame_ideal m ρ trivial, SbF.frame_reference,
  fun m ρ _ => SbF.frame_reference m ρ trivial, Rms.frame_kernel, Rms.frame_ideal, Rms.frame_reference, HeadK.frame_kernel, HeadK.frame_ideal,
  HeadK.frame_reference, HeadQ.frame_kernel, HeadQ.frame_ideal, HeadQ.frame_reference, Gates.frame_kernel, Gates.frame_ideal,
  fun m ρ _ => Gates.frame_ideal m ρ trivial, Gates.frame_reference, fun m ρ _ => Gates.frame_reference m ρ trivial, Conv.frame_kernel,
  Conv.frame_ideal, fun m ρ _ => Conv.frame_ideal m ρ trivial, Conv.frame_reference, fun m ρ _ => Conv.frame_reference m ρ trivial, Ffn.frame_kernel,
  Ffn.frame_ideal, fun m ρ _ => Ffn.frame_ideal m ρ trivial, Ffn.frame_reference, fun m ρ _ => Ffn.frame_reference m ρ trivial, Loss.frame_kernel,
  Loss.frame_ideal, Loss.frame_reference, GateNorm.frame_kernel, GateNorm.frame_ideal, GateNorm.frame_reference, AbDx.frame_kernel, AbDx.frame_ideal,
  AbDx.frame_reference, RmsFwd.frame_kernel, RmsFwd.frame_ideal, RmsFwd.frame_reference, HeadKFwd.frame_kernel, HeadKFwd.frame_ideal,
  HeadKFwd.frame_reference, HeadQFwd.frame_kernel, HeadQFwd.frame_ideal, HeadQFwd.frame_reference, GateNormFwd.frame_kernel, GateNormFwd.frame_ideal,
  GateNormFwd.frame_reference, GatesFwd.frame_kernel, GatesFwd.frame_ideal, GatesFwd.frame_reference, ConvFwd.frame_kernel, ConvFwd.frame_ideal,
  ConvFwd.frame_reference, FfnFwd.frame_kernel, FfnFwd.frame_ideal, FfnFwd.frame_reference, OutRms.frame_kernel, OutRms.frame_ideal,
  OutRms.frame_reference, FfnOutRms.frame_kernel, FfnOutRms.frame_ideal, FfnOutRms.frame_reference, PleGateRms.frame_kernel, PleGateRms.frame_ideal,
  PleGateRms.frame_reference, PleGate.frame_kernel, PleGate.frame_ideal, PleGate.frame_reference, GdnFwd.frame_kernel, GdnFwd.frame_ideal,
  MmDw.frame_kernel, MmDw.frame_ideal, MmDw.frame_reference, AdamW.frame_kernel, AdamW.frame_ideal, AdamW.frame_reference, SumDv.frame_kernel,
  SumDv.frame_ideal, SumDv.frame_reference, ChipSum.frame_kernel, ChipSum.frame_ideal, ChipSum.frame_reference, AddSel.frame_kernel,
  AddSel.frame_ideal, AddSel.frame_reference, Pack.frame_kernel, Pack.frame_ideal, Pack.frame_reference, trivial, Ple.algebraic, Sb.preserves,
  Sb.algebraic, SbF.preserves, SbF.algebraic, trivial, Rms.algebraic, trivial, HeadK.algebraic, trivial, HeadQ.algebraic, trivial, Gates.algebraic,
  trivial, Conv.algebraic, trivial, Ffn.algebraic, trivial, Loss.algebraic, trivial, GateNorm.algebraic, trivial, AbDx.algebraic, trivial,
  RmsFwd.algebraic, trivial, HeadKFwd.algebraic, trivial, HeadQFwd.algebraic, trivial, GateNormFwd.algebraic, trivial, GatesFwd.algebraic, trivial,
  ConvFwd.algebraic, trivial, FfnFwd.algebraic, trivial, OutRms.algebraic, trivial, FfnOutRms.algebraic, trivial, PleGateRms.algebraic, trivial,
  PleGate.algebraic, trivial, trivial, MmDw.algebraic, trivial, AdamW.algebraic, trivial, SumDv.algebraic, trivial, ChipSum.algebraic, trivial,
  AddSel.algebraic, trivial, Pack.algebraic⟩

end Cert.Proof

end
